-- ==== Defs.lean ====
def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_rms [hPre_finite_rms : Cert.Pre_finite_rms.Facts] (m : (ℓ : Loc Cert.RmsIdeal.nD Cert.RmsIdeal.τ Cert.RmsIdeal.sig) → Buf (Elt Ideal) ℓ) : Prop :=
  ∀ c : Dev Cert.RmsIdeal.nD,
    (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2))) = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_mixer [hPre_finite_mixer : Cert.Pre_finite_mixer.Facts] (m : (ℓ : Loc Cert.MixerIdeal.nD Cert.MixerIdeal.τ Cert.MixerIdeal.sig) → Buf (Elt Ideal) ℓ) : Prop :=
  ∀ c : Dev Cert.MixerIdeal.nD,
    (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_mixer [hPre_finite_mixer : Cert.Pre_finite_mixer.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_xattn [hPre_finite_xattn : Cert.Pre_finite_xattn.Facts] (m : (ℓ : Loc Cert.XattnIdeal.nD Cert.XattnIdeal.τ Cert.XattnIdeal.sig) → Buf (Elt Ideal) ℓ) : Prop :=
  ∀ c : Dev Cert.XattnIdeal.nD,
    (Cert.Pre_finite_xattn.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite_xattn [hPre_finite_xattn : Cert.Pre_finite_xattn.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite_xattn.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_UpGate (m : (ℓ : Loc Cert.UpGate.nD Cert.UpGate.τ Cert.UpGate.sig) → Buf (Elt Bits) ℓ) : Prop :=
  True

def Pre_UpGateIdeal (m : (ℓ : Loc Cert.UpGateIdeal.nD Cert.UpGateIdeal.τ Cert.UpGateIdeal.sig) → Buf (Elt Ideal) ℓ) : Prop :=
  True

def Pre_UpGateRefIdeal (m : (ℓ : Loc Cert.UpGateRefIdeal.nD Cert.UpGateRefIdeal.τ Cert.UpGateRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))) = (fun _ => 1#1)

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_GUp (m : (ℓ : Loc Cert.GUp.nD Cert.GUp.τ Cert.GUp.sig) → Buf (Elt Bits) ℓ) : Prop :=
  True

def Pre_GUpIdeal (m : (ℓ : Loc Cert.GUpIdeal.nD Cert.GUpIdeal.τ Cert.GUpIdeal.sig) → Buf (Elt Ideal) ℓ) : Prop :=
  True

def Pre_GUpRefIdeal (m : (ℓ : Loc Cert.GUpRefIdeal.nD Cert.GUpRefIdeal.τ Cert.GUpRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Cols (m : (ℓ : Loc Cert.Cols.nD Cert.Cols.τ Cert.Cols.sig) → Buf (Elt Bits) ℓ) : Prop :=
  True

def Pre_ColsIdeal (m : (ℓ : Loc Cert.ColsIdeal.nD Cert.ColsIdeal.τ Cert.ColsIdeal.sig) → Buf (Elt Ideal) ℓ) : Prop :=
  True

def Pre_ColsRefIdeal (m : (ℓ : Loc Cert.ColsRefIdeal.nD Cert.ColsRefIdeal.τ Cert.ColsRefIdeal.sig) → Buf (Elt Ideal) ℓ) : Prop :=
  True

def Pre_Blocks (m : (ℓ : Loc Cert.Blocks.nD Cert.Blocks.τ Cert.Blocks.sig) → Buf (Elt Bits) ℓ) : Prop :=
  True

def Pre_BlocksIdeal (m : (ℓ : Loc Cert.BlocksIdeal.nD Cert.BlocksIdeal.τ Cert.BlocksIdeal.sig) → Buf (Elt Ideal) ℓ) : Prop :=
  True

def Pre_BlocksRefIdeal (m : (ℓ : Loc Cert.BlocksRefIdeal.nD Cert.BlocksRefIdeal.τ Cert.BlocksRefIdeal.sig) → Buf (Elt Ideal) ℓ) : Prop :=
  True

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ r.2.sem = fun _ => 0)

def quiescent_RmsIdeal_pre_finite_rms [hRmsIdeal : Cert.RmsIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_rms m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerIdeal_pre_finite_mixer [hMixerIdeal : Cert.MixerIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_mixer m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_MixerRefIdeal_pre_finite_mixer [hMixerRefIdeal : Cert.MixerRefIdeal.Facts] [hPre_finite_mixer : Cert.Pre_finite_mixer.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_mixer m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnIdeal_pre_finite_xattn [hXattnIdeal : Cert.XattnIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_xattn m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_XattnRefIdeal_pre_finite_xattn [hXattnRefIdeal : Cert.XattnRefIdeal.Facts] [hPre_finite_xattn : Cert.Pre_finite_xattn.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite_xattn m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_UpGate [hUpGate : Cert.UpGate.Facts] : Prop :=
  ∀ (m : (ℓ : Loc Cert.UpGate.nD Cert.UpGate.τ Cert.UpGate.sig) → Buf (Elt Bits) ℓ) (g : Dev Cert.UpGate.nD → PrngReg), Pre_UpGate m →
    θ_run (Cert.UpGate.defs (F := Bits)) (onTc (τ := Cert.UpGate.τ) (Cert.UpGate.main (F := Bits))) ⟨m, fun _ => 0, g⟩ (fun r => (∀ c : Dev Cert.UpGate.nD,
      r.2.mem ((c.tc : Thread Cert.UpGate.nD Cert.UpGate.τ).loc Cert.UpGate.main_arg0) = m ((c.tc : Thread Cert.UpGate.nD Cert.UpGate.τ).loc Cert.UpGate.main_arg0)
      ∧ r.2.mem ((c.tc : Thread Cert.UpGate.nD Cert.UpGate.τ).loc Cert.UpGate.main_arg1) = m ((c.tc : Thread Cert.UpGate.nD Cert.UpGate.τ).loc Cert.UpGate.main_arg1)
      ∧ r.2.mem ((c.tc : Thread Cert.UpGate.nD Cert.UpGate.τ).loc Cert.UpGate.main_arg2) = m ((c.tc : Thread Cert.UpGate.nD Cert.UpGate.τ).loc Cert.UpGate.main_arg2)
      ∧ r.2.mem ((c.tc : Thread Cert.UpGate.nD Cert.UpGate.τ).loc Cert.UpGate.main_arg3) = m ((c.tc : Thread Cert.UpGate.nD Cert.UpGate.τ).loc Cert.UpGate.main_arg3))
      ∧ r.2.sem = fun _ => 0)

def quiescent_UpGateIdeal [hUpGateIdeal : Cert.UpGateIdeal.Facts] : Prop :=
  ∀ (m : (ℓ : Loc Cert.UpGateIdeal.nD Cert.UpGateIdeal.τ Cert.UpGateIdeal.sig) → Buf (Elt Ideal) ℓ) (g : Dev Cert.UpGateIdeal.nD → PrngReg), Pre_UpGateIdeal m →
    θ_run (Cert.UpGateIdeal.defs (F := Ideal)) (onTc (τ := Cert.UpGateIdeal.τ) (Cert.UpGateIdeal.main (F := Ideal))) ⟨m, fun _ => 0, g⟩ (fun r => (∀ c : Dev Cert.UpGateIdeal.nD,
      r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
      ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1)
      ∧ r.2.mem ((c.tc : Thread Cert.UpGateIdeal.nD Cert.UpGateIdeal.τ).loc Cert.UpGateIdeal.main_arg2) = m ((c.tc : Thread Cert.UpGateIdeal.nD Cert.UpGateIdeal.τ).loc Cert.UpGateIdeal.main_arg2)
      ∧ r.2.mem ((c.tc : Thread Cert.UpGateIdeal.nD Cert.UpGateIdeal.τ).loc Cert.UpGateIdeal.main_arg3) = m ((c.tc : Thread Cert.UpGateIdeal.nD Cert.UpGateIdeal.τ).loc Cert.UpGateIdeal.main_arg3))
      ∧ r.2.sem = fun _ => 0)

def quiescent_UpGateRefIdeal [hUpGateRefIdeal : Cert.UpGateRefIdeal.Facts] : Prop :=
  ∀ (m : (ℓ : Loc Cert.UpGateRefIdeal.nD Cert.UpGateRefIdeal.τ Cert.UpGateRefIdeal.sig) → Buf (Elt Ideal) ℓ) (g : Dev Cert.UpGateRefIdeal.nD → PrngReg), Pre_UpGateRefIdeal m →
    θ_run (Cert.UpGateRefIdeal.defs (F := Ideal)) (onTc (τ := Cert.UpGateRefIdeal.τ) (Cert.UpGateRefIdeal.main (F := Ideal))) ⟨m, fun _ => 0, g⟩ (fun r => (∀ c : Dev Cert.UpGateRefIdeal.nD,
      r.2.mem ((c.tc : Thread Cert.UpGateRefIdeal.nD Cert.UpGateRefIdeal.τ).loc Cert.UpGateRefIdeal.main_arg0) = m ((c.tc : Thread Cert.UpGateRefIdeal.nD Cert.UpGateRefIdeal.τ).loc Cert.UpGateRefIdeal.main_arg0)
      ∧ r.2.mem ((c.tc : Thread Cert.UpGateRefIdeal.nD Cert.UpGateRefIdeal.τ).loc Cert.UpGateRefIdeal.main_arg1) = m ((c.tc : Thread Cert.UpGateRefIdeal.nD Cert.UpGateRefIdeal.τ).loc Cert.UpGateRefIdeal.main_arg1)
      ∧ r.2.mem ((c.tc : Thread Cert.UpGateRefIdeal.nD Cert.UpGateRefIdeal.τ).loc Cert.UpGateRefIdeal.main_arg2) = m ((c.tc : Thread Cert.UpGateRefIdeal.nD Cert.UpGateRefIdeal.τ).loc Cert.UpGateRefIdeal.main_arg2)
      ∧ r.2.mem ((c.tc : Thread Cert.UpGateRefIdeal.nD Cert.UpGateRefIdeal.τ).loc Cert.UpGateRefIdeal.main_arg3) = m ((c.tc : Thread Cert.UpGateRefIdeal.nD Cert.UpGateRefIdeal.τ).loc Cert.UpGateRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_GUp [hGUp : Cert.GUp.Facts] : Prop :=
  ∀ (m : (ℓ : Loc Cert.GUp.nD Cert.GUp.τ Cert.GUp.sig) → Buf (Elt Bits) ℓ) (g : Dev Cert.GUp.nD → PrngReg), Pre_GUp m →
    θ_run (Cert.GUp.defs (F := Bits)) (onTc (τ := Cert.GUp.τ) (Cert.GUp.main (F := Bits))) ⟨m, fun _ => 0, g⟩ (fun r => (∀ c : Dev Cert.GUp.nD,
      r.2.mem ((c.tc : Thread Cert.GUp.nD Cert.GUp.τ).loc Cert.GUp.main_arg0) = m ((c.tc : Thread Cert.GUp.nD Cert.GUp.τ).loc Cert.GUp.main_arg0)
      ∧ r.2.mem ((c.tc : Thread Cert.GUp.nD Cert.GUp.τ).loc Cert.GUp.main_arg1) = m ((c.tc : Thread Cert.GUp.nD Cert.GUp.τ).loc Cert.GUp.main_arg1))
      ∧ r.2.sem = fun _ => 0)

def quiescent_GUpIdeal [hGUpIdeal : Cert.GUpIdeal.Facts] : Prop :=
  ∀ (m : (ℓ : Loc Cert.GUpIdeal.nD Cert.GUpIdeal.τ Cert.GUpIdeal.sig) → Buf (Elt Ideal) ℓ) (g : Dev Cert.GUpIdeal.nD → PrngReg), Pre_GUpIdeal m →
    θ_run (Cert.GUpIdeal.defs (F := Ideal)) (onTc (τ := Cert.GUpIdeal.τ) (Cert.GUpIdeal.main (F := Ideal))) ⟨m, fun _ => 0, g⟩ (fun r => (∀ c : Dev Cert.GUpIdeal.nD,
      r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
      ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ r.2.sem = fun _ => 0)

def quiescent_GUpRefIdeal [hGUpRefIdeal : Cert.GUpRefIdeal.Facts] : Prop :=
  ∀ (m : (ℓ : Loc Cert.GUpRefIdeal.nD Cert.GUpRefIdeal.τ Cert.GUpRefIdeal.sig) → Buf (Elt Ideal) ℓ) (g : Dev Cert.GUpRefIdeal.nD → PrngReg), Pre_GUpRefIdeal m →
    θ_run (Cert.GUpRefIdeal.defs (F := Ideal)) (onTc (τ := Cert.GUpRefIdeal.τ) (Cert.GUpRefIdeal.main (F := Ideal))) ⟨m, fun _ => 0, g⟩ (fun r => (∀ c : Dev Cert.GUpRefIdeal.nD,
      r.2.mem ((c.tc : Thread Cert.GUpRefIdeal.nD Cert.GUpRefIdeal.τ).loc Cert.GUpRefIdeal.main_arg0) = m ((c.tc : Thread Cert.GUpRefIdeal.nD Cert.GUpRefIdeal.τ).loc Cert.GUpRefIdeal.main_arg0)
      ∧ r.2.mem ((c.tc : Thread Cert.GUpRefIdeal.nD Cert.GUpRefIdeal.τ).loc Cert.GUpRefIdeal.main_arg1) = m ((c.tc : Thread Cert.GUpRefIdeal.nD Cert.GUpRefIdeal.τ).loc Cert.GUpRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_Cols [hCols : Cert.Cols.Facts] : Prop :=
  ∀ (m : (ℓ : Loc Cert.Cols.nD Cert.Cols.τ Cert.Cols.sig) → Buf (Elt Bits) ℓ) (g : Dev Cert.Cols.nD → PrngReg), Pre_Cols m →
    θ_run (Cert.Cols.defs (F := Bits)) (onTc (τ := Cert.Cols.τ) (Cert.Cols.main (F := Bits))) ⟨m, fun _ => 0, g⟩ (fun r => (∀ c : Dev Cert.Cols.nD,
      r.2.mem ((c.tc : Thread Cert.Cols.nD Cert.Cols.τ).loc Cert.Cols.main_arg0) = m ((c.tc : Thread Cert.Cols.nD Cert.Cols.τ).loc Cert.Cols.main_arg0))
      ∧ r.2.sem = fun _ => 0)

def quiescent_ColsIdeal [hColsIdeal : Cert.ColsIdeal.Facts] : Prop :=
  ∀ (m : (ℓ : Loc Cert.ColsIdeal.nD Cert.ColsIdeal.τ Cert.ColsIdeal.sig) → Buf (Elt Ideal) ℓ) (g : Dev Cert.ColsIdeal.nD → PrngReg), Pre_ColsIdeal m →
    θ_run (Cert.ColsIdeal.defs (F := Ideal)) (onTc (τ := Cert.ColsIdeal.τ) (Cert.ColsIdeal.main (F := Ideal))) ⟨m, fun _ => 0, g⟩ (fun r => (∀ c : Dev Cert.ColsIdeal.nD,
      r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0))
      ∧ r.2.sem = fun _ => 0)

def quiescent_ColsRefIdeal [hColsRefIdeal : Cert.ColsRefIdeal.Facts] : Prop :=
  ∀ (m : (ℓ : Loc Cert.ColsRefIdeal.nD Cert.ColsRefIdeal.τ Cert.ColsRefIdeal.sig) → Buf (Elt Ideal) ℓ) (g : Dev Cert.ColsRefIdeal.nD → PrngReg), Pre_ColsRefIdeal m →
    θ_run (Cert.ColsRefIdeal.defs (F := Ideal)) (onTc (τ := Cert.ColsRefIdeal.τ) (Cert.ColsRefIdeal.main (F := Ideal))) ⟨m, fun _ => 0, g⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0))
      ∧ r.2.sem = fun _ => 0)

def quiescent_Blocks [hBlocks : Cert.Blocks.Facts] : Prop :=
  ∀ (m : (ℓ : Loc Cert.Blocks.nD Cert.Blocks.τ Cert.Blocks.sig) → Buf (Elt Bits) ℓ) (g : Dev Cert.Blocks.nD → PrngReg), Pre_Blocks m →
    θ_run (Cert.Blocks.defs (F := Bits)) (onTc (τ := Cert.Blocks.τ) (Cert.Blocks.main (F := Bits))) ⟨m, fun _ => 0, g⟩ (fun r => (∀ c : Dev Cert.Blocks.nD,
      r.2.mem ((c.tc : Thread Cert.Blocks.nD Cert.Blocks.τ).loc Cert.Blocks.main_arg0) = m ((c.tc : Thread Cert.Blocks.nD Cert.Blocks.τ).loc Cert.Blocks.main_arg0))
      ∧ r.2.sem = fun _ => 0)

def quiescent_BlocksIdeal [hBlocksIdeal : Cert.BlocksIdeal.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0))
      ∧ r.2.sem = fun _ => 0)

def quiescent_BlocksRefIdeal [hBlocksRefIdeal : Cert.BlocksRefIdeal.Facts] : Prop :=
  ∀ (m : (ℓ : Loc Cert.BlocksRefIdeal.nD Cert.BlocksRefIdeal.τ Cert.BlocksRefIdeal.sig) → Buf (Elt Ideal) ℓ) (g : Dev Cert.BlocksRefIdeal.nD → PrngReg), Pre_BlocksRefIdeal m →
    θ_run (Cert.BlocksRefIdeal.defs (F := Ideal)) (onTc (τ := Cert.BlocksRefIdeal.τ) (Cert.BlocksRefIdeal.main (F := Ideal))) ⟨m, fun _ => 0, g⟩ (fun r => (∀ c : Dev Cert.BlocksRefIdeal.nD,
      r.2.mem ((c.tc : Thread Cert.BlocksRefIdeal.nD Cert.BlocksRefIdeal.τ).loc Cert.BlocksRefIdeal.main_arg0) = m ((c.tc : Thread Cert.BlocksRefIdeal.nD Cert.BlocksRefIdeal.τ).loc Cert.BlocksRefIdeal.main_arg0))
      ∧ r.2.sem = fun _ => 0)

def preserves_Rms_RmsIdeal : Prop :=
  True

def algebraic_RmsIdeal_RmsRefIdeal_pre_finite_rms [hRmsIdeal : Cert.RmsIdeal.Facts] [hRmsRefIdeal : Cert.RmsRefIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_finite_rms m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)) (v2 : (c : Dev Cert.RmsIdeal.nD) → Buf (Elt Ideal) ((c.tc : Thread Cert.RmsIdeal.nD Cert.RmsIdeal.τ).loc Cert.RmsIdeal.main_v1_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_v1_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v35) = v0 c
          ∧ r.2.mem ((c.tc : Thread Cert.RmsRefIdeal.nD Cert.RmsRefIdeal.τ).loc Cert.RmsRefIdeal.main_v36) = v1 c
          ∧ r.2.mem ((c.tc : Thread Cert.RmsRefIdeal.nD Cert.RmsRefIdeal.τ).loc Cert.RmsRefIdeal.main_v37) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v66) = v1 c
          ∧ r.2.mem ((c.tc : Thread Cert.AttnRefIdeal.nD Cert.AttnRefIdeal.τ).loc Cert.AttnRefIdeal.main_v65) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mixer_MixerIdeal : Prop :=
  IdealRules.named_const.Statement Cert.MixerIdeal.κ "sqrt_half" .f32 0x3F3504F3#32 (((Real.sqrt 2)⁻¹ : ℝ) : EReal)
  ∧ IdealRules.named_const.Statement Cert.MixerIdeal.κ "inv_sqrt_2pi" .f32 0x3ECC422A#32 (((9465531 / 16777216) * (Real.sqrt 2)⁻¹ : ℝ) : EReal)

def algebraic_MixerIdeal_MixerRefIdeal_pre_finite_mixer [hMixerIdeal : Cert.MixerIdeal.Facts] [hMixerRefIdeal : Cert.MixerRefIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_mixer m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v5_0)) (v1 : (c : Dev Cert.MixerIdeal.nD) → Buf (Elt Ideal) ((c.tc : Thread Cert.MixerIdeal.nD Cert.MixerIdeal.τ).loc Cert.MixerIdeal.main_v5_1)) (v2 : (c : Dev Cert.MixerIdeal.nD) → Buf (Elt Ideal) ((c.tc : Thread Cert.MixerIdeal.nD Cert.MixerIdeal.τ).loc Cert.MixerIdeal.main_v5_2)) (v3 : (c : Dev Cert.MixerIdeal.nD) → Buf (Elt Ideal) ((c.tc : Thread Cert.MixerIdeal.nD Cert.MixerIdeal.τ).loc Cert.MixerIdeal.main_v5_3)) (v4 : (c : Dev Cert.MixerIdeal.nD) → Buf (Elt Ideal) ((c.tc : Thread Cert.MixerIdeal.nD Cert.MixerIdeal.τ).loc Cert.MixerIdeal.main_v5_4)) (v5 : (c : Dev Cert.MixerIdeal.nD) → Buf (Elt Ideal) ((c.tc : Thread Cert.MixerIdeal.nD Cert.MixerIdeal.τ).loc Cert.MixerIdeal.main_v5_5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v5_0) = v0 c
          ∧ r.2.mem ((c.tc : Thread Cert.MixerIdeal.nD Cert.MixerIdeal.τ).loc Cert.MixerIdeal.main_v5_1) = v1 c
          ∧ r.2.mem ((c.tc : Thread Cert.MixerIdeal.nD Cert.MixerIdeal.τ).loc Cert.MixerIdeal.main_v5_2) = v2 c
          ∧ r.2.mem ((c.tc : Thread Cert.MixerIdeal.nD Cert.MixerIdeal.τ).loc Cert.MixerIdeal.main_v5_3) = v3 c
          ∧ r.2.mem ((c.tc : Thread Cert.MixerIdeal.nD Cert.MixerIdeal.τ).loc Cert.MixerIdeal.main_v5_4) = v4 c
          ∧ r.2.mem ((c.tc : Thread Cert.MixerIdeal.nD Cert.MixerIdeal.τ).loc Cert.MixerIdeal.main_v5_5) = v5 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v282) = v0 c
          ∧ r.2.mem ((c.tc : Thread Cert.MixerRefIdeal.nD Cert.MixerRefIdeal.τ).loc Cert.MixerRefIdeal.main_v198) = v1 c
          ∧ r.2.mem ((c.tc : Thread Cert.MixerRefIdeal.nD Cert.MixerRefIdeal.τ).loc Cert.MixerRefIdeal.main_v283) = v2 c
          ∧ r.2.mem ((c.tc : Thread Cert.MixerRefIdeal.nD Cert.MixerRefIdeal.τ).loc Cert.MixerRefIdeal.main_v284) = v3 c
          ∧ r.2.mem ((c.tc : Thread Cert.MixerRefIdeal.nD Cert.MixerRefIdeal.τ).loc Cert.MixerRefIdeal.main_v155) = v4 c
          ∧ r.2.mem ((c.tc : Thread Cert.MixerRefIdeal.nD Cert.MixerRefIdeal.τ).loc Cert.MixerRefIdeal.main_v281) = v5 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)) (v2 : (c : Dev Cert.ConvIdeal.nD) → Buf (Elt Ideal) ((c.tc : Thread Cert.ConvIdeal.nD Cert.ConvIdeal.τ).loc Cert.ConvIdeal.main_v5_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_v5_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v78) = v0 c
          ∧ r.2.mem ((c.tc : Thread Cert.ConvRefIdeal.nD Cert.ConvRefIdeal.τ).loc Cert.ConvRefIdeal.main_v80) = v1 c
          ∧ r.2.mem ((c.tc : Thread Cert.ConvRefIdeal.nD Cert.ConvRefIdeal.τ).loc Cert.ConvRefIdeal.main_v81) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Xattn_XattnIdeal : Prop :=
  True

def algebraic_XattnIdeal_XattnRefIdeal_pre_finite_xattn [hXattnIdeal : Cert.XattnIdeal.Facts] [hXattnRefIdeal : Cert.XattnRefIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite_xattn m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v1_0)) (v1 : (c : Dev Cert.XattnIdeal.nD) → Buf (Elt Ideal) ((c.tc : Thread Cert.XattnIdeal.nD Cert.XattnIdeal.τ).loc Cert.XattnIdeal.main_v1_1)) (v2 : (c : Dev Cert.XattnIdeal.nD) → Buf (Elt Ideal) ((c.tc : Thread Cert.XattnIdeal.nD Cert.XattnIdeal.τ).loc Cert.XattnIdeal.main_v1_2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v1_0) = v0 c
          ∧ r.2.mem ((c.tc : Thread Cert.XattnIdeal.nD Cert.XattnIdeal.τ).loc Cert.XattnIdeal.main_v1_1) = v1 c
          ∧ r.2.mem ((c.tc : Thread Cert.XattnIdeal.nD Cert.XattnIdeal.τ).loc Cert.XattnIdeal.main_v1_2) = v2 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v40) = v0 c
          ∧ r.2.mem ((c.tc : Thread Cert.XattnRefIdeal.nD Cert.XattnRefIdeal.τ).loc Cert.XattnRefIdeal.main_v41) = v1 c
          ∧ r.2.mem ((c.tc : Thread Cert.XattnRefIdeal.nD Cert.XattnRefIdeal.τ).loc Cert.XattnRefIdeal.main_v42) = v2 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v1_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v1_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_v42) = v1 c
          ∧ r.2.mem ((c.tc : Thread Cert.MixRefIdeal.nD Cert.MixRefIdeal.τ).loc Cert.MixRefIdeal.main_v43) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)) (v2 : (c : Dev Cert.FfnIdeal.nD) → Buf (Elt Ideal) ((c.tc : Thread Cert.FfnIdeal.nD Cert.FfnIdeal.τ).loc Cert.FfnIdeal.main_v1_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_v1_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_v48) = v1 c
          ∧ r.2.mem ((c.tc : Thread Cert.FfnRefIdeal.nD Cert.FfnRefIdeal.τ).loc Cert.FfnRefIdeal.main_v49) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v17) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_UpGate_UpGateIdeal : Prop :=
  True

def algebraic_UpGateIdeal_UpGateRefIdeal [hUpGateIdeal : Cert.UpGateIdeal.Facts] [hUpGateRefIdeal : Cert.UpGateRefIdeal.Facts] : Prop :=
  ∀ (m : (ℓ : Loc Cert.UpGateIdeal.nD Cert.UpGateIdeal.τ Cert.UpGateIdeal.sig) → Buf (Elt Ideal) ℓ) (g : Dev Cert.UpGateIdeal.nD → PrngReg)
    (m' : (ℓ : Loc Cert.UpGateRefIdeal.nD Cert.UpGateRefIdeal.τ Cert.UpGateRefIdeal.sig) → Buf (Elt Ideal) ℓ) (g' : Dev Cert.UpGateRefIdeal.nD → PrngReg), Pre_UpGateIdeal m →
    (∀ c : Dev Cert.UpGateIdeal.nD,
      m' ((c.tc : Thread Cert.UpGateRefIdeal.nD Cert.UpGateRefIdeal.τ).loc Cert.UpGateRefIdeal.main_arg0) = m ((c.tc : Thread Cert.UpGateIdeal.nD Cert.UpGateIdeal.τ).loc Cert.UpGateIdeal.main_arg0)
      ∧ m' ((c.tc : Thread Cert.UpGateRefIdeal.nD Cert.UpGateRefIdeal.τ).loc Cert.UpGateRefIdeal.main_arg1) = m ((c.tc : Thread Cert.UpGateIdeal.nD Cert.UpGateIdeal.τ).loc Cert.UpGateIdeal.main_arg1)
      ∧ m' ((c.tc : Thread Cert.UpGateRefIdeal.nD Cert.UpGateRefIdeal.τ).loc Cert.UpGateRefIdeal.main_arg2) = m ((c.tc : Thread Cert.UpGateIdeal.nD Cert.UpGateIdeal.τ).loc Cert.UpGateIdeal.main_arg2)
      ∧ m' ((c.tc : Thread Cert.UpGateRefIdeal.nD Cert.UpGateRefIdeal.τ).loc Cert.UpGateRefIdeal.main_arg3) = m ((c.tc : Thread Cert.UpGateIdeal.nD Cert.UpGateIdeal.τ).loc Cert.UpGateIdeal.main_arg3)) →
    ∃ (v0 : (c : Dev Cert.UpGateIdeal.nD) → Buf (Elt Ideal) ((c.tc : Thread Cert.UpGateIdeal.nD Cert.UpGateIdeal.τ).loc Cert.UpGateIdeal.main_v3_0)) (v1 : (c : Dev Cert.UpGateIdeal.nD) → Buf (Elt Ideal) ((c.tc : Thread Cert.UpGateIdeal.nD Cert.UpGateIdeal.τ).loc Cert.UpGateIdeal.main_v3_1)),
      θ_run (Cert.UpGateIdeal.defs (F := Ideal)) (onTc (τ := Cert.UpGateIdeal.τ) (Cert.UpGateIdeal.main (F := Ideal))) ⟨m, fun _ => 0, g⟩ (fun r => ∀ c : Dev Cert.UpGateIdeal.nD,
          r.2.mem ((c.tc : Thread Cert.UpGateIdeal.nD Cert.UpGateIdeal.τ).loc Cert.UpGateIdeal.main_v3_0) = v0 c
          ∧ r.2.mem ((c.tc : Thread Cert.UpGateIdeal.nD Cert.UpGateIdeal.τ).loc Cert.UpGateIdeal.main_v3_1) = v1 c
          ∧ r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
          ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1)
          ∧ r.2.mem ((c.tc : Thread Cert.UpGateIdeal.nD Cert.UpGateIdeal.τ).loc Cert.UpGateIdeal.main_arg2) = m ((c.tc : Thread Cert.UpGateIdeal.nD Cert.UpGateIdeal.τ).loc Cert.UpGateIdeal.main_arg2)
          ∧ r.2.mem ((c.tc : Thread Cert.UpGateIdeal.nD Cert.UpGateIdeal.τ).loc Cert.UpGateIdeal.main_arg3) = m ((c.tc : Thread Cert.UpGateIdeal.nD Cert.UpGateIdeal.τ).loc Cert.UpGateIdeal.main_arg3))
      ∧ θ_run (Cert.UpGateRefIdeal.defs (F := Ideal)) (onTc (τ := Cert.UpGateRefIdeal.τ) (Cert.UpGateRefIdeal.main (F := Ideal))) ⟨m', fun _ => 0, g'⟩ (fun r => ∀ c : Dev Cert.UpGateRefIdeal.nD,
          r.2.mem ((c.tc : Thread Cert.UpGateRefIdeal.nD Cert.UpGateRefIdeal.τ).loc Cert.UpGateRefIdeal.main_v5) = v0 c
          ∧ r.2.mem ((c.tc : Thread Cert.UpGateRefIdeal.nD Cert.UpGateRefIdeal.τ).loc Cert.UpGateRefIdeal.main_v39) = v1 c
          ∧ r.2.mem ((c.tc : Thread Cert.UpGateRefIdeal.nD Cert.UpGateRefIdeal.τ).loc Cert.UpGateRefIdeal.main_arg0) = m' ((c.tc : Thread Cert.UpGateRefIdeal.nD Cert.UpGateRefIdeal.τ).loc Cert.UpGateRefIdeal.main_arg0)
          ∧ r.2.mem ((c.tc : Thread Cert.UpGateRefIdeal.nD Cert.UpGateRefIdeal.τ).loc Cert.UpGateRefIdeal.main_arg1) = m' ((c.tc : Thread Cert.UpGateRefIdeal.nD Cert.UpGateRefIdeal.τ).loc Cert.UpGateRefIdeal.main_arg1)
          ∧ r.2.mem ((c.tc : Thread Cert.UpGateRefIdeal.nD Cert.UpGateRefIdeal.τ).loc Cert.UpGateRefIdeal.main_arg2) = m' ((c.tc : Thread Cert.UpGateRefIdeal.nD Cert.UpGateRefIdeal.τ).loc Cert.UpGateRefIdeal.main_arg2)
          ∧ r.2.mem ((c.tc : Thread Cert.UpGateRefIdeal.nD Cert.UpGateRefIdeal.τ).loc Cert.UpGateRefIdeal.main_arg3) = m' ((c.tc : Thread Cert.UpGateRefIdeal.nD Cert.UpGateRefIdeal.τ).loc Cert.UpGateRefIdeal.main_arg3))

def preserves_Proj_ProjIdeal : Prop :=
  IdealRules.named_const.Statement Cert.ProjIdeal.κ "sqrt_half" .f32 0x3F3504F3#32 (((Real.sqrt 2)⁻¹ : ℝ) : EReal)

def algebraic_ProjIdeal_ProjRefIdeal_pre_finite_proj [hProjIdeal : Cert.ProjIdeal.Facts] [hProjRefIdeal : Cert.ProjRefIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_proj m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_v144) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v0)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v0) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v6) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_GUp_GUpIdeal : Prop :=
  True

def algebraic_GUpIdeal_GUpRefIdeal [hGUpIdeal : Cert.GUpIdeal.Facts] [hGUpRefIdeal : Cert.GUpRefIdeal.Facts] : Prop :=
  ∀ (m : (ℓ : Loc Cert.GUpIdeal.nD Cert.GUpIdeal.τ Cert.GUpIdeal.sig) → Buf (Elt Ideal) ℓ) (g : Dev Cert.GUpIdeal.nD → PrngReg)
    (m' : (ℓ : Loc Cert.GUpRefIdeal.nD Cert.GUpRefIdeal.τ Cert.GUpRefIdeal.sig) → Buf (Elt Ideal) ℓ) (g' : Dev Cert.GUpRefIdeal.nD → PrngReg), Pre_GUpIdeal m →
    (∀ c : Dev Cert.GUpIdeal.nD,
      m' ((c.tc : Thread Cert.GUpRefIdeal.nD Cert.GUpRefIdeal.τ).loc Cert.GUpRefIdeal.main_arg0) = m ((c.tc : Thread Cert.GUpIdeal.nD Cert.GUpIdeal.τ).loc Cert.GUpIdeal.main_arg0)
      ∧ m' ((c.tc : Thread Cert.GUpRefIdeal.nD Cert.GUpRefIdeal.τ).loc Cert.GUpRefIdeal.main_arg1) = m ((c.tc : Thread Cert.GUpIdeal.nD Cert.GUpIdeal.τ).loc Cert.GUpIdeal.main_arg1)) →
    ∃ (v0 : (c : Dev Cert.GUpIdeal.nD) → Buf (Elt Ideal) ((c.tc : Thread Cert.GUpIdeal.nD Cert.GUpIdeal.τ).loc Cert.GUpIdeal.main_v0)),
      θ_run (Cert.GUpIdeal.defs (F := Ideal)) (onTc (τ := Cert.GUpIdeal.τ) (Cert.GUpIdeal.main (F := Ideal))) ⟨m, fun _ => 0, g⟩ (fun r => ∀ c : Dev Cert.GUpIdeal.nD,
          r.2.mem ((c.tc : Thread Cert.GUpIdeal.nD Cert.GUpIdeal.τ).loc Cert.GUpIdeal.main_v0) = v0 c
          ∧ r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
          ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ θ_run (Cert.GUpRefIdeal.defs (F := Ideal)) (onTc (τ := Cert.GUpRefIdeal.τ) (Cert.GUpRefIdeal.main (F := Ideal))) ⟨m', fun _ => 0, g'⟩ (fun r => ∀ c : Dev Cert.GUpRefIdeal.nD,
          r.2.mem ((c.tc : Thread Cert.GUpRefIdeal.nD Cert.GUpRefIdeal.τ).loc Cert.GUpRefIdeal.main_v13) = v0 c
          ∧ r.2.mem ((c.tc : Thread Cert.GUpRefIdeal.nD Cert.GUpRefIdeal.τ).loc Cert.GUpRefIdeal.main_arg0) = m' ((c.tc : Thread Cert.GUpRefIdeal.nD Cert.GUpRefIdeal.τ).loc Cert.GUpRefIdeal.main_arg0)
          ∧ r.2.mem ((c.tc : Thread Cert.GUpRefIdeal.nD Cert.GUpRefIdeal.τ).loc Cert.GUpRefIdeal.main_arg1) = m' ((c.tc : Thread Cert.GUpRefIdeal.nD Cert.GUpRefIdeal.τ).loc Cert.GUpRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v6) = v0 c
          ∧ r.2.mem ((c.tc : Thread Cert.AdamRefIdeal.nD Cert.AdamRefIdeal.τ).loc Cert.AdamRefIdeal.main_v30) = v1 c
          ∧ r.2.mem ((c.tc : Thread Cert.AdamRefIdeal.nD Cert.AdamRefIdeal.τ).loc Cert.AdamRefIdeal.main_v11) = v2 c
          ∧ r.2.mem ((c.tc : Thread Cert.AdamRefIdeal.nD Cert.AdamRefIdeal.τ).loc Cert.AdamRefIdeal.main_v17) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_Cols_ColsIdeal : Prop :=
  True

def algebraic_ColsIdeal_ColsRefIdeal [hColsIdeal : Cert.ColsIdeal.Facts] [hColsRefIdeal : Cert.ColsRefIdeal.Facts] : Prop :=
  ∀ (m : (ℓ : Loc Cert.ColsIdeal.nD Cert.ColsIdeal.τ Cert.ColsIdeal.sig) → Buf (Elt Ideal) ℓ) (g : Dev Cert.ColsIdeal.nD → PrngReg)
    (m' : (ℓ : Loc Cert.ColsRefIdeal.nD Cert.ColsRefIdeal.τ Cert.ColsRefIdeal.sig) → Buf (Elt Ideal) ℓ) (g' : Dev Cert.ColsRefIdeal.nD → PrngReg), Pre_ColsIdeal m →
    (∀ c : Dev Cert.ColsIdeal.nD,
      m' ((c.tc : Thread Cert.ColsRefIdeal.nD Cert.ColsRefIdeal.τ).loc Cert.ColsRefIdeal.main_arg0) = m ((c.tc : Thread Cert.ColsIdeal.nD Cert.ColsIdeal.τ).loc Cert.ColsIdeal.main_arg0)) →
    ∃ (v0 : (c : Dev Cert.ColsIdeal.nD) → Buf (Elt Ideal) ((c.tc : Thread Cert.ColsIdeal.nD Cert.ColsIdeal.τ).loc Cert.ColsIdeal.main_v0)),
      θ_run (Cert.ColsIdeal.defs (F := Ideal)) (onTc (τ := Cert.ColsIdeal.τ) (Cert.ColsIdeal.main (F := Ideal))) ⟨m, fun _ => 0, g⟩ (fun r => ∀ c : Dev Cert.ColsIdeal.nD,
          r.2.mem ((c.tc : Thread Cert.ColsIdeal.nD Cert.ColsIdeal.τ).loc Cert.ColsIdeal.main_v0) = v0 c
          ∧ r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0))
      ∧ θ_run (Cert.ColsRefIdeal.defs (F := Ideal)) (onTc (τ := Cert.ColsRefIdeal.τ) (Cert.ColsRefIdeal.main (F := Ideal))) ⟨m', fun _ => 0, g'⟩ (fun r => ∀ c : Dev Cert.ColsRefIdeal.nD,
          r.2.mem ((c.tc : Thread Cert.ColsRefIdeal.nD Cert.ColsRefIdeal.τ).loc Cert.ColsRefIdeal.main_v1) = v0 c
          ∧ r.2.mem ((c.tc : Thread Cert.ColsRefIdeal.nD Cert.ColsRefIdeal.τ).loc Cert.ColsRefIdeal.main_arg0) = m' ((c.tc : Thread Cert.ColsRefIdeal.nD Cert.ColsRefIdeal.τ).loc Cert.ColsRefIdeal.main_arg0))

def preserves_Blocks_BlocksIdeal : Prop :=
  True

def algebraic_BlocksIdeal_BlocksRefIdeal [hBlocksIdeal : Cert.BlocksIdeal.Facts] [hBlocksRefIdeal : Cert.BlocksRefIdeal.Facts] : Prop :=
  ∀ (m : (ℓ : Loc Cert.BlocksIdeal.nD Cert.BlocksIdeal.τ Cert.BlocksIdeal.sig) → Buf (Elt Ideal) ℓ) (g : Dev Cert.BlocksIdeal.nD → PrngReg)
    (m' : (ℓ : Loc Cert.BlocksRefIdeal.nD Cert.BlocksRefIdeal.τ Cert.BlocksRefIdeal.sig) → Buf (Elt Ideal) ℓ) (g' : Dev Cert.BlocksRefIdeal.nD → PrngReg), Pre_BlocksIdeal m →
    (∀ c : Dev Cert.BlocksIdeal.nD,
      m' ((c.tc : Thread Cert.BlocksRefIdeal.nD Cert.BlocksRefIdeal.τ).loc Cert.BlocksRefIdeal.main_arg0) = m ((c.tc : Thread Cert.BlocksIdeal.nD Cert.BlocksIdeal.τ).loc Cert.BlocksIdeal.main_arg0)) →
    ∃ (v0 : (c : Dev Cert.BlocksIdeal.nD) → Buf (Elt Ideal) ((c.tc : Thread Cert.BlocksIdeal.nD Cert.BlocksIdeal.τ).loc Cert.BlocksIdeal.main_v0)),
      θ_run (Cert.BlocksIdeal.defs (F := Ideal)) (onTc (τ := Cert.BlocksIdeal.τ) (Cert.BlocksIdeal.main (F := Ideal))) ⟨m, fun _ => 0, g⟩ (fun r => ∀ c : Dev Cert.BlocksIdeal.nD,
          r.2.mem ((c.tc : Thread Cert.BlocksIdeal.nD Cert.BlocksIdeal.τ).loc Cert.BlocksIdeal.main_v0) = v0 c
          ∧ r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0))
      ∧ θ_run (Cert.BlocksRefIdeal.defs (F := Ideal)) (onTc (τ := Cert.BlocksRefIdeal.τ) (Cert.BlocksRefIdeal.main (F := Ideal))) ⟨m', fun _ => 0, g'⟩ (fun r => ∀ c : Dev Cert.BlocksRefIdeal.nD,
          r.2.mem ((c.tc : Thread Cert.BlocksRefIdeal.nD Cert.BlocksRefIdeal.τ).loc Cert.BlocksRefIdeal.main_v1) = v0 c
          ∧ r.2.mem ((c.tc : Thread Cert.BlocksRefIdeal.nD Cert.BlocksRefIdeal.τ).loc Cert.BlocksRefIdeal.main_arg0) = m' ((c.tc : Thread Cert.BlocksRefIdeal.nD Cert.BlocksRefIdeal.τ).loc Cert.BlocksRefIdeal.main_arg0))

def Claim : Prop :=
  ∃ (hRms : Cert.Rms.Facts) (hRmsIdeal : Cert.RmsIdeal.Facts) (hRmsRefIdeal : Cert.RmsRefIdeal.Facts) (hAttn : Cert.Attn.Facts) (hAttnIdeal : Cert.AttnIdeal.Facts) (hAttnRefIdeal : Cert.AttnRefIdeal.Facts) (hMixer : Cert.Mixer.Facts) (hMixerIdeal : Cert.MixerIdeal.Facts) (hMixerRefIdeal : Cert.MixerRefIdeal.Facts) (hConv : Cert.Conv.Facts) (hConvIdeal : Cert.ConvIdeal.Facts) (hConvRefIdeal : Cert.ConvRefIdeal.Facts) (hXattn : Cert.Xattn.Facts) (hXattnIdeal : Cert.XattnIdeal.Facts) (hXattnRefIdeal : Cert.XattnRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hLoss : Cert.Loss.Facts) (hLossIdeal : Cert.LossIdeal.Facts) (hLossRefIdeal : Cert.LossRefIdeal.Facts) (hAttnFwd : Cert.AttnFwd.Facts) (hAttnFwdIdeal : Cert.AttnFwdIdeal.Facts) (hAttnFwdRefIdeal : Cert.AttnFwdRefIdeal.Facts) (hRmsFwd : Cert.RmsFwd.Facts) (hRmsFwdIdeal : Cert.RmsFwdIdeal.Facts) (hRmsFwdRefIdeal : Cert.RmsFwdRefIdeal.Facts) (hDown : Cert.Down.Facts) (hDownIdeal : Cert.DownIdeal.Facts) (hDownRefIdeal : Cert.DownRefIdeal.Facts) (hUpGate : Cert.UpGate.Facts) (hUpGateIdeal : Cert.UpGateIdeal.Facts) (hUpGateRefIdeal : Cert.UpGateRefIdeal.Facts) (hProj : Cert.Proj.Facts) (hProjIdeal : Cert.ProjIdeal.Facts) (hProjRefIdeal : Cert.ProjRefIdeal.Facts) (hGDown : Cert.GDown.Facts) (hGDownIdeal : Cert.GDownIdeal.Facts) (hGDownRefIdeal : Cert.GDownRefIdeal.Facts) (hDAct : Cert.DAct.Facts) (hDActIdeal : Cert.DActIdeal.Facts) (hDActRefIdeal : Cert.DActRefIdeal.Facts) (hQuery : Cert.Query.Facts) (hQueryIdeal : Cert.QueryIdeal.Facts) (hQueryRefIdeal : Cert.QueryRefIdeal.Facts) (hGUp : Cert.GUp.Facts) (hGUpIdeal : Cert.GUpIdeal.Facts) (hGUpRefIdeal : Cert.GUpRefIdeal.Facts) (hAdam : Cert.Adam.Facts) (hAdamIdeal : Cert.AdamIdeal.Facts) (hAdamRefIdeal : Cert.AdamRefIdeal.Facts) (hCols : Cert.Cols.Facts) (hColsIdeal : Cert.ColsIdeal.Facts) (hColsRefIdeal : Cert.ColsRefIdeal.Facts) (hBlocks : Cert.Blocks.Facts) (hBlocksIdeal : Cert.BlocksIdeal.Facts) (hBlocksRefIdeal : Cert.BlocksRefIdeal.Facts) (hPre_finite_rms : Cert.Pre_finite_rms.Facts) (hPre_finite_attn : Cert.Pre_finite_attn.Facts) (hPre_finite_mixer : Cert.Pre_finite_mixer.Facts) (hPre_finite_conv : Cert.Pre_finite_conv.Facts) (hPre_finite_xattn : Cert.Pre_finite_xattn.Facts) (hPre_finite_mix : Cert.Pre_finite_mix.Facts) (hPre_finite_ffn : Cert.Pre_finite_ffn.Facts) (hPre_finite_loss : Cert.Pre_finite_loss.Facts) (hPre_finite_proj : Cert.Pre_finite_proj.Facts),
    quiescent_Rms (hRms := hRms)
    ∧ quiescent_RmsIdeal (hRmsIdeal := hRmsIdeal)
    ∧ quiescent_RmsIdeal_pre_finite_rms (hRmsIdeal := hRmsIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Mixer (hMixer := hMixer)
    ∧ quiescent_MixerIdeal (hMixerIdeal := hMixerIdeal)
    ∧ quiescent_MixerIdeal_pre_finite_mixer (hMixerIdeal := hMixerIdeal) (hPre_finite_mixer := hPre_finite_mixer)
    ∧ quiescent_MixerRefIdeal (hMixerRefIdeal := hMixerRefIdeal)
    ∧ quiescent_MixerRefIdeal_pre_finite_mixer (hMixerRefIdeal := hMixerRefIdeal) (hPre_finite_mixer := hPre_finite_mixer)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_Xattn (hXattn := hXattn)
    ∧ quiescent_XattnIdeal (hXattnIdeal := hXattnIdeal)
    ∧ quiescent_XattnIdeal_pre_finite_xattn (hXattnIdeal := hXattnIdeal) (hPre_finite_xattn := hPre_finite_xattn)
    ∧ quiescent_XattnRefIdeal (hXattnRefIdeal := hXattnRefIdeal)
    ∧ quiescent_XattnRefIdeal_pre_finite_xattn (hXattnRefIdeal := hXattnRefIdeal) (hPre_finite_xattn := hPre_finite_xattn)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Down (hDown := hDown)
    ∧ quiescent_DownIdeal (hDownIdeal := hDownIdeal)
    ∧ quiescent_DownRefIdeal (hDownRefIdeal := hDownRefIdeal)
    ∧ quiescent_UpGate (hUpGate := hUpGate)
    ∧ quiescent_UpGateIdeal (hUpGateIdeal := hUpGateIdeal)
    ∧ quiescent_UpGateRefIdeal (hUpGateRefIdeal := hUpGateRefIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_GDown (hGDown := hGDown)
    ∧ quiescent_GDownIdeal (hGDownIdeal := hGDownIdeal)
    ∧ quiescent_GDownRefIdeal (hGDownRefIdeal := hGDownRefIdeal)
    ∧ quiescent_DAct (hDAct := hDAct)
    ∧ quiescent_DActIdeal (hDActIdeal := hDActIdeal)
    ∧ quiescent_DActRefIdeal (hDActRefIdeal := hDActRefIdeal)
    ∧ quiescent_Query (hQuery := hQuery)
    ∧ quiescent_QueryIdeal (hQueryIdeal := hQueryIdeal)
    ∧ quiescent_QueryRefIdeal (hQueryRefIdeal := hQueryRefIdeal)
    ∧ quiescent_GUp (hGUp := hGUp)
    ∧ quiescent_GUpIdeal (hGUpIdeal := hGUpIdeal)
    ∧ quiescent_GUpRefIdeal (hGUpRefIdeal := hGUpRefIdeal)
    ∧ quiescent_Adam (hAdam := hAdam)
    ∧ quiescent_AdamIdeal (hAdamIdeal := hAdamIdeal)
    ∧ quiescent_AdamRefIdeal (hAdamRefIdeal := hAdamRefIdeal)
    ∧ quiescent_Cols (hCols := hCols)
    ∧ quiescent_ColsIdeal (hColsIdeal := hColsIdeal)
    ∧ quiescent_ColsRefIdeal (hColsRefIdeal := hColsRefIdeal)
    ∧ quiescent_Blocks (hBlocks := hBlocks)
    ∧ quiescent_BlocksIdeal (hBlocksIdeal := hBlocksIdeal)
    ∧ quiescent_BlocksRefIdeal (hBlocksRefIdeal := hBlocksRefIdeal)
    ∧ preserves_Rms_RmsIdeal
    ∧ algebraic_RmsIdeal_RmsRefIdeal_pre_finite_rms (hRmsIdeal := hRmsIdeal) (hRmsRefIdeal := hRmsRefIdeal) (hPre_finite_rms := hPre_finite_rms)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Mixer_MixerIdeal
    ∧ algebraic_MixerIdeal_MixerRefIdeal_pre_finite_mixer (hMixerIdeal := hMixerIdeal) (hMixerRefIdeal := hMixerRefIdeal) (hPre_finite_mixer := hPre_finite_mixer)
    ∧ preserves_Conv_ConvIdeal
    ∧ algebraic_ConvIdeal_ConvRefIdeal_pre_finite_conv (hConvIdeal := hConvIdeal) (hConvRefIdeal := hConvRefIdeal) (hPre_finite_conv := hPre_finite_conv)
    ∧ preserves_Xattn_XattnIdeal
    ∧ algebraic_XattnIdeal_XattnRefIdeal_pre_finite_xattn (hXattnIdeal := hXattnIdeal) (hXattnRefIdeal := hXattnRefIdeal) (hPre_finite_xattn := hPre_finite_xattn)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Down_DownIdeal
    ∧ algebraic_DownIdeal_DownRefIdeal (hDownIdeal := hDownIdeal) (hDownRefIdeal := hDownRefIdeal)
    ∧ preserves_UpGate_UpGateIdeal
    ∧ algebraic_UpGateIdeal_UpGateRefIdeal (hUpGateIdeal := hUpGateIdeal) (hUpGateRefIdeal := hUpGateRefIdeal)
    ∧ preserves_Proj_ProjIdeal
    ∧ algebraic_ProjIdeal_ProjRefIdeal_pre_finite_proj (hProjIdeal := hProjIdeal) (hProjRefIdeal := hProjRefIdeal) (hPre_finite_proj := hPre_finite_proj)
    ∧ preserves_GDown_GDownIdeal
    ∧ algebraic_GDownIdeal_GDownRefIdeal (hGDownIdeal := hGDownIdeal) (hGDownRefIdeal := hGDownRefIdeal)
    ∧ preserves_DAct_DActIdeal
    ∧ algebraic_DActIdeal_DActRefIdeal (hDActIdeal := hDActIdeal) (hDActRefIdeal := hDActRefIdeal)
    ∧ preserves_Query_QueryIdeal
    ∧ algebraic_QueryIdeal_QueryRefIdeal (hQueryIdeal := hQueryIdeal) (hQueryRefIdeal := hQueryRefIdeal)
    ∧ preserves_GUp_GUpIdeal
    ∧ algebraic_GUpIdeal_GUpRefIdeal (hGUpIdeal := hGUpIdeal) (hGUpRefIdeal := hGUpRefIdeal)
    ∧ preserves_Adam_AdamIdeal
    ∧ algebraic_AdamIdeal_AdamRefIdeal (hAdamIdeal := hAdamIdeal) (hAdamRefIdeal := hAdamRefIdeal)
    ∧ preserves_Cols_ColsIdeal
    ∧ algebraic_ColsIdeal_ColsRefIdeal (hColsIdeal := hColsIdeal) (hColsRefIdeal := hColsRefIdeal)
    ∧ preserves_Blocks_BlocksIdeal
    ∧ algebraic_BlocksIdeal_BlocksRefIdeal (hBlocksIdeal := hBlocksIdeal) (hBlocksRefIdeal := hBlocksRefIdeal)
-- ==== Pre_finite_attn.lean ====
abbrev S8192x1024 : Shape := ⟨2, ![8192, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v14 : IVec S_ 1) (main_v15 : FVec F S8192x1024 .bf16) (main_cst_5 : FVec F S_ .bf16) : IVec S_ 1 :=
  let main_v16 : FVec F S8192x1024 .bf16 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  main_v19

def fn {F : FTy → Type} [FloatOps F] (main_arg0 : FVec F S8192x1024 .bf16) (main_arg1 : FVec F S256x1024 .bf16) (main_arg2 : FVec F S256x1024 .bf16) (main_arg3 : FVec F S8192x1024 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S256x1024 .bf16 := Host.absf main_arg1
  let main_cst_1 : FVec F S_ .bf16 := constant S_ .bf16 0x7F80#16
  let main_v6 : FVec F S256x1024 .bf16 := broadcastInDim S256x1024 ![] bcast_S_S256x1024 main_cst_1
  let main_v7 : IVec S256x1024 1 := cmpf .olt main_v5 main_v6
  let main_c_2 : IVec S_ 1 := constantI S_ 1 1#1
  let main_v8 : IVec S_ 1 := (fun x v => Host.reduce IntOp.andi x v reducesTo_S256x1024_S_d0_1 h_S_) main_v7 main_c_2
  let main_v9 : IVec S_ 1 := andi main_v4 main_v8
  let main_v10 : FVec F S256x1024 .bf16 := Host.absf main_arg2
  let main_cst_3 : FVec F S_ .bf16 := constant S_ .bf16 0x7F80#16
  let main_v11 : FVec F S256x1024 .bf16 := broadcastInDim S256x1024 ![] bcast_S_S256x1024 main_cst_3
  let main_v12 : IVec S256x1024 1 := cmpf .olt main_v10 main_v11
  let main_c_4 : IVec S_ 1 := constantI S_ 1 1#1
  let main_v13 : IVec S_ 1 := (fun x v => Host.reduce IntOp.andi x v reducesTo_S256x1024_S_d0_1 h_S_) main_v12 main_c_4
  let main_v14 : IVec S_ 1 := andi main_v9 main_v13
  let main_v15 : FVec F S8192x1024 .bf16 := Host.absf main_arg3
  let main_cst_5 : FVec F S_ .bf16 := constant S_ .bf16 0x7F80#16
  fn_part1 (F := F) main_v14 main_v15 main_cst_5
-- ==== Pre_finite_conv.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v14 : IVec S_ 1) (main_v15 : FVec F S5632 .f32) (main_cst_5 : FVec F S_ .f32) : IVec S_ 1 :=
  let main_v16 : FVec F S5632 .f32 := broadcastInDim S5632 ![] bcast_S_S5632 main_cst_5
  let main_v17 : IVec S5632 1 := cmpf .olt main_v15 main_v16
  let main_c_6 : IVec S_ 1 := constantI S_ 1 1#1
  let main_v18 : IVec S_ 1 := (fun x v => Host.reduce IntOp.andi x v reducesTo_S5632_S_d0 h_S_) main_v17 main_c_6
  let main_v19 : IVec S_ 1 := andi main_v14 main_v18
  main_v19

def fn {F : FTy → Type} [FloatOps F] (main_arg0 : FVec F S8192x5632 .f32) (main_arg1 : FVec F S8192x2816 .f32) (main_arg2 : FVec F S3x5632 .f32) (main_arg3 : FVec F S5632 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_c_0 : IVec S_ 1 := constantI S_ 1 1#1
  let main_v4 : IVec S_ 1 := andi main_c_0 main_v3
  let main_v5 : FVec F S8192x2816 .f32 := Host.absf main_arg1
  let main_cst_1 : FVec F S_ .f32 := constant S_ .f32 0x7F800000#32
  let main_v6 : FVec F S8192x2816 .f32 := broadcastInDim S8192x2816 ![] bcast_S_S8192x2816 main_cst_1
  let main_v7 : IVec S8192x2816 1 := cmpf .olt main_v5 main_v6
  let main_c_2 : IVec S_ 1 := constantI S_ 1 1#1
  let main_v8 : IVec S_ 1 := (fun x v => Host.reduce IntOp.andi x v reducesTo_S8192x2816_S_d0_1 h_S_) main_v7 main_c_2
  let main_v9 : IVec S_ 1 := andi main_v4 main_v8
  let main_v10 : FVec F S3x5632 .f32 := Host.absf main_arg2
  let main_cst_3 : FVec F S_ .f32 := constant S_ .f32 0x7F800000#32
  let main_v11 : FVec F S3x5632 .f32 := broadcastInDim S3x5632 ![] bcast_S_S3x5632 main_cst_3
  let main_v12 : IVec S3x5632 1 := cmpf .olt main_v10 main_v11
  let main_c_4 : IVec S_ 1 := constantI S_ 1 1#1
  let main_v13 : IVec S_ 1 := (fun x v => Host.reduce IntOp.andi x v reducesTo_S3x5632_S_d0_1 h_S_) main_v12 main_c_4
  let main_v14 : IVec S_ 1 := andi main_v9 main_v13
  let main_v15 : FVec F S5632 .f32 := Host.absf main_arg3
  let main_cst_5 : FVec F S_ .f32 := constant S_ .f32 0x7F800000#32
  fn_part1 (F := F) main_v14 main_v15 main_cst_5
-- ==== Pre_finite_ffn.lean ====
abbrev S2x8192x2816 : Shape := ⟨3, ![2, 8192, 2816]⟩
abbrev S5632x1024 : Shape := ⟨2, ![5632, 1024]⟩
abbrev S8192x1024 : Shape := ⟨2, ![8192, 1024]⟩
abbrev S1024 : Shape := ⟨1, ![1024]⟩
abbrev S_ : Shape := ⟨0, ![]⟩

class Facts : Prop where
  bcast_S_S2x8192x2816 : S_.BroadcastsInDim S2x8192x2816 (![] : Fin 0 → Fin S2x8192x2816.rank)
  reducesTo_S2x8192x2816_S_d0_1_2 : S2x8192x2816.ReducesTo [0, 1, 2] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S2x8192x2816 .bf16) (main_arg1 : FVec F S5632x1024 .bf16) (main_arg2 : FVec F S8192x1024 .f32) (main_arg3 : FVec F S1024 .f32) (main_arg4 : FVec F S8192x1024 .f32) : IVec S_ 1 :=
  let main_v0 : FVec F S2x8192x2816 .bf16 := Host.absf main_arg0
  let main_cst : FVec F S_ .bf16 := constant S_ .bf16 0x7F80#16
  let main_v1 : FVec F S2x8192x2816 .bf16 := broadcastInDim S2x8192x2816 ![] bcast_S_S2x8192x2816 main_cst
  let main_v2 : IVec S2x8192x2816 1 := cmpf .olt main_v0 main_v1
  let main_c : IVec S_ 1 := constantI S_ 1 1#1
  let main_v3 : IVec S_ 1 := (fun x v => Host.reduce IntOp.andi x v reducesTo_S2x8192x2816_S_d0_1_2 h_S_) main_v2 main_c
  let main_c_0 : IVec S_ 1 := constantI S_ 1 1#1
  let main_v4 : IVec S_ 1 := andi main_c_0 main_v3
  let main_v5 : FVec F S5632x1024 .bf16 := Host.absf main_arg1
  let main_cst_1 : FVec F S_ .bf16 := constant S_ .bf16 0x7F80#16
  let main_v6 : FVec F S5632x1024 .bf16 := broadcastInDim S5632x1024 ![] bcast_S_S5632x1024 main_cst_1
  let main_v7 : IVec S5632x1024 1 := cmpf .olt main_v5 main_v6
  let main_c_2 : IVec S_ 1 := constantI S_ 1 1#1
  let main_v8 : IVec S_ 1 := (fun x v => Host.reduce IntOp.andi x v reducesTo_S5632x1024_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  main_v14
-- ==== Pre_finite_mix.lean ====
abbrev S8192x1536 : Shape := ⟨2, ![8192, 1536]⟩
abbrev S1536x1024 : Shape := ⟨2, ![1536, 1024]⟩
abbrev S8192x1024 : Shape := ⟨2, ![8192, 1024]⟩
abbrev S1024 : Shape := ⟨1, ![1024]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S1536x1024 : S_.BroadcastsInDim S1536x1024 (![] : Fin 0 → Fin S1536x1024.rank)
  reducesTo_S1536x1024_S_d0_1 : S1536x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S8192x1536 .bf16) (main_arg1 : FVec F S1536x1024 .bf16) (main_arg2 : FVec F S8192x1024 .f32) (main_arg3 : FVec F S1024 .f32) (main_arg4 : FVec F S8192x1024 .f32) : IVec S_ 1 :=
  let main_v0 : FVec F S8192x1536 .bf16 := Host.absf main_arg0
  let main_cst : FVec F S_ .bf16 := constant S_ .bf16 0x7F80#16
  let main_v1 : FVec F S8192x1536 .bf16 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_c_0 : IVec S_ 1 := constantI S_ 1 1#1
  let main_v4 : IVec S_ 1 := andi main_c_0 main_v3
  let main_v5 : FVec F S1536x1024 .bf16 := Host.absf main_arg1
  let main_cst_1 : FVec F S_ .bf16 := constant S_ .bf16 0x7F80#16
  let main_v6 : FVec F S1536x1024 .bf16 := broadcastInDim S1536x1024 ![] bcast_S_S1536x1024 main_cst_1
  let main_v7 : IVec S1536x1024 1 := cmpf .olt main_v5 main_v6
  let main_c_2 : IVec S_ 1 := constantI S_ 1 1#1
  let main_v8 : IVec S_ 1 := (fun x v => Host.reduce IntOp.andi x v reducesTo_S1536x1024_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Pre_finite_mixer.lean ====
abbrev S8192x1536 : Shape := ⟨2, ![8192, 1536]⟩
abbrev S8192x1024 : Shape := ⟨2, ![8192, 1024]⟩
abbrev S4x128x128 : Shape := ⟨3, ![4, 128, 128]⟩
abbrev S512 : Shape := ⟨1, ![512]⟩
abbrev S4x128 : Shape := ⟨2, ![4, 128]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_v29 : IVec S_ 1) (main_v32 : IVec S4x128 1) (main_c_12 : IVec S_ 1) : IVec S_ 1 :=
  let main_v33 : IVec S_ 1 := (fun x v => Host.reduce IntOp.andi x v reducesTo_S4x128_S_d0_1 h_S_) main_v32 main_c_12
  let main_v34 : IVec S_ 1 := andi main_v29 main_v33
  main_v34

def fn_part1 {F : FTy → Type} [FloatOps F] (main_arg4 : FVec F S512 .f32) (main_arg5 : FVec F S4x128x128 .f32) (main_arg6 : FVec F S4x128 .f32) (main_v14 : IVec S_ 1) (main_v15 : FVec F S512 .f32) (main_cst_5 : FVec F S_ .f32) : IVec S_ 1 :=
  let main_v16 : FVec F S512 .f32 := broadcastInDim S512 ![] bcast_S_S512 main_cst_5
  let main_v17 : IVec S512 1 := cmpf .olt main_v15 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v14 main_v18
  let main_v20 : FVec F S512 .f32 := Host.absf main_arg4
  let main_cst_7 : FVec F S_ .f32 := constant S_ .f32 0x7F800000#32
  let main_v21 : FVec F S512 .f32 := broadcastInDim S512 ![] bcast_S_S512 main_cst_7
  let main_v22 : IVec S512 1 := cmpf .olt main_v20 main_v21
  let main_c_8 : IVec S_ 1 := constantI S_ 1 1#1
  let main_v23 : IVec S_ 1 := (fun x v => Host.reduce IntOp.andi x v reducesTo_S512_S_d0 h_S_) main_v22 main_c_8
  let main_v24 : IVec S_ 1 := andi main_v19 main_v23
  let main_v25 : FVec F S4x128x128 .f32 := Host.absf main_arg5
  let main_cst_9 : FVec F S_ .f32 := constant S_ .f32 0x7F800000#32
  let main_v26 : FVec F S4x128x128 .f32 := broadcastInDim S4x128x128 ![] bcast_S_S4x128x128 main_cst_9
  let main_v27 : IVec S4x128x128 1 := cmpf .olt main_v25 main_v26
  let main_c_10 : IVec S_ 1 := constantI S_ 1 1#1
  let main_v28 : IVec S_ 1 := (fun x v => Host.reduce IntOp.andi x v reducesTo_S4x128x128_S_d0_1_2 h_S_) main_v27 main_c_10
  let main_v29 : IVec S_ 1 := andi main_v24 main_v28
  let main_v30 : FVec F S4x128 .f32 := Host.absf main_arg6
  let main_cst_11 : FVec F S_ .f32 := constant S_ .f32 0x7F800000#32
  let main_v31 : FVec F S4x128 .f32 := broadcastInDim S4x128 ![] bcast_S_S4x128 main_cst_11
  let main_v32 : IVec S4x128 1 := cmpf .olt main_v30 main_v31
  let main_c_12 : IVec S_ 1 := constantI S_ 1 1#1
  fn_part2 (F := F) main_v29 main_v32 main_c_12

def fn {F : FTy → Type} [FloatOps F] (main_arg0 : FVec F S8192x1536 .f32) (main_arg1 : FVec F S8192x1024 .f32) (main_arg2 : FVec F S4x128x128 .f32) (main_arg3 : FVec F S512 .f32) (main_arg4 : FVec F S512 .f32) (main_arg5 : FVec F S4x128x128 .f32) (main_arg6 : FVec F S4x128 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S4x128x128 .f32 := Host.absf main_arg2
  let main_cst_3 : FVec F S_ .f32 := constant S_ .f32 0x7F800000#32
  let main_v11 : FVec F S4x128x128 .f32 := broadcastInDim S4x128x128 ![] bcast_S_S4x128x128 main_cst_3
  let main_v12 : IVec S4x128x128 1 := cmpf .olt main_v10 main_v11
  let main_c_4 : IVec S_ 1 := constantI S_ 1 1#1
  let main_v13 : IVec S_ 1 := (fun x v => Host.reduce IntOp.andi x v reducesTo_S4x128x128_S_d0_1_2 h_S_) main_v12 main_c_4
  let main_v14 : IVec S_ 1 := andi main_v9 main_v13
  let main_v15 : FVec F S512 .f32 := Host.absf main_arg3
  let main_cst_5 : FVec F S_ .f32 := constant S_ .f32 0x7F800000#32
  fn_part1 (F := F) main_arg4 main_arg5 main_arg6 main_v14 main_v15 main_cst_5
-- ==== Pre_finite_proj.lean ====
abbrev S8192x1024 : Shape := ⟨2, ![8192, 1024]⟩
abbrev S1536x1024 : Shape := ⟨2, ![1536, 1024]⟩
abbrev S4x128x128 : Shape := ⟨3, ![4, 128, 128]⟩
abbrev S512 : Shape := ⟨1, ![512]⟩
abbrev S4x128 : Shape := ⟨2, ![4, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1536x1024 : S_.BroadcastsInDim S1536x1024 (![] : Fin 0 → Fin S1536x1024.rank)
  reducesTo_S1536x1024_S_d0_1 : S1536x1024.ReducesTo [0, 1] S_

variable [Facts]

def fn {F : FTy → Type} [FloatOps F] (main_arg0 : FVec F S8192x1024 .bf16) (main_arg1 : FVec F S1536x1024 .bf16) (main_arg2 : FVec F S4x128x128 .f32) (main_arg3 : FVec F S512 .f32) (main_arg4 : FVec F S512 .f32) (main_arg5 : FVec F S4x128x128 .f32) (main_arg6 : FVec F S4x128 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1536x1024 .bf16 := Host.absf main_arg1
  let main_cst_1 : FVec F S_ .bf16 := constant S_ .bf16 0x7F80#16
  let main_v6 : FVec F S1536x1024 .bf16 := broadcastInDim S1536x1024 ![] bcast_S_S1536x1024 main_cst_1
  let main_v7 : IVec S1536x1024 1 := cmpf .olt main_v5 main_v6
  let main_c_2 : IVec S_ 1 := constantI S_ 1 1#1
  let main_v8 : IVec S_ 1 := (fun x v => Host.reduce IntOp.andi x v reducesTo_S1536x1024_S_d0_1 h_S_) main_v7 main_c_2
  let main_v9 : IVec S_ 1 := andi main_v4 main_v8
  main_v9
-- ==== Pre_finite_rms.lean ====
abbrev S256x1024 : Shape := ⟨2, ![256, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S256x1024 .f32) (main_arg1 : FVec F S256x1024 .f32) (main_arg2 : FVec F S1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_c_0 : IVec S_ 1 := constantI S_ 1 1#1
  let main_v4 : IVec S_ 1 := andi main_c_0 main_v3
  let main_v5 : FVec F S256x1024 .f32 := Host.absf main_arg1
  let main_cst_1 : FVec F S_ .f32 := constant S_ .f32 0x7F800000#32
  let main_v6 : FVec F S256x1024 .f32 := broadcastInDim S256x1024 ![] bcast_S_S256x1024 main_cst_1
  let main_v7 : IVec S256x1024 1 := cmpf .olt main_v5 main_v6
  let main_c_2 : IVec S_ 1 := constantI S_ 1 1#1
  let main_v8 : IVec S_ 1 := (fun x v => Host.reduce IntOp.andi x v reducesTo_S256x1024_S_d0_1 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  main_v14
-- ==== Pre_finite_xattn.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S8192x1024 .bf16) (main_arg1 : FVec F S1024x1024 .bf16) (main_arg2 : FVec F S8192x1024 .f32) (main_arg3 : FVec F S1024 .f32) (main_arg4 : FVec F S8192x1024 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024x1024 .bf16 := Host.absf main_arg1
  let main_cst_1 : FVec F S_ .bf16 := constant S_ .bf16 0x7F80#16
  let main_v6 : FVec F S1024x1024 .bf16 := broadcastInDim S1024x1024 ![] bcast_S_S1024x1024 main_cst_1
  let main_v7 : IVec S1024x1024 1 := cmpf .olt main_v5 main_v6
  let main_c_2 : IVec S_ 1 := constantI S_ 1 1#1
  let main_v8 : IVec S_ 1 := (fun x v => Host.reduce IntOp.andi x v reducesTo_S1024x1024_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Rms.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S1x1024, .f32⟩
  | .hbm, ⟨4, _⟩ => ⟨S256x1024, .f32⟩
  | .hbm, ⟨5, _⟩ => ⟨S256x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v36 : BitVec 32 := Scalar.extui v1
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32 : BitVec 32 := 0#32
  let v1 : BitVec 1 := Scalar.cmpi .eq arg0 c0_i32
  let v_true : BitVec 1 := 1#1
  let v38 : BitVec 1 := Scalar.xori v1 v_true
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .bf16⟩
  | .hbm, ⟨49, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Attn.lean ====
abbrev S8192x1024 : Shape := ⟨2, ![8192, 1024]⟩
abbrev S256x1024 : Shape := ⟨2, ![256, 1024]⟩
abbrev S2048x1024 : Shape := ⟨2, ![2048, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S8192x1024 : Shape := ⟨2, ![8192, 1024]⟩
abbrev S256x1024 : Shape := ⟨2, ![256, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S1x4x256x256 : Shape := ⟨4, ![1, 4, 256, 256]⟩
abbrev S4x8192 : Shape := ⟨2, ![4, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S1x8192x4x256, .f32⟩
  | .hbm, ⟨8, _⟩ => ⟨S1x256x4x256, .f32⟩
  | .hbm, ⟨9, _⟩ => ⟨S1x256x4x256, .f32⟩
  | .hbm, ⟨10, _⟩ => ⟨S1x4x8192x256, .f32⟩
  | .hbm, ⟨11, _⟩ => ⟨S_, .f32⟩
  | .hbm, ⟨12, _⟩ => ⟨S1x4x8192x256, .f32⟩
  | .hbm, ⟨13, _⟩ => ⟨S1x4x8192x256, .f32⟩
  | .hbm, ⟨14, _⟩ => ⟨S_, .f32⟩
  | .hbm, ⟨15, _⟩ => ⟨S1x4x8192, .f32⟩
  | .hbm, ⟨16, _⟩ => ⟨S1x4x8192x1, .f32⟩
  | .hbm, ⟨17, _⟩ => ⟨S1x4x8192x256, .f32⟩
  | .hbm, ⟨18, _⟩ => ⟨S1x4x8192x256, .i1⟩
  | .hbm, ⟨19, _⟩ => ⟨S1x4x8192x256, .f32⟩
  | .hbm, ⟨20, _⟩ => ⟨S_, .f32⟩
  | .hbm, ⟨21, _⟩ => ⟨S1x4x8192, .f32⟩
  | .hbm, ⟨22, _⟩ => ⟨S_, .f32⟩
  | .hbm, ⟨23, _⟩ => ⟨S1x4x8192, .f32⟩
  | .hbm, ⟨24, _⟩ => ⟨S1x4x8192, .f32⟩
  | .hbm, ⟨25, _⟩ => ⟨S_, .f32⟩
  | .hbm, ⟨26, _⟩ => ⟨S1x4x8192, .f32⟩
  | .hbm, ⟨27, _⟩ => ⟨S1x4x8192, .i1⟩
  | .hbm, ⟨28, _⟩ => ⟨S_, .f32⟩
  | .hbm, ⟨29, _⟩ => ⟨S1x4x8192, .f32⟩
  | .hbm, ⟨30, _⟩ => ⟨S1x4x8192, .i1⟩
  | .hbm, ⟨31, _⟩ => ⟨S_, .f32⟩
  | .hbm, ⟨32, _⟩ => ⟨S1x4x8192, .f32⟩
  | .hbm, ⟨33, _⟩ => ⟨S_, .f32⟩
  | .hbm, ⟨34, _⟩ => ⟨S1x4x8192, .f32⟩
  | .hbm, ⟨35, _⟩ => ⟨S_, .f32⟩
  | .hbm, ⟨36, _⟩ => ⟨S1x4x8192, .f32⟩
  | .hbm, ⟨37, _⟩ => ⟨S1x4x8192, .f32⟩
  | .hbm, ⟨38, _⟩ => ⟨S1x4x8192, .f32⟩
  | .hbm, ⟨39, _⟩ => ⟨S1x4x8192x1, .f32⟩
  | .hbm, ⟨40, _⟩ => ⟨S1x4x8192x256, .f32⟩
  | .hbm, ⟨41, _⟩ => ⟨S1x4x8192x256, .f32⟩
  | .hbm, ⟨42, _⟩ => ⟨S1x4x8192x256, .f32⟩
  | .hbm, ⟨43, _⟩ => ⟨S_, .f32⟩
  | .hbm, ⟨44, _⟩ => ⟨S1x4x8192, .f32⟩
  | .hbm, ⟨45, _⟩ => ⟨S1x4x8192x1, .f32⟩
  | .hbm, ⟨46, _⟩ => ⟨S1x4x8192x256, .f32⟩
  | .hbm, ⟨47, _⟩ => ⟨S1x4x8192x256, .f32⟩
  | .hbm, ⟨48, _⟩ => ⟨S1x4x8192x1, .f32⟩
  | .hbm, ⟨49, _⟩ => ⟨S_, .f32⟩
  | .hbm, ⟨50, _⟩ => ⟨S1x4x8192x1, .f32⟩
  | .hbm, ⟨51, _⟩ => ⟨S1x4x8192x1, .f32⟩
  | .hbm, ⟨52, _⟩ => ⟨S1x4x256x8192, .f32⟩
  | .hbm, ⟨53, _⟩ => ⟨S1x8192x4x256, .f32⟩
  | .hbm, ⟨54, _⟩ => ⟨S8192x1024, .f32⟩
  | .hbm, ⟨55, _⟩ => ⟨S8192x1024, .f32⟩
  | .hbm, ⟨56, _⟩ => ⟨S1x8192x4x256, .f32⟩
  | .hbm, ⟨57, _⟩ => ⟨S1x4x256x8192, .f32⟩
  | .hbm, ⟨58, _⟩ => ⟨S1x4x8192x256, .f32⟩
  | .hbm, ⟨59, _⟩ => ⟨S1x4x256x256, .f32⟩
  | .hbm, ⟨60, _⟩ => ⟨S1x256x4x256, .f32⟩
  | .hbm, ⟨61, _⟩ => ⟨S1x4x8192x256, .f32⟩
  | .hbm, ⟨62, _⟩ => ⟨S1x4x8192x256, .f32⟩
  | .hbm, ⟨63, _⟩ => ⟨S1x4x8192x256, .f32⟩
  | .hbm, ⟨64, _⟩ => ⟨S_, .f32⟩
  | .hbm, ⟨65, _⟩ => ⟨S1x4x8192, .f32⟩
  | .hbm, ⟨66, _⟩ => ⟨S1x4x8192x1, .f32⟩
  | .hbm, ⟨67, _⟩ => ⟨S1x4x8192x1, .f32⟩
  | .hbm, ⟨68, _⟩ => ⟨S1x4x8192x256, .f32⟩
  | .hbm, ⟨69, _⟩ => ⟨S1x4x8192x256, .f32⟩
  | .hbm, ⟨70, _⟩ => ⟨S_, .f32⟩
  | .hbm, ⟨71, _⟩ => ⟨S4x8192, .f32⟩
  | .hbm, ⟨72, _⟩ => ⟨S1x4x8192, .f32⟩
  | .hbm, ⟨73, _⟩ => ⟨S1x4x8192x256, .f32⟩
  | .hbm, ⟨74, _⟩ => ⟨S1x4x8192x256, .f32⟩
  | .hbm, ⟨75, _⟩ => ⟨S1x4x8192x256, .f32⟩
  | .hbm, ⟨76, _⟩ => ⟨S_, .f32⟩
  | .hbm, ⟨77, _⟩ => ⟨S1x4x8192x256, .f32⟩
  | .hbm, ⟨78, _⟩ => ⟨S1x4x8192x256, .f32⟩
  | .hbm, ⟨79, _⟩ => ⟨S1x4x256x256, .f32⟩
  | .hbm, ⟨80, _⟩ => ⟨S1x256x4x256, .f32⟩
  | .hbm, ⟨81, _⟩ => ⟨S1x4x8192x256, .f32⟩
  | .hbm, ⟨82, _⟩ => ⟨S1x8192x4x256, .f32⟩
  | .hbm, ⟨83, _⟩ => ⟨S256x1024, .f32⟩
  | .hbm, ⟨84, _⟩ => ⟨S256x1024, .f32⟩
  | .hbm, ⟨85, _⟩ => ⟨S8192x1024, .f32⟩
  | .hbm, ⟨86, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Mixer.lean ====
abbrev S8192x1536 : Shape := ⟨2, ![8192, 1536]⟩
abbrev S8192x1024 : Shape := ⟨2, ![8192, 1024]⟩
abbrev S4x128x128 : Shape := ⟨3, ![4, 128, 128]⟩
abbrev S512 : Shape := ⟨1, ![512]⟩
abbrev S4x128 : Shape := ⟨2, ![4, 128]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S128x128 : Shape := ⟨2, ![128, 128]⟩
abbrev S512x1536 : Shape := ⟨2, ![512, 1536]⟩
abbrev S16x512 : Shape := ⟨2, ![16, 512]⟩
abbrev S512x1024 : Shape := ⟨2, ![512, 1024]⟩
abbrev S512x512 : Shape := ⟨2, ![512, 512]⟩
abbrev S512x1 : Shape := ⟨2, ![512, 1]⟩
abbrev S528x1 : Shape := ⟨2, ![528, 1]⟩
abbrev S528x512 : Shape := ⟨2, ![528, 512]⟩
abbrev S528x128 : Shape := ⟨2, ![528, 128]⟩
abbrev S512x128 : Shape := ⟨2, ![512, 128]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩

abbrev nBuf : Space → Nat
  | .hbm => 18
  | .vmem => 23
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S4x128x128, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S1x512, .f32⟩
  | .hbm, ⟨8, _⟩ => ⟨S1x512, .f32⟩
  | .hbm, ⟨9, _⟩ => ⟨S128x4, .f32⟩
  | .hbm, ⟨10, _⟩ => ⟨S128x4x128, .f32⟩
  | .hbm, ⟨11, _⟩ => ⟨S128x512, .f32⟩
  | .hbm, ⟨12, _⟩ => ⟨S8192x1536, .bf16⟩
  | .hbm, ⟨13, _⟩ => ⟨S4x128x128, .f32⟩
  | .hbm, ⟨14, _⟩ => ⟨S1x512, .f32⟩
  | .hbm, ⟨15, _⟩ => ⟨S1x512, .f32⟩
  | .hbm, ⟨16, _⟩ => ⟨S4x128x128, .f32⟩
  | .hbm, ⟨17, _⟩ => ⟨S128x128, .f32⟩
  | .local _ .vmem, ⟨0, _⟩ => ⟨S512x1536, .f32⟩
  | .local _ .vmem, ⟨1, _⟩ => ⟨S512x1536, .f32⟩
  | .local _ .vmem, ⟨2, _⟩ => ⟨S16x512, .f32⟩
  | .local _ .vmem, ⟨3, _⟩ => ⟨S16x512, .f32⟩
  | .local _ .vmem, ⟨4, _⟩ => ⟨S512x1024, .f32⟩
  | .local _ .vmem, ⟨5, _⟩ => ⟨S512x1024, .f32⟩
  | .local _ .vmem, ⟨6, _⟩ => ⟨S16x512, .f32⟩
  | .local _ .vmem, ⟨7, _⟩ => ⟨S16x512, .f32⟩
  | .local _ .vmem, ⟨8, _⟩ => ⟨S4x128x128, .f32⟩
  | .local _ .vmem, ⟨9, _⟩ => ⟨S1x512, .f32⟩
  | .local _ .vmem, ⟨10, _⟩ => ⟨S1x512, .f32⟩
  | .local _ .vmem, ⟨11, _⟩ => ⟨S4x128x128, .f32⟩
  | .local _ .vmem, ⟨12, _⟩ => ⟨S128x512, .f32⟩
  | .local _ .vmem, ⟨13, _⟩ => ⟨S512x1536, .bf16⟩
  | .local _ .vmem, ⟨14, _⟩ => ⟨S512x1536, .bf16⟩
  | .local _ .vmem, ⟨15, _⟩ => ⟨S4x128x128, .f32⟩
  | .local _ .vmem, ⟨16, _⟩ => ⟨S1x512, .f32⟩
  | .local _ .vmem, ⟨17, _⟩ => ⟨S1x512, .f32⟩
  | .local _ .vmem, ⟨18, _⟩ => ⟨S4x128x128, .f32⟩
  | .local _ .vmem, ⟨19, _⟩ => ⟨S128x128, .f32⟩
  | .local _ .vmem, ⟨20, _⟩ => ⟨S512x512, .f32⟩
  | .local _ .vmem, ⟨21, _⟩ => ⟨S512x512, .f32⟩
  | .local _ .vmem, ⟨22, _⟩ => ⟨S128x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_501 : BitVec 32 := 15#32
  let v850 : BitVec 1 := Scalar.cmpi .eq arg0 c15_i32_501
  let v851 : BitVec 32 := Scalar.extui v850
  let c0_i32_502 : BitVec 32 := 0#32
  let v852 : BitVec 1 := Scalar.cmpi .ne v851 c0_i32_502
  v852

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixerIdeal.lean ====
variable {F : FTy → Type} [FloatOps F] [Named F]
def κ : String → Option EReal := fun
  | "inv_sqrt_2pi" => some (((9465531 / 16777216) * (Real.sqrt 2)⁻¹ : ℝ) : EReal)
  | "sqrt_half" => some (((Real.sqrt 2)⁻¹ : ℝ) : EReal)
  | _ => none
-- ==== MixerRefIdeal.lean ====
abbrev S8192x1536 : Shape := ⟨2, ![8192, 1536]⟩
abbrev S8192x1024 : Shape := ⟨2, ![8192, 1024]⟩
abbrev S4x128x128 : Shape := ⟨3, ![4, 128, 128]⟩
abbrev S512 : Shape := ⟨1, ![512]⟩
abbrev S4x128 : Shape := ⟨2, ![4, 128]⟩
abbrev S1x8192x1536 : Shape := ⟨3, ![1, 8192, 1536]⟩
abbrev S1x8192x512 : Shape := ⟨3, ![1, 8192, 512]⟩
abbrev S1x8192x1024 : Shape := ⟨3, ![1, 8192, 1024]⟩
abbrev S_ : Shape := ⟨0, ![]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8194x128 : Shape := ⟨3, ![1, 8194, 128]⟩
abbrev S1x8192x128 : Shape := ⟨3, ![1, 8192, 128]⟩
abbrev S1x8192x1 : Shape := ⟨3, ![1, 8192, 1]⟩
abbrev S1x3x128 : Shape := ⟨3, ![1, 3, 128]⟩
abbrev S1x8196x128 : Shape := ⟨3, ![1, 8196, 128]⟩
abbrev S1x7x128 : Shape := ⟨3, ![1, 7, 128]⟩
abbrev S1x8200x128 : Shape := ⟨3, ![1, 8200, 128]⟩
abbrev S1x15x128 : Shape := ⟨3, ![1, 15, 128]⟩
abbrev S1x8208x128 : Shape := ⟨3, ![1, 8208, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1x8192 : Shape := ⟨2, ![1, 8192]⟩
abbrev S1x64x128x4x128 : Shape := ⟨5, ![1, 64, 128, 4, 128]⟩
abbrev S128x128 : Shape := ⟨2, ![128, 128]⟩
abbrev S1x128x128 : Shape := ⟨3, ![1, 128, 128]⟩
abbrev S4x1x64x128x128 : Shape := ⟨5, ![4, 1, 64, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S1x512 : Shape := ⟨2, ![1, 512]⟩
abbrev S4x1x8192x128 : Shape := ⟨4, ![4, 1, 8192, 128]⟩
abbrev S128x124 : Shape := ⟨2, ![128, 124]⟩

abbrev nBuf : Space → Nat
  | .hbm => 374
  | .vmem => 0
  | .smem => 0
  | _ => 0

abbrev hbmTy0_0 (i : Nat) : BufTy := match i % 128 with
  | 0 => ⟨S8192x1536, .f32⟩
  | 1 => ⟨S8192x1024, .f32⟩
  | 2 => ⟨S4x128x128, .f32⟩
  | 3 => ⟨S512, .f32⟩
  | 4 => ⟨S512, .f32⟩
  | 5 => ⟨S4x128x128, .f32⟩
  | 6 => ⟨S4x128, .f32⟩
  | 7 => ⟨S1x8192x1536, .f32⟩
  | 8 => ⟨S1x8192x512, .f32⟩
  | 9 => ⟨S1x8192x1024, .f32⟩
  | 10 => ⟨S_, .f32⟩
  | 11 => ⟨S1x8192x1024, .f32⟩
  | 12 => ⟨S1x8192x1024, .f32⟩
  | 13 => ⟨S1x8192x1024, .f32⟩
  | 14 => ⟨S_, .f32⟩
  | 15 => ⟨S_, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x8192x1024, .f32⟩
  | 21 => ⟨S1x8192x1024, .f32⟩
  | 22 => ⟨S1x8192x1024, .f32⟩
  | 23 => ⟨S1x8192x512, .f32⟩
  | 24 => ⟨S1x8192x512, .f32⟩
  | 25 => ⟨S_, .f32⟩
  | 26 => ⟨S1x1x512, .f32⟩
  | 27 => ⟨S_, .f32⟩
  | 28 => ⟨S_, .f32⟩
  | 29 => ⟨S1x8192x512, .f32⟩
  | 30 => ⟨S1x8193x512, .f32⟩
  | 31 => ⟨S_, .f32⟩
  | 32 => ⟨S1x1x512, .f32⟩
  | 33 => ⟨S8192, .i32⟩
  | 34 => ⟨S1x8193x128, .f32⟩
  | 35 => ⟨S_, .f32⟩
  | 36 => ⟨S1x1x128, .f32⟩
  | 37 => ⟨S1x8194x128, .f32⟩
  | 38 => ⟨S_, .f32⟩
  | 39 => ⟨S1x1x128, .f32⟩
  | 40 => ⟨S1x8192x128, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S1x8192x1, .f32⟩
  | 49 => ⟨S1x8192x128, .f32⟩
  | 50 => ⟨S1x8192x128, .f32⟩
  | 51 => ⟨S1x8192x128, .f32⟩
  | 52 => ⟨S1x8192x128, .f32⟩
  | 53 => ⟨S1x8192x128, .f32⟩
  | 54 => ⟨S1x8192x128, .f32⟩
  | 55 => ⟨S1x8193x128, .f32⟩
  | 56 => ⟨S_, .f32⟩
  | 57 => ⟨S1x3x128, .f32⟩
  | 58 => ⟨S1x8196x128, .f32⟩
  | 59 => ⟨S_, .f32⟩
  | 60 => ⟨S1x3x128, .f32⟩
  | 61 => ⟨S1x8192x128, .f32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .f32⟩
  | 69 => ⟨S1x8192x1, .f32⟩
  | 70 => ⟨S1x8192x128, .f32⟩
  | 71 => ⟨S1x8192x128, .f32⟩
  | 72 => ⟨S1x8192x128, .f32⟩
  | 73 => ⟨S1x8192x128, .f32⟩
  | 74 => ⟨S1x8192x128, .f32⟩
  | 75 => ⟨S1x8192x128, .f32⟩
  | 76 => ⟨S1x8193x128, .f32⟩
  | 77 => ⟨S_, .f32⟩
  | 78 => ⟨S1x7x128, .f32⟩
  | 79 => ⟨S1x8200x128, .f32⟩
  | 80 => ⟨S_, .f32⟩
  | 81 => ⟨S1x7x128, .f32⟩
  | 82 => ⟨S1x8192x128, .f32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S8192, .f32⟩
  | 90 => ⟨S1x8192x1, .f32⟩
  | 91 => ⟨S1x8192x128, .f32⟩
  | 92 => ⟨S1x8192x128, .f32⟩
  | 93 => ⟨S1x8192x128, .f32⟩
  | 94 => ⟨S1x8192x128, .f32⟩
  | 95 => ⟨S1x8192x128, .f32⟩
  | 96 => ⟨S1x8192x128, .f32⟩
  | 97 => ⟨S1x8193x128, .f32⟩
  | 98 => ⟨S_, .f32⟩
  | 99 => ⟨S1x15x128, .f32⟩
  | 100 => ⟨S1x8208x128, .f32⟩
  | 101 => ⟨S_, .f32⟩
  | 102 => ⟨S1x15x128, .f32⟩
  | 103 => ⟨S1x8192x128, .f32⟩
  | 104 => ⟨S_, .i32⟩
  | 105 => ⟨S8192, .i32⟩
  | 106 => ⟨S8192, .i32⟩
  | 107 => ⟨S_, .i32⟩
  | 108 => ⟨S8192, .i32⟩
  | 109 => ⟨S8192, .i32⟩
  | 110 => ⟨S8192, .f32⟩
  | 111 => ⟨S1x8192x1, .f32⟩
  | 112 => ⟨S1x8192x128, .f32⟩
  | 113 => ⟨S1x8192x128, .f32⟩
  | 114 => ⟨S1x8192x128, .f32⟩
  | 115 => ⟨S1x8192x128, .f32⟩
  | 116 => ⟨S1x8192x128, .f32⟩
  | 117 => ⟨S1x8192x128, .f32⟩
  | 118 => ⟨S1x8192x1x128, .f32⟩
  | 119 => ⟨S1x8192x1x128, .f32⟩
  | 120 => ⟨S1x8192x1x128, .f32⟩
  | 121 => ⟨S1x8192x1x128, .f32⟩
  | 122 => ⟨S1x8192x4x128, .f32⟩
  | 123 => ⟨S4x128x1x8192, .f32⟩
  | 124 => ⟨S1x8192x4x128, .f32⟩
  | 125 => ⟨S1x8192x512, .f32⟩
  | 126 => ⟨S1x1x512, .f32⟩
  | 127 => ⟨S1x8192x512, .f32⟩
  | _ => ⟨S8192x1536, .f32⟩

abbrev hbmTy0_1 (i : Nat) : BufTy := match i % 128 with
  | 0 => ⟨S1x8192x512, .f32⟩
  | 1 => ⟨S_, .f32⟩
  | 2 => ⟨S1x8192, .f32⟩
  | 3 => ⟨S1x8192x1, .f32⟩
  | 4 => ⟨S_, .f32⟩
  | 5 => ⟨S1x8192x1, .f32⟩
  | 6 => ⟨S1x8192x1, .f32⟩
  | 7 => ⟨S1x8192x512, .f32⟩
  | 8 => ⟨S1x8192x512, .f32⟩
  | 9 => ⟨S1x8192x512, .f32⟩
  | 10 => ⟨S_, .f32⟩
  | 11 => ⟨S1x8192, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S1x8192x1, .f32⟩
  | 18 => ⟨S1x8192x1, .f32⟩
  | 19 => ⟨S1x8192x1, .f32⟩
  | 20 => ⟨S1x8192x1, .f32⟩
  | 21 => ⟨S_, .f32⟩
  | 22 => ⟨S1x8192x1, .f32⟩
  | 23 => ⟨S1x8192x1, .f32⟩
  | 24 => ⟨S1x8192x512, .f32⟩
  | 25 => ⟨S1x8192x512, .f32⟩
  | 26 => ⟨S1x1x512, .f32⟩
  | 27 => ⟨S1x8192x512, .f32⟩
  | 28 => ⟨S1x8192x512, .f32⟩
  | 29 => ⟨S1x64x128x4x128, .f32⟩
  | 30 => ⟨S_, .i1⟩
  | 31 => ⟨S128x128, .i1⟩
  | 32 => ⟨S128x128, .i32⟩
  | 33 => ⟨S_, .i32⟩
  | 34 => ⟨S128x128, .i32⟩
  | 35 => ⟨S128x128, .i32⟩
  | 36 => ⟨S128x128, .i32⟩
  | 37 => ⟨S128x128, .i1⟩
  | 38 => ⟨S_, .i1⟩
  | 39 => ⟨S128x128, .i1⟩
  | 40 => ⟨S128x128, .i1⟩
  | 41 => ⟨S1x128x128, .i1⟩
  | 42 => ⟨S_, .f32⟩
  | 43 => ⟨S4x128x128, .f32⟩
  | 44 => ⟨S4x128x128, .i1⟩
  | 45 => ⟨S4x128x128, .f32⟩
  | 46 => ⟨S_, .f32⟩
  | 47 => ⟨S4x128x128, .f32⟩
  | 48 => ⟨S4x1x64x128x128, .f32⟩
  | 49 => ⟨S1x64x128x4x128, .f32⟩
  | 50 => ⟨S128x4, .f32⟩
  | 51 => ⟨S128x4x1, .f32⟩
  | 52 => ⟨S1x1x128x4x1, .f32⟩
  | 53 => ⟨S1x64x128x4x128, .f32⟩
  | 54 => ⟨S1x64x128x4x128, .f32⟩
  | 55 => ⟨S1x8192x512, .f32⟩
  | 56 => ⟨S1x8192x512, .f32⟩
  | 57 => ⟨S1x8192x1024, .f32⟩
  | 58 => ⟨S8192x1024, .f32⟩
  | 59 => ⟨S1x8192x1024, .f32⟩
  | 60 => ⟨S1x8192x512, .f32⟩
  | 61 => ⟨S1x8192x512, .f32⟩
  | 62 => ⟨S1x8192x512, .f32⟩
  | 63 => ⟨S1x8192x512, .f32⟩
  | 64 => ⟨S1x64x128x4x128, .f32⟩
  | 65 => ⟨S_, .f32⟩
  | 66 => ⟨S1x128x4, .f32⟩
  | 67 => ⟨S1x1x128x4x1, .f32⟩
  | 68 => ⟨S_, .f32⟩
  | 69 => ⟨S128x4, .f32⟩
  | 70 => ⟨S128x4x1, .f32⟩
  | 71 => ⟨S_, .f32⟩
  | 72 => ⟨S128x4, .f32⟩
  | 73 => ⟨S4x128, .f32⟩
  | 74 => ⟨S4x1x64x128x128, .f32⟩
  | 75 => ⟨S4x128x128, .f32⟩
  | 76 => ⟨S4x1x64x128x128, .f32⟩
  | 77 => ⟨S1x64x128x4x128, .f32⟩
  | 78 => ⟨S_, .f32⟩
  | 79 => ⟨S4x128x128, .f32⟩
  | 80 => ⟨S4x128x128, .f32⟩
  | 81 => ⟨S1x8192x512, .f32⟩
  | 82 => ⟨S1x8192x512, .f32⟩
  | 83 => ⟨S_, .f32⟩
  | 84 => ⟨S1x512, .f32⟩
  | 85 => ⟨S1x1x512, .f32⟩
  | 86 => ⟨S1x8192x512, .f32⟩
  | 87 => ⟨S1x8192x512, .f32⟩
  | 88 => ⟨S_, .f32⟩
  | 89 => ⟨S512, .f32⟩
  | 90 => ⟨S1x8192x512, .f32⟩
  | 91 => ⟨S_, .f32⟩
  | 92 => ⟨S1x8192, .f32⟩
  | 93 => ⟨S1x8192x1, .f32⟩
  | 94 => ⟨S1x8192x512, .f32⟩
  | 95 => ⟨S1x8192x512, .f32⟩
  | 96 => ⟨S1x8192x1, .f32⟩
  | 97 => ⟨S_, .f32⟩
  | 98 => ⟨S1x8192x1, .f32⟩
  | 99 => ⟨S1x8192x1, .f32⟩
  | 100 => ⟨S_, .f32⟩
  | 101 => ⟨S8192, .f32⟩
  | 102 => ⟨S1x8192, .f32⟩
  | 103 => ⟨S1x8192x512, .f32⟩
  | 104 => ⟨S1x8192x512, .f32⟩
  | 105 => ⟨S1x8192x512, .f32⟩
  | 106 => ⟨S1x8192x512, .f32⟩
  | 107 => ⟨S1x8192x512, .f32⟩
  | 108 => ⟨S1x8192x512, .f32⟩
  | 109 => ⟨S_, .f32⟩
  | 110 => ⟨S1x8192, .f32⟩
  | 111 => ⟨S1x8192x1, .f32⟩
  | 112 => ⟨S_, .f32⟩
  | 113 => ⟨S1x8192x1, .f32⟩
  | 114 => ⟨S1x8192x1, .f32⟩
  | 115 => ⟨S_, .f32⟩
  | 116 => ⟨S8192, .f32⟩
  | 117 => ⟨S1x8192, .f32⟩
  | 118 => ⟨S1x8192x512, .f32⟩
  | 119 => ⟨S1x8192x512, .f32⟩
  | 120 => ⟨S1x8192x512, .f32⟩
  | 121 => ⟨S_, .f32⟩
  | 122 => ⟨S1x512, .f32⟩
  | 123 => ⟨S1x1x512, .f32⟩
  | 124 => ⟨S1x8192x512, .f32⟩
  | 125 => ⟨S1x8192x512, .f32⟩
  | 126 => ⟨S_, .f32⟩
  | 127 => ⟨S512, .f32⟩
  | _ => ⟨S8192x1536, .f32⟩

abbrev hbmTy0_2 (i : Nat) : BufTy := match i % 128 with
  | 0 => ⟨S1x8192x4x128, .f32⟩
  | 1 => ⟨S4x128x1x8192, .f32⟩
  | 2 => ⟨S4x1x8192x128, .f32⟩
  | 3 => ⟨S1x8192x4x128, .f32⟩
  | 4 => ⟨S4x128x128, .f32⟩
  | 5 => ⟨S4x128x128, .f32⟩
  | 6 => ⟨S1x8192x1x128, .f32⟩
  | 7 => ⟨S1x8192x128, .f32⟩
  | 8 => ⟨S1x8192x1x128, .f32⟩
  | 9 => ⟨S1x8192x128, .f32⟩
  | 10 => ⟨S1x8192x1x128, .f32⟩
  | 11 => ⟨S1x8192x128, .f32⟩
  | 12 => ⟨S1x8192x1x128, .f32⟩
  | 13 => ⟨S1x8192x128, .f32⟩
  | 14 => ⟨S1x8192x128, .f32⟩
  | 15 => ⟨S_, .f32⟩
  | 16 => ⟨S1x8192x512, .f32⟩
  | 17 => ⟨S1x8192x128, .f32⟩
  | 18 => ⟨S1x8192x128, .f32⟩
  | 19 => ⟨S1x8192x128, .f32⟩
  | 20 => ⟨S_, .f32⟩
  | 21 => ⟨S1x8193x128, .f32⟩
  | 22 => ⟨S_, .f32⟩
  | 23 => ⟨S1x8208x128, .f32⟩
  | 24 => ⟨S1x15x128, .f32⟩
  | 25 => ⟨S1x8193x128, .f32⟩
  | 26 => ⟨S1x8193x128, .f32⟩
  | 27 => ⟨S_, .f32⟩
  | 28 => ⟨S1x8193x512, .f32⟩
  | 29 => ⟨S1x8192x128, .f32⟩
  | 30 => ⟨S_, .f32⟩
  | 31 => ⟨S1x8192x512, .f32⟩
  | 32 => ⟨S1x8192x512, .f32⟩
  | 33 => ⟨S1x8192x128, .f32⟩
  | 34 => ⟨S1x8192x128, .f32⟩
  | 35 => ⟨S1x8192x128, .f32⟩
  | 36 => ⟨S_, .f32⟩
  | 37 => ⟨S1x8193x128, .f32⟩
  | 38 => ⟨S_, .f32⟩
  | 39 => ⟨S1x8200x128, .f32⟩
  | 40 => ⟨S1x7x128, .f32⟩
  | 41 => ⟨S1x8193x128, .f32⟩
  | 42 => ⟨S1x8193x128, .f32⟩
  | 43 => ⟨S_, .f32⟩
  | 44 => ⟨S1x8193x512, .f32⟩
  | 45 => ⟨S1x8193x512, .f32⟩
  | 46 => ⟨S1x8192x128, .f32⟩
  | 47 => ⟨S_, .f32⟩
  | 48 => ⟨S1x8192x512, .f32⟩
  | 49 => ⟨S1x8192x512, .f32⟩
  | 50 => ⟨S1x8192x128, .f32⟩
  | 51 => ⟨S1x8192x128, .f32⟩
  | 52 => ⟨S1x8192x128, .f32⟩
  | 53 => ⟨S_, .f32⟩
  | 54 => ⟨S1x8193x128, .f32⟩
  | 55 => ⟨S_, .f32⟩
  | 56 => ⟨S1x8196x128, .f32⟩
  | 57 => ⟨S1x3x128, .f32⟩
  | 58 => ⟨S1x8193x128, .f32⟩
  | 59 => ⟨S1x8193x128, .f32⟩
  | 60 => ⟨S_, .f32⟩
  | 61 => ⟨S1x8193x512, .f32⟩
  | 62 => ⟨S1x8193x512, .f32⟩
  | 63 => ⟨S1x8192x128, .f32⟩
  | 64 => ⟨S_, .f32⟩
  | 65 => ⟨S1x8192x512, .f32⟩
  | 66 => ⟨S1x8192x512, .f32⟩
  | 67 => ⟨S1x8192x128, .f32⟩
  | 68 => ⟨S1x8192x128, .f32⟩
  | 69 => ⟨S1x8192x128, .f32⟩
  | 70 => ⟨S_, .f32⟩
  | 71 => ⟨S1x8193x128, .f32⟩
  | 72 => ⟨S_, .f32⟩
  | 73 => ⟨S1x8194x128, .f32⟩
  | 74 => ⟨S1x1x128, .f32⟩
  | 75 => ⟨S1x8193x128, .f32⟩
  | 76 => ⟨S1x8193x128, .f32⟩
  | 77 => ⟨S_, .f32⟩
  | 78 => ⟨S1x8193x512, .f32⟩
  | 79 => ⟨S1x8193x512, .f32⟩
  | 80 => ⟨S1x1x512, .f32⟩
  | 81 => ⟨S1x8192x512, .f32⟩
  | 82 => ⟨S_, .f32⟩
  | 83 => ⟨S_, .f32⟩
  | 84 => ⟨S1x8192x512, .f32⟩
  | 85 => ⟨S1x8192x512, .f32⟩
  | 86 => ⟨S_, .f32⟩
  | 87 => ⟨S1x8192x1024, .f32⟩
  | 88 => ⟨S_, .f32⟩
  | 89 => ⟨S1x8192x1024, .f32⟩
  | 90 => ⟨S1x8192x1024, .f32⟩
  | 91 => ⟨S1x8192x1024, .f32⟩
  | 92 => ⟨S1x8192x1024, .f32⟩
  | 93 => ⟨S_, .f32⟩
  | 94 => ⟨S1x8192x1024, .f32⟩
  | 95 => ⟨S1x8192x1024, .f32⟩
  | 96 => ⟨S1x8192x1024, .f32⟩
  | 97 => ⟨S1x8192x1024, .f32⟩
  | 98 => ⟨S1x8192x1024, .f32⟩
  | 99 => ⟨S1x8192x1024, .f32⟩
  | 100 => ⟨S_, .f32⟩
  | 101 => ⟨S1x8192x1024, .f32⟩
  | 102 => ⟨S1x8192x1024, .f32⟩
  | 103 => ⟨S1x8192x1024, .f32⟩
  | 104 => ⟨S_, .f32⟩
  | 105 => ⟨S1x8192x1536, .f32⟩
  | 106 => ⟨S_, .f32⟩
  | 107 => ⟨S1x8192x1536, .f32⟩
  | 108 => ⟨S1x8192x1536, .f32⟩
  | 109 => ⟨S_, .f32⟩
  | 110 => ⟨S8192x1536, .f32⟩
  | 111 => ⟨S128x4, .f32⟩
  | 112 => ⟨S_, .f32⟩
  | 113 => ⟨S128x124, .f32⟩
  | 114 => ⟨S128x128, .f32⟩
  | 115 => ⟨S8192x1536, .bf16⟩
  | 116 => ⟨S1x512, .f32⟩
  | 117 => ⟨S1x512, .f32⟩
  | _ => ⟨S8192x1536, .f32⟩

abbrev hbmTy (i : Nat) : BufTy := match i / 128 with
  | 0 => hbmTy0_0 i
  | 1 => hbmTy0_1 i
  | 2 => hbmTy0_2 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_call0_call0_cst : Ref sig .tc := ⟨.hbm, 27, rfl⟩
abbrev main_call0_call0_v0 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_18 : Ref sig .tc := ⟨.hbm, 129, rfl⟩
abbrev main_v100 : Ref sig .tc := ⟨.hbm, 130, rfl⟩
abbrev main_v101 : Ref sig .tc := ⟨.hbm, 131, rfl⟩
abbrev main_cst_19 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_20 : Ref sig .tc := ⟨.hbm, 138, rfl⟩
abbrev main_v107 : Ref sig .tc := ⟨.hbm, 139, rfl⟩
abbrev main_v108 : Ref sig .tc := ⟨.hbm, 140, rfl⟩
abbrev main_cst_21 : Ref sig .tc := ⟨.hbm, 141, rfl⟩
abbrev main_v109 : Ref sig .tc := ⟨.hbm, 142, rfl⟩
abbrev main_v110 : Ref sig .tc := ⟨.hbm, 143, rfl⟩
abbrev main_cst_22 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_23 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_24 : Ref sig .tc := ⟨.hbm, 158, rfl⟩
abbrev main_v123 : Ref sig .tc := ⟨.hbm, 159, rfl⟩
abbrev main_call1_v0 : Ref sig .tc := ⟨.hbm, 160, rfl⟩
abbrev main_call1_c : Ref sig .tc := ⟨.hbm, 161, rfl⟩
abbrev main_call1_v1 : Ref sig .tc := ⟨.hbm, 162, rfl⟩
abbrev main_call1_v2 : Ref sig .tc := ⟨.hbm, 163, rfl⟩
abbrev main_call1_v3 : Ref sig .tc := ⟨.hbm, 164, rfl⟩
abbrev main_call1_v4 : Ref sig .tc := ⟨.hbm, 165, rfl⟩
abbrev main_call1_c_0 : Ref sig .tc := ⟨.hbm, 166, rfl⟩
abbrev main_call1_v5 : Ref sig .tc := ⟨.hbm, 167, rfl⟩
abbrev main_v124 : Ref sig .tc := ⟨.hbm, 168, rfl⟩
abbrev main_v125 : Ref sig .tc := ⟨.hbm, 169, rfl⟩
abbrev main_cst_25 : Ref sig .tc := ⟨.hbm, 170, rfl⟩
abbrev main_v126 : Ref sig .tc := ⟨.hbm, 171, rfl⟩
abbrev main_v127_1 : Ref sig .tc := ⟨.hbm, 172, rfl⟩
abbrev main_v127_0 : Ref sig .tc := ⟨.hbm, 173, rfl⟩
abbrev main_call2_cst : Ref sig .tc := ⟨.hbm, 174, rfl⟩
abbrev main_v127_2 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_26 : Ref sig .tc := ⟨.hbm, 193, rfl⟩
abbrev main_v145 : Ref sig .tc := ⟨.hbm, 194, rfl⟩
abbrev main_v146 : Ref sig .tc := ⟨.hbm, 195, rfl⟩
abbrev main_cst_27 : Ref sig .tc := ⟨.hbm, 196, rfl⟩
abbrev main_v147 : Ref sig .tc := ⟨.hbm, 197, rfl⟩
abbrev main_v148 : Ref sig .tc := ⟨.hbm, 198, rfl⟩
abbrev main_cst_28 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_call3_cst : Ref sig .tc := ⟨.hbm, 206, rfl⟩
abbrev main_call3_v0 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_29 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_30 : Ref sig .tc := ⟨.hbm, 216, rfl⟩
abbrev main_v162 : Ref sig .tc := ⟨.hbm, 217, rfl⟩
abbrev main_v163 : Ref sig .tc := ⟨.hbm, 218, rfl⟩
abbrev main_cst_31 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_32 : Ref sig .tc := ⟨.hbm, 225, rfl⟩
abbrev main_v169 : Ref sig .tc := ⟨.hbm, 226, rfl⟩
abbrev main_v170 : Ref sig .tc := ⟨.hbm, 227, rfl⟩
abbrev main_cst_33 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_34 : Ref sig .tc := ⟨.hbm, 237, rfl⟩
abbrev main_v179 : Ref sig .tc := ⟨.hbm, 238, rfl⟩
abbrev main_v180 : Ref sig .tc := ⟨.hbm, 239, rfl⟩
abbrev main_cst_35 : Ref sig .tc := ⟨.hbm, 240, rfl⟩
abbrev main_v181 : Ref sig .tc := ⟨.hbm, 241, rfl⟩
abbrev main_v182 : Ref sig .tc := ⟨.hbm, 242, rfl⟩
abbrev main_cst_36 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_37 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_cst_38 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_cst_39 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_cst_40 : Ref sig .tc := ⟨.hbm, 276, rfl⟩
abbrev main_v212 : Ref sig .tc := ⟨.hbm, 277, rfl⟩
abbrev main_cst_41 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_42 : Ref sig .tc := ⟨.hbm, 283, rfl⟩
abbrev main_v217 : Ref sig .tc := ⟨.hbm, 284, rfl⟩
abbrev main_v218 : Ref sig .tc := ⟨.hbm, 285, rfl⟩
abbrev main_cst_43 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_44 : Ref sig .tc := ⟨.hbm, 292, rfl⟩
abbrev main_v224 : Ref sig .tc := ⟨.hbm, 293, rfl⟩
abbrev main_cst_45 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_cst_46 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_cst_47 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_cst_48 : Ref sig .tc := ⟨.hbm, 309, rfl⟩
abbrev main_v237 : Ref sig .tc := ⟨.hbm, 310, rfl⟩
abbrev main_cst_49 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_cst_50 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_cst_51 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_cst_52 : Ref sig .tc := ⟨.hbm, 326, rfl⟩
abbrev main_v250 : Ref sig .tc := ⟨.hbm, 327, rfl⟩
abbrev main_cst_53 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_cst_54 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_call4_call0_cst : Ref sig .tc := ⟨.hbm, 338, rfl⟩
abbrev main_call4_call0_v0 : Ref sig .tc := ⟨.hbm, 339, rfl⟩
abbrev main_v259 : Ref sig .tc := ⟨.hbm, 340, rfl⟩
abbrev main_v260 : Ref sig .tc := ⟨.hbm, 341, rfl⟩
abbrev main_cst_55 : Ref sig .tc := ⟨.hbm, 342, rfl⟩
abbrev main_v261 : Ref sig .tc := ⟨.hbm, 343, rfl⟩
abbrev main_cst_56 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_cst_57 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_cst_58 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_cst_59 : Ref sig .tc := ⟨.hbm, 360, rfl⟩
abbrev main_v275 : Ref sig .tc := ⟨.hbm, 361, rfl⟩
abbrev main_cst_60 : Ref sig .tc := ⟨.hbm, 362, rfl⟩
abbrev main_v276 : Ref sig .tc := ⟨.hbm, 363, rfl⟩
abbrev main_v277 : Ref sig .tc := ⟨.hbm, 364, rfl⟩
abbrev main_cst_61 : Ref sig .tc := ⟨.hbm, 365, rfl⟩
abbrev main_v278 : Ref sig .tc := ⟨.hbm, 366, rfl⟩
abbrev main_v279 : Ref sig .tc := ⟨.hbm, 367, rfl⟩
abbrev main_cst_62 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_v284 : Ref sig .tc := ⟨.hbm, 373, rfl⟩

abbrev nD : Nat := 1
abbrev τ : Topo := Topo.v7x

variable {F : FTy → Type} [FloatOps F]
-- ==== Conv.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S8192x2x2816 : Shape := ⟨3, ![8192, 2, 2816]⟩
abbrev S2x8192x2816 : Shape := ⟨3, ![2, 8192, 2816]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2x256x1408 : Shape := ⟨3, ![2, 256, 1408]⟩
abbrev S2x8x1408 : Shape := ⟨3, ![2, 8, 1408]⟩
abbrev S256x1408 : Shape := ⟨2, ![256, 1408]⟩
abbrev S8x1408 : Shape := ⟨2, ![8, 1408]⟩
abbrev S2x3x1408 : Shape := ⟨3, ![2, 3, 1408]⟩
abbrev S2x1x1408 : Shape := ⟨3, ![2, 1, 1408]⟩
abbrev S1x8x1408 : Shape := ⟨3, ![1, 8, 1408]⟩
abbrev S1x256x1408 : Shape := ⟨3, ![1, 256, 1408]⟩
abbrev S272x1408 : Shape := ⟨2, ![272, 1408]⟩
abbrev S1x1x1408 : Shape := ⟨3, ![1, 1, 1408]⟩
abbrev S1x1408 : Shape := ⟨2, ![1, 1408]⟩
abbrev S264x1408 : Shape := ⟨2, ![264, 1408]⟩
abbrev S1408 : Shape := ⟨1, ![1408]⟩

abbrev nBuf : Space → Nat
  | .hbm => 12
  | .vmem => 20
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S8192x2x2816, .f32⟩
  | .hbm, ⟨5, _⟩ => ⟨S2x8192x2816, .f32⟩
  | .hbm, ⟨6, _⟩ => ⟨S3x2x2816, .f32⟩
  | .hbm, ⟨7, _⟩ => ⟨S2x3x2816, .f32⟩
  | .hbm, ⟨8, _⟩ => ⟨S2x1x2816, .f32⟩
  | .hbm, ⟨9, _⟩ => ⟨S2x8192x2816, .bf16⟩
  | .hbm, ⟨10, _⟩ => ⟨S2x3x2816, .f32⟩
  | .hbm, ⟨11, _⟩ => ⟨S2x1x2816, .f32⟩
  | .local _ .vmem, ⟨0, _⟩ => ⟨S2x256x1408, .f32⟩
  | .local _ .vmem, ⟨1, _⟩ => ⟨S2x256x1408, .f32⟩
  | .local _ .vmem, ⟨2, _⟩ => ⟨S2x8x1408, .f32⟩
  | .local _ .vmem, ⟨3, _⟩ => ⟨S2x8x1408, .f32⟩
  | .local _ .vmem, ⟨4, _⟩ => ⟨S2x8x1408, .f32⟩
  | .local _ .vmem, ⟨5, _⟩ => ⟨S2x8x1408, .f32⟩
  | .local _ .vmem, ⟨6, _⟩ => ⟨S256x1408, .f32⟩
  | .local _ .vmem, ⟨7, _⟩ => ⟨S256x1408, .f32⟩
  | .local _ .vmem, ⟨8, _⟩ => ⟨S8x1408, .f32⟩
  | .local _ .vmem, ⟨9, _⟩ => ⟨S8x1408, .f32⟩
  | .local _ .vmem, ⟨10, _⟩ => ⟨S2x3x1408, .f32⟩
  | .local _ .vmem, ⟨11, _⟩ => ⟨S2x3x1408, .f32⟩
  | .local _ .vmem, ⟨12, _⟩ => ⟨S2x1x1408, .f32⟩
  | .local _ .vmem, ⟨13, _⟩ => ⟨S2x1x1408, .f32⟩
  | .local _ .vmem, ⟨14, _⟩ => ⟨S2x256x1408, .bf16⟩
  | .local _ .vmem, ⟨15, _⟩ => ⟨S2x256x1408, .bf16⟩
  | .local _ .vmem, ⟨16, _⟩ => ⟨S2x3x1408, .f32⟩
  | .local _ .vmem, ⟨17, _⟩ => ⟨S2x3x1408, .f32⟩
  | .local _ .vmem, ⟨18, _⟩ => ⟨S2x1x1408, .f32⟩
  | .local _ .vmem, ⟨19, _⟩ => ⟨S2x1x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvRefIdeal.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S1x8192x5632 : Shape := ⟨3, ![1, 8192, 5632]⟩
abbrev S_ : Shape := ⟨0, ![]⟩
abbrev S1x2x5632 : Shape := ⟨3, ![1, 2, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S1x8192x2816 : Shape := ⟨3, ![1, 8192, 2816]⟩
abbrev S8192x2x2816 : Shape := ⟨3, ![8192, 2, 2816]⟩
abbrev S2x8192x2816 : Shape := ⟨3, ![2, 8192, 2816]⟩
abbrev S3x2x2816 : Shape := ⟨3, ![3, 2, 2816]⟩
abbrev S2x3x2816 : Shape := ⟨3, ![2, 3, 2816]⟩
abbrev S2x1x2816 : Shape := ⟨3, ![2, 1, 2816]⟩

abbrev nBuf : Space → Nat
  | .hbm => 119
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S1x8192x5632, .f32⟩
  | .hbm, ⟨5, _⟩ => ⟨S_, .f32⟩
  | .hbm, ⟨6, _⟩ => ⟨S1x2x5632, .f32⟩
  | .hbm, ⟨7, _⟩ => ⟨S1x8194x5632, .f32⟩
  | .hbm, ⟨8, _⟩ => ⟨S_, .f32⟩
  | .hbm, ⟨9, _⟩ => ⟨S1x2x5632, .f32⟩
  | .hbm, ⟨10, _⟩ => ⟨S1x5632, .f32⟩
  | .hbm, ⟨11, _⟩ => ⟨S5632, .f32⟩
  | .hbm, ⟨12, _⟩ => ⟨S1x8192x5632, .f32⟩
  | .hbm, ⟨13, _⟩ => ⟨S1x1x5632, .f32⟩
  | .hbm, ⟨14, _⟩ => ⟨S1x8192x5632, .f32⟩
  | .hbm, ⟨15, _⟩ => ⟨S1x8192x5632, .f32⟩
  | .hbm, ⟨16, _⟩ => ⟨S_, .f32⟩
  | .hbm, ⟨17, _⟩ => ⟨S1x8192x5632, .f32⟩
  | .hbm, ⟨18, _⟩ => ⟨S1x8192x5632, .f32⟩
  | .hbm, ⟨19, _⟩ => ⟨S1x5632, .f32⟩
  | .hbm, ⟨20, _⟩ => ⟨S5632, .f32⟩
  | .hbm, ⟨21, _⟩ => ⟨S1x8192x5632, .f32⟩
  | .hbm, ⟨22, _⟩ => ⟨S1x1x5632, .f32⟩
  | .hbm, ⟨23, _⟩ => ⟨S1x8192x5632, .f32⟩
  | .hbm, ⟨24, _⟩ => ⟨S1x8192x5632, .f32⟩
  | .hbm, ⟨25, _⟩ => ⟨S1x8192x5632, .f32⟩
  | .hbm, ⟨26, _⟩ => ⟨S1x5632, .f32⟩
  | .hbm, ⟨27, _⟩ => ⟨S5632, .f32⟩
  | .hbm, ⟨28, _⟩ => ⟨S1x8192x5632, .f32⟩
  | .hbm, ⟨29, _⟩ => ⟨S1x1x5632, .f32⟩
  | .hbm, ⟨30, _⟩ => ⟨S1x8192x5632, .f32⟩
  | .hbm, ⟨31, _⟩ => ⟨S1x8192x5632, .f32⟩
  | .hbm, ⟨32, _⟩ => ⟨S1x8192x5632, .f32⟩
  | .hbm, ⟨33, _⟩ => ⟨S1x1x5632, .f32⟩
  | .hbm, ⟨34, _⟩ => ⟨S1x8192x5632, .f32⟩
  | .hbm, ⟨35, _⟩ => ⟨S1x8192x5632, .f32⟩
  | .hbm, ⟨36, _⟩ => ⟨S1x8192x2816, .f32⟩
  | .hbm, ⟨37, _⟩ => ⟨S1x8192x2816, .f32⟩
  | .hbm, ⟨38, _⟩ => ⟨S1x8192x2816, .f32⟩
  | .hbm, ⟨39, _⟩ => ⟨S1x8192x2816, .f32⟩
  | .hbm, ⟨40, _⟩ => ⟨S_, .f32⟩
  | .hbm, ⟨41, _⟩ => ⟨S1x8192x2816, .f32⟩
  | .hbm, ⟨42, _⟩ => ⟨S1x8192x2816, .f32⟩
  | .hbm, ⟨43, _⟩ => ⟨S_, .f32⟩
  | .hbm, ⟨44, _⟩ => ⟨S1x8192x2816, .f32⟩
  | .hbm, ⟨45, _⟩ => ⟨S1x8192x2816, .f32⟩
  | .hbm, ⟨46, _⟩ => ⟨S_, .f32⟩
  | .hbm, ⟨47, _⟩ => ⟨S1x8192x2816, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S8192x2816, .f32⟩
  | .hbm, ⟨53, _⟩ => ⟨S1x8192x2816, .f32⟩
  | .hbm, ⟨54, _⟩ => ⟨S1x8192x2816, .f32⟩
  | .hbm, ⟨55, _⟩ => ⟨S1x8192x2816, .f32⟩
  | .hbm, ⟨56, _⟩ => ⟨S1x8192x2816, .f32⟩
  | .hbm, ⟨57, _⟩ => ⟨S1x8192x2816, .f32⟩
  | .hbm, ⟨58, _⟩ => ⟨S1x8192x2816, .f32⟩
  | .hbm, ⟨59, _⟩ => ⟨S1x8192x2816, .f32⟩
  | .hbm, ⟨60, _⟩ => ⟨S1x8192x5632, .f32⟩
  | .hbm, ⟨61, _⟩ => ⟨S_, .f32⟩
  | .hbm, ⟨62, _⟩ => ⟨S1x5632, .f32⟩
  | .hbm, ⟨63, _⟩ => ⟨S1x1x5632, .f32⟩
  | .hbm, ⟨64, _⟩ => ⟨S_, .f32⟩
  | .hbm, ⟨65, _⟩ => ⟨S5632, .f32⟩
  | .hbm, ⟨66, _⟩ => ⟨S1x8192x5632, .f32⟩
  | .hbm, ⟨67, _⟩ => ⟨S1x8192x5632, .f32⟩
  | .hbm, ⟨68, _⟩ => ⟨S1x8192x5632, .f32⟩
  | .hbm, ⟨69, _⟩ => ⟨S_, .f32⟩
  | .hbm, ⟨70, _⟩ => ⟨S1x5632, .f32⟩
  | .hbm, ⟨71, _⟩ => ⟨S1x1x5632, .f32⟩
  | .hbm, ⟨72, _⟩ => ⟨S_, .f32⟩
  | .hbm, ⟨73, _⟩ => ⟨S5632, .f32⟩
  | .hbm, ⟨74, _⟩ => ⟨S_, .f32⟩
  | .hbm, ⟨75, _⟩ => ⟨S1x8194x5632, .f32⟩
  | .hbm, ⟨76, _⟩ => ⟨S1x5632, .f32⟩
  | .hbm, ⟨77, _⟩ => ⟨S_, .f32⟩
  | .hbm, ⟨78, _⟩ => ⟨S3x5632, .f32⟩
  | .hbm, ⟨79, _⟩ => ⟨S1x8192x5632, .f32⟩
  | .hbm, ⟨80, _⟩ => ⟨S1x8192x5632, .f32⟩
  | .hbm, ⟨81, _⟩ => ⟨S1x8192x5632, .f32⟩
  | .hbm, ⟨82, _⟩ => ⟨S_, .f32⟩
  | .hbm, ⟨83, _⟩ => ⟨S1x5632, .f32⟩
  | .hbm, ⟨84, _⟩ => ⟨S1x1x5632, .f32⟩
  | .hbm, ⟨85, _⟩ => ⟨S_, .f32⟩
  | .hbm, ⟨86, _⟩ => ⟨S5632, .f32⟩
  | .hbm, ⟨87, _⟩ => ⟨S_, .f32⟩
  | .hbm, ⟨88, _⟩ => ⟨S1x8194x5632, .f32⟩
  | .hbm, ⟨89, _⟩ => ⟨S1x8194x5632, .f32⟩
  | .hbm, ⟨90, _⟩ => ⟨S1x5632, .f32⟩
  | .hbm, ⟨91, _⟩ => ⟨S_, .f32⟩
  | .hbm, ⟨92, _⟩ => ⟨S3x5632, .f32⟩
  | .hbm, ⟨93, _⟩ => ⟨S3x5632, .f32⟩
  | .hbm, ⟨94, _⟩ => ⟨S1x8192x5632, .f32⟩
  | .hbm, ⟨95, _⟩ => ⟨S1x8192x5632, .f32⟩
  | .hbm, ⟨96, _⟩ => ⟨S1x8192x5632, .f32⟩
  | .hbm, ⟨97, _⟩ => ⟨S_, .f32⟩
  | .hbm, ⟨98, _⟩ => ⟨S1x5632, .f32⟩
  | .hbm, ⟨99, _⟩ => ⟨S1x1x5632, .f32⟩
  | .hbm, ⟨100, _⟩ => ⟨S_, .f32⟩
  | .hbm, ⟨101, _⟩ => ⟨S5632, .f32⟩
  | .hbm, ⟨102, _⟩ => ⟨S_, .f32⟩
  | .hbm, ⟨103, _⟩ => ⟨S1x8194x5632, .f32⟩
  | .hbm, ⟨104, _⟩ => ⟨S1x8194x5632, .f32⟩
  | .hbm, ⟨105, _⟩ => ⟨S1x5632, .f32⟩
  | .hbm, ⟨106, _⟩ => ⟨S_, .f32⟩
  | .hbm, ⟨107, _⟩ => ⟨S3x5632, .f32⟩
  | .hbm, ⟨108, _⟩ => ⟨S3x5632, .f32⟩
  | .hbm, ⟨109, _⟩ => ⟨S1x2x5632, .f32⟩
  | .hbm, ⟨110, _⟩ => ⟨S1x8192x5632, .f32⟩
  | .hbm, ⟨111, _⟩ => ⟨S_, .f32⟩
  | .hbm, ⟨112, _⟩ => ⟨S8192x5632, .f32⟩
  | .hbm, ⟨113, _⟩ => ⟨S8192x5632, .bf16⟩
  | .hbm, ⟨114, _⟩ => ⟨S8192x2x2816, .bf16⟩
  | .hbm, ⟨115, _⟩ => ⟨S2x8192x2816, .bf16⟩
  | .hbm, ⟨116, _⟩ => ⟨S3x2x2816, .f32⟩
  | .hbm, ⟨117, _⟩ => ⟨S2x3x2816, .f32⟩
  | .hbm, ⟨118, _⟩ => ⟨S2x1x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]
-- ==== Xattn.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v40 : BitVec 32 := Scalar.extui v3
  let c0_i32_19 : BitVec 32 := 0#32
  let v41 : BitVec 1 := Scalar.cmpi .ne v40 c0_i32_19
  v41

def k0_cond2 (i : grid0.Coords) : BitVec 1 :=
  let arg0 : BitVec 32 := BitVec.ofNat 32 (i 0).val
  let c0_i32 : BitVec 32 := 0#32
  let v3 : BitVec 1 := Scalar.cmpi .eq arg0 c0_i32
  let v_true : BitVec 1 := 1#1
  let v42 : BitVec 1 := Scalar.xori v3 v_true
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== XattnRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Mix.lean ====
abbrev S8192x1536 : Shape := ⟨2, ![8192, 1536]⟩
abbrev S1536x1024 : Shape := ⟨2, ![1536, 1024]⟩
abbrev S8192x1024 : Shape := ⟨2, ![8192, 1024]⟩
abbrev S1024 : Shape := ⟨1, ![1024]⟩
abbrev S1x1024 : Shape := ⟨2, ![1, 1024]⟩
abbrev S1024x1536 : Shape := ⟨2, ![1024, 1536]⟩
abbrev S1024x1024 : Shape := ⟨2, ![1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v40 : BitVec 32 := Scalar.extui v3
  let c0_i32_19 : BitVec 32 := 0#32
  let v41 : BitVec 1 := Scalar.cmpi .ne v40 c0_i32_19
  v41

def k0_cond2 (i : grid0.Coords) : BitVec 1 :=
  let arg0 : BitVec 32 := BitVec.ofNat 32 (i 0).val
  let c0_i32 : BitVec 32 := 0#32
  let v3 : BitVec 1 := Scalar.cmpi .eq arg0 c0_i32
  let v_true : BitVec 1 := 1#1
  let v42 : BitVec 1 := Scalar.xori v3 v_true
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== MixRefIdeal.lean ====
abbrev S8192x1536 : Shape := ⟨2, ![8192, 1536]⟩
abbrev S1536x1024 : Shape := ⟨2, ![1536, 1024]⟩
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1536x1024, .f32⟩
  | .hbm, ⟨6, _⟩ => ⟨S1024x1536, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1536, .f32⟩
  | .hbm, ⟨28, _⟩ => ⟨S8192x1536, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Ffn.lean ====
abbrev S2x8192x2816 : Shape := ⟨3, ![2, 8192, 2816]⟩
abbrev S5632x1024 : Shape := ⟨2, ![5632, 1024]⟩
abbrev S8192x1024 : Shape := ⟨2, ![8192, 1024]⟩
abbrev S1024 : Shape := ⟨1, ![1024]⟩
abbrev S1x1024 : Shape := ⟨2, ![1, 1024]⟩
abbrev S1x512x2816 : Shape := ⟨3, ![1, 512, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_10 : BitVec 32 := 0#32
  let v14 : BitVec 1 := Scalar.cmpi .eq arg0 c0_i32_10
  let v51 : BitVec 32 := Scalar.extui v14
  let c0_i32_27 : BitVec 32 := 0#32
  let v52 : BitVec 1 := Scalar.cmpi .ne v51 c0_i32_27
  v52

def k0_cond5 (i : grid0.Coords) : BitVec 1 :=
  let arg0 : BitVec 32 := BitVec.ofNat 32 (i 0).val
  let c0_i32_10 : BitVec 32 := 0#32
  let v14 : BitVec 1 := Scalar.cmpi .eq arg0 c0_i32_10
  let v_true : BitVec 1 := 1#1
  let v53 : BitVec 1 := Scalar.xori v14 v_true
  let v54 : BitVec 32 := Scalar.extui v53
  let c0_i32_28 : BitVec 32 := 0#32
  let v55 : BitVec 1 := Scalar.cmpi .ne v54 c0_i32_28
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== FfnRefIdeal.lean ====
abbrev S2x8192x2816 : Shape := ⟨3, ![2, 8192, 2816]⟩
abbrev S5632x1024 : Shape := ⟨2, ![5632, 1024]⟩
abbrev S8192x1024 : Shape := ⟨2, ![8192, 1024]⟩
abbrev S1024 : Shape := ⟨1, ![1024]⟩
abbrev S1024x5632 : Shape := ⟨2, ![1024, 5632]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S5632x1024, .f32⟩
  | .hbm, ⟨6, _⟩ => ⟨S1024x5632, .f32⟩
  | .hbm, ⟨7, _⟩ => ⟨S1x8192x2816, .bf16⟩
  | .hbm, ⟨8, _⟩ => ⟨S8192x2816, .bf16⟩
  | .hbm, ⟨9, _⟩ => ⟨S8192x2816, .f32⟩
  | .hbm, ⟨10, _⟩ => ⟨S1x8192x2816, .bf16⟩
  | .hbm, ⟨11, _⟩ => ⟨S8192x2816, .bf16⟩
  | .hbm, ⟨12, _⟩ => ⟨S8192x2816, .f32⟩
  | .hbm, ⟨13, _⟩ => ⟨S8192x5632, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x5632, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x128, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_16 : BitVec 32 := 0#32
  let v45 : BitVec 1 := Scalar.cmpi .ne v44 c0_i32_16
  v45

def k0_cond2 (i : grid0.Coords) : BitVec 1 :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .ne v47 c0_i32_18
  v48

def k0_cond3 (i : grid0.Coords) : BitVec 1 :=
  let arg0 : BitVec 32 := BitVec.ofNat 32 (i 0).val
  let c7_i32 : BitVec 32 := 7#32
  let v49 : BitVec 1 := Scalar.cmpi .eq arg0 c7_i32
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | .hbm, ⟨72, _⟩ => ⟨S1x1024, .f32⟩
  | .hbm, ⟨73, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AttnFwd.lean ====
abbrev S8192x1024 : Shape := ⟨2, ![8192, 1024]⟩
abbrev S256x1024 : Shape := ⟨2, ![256, 1024]⟩
abbrev S2048x1024 : Shape := ⟨2, ![2048, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S8192x1024 : Shape := ⟨2, ![8192, 1024]⟩
abbrev S256x1024 : Shape := ⟨2, ![256, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S1x8192x4x256, .f32⟩
  | .hbm, ⟨7, _⟩ => ⟨S1x256x4x256, .f32⟩
  | .hbm, ⟨8, _⟩ => ⟨S1x256x4x256, .f32⟩
  | .hbm, ⟨9, _⟩ => ⟨S1x4x8192x256, .f32⟩
  | .hbm, ⟨10, _⟩ => ⟨S_, .f32⟩
  | .hbm, ⟨11, _⟩ => ⟨S1x4x8192x256, .f32⟩
  | .hbm, ⟨12, _⟩ => ⟨S1x4x8192x256, .f32⟩
  | .hbm, ⟨13, _⟩ => ⟨S_, .f32⟩
  | .hbm, ⟨14, _⟩ => ⟨S1x4x8192, .f32⟩
  | .hbm, ⟨15, _⟩ => ⟨S_, .f32⟩
  | .hbm, ⟨16, _⟩ => ⟨S1x4x8192, .f32⟩
  | .hbm, ⟨17, _⟩ => ⟨S1x4x8192, .f32⟩
  | .hbm, ⟨18, _⟩ => ⟨S1x4x8192x1, .f32⟩
  | .hbm, ⟨19, _⟩ => ⟨S1x4x8192x256, .f32⟩
  | .hbm, ⟨20, _⟩ => ⟨S1x4x8192x256, .f32⟩
  | .hbm, ⟨21, _⟩ => ⟨S1x4x8192x256, .f32⟩
  | .hbm, ⟨22, _⟩ => ⟨S_, .f32⟩
  | .hbm, ⟨23, _⟩ => ⟨S1x4x8192, .f32⟩
  | .hbm, ⟨24, _⟩ => ⟨S1x4x8192x1, .f32⟩
  | .hbm, ⟨25, _⟩ => ⟨S1x4x8192x256, .f32⟩
  | .hbm, ⟨26, _⟩ => ⟨S1x4x8192x256, .f32⟩
  | .hbm, ⟨27, _⟩ => ⟨S1x4x256x8192, .f32⟩
  | .hbm, ⟨28, _⟩ => ⟨S1x8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== RmsFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== UpGate.lean ====
abbrev S8192x1024 : Shape := ⟨2, ![8192, 1024]⟩
abbrev S5632x1024 : Shape := ⟨2, ![5632, 1024]⟩
abbrev S3x5632 : Shape := ⟨2, ![3, 5632]⟩
abbrev S5632 : Shape := ⟨1, ![5632]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2x8192x2816 : Shape := ⟨3, ![2, 8192, 2816]⟩
abbrev S8192x2816 : Shape := ⟨2, ![8192, 2816]⟩
abbrev S256x1024 : Shape := ⟨2, ![256, 1024]⟩
abbrev S1408x1024 : Shape := ⟨2, ![1408, 1024]⟩
abbrev S2x3x1408 : Shape := ⟨3, ![2, 3, 1408]⟩
abbrev S2x1x1408 : Shape := ⟨3, ![2, 1, 1408]⟩
abbrev S2x256x1408 : Shape := ⟨3, ![2, 256, 1408]⟩
abbrev S256x1408 : Shape := ⟨2, ![256, 1408]⟩
abbrev S2x8x1408 : Shape := ⟨3, ![2, 8, 1408]⟩
abbrev S2x1024x1408 : Shape := ⟨3, ![2, 1024, 1408]⟩
abbrev S1024x1408 : Shape := ⟨2, ![1024, 1408]⟩
abbrev S1x1024x1408 : Shape := ⟨3, ![1, 1024, 1408]⟩
abbrev S1x8x1408 : Shape := ⟨3, ![1, 8, 1408]⟩
abbrev S8x1408 : Shape := ⟨2, ![8, 1408]⟩
abbrev S1x256x1408 : Shape := ⟨3, ![1, 256, 1408]⟩
abbrev S264x1408 : Shape := ⟨2, ![264, 1408]⟩
abbrev S1x1x1408 : Shape := ⟨3, ![1, 1, 1408]⟩
abbrev S1x1408 : Shape := ⟨2, ![1, 1408]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S3x5632, .f32⟩
  | .hbm, ⟨3, _⟩ => ⟨S5632, .f32⟩
  | .hbm, ⟨4, _⟩ => ⟨S3x2x2816, .f32⟩
  | .hbm, ⟨5, _⟩ => ⟨S2x3x2816, .f32⟩
  | .hbm, ⟨6, _⟩ => ⟨S2x1x2816, .f32⟩
  | .hbm, ⟨7, _⟩ => ⟨S2x8192x2816, .f32⟩
  | .hbm, ⟨8, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S2x3x1408, .f32⟩
  | .local _ .vmem, ⟨7, _⟩ => ⟨S2x3x1408, .f32⟩
  | .local _ .vmem, ⟨8, _⟩ => ⟨S2x1x1408, .f32⟩
  | .local _ .vmem, ⟨9, _⟩ => ⟨S2x1x1408, .f32⟩
  | .local _ .vmem, ⟨10, _⟩ => ⟨S2x256x1408, .f32⟩
  | .local _ .vmem, ⟨11, _⟩ => ⟨S2x256x1408, .f32⟩
  | .local _ .vmem, ⟨12, _⟩ => ⟨S256x1408, .bf16⟩
  | .local _ .vmem, ⟨13, _⟩ => ⟨S256x1408, .bf16⟩
  | .local _ .vmem, ⟨14, _⟩ => ⟨S2x256x1408, .f32⟩
  | .local _ .vmem, ⟨15, _⟩ => ⟨S2x8x1408, .f32⟩
  | .local _ .vmem, ⟨16, _⟩ => ⟨S2x1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![c0_i32.toNat, v0.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpGateRefIdeal.lean ====
abbrev S8192x1024 : Shape := ⟨2, ![8192, 1024]⟩
abbrev S5632x1024 : Shape := ⟨2, ![5632, 1024]⟩
abbrev S3x5632 : Shape := ⟨2, ![3, 5632]⟩
abbrev S5632 : Shape := ⟨1, ![5632]⟩
abbrev S1024x5632 : Shape := ⟨2, ![1024, 5632]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S1x8192x5632 : Shape := ⟨3, ![1, 8192, 5632]⟩
abbrev S_ : Shape := ⟨0, ![]⟩
abbrev S1x2x5632 : Shape := ⟨3, ![1, 2, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S1x8192x2816 : Shape := ⟨3, ![1, 8192, 2816]⟩
abbrev S8192x2816 : Shape := ⟨2, ![8192, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S3x5632, .f32⟩
  | .hbm, ⟨3, _⟩ => ⟨S5632, .f32⟩
  | .hbm, ⟨4, _⟩ => ⟨S8192x1024, .f32⟩
  | .hbm, ⟨5, _⟩ => ⟨S5632x1024, .f32⟩
  | .hbm, ⟨6, _⟩ => ⟨S1024x5632, .f32⟩
  | .hbm, ⟨7, _⟩ => ⟨S8192x5632, .f32⟩
  | .hbm, ⟨8, _⟩ => ⟨S8192x2x2816, .f32⟩
  | .hbm, ⟨9, _⟩ => ⟨S2x8192x2816, .f32⟩
  | .hbm, ⟨10, _⟩ => ⟨S1x8192x5632, .f32⟩
  | .hbm, ⟨11, _⟩ => ⟨S_, .f32⟩
  | .hbm, ⟨12, _⟩ => ⟨S1x2x5632, .f32⟩
  | .hbm, ⟨13, _⟩ => ⟨S1x8194x5632, .f32⟩
  | .hbm, ⟨14, _⟩ => ⟨S1x5632, .f32⟩
  | .hbm, ⟨15, _⟩ => ⟨S5632, .f32⟩
  | .hbm, ⟨16, _⟩ => ⟨S1x8192x5632, .f32⟩
  | .hbm, ⟨17, _⟩ => ⟨S1x1x5632, .f32⟩
  | .hbm, ⟨18, _⟩ => ⟨S1x8192x5632, .f32⟩
  | .hbm, ⟨19, _⟩ => ⟨S1x8192x5632, .f32⟩
  | .hbm, ⟨20, _⟩ => ⟨S_, .f32⟩
  | .hbm, ⟨21, _⟩ => ⟨S1x8192x5632, .f32⟩
  | .hbm, ⟨22, _⟩ => ⟨S1x8192x5632, .f32⟩
  | .hbm, ⟨23, _⟩ => ⟨S1x5632, .f32⟩
  | .hbm, ⟨24, _⟩ => ⟨S5632, .f32⟩
  | .hbm, ⟨25, _⟩ => ⟨S1x8192x5632, .f32⟩
  | .hbm, ⟨26, _⟩ => ⟨S1x1x5632, .f32⟩
  | .hbm, ⟨27, _⟩ => ⟨S1x8192x5632, .f32⟩
  | .hbm, ⟨28, _⟩ => ⟨S1x8192x5632, .f32⟩
  | .hbm, ⟨29, _⟩ => ⟨S1x8192x5632, .f32⟩
  | .hbm, ⟨30, _⟩ => ⟨S1x5632, .f32⟩
  | .hbm, ⟨31, _⟩ => ⟨S5632, .f32⟩
  | .hbm, ⟨32, _⟩ => ⟨S1x8192x5632, .f32⟩
  | .hbm, ⟨33, _⟩ => ⟨S1x1x5632, .f32⟩
  | .hbm, ⟨34, _⟩ => ⟨S1x8192x5632, .f32⟩
  | .hbm, ⟨35, _⟩ => ⟨S1x8192x5632, .f32⟩
  | .hbm, ⟨36, _⟩ => ⟨S1x8192x5632, .f32⟩
  | .hbm, ⟨37, _⟩ => ⟨S1x1x5632, .f32⟩
  | .hbm, ⟨38, _⟩ => ⟨S1x8192x5632, .f32⟩
  | .hbm, ⟨39, _⟩ => ⟨S1x8192x5632, .f32⟩
  | .hbm, ⟨40, _⟩ => ⟨S1x8192x2816, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S_, .f32⟩
  | .hbm, ⟨45, _⟩ => ⟨S1x8192x2816, .f32⟩
  | .hbm, ⟨46, _⟩ => ⟨S1x8192x2816, .f32⟩
  | .hbm, ⟨47, _⟩ => ⟨S_, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S8192x2816, .f32⟩
  | .hbm, ⟨53, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proj.lean ====
abbrev S8192x1024 : Shape := ⟨2, ![8192, 1024]⟩
abbrev S1536x1024 : Shape := ⟨2, ![1536, 1024]⟩
abbrev S4x128x128 : Shape := ⟨3, ![4, 128, 128]⟩
abbrev S512 : Shape := ⟨1, ![512]⟩
abbrev S4x128 : Shape := ⟨2, ![4, 128]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S8192x1536 : Shape := ⟨2, ![8192, 1536]⟩
abbrev S512x1024 : Shape := ⟨2, ![512, 1024]⟩
abbrev S512x1536 : Shape := ⟨2, ![512, 1536]⟩
abbrev S16x512 : Shape := ⟨2, ![16, 512]⟩
abbrev S1024x1536 : Shape := ⟨2, ![1024, 1536]⟩
abbrev S512x1 : Shape := ⟨2, ![512, 1]⟩
abbrev S512x512 : Shape := ⟨2, ![512, 512]⟩
abbrev S528x512 : Shape := ⟨2, ![528, 512]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S4x128x128, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S1x512, .f32⟩
  | .hbm, ⟨8, _⟩ => ⟨S1x512, .f32⟩
  | .hbm, ⟨9, _⟩ => ⟨S128x4, .f32⟩
  | .hbm, ⟨10, _⟩ => ⟨S128x4x128, .f32⟩
  | .hbm, ⟨11, _⟩ => ⟨S128x512, .f32⟩
  | .hbm, ⟨12, _⟩ => ⟨S8192x1536, .f32⟩
  | .hbm, ⟨13, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S4x128x128, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x512, .f32⟩
  | .local _ .vmem, ⟨8, _⟩ => ⟨S512x1536, .f32⟩
  | .local _ .vmem, ⟨9, _⟩ => ⟨S512x1536, .f32⟩
  | .local _ .vmem, ⟨10, _⟩ => ⟨S512x1024, .bf16⟩
  | .local _ .vmem, ⟨11, _⟩ => ⟨S512x1024, .bf16⟩
  | .local _ .vmem, ⟨12, _⟩ => ⟨S512x1536, .f32⟩
  | .local _ .vmem, ⟨13, _⟩ => ⟨S16x512, .f32⟩
  | .local _ .vmem, ⟨14, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjIdeal.lean ====
variable {F : FTy → Type} [FloatOps F] [Named F]
def κ : String → Option EReal := fun
  | "sqrt_half" => some (((Real.sqrt 2)⁻¹ : ℝ) : EReal)
  | _ => none
-- ==== ProjRefIdeal.lean ====
abbrev S8192x1024 : Shape := ⟨2, ![8192, 1024]⟩
abbrev S1536x1024 : Shape := ⟨2, ![1536, 1024]⟩
abbrev S4x128x128 : Shape := ⟨3, ![4, 128, 128]⟩
abbrev S512 : Shape := ⟨1, ![512]⟩
abbrev S4x128 : Shape := ⟨2, ![4, 128]⟩
abbrev S1024x1536 : Shape := ⟨2, ![1024, 1536]⟩
abbrev S8192x1536 : Shape := ⟨2, ![8192, 1536]⟩
abbrev S1x8192x1536 : Shape := ⟨3, ![1, 8192, 1536]⟩
abbrev S1x8192x512 : Shape := ⟨3, ![1, 8192, 512]⟩
abbrev S1x8192x1024 : Shape := ⟨3, ![1, 8192, 1024]⟩
abbrev S_ : Shape := ⟨0, ![]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8194x128 : Shape := ⟨3, ![1, 8194, 128]⟩
abbrev S1x8192x128 : Shape := ⟨3, ![1, 8192, 128]⟩
abbrev S1x8192x1 : Shape := ⟨3, ![1, 8192, 1]⟩
abbrev S1x3x128 : Shape := ⟨3, ![1, 3, 128]⟩
abbrev S1x8196x128 : Shape := ⟨3, ![1, 8196, 128]⟩
abbrev S1x7x128 : Shape := ⟨3, ![1, 7, 128]⟩
abbrev S1x8200x128 : Shape := ⟨3, ![1, 8200, 128]⟩
abbrev S1x15x128 : Shape := ⟨3, ![1, 15, 128]⟩
abbrev S1x8208x128 : Shape := ⟨3, ![1, 8208, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1x8192 : Shape := ⟨2, ![1, 8192]⟩
abbrev S1x64x128x4x128 : Shape := ⟨5, ![1, 64, 128, 4, 128]⟩
abbrev S128x128 : Shape := ⟨2, ![128, 128]⟩
abbrev S1x128x128 : Shape := ⟨3, ![1, 128, 128]⟩
abbrev S4x1x64x128x128 : Shape := ⟨5, ![4, 1, 64, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 194
  | .vmem => 0
  | .smem => 0
  | _ => 0

abbrev hbmTy0_0 (i : Nat) : BufTy := match i % 128 with
  | 0 => ⟨S8192x1024, .bf16⟩
  | 1 => ⟨S1536x1024, .bf16⟩
  | 2 => ⟨S4x128x128, .f32⟩
  | 3 => ⟨S512, .f32⟩
  | 4 => ⟨S512, .f32⟩
  | 5 => ⟨S4x128x128, .f32⟩
  | 6 => ⟨S4x128, .f32⟩
  | 7 => ⟨S8192x1024, .f32⟩
  | 8 => ⟨S1536x1024, .f32⟩
  | 9 => ⟨S1024x1536, .f32⟩
  | 10 => ⟨S8192x1536, .f32⟩
  | 11 => ⟨S1x8192x1536, .f32⟩
  | 12 => ⟨S1x8192x512, .f32⟩
  | 13 => ⟨S1x8192x1024, .f32⟩
  | 14 => ⟨S_, .f32⟩
  | 15 => ⟨S1x8192x1024, .f32⟩
  | 16 => ⟨S1x8192x1024, .f32⟩
  | 17 => ⟨S1x8192x1024, .f32⟩
  | 18 => ⟨S_, .f32⟩
  | 19 => ⟨S_, .f32⟩
  | 20 => ⟨S1x8192x1024, .f32⟩
  | 21 => ⟨S1x8192x1024, .f32⟩
  | 22 => ⟨S1x8192x1024, .f32⟩
  | 23 => ⟨S1x8192x1024, .f32⟩
  | 24 => ⟨S1x8192x512, .f32⟩
  | 25 => ⟨S1x8192x512, .f32⟩
  | 26 => ⟨S_, .f32⟩
  | 27 => ⟨S1x1x512, .f32⟩
  | 28 => ⟨S_, .f32⟩
  | 29 => ⟨S_, .f32⟩
  | 30 => ⟨S1x8192x512, .f32⟩
  | 31 => ⟨S1x8193x512, .f32⟩
  | 32 => ⟨S8192, .i32⟩
  | 33 => ⟨S1x8193x128, .f32⟩
  | 34 => ⟨S_, .f32⟩
  | 35 => ⟨S1x1x128, .f32⟩
  | 36 => ⟨S1x8194x128, .f32⟩
  | 37 => ⟨S1x8192x128, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .f32⟩
  | 45 => ⟨S1x8192x1, .f32⟩
  | 46 => ⟨S1x8192x128, .f32⟩
  | 47 => ⟨S1x8192x128, .f32⟩
  | 48 => ⟨S1x8192x128, .f32⟩
  | 49 => ⟨S1x8192x128, .f32⟩
  | 50 => ⟨S1x8192x128, .f32⟩
  | 51 => ⟨S1x8192x128, .f32⟩
  | 52 => ⟨S_, .f32⟩
  | 53 => ⟨S1x1x512, .f32⟩
  | 54 => ⟨S_, .f32⟩
  | 55 => ⟨S_, .f32⟩
  | 56 => ⟨S1x8192x512, .f32⟩
  | 57 => ⟨S1x8193x512, .f32⟩
  | 58 => ⟨S8192, .i32⟩
  | 59 => ⟨S1x8193x128, .f32⟩
  | 60 => ⟨S_, .f32⟩
  | 61 => ⟨S1x3x128, .f32⟩
  | 62 => ⟨S1x8196x128, .f32⟩
  | 63 => ⟨S1x8192x128, .f32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S8192, .f32⟩
  | 71 => ⟨S1x8192x1, .f32⟩
  | 72 => ⟨S1x8192x128, .f32⟩
  | 73 => ⟨S1x8192x128, .f32⟩
  | 74 => ⟨S1x8192x128, .f32⟩
  | 75 => ⟨S1x8192x128, .f32⟩
  | 76 => ⟨S1x8192x128, .f32⟩
  | 77 => ⟨S1x8192x128, .f32⟩
  | 78 => ⟨S_, .f32⟩
  | 79 => ⟨S1x1x512, .f32⟩
  | 80 => ⟨S_, .f32⟩
  | 81 => ⟨S_, .f32⟩
  | 82 => ⟨S1x8192x512, .f32⟩
  | 83 => ⟨S1x8193x512, .f32⟩
  | 84 => ⟨S8192, .i32⟩
  | 85 => ⟨S1x8193x128, .f32⟩
  | 86 => ⟨S_, .f32⟩
  | 87 => ⟨S1x7x128, .f32⟩
  | 88 => ⟨S1x8200x128, .f32⟩
  | 89 => ⟨S1x8192x128, .f32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .f32⟩
  | 97 => ⟨S1x8192x1, .f32⟩
  | 98 => ⟨S1x8192x128, .f32⟩
  | 99 => ⟨S1x8192x128, .f32⟩
  | 100 => ⟨S1x8192x128, .f32⟩
  | 101 => ⟨S1x8192x128, .f32⟩
  | 102 => ⟨S1x8192x128, .f32⟩
  | 103 => ⟨S1x8192x128, .f32⟩
  | 104 => ⟨S_, .f32⟩
  | 105 => ⟨S1x1x512, .f32⟩
  | 106 => ⟨S_, .f32⟩
  | 107 => ⟨S_, .f32⟩
  | 108 => ⟨S1x8192x512, .f32⟩
  | 109 => ⟨S1x8193x512, .f32⟩
  | 110 => ⟨S8192, .i32⟩
  | 111 => ⟨S1x8193x128, .f32⟩
  | 112 => ⟨S_, .f32⟩
  | 113 => ⟨S1x15x128, .f32⟩
  | 114 => ⟨S1x8208x128, .f32⟩
  | 115 => ⟨S1x8192x128, .f32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S8192, .f32⟩
  | 123 => ⟨S1x8192x1, .f32⟩
  | 124 => ⟨S1x8192x128, .f32⟩
  | 125 => ⟨S1x8192x128, .f32⟩
  | 126 => ⟨S1x8192x128, .f32⟩
  | 127 => ⟨S1x8192x128, .f32⟩
  | _ => ⟨S8192x1024, .bf16⟩

abbrev hbmTy0_1 (i : Nat) : BufTy := match i % 128 with
  | 0 => ⟨S1x8192x128, .f32⟩
  | 1 => ⟨S1x8192x128, .f32⟩
  | 2 => ⟨S1x8192x1x128, .f32⟩
  | 3 => ⟨S1x8192x1x128, .f32⟩
  | 4 => ⟨S1x8192x1x128, .f32⟩
  | 5 => ⟨S1x8192x1x128, .f32⟩
  | 6 => ⟨S1x8192x4x128, .f32⟩
  | 7 => ⟨S4x128x1x8192, .f32⟩
  | 8 => ⟨S1x8192x4x128, .f32⟩
  | 9 => ⟨S1x8192x512, .f32⟩
  | 10 => ⟨S1x1x512, .f32⟩
  | 11 => ⟨S1x8192x512, .f32⟩
  | 12 => ⟨S1x8192x512, .f32⟩
  | 13 => ⟨S_, .f32⟩
  | 14 => ⟨S1x8192, .f32⟩
  | 15 => ⟨S1x8192x1, .f32⟩
  | 16 => ⟨S_, .f32⟩
  | 17 => ⟨S1x8192x1, .f32⟩
  | 18 => ⟨S1x8192x1, .f32⟩
  | 19 => ⟨S1x8192x512, .f32⟩
  | 20 => ⟨S1x8192x512, .f32⟩
  | 21 => ⟨S1x8192x512, .f32⟩
  | 22 => ⟨S_, .f32⟩
  | 23 => ⟨S1x8192, .f32⟩
  | 24 => ⟨S1x8192x1, .f32⟩
  | 25 => ⟨S_, .f32⟩
  | 26 => ⟨S1x8192x1, .f32⟩
  | 27 => ⟨S1x8192x1, .f32⟩
  | 28 => ⟨S_, .f32⟩
  | 29 => ⟨S1x8192x1, .f32⟩
  | 30 => ⟨S1x8192x1, .f32⟩
  | 31 => ⟨S1x8192x1, .f32⟩
  | 32 => ⟨S1x8192x512, .f32⟩
  | 33 => ⟨S1x8192x512, .f32⟩
  | 34 => ⟨S1x1x512, .f32⟩
  | 35 => ⟨S1x8192x512, .f32⟩
  | 36 => ⟨S1x8192x512, .f32⟩
  | 37 => ⟨S1x64x128x4x128, .f32⟩
  | 38 => ⟨S_, .i1⟩
  | 39 => ⟨S128x128, .i1⟩
  | 40 => ⟨S128x128, .i32⟩
  | 41 => ⟨S_, .i32⟩
  | 42 => ⟨S128x128, .i32⟩
  | 43 => ⟨S128x128, .i32⟩
  | 44 => ⟨S128x128, .i32⟩
  | 45 => ⟨S128x128, .i1⟩
  | 46 => ⟨S_, .i1⟩
  | 47 => ⟨S128x128, .i1⟩
  | 48 => ⟨S128x128, .i1⟩
  | 49 => ⟨S1x128x128, .i1⟩
  | 50 => ⟨S_, .f32⟩
  | 51 => ⟨S4x128x128, .f32⟩
  | 52 => ⟨S4x128x128, .i1⟩
  | 53 => ⟨S4x128x128, .f32⟩
  | 54 => ⟨S4x1x64x128x128, .f32⟩
  | 55 => ⟨S1x64x128x4x128, .f32⟩
  | 56 => ⟨S128x4, .f32⟩
  | 57 => ⟨S128x4x1, .f32⟩
  | 58 => ⟨S1x1x128x4x1, .f32⟩
  | 59 => ⟨S1x64x128x4x128, .f32⟩
  | 60 => ⟨S1x64x128x4x128, .f32⟩
  | 61 => ⟨S1x8192x512, .f32⟩
  | 62 => ⟨S1x8192x512, .f32⟩
  | 63 => ⟨S1x8192x1024, .f32⟩
  | 64 => ⟨S8192x1024, .f32⟩
  | 65 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_call0_call0_cst : Ref sig .tc := ⟨.hbm, 28, rfl⟩
abbrev main_call0_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_call1_call0_cst : Ref sig .tc := ⟨.hbm, 54, rfl⟩
abbrev main_call1_call0_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_call2_call0_cst : Ref sig .tc := ⟨.hbm, 80, rfl⟩
abbrev main_call2_call0_v0 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_10 : Ref sig .tc := ⟨.hbm, 90, rfl⟩
abbrev main_v65 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_call3_call0_cst : Ref sig .tc := ⟨.hbm, 106, rfl⟩
abbrev main_call3_call0_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_14 : Ref sig .tc := ⟨.hbm, 116, rfl⟩
abbrev main_v85 : Ref sig .tc := ⟨.hbm, 117, rfl⟩
abbrev main_v86 : Ref sig .tc := ⟨.hbm, 118, rfl⟩
abbrev main_c_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_16 : Ref sig .tc := ⟨.hbm, 141, rfl⟩
abbrev main_v108 : Ref sig .tc := ⟨.hbm, 142, rfl⟩
abbrev main_v109 : Ref sig .tc := ⟨.hbm, 143, rfl⟩
abbrev main_cst_17 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_18 : Ref sig .tc := ⟨.hbm, 150, rfl⟩
abbrev main_v115 : Ref sig .tc := ⟨.hbm, 151, rfl⟩
abbrev main_v116 : Ref sig .tc := ⟨.hbm, 152, rfl⟩
abbrev main_cst_19 : Ref sig .tc := ⟨.hbm, 153, rfl⟩
abbrev main_v117 : Ref sig .tc := ⟨.hbm, 154, rfl⟩
abbrev main_v118 : Ref sig .tc := ⟨.hbm, 155, rfl⟩
abbrev main_cst_20 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_21 : Ref sig .tc := ⟨.hbm, 166, rfl⟩
abbrev main_v128 : Ref sig .tc := ⟨.hbm, 167, rfl⟩
abbrev main_call4_v0 : Ref sig .tc := ⟨.hbm, 168, rfl⟩
abbrev main_call4_c : Ref sig .tc := ⟨.hbm, 169, rfl⟩
abbrev main_call4_v1 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_c_0 : Ref sig .tc := ⟨.hbm, 174, rfl⟩
abbrev main_call4_v5 : Ref sig .tc := ⟨.hbm, 175, rfl⟩
abbrev main_v129 : Ref sig .tc := ⟨.hbm, 176, rfl⟩
abbrev main_v130 : Ref sig .tc := ⟨.hbm, 177, rfl⟩
abbrev main_cst_22 : Ref sig .tc := ⟨.hbm, 178, rfl⟩
abbrev main_v131 : Ref sig .tc := ⟨.hbm, 179, rfl⟩
abbrev main_call5_v0 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩

abbrev nD : Nat := 1
abbrev τ : Topo := Topo.v7x

variable {F : FTy → Type} [FloatOps F]
-- ==== GDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DAct.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DActRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Query.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== QueryRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GUp.lean ====
abbrev S2x8192x2816 : Shape := ⟨3, ![2, 8192, 2816]⟩
abbrev S8192x1024 : Shape := ⟨2, ![8192, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GUpRefIdeal.lean ====
abbrev S2x8192x2816 : Shape := ⟨3, ![2, 8192, 2816]⟩
abbrev S8192x1024 : Shape := ⟨2, ![8192, 1024]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S8192x1024, .f32⟩
  | .hbm, ⟨3, _⟩ => ⟨S1x8192x2816, .bf16⟩
  | .hbm, ⟨4, _⟩ => ⟨S8192x2816, .bf16⟩
  | .hbm, ⟨5, _⟩ => ⟨S8192x2816, .f32⟩
  | .hbm, ⟨6, _⟩ => ⟨S1x8192x2816, .bf16⟩
  | .hbm, ⟨7, _⟩ => ⟨S8192x2816, .bf16⟩
  | .hbm, ⟨8, _⟩ => ⟨S8192x2816, .f32⟩
  | .hbm, ⟨9, _⟩ => ⟨S8192x5632, .f32⟩
  | .hbm, ⟨10, _⟩ => ⟨S_, .f32⟩
  | .hbm, ⟨11, _⟩ => ⟨S1024x5632, .f32⟩
  | .hbm, ⟨12, _⟩ => ⟨S8192x5632, .f32⟩
  | .hbm, ⟨13, _⟩ => ⟨S5632x1024, .f32⟩
  | .hbm, ⟨14, _⟩ => ⟨S1024x5632, .f32⟩
  | .hbm, ⟨15, _⟩ => ⟨S5632x1024, .f32⟩
  | .hbm, ⟨16, _⟩ => ⟨S5632x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Adam.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamRefIdeal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Cols.lean ====
abbrev S3x5632 : Shape := ⟨2, ![3, 5632]⟩
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 2
  | .vmem => 2
  | .smem => 0
  | _ => 0

abbrev bufTy : (tb : Table) → Fin (tcTables nBuf tb) → BufTy
  | .hbm, ⟨0, _⟩ => ⟨S3x5632, .f32⟩
  | .hbm, ⟨1, _⟩ => ⟨S8x3x704, .f32⟩
  | .local _ .vmem, ⟨0, _⟩ => ⟨S3x5632, .f32⟩
  | .local _ .vmem, ⟨1, _⟩ => ⟨S8x3x704, .f32⟩
  | _, _ => ⟨S3x5632, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S3x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ColsRefIdeal.lean ====
abbrev S3x5632 : Shape := ⟨2, ![3, 5632]⟩
abbrev S3x8x704 : Shape := ⟨3, ![3, 8, 704]⟩
abbrev S8x3x704 : Shape := ⟨3, ![8, 3, 704]⟩

abbrev nBuf : Space → Nat
  | .hbm => 3
  | .vmem => 0
  | .smem => 0
  | _ => 0

abbrev bufTy : (tb : Table) → Fin (tcTables nBuf tb) → BufTy
  | .hbm, ⟨0, _⟩ => ⟨S3x5632, .f32⟩
  | .hbm, ⟨1, _⟩ => ⟨S3x8x704, .f32⟩
  | .hbm, ⟨2, _⟩ => ⟨S8x3x704, .f32⟩
  | _, _ => ⟨S3x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Blocks.lean ====
abbrev S8x3x704 : Shape := ⟨3, ![8, 3, 704]⟩
abbrev S3x5632 : Shape := ⟨2, ![3, 5632]⟩
abbrev S1x3x704 : Shape := ⟨3, ![1, 3, 704]⟩
abbrev S3x704 : Shape := ⟨2, ![3, 704]⟩

abbrev nBuf : Space → Nat
  | .hbm => 2
  | .vmem => 2
  | .smem => 0
  | _ => 0

abbrev bufTy : (tb : Table) → Fin (tcTables nBuf tb) → BufTy
  | .hbm, ⟨0, _⟩ => ⟨S8x3x704, .f32⟩
  | .hbm, ⟨1, _⟩ => ⟨S3x5632, .f32⟩
  | .local _ .vmem, ⟨0, _⟩ => ⟨S8x3x704, .f32⟩
  | .local _ .vmem, ⟨1, _⟩ => ⟨S3x5632, .f32⟩
  | _, _ => ⟨S8x3x704, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== BlocksRefIdeal.lean ====
abbrev S8x3x704 : Shape := ⟨3, ![8, 3, 704]⟩
abbrev S3x8x704 : Shape := ⟨3, ![3, 8, 704]⟩
abbrev S3x5632 : Shape := ⟨2, ![3, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x8x704, .f32⟩
  | .hbm, ⟨2, _⟩ => ⟨S3x5632, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Reals.lean ====
/-
  Real numbers inside the extended reals. A claim over finite arguments is an equation between extended reals all of whose
  intermediate values are real. These lemmas carry an expression of the extended reals at real arguments to the real number
  that it is (`coe_sum`, `div_coe`, `rsqrt_coe`, `exp_coe`, …), read the programs' float literals as real numbers, and
  turn the precondition's test `jnp.abs(a) < jnp.inf` into «every element of `a` is a real number» (`real_of_abs_lt`).
-/
module

public import Idealize.ShloMosaic.Lib.Pointwise
public import Idealize.ShloMosaic.Lib.ReduceAll
public import Idealize.ShloMosaic.Lib.Affine

@[expose] public section

noncomputable section

namespace Cert.Reals

open Idealize.ShloMosaic
open scoped BigOperators

/-- A sum of real numbers, taken in the extended reals, is the real sum. -/
theorem coe_sum {ι : Type} (s : Finset ι) (f : ι → ℝ) : (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

/-- The quotient of two real numbers, the divisor not zero, is the real quotient. -/
theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The inverse square root of a positive real number. -/
theorem rsqrt_coe {x : ℝ} (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 hx.le), if_neg hx.ne']

/-- The exponential of a real number. -/
theorem exp_coe (x : ℝ) : Ideal.exp (x : EReal) = ((Real.exp x : ℝ) : EReal) := rfl

/-- The word of `+∞`. -/
theorem ofBits_inf : Ideal.ofBits .f32 0x7F800000#32 = ⊤ := by simp [Ideal.ofBits, Ideal.ieee]

/-- The low-width word of `+∞`. -/
theorem ofBits_inf_bf16 : Ideal.ofBits .bf16 0x7F80#16 = ⊤ := by simp [Ideal.ofBits, Ideal.ieee]

/-- The greater of two real numbers. -/
theorem max_coe (x y : ℝ) : max (x : EReal) (y : EReal) = ((max x y : ℝ) : EReal) := (EReal.coe_strictMono.monotone.map_max (a := x) (b := y)).symm

theorem ofBits_1024 : Ideal.ofBits .f32 0x44800000#32 = ((1024 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

/-- The float word of `1e-6`, the `ε` of every norm, as a real number. -/
def eps : ℝ := 8796093 * (2 : ℝ) ^ (-43 : Int)

theorem eps_pos : 0 < eps := by unfold eps; positivity

theorem ofBits_eps : Ideal.ofBits .f32 0x358637BD#32 = ((eps : ℝ) : EReal) := by
  simp [Ideal.ofBits, Ideal.ieee, eps]

/-- An extended real whose absolute value is below `∞` is a real number. -/
theorem coe_toReal_of_abs_lt {x : EReal} (h : max x (-x) < ⊤) : ((x.toReal : ℝ) : EReal) = x := by
  refine EReal.coe_toReal (fun e => ?_) (fun e => ?_) <;> subst e <;> simp at h

/-- `jnp.all` of a comparison with `∞` that is true: the array is a real array. -/
theorem real_of_abs_lt {S : Shape} {φ : FTy} {u t : Shape} {axes : List (Fin S.rank)} [Subsingleton t.Idx]
    (x inf : FVec Ideal S φ) (hinf : ∀ i, inf i = (⊤ : EReal))
    (init : u.Idx → BitVec 1) (h : S.ReducesTo axes t) (hu : 0 < u.numel) (j : t.Idx)
    (e : Host.reduce IntOp.andi (cmpf .olt (Host.absf x) inf) init h hu j = 1#1) :
    ∃ r : S.Idx → ℝ, x = fun i => ((r i : ℝ) : EReal) := by
  refine ⟨fun i => EReal.toReal (x i), funext fun i => (coe_toReal_of_abs_lt ?_).symm⟩
  have hi := Host.reduce_andi_all _ init h hu j e i
  have := (Ideal.cmp_olt_eq_one _ _).1 hi
  rw [hinf i] at this
  exact this

/-- A scalar has one index. -/
instance : Subsingleton (⟨0, ![]⟩ : Shape).Idx := ⟨fun _ _ => funext fun k => k.elim0⟩

end Cert.Reals

end
-- ==== Proof.Norm.lean ====
/-
  The gradient of RMSNorm along one row of 1024 numbers. `rinv` is the reciprocal root mean square, `dx` the row's
  gradient as the kernels write it by hand, `dxChain` the same gradient as the chain rule gives it, operation by operation
  through the mean, the root and the product. `dx_eq_chain`: over real numbers they are equal.
-/
module

public import proofs.«01_k».proof.Proof.Reals

@[expose] public section

noncomputable section

namespace Cert.Norm

open Idealize.ShloMosaic Cert.Reals
open scoped BigOperators

variable {n : ℕ}

/-- The mean square of a row plus `ε`. -/
def ms (x : Fin n → EReal) : EReal :=
  Ideal.div (∑ k, x k * x k) (Ideal.ofBits .f32 0x44800000#32) + Ideal.ofBits .f32 0x358637BD#32

/-- The reciprocal root mean square of a row. -/
def rinv (x : Fin n → EReal) : EReal := Ideal.rsqrt (ms x)

/-- The gradient of a row `x` at the cotangent `a` (already times the gain), as the kernels write it. -/
def dx (x a : Fin n → EReal) (l : Fin n) : EReal :=
  rinv x * a l - x l * (rinv x * rinv x * rinv x * Ideal.div (∑ k, a k * x k) (Ideal.ofBits .f32 0x44800000#32))

/-- The cotangent that reaches the sum of squares. -/
def dsq (x a : Fin n → EReal) : EReal :=
  Ideal.div ((∑ k, x k * a k) * (Ideal.ofBits .f32 0xBF000000#32 * Ideal.div (rinv x) (ms x))) (Ideal.ofBits .f32 0x44800000#32)

/-- The gradient of a row as the chain rule gives it. -/
def dxChain (x a : Fin n → EReal) (l : Fin n) : EReal := a l * rinv x + x l * dsq x a + dsq x a * x l

/-- The mean square of a real row plus `ε`, a real number. -/
def msR (x : Fin n → ℝ) : ℝ := (∑ k, x k * x k) / 1024 + eps

theorem msR_pos (x : Fin n → ℝ) : 0 < msR x :=
  add_pos_of_nonneg_of_pos (div_nonneg (Finset.sum_nonneg fun k _ => mul_self_nonneg _) (by norm_num)) eps_pos

theorem ms_coe (x : Fin n → ℝ) : ms (fun k => (x k : EReal)) = (msR x : EReal) := by
  simp only [ms, msR, ofBits_1024, ofBits_eps, ← EReal.coe_mul, coe_sum, div_coe _ (by norm_num : (1024 : ℝ) ≠ 0),
    ← EReal.coe_add]

/-- The reciprocal root mean square of a real row. -/
def rinvR (x : Fin n → ℝ) : ℝ := (Real.sqrt (msR x))⁻¹

theorem rinv_coe (x : Fin n → ℝ) : rinv (fun k => (x k : EReal)) = (rinvR x : EReal) := by
  rw [rinv, ms_coe, rsqrt_coe (msR_pos x), rinvR]

theorem rinvR_sq (x : Fin n → ℝ) : rinvR x * rinvR x = (msR x)⁻¹ := by
  rw [rinvR, ← mul_inv, Real.mul_self_sqrt (msR_pos x).le]

/-- The gradient of a real row. -/
def dxR (x a : Fin n → ℝ) (l : Fin n) : ℝ :=
  rinvR x * a l - x l * (rinvR x * rinvR x * rinvR x * ((∑ k, a k * x k) / 1024))

theorem dx_coe (x a : Fin n → ℝ) (l : Fin n) : dx (fun k => (x k : EReal)) (fun k => (a k : EReal)) l = (dxR x a l : EReal) := by
  simp only [dx, dxR, rinv_coe, ofBits_1024, ← EReal.coe_mul, coe_sum, div_coe _ (by norm_num : (1024 : ℝ) ≠ 0),
    ← EReal.coe_sub]

theorem dsq_coe (x a : Fin n → ℝ) : dsq (fun k => (x k : EReal)) (fun k => (a k : EReal))
    = ((∑ k, x k * a k) * (-(1 / 2) * (rinvR x / msR x)) / 1024 : ℝ) := by
  simp only [dsq, rinv_coe, ms_coe, ofBits_1024, ofBits_neg_half, ← EReal.coe_mul, coe_sum,
    div_coe _ (by norm_num : (1024 : ℝ) ≠ 0), div_coe _ (msR_pos x).ne']

theorem dxChain_coe (x a : Fin n → ℝ) (l : Fin n) :
    dxChain (fun k => (x k : EReal)) (fun k => (a k : EReal)) l = (dxR x a l : EReal) := by
  simp only [dxChain, rinv_coe, dsq_coe, ← EReal.coe_mul, ← EReal.coe_add]
  congr 1
  rw [dxR, rinvR_sq, div_eq_mul_inv (rinvR x), Finset.sum_congr rfl fun k _ => mul_comm (x k) (a k)]
  ring

/-- Over real numbers the hand-written gradient is the chain rule's. -/
theorem dx_eq_chain (x a : Fin n → EReal) (hx : ∃ r : Fin n → ℝ, x = fun k => (r k : EReal))
    (ha : ∃ r : Fin n → ℝ, a = fun k => (r k : EReal)) (l : Fin n) : dx x a l = dxChain x a l := by
  obtain ⟨x, rfl⟩ := hx
  obtain ⟨a, rfl⟩ := ha
  rw [dx_coe, dxChain_coe]

end Cert.Norm

end
-- ==== Proof.Rms.lean ====
/-
  The gradient of one RMSNorm over 256 rows of 1024 numbers: the kernel's three results (the rows' gradient, the same in
  the low width, the gain's gradient) against the reference's, value by value. The kernel runs one point whose blocks are
  the whole arrays.
-/
module

public import proofs.«01_k».proof.Defs
public import proofs.«01_k».proof.Proof.Norm
public import proofs.«01_k».proof.Proof.Gen.Rms.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.Gen.Pre_finite_rms
public import Idealize.ShloMosaic.Lib.Pipeline.ValueKit

@[expose] public section

set_option maxRecDepth 16384

noncomputable section

namespace Cert.RmsValue

open Idealize.ShloMosaic Idealize.ShloMosaic.TcCoe
open Cert.RmsIdeal Cert.RmsIdeal.Gen

/-- The row gradient the kernel writes. -/
theorem pay3 (y x : Vec Ideal S256x1024 .f32) (g : Vec Ideal S1x1024 .f32) (r : Fin 256) (l : Fin 1024) :
    k0_pay3 y x g (ix2 r l) = Norm.dx (fun k => x (ix2 r k)) (fun k => y (ix2 r k) * g (ix2 0 k)) l := by
  pointwise [k0_pay3, k0_pay2]
  rfl

/-- The gain gradient the kernel writes. -/
theorem pay5 (y x : Vec Ideal S256x1024 .f32) (u : Fin 1) (l : Fin 1024) :
    k0_pay5 y x (ix2 u l) = ∑ r : Fin 256, y (ix2 r l) * (x (ix2 r l) * Norm.rinv fun k => x (ix2 r k)) := by
  pointwise [k0_pay5, k0_pay2]
  rfl

section Reference

open RmsRefIdeal.Read

variable (h d : FVec Ideal S256x1024 .f32) (g : FVec Ideal S1024 .f32)

/-- The reference's mean square plus `ε`. -/
theorem ref_ms (r : Fin 256) (u : Fin 1) : val_main_v6 (F := Ideal) h (ix2 r u) = Norm.ms (fun k => h (ix2 r k)) := by
  unfold val_main_v6 val_main_v5 val_main_v4 val_main_v3 val_main_v2 val_main_v1 val_main_v0 val_main_cst val_main_cst_0
    val_main_cst_1
  pointwise
  rfl

/-- The reference's reciprocal root. -/
theorem ref_rinv (r : Fin 256) (u : Fin 1) : val_main_v7 (F := Ideal) h (ix2 r u) = Norm.rinv (fun k => h (ix2 r k)) := by
  unfold val_main_v7
  pointwise
  rw [ref_ms]
  rfl

/-- The reference's cotangent of the sum of squares, spread over the row. -/
theorem ref_dsq (r : Fin 256) (l : Fin 1024) : val_main_v31 (F := Ideal) h d g (ix2 r l)
    = Norm.dsq (fun k => h (ix2 r k)) (fun k => d (ix2 r k) * g (ix1 k)) := by
  unfold val_main_v31 val_main_v30 val_main_v29 val_main_v28 val_main_v27 val_main_v24 val_main_v23 val_main_v22
    val_main_v20 val_main_v19 val_main_v13 val_main_v10 val_main_v9 val_main_v8 val_main_cst_2 val_main_cst_5
    val_main_cst_6 val_main_cst_7
  pointwise
  simp only [ref_rinv, ref_ms, Fin.sum_univ_one]
  rfl

/-- The reference's row gradient. -/
theorem ref_dx (r : Fin 256) (l : Fin 1024) : val_main_v35 (F := Ideal) h d g (ix2 r l)
    = Norm.dxChain (fun k => h (ix2 r k)) (fun k => d (ix2 r k) * g (ix1 k)) l := by
  unfold val_main_v35 val_main_v34 val_main_v33 val_main_v32 val_main_v26 val_main_v25 val_main_v20 val_main_v19
    val_main_v13
  pointwise
  simp only [ref_rinv, ref_dsq]
  rfl

/-- The reference's gain gradient. -/
theorem ref_dg (u : Fin 1) (l : Fin 1024) : val_main_v37 (F := Ideal) h d (ix2 u l)
    = ∑ r : Fin 256, (h (ix2 r l) * Norm.rinv fun k => h (ix2 r k)) * d (ix2 r l) := by
  unfold val_main_v37 val_main_v21 val_main_v18 val_main_v17 val_main_v16 val_main_v12 val_main_v11 val_main_cst_3
    val_main_cst_4
  pointwise
  simp only [ref_rinv, Fin.sum_univ_one]

end Reference

/-- Every window's block is its whole array. -/
theorem idx : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 := by decide +kernel

variable (m : (ℓ : Loc nD τ sig) → Buf (Elt Ideal) ℓ) (c : Dev nD)

/-- The rows. -/
abbrev H : FVec Ideal S256x1024 .f32 := m ((c.tc : Thread nD τ).loc main_arg0)

/-- The cotangent of the normed rows. -/
abbrev D : FVec Ideal S256x1024 .f32 := m ((c.tc : Thread nD τ).loc main_arg1)

/-- The gain. -/
abbrev G : FVec Ideal S1024 .f32 := m ((c.tc : Thread nD τ).loc main_arg2)

theorem iblk0 (t : Fin cfg0.N) (r : Fin 256) (l : Fin 1024) : iblk m c 0 t (ix2 r l) = H m c (ix2 r l) := by
  blk_ext [iblk, V, idx t]

theorem iblk1 (t : Fin cfg0.N) (r : Fin 256) (l : Fin 1024) : iblk m c 1 t (ix2 r l) = D m c (ix2 r l) := by
  blk_ext [iblk, V, idx t]

theorem iblk2 (t : Fin cfg0.N) (r : Fin 1) (l : Fin 1024) : iblk m c 2 t (ix2 r l) = G m c (ix1 l) := by
  blk_ext! [iblk, V, idx t]

/-- Under the precondition the three arguments are arrays of reals. -/
theorem reals (hpre : Pre_RmsIdeal_finite_rms (hPre_finite_rms := Pre_finite_rms.Gen.facts) m) :
    (∃ r : S256x1024.Idx → ℝ, H m c = fun i => (r i : EReal)) ∧ (∃ r : S256x1024.Idx → ℝ, D m c = fun i => (r i : EReal))
      ∧ ∃ r : S1024.Idx → ℝ, G m c = fun i => (r i : EReal) := by
  have e := congrFun (hpre c) (ix0 : Pre_finite_rms.S_.Idx)
  simp only [Pre_finite_rms.fn, andi, IntOp.andi_eq_one] at e
  obtain ⟨⟨⟨-, e0⟩, e1⟩, e2⟩ := e
  exact ⟨Reals.real_of_abs_lt _ _ (fun _ => by pointwise; exact Reals.ofBits_inf) _ _ _ _ e0, Reals.real_of_abs_lt _ _ (fun _ => by pointwise; exact Reals.ofBits_inf) _ _ _ _ e1,
    Reals.real_of_abs_lt _ _ (fun _ => by pointwise; exact Reals.ofBits_inf) _ _ _ _ e2⟩

/-- The row gradients agree. -/
theorem dx_eq (hpre : Pre_RmsIdeal_finite_rms (hPre_finite_rms := Pre_finite_rms.Gen.facts) m) (r : Fin 256) (l : Fin 1024) :
    Norm.dx (fun k => H m c (ix2 r k)) (fun k => D m c (ix2 r k) * G m c (ix1 k)) l
      = RmsRefIdeal.Read.val_main_v35 (F := Ideal) (H m c) (D m c) (G m c) (ix2 r l) := by
  obtain ⟨⟨h, eh⟩, ⟨d, ed⟩, ⟨g, eg⟩⟩ := reals m c hpre
  rw [ref_dx]
  exact Norm.dx_eq_chain _ _ ⟨fun k => h (ix2 r k), by rw [eh]⟩
    ⟨fun k => d (ix2 r k) * g (ix1 k), by simp only [ed, eg, EReal.coe_mul]⟩ l

/-- The gain gradients agree. -/
theorem dg_eq (u : Fin 1) (l : Fin 1024) :
    (∑ r : Fin 256, D m c (ix2 r l) * (H m c (ix2 r l) * Norm.rinv fun k => H m c (ix2 r k)))
      = RmsRefIdeal.Read.val_main_v37 (F := Ideal) (H m c) (D m c) (ix2 u l) := by
  rw [ref_dg]
  exact Finset.sum_congr rfl fun r _ => mul_comm _ _

/-- The first result after the run. -/
theorem out3 (hpre : Pre_RmsIdeal_finite_rms (hPre_finite_rms := Pre_finite_rms.Gen.facts) m) :
    (dats m 0 c).arrAt 3 cfg0.N = RmsRefIdeal.Read.val_main_v35 (F := Ideal) (H m c) (D m c) (G m c) := by
  refine (dats m 0 c).arrAt_eq_of_covers 3 _ (by decide +kernel) fun t hf y => ?_
  blk_simp
  rw [after0_3, outsAt0]
  dsimp only
  frame_out
  idx_vars y
  rw [pay3]
  simp only [iblk0, iblk1, iblk2]
  rw [dx_eq m c hpre]
  blk_ext [idx t]

/-- The second result after the run. -/
theorem out4 (hpre : Pre_RmsIdeal_finite_rms (hPre_finite_rms := Pre_finite_rms.Gen.facts) m) :
    (dats m 0 c).arrAt 4 cfg0.N = RmsRefIdeal.Read.val_main_v36 (F := Ideal) (H m c) (D m c) (G m c) := by
  refine (dats m 0 c).arrAt_eq_of_covers 4 _ (by decide +kernel) fun t hf y => ?_
  blk_simp
  rw [after0_4, outsAt0]
  dsimp only
  frame_out
  idx_vars y
  unfold RmsRefIdeal.Read.val_main_v36
  pointwise [k0_pay4]
  rw [pay3]
  simp only [iblk0, iblk1, iblk2]
  rw [dx_eq m c hpre]
  blk_ext [idx t]

/-- The third result after the run. -/
theorem out5 : (dats m 0 c).arrAt 5 cfg0.N = RmsRefIdeal.Read.val_main_v37 (F := Ideal) (H m c) (D m c) := by
  refine (dats m 0 c).arrAt_eq_of_covers 5 _ (by decide +kernel) fun t hf y => ?_
  blk_simp
  rw [after0_5, outsAt0]
  dsimp only
  frame_out
  idx_vars y
  rw [pay5]
  simp only [iblk0, iblk1]
  rw [dg_eq m c y0 y1]
  blk_ext [idx t]

/-- Kernel and reference end with the same three results. -/
theorem algebraic : @algebraic_RmsIdeal_RmsRefIdeal_pre_finite_rms RmsIdeal.Gen.facts RmsRefIdeal.Gen.facts
    Pre_finite_rms.Gen.facts := by
  pair_intro
  · run_from RmsIdeal.Value.run_blocks m g
  · run_from RmsRefIdeal.Value.run m' g'
    · exact (RmsRefIdeal.Read.val_main_v35_eq _ _ _).trans (out3 m c hpre).symm
    · exact (RmsRefIdeal.Read.val_main_v36_eq _ _ _).trans (out4 m c hpre).symm
    · exact (RmsRefIdeal.Read.val_main_v37_eq _ _).trans (out5 m c).symm

/-- The reference leaves its arguments as they were and every counter at zero. -/
theorem quiescent_ref : @quiescent_RmsRefIdeal RmsRefIdeal.Gen.facts := fun m ρ _ =>
  (θ_run RmsRefIdeal.defs _ _).mono (fun r h => ⟨fun c => (h c).2.2.2, sem_eq_zero_of_no_sems (by decide) r.2⟩)
    (RmsRefIdeal.Value.run (F := Ideal) m ρ)

/-- The reference's frame under the precondition. -/
theorem quiescent_ref_pre : @quiescent_RmsRefIdeal_pre_finite_rms RmsRefIdeal.Gen.facts Pre_finite_rms.Gen.facts :=
  fun m ρ _ => quiescent_ref m ρ trivial

end Cert.RmsValue

end
-- ==== Proof.Softmax.lean ====
/-
  The softmax of a row of scores and its gradient: the way a kernel states it (probabilities times the centred gradient)
  and the way the chain rule over `exp (s − max) / Σ` states it. The two agree where the scores and the incoming gradient
  are real numbers.
-/
module

public import proofs.«01_k».proof.Defs
public import proofs.«01_k».proof.Proof.Reals

@[expose] public section

noncomputable section

namespace Cert.Softmax

open Idealize.ShloMosaic

variable {n : ℕ}

/-- The greatest score of the row. -/
def mx (s : Fin n → EReal) : EReal := Finset.univ.fold max (Ideal.ofBits .f32 0xFF800000#32) s

/-- The exponential of a score over the greatest. -/
def ex (s : Fin n → EReal) (j : Fin n) : EReal := Ideal.exp (s j - mx s)

/-- The sum of the exponentials. -/
def tot (s : Fin n → EReal) : EReal := ∑ k, ex s k

/-- The probability. -/
def pr (s : Fin n → EReal) (j : Fin n) : EReal := Ideal.div (ex s j) (tot s)

/-- The scores' gradient from the probabilities' gradient `g`, times `c`: the probability times the centred gradient. -/
def ds (s g : Fin n → EReal) (c : EReal) (j : Fin n) : EReal := pr s j * (g j - ∑ k, g k * pr s k) * c

/-- The same by the chain rule over the quotient. -/
def dsChain (s g : Fin n → EReal) (c : EReal) (j : Fin n) : EReal :=
  (Ideal.div (g j) (tot s) + -∑ k, g k * Ideal.div 1 (tot s * tot s) * ex s k) * ex s j * c

/-- A reference takes the greater of `−∞` and the greatest score. -/
theorem max_mx (s : Fin n → EReal) : max (Ideal.ofBits .f32 0xFF800000#32) (mx s) = mx s :=
  max_eq_right ((Finset.le_fold_max _).2 (Or.inl le_rfl))

theorem ofBits_bot : Ideal.ofBits .f32 0xFF800000#32 = ⊥ := by simp [Ideal.ofBits, Ideal.ieee]

variable (s g : Fin (n + 1) → ℝ)

/-- The greatest of finitely many real numbers is a real number. -/
theorem mx_real : ∃ M : ℝ, mx (fun k => (s k : EReal)) = M := by
  have hlt : mx (fun k => (s k : EReal)) < ⊤ := by
    unfold mx
    rw [Finset.fold_max_lt, ofBits_bot]
    exact ⟨bot_lt_top, fun k _ => EReal.coe_lt_top _⟩
  have hle : (s 0 : EReal) ≤ mx (fun k => (s k : EReal)) := (Finset.le_fold_max _).2 (Or.inr ⟨0, Finset.mem_univ _, le_rfl⟩)
  exact ⟨_, (EReal.coe_toReal hlt.ne (fun e => by rw [e] at hle; exact absurd hle (by simp))).symm⟩

/-- The greatest score, as a real number. -/
def mxR : ℝ := (mx_real s).choose

theorem mx_coe : mx (fun k => (s k : EReal)) = mxR s := (mx_real s).choose_spec

def exR (j : Fin (n + 1)) : ℝ := Real.exp (s j - mxR s)

theorem ex_coe (j : Fin (n + 1)) : ex (fun k => (s k : EReal)) j = exR s j := by
  unfold ex exR
  rw [mx_coe, ← EReal.coe_sub, Reals.exp_coe]

def totR : ℝ := ∑ k, exR s k

theorem tot_coe : tot (fun k => (s k : EReal)) = totR s := by
  unfold tot totR
  simp only [ex_coe, Reals.coe_sum]

theorem totR_pos : 0 < totR s := Finset.sum_pos (fun k _ => Real.exp_pos _) ⟨0, Finset.mem_univ _⟩

theorem pr_coe (j : Fin (n + 1)) : pr (fun k => (s k : EReal)) j = ((exR s j / totR s : ℝ) : EReal) := by
  unfold pr
  rw [ex_coe, tot_coe, Reals.div_coe _ (totR_pos s).ne']

theorem ds_coe (c : ℝ) (j : Fin (n + 1)) : ds (fun k => (s k : EReal)) (fun k => (g k : EReal)) c j
    = ((exR s j / totR s * (g j - ∑ k, g k * (exR s k / totR s)) * c : ℝ) : EReal) := by
  unfold ds
  simp only [pr_coe, ← EReal.coe_mul, Reals.coe_sum, ← EReal.coe_sub]

theorem dsChain_coe (c : ℝ) (j : Fin (n + 1)) : dsChain (fun k => (s k : EReal)) (fun k => (g k : EReal)) c j
    = (((g j / totR s + -∑ k, g k * (1 / (totR s * totR s)) * exR s k) * exR s j * c : ℝ) : EReal) := by
  have h1 : (1 : EReal) = ((1 : ℝ) : EReal) := rfl
  unfold dsChain
  simp only [tot_coe, ex_coe, h1, ← EReal.coe_mul, Reals.div_coe _ (totR_pos s).ne',
    Reals.div_coe _ (mul_pos (totR_pos s) (totR_pos s)).ne', Reals.coe_sum, ← EReal.coe_neg, ← EReal.coe_add]

/-- The two spellings of the scores' gradient agree over the real numbers. -/
theorem ds_eq_chain {n : ℕ} (s g : Fin (n + 1) → EReal) (c : EReal) (hs : ∃ r : Fin (n + 1) → ℝ, s = fun k => (r k : EReal))
    (hg : ∃ r : Fin (n + 1) → ℝ, g = fun k => (r k : EReal)) (hc : ∃ r : ℝ, c = r) (j : Fin (n + 1)) :
    ds s g c j = dsChain s g c j := by
  obtain ⟨s, rfl⟩ := hs
  obtain ⟨g, rfl⟩ := hg
  obtain ⟨c, rfl⟩ := hc
  rw [ds_coe, dsChain_coe, EReal.coe_eq_coe_iff]
  have ht := (totR_pos s).ne'
  have e1 : ∑ k, g k * (exR s k / totR s) = (∑ k, g k * exR s k) / totR s := by
    rw [Finset.sum_div]; exact Finset.sum_congr rfl fun k _ => by ring
  have e2 : ∑ k, g k * (1 / (totR s * totR s)) * exR s k = (∑ k, g k * exR s k) / (totR s * totR s) := by
    rw [Finset.sum_div]; exact Finset.sum_congr rfl fun k _ => by ring
  rw [e1, e2]
  field_simp
  ring

end Cert.Softmax
-- ==== Proof.AttnRows.lean ====
/-
  The attention gradient of one device as functions of the argument arrays: heads of 256 lanes, 256 keys, any number of
  query rows. The kernel's blocks and the reference's arrays are both stated with these.
-/
module

public import proofs.«01_k».proof.Defs
public import proofs.«01_k».proof.Proof.Softmax

@[expose] public section

noncomputable section

namespace Cert.AttnValue

open Idealize.ShloMosaic

/-- The scale of the scores. -/
abbrev scale : EReal := Ideal.ofBits .f32 0x3D800000#32

/-- Lane `x` of head `h`. -/
def lane (h : Fin 4) (x : Fin 256) : Fin 1024 := ⟨256 * h + x, by omega⟩

/-- The head of a lane. -/
def head (l : Fin 1024) : Fin 4 := ⟨l / 256, by omega⟩

/-- The scaled scores of a query row against the 256 keys, one head. -/
def sc {n : ℕ} (Q : Vec Ideal ⟨2, ![n, 1024]⟩ .bf16) (K : Vec Ideal ⟨2, ![256, 1024]⟩ .bf16) (h : Fin 4) (r : Fin n) : Fin 256 → EReal :=
  fun j => (∑ x, Q (ix2 r (lane h x)) * K (ix2 j (lane h x))) * scale

/-- The probabilities' gradient: the incoming row against the 256 values. -/
def gr {n : ℕ} (D : Vec Ideal ⟨2, ![n, 1024]⟩ .bf16) (V : Vec Ideal ⟨2, ![256, 1024]⟩ .bf16) (h : Fin 4) (r : Fin n) : Fin 256 → EReal :=
  fun j => ∑ x, D (ix2 r (lane h x)) * V (ix2 j (lane h x))

/-- A row block of the queries' gradient. -/
def dq {n : ℕ} (Q : Vec Ideal ⟨2, ![n, 1024]⟩ .bf16) (K V : Vec Ideal ⟨2, ![256, 1024]⟩ .bf16) (D : Vec Ideal ⟨2, ![n, 1024]⟩ .bf16)
    (r : Fin n) (l : Fin 1024) : EReal :=
  ∑ j, Softmax.ds (sc Q K (head l) r) (gr D V (head l) r) scale j * K (ix2 j l)

/-- What a row block adds to the keys' gradient. -/
def dk {n : ℕ} (Q : Vec Ideal ⟨2, ![n, 1024]⟩ .bf16) (K V : Vec Ideal ⟨2, ![256, 1024]⟩ .bf16) (D : Vec Ideal ⟨2, ![n, 1024]⟩ .bf16)
    (j : Fin 256) (l : Fin 1024) : EReal :=
  ∑ r, Softmax.ds (sc Q K (head l) r) (gr D V (head l) r) scale j * Q (ix2 r l)

/-- What a row block adds to the values' gradient. -/
def dv {n : ℕ} (Q : Vec Ideal ⟨2, ![n, 1024]⟩ .bf16) (K : Vec Ideal ⟨2, ![256, 1024]⟩ .bf16) (D : Vec Ideal ⟨2, ![n, 1024]⟩ .bf16)
    (j : Fin 256) (l : Fin 1024) : EReal :=
  ∑ r, Softmax.pr (sc Q K (head l) r) j * D (ix2 r l)

/-- The head of a head's lane. -/
theorem head_lane (h : Fin 4) (x : Fin 256) : head (lane h x) = h := by
  apply Fin.ext; simp only [head, lane]; omega

/-- A lane from its head and its place there. -/
theorem lane_head (l : Fin 1024) (h h') : lane ⟨l / 256, h⟩ ⟨l % 256, h'⟩ = l := Fin.ext (by simp only [lane]; omega)

/-- The scale is a real number. -/
theorem scale_real : ∃ r : ℝ, scale = r := ⟨1 / 16, by simp [scale, Ideal.ofBits, Ideal.ieee]; rw [← EReal.coe_mul]; norm_num⟩

end Cert.AttnValue

end
-- ==== Proof.AttnRef.lean ====
/-
  The reference of the attention gradient, stage by stage: scores, softmax, the chain rule over the quotient, and its three
  results as the functions of `AttnRows`.
-/
module

public import proofs.«01_k».proof.Defs
public import proofs.«01_k».proof.Proof.AttnRows
public import proofs.«01_k».proof.Proof.Gen.AttnRefIdeal.Run
public import proofs.«01_k».proof.Proof.Gen.AttnRefIdeal.Read
public import Idealize.ShloMosaic.Lib.Pipeline.ValueKit

@[expose] public section

set_option maxRecDepth 16384

noncomputable section

namespace Cert.AttnValue

open Idealize.ShloMosaic Idealize.ShloMosaic.TcCoe

section Reference

open AttnRefIdeal AttnRefIdeal.Gen AttnRefIdeal.Read

variable (q d : FVec Ideal S8192x1024 .bf16) (k v : FVec Ideal S256x1024 .bf16)

/-- The queries by head. -/
theorem ref_q (u : Fin 1) (r : Fin 8192) (h : Fin 4) (x : Fin 256) : val_main_v3 (F := Ideal) q (ix4 u r h x) = q (ix2 r (lane h x)) := by
  unfold val_main_v3 val_main_v0
  pointwise
  blk_ext [lane]

/-- The keys by head. -/
theorem ref_k (u : Fin 1) (r : Fin 256) (h : Fin 4) (x : Fin 256) : val_main_v4 (F := Ideal) k (ix4 u r h x) = k (ix2 r (lane h x)) := by
  unfold val_main_v4 val_main_v1
  pointwise
  blk_ext [lane]

/-- The values by head. -/
theorem ref_v (u : Fin 1) (r : Fin 256) (h : Fin 4) (x : Fin 256) : val_main_v5 (F := Ideal) k (ix4 u r h x) = k (ix2 r (lane h x)) := by
  unfold val_main_v5 val_main_v2
  pointwise
  blk_ext [lane]

/-- The incoming gradient by head, transposed. -/
theorem ref_d (u : Fin 1) (x : Fin 256) (h : Fin 4) (r : Fin 8192) : val_main_v42 (F := Ideal) d (ix4 u h x r) = d (ix2 r (lane h x)) := by
  unfold val_main_v42 val_main_v41 val_main_v40
  pointwise
  blk_ext [lane]

/-- The reference's scores. -/
theorem ref_sc (h : Fin 4) (r : Fin 8192) (j : Fin 256) : val_main_v8 (F := Ideal) q k (ix4 0 h r j) = sc (n := 8192) q k h r j := by
  unfold val_main_v8 val_main_v7 val_main_v6 val_main_cst
  pointwise
  simp only [ref_q, ref_k]
  rfl

/-- The greatest over the last axis, of any array. -/
theorem host_max (s : FVec Ideal S1x4x8192x256 .f32) (b : FVec Ideal S_ .f32) (H) (hu) (h : Fin 4) (r : Fin 8192) :
    Host.reduce FloatOps.maximumf (s := S1x4x8192x256) (u := S_) (axes := [3]) s b H hu (ix3 0 h r : S1x4x8192.Idx)
      = Finset.univ.fold max (b (Shape.Idx.first hu)) (fun x => s (ix4 0 h r x)) := by
  simp only [pointwise]

/-- The row maximum as a fold. -/
theorem ref_fold (h : Fin 4) (r : Fin 8192) : val_main_v9 (F := Ideal) q k (ix3 0 h r)
    = Finset.univ.fold max (val_main_cst_0 (F := Ideal) (Shape.Idx.first h_S_)) (fun x => val_main_v8 (F := Ideal) q k (ix4 0 h r x)) := by
  unfold val_main_v9
  generalize val_main_v8 (F := Ideal) q k = y
  exact host_max y _ _ _ _ _

/-- The row maximum. -/
theorem ref_mx (h : Fin 4) (r : Fin 8192) : val_main_v9 (F := Ideal) q k (ix3 0 h r) = Softmax.mx (sc (n := 8192) q k h r) := by
  rw [ref_fold, val_main_cst_0_apply]
  simp only [ref_sc]
  rfl

/-- The row maximum, spread over the row. -/
theorem ref_mxb (h : Fin 4) (r : Fin 8192) (j : Fin 256) : val_main_v27 (F := Ideal) q k (ix4 0 h r j) = Softmax.mx (sc (n := 8192) q k h r) := by
  rw [val_main_v27_apply, val_main_v26_apply, val_main_v16_apply, val_main_v15_apply, val_main_cst_2_apply,
    show idx_main_v26 (idx_main_v27 (ix4 0 h r j)) = ix3 0 h r from funext fun b => by fin_cases b <;> rfl, ref_mx]
  exact Softmax.max_mx _

/-- The exponentials. -/
theorem ref_ex (h : Fin 4) (r : Fin 8192) (j : Fin 256) :
    val_main_v29 (F := Ideal) q k (ix4 0 h r j) = Softmax.ex (sc (n := 8192) q k h r) j := by
  unfold val_main_v29 val_main_v28
  generalize e : val_main_v27 (F := Ideal) q k = y
  generalize e' : val_main_v8 (F := Ideal) q k = z
  pointwise
  rw [← e, ← e', ref_sc, ref_mxb]
  rfl

/-- Their sum. -/
theorem ref_tot (h : Fin 4) (r : Fin 8192) : val_main_v31 (F := Ideal) q k (ix4 0 h r 0) = Softmax.tot (sc (n := 8192) q k h r) := by
  unfold val_main_v31 val_main_v30 val_main_cst_8
  generalize e : val_main_v29 (F := Ideal) q k = y
  pointwise
  simp only [← e, ref_ex]
  rfl

/-- The probabilities. -/
theorem ref_pr (h : Fin 4) (r : Fin 8192) (j : Fin 256) :
    val_main_v33 (F := Ideal) q k (ix4 0 h r j) = Softmax.pr (sc (n := 8192) q k h r) j := by
  unfold val_main_v33 val_main_v32
  generalize e : val_main_v29 (F := Ideal) q k = y
  generalize e' : val_main_v31 (F := Ideal) q k = z
  pointwise
  simp only [← e, ← e', ref_ex, ref_tot]
  rfl

/-- The probabilities' gradient. -/
theorem ref_gr (h : Fin 4) (r : Fin 8192) (j : Fin 256) :
    val_main_v43 (F := Ideal) v d (ix4 0 h r j) = gr (n := 8192) d v h r j := by
  unfold val_main_v43
  pointwise
  simp only [ref_d, ref_v]
  rfl

/-- The reference's values' gradient. -/
theorem ref_dv (j : Fin 256) (l : Fin 1024) : val_main_v65 (F := Ideal) q k d (ix2 j l) = dv (n := 8192) q k d j l := by
  unfold val_main_v65 val_main_v45 val_main_v44
  pointwise
  simp only [ref_d, ref_pr, dv]
  refine Finset.sum_congr rfl fun r _ => ?_
  rw [mul_comm, lane_head]
  rfl

/-- The summed gradient of the quotient's denominator, before the two movements over unit axes. -/
theorem ref_den (h : Fin 4) (r : Fin 8192) : val_main_v51 (F := Ideal) q k v d (ix4 0 h r 0)
    = -∑ j, gr (n := 8192) d v h r j * Ideal.div 1 (Softmax.tot (sc (n := 8192) q k h r) * Softmax.tot (sc (n := 8192) q k h r)) * Softmax.ex (sc (n := 8192) q k h r) j := by
  unfold val_main_v51 val_main_v50 val_main_v49 val_main_v48 val_main_v47 val_main_v46 val_main_v36 val_main_v35 val_main_v34 val_main_cst_9 val_main_cst_10
  generalize e : val_main_v29 (F := Ideal) q k = y
  generalize e' : val_main_v31 (F := Ideal) q k = z
  generalize e'' : val_main_v43 (F := Ideal) v d = g
  pointwise
  simp only [← e, ← e', ← e'', ref_ex, ref_tot, ref_gr]

/-- A sum over two unit axes. -/
theorem sum_units (x : FVec Ideal S1x4x8192x1 .f32) (b : FVec Ideal S_ .f32) (H : S1x4x8192x1.ReducesTo [0, 3] S4x8192) (hu) (h : Fin 4) (r : Fin 8192) :
    Host.reduceAdd (F := Ideal) (u := S_) x b H hu (ix2 h r) = b (Shape.Idx.first hu) + x (ix4 0 h r 0) := by
  have hd : ∀ i : S1x4x8192x1.Idx, H.drop i = ix2 (i 1) (i 2) := fun i => funext fun b => by fin_cases b <;> rfl
  show b _ + _ = _
  refine congrArg _ (Finset.sum_eq_single_of_mem (ix4 0 h r 0) (by simp [hd]) fun i hi hne => absurd ?_ hne)
  rw [Finset.mem_filter, hd] at hi
  have h1 : i 1 = h := congrFun hi.2 0
  have h2 : i 2 = r := congrFun hi.2 1
  funext a
  fin_cases a
  · exact Subsingleton.elim (α := Fin 1) _ _
  · exact h1
  · exact h2
  · exact Subsingleton.elim (α := Fin 1) _ _

/-- The denominator's gradient, spread over the row. -/
theorem ref_sum (h : Fin 4) (r : Fin 8192) (j : Fin 256) : val_main_v56 (F := Ideal) q k v d (ix4 0 h r j)
    = val_main_v51 (F := Ideal) q k v d (ix4 0 h r 0) := by
  unfold val_main_v56 val_main_v55 val_main_v54 val_main_cst_11
  generalize val_main_v51 (F := Ideal) q k v d = y
  rw [show ∀ z : FVec Ideal S4x8192 .f32, broadcastInDim S1x4x8192x256 _ _ (broadcastInDim S1x4x8192 ![1, 2] bcast_S4x8192_S1x4x8192_1_2 z) (ix4 0 h r j) = z (ix2 h r) from fun z => by pointwise]
  rw [sum_units]
  pointwise

/-- The scores' gradient. -/
theorem ref_ds (h : Fin 4) (r : Fin 8192) (j : Fin 256) :
    val_main_v60 (F := Ideal) q k v d (ix4 0 h r j) = Softmax.dsChain (sc (n := 8192) q k h r) (gr (n := 8192) d v h r) scale j := by
  unfold val_main_v60 val_main_v59 val_main_v58 val_main_v57 val_main_v53 val_main_v52 val_main_cst_12
  generalize e : val_main_v29 (F := Ideal) q k = y
  generalize e' : val_main_v31 (F := Ideal) q k = z
  generalize e'' : val_main_v43 (F := Ideal) v d = g
  generalize e3 : val_main_v56 (F := Ideal) q k v d = w
  pointwise
  simp only [← e, ← e', ← e'', ← e3, ref_ex, ref_tot, ref_gr, ref_sum, ref_den]
  rfl

/-- The reference's keys' gradient. -/
theorem ref_dk (j : Fin 256) (l : Fin 1024) : val_main_v66 (F := Ideal) q k v d (ix2 j l)
    = ∑ r, Softmax.dsChain (sc (n := 8192) q k (head l) r) (gr (n := 8192) d v (head l) r) scale j * q (ix2 r l) := by
  unfold val_main_v66 val_main_v62 val_main_v61
  generalize e : val_main_v60 (F := Ideal) q k v d = y
  pointwise
  simp only [← e, ref_q, ref_ds, lane_head]
  rfl

/-- The reference's queries' gradient. -/
theorem ref_dq (r : Fin 8192) (l : Fin 1024) : val_main_v68 (F := Ideal) q k v d (ix2 r l)
    = ∑ j, Softmax.dsChain (sc (n := 8192) q k (head l) r) (gr (n := 8192) d v (head l) r) scale j * k (ix2 j l) := by
  unfold val_main_v68 val_main_v67 val_main_v64 val_main_v63
  generalize e : val_main_v60 (F := Ideal) q k v d = y
  pointwise
  simp only [← e, ref_k, ref_ds, lane_head]
  rfl

end Reference
end Cert.AttnValue

end
-- ==== Proof.Attn.lean ====
/-
  The gradient of the latent attention, the kernel's three results (queries, keys, values) against the reference's. The
  kernel walks four blocks of 2048 query rows; a block's rows of the queries' gradient are written once, the other two
  results are summed over the blocks in place.
-/
module

public import proofs.«01_k».proof.Defs
public import proofs.«01_k».proof.Proof.AttnRef
public import proofs.«01_k».proof.Proof.Gen.Attn.Frame
public import proofs.«01_k».proof.Proof.Gen.AttnIdeal.Value
public import proofs.«01_k».proof.Proof.Gen.Pre_finite_attn
public import Idealize.ShloMosaic.Lib.Pipeline.ValueKit
public import Idealize.ShloMosaic.Lib.Pipeline.ReadBack

@[expose] public section

set_option maxRecDepth 16384

noncomputable section

namespace Cert.AttnValue

open Idealize.ShloMosaic Idealize.ShloMosaic.TcCoe
open Cert.AttnIdeal Cert.AttnIdeal.Gen

section Head

variable (q : Vec Ideal S2048x256 .bf16) (k v : Vec Ideal S256x256 .bf16) (d : Vec Ideal S2048x256 .bf16) (a : Vec Ideal S256x256 .f32)

/-! The four heads run the same text, which the payloads cut in different places. -/

theorem dq1 : k0_pay17 k (k0_pay14 q k v d) = k0_pay12 k (k0_pay9 q k v d) := rfl
theorem dq2 : k0_pay24 k (k0_pay18 q k) (k0_pay19 v d) (k0_pay20 q k v d) = k0_pay12 k (k0_pay9 q k v d) := rfl
theorem dq3 : k0_pay5 k v d (k0_pay25 q k) (k0_pay26 q k) = k0_pay12 k (k0_pay9 q k v d) := rfl
theorem dk1 : k0_pay16 q (k0_pay14 q k v d) a = k0_pay11 q (k0_pay9 q k v d) a := rfl
theorem dk2 : k0_pay23 q (k0_pay18 q k) (k0_pay19 v d) (k0_pay20 q k v d) a = k0_pay11 q (k0_pay9 q k v d) a := rfl
theorem dk3 : k0_pay4 q v d (k0_pay25 q k) (k0_pay26 q k) a = k0_pay11 q (k0_pay9 q k v d) a := rfl
theorem dv1 : k0_pay15 d (k0_pay13 q k) a = k0_pay10 q k d a := rfl
theorem dv2 : k0_pay22 d (k0_pay18 q k) a = k0_pay10 q k d a := rfl
theorem dv3 : k0_pay3 d (k0_pay25 q k) (k0_pay26 q k) a = k0_pay10 q k d a := rfl

/-- The probabilities of one head. -/
theorem pay8 (r : Fin 2048) (j : Fin 256) :
    k0_pay8 q k (ix2 r j) = Softmax.pr (fun i => (∑ x, q (ix2 r x) * k (ix2 i x)) * scale) j := by
  pointwise [k0_pay8]
  rfl

/-- The scores' gradient of one head. -/
theorem pay9 (r : Fin 2048) (j : Fin 256) : k0_pay9 q k v d (ix2 r j)
    = Softmax.ds (fun i => (∑ x, q (ix2 r x) * k (ix2 i x)) * scale) (fun i => ∑ x, d (ix2 r x) * v (ix2 i x)) scale j := by
  pointwise [k0_pay9]
  simp only [pay8]
  rfl

/-- The queries' gradient of one head. -/
theorem pay12 (r : Fin 2048) (l : Fin 256) : k0_pay12 k (k0_pay9 q k v d) (ix2 r l)
    = ∑ j, Softmax.ds (fun i => (∑ x, q (ix2 r x) * k (ix2 i x)) * scale) (fun i => ∑ x, d (ix2 r x) * v (ix2 i x)) scale j * k (ix2 j l) := by
  pointwise [k0_pay12]
  simp only [pay9]

/-- The keys' gradient of one head, added to what is there. -/
theorem pay11 (j l : Fin 256) : k0_pay11 q (k0_pay9 q k v d) a (ix2 j l)
    = a (ix2 j l) + ∑ r, Softmax.ds (fun i => (∑ x, q (ix2 r x) * k (ix2 i x)) * scale) (fun i => ∑ x, d (ix2 r x) * v (ix2 i x)) scale j * q (ix2 r l) := by
  pointwise [k0_pay11]
  simp only [pay9]

/-- The values' gradient of one head, added to what is there. -/
theorem pay10 (j l : Fin 256) : k0_pay10 q k d a (ix2 j l)
    = a (ix2 j l) + ∑ r, Softmax.pr (fun i => (∑ x, q (ix2 r x) * k (ix2 i x)) * scale) j * d (ix2 r l) := by
  pointwise [k0_pay10]
  simp only [pay8]

end Head

section Piece

/-- The columns of one head, out of a block of rows. -/
def rows {φ : EltTy} (B : Vec Ideal S2048x1024 φ) (h : Fin 4) : Vec Ideal S2048x256 φ :=
  View.ld B (Rect.unit ![0, 256 * (h : ℕ)] ![2048, 256] fun a => by fin_cases a <;> simp <;> omega)

/-- The columns of one head, out of the keys, the values or their gradients. -/
def keys {φ : EltTy} (B : Vec Ideal S256x1024 φ) (h : Fin 4) : Vec Ideal S256x256 φ :=
  View.ld B (Rect.unit ![0, 256 * (h : ℕ)] ![256, 256] fun a => by fin_cases a <;> simp <;> omega)

theorem rows_at {φ : EltTy} (B : Vec Ideal S2048x1024 φ) (h : Fin 4) (r : Fin 2048) (x : Fin 256) :
    rows B h (ix2 r x) = B (ix2 r (lane h x)) := by
  refine congrArg B (funext fun a => Fin.ext ?_)
  fin_cases a
  · show 0 + 1 * r.val = r.val; omega
  · show 256 * h.val + 1 * x.val = 256 * h.val + x.val; omega

theorem keys_at {φ : EltTy} (B : Vec Ideal S256x1024 φ) (h : Fin 4) (r : Fin 256) (x : Fin 256) :
    keys B h (ix2 r x) = B (ix2 r (lane h x)) := by
  refine congrArg B (funext fun a => Fin.ext ?_)
  fin_cases a
  · show 0 + 1 * r.val = r.val; omega
  · show 256 * h.val + 1 * x.val = 256 * h.val + x.val; omega

variable (Q : Vec Ideal S2048x1024 .bf16) (K V : Vec Ideal S256x1024 .bf16) (D : Vec Ideal S2048x1024 .bf16) (A : Vec Ideal S256x1024 .f32)
  (h : Fin 4)

theorem dq_piece (r : Fin 2048) (l : Fin 256) :
    k0_pay12 (keys K h) (k0_pay9 (rows Q h) (keys K h) (keys V h) (rows D h)) (ix2 r l) = dq Q K V D r (lane h l) := by
  rw [pay12]
  simp only [rows_at, keys_at, dq, head_lane]
  rfl

/-- The same at an index of the store. -/
theorem dq_tile (x : S2048x256.Idx) (y : S2048x1024.Idx) (e0 : (y 0 : ℕ) = x 0) (e1 : (y 1 : ℕ) = 256 * (h : ℕ) + x 1) :
    k0_pay12 (keys K h) (k0_pay9 (rows Q h) (keys K h) (keys V h) (rows D h)) x = dq Q K V D (y 0) (y 1) := by
  have h0 : y 0 = x 0 := Fin.ext e0
  have h1 : y 1 = lane h (x 1) := Fin.ext e1
  rw [h0, h1]
  idx_vars x
  exact dq_piece Q K V D h x0 x1

theorem dk_piece (j l : Fin 256) :
    k0_pay11 (rows Q h) (k0_pay9 (rows Q h) (keys K h) (keys V h) (rows D h)) (keys A h) (ix2 j l)
      = A (ix2 j (lane h l)) + dk Q K V D j (lane h l) := by
  rw [pay11]
  simp only [rows_at, keys_at, dk, head_lane]
  rfl

theorem dv_piece (j l : Fin 256) :
    k0_pay10 (rows Q h) (keys K h) (rows D h) (keys A h) (ix2 j l) = A (ix2 j (lane h l)) + dv Q K D j (lane h l) := by
  rw [pay10]
  simp only [rows_at, keys_at, dv, head_lane]
  rfl

end Piece

section Kernel

/-- Where each window's block lies. -/
theorem idx : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) := by decide +kernel

variable (m : (ℓ : Loc nD τ sig) → Buf (Elt Ideal) ℓ) (c : Dev nD)

/-- Four column blocks stored over whatever was stored before. -/
theorem canon_cols (L : List (View.Piece (Elt Ideal) S256x1024 .f32)) (G : Fin 256 → Fin 1024 → EReal) (P : Fin 4 → Vec Ideal S256x256 .f32)
    (i0 i1 i2 i3) (hP : ∀ h j l, P h (ix2 j l) = G j (lane h l)) (y : S256x1024.Idx) :
    View.canon (Val := Elt Ideal) (s := S256x1024) (e := .f32) (⟨Rect.unit ![0, 768] ![256, 256] i3, P 3⟩ :: ⟨Rect.unit ![0, 512] ![256, 256] i2, P 2⟩ ::
      ⟨Rect.unit ![0, 256] ![256, 256] i1, P 1⟩ :: ⟨Rect.unit ![0, 0] ![256, 256] i0, P 0⟩ :: L) y = G (y 0) (y 1) := by
  refine View.canon_append_of_piecesOf (Val := Elt Ideal) (s := S256x1024) (e := .f32) (fun y => G (y 0) (y 1)) L [_, _, _, _] ⟨fun x => ?_, fun x => ?_, fun x => ?_, fun x => ?_, trivial⟩ y ?_
  · idx_vars x
    refine (hP 3 x0 x1).trans (congrArg₂ G (Fin.ext ?_) (Fin.ext ?_))
    · show x0.val = 0 + 1 * x0.val; omega
    · show 256 * 3 + x1.val = 768 + 1 * x1.val; omega
  · idx_vars x
    refine (hP 2 x0 x1).trans (congrArg₂ G (Fin.ext ?_) (Fin.ext ?_))
    · show x0.val = 0 + 1 * x0.val; omega
    · show 256 * 2 + x1.val = 512 + 1 * x1.val; omega
  · idx_vars x
    refine (hP 1 x0 x1).trans (congrArg₂ G (Fin.ext ?_) (Fin.ext ?_))
    · show x0.val = 0 + 1 * x0.val; omega
    · show 256 * 1 + x1.val = 256 + 1 * x1.val; omega
  · idx_vars x
    refine (hP 0 x0 x1).trans (congrArg₂ G (Fin.ext ?_) (Fin.ext ?_))
    · show x0.val = 0 + 1 * x0.val; omega
    · show 256 * 0 + x1.val = 0 + 1 * x1.val; omega
  · simp only [List.mem_cons, List.not_mem_nil, or_false, exists_eq_or_imp, exists_eq_left, Rect.mem_set_unit, Fin.forall_fin_two]
    have h0 := (y 0).isLt
    have h1 := (y 1).isLt
    simp at h0 h1 ⊢
    omega

/-- The keys' gradient after a point that starts from zero. -/
theorem out5_A (t : Fin cfg0.N) (h : t.val % 4 = 0) (y : S256x1024.Idx) : (outsAt0 (F := Ideal) m c t.val t.isLt).2.1 y
    = 0 + dk (iblk m c 0 t) (iblk m c 1 t) (iblk m c 2 t) (iblk m c 3 t) (y 0) (y 1) := by
  rw [outsAt0_A m c t h]
  frame_open
  simp (disch := decide) only [↓ View.readCov_skip, ↓ View.readCov_cons_toLoadRect, ↓ View.readCov_fill]
  frame_out
  simp only [dk1, dk2, dk3]
  refine canon_cols _ (fun j l => 0 + dk (iblk m c 0 t) (iblk m c 1 t) (iblk m c 2 t) (iblk m c 3 t) j l) (fun h =>
    k0_pay11 (rows (iblk m c 0 t) h) (k0_pay9 (rows (iblk m c 0 t) h) (keys (iblk m c 1 t) h) (keys (iblk m c 2 t) h)
      (rows (iblk m c 3 t) h)) (keys (k0_pay6 (F := Ideal)) h)) _ _ _ _ (fun h j l => ?_) y
  rw [dk_piece]
  pointwise [k0_pay6]

/-- The keys' gradient after a point that adds. -/
theorem out5_B (t : Fin cfg0.N) (h : ¬t.val % 4 = 0) (y : S256x1024.Idx) : (outsAt0 (F := Ideal) m c t.val t.isLt).2.1 y
    = (outsAt0 (F := Ideal) m c (t.val - 1) (by omega)).2.1 y + dk (iblk m c 0 t) (iblk m c 1 t) (iblk m c 2 t) (iblk m c 3 t) (y 0) (y 1) := by
  idx_vars y
  rw [outsAt0_B m c t h]
  frame_out
  simp only [dk1, dk2, dk3]
  refine canon_cols [] (fun j l => (outsAt0 (F := Ideal) m c (t.val - 1) (by omega)).2.1 (ix2 j l)
      + dk (iblk m c 0 t) (iblk m c 1 t) (iblk m c 2 t) (iblk m c 3 t) j l) (fun h =>
    k0_pay11 (rows (iblk m c 0 t) h) (k0_pay9 (rows (iblk m c 0 t) h) (keys (iblk m c 1 t) h) (keys (iblk m c 2 t) h)
      (rows (iblk m c 3 t) h)) (keys (outsAt0 (F := Ideal) m c (t.val - 1) (by omega)).2.1 h)) _ _ _ _ (fun h j l => ?_) _
  rw [dk_piece]

/-- The values' gradient after a point that starts from zero. -/
theorem out6_A (t : Fin cfg0.N) (h : t.val % 4 = 0) (y : S256x1024.Idx) : (outsAt0 (F := Ideal) m c t.val t.isLt).2.2 y
    = 0 + dv (iblk m c 0 t) (iblk m c 1 t) (iblk m c 3 t) (y 0) (y 1) := by
  rw [outsAt0_A m c t h]
  frame_open
  simp (disch := decide) only [↓ View.readCov_skip, ↓ View.readCov_cons_toLoadRect, ↓ View.readCov_fill]
  frame_out
  simp only [dv1, dv2, dv3]
  refine canon_cols _ (fun j l => 0 + dv (iblk m c 0 t) (iblk m c 1 t) (iblk m c 3 t) j l) (fun h =>
    k0_pay10 (rows (iblk m c 0 t) h) (keys (iblk m c 1 t) h) (rows (iblk m c 3 t) h) (keys (k0_pay7 (F := Ideal)) h))
    _ _ _ _ (fun h j l => ?_) y
  rw [dv_piece]
  pointwise [k0_pay7]

/-- The values' gradient after a point that adds. -/
theorem out6_B (t : Fin cfg0.N) (h : ¬t.val % 4 = 0) (y : S256x1024.Idx) : (outsAt0 (F := Ideal) m c t.val t.isLt).2.2 y
    = (outsAt0 (F := Ideal) m c (t.val - 1) (by omega)).2.2 y + dv (iblk m c 0 t) (iblk m c 1 t) (iblk m c 3 t) (y 0) (y 1) := by
  idx_vars y
  rw [outsAt0_B m c t h]
  frame_out
  simp only [dv1, dv2, dv3]
  refine canon_cols [] (fun j l => (outsAt0 (F := Ideal) m c (t.val - 1) (by omega)).2.2 (ix2 j l)
      + dv (iblk m c 0 t) (iblk m c 1 t) (iblk m c 3 t) j l) (fun h =>
    k0_pay10 (rows (iblk m c 0 t) h) (keys (iblk m c 1 t) h) (rows (iblk m c 3 t) h)
      (keys (outsAt0 (F := Ideal) m c (t.val - 1) (by omega)).2.2 h)) _ _ _ _ (fun h j l => ?_) _
  rw [dv_piece]

/-- The queries' gradient of a point's rows. -/
theorem out4_at (t : Fin cfg0.N) (y : S2048x1024.Idx) : (outsAt0 (F := Ideal) m c t.val t.isLt).1 y
    = dq (iblk m c 0 t) (iblk m c 1 t) (iblk m c 2 t) (iblk m c 3 t) (y 0) (y 1) := by
  by_cases h : t.val % 4 = 0
  · rw [outsAt0_A m c t h]
    frame_out
    simp only [dq1, dq2, dq3]
    canon_tiles x e
    · exact dq_tile (iblk m c 0 t) (iblk m c 1 t) (iblk m c 2 t) (iblk m c 3 t) 3 x y e0 e1
    · exact dq_tile (iblk m c 0 t) (iblk m c 1 t) (iblk m c 2 t) (iblk m c 3 t) 2 x y e0 e1
    · exact dq_tile (iblk m c 0 t) (iblk m c 1 t) (iblk m c 2 t) (iblk m c 3 t) 1 x y e0 e1
    · exact dq_tile (iblk m c 0 t) (iblk m c 1 t) (iblk m c 2 t) (iblk m c 3 t) 0 x y e0 (e1.trans (Nat.zero_add _).symm)
  · rw [outsAt0_B m c t h]
    frame_out
    simp only [dq1, dq2, dq3]
    canon_tiles x e
    · exact dq_tile (iblk m c 0 t) (iblk m c 1 t) (iblk m c 2 t) (iblk m c 3 t) 3 x y e0 e1
    · exact dq_tile (iblk m c 0 t) (iblk m c 1 t) (iblk m c 2 t) (iblk m c 3 t) 2 x y e0 e1
    · exact dq_tile (iblk m c 0 t) (iblk m c 1 t) (iblk m c 2 t) (iblk m c 3 t) 1 x y e0 e1
    · exact dq_tile (iblk m c 0 t) (iblk m c 1 t) (iblk m c 2 t) (iblk m c 3 t) 0 x y e0 (e1.trans (Nat.zero_add _).symm)

/-- The queries. -/
abbrev Q : FVec Ideal S8192x1024 .bf16 := m ((c.tc : Thread nD τ).loc main_arg0)

/-- The keys. -/
abbrev K : FVec Ideal S256x1024 .bf16 := m ((c.tc : Thread nD τ).loc main_arg1)

/-- The values. -/
abbrev W : FVec Ideal S256x1024 .bf16 := m ((c.tc : Thread nD τ).loc main_arg2)

/-- The incoming gradient. -/
abbrev D : FVec Ideal S8192x1024 .bf16 := m ((c.tc : Thread nD τ).loc main_arg3)

/-- Row `r` of point `t`, in the whole array. -/
def row (t : Fin cfg0.N) (r : Fin 2048) : Fin 8192 := ⟨t.val * 2048 + r, by have := lt_of_lt_of_eq t.isLt N_0; omega⟩

theorem iblk0 (t : Fin cfg0.N) (r : Fin 2048) (l : Fin 1024) : iblk m c 0 t (ix2 r l) = Q m c (ix2 (row t r) l) := by
  blk_ext [iblk, V, idx t, row]

theorem iblk1 (t : Fin cfg0.N) (r : Fin 256) (l : Fin 1024) : iblk m c 1 t (ix2 r l) = K m c (ix2 r l) := by
  blk_ext [iblk, V, idx t]

theorem iblk2 (t : Fin cfg0.N) (r : Fin 256) (l : Fin 1024) : iblk m c 2 t (ix2 r l) = W m c (ix2 r l) := by
  blk_ext [iblk, V, idx t]

theorem iblk3 (t : Fin cfg0.N) (r : Fin 2048) (l : Fin 1024) : iblk m c 3 t (ix2 r l) = D m c (ix2 (row t r) l) := by
  blk_ext [iblk, V, idx t, row]

theorem sc_blk (t : Fin cfg0.N) (h : Fin 4) (r : Fin 2048) :
    sc (n := 2048) (iblk m c 0 t) (iblk m c 1 t) h r = sc (n := 8192) (Q m c) (K m c) h (row t r) := by
  unfold sc
  simp only [iblk0, iblk1]

theorem gr_blk (t : Fin cfg0.N) (h : Fin 4) (r : Fin 2048) :
    gr (n := 2048) (iblk m c 3 t) (iblk m c 2 t) h r = gr (n := 8192) (D m c) (W m c) h (row t r) := by
  unfold gr
  simp only [iblk3, iblk2]

/-- The arguments' values are real numbers. -/
theorem reals (hpre : Pre_AttnIdeal_finite_attn (hPre_finite_attn := Pre_finite_attn.Gen.facts) m) :
    (∃ r : S8192x1024.Idx → ℝ, Q m c = fun i => (r i : EReal)) ∧ (∃ r : S256x1024.Idx → ℝ, K m c = fun i => (r i : EReal))
      ∧ (∃ r : S256x1024.Idx → ℝ, W m c = fun i => (r i : EReal)) ∧ ∃ r : S8192x1024.Idx → ℝ, D m c = fun i => (r i : EReal) := by
  have e := congrFun (hpre c) (ix0 : Pre_finite_attn.S_.Idx)
  simp only [Pre_finite_attn.fn, Pre_finite_attn.fn_part1, andi, IntOp.andi_eq_one] at e
  obtain ⟨⟨⟨⟨-, e0⟩, e1⟩, e2⟩, e3⟩ := e
  exact ⟨Reals.real_of_abs_lt _ _ (fun _ => by pointwise; exact Reals.ofBits_inf_bf16) _ _ _ _ e0,
    Reals.real_of_abs_lt _ _ (fun _ => by pointwise; exact Reals.ofBits_inf_bf16) _ _ _ _ e1,
    Reals.real_of_abs_lt _ _ (fun _ => by pointwise; exact Reals.ofBits_inf_bf16) _ _ _ _ e2,
    Reals.real_of_abs_lt _ _ (fun _ => by pointwise; exact Reals.ofBits_inf_bf16) _ _ _ _ e3⟩

/-- The scores' gradient, both ways. -/
theorem ds_eq (hpre : Pre_AttnIdeal_finite_attn (hPre_finite_attn := Pre_finite_attn.Gen.facts) m) (h : Fin 4) (r : Fin 8192) (j : Fin 256) :
    Softmax.ds (sc (n := 8192) (Q m c) (K m c) h r) (gr (n := 8192) (D m c) (W m c) h r) scale j
      = Softmax.dsChain (sc (n := 8192) (Q m c) (K m c) h r) (gr (n := 8192) (D m c) (W m c) h r) scale j := by
  obtain ⟨⟨q, eq⟩, ⟨k, ek⟩, ⟨w, ew⟩, ⟨d, ed⟩⟩ := reals m c hpre
  obtain ⟨s, es⟩ := scale_real
  refine Softmax.ds_eq_chain _ _ _ ⟨fun j => (∑ x, q (ix2 r (lane h x)) * k (ix2 j (lane h x))) * s, ?_⟩
    ⟨fun j => ∑ x, d (ix2 r (lane h x)) * w (ix2 j (lane h x)), ?_⟩ scale_real j
  · unfold sc
    simp only [eq, ek, es, ← EReal.coe_mul, Reals.coe_sum]
  · unfold gr
    simp only [ed, ew, ← EReal.coe_mul, Reals.coe_sum]

/-- The queries' gradients agree. -/
theorem dq_eq (hpre : Pre_AttnIdeal_finite_attn (hPre_finite_attn := Pre_finite_attn.Gen.facts) m) (r : Fin 8192) (l : Fin 1024) :
    dq (n := 8192) (Q m c) (K m c) (W m c) (D m c) r l
      = AttnRefIdeal.Read.val_main_v68 (F := Ideal) (Q m c) (K m c) (W m c) (D m c) (ix2 r l) := by
  rw [ref_dq]
  unfold dq
  simp only [ds_eq m c hpre]

/-- The keys' gradients agree. -/
theorem dk_eq (hpre : Pre_AttnIdeal_finite_attn (hPre_finite_attn := Pre_finite_attn.Gen.facts) m) (j : Fin 256) (l : Fin 1024) :
    dk (n := 8192) (Q m c) (K m c) (W m c) (D m c) j l
      = AttnRefIdeal.Read.val_main_v66 (F := Ideal) (Q m c) (K m c) (W m c) (D m c) (ix2 j l) := by
  rw [ref_dk]
  unfold dk
  simp only [ds_eq m c hpre]

/-- The queries' gradient, the whole array. -/
theorem out4 (hpre : Pre_AttnIdeal_finite_attn (hPre_finite_attn := Pre_finite_attn.Gen.facts) m) :
    (dats m 0 c).arrAt 4 cfg0.N = AttnRefIdeal.Read.val_main_v68 (F := Ideal) (Q m c) (K m c) (W m c) (D m c) := by
  refine (dats m 0 c).arrAt_eq_of_covers 4 _ (by decide +kernel) fun t hf y => ?_
  blk_simp
  rw [after0_4, out4_at]
  idx_vars y
  have e : dq (n := 2048) (iblk m c 0 t) (iblk m c 1 t) (iblk m c 2 t) (iblk m c 3 t) y0 y1
      = dq (n := 8192) (Q m c) (K m c) (W m c) (D m c) (row t y0) y1 := by
    unfold dq
    simp only [sc_blk, gr_blk, iblk1]
  refine e.trans ((dq_eq m c hpre _ _).trans ?_)
  blk_ext [idx t, row]

/-- The sum over the four blocks' rows is the sum over all rows. -/
theorem sum_rows (t : Fin cfg0.N) (hb : ∀ s : Fin 4, 4 * (t.val / 4) + s.val < cfg0.N) (f : Fin 8192 → EReal) :
    (∑ s : Fin 4, ∑ r : Fin 2048, f (row ⟨4 * (t.val / 4) + s.val, hb s⟩ r)) = ∑ r : Fin 8192, f r := by
  refine Fin.sum_mul_add_congr fun s r hl => congrArg f (Fin.ext ?_)
  have := lt_of_lt_of_eq t.isLt N_0
  show (4 * (t.val / 4) + s.val) * 2048 + r.val = s.val * 2048 + r.val
  omega

/-- The keys' gradient, the whole array. -/
theorem out5 (hpre : Pre_AttnIdeal_finite_attn (hPre_finite_attn := Pre_finite_attn.Gen.facts) m) :
    (dats m 0 c).arrAt 5 cfg0.N = AttnRefIdeal.Read.val_main_v66 (F := Ideal) (Q m c) (K m c) (W m c) (D m c) := by
  refine (dats m 0 c).arrAt_eq_of_covers 5 _ (by decide +kernel) fun t hf y => ?_
  blk_simp
  rw [after0_5, Pipeline.eq_sum_fin_of_reset_step_apply_of_flush (fun n h => (outsAt0 m c n h).2.1) 4 (fun _ => 0) _
    (fun t h y => out5_A m c t h y) (fun t h y => out5_B m c t h y) t ((flush0_5 t).mp hf), zero_add]
  idx_vars y
  unfold dk
  simp only [sc_blk, gr_blk, iblk0]
  refine (sum_rows t _ fun r => Softmax.ds (sc (n := 8192) (Q m c) (K m c) (head y1) r) (gr (n := 8192) (D m c) (W m c) (head y1) r) scale y0
    * Q m c (ix2 r y1)).trans ((dk_eq m c hpre y0 y1).trans ?_)
  blk_ext [idx t]

/-- The values' gradient, the whole array. -/
theorem out6 : (dats m 0 c).arrAt 6 cfg0.N = AttnRefIdeal.Read.val_main_v65 (F := Ideal) (Q m c) (K m c) (D m c) := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => 0) _
    (fun t h y => out6_A m c t h y) (fun t h y => out6_B m c t h y) t ((flush0_6 t).mp hf), zero_add]
  idx_vars y
  unfold dv
  simp only [sc_blk, iblk3]
  refine (sum_rows t _ fun r => Softmax.pr (sc (n := 8192) (Q m c) (K m c) (head y1) r) y0 * D m c (ix2 r y1)).trans
    ((ref_dv (Q m c) (D m c) (K m c) y0 y1).symm.trans ?_)
  blk_ext [idx t]

end Kernel

/-- Kernel and reference end with the same three results. -/
theorem algebraic : @algebraic_AttnIdeal_AttnRefIdeal_pre_finite_attn AttnIdeal.Gen.facts AttnRefIdeal.Gen.facts
    Pre_finite_attn.Gen.facts := by
  pair_intro
  · run_from AttnIdeal.Value.run_blocks m g
  · run_from AttnRefIdeal.Value.run m' g'
    all_goals obtain ⟨e0, e1, e2, e3⟩ := hagree c
    · rw [AttnRefIdeal.Read.val_main_v68_eq, e0, e1, e2, e3]
      exact (out4 m c hpre).symm
    · rw [AttnRefIdeal.Read.val_main_v66_eq, e0, e1, e2, e3]
      exact (out5 m c hpre).symm
    · exact (AttnRefIdeal.Read.val_main_v65_eq _ _ _).trans (out6 m c).symm

/-- The reference leaves its arguments as they were and every counter at zero. -/
theorem quiescent_ref : @quiescent_AttnRefIdeal AttnRefIdeal.Gen.facts := fun m ρ _ =>
  (θ_run AttnRefIdeal.defs _ _).mono (fun r h => ⟨fun c => (h c).2.2.2, sem_eq_zero_of_no_sems (by decide) r.2⟩)
    (AttnRefIdeal.Value.run (F := Ideal) m ρ)

/-- The reference's frame under the precondition. -/
theorem quiescent_ref_pre : @quiescent_AttnRefIdeal_pre_finite_attn AttnRefIdeal.Gen.facts Pre_finite_attn.Gen.facts :=
  fun m ρ _ => quiescent_ref m ρ trivial

end Cert.AttnValue

end
-- ==== Proof.Gate.lean ====
/-
  One row of the gated half of the mixer: the exact gelu and its derivative, and a layer norm of 512 numbers with its
  gradient. Each is written twice, as the kernel computes it by hand and as the chain rule gives it operation by operation;
  over real numbers the two are equal.
-/
module

public import proofs.«01_k».proof.Proof.Reals
public import Mathlib.Tactic.LinearCombination

@[expose] public section

noncomputable section

namespace Cert.Gate

open Idealize.ShloMosaic Cert.Reals
open scoped BigOperators

/-! ## gelu -/

/-- A half. -/
abbrev half : EReal := Ideal.ofBits .f32 0x3F000000#32

/-- The reciprocal root of two. -/
abbrev root : EReal := (((Real.sqrt 2)⁻¹ : ℝ) : EReal)

/-- The height of the bell curve, from the rounded `2 / √π`. -/
abbrev bell : EReal := ((9465531 / 16777216 * (Real.sqrt 2)⁻¹ : ℝ) : EReal)

/-- The normal distribution's function. -/
def cdf (x : EReal) : EReal := half * (1 + Ideal.erf (x * root))

/-- gelu, as the kernel has it. -/
def gelu (x : EReal) : EReal := x * cdf x

/-- gelu's derivative, as the kernel has it. -/
def slope (x : EReal) : EReal := cdf x + x * (Ideal.exp (Ideal.ofBits .f32 0xBF000000#32 * x * x) * bell)

/-- The reference's argument of `erfc`. -/
def arg (x : EReal) : EReal := Ideal.div (-x) (Ideal.sqrt (Ideal.ofBits .f32 0x40000000#32))

/-- gelu, as the reference has it. -/
def geluRef (x : EReal) : EReal := half * x * Ideal.erfc (arg x)

/-- gelu's gradient at the cotangent `d`, by the chain rule. -/
def slopeChain (x d : EReal) : EReal :=
  -(Ideal.div (Ideal.ofBits .f32 0xBF906EBB#32 * (half * x * d) * Ideal.exp (-(arg x * arg x))) (Ideal.sqrt (Ideal.ofBits .f32 0x40000000#32)))
    + half * (d * Ideal.erfc (arg x))

theorem ofBits_half : Ideal.ofBits .f32 0x3F000000#32 = ((1 / 2 : ℝ) : EReal) := by
  simp [Ideal.ofBits, Ideal.ieee]; rw [← EReal.coe_mul]; norm_num

theorem ofBits_one : Ideal.ofBits .f32 0x3F800000#32 = ((1 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_512 : Ideal.ofBits .f32 0x44000000#32 = ((512 : ℝ) : EReal) := by
  simp [Ideal.ofBits, Ideal.ieee]; rw [← EReal.coe_mul]; norm_num

theorem ofBits_bell : Ideal.ofBits .f32 0xBF906EBB#32 = ((-(9465531 / 8388608) : ℝ) : EReal) := by
  simp [Ideal.ofBits, Ideal.ieee]; rw [← EReal.coe_mul]; norm_num

theorem sqrt_two : Ideal.sqrt (Ideal.ofBits .f32 0x40000000#32) = ((Real.sqrt 2 : ℝ) : EReal) := by
  rw [ofBits_two]; exact (Ideal.sqrt_coe 2).trans (if_neg (by norm_num))

theorem sqrt_two_ne : Real.sqrt 2 ≠ 0 := (Real.sqrt_pos.2 (by norm_num)).ne'

/-- The reference's argument is the kernel's with its sign turned. -/
theorem arg_coe (x : ℝ) : arg (x : EReal) = -((x : EReal) * root) := by
  rw [arg, sqrt_two, ← EReal.coe_neg, div_coe _ sqrt_two_ne, ← EReal.coe_mul, ← EReal.coe_neg, div_eq_mul_inv, neg_mul]

/-- The two forms of the bell curve's exponent. -/
theorem exponent (x : ℝ) : -(x * (Real.sqrt 2)⁻¹ * (x * (Real.sqrt 2)⁻¹)) = -(1 / 2) * x * x := by
  have h : (Real.sqrt 2)⁻¹ * (Real.sqrt 2)⁻¹ = 1 / 2 := by rw [← mul_inv, Real.mul_self_sqrt (by norm_num)]; norm_num
  linear_combination -(x * x) * h

/-- The normal distribution's function at a real number is a real number. -/
theorem cdf_coe (x : ℝ) : ∃ e : ℝ, cdf (x : EReal) = ((1 / 2 * (1 + e) : ℝ) : EReal) ∧ Ideal.erfc (arg (x : EReal)) = ((1 + e : ℝ) : EReal) := by
  obtain ⟨e, he⟩ : ∃ e : ℝ, Ideal.erf ((x : EReal) * root) = e := ⟨_, by rw [← EReal.coe_mul]; exact Ideal.erf_coe _⟩
  refine ⟨e, ?_, ?_⟩
  · rw [cdf, show half = _ from ofBits_half, he, ← EReal.coe_one, ← EReal.coe_add, ← EReal.coe_mul]
  · rw [arg_coe, Ideal.erfc_neg, he, ← EReal.coe_one, ← EReal.coe_add]

/-- gelu is one function, and real at a real number. -/
theorem gelu_eq (x : ℝ) : ∃ g : ℝ, gelu (x : EReal) = g ∧ geluRef (x : EReal) = g := by
  obtain ⟨e, h, h'⟩ := cdf_coe x
  refine ⟨x * (1 / 2 * (1 + e)), ?_, ?_⟩
  · rw [gelu, h, ← EReal.coe_mul]
  · rw [geluRef, h', show half = _ from ofBits_half, ← EReal.coe_mul, ← EReal.coe_mul]
    congr 1; ring

/-- gelu's gradient is one function. -/
theorem slope_eq (x d : ℝ) : (d : EReal) * slope (x : EReal) = slopeChain (x : EReal) (d : EReal) := by
  obtain ⟨e, h, h'⟩ := cdf_coe x
  rw [slope, slopeChain, h, h', arg_coe, sqrt_two, show half = _ from ofBits_half, ofBits_neg_half, ofBits_bell]
  simp only [← EReal.coe_mul, ← EReal.coe_neg, Reals.exp_coe, div_coe _ sqrt_two_ne, ← EReal.coe_add, neg_mul_neg]
  congr 1
  rw [exponent]
  ring

/-! ## The layer norm -/

/-- The mean of a row. -/
def mean (v : Fin 512 → EReal) : EReal := Ideal.div (∑ k, v k) (Ideal.ofBits .f32 0x44000000#32)

/-- A row less its mean. -/
def cen (v : Fin 512 → EReal) (l : Fin 512) : EReal := v l - mean v

/-- The variance plus `ε`. -/
def var (v : Fin 512 → EReal) : EReal := mean (fun k => cen v k * cen v k) + Ideal.ofBits .f32 0x358637BD#32

/-- The reciprocal deviation. -/
def rstd (v : Fin 512 → EReal) : EReal := Ideal.rsqrt (var v)

/-- The normalised row. -/
def hat (v : Fin 512 → EReal) (l : Fin 512) : EReal := cen v l * rstd v

/-- The gradient of a row `v` at the cotangent `a` (already times the gain), as the kernel writes it. -/
def dv (v a : Fin 512 → EReal) (l : Fin 512) : EReal :=
  rstd v * (a l - mean a - hat v l * mean fun k => a k * hat v k)

/-- The cotangent that reaches the sum of squares. -/
def dsq (v a : Fin 512 → EReal) : EReal :=
  Ideal.div ((∑ k, cen v k * a k) * (Ideal.ofBits .f32 0xBF000000#32 * Ideal.div (rstd v) (var v))) (Ideal.ofBits .f32 0x44000000#32)

/-- The cotangent that reaches the row less its mean. -/
def dcen (v a : Fin 512 → EReal) (l : Fin 512) : EReal := a l * rstd v + cen v l * dsq v a + dsq v a * cen v l

/-- The gradient of a row as the chain rule gives it. -/
def dvChain (v a : Fin 512 → EReal) (l : Fin 512) : EReal := dcen v a l + mean fun k => -dcen v a k

theorem mean_coe (v : Fin 512 → ℝ) : mean (fun k => (v k : EReal)) = (((∑ k, v k) / 512 : ℝ) : EReal) := by
  rw [mean, coe_sum, ofBits_512, div_coe _ (by norm_num)]

/-- A real row less its mean. -/
def cenR (v : Fin 512 → ℝ) (l : Fin 512) : ℝ := v l - (∑ k, v k) / 512

theorem cen_coe (v : Fin 512 → ℝ) (l : Fin 512) : cen (fun k => (v k : EReal)) l = (cenR v l : EReal) := by
  rw [cen, mean_coe, ← EReal.coe_sub, cenR]

/-- A row less its mean sums to zero. -/
theorem sum_cenR (v : Fin 512 → ℝ) : ∑ k, cenR v k = 0 := by
  simp only [cenR, Finset.sum_sub_distrib, Finset.sum_const, Finset.card_univ, Fintype.card_fin, nsmul_eq_mul]
  push_cast
  ring

/-- The variance of a real row plus `ε`. -/
def varR (v : Fin 512 → ℝ) : ℝ := (∑ k, cenR v k * cenR v k) / 512 + eps

theorem varR_pos (v : Fin 512 → ℝ) : 0 < varR v :=
  add_pos_of_nonneg_of_pos (div_nonneg (Finset.sum_nonneg fun k _ => mul_self_nonneg _) (by norm_num)) eps_pos

theorem var_coe (v : Fin 512 → ℝ) : var (fun k => (v k : EReal)) = (varR v : EReal) := by
  simp only [var, cen_coe, ← EReal.coe_mul, mean_coe, ofBits_eps, ← EReal.coe_add, varR]

/-- The reciprocal deviation of a real row. -/
def rstdR (v : Fin 512 → ℝ) : ℝ := (Real.sqrt (varR v))⁻¹

theorem rstd_coe (v : Fin 512 → ℝ) : rstd (fun k => (v k : EReal)) = (rstdR v : EReal) := by
  rw [rstd, var_coe, rsqrt_coe (varR_pos v), rstdR]

theorem rstdR_sq (v : Fin 512 → ℝ) : rstdR v * rstdR v = (varR v)⁻¹ := by
  rw [rstdR, ← mul_inv, Real.mul_self_sqrt (varR_pos v).le]

theorem hat_coe (v : Fin 512 → ℝ) (l : Fin 512) : hat (fun k => (v k : EReal)) l = ((cenR v l * rstdR v : ℝ) : EReal) := by
  rw [hat, cen_coe, rstd_coe, ← EReal.coe_mul]

/-- The gradient of a real row. -/
def dvR (v a : Fin 512 → ℝ) (l : Fin 512) : ℝ :=
  rstdR v * (a l - (∑ k, a k) / 512 - cenR v l * rstdR v * ((∑ k, a k * (cenR v k * rstdR v)) / 512))

theorem dv_coe (v a : Fin 512 → ℝ) (l : Fin 512) : dv (fun k => (v k : EReal)) (fun k => (a k : EReal)) l = (dvR v a l : EReal) := by
  simp only [dv, rstd_coe, hat_coe, ← EReal.coe_mul, mean_coe, ← EReal.coe_sub, dvR]

/-- The real cotangent that reaches the sum of squares. -/
def dsqR (v a : Fin 512 → ℝ) : ℝ := (∑ k, cenR v k * a k) * (-(1 / 2) * (rstdR v / varR v)) / 512

theorem dsq_coe (v a : Fin 512 → ℝ) : dsq (fun k => (v k : EReal)) (fun k => (a k : EReal)) = (dsqR v a : EReal) := by
  simp only [dsq, cen_coe, rstd_coe, var_coe, ofBits_512, ofBits_neg_half, ← EReal.coe_mul, coe_sum,
    div_coe _ (by norm_num : (512 : ℝ) ≠ 0), div_coe _ (varR_pos v).ne', dsqR]

theorem dcen_coe (v a : Fin 512 → ℝ) (l : Fin 512) : dcen (fun k => (v k : EReal)) (fun k => (a k : EReal)) l
    = ((a l * rstdR v + cenR v l * dsqR v a + dsqR v a * cenR v l : ℝ) : EReal) := by
  simp only [dcen, cen_coe, rstd_coe, dsq_coe, ← EReal.coe_mul, ← EReal.coe_add]

theorem dvChain_coe (v a : Fin 512 → ℝ) (l : Fin 512) :
    dvChain (fun k => (v k : EReal)) (fun k => (a k : EReal)) l = (dvR v a l : EReal) := by
  simp only [dvChain, dcen_coe, ← EReal.coe_neg, mean_coe, ← EReal.coe_add]
  congr 1
  have h : ∑ k, -(a k * rstdR v + cenR v k * dsqR v a + dsqR v a * cenR v k) = -((∑ k, a k) * rstdR v) := by
    rw [Finset.sum_neg_distrib, Finset.sum_add_distrib, Finset.sum_add_distrib, ← Finset.sum_mul, ← Finset.sum_mul, ← Finset.mul_sum,
      sum_cenR]
    ring
  have hs : ∑ k, a k * (cenR v k * rstdR v) = (∑ k, cenR v k * a k) * rstdR v := by
    rw [Finset.sum_mul]
    exact Finset.sum_congr rfl fun k _ => by ring
  rw [h, dvR, hs, dsqR, div_eq_mul_inv (rstdR v), ← rstdR_sq]
  ring

end Cert.Gate

end
-- ==== Proof.Pool.lean ====
/-
  Sums over a window of a sequence indexed by the naturals. `trail w f r` is the sum of the `w` entries that end at `r`,
  `lead w f r` of the `w` entries that begin there. A running sum minus the same one `w` places earlier is the first, and
  the sum to the end of the differences of entries `w` places apart is the second, over real numbers. Doubling the window by
  adding the sums of its two halves is right over any values.
-/
module

public import proofs.«01_k».proof.Proof.Reals

@[expose] public section

noncomputable section

namespace Cert.Pool

open Idealize.ShloMosaic Cert.Reals
open scoped BigOperators

/-- A finite sequence, continued by zero. -/
def ext {n : ℕ} (x : Fin n → EReal) (j : ℕ) : EReal := if h : j < n then x ⟨j, h⟩ else 0

theorem ext_of_lt {n : ℕ} (x : Fin n → EReal) (j : Fin n) : ext x j = x j := dif_pos j.isLt

theorem ext_of_le {n : ℕ} (x : Fin n → EReal) {j : ℕ} (h : n ≤ j) : ext x j = 0 := dif_neg (by omega)

theorem ext_real {n : ℕ} (x : Fin n → ℝ) : ∃ q : ℕ → ℝ, ext (fun j => (x j : EReal)) = (fun j => (q j : EReal)) ∧ ∀ j, n ≤ j → q j = 0 := by
  refine ⟨fun j => if h : j < n then x ⟨j, h⟩ else 0, funext fun j => ?_, fun j h => dif_neg (by omega)⟩
  by_cases h : j < n
  · simp only [ext, dif_pos h]
  · simp only [ext, dif_neg h, EReal.coe_zero]

/-- The sum of the `w` entries that end at `r`. -/
def trail (w : ℕ) (f : ℕ → EReal) (r : ℕ) : EReal := ∑ k ∈ Finset.range w, if k ≤ r then f (r - k) else 0

/-- The sum of the `w` entries that begin at `r`. -/
def lead (w : ℕ) (f : ℕ → EReal) (r : ℕ) : EReal := ∑ k ∈ Finset.range w, f (r + k)

/-- The number of entries in the window that ends at `r`. -/
def count (w r : ℕ) : EReal := ((min (r + 1) w : ℕ) : ℝ)

theorem count_ne {w : ℕ} (h : 0 < w) (r : ℕ) : ((min (r + 1) w : ℕ) : ℝ) ≠ 0 := by
  have : 0 < min (r + 1) w := lt_min (by omega) h
  exact_mod_cast this.ne'

/-- A window's sum is a difference of running sums, over real numbers. -/
theorem trail_real (q : ℕ → ℝ) (r w : ℕ) : (∑ j ∈ Finset.range (r + 1), q j) - (∑ j ∈ Finset.range (r + 1 - w), q j)
    = ∑ k ∈ Finset.range w, if k ≤ r then q (r - k) else 0 := by
  induction w with
  | zero => simp
  | succ w ih =>
    rw [Finset.sum_range_succ _ w, ← ih]
    by_cases h : w ≤ r
    · have e : r + 1 - w = r + 1 - (w + 1) + 1 := by omega
      have e' : r + 1 - (w + 1) = r - w := by omega
      rw [if_pos h, e, Finset.sum_range_succ _ (r + 1 - (w + 1)), e']
      ring
    · have e : r + 1 - w = r + 1 - (w + 1) := by omega
      rw [if_neg h, e, add_zero]

theorem trail_eq (q : ℕ → ℝ) (w r : ℕ) :
    (∑ j ∈ Finset.range (r + 1), (q j : EReal)) - (∑ j ∈ Finset.range (r + 1 - w), (q j : EReal)) = trail w (fun j => (q j : EReal)) r := by
  unfold trail
  rw [coe_sum, coe_sum, ← EReal.coe_sub, trail_real, ← coe_sum]
  refine Finset.sum_congr rfl fun k _ => ?_
  split <;> simp

theorem trail_coe (q : ℕ → ℝ) (w r : ℕ) : ∃ s : ℝ, trail w (fun j => (q j : EReal)) r = s :=
  ⟨_, by rw [← trail_eq, coe_sum, coe_sum, ← EReal.coe_sub]⟩

theorem lead_real (f : ℕ → ℝ) (N : ℕ) (hf : ∀ j, N ≤ j → f j = 0) (w : ℕ) :
    ∑ k ∈ Finset.range N, (f k - f (k + w)) = ∑ k ∈ Finset.range w, f k := by
  induction w with
  | zero => simp
  | succ w ih =>
    rw [Finset.sum_range_succ, ← ih]
    have e : ∑ k ∈ Finset.range N, (f (k + w) - f (k + 1 + w)) = f (0 + w) - f (N + w) :=
      Finset.sum_range_sub' (fun k => f (k + w)) N
    rw [hf (N + w) (by omega), sub_zero, zero_add] at e
    rw [← e, ← Finset.sum_add_distrib]
    refine Finset.sum_congr rfl fun k _ => ?_
    rw [show k + 1 + w = k + (w + 1) by omega]
    ring

/-- The sum to the end of the differences of entries `w` places apart is the window's sum, over real numbers. -/
theorem lead_eq (q : ℕ → ℝ) (N : ℕ) (hq : ∀ j, N ≤ j → q j = 0) (w r : ℕ) :
    (∑ k ∈ Finset.range N, if r + k < N then (q (r + k) : EReal) + -(q (r + k + w) : EReal) else 0) = lead w (fun j => (q j : EReal)) r := by
  unfold lead
  rw [coe_sum, ← lead_real (fun k => q (r + k)) N (fun j h => hq _ (by omega)) w, ← coe_sum]
  refine Finset.sum_congr rfl fun k _ => ?_
  split
  · rw [← EReal.coe_neg, ← EReal.coe_add, ← sub_eq_add_neg, add_assoc]
  · rw [hq _ (by omega), hq (r + (k + w)) (by omega)]; simp

theorem lead_coe (q : ℕ → ℝ) (w r : ℕ) : lead w (fun j => (q j : EReal)) r = ((∑ k ∈ Finset.range w, q (r + k) : ℝ) : EReal) := by
  rw [lead, coe_sum]

/-! ## Windows by doubling -/

/-- The sum of the `w` entries that end at `j`, where there are that many. -/
def back (w : ℕ) (g : ℕ → EReal) (j : ℕ) : EReal := ∑ k ∈ Finset.range w, g (j - k)

theorem back_one (g : ℕ → EReal) (j : ℕ) : back 1 g j = g j := by simp [back]

theorem back_double (w : ℕ) (g : ℕ → EReal) (j : ℕ) : back w g j + back w g (j - w) = back (w + w) g j := by
  simp only [back, Finset.sum_range_add, Nat.sub_sub]

theorem lead_one (g : ℕ → EReal) (j : ℕ) : lead 1 g j = g j := by simp [lead]

theorem lead_double (w : ℕ) (g : ℕ → EReal) (j : ℕ) : lead w g j + lead w g (j + w) = lead (w + w) g j := by
  simp only [lead, Finset.sum_range_add, Nat.add_assoc]

/-- One doubling of trailing sums of the rows of a block, by a rotation of its rows. -/
theorem back_step {m n : ℕ} (w : ℕ) (b : BitVec 32) (hb : b.toNat = w) (s : FVec Ideal ⟨2, ![m, n]⟩ .f32) (g : Fin n → ℕ → EReal)
    (hs : ∀ (j : Fin m) (l : Fin n), w ≤ j + 1 → s (ix2 j l) = back w (g l) j)
    (h : Shape.Rotates ⟨2, ![m, n]⟩ 0 none) (j : Fin m) (l : Fin n) (hj : w + w ≤ j + 1) (hw : 0 < w) :
    addf s (dynamicRotate 0 b none s h) (ix2 j l) = back (w + w) (g l) j := by
  have e : dynamicRotate 0 b none s h (ix2 j l) = s (ix2 ⟨j - w, by omega⟩ l) := by
    rw [Pointwise.dynamicRotate_apply, Shape.Idx.norm_def]
    refine congrArg s (funext fun a => ?_)
    fin_cases a
    · refine Fin.ext ?_
      show (j.val + m - (b.toNat + 0) % m) % m = j - w
      have := j.isLt
      rw [hb, Nat.add_zero, Nat.mod_eq_of_lt (by omega : w < m), show j.val + m - w = (j - w) + m by omega, Nat.add_mod_right,
        Nat.mod_eq_of_lt (by omega)]
    · rfl
  show s (ix2 j l) + dynamicRotate 0 b none s h (ix2 j l) = _
  rw [e, hs j l (by omega), hs ⟨j - w, by omega⟩ l (by show w ≤ j - w + 1; omega)]
  exact back_double w (g l) j

/-- One doubling of leading sums of the rows of a block, by a rotation of its rows the other way. -/
theorem lead_step {m n : ℕ} (w : ℕ) (b : BitVec 32) (hb : b.toNat + w = m) (s : FVec Ideal ⟨2, ![m, n]⟩ .f32) (g : Fin n → ℕ → EReal)
    (hs : ∀ (j : Fin m) (l : Fin n), j + w ≤ m → s (ix2 j l) = lead w (g l) j)
    (h : Shape.Rotates ⟨2, ![m, n]⟩ 0 none) (j : Fin m) (l : Fin n) (hj : j + (w + w) ≤ m) (hw : 0 < w) :
    addf s (dynamicRotate 0 b none s h) (ix2 j l) = lead (w + w) (g l) j := by
  have e : dynamicRotate 0 b none s h (ix2 j l) = s (ix2 ⟨j + w, by omega⟩ l) := by
    rw [Pointwise.dynamicRotate_apply, Shape.Idx.norm_def]
    refine congrArg s (funext fun a => ?_)
    fin_cases a
    · refine Fin.ext ?_
      show (j.val + m - (b.toNat + 0) % m) % m = j + w
      have := j.isLt
      rw [Nat.add_zero, Nat.mod_eq_of_lt (by omega : b.toNat < m), show j.val + m - b.toNat = j + w by omega, Nat.mod_eq_of_lt (by omega)]
    · rfl
  show s (ix2 j l) + dynamicRotate 0 b none s h (ix2 j l) = _
  rw [e, hs j l (by omega), hs ⟨j + w, by omega⟩ l (by show j + w + w ≤ m; omega)]
  exact lead_double w (g l) j

/-- The number of rows of a window, as the programs count it. -/
theorem count_word (w n : ℕ) (hw : w < 2 ^ 20) (hn : n + 1 < 2 ^ 20) :
    FloatOps.sitofp (F := Ideal) .f32 (IntOp.minsi (BitVec.ofNat 32 n + 1#32) (BitVec.ofNat 32 w)) = count w n := by
  have e : BitVec.ofNat 32 n + 1#32 = BitVec.ofNat 32 (n + 1) := (BitVec.ofNat_add n 1).symm
  have a : (BitVec.ofNat 32 (n + 1)).toInt = ((n + 1 : ℕ) : ℤ) := by
    rw [BitVec.toInt_eq_toNat_of_lt (by rw [BitVec.toNat_ofNat]; omega), BitVec.toNat_ofNat]
    omega
  have b : (BitVec.ofNat 32 w).toInt = (w : ℤ) := by
    rw [BitVec.toInt_eq_toNat_of_lt (by rw [BitVec.toNat_ofNat]; omega), BitVec.toNat_ofNat]
    omega
  have h : (IntOp.minsi (BitVec.ofNat 32 (n + 1)) (BitVec.ofNat 32 w)).toInt = ((min (n + 1) w : ℕ) : ℤ) := by
    unfold IntOp.minsi
    rw [BitVec.slt_eq_decide, a, b]
    by_cases h : ((n + 1 : ℕ) : ℤ) < w
    · rw [decide_eq_true h, if_pos rfl, a]
      omega
    · rw [decide_eq_false h, if_neg (by decide), b]
      omega
  show (((IntOp.minsi (BitVec.ofNat 32 n + 1#32) (BitVec.ofNat 32 w)).toInt : ℝ) : EReal) = count w n
  rw [e, h]
  rfl

/-- A row's mean over the window that ends there, less the row. -/
def dev (w : ℕ) (f : ℕ → EReal) (r : ℕ) : EReal := Ideal.div (trail w f r) (count w r) - f r

/-- What a cotangent `D` of `dev` gives its argument. -/
def spread (w : ℕ) (D : ℕ → EReal) (r : ℕ) : EReal := lead w (fun j => Ideal.div (D j) (count w j)) r - D r

/-- A block's rows with the sixteen above it, none above the first block. -/
def above (f : ℕ → EReal) (i e : ℕ) : EReal := if 16 ≤ e ∨ 0 < i then f (512 * i + e - 16) else 0

theorem back_above (w : ℕ) (hw : w ≤ 16) (f : ℕ → EReal) (i j : ℕ) : back w (above f i) (16 + j) = trail w f (512 * i + j) := by
  refine Finset.sum_congr rfl fun k hk => ?_
  have hk : k < w := Finset.mem_range.1 hk
  unfold above
  by_cases h : k ≤ 512 * i + j
  · rw [if_pos h, if_pos (by omega), show 512 * i + (16 + j - k) - 16 = 512 * i + j - k by omega]
  · rw [if_neg h, if_neg (by omega)]

end Cert.Pool

end
-- ==== Proof.MixPool.lean ====
/-
  One block of the pooling gradient: the rows' deviations from their windows' means, and what the block gives to the weight,
  the scale and the projection. A block is 512 rows; the sixteen rows above it and the sixteen below it come along.
-/
module

public import proofs.«01_k».proof.Defs
public import proofs.«01_k».proof.Proof.Pool
public import proofs.«01_k».proof.Proof.Gen.MixerIdeal.Skeleton
public import Idealize.ShloMosaic.Lib.Pipeline.ValueKit

@[expose] public section

set_option maxRecDepth 16384

noncomputable section

namespace Cert.MixerValue

open Idealize.ShloMosaic Idealize.ShloMosaic.TcCoe
open Cert.MixerIdeal Cert.MixerIdeal.Gen

/-- Lane `a` of group `g`. -/
def col (g : Fin 4) (a : Fin 128) : Fin 512 := ⟨128 * g + a, by omega⟩

/-- The group of a lane. -/
def grp (l : Fin 512) : Fin 4 := ⟨l / 128, by omega⟩

/-- A lane's place in its group. -/
def sub (l : Fin 512) : Fin 128 := ⟨l % 128, by omega⟩

theorem grp_col (g : Fin 4) (a : Fin 128) : grp (col g a) = g := Fin.ext (by show (128 * g.val + a) / 128 = g; omega)

theorem sub_col (g : Fin 4) (a : Fin 128) : sub (col g a) = a := Fin.ext (by show (128 * g.val + a) % 128 = a; omega)

theorem col_sub (l : Fin 512) : col (grp l) (sub l) = l := Fin.ext (by show 128 * (l.val / 128) + l % 128 = l; omega)

/-- The window of each group. -/
def win (g : Fin 4) : ℕ := 2 ^ (g.val + 1)

section Spec

variable (P Q : Fin 512 → ℕ → EReal) (ps : Fin 512 → EReal) (W : Fin 4 → Fin 128 → Fin 128 → EReal)

/-- The pooled deviations, a lane and a row. -/
def devs (l : Fin 512) (r : ℕ) : EReal := Pool.dev (win (grp l)) (P l) r

/-- Their product with the group's weight. -/
def pre (l : Fin 512) (r : ℕ) : EReal := ∑ a, devs P (col (grp l) a) r * W (grp l) a (sub l)

/-- The cotangent times the scale. -/
def ys (l : Fin 512) (r : ℕ) : EReal := Q l r * ps l

/-- The cotangent of the deviations. -/
def dd (l : Fin 512) (r : ℕ) : EReal := ∑ b, ys Q ps (col (grp l) b) r * W (grp l) (sub l) b

/-- The pooled part of the projection's gradient. -/
def dp (l : Fin 512) (r : ℕ) : EReal := Pool.spread (win (grp l)) (dd Q ps W l) r

end Spec

section Block

variable (i : grid0.Coords)

theorem word_row (a j : ℕ) :
    IntOp.addi (Scalar.muli (BitVec.ofNat 32 a) 512#32) (BitVec.ofNat 32 j) = BitVec.ofNat 32 (512 * a + j) := by
  show BitVec.ofNat 32 a * 512#32 + BitVec.ofNat 32 j = _
  rw [Nat.mul_comm 512 a, BitVec.ofNat_add, BitVec.ofNat_mul]

theorem pay13_at (j : Fin 512) (l : Fin 1) : k0_pay13 i (ix2 j l) = BitVec.ofNat 32 (512 * (i 0).val + j) := by
  pointwise [k0_pay13]
  exact word_row (i 0).val j

theorem pay14_at (j : Fin 528) (l : Fin 1) : k0_pay14 i (ix2 j l) = BitVec.ofNat 32 (512 * (i 0).val + j) := by
  pointwise [k0_pay14]
  exact word_row (i 0).val j

variable (P Q : Fin 512 → ℕ → EReal) (p q : Vec Ideal S512x512 .f32) (h n : Vec Ideal S16x512 .f32)
  (hp : ∀ (j : Fin 512) l, p (ix2 j l) = P l (512 * (i 0).val + j))
  (hh : 0 < (i 0).val → ∀ (j : Fin 16) l, h (ix2 j l) = P l (512 * (i 0).val + j - 16))
  (hq : ∀ (j : Fin 512) l, q (ix2 j l) = Q l (512 * (i 0).val + j))
  (hn : (i 0).val < 15 → ∀ (j : Fin 16) l, n (ix2 j l) = Q l (512 * (i 0).val + 512 + j))
  (hz : ∀ l r, 8192 ≤ r → Q l r = 0)

include hp hh in
theorem pay15_at (e : Fin 528) (l : Fin 512) : k0_pay15 i p h (ix2 e l) = Pool.above (P l) (i 0).val e := by
  pointwise [k0_pay15]
  unfold Pool.above
  have hi : (i 0).val < 16 := (i 0).isLt
  by_cases he : e.val < 16
  · rw [dif_pos he]
    by_cases h0 : 0 < (i 0).val
    · have hc : Scalar.cmpi .sgt (BitVec.ofNat 32 (i 0).val) 0#32 = 1#1 := by
        revert hi h0
        generalize (i 0).val = a
        intro hi h0
        interval_cases a <;> rfl
      rw [hc, if_pos (Or.inr h0)]
      exact hh h0 ⟨e, he⟩ l
    · have hc : Scalar.cmpi .sgt (BitVec.ofNat 32 (i 0).val) 0#32 = 0#1 := by
        rw [show (i 0).val = 0 by omega]
        rfl
      rw [hc, if_neg (by omega)]
      rfl
  · rw [dif_neg he, if_pos (Or.inl (by omega)), hp]
    exact congrArg (P l) (by show 512 * (i 0).val + (e.val - 16) = _; omega)

include hq hn hz in
theorem pay16_at (e : Fin 528) (l : Fin 512) : k0_pay16 i q n (ix2 e l) = Q l (512 * (i 0).val + e) := by
  pointwise [k0_pay16]
  have hi : (i 0).val < 16 := (i 0).isLt
  by_cases he : e.val < 512
  · rw [dif_pos he]
    exact hq ⟨e, he⟩ l
  · rw [dif_neg he]
    by_cases h0 : (i 0).val < 15
    · have hc : Scalar.cmpi .slt (BitVec.ofNat 32 (i 0).val) 15#32 = 1#1 := by
        revert h0
        generalize (i 0).val = a
        intro h0
        interval_cases a <;> rfl
      rw [hc]
      refine (hn h0 ⟨e - 512, by omega⟩ l).trans (congrArg (Q l) ?_)
      show 512 * (i 0).val + 512 + (e.val - 512) = _
      omega
    · have h15 : (i 0).val = 15 := by omega
      have hc : Scalar.cmpi .slt (BitVec.ofNat 32 (i 0).val) 15#32 = 0#1 := by
        rw [h15]
        rfl
      rw [hc, hz l _ (by omega)]
      rfl

/-- One group's lanes of a block of rows. -/
theorem lanes_at {m : ℕ} {φ : EltTy} (g : Fin 4) (o : ℕ) (ho : o = 128 * g) (x : Vec Ideal ⟨2, ![m, 512]⟩ φ)
    (hs : Shape.Slices ⟨2, ![m, 512]⟩ ![0, o] ⟨2, ![m, 128]⟩) (j : Fin m) (a : Fin 128) :
    extractStridedSlice ⟨2, ![m, 128]⟩ ![0, o] x hs (ix2 j a) = x (ix2 j (col g a)) := by
  subst ho
  pointwise
  refine congrArg x (funext fun b => ?_)
  fin_cases b
  · exact Fin.ext (Nat.zero_add _)
  · rfl

/-- Rows' window sums over their counts, less the rows. -/
theorem dev_at (g : Fin 4) (w : BitVec 32) (hw : w = BitVec.ofNat 32 (win g)) (R : FVec Ideal S528x128 .f32) (x : FVec Ideal S512x128 .f32)
    (hR : ∀ (j : Fin 528) a, win g ≤ j + 1 → R (ix2 j a) = Pool.back (win g) (Pool.above (P (col g a)) (i 0).val) j)
    (hx : ∀ (j : Fin 512) a, x (ix2 j a) = P (col g a) (512 * (i 0).val + j)) (j : Fin 512) (a : Fin 128) :
    truncf .bf16 (subf (divf (extractStridedSlice S512x128 ![16, 0] R slices_S528x128_o16_0_S512x128)
      (broadcastTo S512x128 (sitofp .f32 (minsi (addi (k0_pay13 i) (broadcast S512x1 1#32)) (broadcast S512x1 w)) : FVec Ideal S512x1 .f32)
        broadcasts_S512x1_S512x128)) x) bitsLt_bf16_f32 (ix2 j a)
      = devs P (col g a) (512 * (i 0).val + j) := by
  have hi : (i 0).val < 16 := (i 0).isLt
  have h16 : win g ≤ 16 := by fin_cases g <;> decide
  have hc := Pool.count_word (win g) (512 * (i 0).val + j) (by omega) (by omega)
  unfold devs Pool.dev
  rw [grp_col, ← hc, ← hx, ← Pool.back_above _ h16, ← hR ⟨16 + j, by omega⟩ a (by show _ ≤ 16 + j.val + 1; omega), hw, ← pay13_at i j 0]
  clear hR hx
  pointwise
  rfl

include hp hh in
theorem above_at (g : Fin 4) (o : ℕ) (ho : o = 128 * g) (hs : Shape.Slices S528x512 ![0, o] S528x128) (j : Fin 528) (a : Fin 128) (_ : 1 ≤ j.val + 1) :
    extractStridedSlice S528x128 ![0, o] (k0_pay15 i p h) hs (ix2 j a) = Pool.back 1 (Pool.above (P (col g a)) (i 0).val) j :=
  (lanes_at (φ := .f32) g o ho (k0_pay15 i p h) hs j a).trans ((pay15_at i P p h hp hh j (col g a)).trans (Pool.back_one _ _).symm)

include hp hh in
theorem dev0_at (j : Fin 512) (a : Fin 128) : k0_pay17 i p h (ix2 j a) = devs P (col 0 a) (512 * (i 0).val + j) := by
  have s1 := fun (j : Fin 528) (a : Fin 128) hj => Pool.back_step 1 1#32 rfl _ (fun a => Pool.above (P (col 0 a)) (i 0).val)
    (above_at i P p h hp hh 0 0 rfl slices_S528x512_o0_0_S528x128) rotates_S528x128_d0 j a hj (by decide)
  exact dev_at i P 0 2#32 rfl _ _ s1 (fun j a => (lanes_at 0 0 rfl p slices_S512x512_o0_0_S512x128 j a).trans (hp j _)) j a

include hp hh in
theorem dev1_at (j : Fin 512) (a : Fin 128) : k0_pay26 (k0_pay13 i) p (k0_pay15 i p h) (ix2 j a) = devs P (col 1 a) (512 * (i 0).val + j) := by
  have s1 := fun (j : Fin 528) (a : Fin 128) hj => Pool.back_step 1 1#32 rfl _ (fun a => Pool.above (P (col 1 a)) (i 0).val)
    (above_at i P p h hp hh 1 128 rfl slices_S528x512_o0_128_S528x128) rotates_S528x128_d0 j a hj (by decide)
  have s2 := fun (j : Fin 528) (a : Fin 128) hj => Pool.back_step 2 2#32 rfl _ (fun a => Pool.above (P (col 1 a)) (i 0).val)
    (s1) rotates_S528x128_d0 j a hj (by decide)
  exact dev_at i P 1 4#32 rfl _ _ s2 (fun j a => (lanes_at 1 128 rfl p slices_S512x512_o0_128_S512x128 j a).trans (hp j _)) j a

include hp hh in
theorem dev2_at (j : Fin 512) (a : Fin 128) : k0_pay32 (k0_pay13 i) p (k0_pay15 i p h) (ix2 j a) = devs P (col 2 a) (512 * (i 0).val + j) := by
  have s1 := fun (j : Fin 528) (a : Fin 128) hj => Pool.back_step 1 1#32 rfl _ (fun a => Pool.above (P (col 2 a)) (i 0).val)
    (above_at i P p h hp hh 2 256 rfl slices_S528x512_o0_256_S528x128) rotates_S528x128_d0 j a hj (by decide)
  have s2 := fun (j : Fin 528) (a : Fin 128) hj => Pool.back_step 2 2#32 rfl _ (fun a => Pool.above (P (col 2 a)) (i 0).val)
    (s1) rotates_S528x128_d0 j a hj (by decide)
  have s3 := fun (j : Fin 528) (a : Fin 128) hj => Pool.back_step 4 4#32 rfl _ (fun a => Pool.above (P (col 2 a)) (i 0).val)
    (s2) rotates_S528x128_d0 j a hj (by decide)
  exact dev_at i P 2 8#32 rfl _ _ s3 (fun j a => (lanes_at 2 256 rfl p slices_S512x512_o0_256_S512x128 j a).trans (hp j _)) j a

include hp hh in
theorem dev3_at (j : Fin 512) (a : Fin 128) : k0_pay40 (k0_pay13 i) p (k0_pay15 i p h) (ix2 j a) = devs P (col 3 a) (512 * (i 0).val + j) := by
  have s1 := fun (j : Fin 528) (a : Fin 128) hj => Pool.back_step 1 1#32 rfl _ (fun a => Pool.above (P (col 3 a)) (i 0).val)
    (above_at i P p h hp hh 3 384 rfl slices_S528x512_o0_384_S528x128) rotates_S528x128_d0 j a hj (by decide)
  have s2 := fun (j : Fin 528) (a : Fin 128) hj => Pool.back_step 2 2#32 rfl _ (fun a => Pool.above (P (col 3 a)) (i 0).val)
    (s1) rotates_S528x128_d0 j a hj (by decide)
  have s3 := fun (j : Fin 528) (a : Fin 128) hj => Pool.back_step 4 4#32 rfl _ (fun a => Pool.above (P (col 3 a)) (i 0).val)
    (s2) rotates_S528x128_d0 j a hj (by decide)
  have s4 := fun (j : Fin 528) (a : Fin 128) hj => Pool.back_step 8 8#32 rfl _ (fun a => Pool.above (P (col 3 a)) (i 0).val)
    (s3) rotates_S528x128_d0 j a hj (by decide)
  exact dev_at i P 3 16#32 rfl _ _ s4 (fun j a => (lanes_at 3 384 rfl p slices_S512x512_o0_384_S512x128 j a).trans (hp j _)) j a

variable (ps : Fin 512 → EReal) (W : Fin 4 → Fin 128 → Fin 128 → EReal) (g : Fin 4) (w : Vec Ideal S1x128x128 .f32)
  (hw : ∀ a b, w (ix3 0 a b) = W g a b) (d : FVec Ideal S512x128 .bf16)
  (hd : ∀ (j : Fin 512) a, d (ix2 j a) = devs P (col g a) (512 * (i 0).val + j)) (s : Vec Ideal S1x128 .f32)
  (hs : ∀ a, s (ix2 0 a) = ps (col g a)) (Y : FVec Ideal S528x128 .bf16)
  (hY : ∀ (e : Fin 528) a, Y (ix2 e a) = ys Q ps (col g a) (512 * (i 0).val + e))

include hw hd hq in
/-- What a block adds to the scale's gradient. -/
theorem dps_at (o : ℕ) (ho : o = 128 * g) (hs : Shape.Slices S512x512 ![0, o] S512x128) (x : Vec Ideal S1x128 .f32) (b : Fin 128) :
    addf (shapeCast S1x128 x shapeCasts_S1x128_S1x128) (shapeCast S1x128 (multiReduction .add [0] S128
      (mulf (extractStridedSlice S512x128 ![0, o] q hs : FVec Ideal S512x128 .f32) (matmul dot_S512x128_S128x128_S512x128_1_0_0_1_n_n none d
        (truncf .bf16 (shapeCast S128x128 w shapeCasts_S1x128x128_S128x128 : FVec Ideal S128x128 .f32) bitsLt_bf16_f32) (constant S512x128 .f32 0x00000000#32)))
      0x00000000#32 reduces_S512x128_S128 (.inl rfl) rfl) shapeCasts_S128_S1x128) (ix2 0 b)
      = x (ix2 0 b) + ∑ j : Fin 512, Q (col g b) (512 * (i 0).val + j) * pre P W (col g b) (512 * (i 0).val + j) := by
  have hl := fun (j : Fin 512) (a : Fin 128) => (lanes_at g o ho q hs j a).trans (hq j _)
  unfold pre
  simp only [grp_col, sub_col, ← hl, ← hw, ← hd]
  clear hl
  generalize extractStridedSlice S512x128 ![0, o] q hs = q'
  clear hd hw hq
  pointwise

include hs hq hn hz in
theorem ys_at (o : ℕ) (ho : o = 128 * g) (hs' : Shape.Slices S528x512 ![0, o] S528x128) (e : Fin 528) (a : Fin 128) :
    truncf .bf16 (mulf (extractStridedSlice S528x128 ![0, o] (k0_pay16 i q n) hs' : FVec Ideal S528x128 .f32)
      (broadcastTo S528x128 (shapeCast S1x128 s shapeCasts_S1x128_S1x128 : FVec Ideal S1x128 .f32) broadcasts_S1x128_S528x128)) bitsLt_bf16_f32 (ix2 e a)
      = ys Q ps (col g a) (512 * (i 0).val + e) := by
  have hl := (lanes_at (φ := .f32) g o ho (k0_pay16 i q n) hs' e a).trans (pay16_at i Q q n hq hn hz e _)
  unfold ys
  rw [← hl, ← hs]
  clear hl
  generalize extractStridedSlice S528x128 ![0, o] (k0_pay16 i q n) hs' = q'
  clear hs hq hn hz
  pointwise

include hd hY in
/-- What a block adds to the weight's gradient. -/
theorem dpw_at (x : Vec Ideal S1x128x128 .f32) (a b : Fin 128) :
    shapeCast S1x128x128 (addf (shapeCast S128x128 x shapeCasts_S1x128x128_S128x128 : FVec Ideal S128x128 .f32)
      (matmul dot_S512x128_S512x128_S128x128_0_0_1_1_n_n none d
        (extractStridedSlice S512x128 ![0, 0] Y slices_S528x128_o0_0_S512x128) (constant S128x128 .f32 0x00000000#32)))
      shapeCasts_S128x128_S1x128x128 (ix3 0 a b)
      = x (ix3 0 a b) + ∑ j : Fin 512, devs P (col g a) (512 * (i 0).val + j) * ys Q ps (col g b) (512 * (i 0).val + j) := by
  have h := fun (j : Fin 512) => hY ⟨j, by omega⟩ b
  simp only [← hd, ← h]
  clear hd hY h
  pointwise

include hY hw in
theorem dd_at (e : Fin 528) (a : Fin 128) :
    matmul dot_S528x128_S128x128_S528x128_1_1_0_0_n_n none Y
      (truncf .bf16 (shapeCast S128x128 w shapeCasts_S1x128x128_S128x128 : FVec Ideal S128x128 .f32) bitsLt_bf16_f32) (constant S528x128 .f32 0x00000000#32) (ix2 e a)
      = dd Q ps W (col g a) (512 * (i 0).val + e) := by
  unfold dd
  simp only [grp_col, sub_col, ← hw, ← hY]
  clear hY hw
  pointwise

variable (D : FVec Ideal S528x128 .f32) (hD : ∀ (e : Fin 528) a, D (ix2 e a) = dd Q ps W (col g a) (512 * (i 0).val + e))

include hD in
theorem share_at (c : BitVec 32) (hc : c = BitVec.ofNat 32 (win g)) (e : Fin 528) (a : Fin 128) (_ : e.val + 1 ≤ 528) :
    divf D (broadcastTo S528x128 (sitofp .f32 (minsi (addi (k0_pay14 i) (broadcast S528x1 1#32)) (broadcast S528x1 c)) : FVec Ideal S528x1 .f32)
        broadcasts_S528x1_S528x128) (ix2 e a)
      = Pool.lead 1 (fun j => Ideal.div (dd Q ps W (col g a) (512 * (i 0).val + j)) (Pool.count (win g) (512 * (i 0).val + j))) e := by
  have hi : (i 0).val < 16 := (i 0).isLt
  have h16 : win g ≤ 16 := by fin_cases g <;> decide
  have hc' := Pool.count_word (win g) (512 * (i 0).val + e) (by omega) (by omega)
  rw [Pool.lead_one, ← hc', ← hD, hc, ← pay14_at i e 0]
  clear hD
  pointwise
  rfl

include hD in
theorem dp_at (L : FVec Ideal S528x128 .f32) (hL : ∀ (e : Fin 528) a, e.val + win g ≤ 528 → L (ix2 e a)
      = Pool.lead (win g) (fun j => Ideal.div (dd Q ps W (col g a) (512 * (i 0).val + j)) (Pool.count (win g) (512 * (i 0).val + j))) e)
    (j : Fin 512) (a : Fin 128) :
    truncf .bf16 (subf (extractStridedSlice S512x128 ![0, 0] L slices_S528x128_o0_0_S512x128)
      (extractStridedSlice S512x128 ![0, 0] D slices_S528x128_o0_0_S512x128)) bitsLt_bf16_f32 (ix2 j a)
      = dp Q ps W (col g a) (512 * (i 0).val + j) := by
  have h16 : win g ≤ 16 := by fin_cases g <;> decide
  have h1 := hL ⟨j, by omega⟩ a (by show j.val + _ ≤ _; omega)
  have h2 := hD ⟨j, by omega⟩ a
  unfold dp Pool.spread
  rw [grp_col]
  have h3 : Pool.lead (win g) (fun j => Ideal.div (dd Q ps W (col g a) j) (Pool.count (win g) j)) (512 * (i 0).val + j)
      = L (ix2 ⟨j, by omega⟩ a) := by
    rw [h1]
    simp only [Pool.lead, Nat.add_assoc]
  rw [h3, ← h2]
  clear hL hD h1 h2 h3
  pointwise

include hq hn hz in
theorem dp0_at (j : Fin 512) (a : Fin 128) (hw : ∀ a b, w (ix3 0 a b) = W 0 a b) (hs : ∀ a, s (ix2 0 a) = ps (col 0 a)) :
    k0_pay25 (k0_pay23 (k0_pay14 i) (k0_pay16 i q n) w s) (k0_pay24 (k0_pay16 i q n) w s) (ix2 j a) = dp Q ps W (col 0 a) (512 * (i 0).val + j) := by
  have hD := dd_at i Q ps W 0 w hw _ (ys_at i Q q n hq hn hz ps 0 s hs 0 rfl slices_S528x512_o0_0_S528x128)
  have s1 := fun (e : Fin 528) (a : Fin 128) hj => Pool.lead_step 1 527#32 rfl _ _
    (share_at i Q ps W 0 _ hD 2#32 rfl) rotates_S528x128_d0 e a hj (by decide)
  exact dp_at i Q ps W 0 _ hD _ s1 j a

include hq hn hz in
theorem dp1_at (j : Fin 512) (a : Fin 128) (hw : ∀ a b, w (ix3 0 a b) = W 1 a b) (hs : ∀ a, s (ix2 0 a) = ps (col 1 a)) :
    k0_pay31 (k0_pay14 i) (k0_pay27 w) (k0_pay29 (k0_pay16 i q n) s) (ix2 j a) = dp Q ps W (col 1 a) (512 * (i 0).val + j) := by
  have hD := dd_at i Q ps W 1 w hw _ (ys_at i Q q n hq hn hz ps 1 s hs 128 rfl slices_S528x512_o0_128_S528x128)
  have s1 := fun (e : Fin 528) (a : Fin 128) hj => Pool.lead_step 1 527#32 rfl _ _
    (share_at i Q ps W 1 _ hD 4#32 rfl) rotates_S528x128_d0 e a hj (by decide)
  have s2 := fun (e : Fin 528) (a : Fin 128) hj => Pool.lead_step 2 526#32 rfl _ _
    (s1) rotates_S528x128_d0 e a hj (by decide)
  exact dp_at i Q ps W 1 _ hD _ s2 j a

include hq hn hz in
theorem dp2_at (j : Fin 512) (a : Fin 128) (hw : ∀ a b, w (ix3 0 a b) = W 2 a b) (hs : ∀ a, s (ix2 0 a) = ps (col 2 a)) :
    k0_pay39 (k0_pay37 (k0_pay16 i q n) w s) (k0_pay38 (k0_pay14 i) (k0_pay16 i q n) w s) (ix2 j a) = dp Q ps W (col 2 a) (512 * (i 0).val + j) := by
  have hD := dd_at i Q ps W 2 w hw _ (ys_at i Q q n hq hn hz ps 2 s hs 256 rfl slices_S528x512_o0_256_S528x128)
  have s1 := fun (e : Fin 528) (a : Fin 128) hj => Pool.lead_step 1 527#32 rfl _ _
    (share_at i Q ps W 2 _ hD 8#32 rfl) rotates_S528x128_d0 e a hj (by decide)
  have s2 := fun (e : Fin 528) (a : Fin 128) hj => Pool.lead_step 2 526#32 rfl _ _
    (s1) rotates_S528x128_d0 e a hj (by decide)
  have s3 := fun (e : Fin 528) (a : Fin 128) hj => Pool.lead_step 4 524#32 rfl _ _
    (s2) rotates_S528x128_d0 e a hj (by decide)
  exact dp_at i Q ps W 2 _ hD _ s3 j a

include hq hn hz in
theorem dp3_at (j : Fin 512) (a : Fin 128) (hw : ∀ a b, w (ix3 0 a b) = W 3 a b) (hs : ∀ a, s (ix2 0 a) = ps (col 3 a)) :
    k0_pay45 (k0_pay14 i) (k0_pay16 i q n) (k0_pay41 w) s (ix2 j a) = dp Q ps W (col 3 a) (512 * (i 0).val + j) := by
  have hD := dd_at i Q ps W 3 w hw _ (ys_at i Q q n hq hn hz ps 3 s hs 384 rfl slices_S528x512_o0_384_S528x128)
  have s1 := fun (e : Fin 528) (a : Fin 128) hj => Pool.lead_step 1 527#32 rfl _ _
    (share_at i Q ps W 3 _ hD 16#32 rfl) rotates_S528x128_d0 e a hj (by decide)
  have s2 := fun (e : Fin 528) (a : Fin 128) hj => Pool.lead_step 2 526#32 rfl _ _
    (s1) rotates_S528x128_d0 e a hj (by decide)
  have s3 := fun (e : Fin 528) (a : Fin 128) hj => Pool.lead_step 4 524#32 rfl _ _
    (s2) rotates_S528x128_d0 e a hj (by decide)
  have s4 := fun (e : Fin 528) (a : Fin 128) hj => Pool.lead_step 8 520#32 rfl _ _
    (s3) rotates_S528x128_d0 e a hj (by decide)
  exact dp_at i Q ps W 3 _ hD _ s4 j a

end Block

end Cert.MixerValue

end
-- ==== Proof.MixGate.lean ====
/-
  One block of the gating gradient. A block is four chunks of 128 rows, and the 512 lanes are four heads of 128 lanes: a
  chunk's rows are mixed by their head's lower triangle of weights. `q` counts the chunks of the whole arrays.
-/
module

public import proofs.«01_k».proof.Defs
public import proofs.«01_k».proof.Proof.Gate
public import proofs.«01_k».proof.Proof.MixPool
public import proofs.«01_k».proof.Proof.Gen.MixerIdeal.Skeleton
public import Idealize.ShloMosaic.Lib.Pipeline.ValueKit
public import Idealize.ShloMosaic.Lib.WordCmp

@[expose] public section

set_option maxRecDepth 16384

noncomputable section

namespace Cert.MixerValue

open Idealize.ShloMosaic Idealize.ShloMosaic.TcCoe
open Cert.MixerIdeal Cert.MixerIdeal.Gen

section Spec

variable (U V D : ℕ → Fin 512 → EReal) (G : Fin 512 → EReal) (W : Fin 4 → Fin 128 → Fin 128 → EReal) (B : Fin 128 → Fin 512 → EReal)

/-- The lower triangle of the weights. -/
def low (h : Fin 4) (t s : Fin 128) : EReal := if s ≤ t then W h t s else 0

/-- A row of gelu's values. -/
def act (r : ℕ) (l : Fin 512) : EReal := Gate.gelu (V r l)

/-- The row normalised, times the gain. -/
def vns (r : ℕ) (l : Fin 512) : EReal := Gate.hat (act V r) l * G l

/-- The mixed rows of chunk `q`. -/
def zs (q : ℕ) (t : Fin 128) (l : Fin 512) : EReal := (∑ s : Fin 128, low W (grp l) t s * vns V G (128 * q + s) l) + B t l

/-- The cotangent of the mixed rows. -/
def dzs (r : ℕ) (l : Fin 512) : EReal := D r l * act U r l

/-- The cotangent of the normalised rows. -/
def dvns (q : ℕ) (s : Fin 128) (l : Fin 512) : EReal := ∑ t : Fin 128, low W (grp l) t s * dzs U D (128 * q + t) l

/-- What a chunk gives to the weight. -/
def dws (h : Fin 4) (t s : Fin 128) (q : ℕ) : EReal :=
  ∑ a : Fin 128, dzs U D (128 * q + t) (col h a) * vns V G (128 * q + s) (col h a)

/-- The row cotangent of the normalised rows, by its row in the whole array. -/
def dvnRow (r : ℕ) (l : Fin 512) : EReal := dvns U D W (r / 128) ⟨r % 128, Nat.mod_lt _ (by decide)⟩ l

/-- The gradient of the first gated part. -/
def du (r : ℕ) (l : Fin 512) : EReal := D r l * zs V G W B (r / 128) ⟨r % 128, Nat.mod_lt _ (by decide)⟩ l * Gate.slope (U r l)

/-- The gradient of the second gated part. -/
def dvs (r : ℕ) (l : Fin 512) : EReal :=
  Gate.dv (act V r) (fun k => dvnRow U D W r k * G k) l * Gate.slope (V r l)

end Spec

section Block

theorem named_root : Named.named (F := Ideal) (φ := .f32) Cert.MixerIdeal.κ "sqrt_half" 0x3F3504F3#32 = Gate.root := rfl

theorem named_bell : Named.named (F := Ideal) (φ := .f32) Cert.MixerIdeal.κ "inv_sqrt_2pi" 0x3ECC422A#32 = Gate.bell := rfl

theorem gelu_at (x : Vec Ideal S512x512 .f32) (j l : Fin 512) : k0_pay47 x (ix2 j l) = Gate.gelu (x (ix2 j l)) := by
  pointwise [k0_pay47, k0_pay46]
  rfl

theorem slope_at (x : Vec Ideal S512x512 .f32) (j l : Fin 512) : k0_pay48 x (ix2 j l) = Gate.slope (x (ix2 j l)) := by
  pointwise [k0_pay48, k0_pay46]
  rfl

theorem slope_at' (x : Vec Ideal S512x512 .f32) (j l : Fin 512) : k0_pay50 x (ix2 j l) = Gate.slope (x (ix2 j l)) := slope_at x j l

variable (x : Vec Ideal S512x512 .f32) (X : ℕ → Fin 512 → EReal) (o : ℕ) (hx : ∀ (j : Fin 512) l, x (ix2 j l) = X (o + j) l)

include hx in
theorem cen_at (j l : Fin 512) : k0_pay51 x (ix2 j l) = Gate.cen (act X (o + j)) l := by
  have h := fun l => gelu_at x j l
  unfold Gate.cen Gate.mean act
  simp only [← hx, ← h]
  clear h hx
  have e : k0_pay47 x = mulf (F := Ideal) (φ := .f32) x (k0_pay49 x) := rfl
  rw [e]
  pointwise [k0_pay51]

include hx in
theorem var_at (j : Fin 512) (l : Fin 1) : k0_pay52 x (ix2 j l) = Gate.mean fun k => Gate.cen (act X (o + j)) k * Gate.cen (act X (o + j)) k := by
  unfold Gate.mean
  simp only [← cen_at x X o hx]
  pointwise [k0_pay52]

include hx in
theorem rstd_at (j : Fin 512) (l : Fin 1) : k0_pay53 (k0_pay52 x) (ix2 j l) = Gate.rstd (act X (o + j)) := by
  unfold Gate.rstd Gate.var
  rw [← var_at x X o hx j l]
  pointwise [k0_pay53]

include hx in
theorem hat_at (j l : Fin 512) : k0_pay54 (k0_pay51 x) (k0_pay52 x) (ix2 j l) = Gate.hat (act X (o + j)) l := by
  unfold Gate.hat
  rw [← rstd_at x X o hx j 0, ← cen_at x X o hx j l]
  pointwise [k0_pay54]

variable (g : Vec Ideal S1x512 .f32) (G : Fin 512 → EReal) (hg : ∀ l, g (ix2 0 l) = G l)

include hx hg in
theorem vn_at (j l : Fin 512) : k0_pay56 (k0_pay51 x) (k0_pay52 x) g (ix2 j l) = vns X G (o + j) l := by
  unfold vns
  rw [← hat_at x X o hx j l, ← hg l]
  pointwise [k0_pay56, k0_pay55]

/-- A tile of a block of rows. -/
theorem tile_at {φ : EltTy} (c h : Fin 4) (o₁ o₂ : ℕ) (h₁ : o₁ = 128 * c) (h₂ : o₂ = 128 * h) (v : Vec Ideal S512x512 φ)
    (hs : Shape.Slices S512x512 ![o₁, o₂] S128x128) (t a : Fin 128) :
    extractStridedSlice S128x128 ![o₁, o₂] v hs (ix2 t a) = v (ix2 (col c t) (col h a)) := by
  subst h₁ h₂
  pointwise
  refine congrArg v (funext fun b => ?_)
  fin_cases b <;> rfl

variable (W : Fin 4 → Fin 128 → Fin 128 → EReal) (h : Fin 4) (w : Vec Ideal S1x128x128 .f32) (hw : ∀ t s, w (ix3 0 t s) = W h t s)

/-- The triangle's mask. -/
theorem mask_at (t s : Fin 128) : k0_pay57 (ix2 t s) = if s ≤ t then 1#1 else 0#1 := by
  pointwise [k0_pay57]
  rw [WordCmp.cmpi_sge_ofNat (by omega) (by omega)]
  by_cases h : s ≤ t
  · rw [if_pos h, decide_eq_true (Fin.le_def.1 h)]; rfl
  · rw [if_neg h, decide_eq_false (fun e => h (Fin.le_def.2 e))]; rfl

include hw in
theorem low_at (t s : Fin 128) : k0_pay91 k0_pay57 w (ix2 t s) = low W h t s := by
  unfold low
  rw [← hw]
  have e := mask_at t s
  revert e
  generalize k0_pay57 = m
  intro e
  pointwise [k0_pay91]
  rw [e]
  split <;> rfl

include hw in
theorem lowT_at (s t : Fin 128) : k0_pay93 k0_pay57 w (ix2 s t) = low W h t s := by
  rw [← low_at W h w hw t s]
  pointwise [k0_pay93]

include hw in
theorem lowB_at (t s : Fin 128) : k0_pay92 k0_pay57 w (ix2 t s) = low W h t s := by
  rw [← low_at W h w hw t s]
  pointwise [k0_pay92]

variable (U V D : ℕ → Fin 512 → EReal) (B : Fin 128 → Fin 512 → EReal) (n : ℕ) (c : Fin 4)
  (u : FVec Ideal S512x512 .f32) (hu : ∀ (j : Fin 512) l, u (ix2 j l) = act U (512 * n + j) l)
  (v : FVec Ideal S512x512 .bf16) (hv : ∀ (j : Fin 512) l, v (ix2 j l) = vns V G (512 * n + j) l)
  (m : FVec Ideal S128x128 .bf16) (hm : ∀ t s, m (ix2 t s) = low W h t s)
  (m' : FVec Ideal S128x128 .bf16) (hm' : ∀ s t, m' (ix2 s t) = low W h t s)
  (b : Vec Ideal S128x128 .f32) (hb : ∀ t a, b (ix2 t a) = B t (col h a))
  (d : Vec Ideal S128x128 .f32) (hd : ∀ t a, d (ix2 t a) = D (128 * (4 * n + c) + t) (col h a))
  (o₁ o₂ : ℕ) (h₁ : o₁ = 128 * c) (h₂ : o₂ = 128 * h) (hs : Shape.Slices S512x512 ![o₁, o₂] S128x128)

theorem row_col (t : Fin 128) : 512 * n + (col c t).val = 128 * (4 * n + c) + t := by
  show 512 * n + (128 * c.val + t) = _
  omega

include hv h₁ h₂ in
theorem vn_tile (t a : Fin 128) : extractStridedSlice S128x128 ![o₁, o₂] v hs (ix2 t a) = vns V G (128 * (4 * n + c) + t) (col h a) := by
  rw [← row_col]
  exact (tile_at (φ := .bf16) c h o₁ o₂ h₁ h₂ v hs t a).trans (hv _ _)

include hu hd h₁ h₂ in
theorem dz_tile (t a : Fin 128) : mulf d (extractStridedSlice S128x128 ![o₁, o₂] u hs : FVec Ideal S128x128 .f32) (ix2 t a)
    = dzs U D (128 * (4 * n + c) + t) (col h a) := by
  have e := (tile_at (φ := .f32) c h o₁ o₂ h₁ h₂ u hs t a).trans (hu _ _)
  rw [row_col] at e
  unfold dzs
  rw [← e, ← hd]
  rfl

include hv hm hb hd h₁ h₂ in
theorem du_tile (t a : Fin 128) :
    shapeCast S128x128 (mulf d (addf (matmul dot_S128x128_S128x128_S128x128_1_0_0_1_n_n none m
      (extractStridedSlice S128x128 ![o₁, o₂] v hs) (constant S128x128 .f32 0x00000000#32) : FVec Ideal S128x128 .f32)
      (shapeCast S128x128 b shapeCasts_S128x128_S128x128)) : FVec Ideal S128x128 .f32) shapeCasts_S128x128_S128x128 (ix2 t a)
      = D (128 * (4 * n + c) + t) (col h a) * zs V G W B (4 * n + c) t (col h a) := by
  have e := fun s => vn_tile G h V n c v hv o₁ o₂ h₁ h₂ hs s a
  unfold zs
  simp only [grp_col, ← hd, ← hb, ← hm, ← e]
  clear hd hb hm hv e
  generalize extractStridedSlice S128x128 ![o₁, o₂] v hs = v'
  pointwise

variable (Z : FVec Ideal S128x128 .bf16) (hZ : ∀ t a, Z (ix2 t a) = dzs U D (128 * (4 * n + c) + t) (col h a))

include hm' hZ in
theorem dvn_tile (s a : Fin 128) :
    shapeCast S128x128 (matmul dot_S128x128_S128x128_S128x128_1_0_0_1_n_n none m' Z (constant S128x128 .f32 0x00000000#32) : FVec Ideal S128x128 .f32)
      shapeCasts_S128x128_S128x128 (ix2 s a) = dvns U D W (4 * n + c) s (col h a) := by
  unfold dvns
  simp only [grp_col, ← hm', ← hZ]
  clear hm' hZ
  pointwise

include hv hZ h₁ h₂ in
theorem dsw_tile (x : Vec Ideal S1x128x128 .f32) (t s : Fin 128) :
    shapeCast S1x128x128 (addf (shapeCast S128x128 x shapeCasts_S1x128x128_S128x128 : FVec Ideal S128x128 .f32)
      (matmul dot_S128x128_S128x128_S128x128_1_1_0_0_n_n none Z (extractStridedSlice S128x128 ![o₁, o₂] v hs) (constant S128x128 .f32 0x00000000#32)))
      shapeCasts_S128x128_S1x128x128 (ix3 0 t s) = x (ix3 0 t s) + dws U V D G h t s (4 * n + c) := by
  have e := fun s a => vn_tile G h V n c v hv o₁ o₂ h₁ h₂ hs s a
  unfold dws
  simp only [← hZ, ← e]
  clear hZ hv e
  generalize extractStridedSlice S128x128 ![o₁, o₂] v hs = v'
  pointwise

theorem dzacc_tile (y z : FVec Ideal S128x128 .f32) (t a : Fin 128) :
    shapeCast S128x128 (addf y z : FVec Ideal S128x128 .f32) shapeCasts_S128x128_S128x128 (ix2 t a) = y (ix2 t a) + z (ix2 t a) := by
  pointwise

variable (z : Vec Ideal S512x512 .f32)

include hx in
/-- What a block adds to the gain's gradient. -/
theorem dsg_at (y : Vec Ideal S1x512 .f32) (l : Fin 512) : k0_pay191 (k0_pay54 (k0_pay51 x) (k0_pay52 x)) z y (ix2 0 l)
    = y (ix2 0 l) + ∑ j : Fin 512, z (ix2 j l) * Gate.hat (act X (o + j)) l := by
  simp only [← hat_at x X o hx]
  clear hx
  generalize k0_pay54 (k0_pay51 x) (k0_pay52 x) = k
  pointwise [k0_pay191]

include hx hg in
/-- The second gated part of the projection's gradient. -/
theorem dv_at (j l : Fin 512) :
    k0_pay2 (k0_pay50 x) (k0_pay53 (k0_pay52 x)) (k0_pay192 (k0_pay54 (k0_pay51 x) (k0_pay52 x)) (k0_pay55 g) z) (ix2 j l)
      = Gate.dv (act X (o + j)) (fun k => z (ix2 j k) * G k) l * Gate.slope (X (o + j) l) := by
  unfold Gate.dv
  rw [← hx, ← slope_at', ← rstd_at x X o hx j 0]
  simp only [← hat_at x X o hx, ← hg]
  clear hx hg
  generalize k0_pay54 (k0_pay51 x) (k0_pay52 x) = k
  generalize k0_pay50 x = k'
  generalize k0_pay53 (k0_pay52 x) = k''
  unfold Gate.mean
  pointwise [k0_pay2, k0_pay192, k0_pay55]

end Block

end Cert.MixerValue

end
-- ==== Proof.Mixer.lean ====
/-
  The gradient of the mixers: where the kernel's blocks lie in the whole arrays.
-/
module

public import proofs.«01_k».proof.Defs
public import proofs.«01_k».proof.Proof.MixGate
public import proofs.«01_k».proof.Proof.Gen.MixerIdeal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.MixerValue

open Idealize.ShloMosaic Idealize.ShloMosaic.TcCoe
open Cert.MixerIdeal Cert.MixerIdeal.Gen

variable (m : (ℓ : Loc nD τ sig) → Buf (Elt Ideal) ℓ) (c : Dev nD)

/-- The projection: pooled, first gated and second gated lanes. -/
abbrev aX : FVec Ideal S8192x1536 .f32 := m ((c.tc : Thread nD τ).loc main_arg0)

/-- The incoming gradient: pooled and gated lanes. -/
abbrev aD : FVec Ideal S8192x1024 .f32 := m ((c.tc : Thread nD τ).loc main_arg1)

/-- The pooling weights. -/
abbrev aW : FVec Ideal S4x128x128 .f32 := m ((c.tc : Thread nD τ).loc main_arg2)

/-- The pooling scale. -/
abbrev aS : FVec Ideal S512 .f32 := m ((c.tc : Thread nD τ).loc main_arg3)

/-- The gating gain. -/
abbrev aG : FVec Ideal S512 .f32 := m ((c.tc : Thread nD τ).loc main_arg4)

/-- The gating weights. -/
abbrev aM : FVec Ideal S4x128x128 .f32 := m ((c.tc : Thread nD τ).loc main_arg5)

/-- The gating bias. -/
abbrev aB : FVec Ideal S4x128 .f32 := m ((c.tc : Thread nD τ).loc main_arg6)

/-- Where each window's block lies. -/
theorem idx : ∀ t : Fin cfg0.N, (win0_0.index t 0 = t.val ∧ win0_0.index t 1 = 0)
    ∧ (win0_1.index t 0 = 32 * t.val - 1 ∧ win0_1.index t 1 = 0) ∧ (win0_2.index t 0 = t.val ∧ win0_2.index t 1 = 0)
    ∧ (win0_3.index t 0 = min (32 * t.val + 32) 511 ∧ win0_3.index t 1 = 0)
    ∧ (win0_4.index t 0 = 0 ∧ win0_4.index t 1 = 0 ∧ win0_4.index t 2 = 0)
    ∧ (win0_5.index t 0 = 0 ∧ win0_5.index t 1 = 0) ∧ (win0_6.index t 0 = 0 ∧ win0_6.index t 1 = 0)
    ∧ (win0_7.index t 0 = 0 ∧ win0_7.index t 1 = 0 ∧ win0_7.index t 2 = 0)
    ∧ (win0_8.index t 0 = 0 ∧ win0_8.index t 1 = 0) ∧ (win0_9.index t 0 = t.val ∧ win0_9.index t 1 = 0)
    ∧ (win0_10.index t 0 = 0 ∧ win0_10.index t 1 = 0 ∧ win0_10.index t 2 = 0)
    ∧ (win0_11.index t 0 = 0 ∧ win0_11.index t 1 = 0) ∧ (win0_12.index t 0 = 0 ∧ win0_12.index t 1 = 0)
    ∧ (win0_13.index t 0 = 0 ∧ win0_13.index t 1 = 0 ∧ win0_13.index t 2 = 0)
    ∧ (win0_14.index t 0 = 0 ∧ win0_14.index t 1 = 0) := by decide +kernel

/-- A point's number is its place on the grid's only axis. -/
theorem coord : ∀ t : Fin cfg0.N, ((grid0.coords t) 0).val = t.val := by decide +kernel

/-- Row `r` of point `t`, in the whole array. -/
def row (t : Fin cfg0.N) (r : Fin 512) : Fin 8192 := ⟨t.val * 512 + r, by have := lt_of_lt_of_eq t.isLt N_0; omega⟩

theorem iblk0 (t : Fin cfg0.N) (r : Fin 512) (l : Fin 1536) : iblk m c 0 t (ix2 r l) = aX m c (ix2 (row t r) l) := by
  blk_ext [iblk, V, idx t, row]

theorem iblk1 (t : Fin cfg0.N) (r : Fin 16) (l : Fin 512) :
    iblk m c 1 t (ix2 r l) = aX m c (ix2 ⟨(32 * t.val - 1) * 16 + r, by have := lt_of_lt_of_eq t.isLt N_0; omega⟩ ⟨l, by omega⟩) := by
  blk_ext [iblk, V, idx t]

theorem iblk2 (t : Fin cfg0.N) (r : Fin 512) (l : Fin 1024) : iblk m c 2 t (ix2 r l) = aD m c (ix2 (row t r) l) := by
  blk_ext [iblk, V, idx t, row]

theorem iblk3 (t : Fin cfg0.N) (r : Fin 16) (l : Fin 512) :
    iblk m c 3 t (ix2 r l) = aD m c (ix2 ⟨min (32 * t.val + 32) 511 * 16 + r, by omega⟩ ⟨l, by omega⟩) := by
  blk_ext [iblk, V, idx t]

theorem iblk4 (t : Fin cfg0.N) (g : Fin 4) (r l : Fin 128) : iblk m c 4 t (ix3 g r l) = aW m c (ix3 g r l) := by
  blk_ext [iblk, V, idx t]

theorem iblk5 (t : Fin cfg0.N) (l : Fin 512) : iblk m c 5 t (ix2 0 l) = aS m c (ix1 l) := by
  blk_ext! [iblk, V, idx t]

theorem iblk6 (t : Fin cfg0.N) (l : Fin 512) : iblk m c 6 t (ix2 0 l) = aG m c (ix1 l) := by
  blk_ext! [iblk, V, idx t]

theorem iblk7 (t : Fin cfg0.N) (g : Fin 4) (r l : Fin 128) : iblk m c 7 t (ix3 g r l) = aM m c (ix3 g r l) := by
  blk_ext [iblk, V, idx t]

theorem iblk8 (t : Fin cfg0.N) (r : Fin 128) (l : Fin 512) : iblk m c 8 t (ix2 r l) = aB m c (ix2 (grp l) r) := by
  have e : V m c main_v4 = shapeCast S128x512 (broadcastInDim S128x4x128 ![0, 1] bcast_S128x4_S128x4x128_0_1
      (transpose S128x4 [1, 0] (aB m c) transposes_S4x128_S128x4_1_0)) shapeCasts_S128x4x128_S128x512 := rfl
  have e' : V m c main_v4 (ix2 r l) = aB m c (ix2 (grp l) r) := by
    rw [e]
    generalize aB m c = b
    pointwise
    rfl
  rw [← e']
  blk_ext [iblk, idx t]

/-- The kernel's run, result by result. -/
theorem run_blocks (ρ : Dev nD → PrngReg) : θ_run (defs (F := Ideal)) (onTc (τ := τ) (main (F := Ideal))) ⟨m, fun _ => 0, ρ⟩ (fun r => ∀ c : Dev nD,
    r.2.mem ((c.tc : Thread nD τ).loc main_v5_0) = (dats m 0 c).arrAt 9 cfg0.N
      ∧ r.2.mem ((c.tc : Thread nD τ).loc main_v5_1) = (dats m 0 c).arrAt 10 cfg0.N
      ∧ r.2.mem ((c.tc : Thread nD τ).loc main_v5_2) = (dats m 0 c).arrAt 11 cfg0.N
      ∧ r.2.mem ((c.tc : Thread nD τ).loc main_v5_3) = (dats m 0 c).arrAt 12 cfg0.N
      ∧ r.2.mem ((c.tc : Thread nD τ).loc main_v5_4) = (dats m 0 c).arrAt 13 cfg0.N
      ∧ r.2.mem ((c.tc : Thread nD τ).loc main_v5_5) = (dats m 0 c).arrAt 14 cfg0.N) :=
  (θ_run (defs (F := Ideal)) _ _).mono (fun r h c => ⟨(h c).1 9, (h c).1 10, (h c).1 11, (h c).1 12, (h c).1 13, (h c).1 14⟩) (run_main m ρ)

end Cert.MixerValue

end
-- ==== Proof.MixSpec.lean ====
/-
  The mixers' gradients as functions of the seven argument arrays. Rows past the last are zero.
-/
module

public import proofs.«01_k».proof.Defs
public import proofs.«01_k».proof.Proof.MixGate

@[expose] public section

set_option maxRecDepth 16384

noncomputable section

namespace Cert.MixerValue

open Idealize.ShloMosaic Idealize.ShloMosaic.TcCoe

variable (X : FVec Ideal ⟨2, ![8192, 1536]⟩ .f32) (D : FVec Ideal ⟨2, ![8192, 1024]⟩ .f32) (W : FVec Ideal ⟨3, ![4, 128, 128]⟩ .f32)
  (S : FVec Ideal ⟨1, ![512]⟩ .f32) (G : FVec Ideal ⟨1, ![512]⟩ .f32) (M : FVec Ideal ⟨3, ![4, 128, 128]⟩ .f32) (B : FVec Ideal ⟨2, ![4, 128]⟩ .f32)

/-- The pooled lanes of the projection. -/
def fP (l : Fin 512) (r : ℕ) : EReal := Pool.ext (fun i : Fin 8192 => X (ix2 i ⟨l, by omega⟩)) r

/-- The pooled lanes of the incoming gradient. -/
def fQ (l : Fin 512) (r : ℕ) : EReal := Pool.ext (fun i : Fin 8192 => D (ix2 i ⟨l, by omega⟩)) r

/-- The first gated lanes. -/
def fU (r : ℕ) (l : Fin 512) : EReal := Pool.ext (fun i : Fin 8192 => X (ix2 i ⟨512 + l, by omega⟩)) r

/-- The second gated lanes. -/
def fV (r : ℕ) (l : Fin 512) : EReal := Pool.ext (fun i : Fin 8192 => X (ix2 i ⟨1024 + l, by omega⟩)) r

/-- The gated lanes of the incoming gradient. -/
def fD (r : ℕ) (l : Fin 512) : EReal := Pool.ext (fun i : Fin 8192 => D (ix2 i ⟨512 + l, by omega⟩)) r

/-- Weights of one group or head. -/
def fW (g : Fin 4) (a b : Fin 128) : EReal := W (ix3 g a b)

/-- A vector of the lanes. -/
def fS (l : Fin 512) : EReal := S (ix1 l)

/-- The bias of a place in a chunk and a lane. -/
def fB (t : Fin 128) (l : Fin 512) : EReal := B (ix2 (grp l) t)

/-- The projection's gradient. -/
def dproj (r : Fin 8192) (l : Fin 1536) : EReal :=
  if h : l.val < 512 then dp (fQ D) (fS S) (fW W) ⟨l, h⟩ r
  else if h' : l.val < 1024 then du (fU X) (fV X) (fD D) (fS G) (fW M) (fB B) r ⟨l - 512, by omega⟩
  else dvs (fU X) (fV X) (fD D) (fS G) (fW M) r ⟨l - 1024, by omega⟩

theorem dproj_pool (r : Fin 8192) (l : Fin 1536) (a : Fin 512) (h : l.val = a.val) :
    dproj X D W S G M B r l = dp (fQ D) (fS S) (fW W) a r := by
  unfold dproj
  rw [dif_pos (by omega)]
  exact congrArg (fun a => dp (fQ D) (fS S) (fW W) a r) (Fin.ext h)

theorem dproj_u (r : Fin 8192) (l : Fin 1536) (a : Fin 512) (h : l.val = 512 + a.val) :
    dproj X D W S G M B r l = du (fU X) (fV X) (fD D) (fS G) (fW M) (fB B) r a := by
  unfold dproj
  rw [dif_neg (by omega), dif_pos (by omega)]
  exact congrArg (fun a => du (fU X) (fV X) (fD D) (fS G) (fW M) (fB B) r a) (Fin.ext (by show l.val - 512 = a; omega))

theorem dproj_v (r : Fin 8192) (l : Fin 1536) (a : Fin 512) (h : l.val = 1024 + a.val) :
    dproj X D W S G M B r l = dvs (fU X) (fV X) (fD D) (fS G) (fW M) r a := by
  unfold dproj
  rw [dif_neg (by omega), dif_neg (by omega)]
  exact congrArg (fun a => dvs (fU X) (fV X) (fD D) (fS G) (fW M) r a) (Fin.ext (by show l.val - 1024 = a; omega))

/-- The pooling weights' gradient. -/
def dpw (g : Fin 4) (a b : Fin 128) : EReal := ∑ r : Fin 8192, devs (fP X) (col g a) r * ys (fQ D) (fS S) (col g b) r

/-- The pooling scale's gradient. -/
def dps (l : Fin 512) : EReal := ∑ r : Fin 8192, fQ D l r * pre (fP X) (fW W) l r

/-- The gating gain's gradient. -/
def dsg (l : Fin 512) : EReal := ∑ r : Fin 8192, dvnRow (fU X) (fD D) (fW M) r l * Gate.hat (act (fV X) r) l

/-- The gating weights' gradient. -/
def dsw (h : Fin 4) (t s : Fin 128) : EReal := if s ≤ t then ∑ q : Fin 64, dws (fU X) (fV X) (fD D) (fS G) h t s q else 0

/-- The gating bias's gradient, a head's in the lane of its number. -/
def dsb (t : Fin 128) (h : Fin 128) : EReal :=
  if hh : h.val < 4 then ∑ a : Fin 128, ∑ q : Fin 64, dzs (fU X) (fD D) (128 * q + t) (col ⟨h, hh⟩ a) else 0

end Cert.MixerValue

end
-- ==== Proof.MixTile.lean ====
/-
  The gradient of the mixers: what one point of the kernel's grid writes.
-/
module

public import proofs.«01_k».proof.Defs
public import proofs.«01_k».proof.Proof.Mixer
public import proofs.«01_k».proof.Proof.MixSpec

@[expose] public section

set_option maxRecDepth 16384

noncomputable section

namespace Cert.MixerValue

open Idealize.ShloMosaic Idealize.ShloMosaic.TcCoe
open Cert.MixerIdeal Cert.MixerIdeal.Gen

/-! ## Pieces of a block -/

theorem ld2 {φ : EltTy} {m n p q : ℕ} (B : Vec Ideal ⟨2, ![m, n]⟩ φ) (o₁ o₂ : ℕ) (h) (r : Fin p) (a : Fin q) (h₁ : o₁ + r < m) (h₂ : o₂ + a < n) :
    View.ld B (Rect.unit ![o₁, o₂] ![p, q] h) (ix2 r a) = B (ix2 ⟨o₁ + r, h₁⟩ ⟨o₂ + a, h₂⟩) := by
  refine congrArg B (funext fun b => Fin.ext ?_)
  fin_cases b
  · show o₁ + 1 * r.val = o₁ + r.val; omega
  · show o₂ + 1 * a.val = o₂ + a.val; omega

theorem ld3 {φ : EltTy} (B : Vec Ideal S4x128x128 φ) (o : ℕ) (g : Fin 4) (ho : o = g) (h) (r a : Fin 128) :
    View.ld B (Rect.unit ![o, 0, 0] ![1, 128, 128] h) (ix3 0 r a) = B (ix3 g r a) := by
  subst ho
  refine congrArg B (funext fun b => Fin.ext ?_)
  fin_cases b
  · rfl
  · show 0 + 1 * r.val = r.val; omega
  · show 0 + 1 * a.val = a.val; omega

/-- Sixteen tiles stored over a block. -/
theorem canon16 (P : Fin 4 → Fin 4 → Vec Ideal S128x128 .f32) (G : Fin 512 → Fin 512 → EReal)
    (hP : ∀ h c t a, P h c (ix2 t a) = G (col c t) (col h a)) (i33 i32 i31 i30 i23 i22 i21 i20 i13 i12 i11 i10 i03 i02 i01 i00) (y : S512x512.Idx) :
    View.canon (Val := Elt Ideal) (s := S512x512) (e := .f32) [⟨Rect.unit ![384, 384] ![128, 128] i33, P 3 3⟩, ⟨Rect.unit ![256, 384] ![128, 128] i32, P 3 2⟩, ⟨Rect.unit ![128, 384] ![128, 128] i31, P 3 1⟩, ⟨Rect.unit ![0, 384] ![128, 128] i30, P 3 0⟩, ⟨Rect.unit ![384, 256] ![128, 128] i23, P 2 3⟩, ⟨Rect.unit ![256, 256] ![128, 128] i22, P 2 2⟩, ⟨Rect.unit ![128, 256] ![128, 128] i21, P 2 1⟩, ⟨Rect.unit ![0, 256] ![128, 128] i20, P 2 0⟩, ⟨Rect.unit ![384, 128] ![128, 128] i13, P 1 3⟩, ⟨Rect.unit ![256, 128] ![128, 128] i12, P 1 2⟩, ⟨Rect.unit ![128, 128] ![128, 128] i11, P 1 1⟩, ⟨Rect.unit ![0, 128] ![128, 128] i10, P 1 0⟩, ⟨Rect.unit ![384, 0] ![128, 128] i03, P 0 3⟩, ⟨Rect.unit ![256, 0] ![128, 128] i02, P 0 2⟩, ⟨Rect.unit ![128, 0] ![128, 128] i01, P 0 1⟩, ⟨Rect.unit ![0, 0] ![128, 128] i00, P 0 0⟩] y = G (y 0) (y 1) := by
  refine View.canon_append_of_piecesOf (Val := Elt Ideal) (s := S512x512) (e := .f32) (fun y => G (y 0) (y 1)) [] [_, _, _, _, _, _, _, _, _, _, _, _, _, _, _, _]
    ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ y ?_
  · idx_vars x
    exact (hP 3 3 x0 x1).trans (congrArg₂ G (Fin.ext (by show 128 * 3 + x0.val = 384 + 1 * x0.val; omega)) (Fin.ext (by show 128 * 3 + x1.val = 384 + 1 * x1.val; omega)))
  · idx_vars x
    exact (hP 3 2 x0 x1).trans (congrArg₂ G (Fin.ext (by show 128 * 2 + x0.val = 256 + 1 * x0.val; omega)) (Fin.ext (by show 128 * 3 + x1.val = 384 + 1 * x1.val; omega)))
  · idx_vars x
    exact (hP 3 1 x0 x1).trans (congrArg₂ G (Fin.ext (by show 128 * 1 + x0.val = 128 + 1 * x0.val; omega)) (Fin.ext (by show 128 * 3 + x1.val = 384 + 1 * x1.val; omega)))
  · idx_vars x
    exact (hP 3 0 x0 x1).trans (congrArg₂ G (Fin.ext (by show 128 * 0 + x0.val = 0 + 1 * x0.val; omega)) (Fin.ext (by show 128 * 3 + x1.val = 384 + 1 * x1.val; omega)))
  · idx_vars x
    exact (hP 2 3 x0 x1).trans (congrArg₂ G (Fin.ext (by show 128 * 3 + x0.val = 384 + 1 * x0.val; omega)) (Fin.ext (by show 128 * 2 + x1.val = 256 + 1 * x1.val; omega)))
  · idx_vars x
    exact (hP 2 2 x0 x1).trans (congrArg₂ G (Fin.ext (by show 128 * 2 + x0.val = 256 + 1 * x0.val; omega)) (Fin.ext (by show 128 * 2 + x1.val = 256 + 1 * x1.val; omega)))
  · idx_vars x
    exact (hP 2 1 x0 x1).trans (congrArg₂ G (Fin.ext (by show 128 * 1 + x0.val = 128 + 1 * x0.val; omega)) (Fin.ext (by show 128 * 2 + x1.val = 256 + 1 * x1.val; omega)))
  · idx_vars x
    exact (hP 2 0 x0 x1).trans (congrArg₂ G (Fin.ext (by show 128 * 0 + x0.val = 0 + 1 * x0.val; omega)) (Fin.ext (by show 128 * 2 + x1.val = 256 + 1 * x1.val; omega)))
  · idx_vars x
    exact (hP 1 3 x0 x1).trans (congrArg₂ G (Fin.ext (by show 128 * 3 + x0.val = 384 + 1 * x0.val; omega)) (Fin.ext (by show 128 * 1 + x1.val = 128 + 1 * x1.val; omega)))
  · idx_vars x
    exact (hP 1 2 x0 x1).trans (congrArg₂ G (Fin.ext (by show 128 * 2 + x0.val = 256 + 1 * x0.val; omega)) (Fin.ext (by show 128 * 1 + x1.val = 128 + 1 * x1.val; omega)))
  · idx_vars x
    exact (hP 1 1 x0 x1).trans (congrArg₂ G (Fin.ext (by show 128 * 1 + x0.val = 128 + 1 * x0.val; omega)) (Fin.ext (by show 128 * 1 + x1.val = 128 + 1 * x1.val; omega)))
  · idx_vars x
    exact (hP 1 0 x0 x1).trans (congrArg₂ G (Fin.ext (by show 128 * 0 + x0.val = 0 + 1 * x0.val; omega)) (Fin.ext (by show 128 * 1 + x1.val = 128 + 1 * x1.val; omega)))
  · idx_vars x
    exact (hP 0 3 x0 x1).trans (congrArg₂ G (Fin.ext (by show 128 * 3 + x0.val = 384 + 1 * x0.val; omega)) (Fin.ext (by show 128 * 0 + x1.val = 0 + 1 * x1.val; omega)))
  · idx_vars x
    exact (hP 0 2 x0 x1).trans (congrArg₂ G (Fin.ext (by show 128 * 2 + x0.val = 256 + 1 * x0.val; omega)) (Fin.ext (by show 128 * 0 + x1.val = 0 + 1 * x1.val; omega)))
  · idx_vars x
    exact (hP 0 1 x0 x1).trans (congrArg₂ G (Fin.ext (by show 128 * 1 + x0.val = 128 + 1 * x0.val; omega)) (Fin.ext (by show 128 * 0 + x1.val = 0 + 1 * x1.val; omega)))
  · idx_vars x
    exact (hP 0 0 x0 x1).trans (congrArg₂ G (Fin.ext (by show 128 * 0 + x0.val = 0 + 1 * x0.val; omega)) (Fin.ext (by show 128 * 0 + x1.val = 0 + 1 * x1.val; omega)))
  · simp only [List.mem_cons, List.not_mem_nil, or_false, exists_eq_or_imp, exists_eq_left, Rect.mem_set_unit, Fin.forall_fin_two]
    have h0 := (y 0).isLt
    have h1 := (y 1).isLt
    simp at h0 h1 ⊢
    have e0 : (y 0).val < 128 ∨ (128 ≤ (y 0).val ∧ (y 0).val < 256) ∨ (256 ≤ (y 0).val ∧ (y 0).val < 384) ∨ 384 ≤ (y 0).val := by omega
    have e1 : (y 1).val < 128 ∨ (128 ≤ (y 1).val ∧ (y 1).val < 256) ∨ (256 ≤ (y 1).val ∧ (y 1).val < 384) ∨ 384 ≤ (y 1).val := by omega
    rcases e1 with e1 | e1 | e1 | e1 <;> rcases e0 with e0 | e0 | e0 | e0
    · exact Or.inr (Or.inr (Or.inr (Or.inr (Or.inr (Or.inr (Or.inr (Or.inr (Or.inr (Or.inr (Or.inr (Or.inr (Or.inr (Or.inr (Or.inr ((by omega))))))))))))))))
    · exact Or.inr (Or.inr (Or.inr (Or.inr (Or.inr (Or.inr (Or.inr (Or.inr (Or.inr (Or.inr (Or.inr (Or.inr (Or.inr (Or.inr (Or.inl (by omega)))))))))))))))
    · exact Or.inr (Or.inr (Or.inr (Or.inr (Or.inr (Or.inr (Or.inr (Or.inr (Or.inr (Or.inr (Or.inr (Or.inr (Or.inr (Or.inl (by omega))))))))))))))
    · exact Or.inr (Or.inr (Or.inr (Or.inr (Or.inr (Or.inr (Or.inr (Or.inr (Or.inr (Or.inr (Or.inr (Or.inr (Or.inl (by omega)))))))))))))
    · exact Or.inr (Or.inr (Or.inr (Or.inr (Or.inr (Or.inr (Or.inr (Or.inr (Or.inr (Or.inr (Or.inr (Or.inl (by omega))))))))))))
    · exact Or.inr (Or.inr (Or.inr (Or.inr (Or.inr (Or.inr (Or.inr (Or.inr (Or.inr (Or.inr (Or.inl (by omega)))))))))))
    · exact Or.inr (Or.inr (Or.inr (Or.inr (Or.inr (Or.inr (Or.inr (Or.inr (Or.inr (Or.inl (by omega))))))))))
    · exact Or.inr (Or.inr (Or.inr (Or.inr (Or.inr (Or.inr (Or.inr (Or.inr (Or.inl (by omega)))))))))
    · exact Or.inr (Or.inr (Or.inr (Or.inr (Or.inr (Or.inr (Or.inr (Or.inl (by omega))))))))
    · exact Or.inr (Or.inr (Or.inr (Or.inr (Or.inr (Or.inr (Or.inl (by omega)))))))
    · exact Or.inr (Or.inr (Or.inr (Or.inr (Or.inr (Or.inl (by omega))))))
    · exact Or.inr (Or.inr (Or.inr (Or.inr (Or.inl (by omega)))))
    · exact Or.inr (Or.inr (Or.inr (Or.inl (by omega))))
    · exact Or.inr (Or.inr (Or.inl (by omega)))
    · exact Or.inr (Or.inl (by omega))
    · exact Or.inl (by omega)

/-- The block so stored, read back whole. -/
theorem read16 {κ sp} (v : View sig κ sp S512x512 .f32) (P : Fin 4 → Fin 4 → Vec Ideal S128x128 .f32) (G : Fin 512 → Fin 512 → EReal)
    (hP : ∀ h c t a, P h c (ix2 t a) = G (col c t) (col h a)) (i33 i32 i31 i30 i23 i22 i21 i20 i13 i12 i11 i10 i03 i02 i01 i00) (i) (j l : Fin 512) :
    v.readCov (Val := Elt Ideal) [⟨Rect.unit ![384, 384] ![128, 128] i33, P 3 3⟩, ⟨Rect.unit ![256, 384] ![128, 128] i32, P 3 2⟩, ⟨Rect.unit ![128, 384] ![128, 128] i31, P 3 1⟩, ⟨Rect.unit ![0, 384] ![128, 128] i30, P 3 0⟩, ⟨Rect.unit ![384, 256] ![128, 128] i23, P 2 3⟩, ⟨Rect.unit ![256, 256] ![128, 128] i22, P 2 2⟩, ⟨Rect.unit ![128, 256] ![128, 128] i21, P 2 1⟩, ⟨Rect.unit ![0, 256] ![128, 128] i20, P 2 0⟩, ⟨Rect.unit ![384, 128] ![128, 128] i13, P 1 3⟩, ⟨Rect.unit ![256, 128] ![128, 128] i12, P 1 2⟩, ⟨Rect.unit ![128, 128] ![128, 128] i11, P 1 1⟩, ⟨Rect.unit ![0, 128] ![128, 128] i10, P 1 0⟩, ⟨Rect.unit ![384, 0] ![128, 128] i03, P 0 3⟩, ⟨Rect.unit ![256, 0] ![128, 128] i02, P 0 2⟩, ⟨Rect.unit ![128, 0] ![128, 128] i01, P 0 1⟩, ⟨Rect.unit ![0, 0] ![128, 128] i00, P 0 0⟩] (Rect.unit (s := S512x512) ![0, 0] ![512, 512] i).toLoadRect (ix2 j l) = G j l := by
  rw [View.readCov_eq_canon']
  refine (canon16 P G hP _ _ _ _ _ _ _ _ _ _ _ _ _ _ _ _ _).trans (congrArg₂ G (Fin.ext ?_) (Fin.ext ?_))
  · show 0 + 1 * j.val = j.val; omega
  · show 0 + 1 * l.val = l.val; omega

/-- Four narrow and two wide columns of blocks stored over a wide block. -/
theorem canon6 (P : Fin 4 → Vec Ideal S512x128 .bf16) (U V : Vec Ideal S512x512 .bf16) (G : Fin 512 → Fin 1536 → EReal)
    (hP : ∀ g j a, P g (ix2 j a) = G j ⟨(col g a).val, by have := (col g a).isLt; omega⟩) (hU : ∀ j l, U (ix2 j l) = G j ⟨512 + l, by omega⟩)
    (hV : ∀ j l, V (ix2 j l) = G j ⟨1024 + l, by omega⟩) (i5 i4 i3 i2 i1 i0) (y : S512x1536.Idx) :
    View.canon (Val := Elt Ideal) (s := S512x1536) (e := .bf16) [⟨Rect.unit ![0, 1024] ![512, 512] i5, V⟩, ⟨Rect.unit ![0, 512] ![512, 512] i4, U⟩,
      ⟨Rect.unit ![0, 384] ![512, 128] i3, P 3⟩, ⟨Rect.unit ![0, 256] ![512, 128] i2, P 2⟩, ⟨Rect.unit ![0, 128] ![512, 128] i1, P 1⟩,
      ⟨Rect.unit ![0, 0] ![512, 128] i0, P 0⟩] y = G (y 0) (y 1) := by
  refine View.canon_append_of_piecesOf (Val := Elt Ideal) (s := S512x1536) (e := .bf16) (fun y => G (y 0) (y 1)) [] [_, _, _, _, _, _]
    ⟨fun x => ?_, fun x => ?_, fun x => ?_, fun x => ?_, fun x => ?_, fun x => ?_, trivial⟩ y ?_
  · idx_vars x
    exact (hV x0 x1).trans (congrArg₂ G (Fin.ext (by show x0.val = 0 + 1 * x0.val; omega)) (Fin.ext (by show 1024 + x1.val = 1024 + 1 * x1.val; omega)))
  · idx_vars x
    exact (hU x0 x1).trans (congrArg₂ G (Fin.ext (by show x0.val = 0 + 1 * x0.val; omega)) (Fin.ext (by show 512 + x1.val = 512 + 1 * x1.val; omega)))
  · idx_vars x
    exact (hP 3 x0 x1).trans (congrArg₂ G (Fin.ext (by show x0.val = 0 + 1 * x0.val; omega)) (Fin.ext (by show 128 * 3 + x1.val = 384 + 1 * x1.val; omega)))
  · idx_vars x
    exact (hP 2 x0 x1).trans (congrArg₂ G (Fin.ext (by show x0.val = 0 + 1 * x0.val; omega)) (Fin.ext (by show 128 * 2 + x1.val = 256 + 1 * x1.val; omega)))
  · idx_vars x
    exact (hP 1 x0 x1).trans (congrArg₂ G (Fin.ext (by show x0.val = 0 + 1 * x0.val; omega)) (Fin.ext (by show 128 * 1 + x1.val = 128 + 1 * x1.val; omega)))
  · idx_vars x
    exact (hP 0 x0 x1).trans (congrArg₂ G (Fin.ext (by show x0.val = 0 + 1 * x0.val; omega)) (Fin.ext (by show 128 * 0 + x1.val = 0 + 1 * x1.val; omega)))
  · simp only [List.mem_cons, List.not_mem_nil, or_false, exists_eq_or_imp, exists_eq_left, Rect.mem_set_unit, Fin.forall_fin_two]
    have h0 := (y 0).isLt
    have h1 := (y 1).isLt
    simp at h0 h1 ⊢
    omega

end Cert.MixerValue

end
-- ==== Proof.MixBlock.lean ====
/-
  The gradient of the mixers: the blocks of one point of the kernel's grid, as functions of the argument arrays, and the
  block of the projection's gradient.
-/
module

public import proofs.«01_k».proof.Defs
public import proofs.«01_k».proof.Proof.MixTile

@[expose] public section

set_option maxRecDepth 16384

noncomputable section

namespace Cert.MixerValue

open Idealize.ShloMosaic Idealize.ShloMosaic.TcCoe
open Cert.MixerIdeal Cert.MixerIdeal.Gen

/-! ## The sixteen tiles of a block -/

theorem inb_tile : ∀ c h : Fin 4, ∀ a, (![128 * c.val, 512 + 128 * h.val] : Fin 2 → ℕ) a + S128x128.size a ≤ S512x1024.size a := by decide

theorem inb_head : ∀ h : Fin 4, ∀ a, (![h.val, 0, 0] : Fin 3 → ℕ) a + S1x128x128.size a ≤ S4x128x128.size a := by decide

theorem inb_lane : ∀ h : Fin 4, ∀ a, (![0, 128 * h.val] : Fin 2 → ℕ) a + S128x128.size a ≤ S128x512.size a := by decide

theorem slices_tile : ∀ c h : Fin 4, Shape.Slices S512x512 ![128 * c.val, 128 * h.val] S128x128 := by decide

section Tiles

variable (u : FVec Ideal S512x512 .f32) (v : FVec Ideal S512x512 .bf16) (D : Vec Ideal S512x1024 .f32) (M : Vec Ideal S4x128x128 .f32)
  (b : Vec Ideal S128x512 .f32) (h c : Fin 4)

/-- A tile of the cotangent. -/
def dTile : Vec Ideal S128x128 .f32 := View.ld D (Rect.unit (s := S512x1024) ![128 * c.val, 512 + 128 * h.val] ![128, 128] (inb_tile c h))

/-- A head's weights. -/
def wTile : Vec Ideal S1x128x128 .f32 := View.ld M (Rect.unit (s := S4x128x128) ![h.val, 0, 0] ![1, 128, 128] (inb_head h))

/-- A head's bias. -/
def bTile : Vec Ideal S128x128 .f32 := View.ld b (Rect.unit (s := S128x512) ![0, 128 * h.val] ![128, 128] (inb_lane h))

/-- A tile of the first gated part's gradient, before its slope. -/
def duTile : Vec Ideal S128x128 .f32 :=
  shapeCast S128x128 (mulf (dTile D h c) (addf (matmul dot_S128x128_S128x128_S128x128_1_0_0_1_n_n none (k0_pay92 k0_pay57 (wTile M h))
    (extractStridedSlice S128x128 ![128 * c.val, 128 * h.val] v (slices_tile c h)) (constant S128x128 .f32 0x00000000#32) : FVec Ideal S128x128 .f32)
    (shapeCast S128x128 (bTile b h) shapeCasts_S128x128_S128x128)) : FVec Ideal S128x128 .f32) shapeCasts_S128x128_S128x128

/-- A tile of the mixed rows' cotangent. -/
def dzTile : FVec Ideal S128x128 .f32 := mulf (dTile D h c) (extractStridedSlice S128x128 ![128 * c.val, 128 * h.val] u (slices_tile c h) : FVec Ideal S128x128 .f32)

/-- A tile of the normalised rows' cotangent. -/
def dvnTile : Vec Ideal S128x128 .f32 :=
  shapeCast S128x128 (matmul dot_S128x128_S128x128_S128x128_1_0_0_1_n_n none (k0_pay93 k0_pay57 (wTile M h)) (truncf .bf16 (dzTile u D h c) bitsLt_bf16_f32)
    (constant S128x128 .f32 0x00000000#32) : FVec Ideal S128x128 .f32) shapeCasts_S128x128_S128x128

end Tiles

/-! ## The blocks of a point -/

theorem ext_at {n : ℕ} (x : Fin n → EReal) {r : ℕ} (h : r < n) : Pool.ext x r = x ⟨r, h⟩ := dif_pos h

variable (m : (ℓ : Loc nD τ sig) → Buf (Elt Ideal) ℓ) (c : Dev nD)

theorem pool_rows (t : Fin cfg0.N) (h) (j l : Fin 512) : View.ld (iblk m c 0 t) (Rect.unit (s := S512x1536) ![0, 0] ![512, 512] h) (ix2 j l)
    = fP (aX m c) l (512 * ((grid0.coords t) 0).val + j) := by
  rw [coord]
  refine (ld2 (φ := .f32) (iblk m c 0 t) 0 0 h j l (by omega) (by omega)).trans ((iblk0 m c t _ _).trans ?_)
  unfold fP
  rw [ext_at _ (by have := lt_of_lt_of_eq t.isLt N_0; omega)]
  refine congrArg (aX m c) (congrArg₂ ix2 (Fin.ext ?_) (Fin.ext ?_))
  · show t.val * 512 + (0 + j.val) = 512 * t.val + j; omega
  · show 0 + l.val = l; omega

theorem u_rows (t : Fin cfg0.N) (h) (j l : Fin 512) : View.ld (iblk m c 0 t) (Rect.unit (s := S512x1536) ![0, 512] ![512, 512] h) (ix2 j l)
    = fU (aX m c) (512 * t.val + j) l := by
  refine (ld2 (φ := .f32) (iblk m c 0 t) 0 512 h j l (by omega) (by omega)).trans ((iblk0 m c t _ _).trans ?_)
  unfold fU
  rw [ext_at _ (by have := lt_of_lt_of_eq t.isLt N_0; omega)]
  refine congrArg (aX m c) (congrArg₂ ix2 (Fin.ext ?_) rfl)
  show t.val * 512 + (0 + j.val) = 512 * t.val + j; omega

theorem v_rows (t : Fin cfg0.N) (h) (j l : Fin 512) : View.ld (iblk m c 0 t) (Rect.unit (s := S512x1536) ![0, 1024] ![512, 512] h) (ix2 j l)
    = fV (aX m c) (512 * t.val + j) l := by
  refine (ld2 (φ := .f32) (iblk m c 0 t) 0 1024 h j l (by omega) (by omega)).trans ((iblk0 m c t _ _).trans ?_)
  unfold fV
  rw [ext_at _ (by have := lt_of_lt_of_eq t.isLt N_0; omega)]
  refine congrArg (aX m c) (congrArg₂ ix2 (Fin.ext ?_) rfl)
  show t.val * 512 + (0 + j.val) = 512 * t.val + j; omega

theorem halo_rows (t : Fin cfg0.N) (ht : 0 < ((grid0.coords t) 0).val) (j : Fin 16) (l : Fin 512) : iblk m c 1 t (ix2 j l)
    = fP (aX m c) l (512 * ((grid0.coords t) 0).val + j - 16) := by
  rw [coord] at ht ⊢
  refine (iblk1 m c t j l).trans ?_
  unfold fP
  rw [ext_at _ (by have := lt_of_lt_of_eq t.isLt N_0; omega)]
  refine congrArg (aX m c) (congrArg₂ ix2 (Fin.ext ?_) rfl)
  show (32 * t.val - 1) * 16 + j.val = 512 * t.val + j - 16; omega

theorem dpool_rows (t : Fin cfg0.N) (h) (j l : Fin 512) : View.ld (iblk m c 2 t) (Rect.unit (s := S512x1024) ![0, 0] ![512, 512] h) (ix2 j l)
    = fQ (aD m c) l (512 * ((grid0.coords t) 0).val + j) := by
  rw [coord]
  refine (ld2 (φ := .f32) (iblk m c 2 t) 0 0 h j l (by omega) (by omega)).trans ((iblk2 m c t _ _).trans ?_)
  unfold fQ
  rw [ext_at _ (by have := lt_of_lt_of_eq t.isLt N_0; omega)]
  refine congrArg (aD m c) (congrArg₂ ix2 (Fin.ext ?_) (Fin.ext ?_))
  · show t.val * 512 + (0 + j.val) = 512 * t.val + j; omega
  · show 0 + l.val = l; omega

theorem next_rows (t : Fin cfg0.N) (ht : ((grid0.coords t) 0).val < 15) (j : Fin 16) (l : Fin 512) : iblk m c 3 t (ix2 j l)
    = fQ (aD m c) l (512 * ((grid0.coords t) 0).val + 512 + j) := by
  rw [coord] at ht ⊢
  refine (iblk3 m c t j l).trans ?_
  unfold fQ
  rw [ext_at _ (by omega)]
  refine congrArg (aD m c) (congrArg₂ ix2 (Fin.ext ?_) rfl)
  show min (32 * t.val + 32) 511 * 16 + j.val = 512 * t.val + 512 + j; omega

theorem past_rows (l : Fin 512) (r : ℕ) (hr : 8192 ≤ r) : fQ (aD m c) l r = 0 := Pool.ext_of_le _ hr

theorem pw_rows (t : Fin cfg0.N) (g : Fin 4) (o : ℕ) (ho : o = g) (h) (a b : Fin 128) :
    View.ld (iblk m c 4 t) (Rect.unit (s := S4x128x128) ![o, 0, 0] ![1, 128, 128] h) (ix3 0 a b) = fW (aW m c) g a b :=
  (ld3 (φ := .f32) (iblk m c 4 t) o g ho h a b).trans (iblk4 m c t g a b)

theorem ps_rows (t : Fin cfg0.N) (g : Fin 4) (o : ℕ) (ho : o = 128 * g) (h) (a : Fin 128) :
    View.ld (iblk m c 5 t) (Rect.unit (s := S1x512) ![0, o] ![1, 128] h) (ix2 0 a) = fS (aS m c) (col g a) := by
  subst ho
  exact (ld2 (φ := .f32) (iblk m c 5 t) 0 _ h 0 a (by decide) (by omega)).trans (iblk5 m c t _)

theorem gain_rows (t : Fin cfg0.N) (l : Fin 512) : iblk m c 6 t (ix2 0 l) = fS (aG m c) l := iblk6 m c t l

theorem w_rows (t : Fin cfg0.N) (h : Fin 4) (a b : Fin 128) : wTile (iblk m c 7 t) h (ix3 0 a b) = fW (aM m c) h a b :=
  (ld3 (φ := .f32) (iblk m c 7 t) h h rfl (inb_head h) a b).trans (iblk7 m c t h a b)

theorem b_rows (t : Fin cfg0.N) (h : Fin 4) (s a : Fin 128) : bTile (iblk m c 8 t) h (ix2 s a) = fB (aB m c) s (col h a) := by
  refine (ld2 (φ := .f32) (iblk m c 8 t) 0 _ (inb_lane h) s a (by omega) (by omega)).trans ((iblk8 m c t _ _).trans ?_)
  unfold fB
  refine congrArg (aB m c) (congrArg₂ ix2 rfl (Fin.ext ?_))
  show 0 + s.val = s; omega

theorem d_rows (t : Fin cfg0.N) (h k : Fin 4) (s a : Fin 128) :
    dTile (iblk m c 2 t) h k (ix2 s a) = fD (aD m c) (128 * (4 * t.val + k) + s) (col h a) := by
  refine (ld2 (φ := .f32) (iblk m c 2 t) _ _ (inb_tile k h) s a (by omega) (by omega)).trans ((iblk2 m c t _ _).trans ?_)
  unfold fD
  rw [ext_at _ (by have := lt_of_lt_of_eq t.isLt N_0; omega)]
  refine congrArg (aD m c) (congrArg₂ ix2 (Fin.ext ?_) (Fin.ext ?_))
  · show t.val * 512 + (128 * k.val + s.val) = 128 * (4 * t.val + k) + s; omega
  · show 512 + 128 * h.val + a.val = 512 + (128 * h.val + a); omega

/-- The first gated part of a block's projection. -/
def uB (t : Fin cfg0.N) : Vec Ideal S512x512 .f32 := View.ld (iblk m c 0 t) (Rect.unit (s := S512x1536) ![0, 512] ![512, 512] inb_S512x1536_S512x512_0_512)

/-- The second gated part of a block's projection. -/
def vB (t : Fin cfg0.N) : Vec Ideal S512x512 .f32 := View.ld (iblk m c 0 t) (Rect.unit (s := S512x1536) ![0, 1024] ![512, 512] inb_S512x1536_S512x512_0_1024)

/-- A block's normalised rows times the gain. -/
def vnB (t : Fin cfg0.N) : FVec Ideal S512x512 .bf16 := k0_pay56 (k0_pay51 (vB m c t)) (k0_pay52 (vB m c t)) (iblk m c 6 t)

theorem act_rows (t : Fin cfg0.N) (j l : Fin 512) : k0_pay47 (uB m c t) (ix2 j l) = act (fU (aX m c)) (512 * t.val + j) l :=
  (gelu_at _ j l).trans (congrArg Gate.gelu (u_rows m c t _ j l))

theorem vn_rows (t : Fin cfg0.N) (j l : Fin 512) : vnB m c t (ix2 j l) = vns (fV (aX m c)) (fS (aG m c)) (512 * t.val + j) l :=
  vn_at _ _ _ (v_rows m c t _) _ _ (gain_rows m c t) j l

theorem dz_rows (t : Fin cfg0.N) (h k : Fin 4) (s a : Fin 128) :
    dzTile (k0_pay47 (uB m c t)) (iblk m c 2 t) h k (ix2 s a) = dzs (fU (aX m c)) (fD (aD m c)) (128 * (4 * t.val + k) + s) (col h a) :=
  dz_tile h _ _ t.val k _ (act_rows m c t) _ (d_rows m c t h k) _ _ rfl rfl _ s a

/-- A row of a block, by its row in the whole array. -/
theorem row_div (n : ℕ) (j : Fin 512) : (512 * n + j) / 128 = 4 * n + grp j ∧ (512 * n + j) % 128 = sub j :=
  ⟨by show _ = 4 * n + j.val / 128; omega, by show _ = j.val % 128; omega⟩

theorem du_rows (t : Fin cfg0.N) (h k : Fin 4) (s a : Fin 128) :
    duTile (vnB m c t) (iblk m c 2 t) (iblk m c 7 t) (iblk m c 8 t) h k (ix2 s a)
      = fD (aD m c) (128 * (4 * t.val + k) + s) (col h a) * zs (fV (aX m c)) (fS (aG m c)) (fW (aM m c)) (fB (aB m c)) (4 * t.val + k) s (col h a) :=
  du_tile _ _ h _ _ _ t.val k _ (vn_rows m c t) _ (lowB_at _ h _ (w_rows m c t h)) _ (b_rows m c t h) _ (d_rows m c t h k) _ _ rfl rfl _ s a

theorem dvn_rows (t : Fin cfg0.N) (h k : Fin 4) (s a : Fin 128) :
    dvnTile (k0_pay47 (uB m c t)) (iblk m c 2 t) (iblk m c 7 t) h k (ix2 s a)
      = dvns (fU (aX m c)) (fD (aD m c)) (fW (aM m c)) (4 * t.val + k) s (col h a) :=
  dvn_tile _ h _ _ t.val k _ (lowT_at _ h _ (w_rows m c t h)) _ (dz_rows m c t h k) s a

/-- The pooled columns of a point's block. -/
def poolB (t : Fin cfg0.N) : Fin 4 → Vec Ideal S512x128 .bf16
  | 0 => k0_pay25 (k0_pay23 (k0_pay14 (grid0.coords t)) (k0_pay16 (grid0.coords t) (View.ld (iblk m c 2 t) (Rect.unit (s := S512x1024) ![0, 0] ![512, 512] inb_S512x1024_S512x512_0_0)) (iblk m c 3 t))
      (View.ld (iblk m c 4 t) (Rect.unit (s := S4x128x128) ![0, 0, 0] ![1, 128, 128] inb_S4x128x128_S1x128x128_0_0_0)) (View.ld (iblk m c 5 t) (Rect.unit (s := S1x512) ![0, 0] ![1, 128] inb_S1x512_S1x128_0_0)))
      (k0_pay24 (k0_pay16 (grid0.coords t) (View.ld (iblk m c 2 t) (Rect.unit (s := S512x1024) ![0, 0] ![512, 512] inb_S512x1024_S512x512_0_0)) (iblk m c 3 t))
      (View.ld (iblk m c 4 t) (Rect.unit (s := S4x128x128) ![0, 0, 0] ![1, 128, 128] inb_S4x128x128_S1x128x128_0_0_0)) (View.ld (iblk m c 5 t) (Rect.unit (s := S1x512) ![0, 0] ![1, 128] inb_S1x512_S1x128_0_0)))
  | 1 => k0_pay31 (k0_pay14 (grid0.coords t)) (k0_pay27 (View.ld (iblk m c 4 t) (Rect.unit (s := S4x128x128) ![1, 0, 0] ![1, 128, 128] inb_S4x128x128_S1x128x128_1_0_0)))
      (k0_pay29 (k0_pay16 (grid0.coords t) (View.ld (iblk m c 2 t) (Rect.unit (s := S512x1024) ![0, 0] ![512, 512] inb_S512x1024_S512x512_0_0)) (iblk m c 3 t))
        (View.ld (iblk m c 5 t) (Rect.unit (s := S1x512) ![0, 128] ![1, 128] inb_S1x512_S1x128_0_128)))
  | 2 => k0_pay39 (k0_pay37 (k0_pay16 (grid0.coords t) (View.ld (iblk m c 2 t) (Rect.unit (s := S512x1024) ![0, 0] ![512, 512] inb_S512x1024_S512x512_0_0)) (iblk m c 3 t))
      (View.ld (iblk m c 4 t) (Rect.unit (s := S4x128x128) ![2, 0, 0] ![1, 128, 128] inb_S4x128x128_S1x128x128_2_0_0)) (View.ld (iblk m c 5 t) (Rect.unit (s := S1x512) ![0, 256] ![1, 128] inb_S1x512_S1x128_0_256)))
      (k0_pay38 (k0_pay14 (grid0.coords t)) (k0_pay16 (grid0.coords t) (View.ld (iblk m c 2 t) (Rect.unit (s := S512x1024) ![0, 0] ![512, 512] inb_S512x1024_S512x512_0_0)) (iblk m c 3 t))
      (View.ld (iblk m c 4 t) (Rect.unit (s := S4x128x128) ![2, 0, 0] ![1, 128, 128] inb_S4x128x128_S1x128x128_2_0_0)) (View.ld (iblk m c 5 t) (Rect.unit (s := S1x512) ![0, 256] ![1, 128] inb_S1x512_S1x128_0_256)))
  | 3 => k0_pay45 (k0_pay14 (grid0.coords t)) (k0_pay16 (grid0.coords t) (View.ld (iblk m c 2 t) (Rect.unit (s := S512x1024) ![0, 0] ![512, 512] inb_S512x1024_S512x512_0_0)) (iblk m c 3 t))
      (k0_pay41 (View.ld (iblk m c 4 t) (Rect.unit (s := S4x128x128) ![3, 0, 0] ![1, 128, 128] inb_S4x128x128_S1x128x128_3_0_0))) (View.ld (iblk m c 5 t) (Rect.unit (s := S1x512) ![0, 384] ![1, 128] inb_S1x512_S1x128_0_384))

theorem poolB_at (t : Fin cfg0.N) (g : Fin 4) (j : Fin 512) (a : Fin 128) :
    poolB m c t g (ix2 j a) = dproj (aX m c) (aD m c) (aW m c) (aS m c) (aG m c) (aM m c) (aB m c) (row t j) ⟨(col g a).val, by have := (col g a).isLt; omega⟩ := by
  rw [dproj_pool _ _ _ _ _ _ _ _ _ (col g a) rfl]
  have e : (row t j).val = 512 * ((grid0.coords t) 0).val + j := by rw [coord]; show t.val * 512 + j.val = _; omega
  rw [e]
  fin_cases g
  · exact dp0_at _ _ _ _ (dpool_rows m c t _) (next_rows m c t) (past_rows m c) _ _ _ _ j a (pw_rows m c t 0 0 rfl _) (ps_rows m c t 0 0 rfl _)
  · exact dp1_at _ _ _ _ (dpool_rows m c t _) (next_rows m c t) (past_rows m c) _ _ _ _ j a (pw_rows m c t 1 1 rfl _) (ps_rows m c t 1 128 rfl _)
  · exact dp2_at _ _ _ _ (dpool_rows m c t _) (next_rows m c t) (past_rows m c) _ _ _ _ j a (pw_rows m c t 2 2 rfl _) (ps_rows m c t 2 256 rfl _)
  · exact dp3_at _ _ _ _ (dpool_rows m c t _) (next_rows m c t) (past_rows m c) _ _ _ _ j a (pw_rows m c t 3 3 rfl _) (ps_rows m c t 3 384 rfl _)

/-- The first gated columns of a point's block, from the read-back tiles. -/
theorem duB_at (t : Fin cfg0.N) (z : Vec Ideal S512x512 .f32)
    (hz : ∀ j l, z (ix2 j l) = fD (aD m c) (512 * t.val + j) l * zs (fV (aX m c)) (fS (aG m c)) (fW (aM m c)) (fB (aB m c)) (4 * t.val + grp j) (sub j) l) (j l : Fin 512) :
    k0_pay1 (k0_pay48 (uB m c t)) z (ix2 j l)
      = dproj (aX m c) (aD m c) (aW m c) (aS m c) (aG m c) (aM m c) (aB m c) (row t j) ⟨512 + l, by omega⟩ := by
  rw [dproj_u _ _ _ _ _ _ _ _ _ l rfl]
  have e : (row t j).val = 512 * t.val + j := by show t.val * 512 + j.val = _; omega
  have e' : (⟨(512 * t.val + j) % 128, Nat.mod_lt _ (by decide)⟩ : Fin 128) = sub j := Fin.ext (row_div t.val j).2
  unfold du
  rw [e, (row_div t.val j).1, e', ← hz, ← u_rows m c t inb_S512x1536_S512x512_0_512 j l, ← slope_at]
  rfl

/-- The second gated columns of a point's block, from the read-back tiles. -/
theorem dvB_at (t : Fin cfg0.N) (z : Vec Ideal S512x512 .f32)
    (hz : ∀ j l, z (ix2 j l) = dvns (fU (aX m c)) (fD (aD m c)) (fW (aM m c)) (4 * t.val + grp j) (sub j) l) (j l : Fin 512) :
    k0_pay2 (k0_pay50 (vB m c t)) (k0_pay53 (k0_pay52 (vB m c t))) (k0_pay192 (k0_pay54 (k0_pay51 (vB m c t)) (k0_pay52 (vB m c t))) (k0_pay55 (iblk m c 6 t)) z) (ix2 j l)
      = dproj (aX m c) (aD m c) (aW m c) (aS m c) (aG m c) (aM m c) (aB m c) (row t j) ⟨1024 + l, by omega⟩ := by
  have hv : ∀ j l, vB m c t (ix2 j l) = fV (aX m c) (512 * t.val + j) l := v_rows m c t _
  rw [dproj_v _ _ _ _ _ _ _ _ _ l rfl, dv_at _ _ _ hv _ _ (gain_rows m c t)]
  have e : (row t j).val = 512 * t.val + j := by show t.val * 512 + j.val = _; omega
  have e' : (⟨(512 * t.val + j) % 128, Nat.mod_lt _ (by decide)⟩ : Fin 128) = sub j := Fin.ext (row_div t.val j).2
  unfold dvs dvnRow
  simp only [e, (row_div t.val j).1, e', hz]

theorem du_read {κ sp} (w : View sig κ sp S512x512 .f32) (t : Fin cfg0.N) (i33 i32 i31 i30 i23 i22 i21 i20 i13 i12 i11 i10 i03 i02 i01 i00) (i) (j l : Fin 512) :
    w.readCov (Val := Elt Ideal) [⟨Rect.unit ![384, 384] ![128, 128] i33, duTile (vnB m c t) (iblk m c 2 t) (iblk m c 7 t) (iblk m c 8 t) 3 3⟩, ⟨Rect.unit ![256, 384] ![128, 128] i32, duTile (vnB m c t) (iblk m c 2 t) (iblk m c 7 t) (iblk m c 8 t) 3 2⟩, ⟨Rect.unit ![128, 384] ![128, 128] i31, duTile (vnB m c t) (iblk m c 2 t) (iblk m c 7 t) (iblk m c 8 t) 3 1⟩, ⟨Rect.unit ![0, 384] ![128, 128] i30, duTile (vnB m c t) (iblk m c 2 t) (iblk m c 7 t) (iblk m c 8 t) 3 0⟩, ⟨Rect.unit ![384, 256] ![128, 128] i23, duTile (vnB m c t) (iblk m c 2 t) (iblk m c 7 t) (iblk m c 8 t) 2 3⟩, ⟨Rect.unit ![256, 256] ![128, 128] i22, duTile (vnB m c t) (iblk m c 2 t) (iblk m c 7 t) (iblk m c 8 t) 2 2⟩, ⟨Rect.unit ![128, 256] ![128, 128] i21, duTile (vnB m c t) (iblk m c 2 t) (iblk m c 7 t) (iblk m c 8 t) 2 1⟩, ⟨Rect.unit ![0, 256] ![128, 128] i20, duTile (vnB m c t) (iblk m c 2 t) (iblk m c 7 t) (iblk m c 8 t) 2 0⟩, ⟨Rect.unit ![384, 128] ![128, 128] i13, duTile (vnB m c t) (iblk m c 2 t) (iblk m c 7 t) (iblk m c 8 t) 1 3⟩, ⟨Rect.unit ![256, 128] ![128, 128] i12, duTile (vnB m c t) (iblk m c 2 t) (iblk m c 7 t) (iblk m c 8 t) 1 2⟩, ⟨Rect.unit ![128, 128] ![128, 128] i11, duTile (vnB m c t) (iblk m c 2 t) (iblk m c 7 t) (iblk m c 8 t) 1 1⟩, ⟨Rect.unit ![0, 128] ![128, 128] i10, duTile (vnB m c t) (iblk m c 2 t) (iblk m c 7 t) (iblk m c 8 t) 1 0⟩, ⟨Rect.unit ![384, 0] ![128, 128] i03, duTile (vnB m c t) (iblk m c 2 t) (iblk m c 7 t) (iblk m c 8 t) 0 3⟩, ⟨Rect.unit ![256, 0] ![128, 128] i02, duTile (vnB m c t) (iblk m c 2 t) (iblk m c 7 t) (iblk m c 8 t) 0 2⟩, ⟨Rect.unit ![128, 0] ![128, 128] i01, duTile (vnB m c t) (iblk m c 2 t) (iblk m c 7 t) (iblk m c 8 t) 0 1⟩, ⟨Rect.unit ![0, 0] ![128, 128] i00, duTile (vnB m c t) (iblk m c 2 t) (iblk m c 7 t) (iblk m c 8 t) 0 0⟩] (Rect.unit (s := S512x512) ![0, 0] ![512, 512] i).toLoadRect (ix2 j l)
      = fD (aD m c) (512 * t.val + j) l * zs (fV (aX m c)) (fS (aG m c)) (fW (aM m c)) (fB (aB m c)) (4 * t.val + grp j) (sub j) l :=
  read16 _ (duTile (vnB m c t) (iblk m c 2 t) (iblk m c 7 t) (iblk m c 8 t))
    (fun j l => fD (aD m c) (512 * t.val + j) l * zs (fV (aX m c)) (fS (aG m c)) (fW (aM m c)) (fB (aB m c)) (4 * t.val + grp j) (sub j) l)
    (fun h k s a => by rw [du_rows, ← row_col, grp_col, sub_col]) _ _ _ _ _ _ _ _ _ _ _ _ _ _ _ _ _ j l

theorem dvn_read {κ sp} (w : View sig κ sp S512x512 .f32) (t : Fin cfg0.N) (i33 i32 i31 i30 i23 i22 i21 i20 i13 i12 i11 i10 i03 i02 i01 i00) (i) (j l : Fin 512) :
    w.readCov (Val := Elt Ideal) [⟨Rect.unit ![384, 384] ![128, 128] i33, dvnTile (k0_pay47 (uB m c t)) (iblk m c 2 t) (iblk m c 7 t) 3 3⟩, ⟨Rect.unit ![256, 384] ![128, 128] i32, dvnTile (k0_pay47 (uB m c t)) (iblk m c 2 t) (iblk m c 7 t) 3 2⟩, ⟨Rect.unit ![128, 384] ![128, 128] i31, dvnTile (k0_pay47 (uB m c t)) (iblk m c 2 t) (iblk m c 7 t) 3 1⟩, ⟨Rect.unit ![0, 384] ![128, 128] i30, dvnTile (k0_pay47 (uB m c t)) (iblk m c 2 t) (iblk m c 7 t) 3 0⟩, ⟨Rect.unit ![384, 256] ![128, 128] i23, dvnTile (k0_pay47 (uB m c t)) (iblk m c 2 t) (iblk m c 7 t) 2 3⟩, ⟨Rect.unit ![256, 256] ![128, 128] i22, dvnTile (k0_pay47 (uB m c t)) (iblk m c 2 t) (iblk m c 7 t) 2 2⟩, ⟨Rect.unit ![128, 256] ![128, 128] i21, dvnTile (k0_pay47 (uB m c t)) (iblk m c 2 t) (iblk m c 7 t) 2 1⟩, ⟨Rect.unit ![0, 256] ![128, 128] i20, dvnTile (k0_pay47 (uB m c t)) (iblk m c 2 t) (iblk m c 7 t) 2 0⟩, ⟨Rect.unit ![384, 128] ![128, 128] i13, dvnTile (k0_pay47 (uB m c t)) (iblk m c 2 t) (iblk m c 7 t) 1 3⟩, ⟨Rect.unit ![256, 128] ![128, 128] i12, dvnTile (k0_pay47 (uB m c t)) (iblk m c 2 t) (iblk m c 7 t) 1 2⟩, ⟨Rect.unit ![128, 128] ![128, 128] i11, dvnTile (k0_pay47 (uB m c t)) (iblk m c 2 t) (iblk m c 7 t) 1 1⟩, ⟨Rect.unit ![0, 128] ![128, 128] i10, dvnTile (k0_pay47 (uB m c t)) (iblk m c 2 t) (iblk m c 7 t) 1 0⟩, ⟨Rect.unit ![384, 0] ![128, 128] i03, dvnTile (k0_pay47 (uB m c t)) (iblk m c 2 t) (iblk m c 7 t) 0 3⟩, ⟨Rect.unit ![256, 0] ![128, 128] i02, dvnTile (k0_pay47 (uB m c t)) (iblk m c 2 t) (iblk m c 7 t) 0 2⟩, ⟨Rect.unit ![128, 0] ![128, 128] i01, dvnTile (k0_pay47 (uB m c t)) (iblk m c 2 t) (iblk m c 7 t) 0 1⟩, ⟨Rect.unit ![0, 0] ![128, 128] i00, dvnTile (k0_pay47 (uB m c t)) (iblk m c 2 t) (iblk m c 7 t) 0 0⟩] (Rect.unit (s := S512x512) ![0, 0] ![512, 512] i).toLoadRect (ix2 j l)
      = dvns (fU (aX m c)) (fD (aD m c)) (fW (aM m c)) (4 * t.val + grp j) (sub j) l :=
  read16 _ (dvnTile (k0_pay47 (uB m c t)) (iblk m c 2 t) (iblk m c 7 t))
    (fun j l => dvns (fU (aX m c)) (fD (aD m c)) (fW (aM m c)) (4 * t.val + grp j) (sub j) l)
    (fun h k s a => by rw [dvn_rows, grp_col, sub_col]) _ _ _ _ _ _ _ _ _ _ _ _ _ _ _ _ _ j l

theorem out9_A (t : Fin cfg0.N) (h0 : t.val % 16 = 0) (h1 : ¬t.val % 16 = 15) (y : S512x1536.Idx) : (outsAt0 m c t.val t.isLt).1 y
    = dproj (aX m c) (aD m c) (aW m c) (aS m c) (aG m c) (aM m c) (aB m c) (row t (y 0)) (y 1) := by
  rw [outsAt0_A m c t h0 h1]
  frame_out
  exact canon6 (poolB m c t) _ _ (fun j l => dproj (aX m c) (aD m c) (aW m c) (aS m c) (aG m c) (aM m c) (aB m c) (row t j) l) (poolB_at m c t)
    (fun j l => duB_at m c t _ (fun j l => du_read m c _ t _ _ _ _ _ _ _ _ _ _ _ _ _ _ _ _ _ j l) j l)
    (fun j l => dvB_at m c t _ (fun j l => dvn_read m c _ t _ _ _ _ _ _ _ _ _ _ _ _ _ _ _ _ _ j l) j l) _ _ _ _ _ _ y

theorem out9_B (t : Fin cfg0.N) (h0 : ¬t.val % 16 = 0) (h1 : ¬t.val % 16 = 15) (y : S512x1536.Idx) : (outsAt0 m c t.val t.isLt).1 y
    = dproj (aX m c) (aD m c) (aW m c) (aS m c) (aG m c) (aM m c) (aB m c) (row t (y 0)) (y 1) := by
  rw [outsAt0_B m c t h0 h1]
  frame_out
  exact canon6 (poolB m c t) _ _ (fun j l => dproj (aX m c) (aD m c) (aW m c) (aS m c) (aG m c) (aM m c) (aB m c) (row t j) l) (poolB_at m c t)
    (fun j l => duB_at m c t _ (fun j l => du_read m c _ t _ _ _ _ _ _ _ _ _ _ _ _ _ _ _ _ _ j l) j l)
    (fun j l => dvB_at m c t _ (fun j l => dvn_read m c _ t _ _ _ _ _ _ _ _ _ _ _ _ _ _ _ _ _ j l) j l) _ _ _ _ _ _ y

theorem out9_C (t : Fin cfg0.N) (h0 : ¬t.val % 16 = 0) (h1 : t.val % 16 = 15) (y : S512x1536.Idx) : (outsAt0 m c t.val t.isLt).1 y
    = dproj (aX m c) (aD m c) (aW m c) (aS m c) (aG m c) (aM m c) (aB m c) (row t (y 0)) (y 1) := by
  rw [outsAt0_C m c t h0 h1]
  frame_out
  exact canon6 (poolB m c t) _ _ (fun j l => dproj (aX m c) (aD m c) (aW m c) (aS m c) (aG m c) (aM m c) (aB m c) (row t j) l) (poolB_at m c t)
    (fun j l => duB_at m c t _ (fun j l => du_read m c _ t _ _ _ _ _ _ _ _ _ _ _ _ _ _ _ _ _ j l) j l)
    (fun j l => dvB_at m c t _ (fun j l => dvn_read m c _ t _ _ _ _ _ _ _ _ _ _ _ _ _ _ _ _ _ j l) j l) _ _ _ _ _ _ y

/-- The projection's gradient, the whole array. -/
theorem arr9 (R : FVec Ideal S8192x1536 .bf16)
    (hR : ∀ r l, R (ix2 r l) = dproj (aX m c) (aD m c) (aW m c) (aS m c) (aG m c) (aM m c) (aB m c) r l) : (dats m 0 c).arrAt 9 cfg0.N = R := by
  refine (dats m 0 c).arrAt_eq_of_covers 9 _ (by decide +kernel) fun t hf y => ?_
  blk_simp
  rw [after0_9]
  have e : (outsAt0 m c t.val t.isLt).1 y = dproj (aX m c) (aD m c) (aW m c) (aS m c) (aG m c) (aM m c) (aB m c) (row t (y 0)) (y 1) := by
    by_cases h0 : t.val % 16 = 0
    · exact out9_A m c t h0 (by omega) y
    · by_cases h1 : t.val % 16 = 15
      · exact out9_C m c t h0 h1 y
      · exact out9_B m c t h0 h1 y
  idx_vars y
  refine e.trans ((hR _ _).symm.trans ?_)
  blk_ext [idx t, row]

end Cert.MixerValue

end
-- ==== Proof.MixAcc.lean ====
/-
  The gradient of the mixers: the sums that the kernel keeps from point to point.
-/
module

public import proofs.«01_k».proof.Defs
public import proofs.«01_k».proof.Proof.MixBlock
public import Idealize.ShloMosaic.Lib.Pipeline.ReadBack

@[expose] public section

set_option maxRecDepth 16384

noncomputable section

namespace Cert.MixerValue

open Idealize.ShloMosaic Idealize.ShloMosaic.TcCoe
open Cert.MixerIdeal Cert.MixerIdeal.Gen

/-! ## Stores by head, by lane and by column -/

/-- One block for each head, over whatever was stored before. -/
theorem canon_heads (L : List (View.Piece (Elt Ideal) S4x128x128 .f32)) (P : Fin 4 → Vec Ideal S1x128x128 .f32) (G : Fin 4 → Fin 128 → Fin 128 → EReal)
    (hP : ∀ g a b, P g (ix3 0 a b) = G g a b) (i3 i2 i1 i0) (y : S4x128x128.Idx) :
    View.canon (Val := Elt Ideal) (s := S4x128x128) (e := .f32) (⟨Rect.unit ![3, 0, 0] ![1, 128, 128] i3, P 3⟩ :: ⟨Rect.unit ![2, 0, 0] ![1, 128, 128] i2, P 2⟩ ::
      ⟨Rect.unit ![1, 0, 0] ![1, 128, 128] i1, P 1⟩ :: ⟨Rect.unit ![0, 0, 0] ![1, 128, 128] i0, P 0⟩ :: L) y = G (y 0) (y 1) (y 2) := by
  refine View.canon_append_of_piecesOf (Val := Elt Ideal) (s := S4x128x128) (e := .f32) (fun y => G (y 0) (y 1) (y 2)) L [_, _, _, _] ⟨fun x => ?_, fun x => ?_, fun x => ?_, fun x => ?_, trivial⟩ y ?_
  · idx_vars x
    obtain rfl : x0 = 0 := Fin.ext (by omega)
    exact (hP 3 x1 x2).trans (congrArg₂ (G 3) (Fin.ext (by show x1.val = 0 + 1 * x1.val; omega)) (Fin.ext (by show x2.val = 0 + 1 * x2.val; omega)))
  · idx_vars x
    obtain rfl : x0 = 0 := Fin.ext (by omega)
    exact (hP 2 x1 x2).trans (congrArg₂ (G 2) (Fin.ext (by show x1.val = 0 + 1 * x1.val; omega)) (Fin.ext (by show x2.val = 0 + 1 * x2.val; omega)))
  · idx_vars x
    obtain rfl : x0 = 0 := Fin.ext (by omega)
    exact (hP 1 x1 x2).trans (congrArg₂ (G 1) (Fin.ext (by show x1.val = 0 + 1 * x1.val; omega)) (Fin.ext (by show x2.val = 0 + 1 * x2.val; omega)))
  · idx_vars x
    obtain rfl : x0 = 0 := Fin.ext (by omega)
    exact (hP 0 x1 x2).trans (congrArg₂ (G 0) (Fin.ext (by show x1.val = 0 + 1 * x1.val; omega)) (Fin.ext (by show x2.val = 0 + 1 * x2.val; omega)))
  · simp only [List.mem_cons, List.not_mem_nil, or_false, exists_eq_or_imp, exists_eq_left, Rect.mem_set_unit, Fin.forall_fin_succ, Fin.forall_fin_zero_pi]
    have h0 := (y 0).isLt
    have h1 := (y 1).isLt
    have h2 := (y 2).isLt
    simp at h0 h1 h2 ⊢
    omega

/-- One row of lanes for each group, over whatever was stored before. -/
theorem canon_lanes (L : List (View.Piece (Elt Ideal) S1x512 .f32)) (P : Fin 4 → Vec Ideal S1x128 .f32) (G : Fin 512 → EReal)
    (hP : ∀ g a, P g (ix2 0 a) = G (col g a)) (i3 i2 i1 i0) (y : S1x512.Idx) :
    View.canon (Val := Elt Ideal) (s := S1x512) (e := .f32) (⟨Rect.unit ![0, 384] ![1, 128] i3, P 3⟩ :: ⟨Rect.unit ![0, 256] ![1, 128] i2, P 2⟩ ::
      ⟨Rect.unit ![0, 128] ![1, 128] i1, P 1⟩ :: ⟨Rect.unit ![0, 0] ![1, 128] i0, P 0⟩ :: L) y = G (y 1) := by
  refine View.canon_append_of_piecesOf (Val := Elt Ideal) (s := S1x512) (e := .f32) (fun y => G (y 1)) L [_, _, _, _] ⟨fun x => ?_, fun x => ?_, fun x => ?_, fun x => ?_, trivial⟩ y ?_
  · idx_vars x
    obtain rfl : x0 = 0 := Fin.ext (by omega)
    exact (hP 3 x1).trans (congrArg G (Fin.ext (by show 128 * 3 + x1.val = 384 + 1 * x1.val; omega)))
  · idx_vars x
    obtain rfl : x0 = 0 := Fin.ext (by omega)
    exact (hP 2 x1).trans (congrArg G (Fin.ext (by show 128 * 2 + x1.val = 256 + 1 * x1.val; omega)))
  · idx_vars x
    obtain rfl : x0 = 0 := Fin.ext (by omega)
    exact (hP 1 x1).trans (congrArg G (Fin.ext (by show 128 * 1 + x1.val = 128 + 1 * x1.val; omega)))
  · idx_vars x
    obtain rfl : x0 = 0 := Fin.ext (by omega)
    exact (hP 0 x1).trans (congrArg G (Fin.ext (by show 128 * 0 + x1.val = 0 + 1 * x1.val; omega)))
  · simp only [List.mem_cons, List.not_mem_nil, or_false, exists_eq_or_imp, exists_eq_left, Rect.mem_set_unit, Fin.forall_fin_two]
    have h0 := (y 0).isLt
    have h1 := (y 1).isLt
    simp at h0 h1 ⊢
    omega

/-- A head's block is the last one stored. -/
theorem head_hit (o : ℕ) (h : Fin 4) (ho : o = h) (w : Vec Ideal S1x128x128 .f32) (L : List (View.Piece (Elt Ideal) S4x128x128 .f32)) (i) (a b : Fin 128) :
    View.canon (Val := Elt Ideal) (s := S4x128x128) (e := .f32) (⟨Rect.unit ![o, 0, 0] ![1, 128, 128] i, w⟩ :: L) (ix3 h a b) = w (ix3 0 a b) := by
  subst ho
  refine (congrArg _ (funext fun k => Fin.ext ?_)).trans (View.canon_cons_emb (Val := Elt Ideal) (s := S4x128x128) (e := .f32)
    (Rect.unit (s := S4x128x128) ![h.val, 0, 0] ![1, 128, 128] i) w L (ix3 (0 : Fin 1) a b))
  fin_cases k
  · rfl
  · show a.val = 0 + 1 * a.val; omega
  · show b.val = 0 + 1 * b.val; omega

/-- Another head's block does not matter. -/
theorem head_skip (o : ℕ) (h : Fin 4) (ho : o ≠ h) (w : Vec Ideal S1x128x128 .f32) (L : List (View.Piece (Elt Ideal) S4x128x128 .f32)) (i) (a b : Fin 128) :
    View.canon (Val := Elt Ideal) (s := S4x128x128) (e := .f32) (⟨Rect.unit ![o, 0, 0] ![1, 128, 128] i, w⟩ :: L) (ix3 h a b)
      = View.canon (Val := Elt Ideal) (s := S4x128x128) (e := .f32) L (ix3 h a b) := by
  refine View.canon_cons_of_not_mem (Val := Elt Ideal) (s := S4x128x128) (e := .f32) _ _ fun hm => ho ?_
  have h0 := (Rect.mem_set_unit (inb := i).1 hm) 0
  have h1 : o ≤ h.val := h0.1
  have h2 : h.val < o + 1 := h0.2
  omega

/-- Four blocks for each head, the last stored kept. -/
theorem canon_heads16 (L : List (View.Piece (Elt Ideal) S4x128x128 .f32)) (P : Fin 4 → Vec Ideal S1x128x128 .f32) (G : Fin 4 → Fin 128 → Fin 128 → EReal)
    (hP : ∀ g a b, P g (ix3 0 a b) = G g a b) (q32 q31 q30 q22 q21 q20 q12 q11 q10 q02 q01 q00 : Vec Ideal S1x128x128 .f32) (i33 i32 i31 i30 i23 i22 i21 i20 i13 i12 i11 i10 i03 i02 i01 i00) (y : S4x128x128.Idx) :
    View.canon (Val := Elt Ideal) (s := S4x128x128) (e := .f32) (⟨Rect.unit ![3, 0, 0] ![1, 128, 128] i33, P 3⟩ :: ⟨Rect.unit ![3, 0, 0] ![1, 128, 128] i32, q32⟩ :: ⟨Rect.unit ![3, 0, 0] ![1, 128, 128] i31, q31⟩ :: ⟨Rect.unit ![3, 0, 0] ![1, 128, 128] i30, q30⟩ :: ⟨Rect.unit ![2, 0, 0] ![1, 128, 128] i23, P 2⟩ :: ⟨Rect.unit ![2, 0, 0] ![1, 128, 128] i22, q22⟩ :: ⟨Rect.unit ![2, 0, 0] ![1, 128, 128] i21, q21⟩ :: ⟨Rect.unit ![2, 0, 0] ![1, 128, 128] i20, q20⟩ :: ⟨Rect.unit ![1, 0, 0] ![1, 128, 128] i13, P 1⟩ :: ⟨Rect.unit ![1, 0, 0] ![1, 128, 128] i12, q12⟩ :: ⟨Rect.unit ![1, 0, 0] ![1, 128, 128] i11, q11⟩ :: ⟨Rect.unit ![1, 0, 0] ![1, 128, 128] i10, q10⟩ :: ⟨Rect.unit ![0, 0, 0] ![1, 128, 128] i03, P 0⟩ :: ⟨Rect.unit ![0, 0, 0] ![1, 128, 128] i02, q02⟩ :: ⟨Rect.unit ![0, 0, 0] ![1, 128, 128] i01, q01⟩ :: ⟨Rect.unit ![0, 0, 0] ![1, 128, 128] i00, q00⟩ :: L) y = G (y 0) (y 1) (y 2) := by
  idx_vars y
  fin_cases y0
  · exact (head_skip 3 0 (by decide) _ _ _ y1 y2).trans ((head_skip 3 0 (by decide) _ _ _ y1 y2).trans ((head_skip 3 0 (by decide) _ _ _ y1 y2).trans ((head_skip 3 0 (by decide) _ _ _ y1 y2).trans ((head_skip 2 0 (by decide) _ _ _ y1 y2).trans ((head_skip 2 0 (by decide) _ _ _ y1 y2).trans ((head_skip 2 0 (by decide) _ _ _ y1 y2).trans ((head_skip 2 0 (by decide) _ _ _ y1 y2).trans ((head_skip 1 0 (by decide) _ _ _ y1 y2).trans ((head_skip 1 0 (by decide) _ _ _ y1 y2).trans ((head_skip 1 0 (by decide) _ _ _ y1 y2).trans ((head_skip 1 0 (by decide) _ _ _ y1 y2).trans ((head_hit 0 0 rfl _ _ _ y1 y2).trans (hP 0 y1 y2)))))))))))))
  · exact (head_skip 3 1 (by decide) _ _ _ y1 y2).trans ((head_skip 3 1 (by decide) _ _ _ y1 y2).trans ((head_skip 3 1 (by decide) _ _ _ y1 y2).trans ((head_skip 3 1 (by decide) _ _ _ y1 y2).trans ((head_skip 2 1 (by decide) _ _ _ y1 y2).trans ((head_skip 2 1 (by decide) _ _ _ y1 y2).trans ((head_skip 2 1 (by decide) _ _ _ y1 y2).trans ((head_skip 2 1 (by decide) _ _ _ y1 y2).trans ((head_hit 1 1 rfl _ _ _ y1 y2).trans (hP 1 y1 y2)))))))))
  · exact (head_skip 3 2 (by decide) _ _ _ y1 y2).trans ((head_skip 3 2 (by decide) _ _ _ y1 y2).trans ((head_skip 3 2 (by decide) _ _ _ y1 y2).trans ((head_skip 3 2 (by decide) _ _ _ y1 y2).trans ((head_hit 2 2 rfl _ _ _ y1 y2).trans (hP 2 y1 y2)))))
  · exact (head_hit 3 3 rfl _ _ _ y1 y2).trans (hP 3 y1 y2)

/-- A head's column is the last one stored. -/
theorem chunk_hit (o : ℕ) (h : Fin 4) (ho : o = 128 * h) (w : Vec Ideal S128x128 .f32) (L : List (View.Piece (Elt Ideal) S128x512 .f32)) (i) (s a : Fin 128) :
    View.canon (Val := Elt Ideal) (s := S128x512) (e := .f32) (⟨Rect.unit ![0, o] ![128, 128] i, w⟩ :: L) (ix2 s (col h a)) = w (ix2 s a) := by
  subst ho
  refine (congrArg _ (funext fun k => Fin.ext ?_)).trans (View.canon_cons_emb (Val := Elt Ideal) (s := S128x512) (e := .f32)
    (Rect.unit (s := S128x512) ![0, 128 * h.val] ![128, 128] i) w L (ix2 s a))
  fin_cases k
  · show s.val = 0 + 1 * s.val; omega
  · show 128 * h.val + a.val = 128 * h.val + 1 * a.val; omega

/-- Another head's column does not matter. -/
theorem chunk_skip (o : ℕ) (h g : Fin 4) (ho : o = 128 * g) (hg : g ≠ h) (w : Vec Ideal S128x128 .f32) (L : List (View.Piece (Elt Ideal) S128x512 .f32)) (i) (s a : Fin 128) :
    View.canon (Val := Elt Ideal) (s := S128x512) (e := .f32) (⟨Rect.unit ![0, o] ![128, 128] i, w⟩ :: L) (ix2 s (col h a))
      = View.canon (Val := Elt Ideal) (s := S128x512) (e := .f32) L (ix2 s (col h a)) := by
  subst ho
  refine View.canon_cons_of_not_mem (Val := Elt Ideal) (s := S128x512) (e := .f32) _ _ fun hm => hg (Fin.ext ?_)
  have h0 := (Rect.mem_set_unit (inb := i).1 hm) 1
  have h1 : 128 * g.val ≤ 128 * h.val + a.val := h0.1
  have h2 : 128 * h.val + a.val < 128 * g.val + 128 := h0.2
  omega

/-- Four columns for each head, the last stored kept. -/
theorem canon_chunk16 (L : List (View.Piece (Elt Ideal) S128x512 .f32)) (P : Fin 4 → Vec Ideal S128x128 .f32) (G : Fin 128 → Fin 512 → EReal)
    (hP : ∀ g s a, P g (ix2 s a) = G s (col g a)) (q32 q31 q30 q22 q21 q20 q12 q11 q10 q02 q01 q00 : Vec Ideal S128x128 .f32) (i33 i32 i31 i30 i23 i22 i21 i20 i13 i12 i11 i10 i03 i02 i01 i00) (y : S128x512.Idx) :
    View.canon (Val := Elt Ideal) (s := S128x512) (e := .f32) (⟨Rect.unit ![0, 384] ![128, 128] i33, P 3⟩ :: ⟨Rect.unit ![0, 384] ![128, 128] i32, q32⟩ :: ⟨Rect.unit ![0, 384] ![128, 128] i31, q31⟩ :: ⟨Rect.unit ![0, 384] ![128, 128] i30, q30⟩ :: ⟨Rect.unit ![0, 256] ![128, 128] i23, P 2⟩ :: ⟨Rect.unit ![0, 256] ![128, 128] i22, q22⟩ :: ⟨Rect.unit ![0, 256] ![128, 128] i21, q21⟩ :: ⟨Rect.unit ![0, 256] ![128, 128] i20, q20⟩ :: ⟨Rect.unit ![0, 128] ![128, 128] i13, P 1⟩ :: ⟨Rect.unit ![0, 128] ![128, 128] i12, q12⟩ :: ⟨Rect.unit ![0, 128] ![128, 128] i11, q11⟩ :: ⟨Rect.unit ![0, 128] ![128, 128] i10, q10⟩ :: ⟨Rect.unit ![0, 0] ![128, 128] i03, P 0⟩ :: ⟨Rect.unit ![0, 0] ![128, 128] i02, q02⟩ :: ⟨Rect.unit ![0, 0] ![128, 128] i01, q01⟩ :: ⟨Rect.unit ![0, 0] ![128, 128] i00, q00⟩ :: L) y = G (y 0) (y 1) := by
  idx_vars y
  obtain ⟨h, a, rfl⟩ : ∃ h a, y1 = col h a := ⟨grp y1, sub y1, (col_sub y1).symm⟩
  fin_cases h
  · exact (chunk_skip 384 0 3 rfl (by decide) _ _ _ y0 a).trans ((chunk_skip 384 0 3 rfl (by decide) _ _ _ y0 a).trans ((chunk_skip 384 0 3 rfl (by decide) _ _ _ y0 a).trans ((chunk_skip 384 0 3 rfl (by decide) _ _ _ y0 a).trans ((chunk_skip 256 0 2 rfl (by decide) _ _ _ y0 a).trans ((chunk_skip 256 0 2 rfl (by decide) _ _ _ y0 a).trans ((chunk_skip 256 0 2 rfl (by decide) _ _ _ y0 a).trans ((chunk_skip 256 0 2 rfl (by decide) _ _ _ y0 a).trans ((chunk_skip 128 0 1 rfl (by decide) _ _ _ y0 a).trans ((chunk_skip 128 0 1 rfl (by decide) _ _ _ y0 a).trans ((chunk_skip 128 0 1 rfl (by decide) _ _ _ y0 a).trans ((chunk_skip 128 0 1 rfl (by decide) _ _ _ y0 a).trans ((chunk_hit 0 0 rfl _ _ _ y0 a).trans (hP 0 y0 a)))))))))))))
  · exact (chunk_skip 384 1 3 rfl (by decide) _ _ _ y0 a).trans ((chunk_skip 384 1 3 rfl (by decide) _ _ _ y0 a).trans ((chunk_skip 384 1 3 rfl (by decide) _ _ _ y0 a).trans ((chunk_skip 384 1 3 rfl (by decide) _ _ _ y0 a).trans ((chunk_skip 256 1 2 rfl (by decide) _ _ _ y0 a).trans ((chunk_skip 256 1 2 rfl (by decide) _ _ _ y0 a).trans ((chunk_skip 256 1 2 rfl (by decide) _ _ _ y0 a).trans ((chunk_skip 256 1 2 rfl (by decide) _ _ _ y0 a).trans ((chunk_hit 128 1 rfl _ _ _ y0 a).trans (hP 1 y0 a)))))))))
  · exact (chunk_skip 384 2 3 rfl (by decide) _ _ _ y0 a).trans ((chunk_skip 384 2 3 rfl (by decide) _ _ _ y0 a).trans ((chunk_skip 384 2 3 rfl (by decide) _ _ _ y0 a).trans ((chunk_skip 384 2 3 rfl (by decide) _ _ _ y0 a).trans ((chunk_hit 256 2 rfl _ _ _ y0 a).trans (hP 2 y0 a)))))
  · exact (chunk_hit 384 3 rfl _ _ _ y0 a).trans (hP 3 y0 a)

/-! ## What a point adds -/

variable (m : (ℓ : Loc nD τ sig) → Buf (Elt Ideal) ℓ) (c : Dev nD)

/-- What a block adds to the pooling weights' gradient. -/
def gpw (n : ℕ) (g : Fin 4) (a b : Fin 128) : EReal :=
  ∑ j : Fin 512, devs (fP (aX m c)) (col g a) (512 * n + j) * ys (fQ (aD m c)) (fS (aS m c)) (col g b) (512 * n + j)

/-- What a block adds to the pooling scale's gradient. -/
def gps (n : ℕ) (l : Fin 512) : EReal :=
  ∑ j : Fin 512, fQ (aD m c) l (512 * n + j) * pre (fP (aX m c)) (fW (aW m c)) l (512 * n + j)

/-- What a block adds to the gain's gradient. -/
def gsg (n : ℕ) (l : Fin 512) : EReal :=
  ∑ j : Fin 512, dvnRow (fU (aX m c)) (fD (aD m c)) (fW (aM m c)) (512 * n + j) l * Gate.hat (act (fV (aX m c)) (512 * n + j)) l

/-- The pooling weights' gradient after a point, by group. -/
def dpwTile (t : Fin cfg0.N) (x : Vec Ideal S4x128x128 .f32) : Fin 4 → Vec Ideal S1x128x128 .f32
  | 0 => k0_pay21 (k0_pay16 (grid0.coords t) (View.ld (iblk m c 2 t) (Rect.unit (s := S512x1024) ![0, 0] ![512, 512] inb_S512x1024_S512x512_0_0)) (iblk m c 3 t)) (k0_pay17 (grid0.coords t) (View.ld (iblk m c 0 t) (Rect.unit (s := S512x1536) ![0, 0] ![512, 512] inb_S512x1536_S512x512_0_0)) (iblk m c 1 t)) (View.ld (iblk m c 5 t) (Rect.unit (s := S1x512) ![0, 0] ![1, 128] inb_S1x512_S1x128_0_0)) (View.ld x (Rect.unit (s := S4x128x128) ![0, 0, 0] ![1, 128, 128] inb_S4x128x128_S1x128x128_0_0_0))
  | 1 => k0_pay30 (k0_pay26 (k0_pay13 (grid0.coords t)) (View.ld (iblk m c 0 t) (Rect.unit (s := S512x1536) ![0, 0] ![512, 512] inb_S512x1536_S512x512_0_0)) (k0_pay15 (grid0.coords t) (View.ld (iblk m c 0 t) (Rect.unit (s := S512x1536) ![0, 0] ![512, 512] inb_S512x1536_S512x512_0_0)) (iblk m c 1 t))) (k0_pay29 (k0_pay16 (grid0.coords t) (View.ld (iblk m c 2 t) (Rect.unit (s := S512x1024) ![0, 0] ![512, 512] inb_S512x1024_S512x512_0_0)) (iblk m c 3 t)) (View.ld (iblk m c 5 t) (Rect.unit (s := S1x512) ![0, 128] ![1, 128] inb_S1x512_S1x128_0_128))) (View.ld x (Rect.unit (s := S4x128x128) ![1, 0, 0] ![1, 128, 128] inb_S4x128x128_S1x128x128_1_0_0))
  | 2 => k0_pay36 (k0_pay16 (grid0.coords t) (View.ld (iblk m c 2 t) (Rect.unit (s := S512x1024) ![0, 0] ![512, 512] inb_S512x1024_S512x512_0_0)) (iblk m c 3 t)) (k0_pay32 (k0_pay13 (grid0.coords t)) (View.ld (iblk m c 0 t) (Rect.unit (s := S512x1536) ![0, 0] ![512, 512] inb_S512x1536_S512x512_0_0)) (k0_pay15 (grid0.coords t) (View.ld (iblk m c 0 t) (Rect.unit (s := S512x1536) ![0, 0] ![512, 512] inb_S512x1536_S512x512_0_0)) (iblk m c 1 t))) (View.ld (iblk m c 5 t) (Rect.unit (s := S1x512) ![0, 256] ![1, 128] inb_S1x512_S1x128_0_256)) (View.ld x (Rect.unit (s := S4x128x128) ![2, 0, 0] ![1, 128, 128] inb_S4x128x128_S1x128x128_2_0_0))
  | 3 => k0_pay44 (k0_pay16 (grid0.coords t) (View.ld (iblk m c 2 t) (Rect.unit (s := S512x1024) ![0, 0] ![512, 512] inb_S512x1024_S512x512_0_0)) (iblk m c 3 t)) (k0_pay40 (k0_pay13 (grid0.coords t)) (View.ld (iblk m c 0 t) (Rect.unit (s := S512x1536) ![0, 0] ![512, 512] inb_S512x1536_S512x512_0_0)) (k0_pay15 (grid0.coords t) (View.ld (iblk m c 0 t) (Rect.unit (s := S512x1536) ![0, 0] ![512, 512] inb_S512x1536_S512x512_0_0)) (iblk m c 1 t))) (View.ld (iblk m c 5 t) (Rect.unit (s := S1x512) ![0, 384] ![1, 128] inb_S1x512_S1x128_0_384)) (View.ld x (Rect.unit (s := S4x128x128) ![3, 0, 0] ![1, 128, 128] inb_S4x128x128_S1x128x128_3_0_0))

theorem dpwTile_at (t : Fin cfg0.N) (x : Vec Ideal S4x128x128 .f32) (g : Fin 4) (a b : Fin 128) :
    dpwTile m c t x g (ix3 0 a b) = x (ix3 g a b) + gpw m c t.val g a b := by
  unfold gpw
  rw [← coord t]
  fin_cases g
  · exact (dpw_at (grid0.coords t) (fP (aX m c)) (fQ (aD m c)) (fS (aS m c)) 0 _ (dev0_at _ _ _ _ (pool_rows m c t _) (halo_rows m c t)) _
      (ys_at _ _ _ _ (dpool_rows m c t _) (next_rows m c t) (past_rows m c) _ 0 _ (ps_rows m c t 0 0 rfl _) 0 rfl _) _ a b).trans
      (congrArg (· + _) (ld3 (φ := .f32) x 0 0 rfl _ a b))
  · exact (dpw_at (grid0.coords t) (fP (aX m c)) (fQ (aD m c)) (fS (aS m c)) 1 _ (dev1_at _ _ _ _ (pool_rows m c t _) (halo_rows m c t)) _
      (ys_at _ _ _ _ (dpool_rows m c t _) (next_rows m c t) (past_rows m c) _ 1 _ (ps_rows m c t 1 128 rfl _) 128 rfl _) _ a b).trans
      (congrArg (· + _) (ld3 (φ := .f32) x 1 1 rfl _ a b))
  · exact (dpw_at (grid0.coords t) (fP (aX m c)) (fQ (aD m c)) (fS (aS m c)) 2 _ (dev2_at _ _ _ _ (pool_rows m c t _) (halo_rows m c t)) _
      (ys_at _ _ _ _ (dpool_rows m c t _) (next_rows m c t) (past_rows m c) _ 2 _ (ps_rows m c t 2 256 rfl _) 256 rfl _) _ a b).trans
      (congrArg (· + _) (ld3 (φ := .f32) x 2 2 rfl _ a b))
  · exact (dpw_at (grid0.coords t) (fP (aX m c)) (fQ (aD m c)) (fS (aS m c)) 3 _ (dev3_at _ _ _ _ (pool_rows m c t _) (halo_rows m c t)) _
      (ys_at _ _ _ _ (dpool_rows m c t _) (next_rows m c t) (past_rows m c) _ 3 _ (ps_rows m c t 3 384 rfl _) 384 rfl _) _ a b).trans
      (congrArg (· + _) (ld3 (φ := .f32) x 3 3 rfl _ a b))

/-- The pooling scale's gradient after a point, by group. -/
def dpsTile (t : Fin cfg0.N) (x : Vec Ideal S1x512 .f32) : Fin 4 → Vec Ideal S1x128 .f32
  | 0 => k0_pay19 (View.ld (iblk m c 2 t) (Rect.unit (s := S512x1024) ![0, 0] ![512, 512] inb_S512x1024_S512x512_0_0)) (k0_pay17 (grid0.coords t) (View.ld (iblk m c 0 t) (Rect.unit (s := S512x1536) ![0, 0] ![512, 512] inb_S512x1536_S512x512_0_0)) (iblk m c 1 t)) (View.ld (iblk m c 4 t) (Rect.unit (s := S4x128x128) ![0, 0, 0] ![1, 128, 128] inb_S4x128x128_S1x128x128_0_0_0)) (View.ld x (Rect.unit (s := S1x512) ![0, 0] ![1, 128] inb_S1x512_S1x128_0_0))
  | 1 => k0_pay28 (k0_pay13 (grid0.coords t)) (View.ld (iblk m c 0 t) (Rect.unit (s := S512x1536) ![0, 0] ![512, 512] inb_S512x1536_S512x512_0_0)) (k0_pay15 (grid0.coords t) (View.ld (iblk m c 0 t) (Rect.unit (s := S512x1536) ![0, 0] ![512, 512] inb_S512x1536_S512x512_0_0)) (iblk m c 1 t)) (View.ld (iblk m c 2 t) (Rect.unit (s := S512x1024) ![0, 0] ![512, 512] inb_S512x1024_S512x512_0_0)) (View.ld (iblk m c 4 t) (Rect.unit (s := S4x128x128) ![1, 0, 0] ![1, 128, 128] inb_S4x128x128_S1x128x128_1_0_0)) (View.ld x (Rect.unit (s := S1x512) ![0, 128] ![1, 128] inb_S1x512_S1x128_0_128))
  | 2 => k0_pay34 (View.ld (iblk m c 2 t) (Rect.unit (s := S512x1024) ![0, 0] ![512, 512] inb_S512x1024_S512x512_0_0)) (k0_pay32 (k0_pay13 (grid0.coords t)) (View.ld (iblk m c 0 t) (Rect.unit (s := S512x1536) ![0, 0] ![512, 512] inb_S512x1536_S512x512_0_0)) (k0_pay15 (grid0.coords t) (View.ld (iblk m c 0 t) (Rect.unit (s := S512x1536) ![0, 0] ![512, 512] inb_S512x1536_S512x512_0_0)) (iblk m c 1 t))) (View.ld (iblk m c 4 t) (Rect.unit (s := S4x128x128) ![2, 0, 0] ![1, 128, 128] inb_S4x128x128_S1x128x128_2_0_0)) (View.ld x (Rect.unit (s := S1x512) ![0, 256] ![1, 128] inb_S1x512_S1x128_0_256))
  | 3 => k0_pay42 (k0_pay13 (grid0.coords t)) (View.ld (iblk m c 0 t) (Rect.unit (s := S512x1536) ![0, 0] ![512, 512] inb_S512x1536_S512x512_0_0)) (k0_pay15 (grid0.coords t) (View.ld (iblk m c 0 t) (Rect.unit (s := S512x1536) ![0, 0] ![512, 512] inb_S512x1536_S512x512_0_0)) (iblk m c 1 t)) (View.ld (iblk m c 2 t) (Rect.unit (s := S512x1024) ![0, 0] ![512, 512] inb_S512x1024_S512x512_0_0)) (View.ld (iblk m c 4 t) (Rect.unit (s := S4x128x128) ![3, 0, 0] ![1, 128, 128] inb_S4x128x128_S1x128x128_3_0_0)) (View.ld x (Rect.unit (s := S1x512) ![0, 384] ![1, 128] inb_S1x512_S1x128_0_384))

theorem dpsTile_at (t : Fin cfg0.N) (x : Vec Ideal S1x512 .f32) (g : Fin 4) (a : Fin 128) :
    dpsTile m c t x g (ix2 0 a) = x (ix2 0 (col g a)) + gps m c t.val (col g a) := by
  unfold gps
  rw [← coord t]
  fin_cases g
  · exact (dps_at (grid0.coords t) (fP (aX m c)) (fQ (aD m c)) _ (dpool_rows m c t _) (fW (aW m c)) 0 _ (pw_rows m c t 0 0 rfl _) _ (dev0_at _ _ _ _ (pool_rows m c t _) (halo_rows m c t)) 0 rfl _ _ a).trans
      (congrArg (· + _) (ld2 (φ := .f32) x 0 0 _ 0 a (by decide) (by omega)))
  · exact (dps_at (grid0.coords t) (fP (aX m c)) (fQ (aD m c)) _ (dpool_rows m c t _) (fW (aW m c)) 1 _ (pw_rows m c t 1 1 rfl _) _ (dev1_at _ _ _ _ (pool_rows m c t _) (halo_rows m c t)) 128 rfl _ _ a).trans
      (congrArg (· + _) (ld2 (φ := .f32) x 0 128 _ 0 a (by decide) (by omega)))
  · exact (dps_at (grid0.coords t) (fP (aX m c)) (fQ (aD m c)) _ (dpool_rows m c t _) (fW (aW m c)) 2 _ (pw_rows m c t 2 2 rfl _) _ (dev2_at _ _ _ _ (pool_rows m c t _) (halo_rows m c t)) 256 rfl _ _ a).trans
      (congrArg (· + _) (ld2 (φ := .f32) x 0 256 _ 0 a (by decide) (by omega)))
  · exact (dps_at (grid0.coords t) (fP (aX m c)) (fQ (aD m c)) _ (dpool_rows m c t _) (fW (aW m c)) 3 _ (pw_rows m c t 3 3 rfl _) _ (dev3_at _ _ _ _ (pool_rows m c t _) (halo_rows m c t)) 384 rfl _ _ a).trans
      (congrArg (· + _) (ld2 (φ := .f32) x 0 384 _ 0 a (by decide) (by omega)))

theorem dsgB_at (t : Fin cfg0.N) (z : Vec Ideal S512x512 .f32)
    (hz : ∀ j l, z (ix2 j l) = dvns (fU (aX m c)) (fD (aD m c)) (fW (aM m c)) (4 * t.val + grp j) (sub j) l) (x : Vec Ideal S1x512 .f32) (l : Fin 512) :
    k0_pay191 (k0_pay54 (k0_pay51 (vB m c t)) (k0_pay52 (vB m c t))) z x (ix2 0 l) = x (ix2 0 l) + gsg m c t.val l := by
  have hv : ∀ j l, vB m c t (ix2 j l) = fV (aX m c) (512 * t.val + j) l := v_rows m c t _
  rw [dsg_at _ _ _ hv]
  unfold gsg dvnRow
  refine congrArg (x (ix2 0 l) + ·) (Finset.sum_congr rfl fun j _ => ?_)
  have e' : (⟨(512 * t.val + j) % 128, Nat.mod_lt _ (by decide)⟩ : Fin 128) = sub j := Fin.ext (row_div t.val j).2
  rw [hz, (row_div t.val j).1, e']

/-- One chunk's part of a head's weight gradient, added. -/
def dswStep (t : Fin cfg0.N) (h k : Fin 4) (x : Vec Ideal S1x128x128 .f32) : Vec Ideal S1x128x128 .f32 :=
  shapeCast S1x128x128 (addf (shapeCast S128x128 x shapeCasts_S1x128x128_S128x128 : FVec Ideal S128x128 .f32)
    (matmul dot_S128x128_S128x128_S128x128_1_1_0_0_n_n none (truncf .bf16 (dzTile (k0_pay47 (uB m c t)) (iblk m c 2 t) h k) bitsLt_bf16_f32)
      (extractStridedSlice S128x128 ![128 * k.val, 128 * h.val] (vnB m c t) (slices_tile k h)) (constant S128x128 .f32 0x00000000#32)))
    shapeCasts_S128x128_S1x128x128

theorem dswStep_at (t : Fin cfg0.N) (h k : Fin 4) (x : Vec Ideal S1x128x128 .f32) (a b : Fin 128) : dswStep m c t h k x (ix3 0 a b)
    = x (ix3 0 a b) + dws (fU (aX m c)) (fV (aX m c)) (fD (aD m c)) (fS (aG m c)) h a b (4 * t.val + k) :=
  dsw_tile _ h _ _ _ t.val k _ (vn_rows m c t) _ _ rfl rfl _ _ (dz_rows m c t h k) x a b

/-- A head's weight gradient after a point. -/
def dswTile (t : Fin cfg0.N) (x : Vec Ideal S1x128x128 .f32) (h : Fin 4) : Vec Ideal S1x128x128 .f32 :=
  dswStep m c t h 3 (dswStep m c t h 2 (dswStep m c t h 1 (dswStep m c t h 0 x)))

/-- What a block adds to a weight's gradient. -/
def gsw (n : ℕ) (h : Fin 4) (a b : Fin 128) : EReal :=
  ∑ k : Fin 4, dws (fU (aX m c)) (fV (aX m c)) (fD (aD m c)) (fS (aG m c)) h a b (4 * n + k)

theorem dswTile_at (t : Fin cfg0.N) (x : Vec Ideal S1x128x128 .f32) (h : Fin 4) (a b : Fin 128) :
    dswTile m c t x h (ix3 0 a b) = x (ix3 0 a b) + gsw m c t.val h a b := by
  unfold dswTile gsw
  rw [dswStep_at, dswStep_at, dswStep_at, dswStep_at, Fin.sum_univ_four]
  simp only [add_assoc]

/-- One chunk's cotangents of a head's mixed rows, added. -/
def dzStep (t : Fin cfg0.N) (h k : Fin 4) (x : Vec Ideal S128x128 .f32) : Vec Ideal S128x128 .f32 :=
  shapeCast S128x128 (addf x (dzTile (k0_pay47 (uB m c t)) (iblk m c 2 t) h k) : FVec Ideal S128x128 .f32) shapeCasts_S128x128_S128x128

theorem dzStep_at (t : Fin cfg0.N) (h k : Fin 4) (x : Vec Ideal S128x128 .f32) (s a : Fin 128) : dzStep m c t h k x (ix2 s a)
    = x (ix2 s a) + dzs (fU (aX m c)) (fD (aD m c)) (128 * (4 * t.val + k) + s) (col h a) :=
  (dzacc_tile _ _ s a).trans (congrArg (x (ix2 s a) + ·) (dz_rows m c t h k s a))

/-- A head's cotangents after a point. -/
def dzAll (t : Fin cfg0.N) (x : Vec Ideal S128x128 .f32) (h : Fin 4) : Vec Ideal S128x128 .f32 :=
  dzStep m c t h 3 (dzStep m c t h 2 (dzStep m c t h 1 (dzStep m c t h 0 x)))

/-- What a block adds to the cotangents of a chunk's rows. -/
def gdz (n : ℕ) (s : Fin 128) (l : Fin 512) : EReal :=
  ∑ k : Fin 4, dzs (fU (aX m c)) (fD (aD m c)) (128 * (4 * n + k) + s) l

theorem dzAll_at (t : Fin cfg0.N) (x : Vec Ideal S128x128 .f32) (h : Fin 4) (s a : Fin 128) :
    dzAll m c t x h (ix2 s a) = x (ix2 s a) + gdz m c t.val s (col h a) := by
  unfold dzAll gdz
  rw [dzStep_at, dzStep_at, dzStep_at, dzStep_at, Fin.sum_univ_four]
  simp only [add_assoc]

/-- A head's part of the weight gradient. -/
def hd3 (x : Vec Ideal S4x128x128 .f32) : Fin 4 → Vec Ideal S1x128x128 .f32
  | 0 => View.ld x (Rect.unit (s := S4x128x128) ![0, 0, 0] ![1, 128, 128] inb_S4x128x128_S1x128x128_0_0_0)
  | 1 => View.ld x (Rect.unit (s := S4x128x128) ![1, 0, 0] ![1, 128, 128] inb_S4x128x128_S1x128x128_1_0_0)
  | 2 => View.ld x (Rect.unit (s := S4x128x128) ![2, 0, 0] ![1, 128, 128] inb_S4x128x128_S1x128x128_2_0_0)
  | 3 => View.ld x (Rect.unit (s := S4x128x128) ![3, 0, 0] ![1, 128, 128] inb_S4x128x128_S1x128x128_3_0_0)

theorem hd3_at (x : Vec Ideal S4x128x128 .f32) (g : Fin 4) (a b : Fin 128) : hd3 x g (ix3 0 a b) = x (ix3 g a b) := by
  fin_cases g
  · exact ld3 (φ := .f32) x 0 0 rfl _ a b
  · exact ld3 (φ := .f32) x 1 1 rfl _ a b
  · exact ld3 (φ := .f32) x 2 2 rfl _ a b
  · exact ld3 (φ := .f32) x 3 3 rfl _ a b

/-- A head's column of the cotangents. -/
def hd2 (x : Vec Ideal S128x512 .f32) : Fin 4 → Vec Ideal S128x128 .f32
  | 0 => View.ld x (Rect.unit (s := S128x512) ![0, 0] ![128, 128] inb_S128x512_S128x128_0_0)
  | 1 => View.ld x (Rect.unit (s := S128x512) ![0, 128] ![128, 128] inb_S128x512_S128x128_0_128)
  | 2 => View.ld x (Rect.unit (s := S128x512) ![0, 256] ![128, 128] inb_S128x512_S128x128_0_256)
  | 3 => View.ld x (Rect.unit (s := S128x512) ![0, 384] ![128, 128] inb_S128x512_S128x128_0_384)

theorem hd2_at (x : Vec Ideal S128x512 .f32) (g : Fin 4) (s a : Fin 128) : hd2 x g (ix2 s a) = x (ix2 s (col g a)) := by
  fin_cases g
  · exact (ld2 (φ := .f32) x 0 0 _ s a (by omega) (by omega)).trans (congrArg x (congrArg₂ ix2 (Fin.ext (Nat.zero_add _)) (Fin.ext (by show _ = 128 * 0 + a.val; rfl))))
  · exact (ld2 (φ := .f32) x 0 128 _ s a (by omega) (by omega)).trans (congrArg x (congrArg₂ ix2 (Fin.ext (Nat.zero_add _)) (Fin.ext (by show _ = 128 * 1 + a.val; rfl))))
  · exact (ld2 (φ := .f32) x 0 256 _ s a (by omega) (by omega)).trans (congrArg x (congrArg₂ ix2 (Fin.ext (Nat.zero_add _)) (Fin.ext (by show _ = 128 * 2 + a.val; rfl))))
  · exact (ld2 (φ := .f32) x 0 384 _ s a (by omega) (by omega)).trans (congrArg x (congrArg₂ ix2 (Fin.ext (Nat.zero_add _)) (Fin.ext (by show _ = 128 * 3 + a.val; rfl))))

/-! ## The sums over the points -/

/-- A sum that starts at the first point and grows by each block. -/
theorem sum_points {ι : Type} (F : (n : ℕ) → n < cfg0.N → ι → EReal) (g : ℕ → ι → EReal) (k : ℕ) (hk : k ≤ 16) (hA : ∀ h y, F 0 h y = g 0 y)
    (hB : ∀ n h y, n + 1 < k → F (n + 1) h y = F n (by omega) y + g (n + 1) y) : ∀ n h y, n < k → F n h y = ∑ s ∈ Finset.range (n + 1), g s y := by
  intro n
  induction n with
  | zero => intro h y _; rw [hA]; simp
  | succ n ih => intro h y hn; rw [hB n h y hn, ih (by omega) y (by omega), Finset.sum_range_succ _ (n + 1)]

/-- The sum over the blocks' rows is the sum over all rows. -/
theorem sum_blocks (f : ℕ → EReal) : (∑ s ∈ Finset.range 16, ∑ j : Fin 512, f (512 * s + j)) = ∑ r : Fin 8192, f r := by
  rw [Finset.sum_range]
  exact Fin.sum_mul_add_congr fun s r hl => congrArg f (by show 512 * s.val + r.val = s.val * 512 + r.val; omega)

theorem out10_A (t : Fin cfg0.N) (h0 : t.val % 16 = 0) (h1 : ¬t.val % 16 = 15) (y : S4x128x128.Idx) : (outsAt0 m c t.val t.isLt).2.1 y
    = 0 + gpw m c t.val (y 0) (y 1) (y 2) := by
  idx_vars y
  rw [outsAt0_A m c t h0 h1]
  frame_open
  simp (disch := decide) only [↓ View.readCov_skip, ↓ View.readCov_cons_toLoadRect, ↓ View.readCov_fill]
  frame_out
  refine (canon_heads _ (dpwTile m c t (k0_pay8 (F := Ideal))) (fun g a b => (k0_pay8 (F := Ideal)) (ix3 g a b) + gpw m c t.val g a b) (dpwTile_at m c t _) _ _ _ _ _).trans ?_
  refine congrArg (· + _) ?_
  pointwise [k0_pay8]

theorem out11_A (t : Fin cfg0.N) (h0 : t.val % 16 = 0) (h1 : ¬t.val % 16 = 15) (y : S1x512.Idx) : (outsAt0 m c t.val t.isLt).2.2.1 y
    = 0 + gps m c t.val (y 1) := by
  idx_vars y
  rw [outsAt0_A m c t h0 h1]
  frame_open
  simp (disch := decide) only [↓ View.readCov_skip, ↓ View.readCov_cons_toLoadRect, ↓ View.readCov_fill]
  frame_out
  refine (canon_lanes _ (dpsTile m c t (k0_pay9 (F := Ideal))) (fun l => (k0_pay9 (F := Ideal)) (ix2 0 l) + gps m c t.val l) (dpsTile_at m c t _) _ _ _ _ _).trans ?_
  refine congrArg (· + _) ?_
  pointwise [k0_pay9]

theorem out12_A (t : Fin cfg0.N) (h0 : t.val % 16 = 0) (h1 : ¬t.val % 16 = 15) (y : S1x512.Idx) : (outsAt0 m c t.val t.isLt).2.2.2.1 y
    = 0 + gsg m c t.val (y 1) := by
  idx_vars y
  rw [outsAt0_A m c t h0 h1]
  frame_open
  simp (disch := decide) only [↓ View.readCov_skip, ↓ View.readCov_cons_toLoadRect, ↓ View.readCov_fill]
  frame_out
  obtain rfl : y0 = 0 := Fin.ext (by omega)
  refine (dsgB_at m c t _ (fun j l => dvn_read m c _ t _ _ _ _ _ _ _ _ _ _ _ _ _ _ _ _ _ j l) (k0_pay10 (F := Ideal)) y1).trans ?_
  refine congrArg (· + _) ?_
  pointwise [k0_pay10]

theorem out10_B (t : Fin cfg0.N) (h0 : ¬t.val % 16 = 0) (h1 : ¬t.val % 16 = 15) (y : S4x128x128.Idx) : (outsAt0 m c t.val t.isLt).2.1 y
    = (outsAt0 m c (t.val - 1) (by omega)).2.1 y + gpw m c t.val (y 0) (y 1) (y 2) := by
  idx_vars y
  rw [outsAt0_B m c t h0 h1]
  frame_out
  refine (canon_heads [] (dpwTile m c t ((outsAt0 m c (t.val - 1) (by omega)).2.1)) (fun g a b => ((outsAt0 m c (t.val - 1) (by omega)).2.1) (ix3 g a b) + gpw m c t.val g a b) (dpwTile_at m c t _) _ _ _ _ _).trans ?_
  rfl

theorem out11_B (t : Fin cfg0.N) (h0 : ¬t.val % 16 = 0) (h1 : ¬t.val % 16 = 15) (y : S1x512.Idx) : (outsAt0 m c t.val t.isLt).2.2.1 y
    = (outsAt0 m c (t.val - 1) (by omega)).2.2.1 y + gps m c t.val (y 1) := by
  idx_vars y
  rw [outsAt0_B m c t h0 h1]
  frame_out
  refine (canon_lanes [] (dpsTile m c t ((outsAt0 m c (t.val - 1) (by omega)).2.2.1)) (fun l => ((outsAt0 m c (t.val - 1) (by omega)).2.2.1) (ix2 0 l) + gps m c t.val l) (dpsTile_at m c t _) _ _ _ _ _).trans ?_
  obtain rfl : y0 = 0 := Fin.ext (by omega)
  rfl

theorem out12_B (t : Fin cfg0.N) (h0 : ¬t.val % 16 = 0) (h1 : ¬t.val % 16 = 15) (y : S1x512.Idx) : (outsAt0 m c t.val t.isLt).2.2.2.1 y
    = (outsAt0 m c (t.val - 1) (by omega)).2.2.2.1 y + gsg m c t.val (y 1) := by
  idx_vars y
  rw [outsAt0_B m c t h0 h1]
  frame_out
  obtain rfl : y0 = 0 := Fin.ext (by omega)
  refine (dsgB_at m c t _ (fun j l => dvn_read m c _ t _ _ _ _ _ _ _ _ _ _ _ _ _ _ _ _ _ j l) ((outsAt0 m c (t.val - 1) (by omega)).2.2.2.1) y1).trans ?_
  rfl

theorem out10_C (t : Fin cfg0.N) (h0 : ¬t.val % 16 = 0) (h1 : t.val % 16 = 15) (y : S4x128x128.Idx) : (outsAt0 m c t.val t.isLt).2.1 y
    = (outsAt0 m c (t.val - 1) (by omega)).2.1 y + gpw m c t.val (y 0) (y 1) (y 2) := by
  idx_vars y
  rw [outsAt0_C m c t h0 h1]
  frame_out
  refine (canon_heads [] (dpwTile m c t ((outsAt0 m c (t.val - 1) (by omega)).2.1)) (fun g a b => ((outsAt0 m c (t.val - 1) (by omega)).2.1) (ix3 g a b) + gpw m c t.val g a b) (dpwTile_at m c t _) _ _ _ _ _).trans ?_
  rfl

theorem out11_C (t : Fin cfg0.N) (h0 : ¬t.val % 16 = 0) (h1 : t.val % 16 = 15) (y : S1x512.Idx) : (outsAt0 m c t.val t.isLt).2.2.1 y
    = (outsAt0 m c (t.val - 1) (by omega)).2.2.1 y + gps m c t.val (y 1) := by
  idx_vars y
  rw [outsAt0_C m c t h0 h1]
  frame_out
  refine (canon_lanes [] (dpsTile m c t ((outsAt0 m c (t.val - 1) (by omega)).2.2.1)) (fun l => ((outsAt0 m c (t.val - 1) (by omega)).2.2.1) (ix2 0 l) + gps m c t.val l) (dpsTile_at m c t _) _ _ _ _ _).trans ?_
  obtain rfl : y0 = 0 := Fin.ext (by omega)
  rfl

theorem out12_C (t : Fin cfg0.N) (h0 : ¬t.val % 16 = 0) (h1 : t.val % 16 = 15) (y : S1x512.Idx) : (outsAt0 m c t.val t.isLt).2.2.2.1 y
    = (outsAt0 m c (t.val - 1) (by omega)).2.2.2.1 y + gsg m c t.val (y 1) := by
  idx_vars y
  rw [outsAt0_C m c t h0 h1]
  frame_out
  obtain rfl : y0 = 0 := Fin.ext (by omega)
  refine (dsgB_at m c t _ (fun j l => dvn_read m c _ t _ _ _ _ _ _ _ _ _ _ _ _ _ _ _ _ _ j l) ((outsAt0 m c (t.val - 1) (by omega)).2.2.2.1) y1).trans ?_
  rfl

set_option maxHeartbeats 4000000 in
theorem out13_A (t : Fin cfg0.N) (h0 : t.val % 16 = 0) (h1 : ¬t.val % 16 = 15) (y : S4x128x128.Idx) : (outsAt0 m c t.val t.isLt).2.2.2.2.1 y
    = 0 + gsw m c t.val (y 0) (y 1) (y 2) := by
  idx_vars y
  rw [outsAt0_A m c t h0 h1]
  frame_open
  simp (disch := decide) only [↓ View.readCov_skip, ↓ View.readCov_cons_toLoadRect, ↓ View.readCov_fill]
  frame_out
  refine (canon_heads16 _ (fun h => dswTile m c t (hd3 (k0_pay11 (F := Ideal)) h) h) (fun g a b => (k0_pay11 (F := Ideal)) (ix3 g a b) + gsw m c t.val g a b)
    (fun g a b => by rw [dswTile_at, hd3_at]) _ _ _ _ _ _ _ _ _ _ _ _ _ _ _ _ _ _ _ _ _ _ _ _ _ _ _ _ _).trans ?_
  refine congrArg (· + _) ?_
  pointwise [k0_pay11]

set_option maxHeartbeats 4000000 in
theorem out15_A (t : Fin cfg0.N) (h0 : t.val % 16 = 0) (h1 : ¬t.val % 16 = 15) (y : S128x512.Idx) : (outsAt0 m c t.val t.isLt).2.2.2.2.2.2 y
    = 0 + gdz m c t.val (y 0) (y 1) := by
  idx_vars y
  rw [outsAt0_A m c t h0 h1]
  frame_open
  simp (disch := decide) only [↓ View.readCov_skip, ↓ View.readCov_cons_toLoadRect, ↓ View.readCov_fill]
  frame_out
  refine (canon_chunk16 _ (fun h => dzAll m c t (hd2 (k0_pay12 (F := Ideal)) h) h) (fun s l => (k0_pay12 (F := Ideal)) (ix2 s l) + gdz m c t.val s l)
    (fun g a b => by rw [dzAll_at, hd2_at]) _ _ _ _ _ _ _ _ _ _ _ _ _ _ _ _ _ _ _ _ _ _ _ _ _ _ _ _ _).trans ?_
  refine congrArg (· + _) ?_
  pointwise [k0_pay12]

set_option maxHeartbeats 4000000 in
theorem out13_B (t : Fin cfg0.N) (h0 : ¬t.val % 16 = 0) (h1 : ¬t.val % 16 = 15) (y : S4x128x128.Idx) : (outsAt0 m c t.val t.isLt).2.2.2.2.1 y
    = (outsAt0 m c (t.val - 1) (by omega)).2.2.2.2.1 y + gsw m c t.val (y 0) (y 1) (y 2) := by
  idx_vars y
  rw [outsAt0_B m c t h0 h1]
  frame_open
  simp (disch := decide) only [↓ View.readCov_skip, ↓ View.readCov_cons_toLoadRect, ↓ View.readCov_fill]
  frame_out
  refine (canon_heads16 [] (fun h => dswTile m c t (hd3 (outsAt0 m c (t.val - 1) (by omega)).2.2.2.2.1 h) h) (fun g a b => (outsAt0 m c (t.val - 1) (by omega)).2.2.2.2.1 (ix3 g a b) + gsw m c t.val g a b)
    (fun g a b => by rw [dswTile_at, hd3_at]) _ _ _ _ _ _ _ _ _ _ _ _ _ _ _ _ _ _ _ _ _ _ _ _ _ _ _ _ _).trans ?_
  rfl

end Cert.MixerValue
-- ==== Proof.MixSum.lean ====
/-
  The gradient of the mixers: the arrays of the sums that the kernel keeps.
-/
module

public import proofs.«01_k».proof.Defs
public import proofs.«01_k».proof.Proof.MixAcc
public import Idealize.ShloMosaic.Lib.Pipeline.ReadBack
public import Idealize.ShloMosaic.Lib.WordCmp

@[expose] public section

set_option maxRecDepth 16384

noncomputable section

namespace Cert.MixerValue

open Idealize.ShloMosaic Idealize.ShloMosaic.TcCoe
open Cert.MixerIdeal Cert.MixerIdeal.Gen

variable (m : (ℓ : Loc nD τ sig) → Buf (Elt Ideal) ℓ) (c : Dev nD)

set_option maxHeartbeats 4000000 in
theorem out15_B (t : Fin cfg0.N) (h0 : ¬t.val % 16 = 0) (h1 : ¬t.val % 16 = 15) (y : S128x512.Idx) : (outsAt0 m c t.val t.isLt).2.2.2.2.2.2 y
    = (outsAt0 m c (t.val - 1) (by omega)).2.2.2.2.2.2 y + gdz m c t.val (y 0) (y 1) := by
  idx_vars y
  rw [outsAt0_B m c t h0 h1]
  frame_open
  simp (disch := decide) only [↓ View.readCov_skip, ↓ View.readCov_cons_toLoadRect, ↓ View.readCov_fill]
  frame_out
  simp only [read_unread_whole]
  refine (canon_chunk16 [] (fun h => dzAll m c t (hd2 (outsAt0 m c (t.val - 1) (by omega)).2.2.2.2.2.2 h) h) (fun s l => (outsAt0 m c (t.val - 1) (by omega)).2.2.2.2.2.2 (ix2 s l) + gdz m c t.val s l)
    (fun g a b => by rw [dzAll_at, hd2_at]) _ _ _ _ _ _ _ _ _ _ _ _ _ _ _ _ _ _ _ _ _ _ _ _ _ _ _ _ _).trans ?_
  rfl

/-! ## The last point -/

/-- A head's finished weight gradient, kept on and below the diagonal. -/
def keep (x : Vec Ideal S1x128x128 .f32) : Vec Ideal S1x128x128 .f32 := k0_pay4 k0_pay57 x

theorem keep_at (x : Vec Ideal S1x128x128 .f32) (a b : Fin 128) : keep x (ix3 0 a b) = if b ≤ a then x (ix3 0 a b) else 0 := by
  unfold keep
  have e := mask_at a b
  generalize k0_pay57 = k at e ⊢
  pointwise [k0_pay4]
  rw [e]
  by_cases h : b ≤ a
  · rw [if_pos h, if_pos h]; rfl
  · rw [if_neg h, if_neg h]; rfl

/-- One lane for each head, the sum over that head's lanes. -/
theorem sums_at (z : Fin 4 → Vec Ideal S128x128 .f32) (t h : Fin 128) : k0_pay3 (z 0) (z 1) (z 2) (z 3) (ix2 t h)
    = if hh : h.val < 4 then ∑ a : Fin 128, z ⟨h, hh⟩ (ix2 t a) else 0 := by
  generalize h0 : z 0 = z0
  generalize h1 : z 1 = z1
  generalize h2 : z 2 = z2
  generalize h3 : z 3 = z3
  pointwise [k0_pay3]
  rw [WordCmp.cmpi_eq_ofNat (by omega) (by omega), WordCmp.cmpi_eq_ofNat (by omega) (by omega), WordCmp.cmpi_eq_ofNat (by omega) (by omega), WordCmp.cmpi_eq_ofNat (by omega) (by omega)]
  have sel : ∀ (p : Prop) [Decidable p] (a b : EReal), Scalar.select (BitVec.ofBool (decide p)) a b = if p then a else b := fun p _ a b => by
    by_cases hp : p
    · rw [if_pos hp, decide_eq_true hp]; rfl
    · rw [if_neg hp, decide_eq_false hp]; rfl
  rw [sel, sel, sel, sel]
  subst h0 h1 h2 h3
  by_cases hh : h.val < 4
  · rw [dif_pos hh]
    generalize e : (⟨h.val, hh⟩ : Fin 4) = g
    rw [show h.val = g.val from congrArg Fin.val e]
    fin_cases g <;> rfl
  · rw [dif_neg hh, if_neg (by omega), if_neg (by omega), if_neg (by omega), if_neg (by omega)]

set_option maxHeartbeats 4000000 in
theorem out13_C (t : Fin cfg0.N) (h0 : ¬t.val % 16 = 0) (h1 : t.val % 16 = 15) (y : S4x128x128.Idx) : (outsAt0 m c t.val t.isLt).2.2.2.2.1 y
    = if y 2 ≤ y 1 then (outsAt0 m c (t.val - 1) (by omega)).2.2.2.2.1 y + gsw m c t.val (y 0) (y 1) (y 2) else 0 := by
  idx_vars y
  rw [outsAt0_C m c t h0 h1]
  frame_open
  simp (disch := decide) only [↓ View.readCov_skip, ↓ View.readCov_cons_toLoadRect, ↓ View.readCov_fill]
  frame_out
  refine (canon_heads _ (fun h => keep (dswTile m c t (hd3 (outsAt0 m c (t.val - 1) (by omega)).2.2.2.2.1 h) h))
    (fun g a b => if b ≤ a then (outsAt0 m c (t.val - 1) (by omega)).2.2.2.2.1 (ix3 g a b) + gsw m c t.val g a b else 0)
    (fun g a b => by rw [keep_at, dswTile_at, hd3_at]) _ _ _ _ _).trans ?_
  rfl

set_option maxHeartbeats 4000000 in
theorem out14_C (t : Fin cfg0.N) (h0 : ¬t.val % 16 = 0) (h1 : t.val % 16 = 15) (y : S128x128.Idx) : (outsAt0 m c t.val t.isLt).2.2.2.2.2.1 y
    = if hh : (y 1).val < 4 then ∑ a : Fin 128, ((outsAt0 m c (t.val - 1) (by omega)).2.2.2.2.2.2 (ix2 (y 0) (col ⟨y 1, hh⟩ a)) + gdz m c t.val (y 0) (col ⟨y 1, hh⟩ a)) else 0 := by
  idx_vars y
  rw [outsAt0_C m c t h0 h1]
  frame_open
  simp (disch := decide) only [↓ View.readCov_skip, ↓ View.readCov_cons_toLoadRect, ↓ View.readCov_fill]
  frame_out
  simp only [read_unread_whole]
  refine (sums_at (fun h => dzAll m c t (hd2 (outsAt0 m c (t.val - 1) (by omega)).2.2.2.2.2.2 h) h) y0 y1).trans ?_
  simp only [dzAll_at, hd2_at]
  rfl

/-! ## The arrays -/

/-- The sum over the points' chunks is the sum over all chunks. -/
theorem sum_chunks (f : ℕ → EReal) : (∑ s ∈ Finset.range 16, ∑ k : Fin 4, f (4 * s + k)) = ∑ q : Fin 64, f q := by
  rw [Finset.sum_range]
  exact Fin.sum_mul_add_congr fun s r hl => congrArg f (by show 4 * s.val + r.val = s.val * 4 + r.val; omega)

theorem points : cfg0.N = 16 := N_0

theorem after10 (n : ℕ) (h : n < cfg0.N) (y : S4x128x128.Idx) (hn : n < 16) : (outsAt0 m c n h).2.1 y = ∑ s ∈ Finset.range (n + 1), gpw m c s (y 0) (y 1) (y 2) :=
  sum_points (fun n h (y : S4x128x128.Idx) => (outsAt0 m c n h).2.1 y) (fun n y => gpw m c n (y 0) (y 1) (y 2)) 16 (by decide)
    (fun h y => (out10_A m c ⟨0, h⟩ rfl (by show ¬0 % 16 = 15; decide) y).trans (zero_add _))
    (fun n h y hn => if e : n + 1 = 15 then out10_C m c ⟨n + 1, h⟩ (by show ¬(n + 1) % 16 = 0; omega) (by show (n + 1) % 16 = 15; omega) y
      else out10_B m c ⟨n + 1, h⟩ (by show ¬(n + 1) % 16 = 0; omega) (by show ¬(n + 1) % 16 = 15; omega) y) n h y hn

theorem after11 (n : ℕ) (h : n < cfg0.N) (y : S1x512.Idx) (hn : n < 16) : (outsAt0 m c n h).2.2.1 y = ∑ s ∈ Finset.range (n + 1), gps m c s (y 1) :=
  sum_points (fun n h (y : S1x512.Idx) => (outsAt0 m c n h).2.2.1 y) (fun n y => gps m c n (y 1)) 16 (by decide)
    (fun h y => (out11_A m c ⟨0, h⟩ rfl (by show ¬0 % 16 = 15; decide) y).trans (zero_add _))
    (fun n h y hn => if e : n + 1 = 15 then out11_C m c ⟨n + 1, h⟩ (by show ¬(n + 1) % 16 = 0; omega) (by show (n + 1) % 16 = 15; omega) y
      else out11_B m c ⟨n + 1, h⟩ (by show ¬(n + 1) % 16 = 0; omega) (by show ¬(n + 1) % 16 = 15; omega) y) n h y hn

theorem after12 (n : ℕ) (h : n < cfg0.N) (y : S1x512.Idx) (hn : n < 16) : (outsAt0 m c n h).2.2.2.1 y = ∑ s ∈ Finset.range (n + 1), gsg m c s (y 1) :=
  sum_points (fun n h (y : S1x512.Idx) => (outsAt0 m c n h).2.2.2.1 y) (fun n y => gsg m c n (y 1)) 16 (by decide)
    (fun h y => (out12_A m c ⟨0, h⟩ rfl (by show ¬0 % 16 = 15; decide) y).trans (zero_add _))
    (fun n h y hn => if e : n + 1 = 15 then out12_C m c ⟨n + 1, h⟩ (by show ¬(n + 1) % 16 = 0; omega) (by show (n + 1) % 16 = 15; omega) y
      else out12_B m c ⟨n + 1, h⟩ (by show ¬(n + 1) % 16 = 0; omega) (by show ¬(n + 1) % 16 = 15; omega) y) n h y hn

theorem after13 (n : ℕ) (h : n < cfg0.N) (y : S4x128x128.Idx) (hn : n < 15) : (outsAt0 m c n h).2.2.2.2.1 y = ∑ s ∈ Finset.range (n + 1), gsw m c s (y 0) (y 1) (y 2) :=
  sum_points (fun n h (y : S4x128x128.Idx) => (outsAt0 m c n h).2.2.2.2.1 y) (fun n y => gsw m c n (y 0) (y 1) (y 2)) 15 (by decide)
    (fun h y => (out13_A m c ⟨0, h⟩ rfl (by show ¬0 % 16 = 15; decide) y).trans (zero_add _))
    (fun n h y hn => out13_B m c ⟨n + 1, h⟩ (by show ¬(n + 1) % 16 = 0; omega) (by show ¬(n + 1) % 16 = 15; omega) y) n h y hn

theorem after15 (n : ℕ) (h : n < cfg0.N) (y : S128x512.Idx) (hn : n < 15) : (outsAt0 m c n h).2.2.2.2.2.2 y = ∑ s ∈ Finset.range (n + 1), gdz m c s (y 0) (y 1) :=
  sum_points (fun n h (y : S128x512.Idx) => (outsAt0 m c n h).2.2.2.2.2.2 y) (fun n y => gdz m c n (y 0) (y 1)) 15 (by decide)
    (fun h y => (out15_A m c ⟨0, h⟩ rfl (by show ¬0 % 16 = 15; decide) y).trans (zero_add _))
    (fun n h y hn => out15_B m c ⟨n + 1, h⟩ (by show ¬(n + 1) % 16 = 0; omega) (by show ¬(n + 1) % 16 = 15; omega) y) n h y hn

theorem fin10 (t : Fin cfg0.N) (ht : t.val = 15) (y : S4x128x128.Idx) : (outsAt0 m c t.val t.isLt).2.1 y = dpw (aX m c) (aD m c) (aS m c) (y 0) (y 1) (y 2) := by
  rw [after10 m c t.val t.isLt y (by omega), show t.val + 1 = 16 by omega]
  exact sum_blocks (fun r => devs (fP (aX m c)) (col (y 0) (y 1)) r * ys (fQ (aD m c)) (fS (aS m c)) (col (y 0) (y 2)) r)

theorem fin11 (t : Fin cfg0.N) (ht : t.val = 15) (y : S1x512.Idx) : (outsAt0 m c t.val t.isLt).2.2.1 y = dps (aX m c) (aD m c) (aW m c) (y 1) := by
  rw [after11 m c t.val t.isLt y (by omega), show t.val + 1 = 16 by omega]
  exact sum_blocks (fun r => fQ (aD m c) (y 1) r * pre (fP (aX m c)) (fW (aW m c)) (y 1) r)

theorem fin12 (t : Fin cfg0.N) (ht : t.val = 15) (y : S1x512.Idx) : (outsAt0 m c t.val t.isLt).2.2.2.1 y = dsg (aX m c) (aD m c) (aM m c) (y 1) := by
  rw [after12 m c t.val t.isLt y (by omega), show t.val + 1 = 16 by omega]
  exact sum_blocks (fun r => dvnRow (fU (aX m c)) (fD (aD m c)) (fW (aM m c)) r (y 1) * Gate.hat (act (fV (aX m c)) r) (y 1))

theorem fin13 (t : Fin cfg0.N) (ht : t.val = 15) (y : S4x128x128.Idx) : (outsAt0 m c t.val t.isLt).2.2.2.2.1 y = dsw (aX m c) (aD m c) (aG m c) (y 0) (y 1) (y 2) := by
  idx_vars y
  refine (out13_C m c t (by omega) (by omega) (ix3 y0 y1 y2)).trans ?_
  rw [after13 m c (t.val - 1) (by omega) (ix3 y0 y1 y2) (by omega)]
  show (if y2 ≤ y1 then (∑ s ∈ Finset.range (t.val - 1 + 1), gsw m c s y0 y1 y2) + gsw m c t.val y0 y1 y2 else 0) = dsw (aX m c) (aD m c) (aG m c) y0 y1 y2
  unfold dsw
  by_cases hm : y2 ≤ y1
  · rw [if_pos hm, if_pos hm, show t.val - 1 + 1 = 15 by omega, ht, ← Finset.sum_range_succ (fun n => gsw m c n y0 y1 y2)]
    exact sum_chunks (fun q => dws (fU (aX m c)) (fV (aX m c)) (fD (aD m c)) (fS (aG m c)) y0 y1 y2 q)
  · rw [if_neg hm, if_neg hm]

theorem fin14 (t : Fin cfg0.N) (ht : t.val = 15) (y : S128x128.Idx) : (outsAt0 m c t.val t.isLt).2.2.2.2.2.1 y = dsb (aX m c) (aD m c) (y 0) (y 1) := by
  rw [out14_C m c t (by omega) (by omega) y]
  unfold dsb
  by_cases hm : (y 1).val < 4
  · rw [dif_pos hm, dif_pos hm]
    refine Finset.sum_congr rfl fun a _ => ?_
    rw [after15 m c (t.val - 1) (by omega) _ (by omega), show t.val - 1 + 1 = 15 by omega, ht]
    exact (Finset.sum_range_succ (fun s => gdz m c s (y 0) (col ⟨y 1, hm⟩ a)) 15).symm.trans (sum_chunks (fun q => dzs (fU (aX m c)) (fD (aD m c)) (128 * q + (y 0).val) (col ⟨y 1, hm⟩ a)))
  · rw [dif_neg hm, dif_neg hm]

theorem arr10 (R : FVec Ideal S4x128x128 .f32) (hR : ∀ g a b, R (ix3 g a b) = dpw (aX m c) (aD m c) (aS m c) g a b) : (dats m 0 c).arrAt 10 cfg0.N = R := by
  refine (dats m 0 c).arrAt_eq_of_covers 10 _ (by decide +kernel) fun t hf y => ?_
  blk_simp
  rw [after0_10]
  have hN := lt_of_lt_of_eq t.isLt N_0
  have ht : t.val % 16 = 15 := (flush0_10 t).mp hf
  have e := fin10 m c t (by omega) y
  idx_vars y
  refine e.trans ((hR _ _ _).symm.trans ?_)
  blk_ext [idx t, row]

theorem arr11 (R : FVec Ideal S1x512 .f32) (hR : ∀ l, R (ix2 0 l) = dps (aX m c) (aD m c) (aW m c) l) : (dats m 0 c).arrAt 11 cfg0.N = R := by
  refine (dats m 0 c).arrAt_eq_of_covers 11 _ (by decide +kernel) fun t hf y => ?_
  blk_simp
  rw [after0_11]
  have hN := lt_of_lt_of_eq t.isLt N_0
  have ht : t.val % 16 = 15 := (flush0_11 t).mp hf
  have e := fin11 m c t (by omega) y
  idx_vars y
  refine e.trans ((hR _).symm.trans ?_)
  blk_ext [idx t, row]

theorem arr12 (R : FVec Ideal S1x512 .f32) (hR : ∀ l, R (ix2 0 l) = dsg (aX m c) (aD m c) (aM m c) l) : (dats m 0 c).arrAt 12 cfg0.N = R := by
  refine (dats m 0 c).arrAt_eq_of_covers 12 _ (by decide +kernel) fun t hf y => ?_
  blk_simp
  rw [after0_12]
  have hN := lt_of_lt_of_eq t.isLt N_0
  have ht : t.val % 16 = 15 := (flush0_12 t).mp hf
  have e := fin12 m c t (by omega) y
  idx_vars y
  refine e.trans ((hR _).symm.trans ?_)
  blk_ext [idx t, row]

theorem arr13 (R : FVec Ideal S4x128x128 .f32) (hR : ∀ g a b, R (ix3 g a b) = dsw (aX m c) (aD m c) (aG m c) g a b) : (dats m 0 c).arrAt 13 cfg0.N = R := by
  refine (dats m 0 c).arrAt_eq_of_covers 13 _ (by decide +kernel) fun t hf y => ?_
  blk_simp
  rw [after0_13]
  have hN := lt_of_lt_of_eq t.isLt N_0
  have ht : t.val % 16 = 15 := (flush0_13 t).mp hf
  have e := fin13 m c t (by omega) y
  idx_vars y
  refine e.trans ((hR _ _ _).symm.trans ?_)
  blk_ext [idx t, row]

theorem arr14 (R : FVec Ideal S128x128 .f32) (hR : ∀ t h, R (ix2 t h) = dsb (aX m c) (aD m c) t h) : (dats m 0 c).arrAt 14 cfg0.N = R := by
  refine (dats m 0 c).arrAt_eq_of_covers 14 _ (by decide +kernel) fun t hf y => ?_
  blk_simp
  rw [after0_14]
  have hN := lt_of_lt_of_eq t.isLt N_0
  have ht : t.val % 16 = 15 := (flush0_14 t).mp hf
  have e := fin14 m c t (by omega) y
  idx_vars y
  refine e.trans ((hR _ _).symm.trans ?_)
  blk_ext [idx t, row]

end Cert.MixerValue

end
-- ==== Proof.MixReal.lean ====
/-
  The mixers' gradients at real arguments: every value on the way is a real number.
-/
module

public import proofs.«01_k».proof.Defs
public import proofs.«01_k».proof.Proof.MixSpec

@[expose] public section

set_option maxRecDepth 16384

noncomputable section

namespace Cert.MixerValue

open Idealize.ShloMosaic

/-- A real number. -/
def IsR (x : EReal) : Prop := ∃ r : ℝ, x = r

theorem IsR.coe (r : ℝ) : IsR (r : EReal) := ⟨r, rfl⟩

theorem IsR.zero : IsR 0 := ⟨0, EReal.coe_zero.symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.lift {ι : Type} {f : ι → EReal} (h : ∀ i, IsR (f i)) : ∃ g : ι → ℝ, f = fun i => (g i : EReal) := by
  choose g hg using h
  exact ⟨g, funext hg⟩

theorem IsR.sum {ι : Type} [Fintype ι] {f : ι → EReal} (h : ∀ i, IsR (f i)) : IsR (∑ i, f i) := by
  obtain ⟨g, rfl⟩ := IsR.lift h
  exact ⟨_, Reals.coe_sum _ g⟩

theorem IsR.ite {p : Prop} [Decidable p] {x y : EReal} (hx : IsR x) (hy : IsR y) : IsR (if p then x else y) := by
  by_cases h : p
  · rwa [if_pos h]
  · rwa [if_neg h]

theorem IsR.ext {n : ℕ} {x : Fin n → EReal} (h : ∀ i, IsR (x i)) (r : ℕ) : IsR (Pool.ext x r) := by
  unfold Pool.ext
  by_cases hr : r < n
  · rw [dif_pos hr]; exact h _
  · rw [dif_neg hr]; exact IsR.zero

theorem IsR.gelu {x : EReal} (hx : IsR x) : IsR (Gate.gelu x) := by
  obtain ⟨a, rfl⟩ := hx
  obtain ⟨g, h, _⟩ := Gate.gelu_eq a
  exact ⟨g, h⟩

/-- The two forms of gelu agree at a real number. -/
theorem gelu_ref {x : EReal} (hx : IsR x) : Gate.geluRef x = Gate.gelu x := by
  obtain ⟨a, rfl⟩ := hx
  obtain ⟨g, h, h'⟩ := Gate.gelu_eq a
  exact h'.trans h.symm

/-- The two forms of gelu's gradient agree at real numbers. -/
theorem slope_ref {x d : EReal} (hx : IsR x) (hd : IsR d) : Gate.slopeChain x d = d * Gate.slope x := by
  obtain ⟨a, rfl⟩ := hx
  obtain ⟨b, rfl⟩ := hd
  exact (Gate.slope_eq a b).symm

theorem IsR.hat {v : Fin 512 → EReal} (hv : ∀ k, IsR (v k)) (l : Fin 512) : IsR (Gate.hat v l) := by
  obtain ⟨w, rfl⟩ := IsR.lift hv
  exact ⟨_, Gate.hat_coe w l⟩

/-- The two forms of the normalised row's gradient agree at real rows. -/
theorem dv_ref {v a : Fin 512 → EReal} (hv : ∀ k, IsR (v k)) (ha : ∀ k, IsR (a k)) (l : Fin 512) : Gate.dvChain v a l = Gate.dv v a l := by
  obtain ⟨w, rfl⟩ := IsR.lift hv
  obtain ⟨b, rfl⟩ := IsR.lift ha
  exact (Gate.dvChain_coe w b l).trans (Gate.dv_coe w b l).symm

theorem IsR.dv {v a : Fin 512 → EReal} (hv : ∀ k, IsR (v k)) (ha : ∀ k, IsR (a k)) (l : Fin 512) : IsR (Gate.dv v a l) := by
  obtain ⟨w, rfl⟩ := IsR.lift hv
  obtain ⟨b, rfl⟩ := IsR.lift ha
  exact ⟨_, Gate.dv_coe w b l⟩

variable {U V D : ℕ → Fin 512 → EReal} {G : Fin 512 → EReal} {W : Fin 4 → Fin 128 → Fin 128 → EReal} {B : Fin 128 → Fin 512 → EReal}
  (hU : ∀ r l, IsR (U r l)) (hV : ∀ r l, IsR (V r l)) (hD : ∀ r l, IsR (D r l)) (hG : ∀ l, IsR (G l)) (hW : ∀ g a b, IsR (W g a b)) (hB : ∀ t l, IsR (B t l))

include hV in
theorem act_real (r : ℕ) (l : Fin 512) : IsR (act V r l) := (hV r l).gelu

include hV hG in
theorem vns_real (r : ℕ) (l : Fin 512) : IsR (vns V G r l) := (IsR.hat (act_real hV r) l).mul (hG l)

include hW in
theorem low_real (h : Fin 4) (t s : Fin 128) : IsR (low W h t s) := (hW h t s).ite IsR.zero

include hV hG hW hB in
theorem zs_real (q : ℕ) (t : Fin 128) (l : Fin 512) : IsR (zs V G W B q t l) :=
  (IsR.sum fun _ => (low_real hW _ _ _).mul (vns_real hV hG _ _)).add (hB _ _)

include hU hD in
theorem dzs_real (r : ℕ) (l : Fin 512) : IsR (dzs U D r l) := (hD r l).mul (act_real hU r l)

include hU hD hW in
theorem dvnRow_real (r : ℕ) (l : Fin 512) : IsR (dvnRow U D W r l) := by
  unfold dvnRow dvns
  exact IsR.sum fun _ => (low_real hW _ _ _).mul (dzs_real hU hD _ _)

variable {P Q : Fin 512 → ℕ → EReal} {ps : Fin 512 → EReal} (hQ : ∀ l r, IsR (Q l r)) (hs : ∀ l, IsR (ps l))

include hQ hs hW in
theorem dd_real (l : Fin 512) (r : ℕ) : IsR (dd Q ps W l r) := IsR.sum fun _ => ((hQ _ _).mul (hs _)).mul (hW _ _ _)

end Cert.MixerValue

end
-- ==== Proof.MixRefGate.lean ====
/-
  The reference of the mixers' gradient, stage by stage: gelu, the normalised rows, the mixed rows, and their gradients.
-/
module

public import proofs.«01_k».proof.Defs
public import proofs.«01_k».proof.Proof.Gen.MixerRefIdeal.Run
public import proofs.«01_k».proof.Proof.Gen.MixerRefIdeal.Read
public import proofs.«01_k».proof.Proof.MixReal
public import Idealize.ShloMosaic.Lib.Pipeline.ValueKit
public import Idealize.ShloMosaic.Lib.WordCmp

@[expose] public section

set_option maxRecDepth 16384

noncomputable section

namespace Cert.MixerValue

open Idealize.ShloMosaic Idealize.ShloMosaic.TcCoe
open MixerRefIdeal MixerRefIdeal.Gen MixerRefIdeal.Read

variable (X : FVec Ideal S8192x1536 .f32) (D : FVec Ideal S8192x1024 .f32) (W : FVec Ideal S4x128x128 .f32)
  (S : FVec Ideal S512 .f32) (G : FVec Ideal S512 .f32) (M : FVec Ideal S4x128x128 .f32) (B : FVec Ideal S4x128 .f32)

theorem fU_at (r : Fin 8192) (l : Fin 512) : fU X r l = X (ix2 r ⟨512 + l, by omega⟩) := Pool.ext_of_lt _ r

theorem fV_at (r : Fin 8192) (l : Fin 512) : fV X r l = X (ix2 r ⟨1024 + l, by omega⟩) := Pool.ext_of_lt _ r

theorem fD_at (r : Fin 8192) (l : Fin 512) : fD D r l = D (ix2 r ⟨512 + l, by omega⟩) := Pool.ext_of_lt _ r

/-- The gated lanes. -/
theorem ref_x (r : Fin 8192) (l : Fin 1024) : val_main_v2 (F := Ideal) X (ix3 0 r l) = X (ix2 r ⟨512 + l, by omega⟩) := by
  unfold val_main_v2 val_main_v0
  pointwise

/-- The complementary error function's argument. -/
theorem ref_arg (r : Fin 8192) (l : Fin 1024) : val_main_v8 (F := Ideal) X (ix3 0 r l) = Gate.arg (X (ix2 r ⟨512 + l, by omega⟩)) := by
  unfold val_main_v8 val_main_v7 val_main_v6 val_main_v5 val_main_cst_0
  rw [← ref_x X r l]
  generalize val_main_v2 (F := Ideal) X = y
  pointwise
  rfl

theorem ref_erfc (r : Fin 8192) (l : Fin 1024) : val_main_v9 (F := Ideal) X (ix3 0 r l) = Ideal.erfc (Gate.arg (X (ix2 r ⟨512 + l, by omega⟩))) := by
  unfold val_main_v9
  rw [← ref_arg]
  generalize val_main_v8 (F := Ideal) X = y
  pointwise

theorem ref_halfx (r : Fin 8192) (l : Fin 1024) : val_main_v4 (F := Ideal) X (ix3 0 r l) = Gate.half * X (ix2 r ⟨512 + l, by omega⟩) := by
  unfold val_main_v4 val_main_v3 val_main_cst
  rw [← ref_x X r l]
  generalize val_main_v2 (F := Ideal) X = y
  pointwise

theorem ref_bell (r : Fin 8192) (l : Fin 1024) : val_main_v12 (F := Ideal) X (ix3 0 r l)
    = Ideal.exp (-(Gate.arg (X (ix2 r ⟨512 + l, by omega⟩)) * Gate.arg (X (ix2 r ⟨512 + l, by omega⟩)))) := by
  unfold val_main_v12 val_main_v11 val_main_v10
  rw [← ref_arg]
  generalize val_main_v8 (F := Ideal) X = y
  pointwise

/-- gelu. -/
theorem ref_gelu (r : Fin 8192) (l : Fin 1024) : val_main_v13 (F := Ideal) X (ix3 0 r l) = Gate.geluRef (X (ix2 r ⟨512 + l, by omega⟩)) := by
  rw [Gate.geluRef, ← ref_halfx, ← ref_erfc]
  unfold val_main_v13
  generalize val_main_v4 (F := Ideal) X = y
  generalize val_main_v9 (F := Ideal) X = z
  pointwise

section Real

variable (hX : ∀ i, IsR (X i))

include hX in
theorem ref_u (r : Fin 8192) (l : Fin 512) : val_main_v14 (F := Ideal) X (ix3 0 r l) = act (fU X) r l := by
  have e := ref_gelu X r ⟨l, by omega⟩
  unfold act
  rw [fU_at, ← gelu_ref (hX _)]
  refine Eq.trans ?_ e
  unfold val_main_v14
  generalize val_main_v13 (F := Ideal) X = y
  pointwise

include hX in
theorem ref_v (r : Fin 8192) (l : Fin 512) : val_main_v15 (F := Ideal) X (ix3 0 r l) = act (fV X) r l := by
  have e := ref_gelu X r ⟨512 + l, by omega⟩
  unfold act
  rw [fV_at, ← gelu_ref (hX _), show (⟨1024 + l.val, by omega⟩ : Fin 1536) = ⟨512 + (512 + l.val), by omega⟩ from Fin.ext (by show 1024 + l.val = 512 + (512 + l.val); omega)]
  refine Eq.trans ?_ e
  unfold val_main_v15
  generalize val_main_v13 (F := Ideal) X = y
  pointwise

include hX in
theorem ref_mean (r : Fin 8192) : val_main_v103 (F := Ideal) X (ix3 0 r 0) = Gate.mean (act (fV X) r) := by
  unfold Gate.mean
  simp only [← ref_v X hX]
  unfold val_main_v103 val_main_v102 val_main_v101 val_main_v100 val_main_cst_18 val_main_cst_19
  generalize val_main_v15 (F := Ideal) X = y
  pointwise

include hX in
theorem ref_cen (r : Fin 8192) (l : Fin 512) : val_main_v105 (F := Ideal) X (ix3 0 r l) = Gate.cen (act (fV X) r) l := by
  rw [Gate.cen, ← ref_mean X hX, ← ref_v X hX]
  unfold val_main_v105 val_main_v104
  generalize val_main_v15 (F := Ideal) X = y
  generalize val_main_v103 (F := Ideal) X = z
  pointwise

include hX in
theorem ref_var (r : Fin 8192) : val_main_v112 (F := Ideal) X (ix3 0 r 0) = Gate.var (act (fV X) r) := by
  unfold Gate.var Gate.mean
  simp only [← ref_cen X hX]
  unfold val_main_v112 val_main_v111 val_main_v110 val_main_v109 val_main_v108 val_main_v107 val_main_v106 val_main_cst_20 val_main_cst_21 val_main_cst_22
  generalize val_main_v105 (F := Ideal) X = y
  pointwise

include hX in
theorem ref_rstd (r : Fin 8192) : val_main_v113 (F := Ideal) X (ix3 0 r 0) = Gate.rstd (act (fV X) r) := by
  rw [Gate.rstd, ← ref_var X hX]
  unfold val_main_v113
  generalize val_main_v112 (F := Ideal) X = y
  pointwise

include hX in
theorem ref_slope (r : Fin 8192) : val_main_v116 (F := Ideal) X (ix3 0 r 0)
    = Ideal.ofBits .f32 0xBF000000#32 * Ideal.div (Gate.rstd (act (fV X) r)) (Gate.var (act (fV X) r)) := by
  rw [← ref_rstd X hX, ← ref_var X hX]
  unfold val_main_v116 val_main_v115 val_main_v114 val_main_cst_23
  generalize val_main_v113 (F := Ideal) X = y
  generalize val_main_v112 (F := Ideal) X = z
  pointwise

include hX in
theorem ref_hat (r : Fin 8192) (l : Fin 512) : val_main_v118 (F := Ideal) X (ix3 0 r l) = Gate.hat (act (fV X) r) l := by
  rw [Gate.hat, ← ref_rstd X hX, ← ref_cen X hX]
  unfold val_main_v118 val_main_v117
  generalize val_main_v113 (F := Ideal) X = y
  generalize val_main_v105 (F := Ideal) X = z
  pointwise

include hX in
theorem ref_vn (r : Fin 8192) (l : Fin 512) : val_main_v121 (F := Ideal) X G (ix3 0 r l) = vns (fV X) (fS G) r l := by
  rw [vns, ← ref_hat X hX]
  unfold val_main_v121 val_main_v120 val_main_v119 fS
  generalize val_main_v118 (F := Ideal) X = y
  pointwise

/-- A chunk's row. -/
def chunkRow (q : Fin 64) (t : Fin 128) : Fin 8192 := ⟨128 * q + t, by omega⟩

include hX in
theorem ref_vnc (q : Fin 64) (t : Fin 128) (h : Fin 4) (a : Fin 128) : val_main_v122 (F := Ideal) X G (ix5 0 q t h a) = vns (fV X) (fS G) (128 * q + t) (col h a) := by
  refine Eq.trans ?_ (ref_vn X G hX (chunkRow q t) (col h a))
  unfold val_main_v122
  generalize val_main_v121 (F := Ideal) X G = y
  pointwise
  blk_ext [chunkRow, col]

/-- The lower triangle. -/
theorem ref_tri (t s : Fin 128) : val_main_v124 (F := Ideal) (ix2 t s) = if s ≤ t then 1#1 else 0#1 := by
  unfold val_main_v124 val_main_call1_v4 val_main_call1_v3 val_main_call1_v2 val_main_call1_v1 val_main_call1_v0 val_main_call1_c val_main_v123 val_main_c_24 val_main_call1_v5 val_main_call1_c_0
  pointwise
  rw [show IntOp.addi (BitVec.ofNat 32 t.val) 0#32 = BitVec.ofNat 32 t.val from BitVec.add_zero _, WordCmp.cmpi_sge_ofNat (by omega) (by omega)]
  by_cases h : s ≤ t
  · rw [if_pos h, decide_eq_true (Fin.le_def.1 h)]; rfl
  · rw [if_neg h, decide_eq_false (fun e => h (Fin.le_def.2 e))]; rfl

theorem ref_low (h : Fin 4) (t s : Fin 128) : val_main_v127_0 (F := Ideal) M (ix3 h t s) = low (fW M) h t s := by
  have e := ref_tri t s
  unfold val_main_v127_0 val_main_v127_1 val_main_v126 val_main_v125 val_main_cst_25 low fW
  generalize val_main_v124 (F := Ideal) = y at e ⊢
  pointwise
  rw [e]
  by_cases hh : s ≤ t
  · rw [if_pos hh, if_pos hh]; rfl
  · rw [if_neg hh, if_neg hh]; rfl

include hX in
theorem ref_zc (q : Fin 64) (t : Fin 128) (h : Fin 4) (a : Fin 128) : val_main_v134 (F := Ideal) X G M B (ix5 0 q t h a)
    = zs (fV X) (fS G) (fW M) (fB B) q t (col h a) := by
  unfold zs fB
  simp only [grp_col, ← ref_low, ← ref_vnc X G hX]
  unfold val_main_v134 val_main_v133 val_main_v132 val_main_v131 val_main_v130 val_main_v129 val_main_v128
  generalize val_main_v122 (F := Ideal) X G = y
  generalize val_main_v127_0 (F := Ideal) M = z
  pointwise
  simp only [mul_comm]

include hX in
theorem ref_z (r : Fin 8192) (l : Fin 512) : val_main_v135 (F := Ideal) X G M B (ix3 0 r l)
    = zs (fV X) (fS G) (fW M) (fB B) (r / 128) ⟨r % 128, Nat.mod_lt _ (by decide)⟩ l := by
  refine Eq.trans ?_ ((ref_zc X G M B hX ⟨r / 128, by omega⟩ ⟨r % 128, Nat.mod_lt _ (by decide)⟩ (grp l) (sub l)).trans ?_)
  · unfold val_main_v135
    generalize val_main_v134 (F := Ideal) X G M B = y
    pointwise
    blk_ext [grp, sub]
  · rw [col_sub]

end Real

theorem ref_dy (r : Fin 8192) (l : Fin 512) : val_main_v141 (F := Ideal) D (ix3 0 r l) = fD D r l := by
  rw [fD_at]
  unfold val_main_v141 val_main_v139
  pointwise

section Back

variable (hX : ∀ i, IsR (X i))

include hX in
theorem ref_dz (r : Fin 8192) (l : Fin 512) : val_main_v142 (F := Ideal) X D (ix3 0 r l) = dzs (fU X) (fD D) r l := by
  rw [dzs, ← ref_dy, ← ref_u X hX, mul_comm]
  unfold val_main_v142
  generalize val_main_v14 (F := Ideal) X = y
  generalize val_main_v141 (F := Ideal) D = z
  pointwise

include hX in
theorem ref_dzc (q : Fin 64) (t : Fin 128) (h : Fin 4) (a : Fin 128) : val_main_v144 (F := Ideal) X D (ix5 0 q t h a) = dzs (fU X) (fD D) (128 * q + t) (col h a) := by
  refine Eq.trans ?_ (ref_dz X D hX (chunkRow q t) (col h a))
  unfold val_main_v144
  generalize val_main_v142 (F := Ideal) X D = y
  pointwise
  blk_ext [chunkRow, col]

include hX in
theorem ref_dzt (h : Fin 4) (q : Fin 64) (a t : Fin 128) : val_main_v151 (F := Ideal) X D (ix5 h 0 q a t) = dzs (fU X) (fD D) (128 * q + t) (col h a) := by
  refine Eq.trans ?_ (ref_dzc X D hX q t h a)
  unfold val_main_v151
  generalize val_main_v144 (F := Ideal) X D = y
  pointwise

include hX in
theorem ref_dvnc (q : Fin 64) (s : Fin 128) (h : Fin 4) (a : Fin 128) : val_main_v154 (F := Ideal) X D M (ix5 0 q s h a)
    = dvns (fU X) (fD D) (fW M) q s (col h a) := by
  unfold dvns
  simp only [grp_col, ← ref_low, ← ref_dzt X D hX]
  unfold val_main_v154 val_main_v153
  generalize val_main_v151 (F := Ideal) X D = y
  generalize val_main_v127_0 (F := Ideal) M = z
  pointwise
  simp only [mul_comm]

include hX in
theorem ref_dvn (r : Fin 8192) (l : Fin 512) : val_main_v156 (F := Ideal) X D M (ix3 0 r l) = dvnRow (fU X) (fD D) (fW M) r l := by
  refine Eq.trans ?_ ((ref_dvnc X D M hX ⟨r / 128, by omega⟩ ⟨r % 128, Nat.mod_lt _ (by decide)⟩ (grp l) (sub l)).trans ?_)
  · unfold val_main_v156
    generalize val_main_v154 (F := Ideal) X D M = y
    pointwise
    blk_ext [grp, sub]
  · rw [col_sub]; rfl

include hX in
theorem ref_a (r : Fin 8192) (l : Fin 512) : val_main_v161 (F := Ideal) X D G M (ix3 0 r l) = dvnRow (fU X) (fD D) (fW M) r l * fS G l := by
  rw [← ref_dvn X D M hX]
  unfold val_main_v161 val_main_v160 val_main_v119 fS
  generalize val_main_v156 (F := Ideal) X D M = y
  pointwise

/-- A sum over an axis of one entry. -/
theorem sum_unit {s t : Shape} {axes : List (Fin s.rank)} (h : s.ReducesTo axes t) (x : s.Idx → EReal) (init : EReal) (j : t.Idx) (i0 : s.Idx)
    (h0 : ∀ i, h.drop i = j ↔ i = i0) : Ideal.hostReduceAdd h x init j = init + x i0 := by
  unfold Ideal.hostReduceAdd
  simp only [h0]
  rw [Finset.filter_eq' Finset.univ i0, if_pos (Finset.mem_univ _), Finset.sum_singleton]

theorem drop_row (r : Fin 8192) (i : S1x8192x1.Idx) : reducesTo_S1x8192x1_S8192_d0_2.drop i = ix1 r ↔ i = ix3 0 r 0 := by
  idx_vars i
  have e : reducesTo_S1x8192x1_S8192_d0_2.drop (ix3 i0 i1 i2) = ix1 i1 := by funext b; fin_cases b; rfl
  rw [e]
  constructor
  · intro h
    rw [show i1 = r from congrFun h 0, Subsingleton.elim i0 0, Subsingleton.elim i2 0]
  · intro h
    rw [show i1 = r from congrFun h 1]

theorem drop_lane (l : Fin 512) (i : S1x1x512.Idx) : reducesTo_S1x1x512_S512_d0_1.drop i = ix1 l ↔ i = ix3 0 0 l := by
  idx_vars i
  have e : reducesTo_S1x1x512_S512_d0_1.drop (ix3 i0 i1 i2) = ix1 i2 := by funext b; fin_cases b; rfl
  rw [e]
  constructor
  · intro h
    rw [show i2 = l from congrFun h 0, Subsingleton.elim i0 0, Subsingleton.elim i1 0]
  · intro h
    rw [show i2 = l from congrFun h 2]

theorem drop_bias (t : Fin 128) (h : Fin 4) (i : S1x1x128x4x1.Idx) : reducesTo_S1x1x128x4x1_S128x4_d0_1_4.drop i = ix2 t h ↔ i = ix5 0 0 t h 0 := by
  idx_vars i
  have e : reducesTo_S1x1x128x4x1_S128x4_d0_1_4.drop (ix5 i0 i1 i2 i3 i4) = ix2 i2 i3 := by funext b; fin_cases b <;> rfl
  rw [e]
  constructor
  · intro g
    rw [show i2 = t from congrFun g 0, show i3 = h from congrFun g 1, Subsingleton.elim i0 0, Subsingleton.elim i1 0, Subsingleton.elim i4 0]
  · intro g
    rw [show i2 = t from congrFun g 2, show i3 = h from congrFun g 3]

/-- The sum over the chunks and a head's lanes. -/
theorem sum_bias (y : S1x64x128x4x128.Idx → EReal) (z : EReal) (t : Fin 128) (h : Fin 4) (hz : z = 0) :
    Ideal.hostReduceAdd reducesTo_S1x64x128x4x128_S1x128x4_d1_4 y z (ix3 0 t h) = ∑ a : Fin 128, ∑ q : Fin 64, y (ix5 0 q t h a) := by
  unfold Ideal.hostReduceAdd
  rw [hz, zero_add, ← Fintype.sum_prod_type' (fun (a : Fin 128) (q : Fin 64) => y (ix5 0 q t h a))]
  refine Finset.sum_nbij' (fun i => (i 4, i 1)) (fun p => ix5 0 p.2 t h p.1) (fun i _ => Finset.mem_univ _) (fun p _ => ?_) (fun i hi => ?_) (fun p _ => rfl) (fun i hi => ?_)
  · refine Finset.mem_filter.2 ⟨Finset.mem_univ _, ?_⟩
    funext b; fin_cases b <;> rfl
  all_goals
    have e := (Finset.mem_filter.1 hi).2
    idx_vars i
    have e' : reducesTo_S1x64x128x4x128_S1x128x4_d1_4.drop (ix5 i0 i1 i2 i3 i4) = ix3 i0 i2 i3 := by funext b; fin_cases b <;> rfl
    rw [e'] at e
    rw [show i2 = t from congrFun e 1, show i3 = h from congrFun e 2, Subsingleton.elim i0 0]

/-- The contracted axes of the product below: the leading unit axis, the chunks and a head's lanes. -/
abbrev chunkDims := dot_S4x1x64x128x128_S1x64x128x4x128_S4x128x128_123_014_4_2_0_3

theorem contr_rank : chunkDims.contr.rank = 3 := rfl
theorem contr_size0 : chunkDims.contr.size ⟨0, by decide⟩ = 1 := rfl
theorem contr_size1 : chunkDims.contr.size ⟨1, by decide⟩ = 64 := rfl
theorem contr_size2 : chunkDims.contr.size ⟨2, by decide⟩ = 128 := rfl

/-- A contraction index is a chunk and a lane. -/
def chunkLane : Fin 64 × Fin 128 ≃ chunkDims.contr.Idx where
  toFun p := fun b => match b with
    | ⟨0, _⟩ => Fin.cast contr_size0.symm 0
    | ⟨1, _⟩ => Fin.cast contr_size1.symm p.1
    | ⟨2, _⟩ => Fin.cast contr_size2.symm p.2
  invFun k := (Fin.cast contr_size1 (k ⟨1, by decide⟩), Fin.cast contr_size2 (k ⟨2, by decide⟩))
  left_inv p := rfl
  right_inv k := by
    funext b
    match b with
    | ⟨0, h⟩ =>
      refine Fin.ext ?_
      have e := (Fin.cast contr_size0 (k ⟨0, h⟩)).isLt
      show 0 = (Fin.cast contr_size0 (k ⟨0, h⟩)).val
      omega
    | ⟨1, _⟩ => rfl
    | ⟨2, _⟩ => rfl

/-- The product summed over the chunks and a head's lanes. -/
theorem dot_chunks (y : FVec Ideal S4x1x64x128x128 .f32) (z : FVec Ideal S1x64x128x4x128 .f32) (h : Fin 4) (t s : Fin 128) :
    Host.dotGeneral dot_S4x1x64x128x128_S1x64x128x4x128_S4x128x128_123_014_4_2_0_3 none y z (ix3 h t s)
      = ∑ q : Fin 64, ∑ a : Fin 128, y (ix5 h 0 q a t) * z (ix5 0 q s h a) := by
  rw [← Fintype.sum_prod_type' (fun (q : Fin 64) (a : Fin 128) => y (ix5 h 0 q a t) * z (ix5 0 q s h a))]
  refine (Ideal.dotGeneral_apply chunkDims none _ y z (ix3 h t s)).trans ?_
  refine (Equiv.sum_comp chunkLane _).symm.trans
    (Finset.sum_congr rfl fun k _ => congrArg₂ (· * ·) (congrArg y (funext fun b => ?_)) (congrArg z (funext fun b => ?_)))
  · fin_cases b <;> rfl
  · fin_cases b <;> rfl

include hX in
theorem ref_dsq (r : Fin 8192) : val_main_v171 (F := Ideal) X D G M (ix1 r) = Gate.dsq (act (fV X) r) (fun l => dvnRow (fU X) (fD D) (fW M) r l * fS G l) := by
  unfold Gate.dsq
  simp only [← ref_a X D G M hX, ← ref_cen X hX, ← ref_slope X hX]
  unfold val_main_v171 val_main_v170 val_main_v169 val_main_v168 val_main_v165 val_main_v164 val_main_v163 val_main_cst_31 val_main_cst_32 val_main_cst_33
  generalize val_main_v161 (F := Ideal) X D G M = y
  generalize val_main_v105 (F := Ideal) X = z
  generalize val_main_v116 (F := Ideal) X = w
  refine (sum_unit reducesTo_S1x8192x1_S8192_d0_2 _ _ _ _ (drop_row r)).trans ?_
  pointwise

include hX in
theorem ref_dcen (r : Fin 8192) (l : Fin 512) : val_main_v177 (F := Ideal) X D G M (ix3 0 r l) = Gate.dcen (act (fV X) r) (fun l => dvnRow (fU X) (fD D) (fW M) r l * fS G l) l := by
  unfold Gate.dcen
  simp only [← ref_dsq X D G M hX, ← ref_cen X hX, ← ref_rstd X hX]
  simp only [← ref_a X D G M hX]
  unfold val_main_v177 val_main_v176 val_main_v175 val_main_v174 val_main_v173 val_main_v172 val_main_v167 val_main_v166
  generalize val_main_v161 (F := Ideal) X D G M = y
  generalize val_main_v171 (F := Ideal) X D G M = x
  generalize val_main_v105 (F := Ideal) X = z
  generalize val_main_v113 (F := Ideal) X = w
  pointwise

include hX in
theorem ref_dvl (r : Fin 8192) (l : Fin 512) : val_main_v186 (F := Ideal) X D G M (ix3 0 r l) = Gate.dvChain (act (fV X) r) (fun l => dvnRow (fU X) (fD D) (fW M) r l * fS G l) l := by
  unfold Gate.dvChain Gate.mean
  simp only [← ref_dcen X D G M hX]
  unfold val_main_v186 val_main_v185 val_main_v184
  have e : val_main_v183 (F := Ideal) X D G M (ix1 r) = Ideal.div (∑ k, -val_main_v177 (F := Ideal) X D G M (ix3 0 r k)) (Ideal.ofBits .f32 0x44000000#32) := by
    unfold val_main_v183 val_main_v182 val_main_v181 val_main_v180 val_main_v179 val_main_v178 val_main_cst_34 val_main_cst_35 val_main_cst_36
    generalize val_main_v177 (F := Ideal) X D G M = y
    refine (sum_unit reducesTo_S1x8192x1_S8192_d0_2 _ _ _ _ (drop_row r)).trans ?_
    pointwise
  rw [← e]
  generalize val_main_v183 (F := Ideal) X D G M = x
  generalize val_main_v177 (F := Ideal) X D G M = y
  pointwise

include hX in
/-- The gain's gradient. -/
theorem ref_dsg (l : Fin 512) : val_main_v284 (F := Ideal) X D M (ix2 0 l) = dsg X D M l := by
  unfold dsg
  simp only [← ref_hat X hX, ← ref_dvn X D M hX]
  unfold val_main_v284
  have e : val_main_v162 (F := Ideal) X D M (ix1 l) = ∑ r, val_main_v156 (F := Ideal) X D M (ix3 0 r l) * val_main_v118 (F := Ideal) X (ix3 0 r l) := by
    unfold val_main_v162 val_main_v159 val_main_v158 val_main_v157 val_main_cst_29 val_main_cst_30
    generalize val_main_v156 (F := Ideal) X D M = y
    generalize val_main_v118 (F := Ideal) X = z
    refine (sum_unit reducesTo_S1x1x512_S512_d0_1 _ _ _ _ (drop_lane l)).trans ?_
    pointwise
    simp only [mul_comm]
  rw [← e]
  generalize val_main_v162 (F := Ideal) X D M = y
  pointwise

include hX in
theorem ref_dzz (r : Fin 8192) (l : Fin 512) : val_main_v143 (F := Ideal) X D G M B (ix3 0 r l)
    = fD D r l * zs (fV X) (fS G) (fW M) (fB B) (r / 128) ⟨r % 128, Nat.mod_lt _ (by decide)⟩ l := by
  rw [← ref_z X G M B hX, ← ref_dy]
  unfold val_main_v143
  generalize val_main_v141 (F := Ideal) D = y
  generalize val_main_v135 (F := Ideal) X G M B = z
  pointwise

/-- gelu's gradient at the cotangent of either half. -/
theorem ref_dx (r : Fin 8192) (l : Fin 1024) : val_main_v274 (F := Ideal) X D G M B (ix3 0 r l)
    = Gate.slopeChain (X (ix2 r ⟨512 + l, by omega⟩)) (val_main_v263 (F := Ideal) X D G M B (ix3 0 r l)) := by
  unfold Gate.slopeChain
  rw [← ref_halfx, ← ref_erfc, ← ref_bell]
  unfold val_main_v274 val_main_v273 val_main_v272 val_main_v271 val_main_v270 val_main_v269 val_main_v268 val_main_v267 val_main_v266 val_main_v265 val_main_v264 val_main_v6 val_main_cst_0 val_main_cst_57 val_main_cst_58
  generalize val_main_v263 (F := Ideal) X D G M B = d
  generalize val_main_v4 (F := Ideal) X = x
  generalize val_main_v9 (F := Ideal) X = y
  generalize val_main_v12 (F := Ideal) X = z
  pointwise

theorem ref_du_ct (r : Fin 8192) (l : Fin 512) : val_main_v263 (F := Ideal) X D G M B (ix3 0 r ⟨l, by omega⟩) = val_main_v143 (F := Ideal) X D G M B (ix3 0 r l) := by
  unfold val_main_v263 val_main_v262 val_main_v261 val_main_cst_55 val_main_cst_56
  generalize val_main_v143 (F := Ideal) X D G M B = d
  generalize val_main_v186 (F := Ideal) X D G M = y
  pointwise
  rw [dif_neg (fun e => e.1), zero_add]

theorem ref_dv_ct (r : Fin 8192) (l : Fin 512) : val_main_v263 (F := Ideal) X D G M B (ix3 0 r ⟨512 + l, by omega⟩) = val_main_v186 (F := Ideal) X D G M (ix3 0 r l) := by
  unfold val_main_v263 val_main_v262 val_main_v261 val_main_cst_55 val_main_cst_56
  generalize val_main_v143 (F := Ideal) X D G M B = d
  generalize val_main_v186 (F := Ideal) X D G M = y
  pointwise

include hX in
/-- The weights' gradient. -/
theorem ref_dsw (h : Fin 4) (t s : Fin 128) : val_main_v155 (F := Ideal) X D G (ix3 h t s) = dsw X D G h t s := by
  have e : val_main_v152 (F := Ideal) X D G (ix3 h t s) = ∑ q : Fin 64, dws (fU X) (fV X) (fD D) (fS G) h t s q := by
    unfold dws val_main_v152
    simp only [← ref_dzt X D hX, ← ref_vnc X G hX]
    generalize val_main_v151 (F := Ideal) X D = y
    generalize val_main_v122 (F := Ideal) X G = z
    exact dot_chunks y z h t s
  have e' := ref_tri t s
  unfold val_main_v155 val_main_v127_1 val_main_v125 val_main_call3_v0 val_main_call3_cst dsw
  rw [← e]
  generalize val_main_v124 (F := Ideal) = y at e' ⊢
  generalize val_main_v152 (F := Ideal) X D G = z
  pointwise
  rw [e']
  by_cases hh : s ≤ t
  · rw [if_pos hh, if_pos hh]; rfl
  · rw [if_neg hh, if_neg hh]; rfl

include hX in
/-- The bias's gradient. -/
theorem ref_dsb (t h : Fin 128) : val_main_v281 (F := Ideal) X D (ix2 t h) = dsb X D t h := by
  have e : ∀ h : Fin 4, val_main_v149 (F := Ideal) X D (ix2 t h) = ∑ a : Fin 128, ∑ q : Fin 64, dzs (fU X) (fD D) (128 * q + t) (col h a) := fun h => by
    simp only [← ref_dzc X D hX]
    unfold val_main_v149 val_main_v148 val_main_cst_28
    have e1 : val_main_v147 (F := Ideal) X D (ix2 t h) = val_main_v145 (F := Ideal) X D (ix3 0 t h) := by
      unfold val_main_v147 val_main_v146 val_main_cst_27
      generalize val_main_v145 (F := Ideal) X D = y
      refine (sum_unit reducesTo_S1x1x128x4x1_S128x4_d0_1_4 _ _ _ _ (drop_bias t h)).trans ?_
      pointwise
    have e2 : val_main_v145 (F := Ideal) X D (ix3 0 t h) = ∑ a : Fin 128, ∑ q : Fin 64, val_main_v144 (F := Ideal) X D (ix5 0 q t h a) := by
      unfold val_main_v145 val_main_cst_26
      generalize val_main_v144 (F := Ideal) X D = y
      exact sum_bias y _ t h (by pointwise)
    rw [← e2, ← e1]
    generalize val_main_v147 (F := Ideal) X D = y
    pointwise
    simp
  unfold val_main_v281 val_main_v280 val_main_v279 val_main_v150 val_main_cst_62 dsb
  simp only [← e]
  generalize val_main_v149 (F := Ideal) X D = y
  pointwise

variable (hD : ∀ i, IsR (D i)) (hG : ∀ i, IsR (G i)) (hM : ∀ i, IsR (M i)) (hB : ∀ i, IsR (B i))

include hX hD hG hM hB in
/-- The first gated part of the projection's gradient. -/
theorem ref_du (r : Fin 8192) (l : Fin 512) : val_main_v274 (F := Ideal) X D G M B (ix3 0 r ⟨l, by omega⟩) = du (fU X) (fV X) (fD D) (fS G) (fW M) (fB B) r l := by
  rw [ref_dx, ref_du_ct, ref_dzz X D G M B hX, slope_ref (hX _), du, fU_at]
  exact (IsR.ext (fun _ => hD _) _).mul (zs_real (fun r l => IsR.ext (fun _ => hX _) r) (fun l => hG _) (fun g a b => hM _) (fun t l => hB _) _ _ _)

include hX hD hG hM in
/-- The second gated part of the projection's gradient. -/
theorem ref_dv (r : Fin 8192) (l : Fin 512) : val_main_v274 (F := Ideal) X D G M B (ix3 0 r ⟨512 + l, by omega⟩) = dvs (fU X) (fV X) (fD D) (fS G) (fW M) r l := by
  have hV : ∀ r l, IsR (fV X r l) := fun r l => IsR.ext (fun _ => hX _) r
  have ha : ∀ k, IsR (dvnRow (fU X) (fD D) (fW M) r k * fS G k) := fun k =>
    (dvnRow_real (fun r l => IsR.ext (fun _ => hX _) r) (fun r l => IsR.ext (fun _ => hD _) r) (fun g a b => hM _) _ _).mul (hG _)
  have hv := fun k => act_real hV r k
  rw [ref_dx, ref_dv_ct, ref_dvl X D G M hX, dv_ref hv ha, slope_ref (hX _) (IsR.dv hv ha l), dvs, fV_at]
  congr 3
  refine congrArg (ix2 r) (Fin.ext ?_)
  show 512 + (512 + l.val) = 1024 + l.val
  omega

end Back

end Cert.MixerValue

end
-- ==== Proof.MixCum.lean ====
/-
  The host's running sums of a column, forwards and backwards.
-/
module

public import proofs.«01_k».proof.Proof.Pool
public import Idealize.ShloMosaic.Lib.Pipeline.ValueKit

@[expose] public section

set_option maxRecDepth 16384

noncomputable section

namespace Cert.Pool

open Idealize.ShloMosaic Idealize.ShloMosaic.TcCoe

/-- A fold of additions is a sum. -/
theorem foldl_add {n : ℕ} (f : Fin n → EReal) (L : List (Fin n)) (v : EReal) : L.foldl (fun r k => r + f k) v = v + (L.map f).sum := by
  induction L generalizing v with
  | nil => simp
  | cons k L ih => rw [List.foldl_cons, ih, List.map_cons, List.sum_cons, add_assoc]

/-- The place in the padded operand of a window's entry. -/
def place {s t : Shape} {window strides lo hi : Fin s.rank → ℕ} (h : s.ReduceWindows window strides lo hi t) (j : t.Idx)
    (q : (⟨s.rank, window⟩ : Shape).Idx) (a : Fin s.rank) : ℕ := (j (a.cast h.1.symm)).val * strides a + (q a).val

/-- A window's sum, entry by entry. -/
theorem window_add {s t : Shape} {window strides lo hi : Fin s.rank → ℕ} (h : s.ReduceWindows window strides lo hi t) (x : s.Idx → EReal) (j : t.Idx) :
    Ideal.hostReduceWindowAdd window strides lo hi h x 0 j
      = ∑ q : (⟨s.rank, window⟩ : Shape).Idx,
        if hin : ∀ a, lo a ≤ place h j q a ∧ place h j q a - lo a < s.size a then x (fun a => ⟨place h j q a - lo a, (hin a).2⟩) else 0 := by
  unfold Ideal.hostReduceWindowAdd Host.reduceWindow
  refine (foldl_add _ (List.finRange _) _).trans ?_
  rw [zero_add, ← Fin.sum_univ_def]
  refine (Finset.sum_congr rfl fun n _ => ?_).trans (Equiv.sum_comp (⟨s.rank, window⟩ : Shape).rowMajor.symm (fun q : (⟨s.rank, window⟩ : Shape).Idx =>
    if hin : ∀ a, lo a ≤ place h j q a ∧ place h j q a - lo a < s.size a then x (fun a => ⟨place h j q a - lo a, (hin a).2⟩) else 0))
  by_cases hin : ∀ a, lo a ≤ place h j ((⟨s.rank, window⟩ : Shape).rowMajor.symm n) a
      ∧ place h j ((⟨s.rank, window⟩ : Shape).rowMajor.symm n) a - lo a < s.size a
  · refine (dif_pos hin).trans ?_
    rw [dif_pos hin]
    rfl
  · refine (dif_neg hin).trans ?_
    rw [dif_neg hin]

/-- The rows of a window that is one lane wide. -/
def rowOf (n : ℕ) : Fin n ≃ (⟨3, ![1, n, 1]⟩ : Shape).Idx where
  toFun i := ix3 0 i 0
  invFun q := q 1
  left_inv _ := rfl
  right_inv q := by
    funext a
    match a with
    | ⟨0, _⟩ => exact (Fin.fin_one_eq_zero (q 0)).symm
    | ⟨1, _⟩ => rfl
    | ⟨2, _⟩ => exact (Fin.fin_one_eq_zero (q 2)).symm

/-- Row `r` of the running sums is the sum of the rows up to `r`. -/
theorem cum_at (n m k : ℕ) (hk : k + 1 = n) (h : (⟨3, ![1, n, m]⟩ : Shape).ReduceWindows ![1, n, 1] ![1, 1, 1] ![0, k, 0] ![0, 0, 0] ⟨3, ![1, n, m]⟩)
    (x : (⟨3, ![1, n, m]⟩ : Shape).Idx → EReal) (r : Fin n) (l : Fin m) :
    Ideal.hostReduceWindowAdd ![1, n, 1] ![1, 1, 1] ![0, k, 0] ![0, 0, 0] h x 0 (ix3 0 r l)
      = ∑ j ∈ Finset.range (r + 1), ext (fun i : Fin n => x (ix3 0 i l)) j := by
  rw [window_add]
  refine (Equiv.sum_comp (rowOf n) _).symm.trans ?_
  have e : ∀ i : Fin n, (if hin : ∀ a, (![0, k, 0] : Fin 3 → ℕ) a ≤ place h (ix3 0 r l) (rowOf n i) a
        ∧ place h (ix3 0 r l) (rowOf n i) a - (![0, k, 0] : Fin 3 → ℕ) a < (⟨3, ![1, n, m]⟩ : Shape).size a
      then x (fun a => ⟨place h (ix3 0 r l) (rowOf n i) a - (![0, k, 0] : Fin 3 → ℕ) a, (hin a).2⟩) else 0)
      = if n ≤ r.val + i + 1 then ext (fun i : Fin n => x (ix3 0 i l)) (r + i + 1 - n) else 0 := by
    intro i
    have p1 : place h (ix3 0 r l) (rowOf n i) 1 = r.val * 1 + i.val := rfl
    have p2 : place h (ix3 0 r l) (rowOf n i) 2 = l.val * 1 + 0 := rfl
    have p0 : place h (ix3 0 r l) (rowOf n i) 0 = 0 * 1 + 0 := rfl
    by_cases g : n ≤ r.val + i + 1
    · have hin : ∀ a, (![0, k, 0] : Fin 3 → ℕ) a ≤ place h (ix3 0 r l) (rowOf n i) a
          ∧ place h (ix3 0 r l) (rowOf n i) a - (![0, k, 0] : Fin 3 → ℕ) a < (⟨3, ![1, n, m]⟩ : Shape).size a := by
        intro a
        fin_cases a
        · exact ⟨Nat.zero_le _, Nat.one_pos⟩
        · refine ⟨?_, ?_⟩
          · show k ≤ r.val * 1 + i.val
            omega
          · show r.val * 1 + i.val - k < n
            omega
        · refine ⟨Nat.zero_le _, ?_⟩
          show l.val * 1 + 0 - 0 < m
          omega
      rw [dif_pos hin, if_pos g]
      have q : r.val + i + 1 - n < n := by omega
      rw [show r.val + i + 1 - n = (⟨r.val + i + 1 - n, q⟩ : Fin n).val from rfl, ext_of_lt]
      refine congrArg x (funext fun a => ?_)
      fin_cases a
      · exact Fin.ext rfl
      · refine Fin.ext ?_
        show r.val * 1 + i.val - k = r.val + i + 1 - n
        omega
      · refine Fin.ext ?_
        show l.val * 1 + 0 - 0 = l.val
        omega
    · rw [if_neg g, dif_neg]
      intro hin
      have b : k ≤ r.val * 1 + i.val := (hin 1).1
      omega
  refine (Finset.sum_congr rfl fun i _ => e i).trans ?_
  rw [Fin.sum_univ_eq_sum_range (fun i => if n ≤ r.val + i + 1 then ext (fun i : Fin n => x (ix3 0 i l)) (r + i + 1 - n) else 0) n,
    ← Finset.sum_filter]
  refine Finset.sum_nbij' (fun i => r.val + i + 1 - n) (fun j => n + j - (r + 1)) ?_ ?_ ?_ ?_ ?_
  all_goals
    intro i hi
    have hr := r.isLt
    simp only [Finset.mem_filter, Finset.mem_range] at hi ⊢
    try omega

/-- Row `r` of the backward running sums is the sum of the rows from `r`. -/
theorem rev_at (n m k : ℕ) (hk : k + 1 = n) (h : (⟨3, ![1, n, m]⟩ : Shape).ReduceWindows ![1, n, 1] ![1, 1, 1] ![0, 0, 0] ![0, k, 0] ⟨3, ![1, n, m]⟩)
    (x : (⟨3, ![1, n, m]⟩ : Shape).Idx → EReal) (f : ℕ → EReal) (r : Fin n) (l : Fin m) (hf : ∀ i : Fin n, x (ix3 0 i l) = f i) :
    Ideal.hostReduceWindowAdd ![1, n, 1] ![1, 1, 1] ![0, 0, 0] ![0, k, 0] h x 0 (ix3 0 r l)
      = ∑ k ∈ Finset.range n, if r + k < n then f (r + k) else 0 := by
  rw [window_add]
  refine (Equiv.sum_comp (rowOf n) _).symm.trans ?_
  rw [← Fin.sum_univ_eq_sum_range (fun i => if r.val + i < n then f (r + i) else 0) n]
  refine Finset.sum_congr rfl fun i _ => ?_
  by_cases g : r.val + i.val < n
  · have hin : ∀ a, (![0, 0, 0] : Fin 3 → ℕ) a ≤ place h (ix3 0 r l) (rowOf n i) a
        ∧ place h (ix3 0 r l) (rowOf n i) a - (![0, 0, 0] : Fin 3 → ℕ) a < (⟨3, ![1, n, m]⟩ : Shape).size a := by
      intro a
      fin_cases a
      · exact ⟨Nat.zero_le _, Nat.one_pos⟩
      · refine ⟨Nat.zero_le _, ?_⟩
        show r.val * 1 + i.val - 0 < n
        omega
      · refine ⟨Nat.zero_le _, ?_⟩
        show l.val * 1 + 0 - 0 < m
        omega
    rw [if_pos g]
    refine (dif_pos hin).trans ?_
    rw [← hf ⟨r.val + i.val, g⟩]
    refine congrArg x (funext fun a => ?_)
    fin_cases a
    · exact Fin.ext rfl
    · refine Fin.ext ?_
      show r.val * 1 + i.val - 0 = r.val + i.val
      omega
    · refine Fin.ext ?_
      show l.val * 1 + 0 - 0 = l.val
      omega
  · rw [if_neg g]
    refine dif_neg fun hin => ?_
    have b : r.val * 1 + i.val - 0 < n := (hin 1).2
    omega

end Cert.Pool

end
-- ==== Proof.MixRefPool.lean ====
/-
  The reference of the pooling gradient, stage by stage: the running sums, the deviations, their products with the weights,
  and the way back.
-/
module

public import proofs.«01_k».proof.Proof.MixRefGate
public import proofs.«01_k».proof.Proof.MixCum

@[expose] public section

set_option maxRecDepth 16384

noncomputable section

namespace Cert.MixerValue

open Idealize.ShloMosaic Idealize.ShloMosaic.TcCoe
open MixerRefIdeal MixerRefIdeal.Gen MixerRefIdeal.Read

variable (X : FVec Ideal S8192x1536 .f32) (D : FVec Ideal S8192x1024 .f32) (W : FVec Ideal S4x128x128 .f32)
  (S : FVec Ideal S512 .f32) (G : FVec Ideal S512 .f32) (M : FVec Ideal S4x128x128 .f32) (B : FVec Ideal S4x128 .f32)

theorem fP_at (r : Fin 8192) (l : Fin 512) : fP X l r = X (ix2 r ⟨l, by omega⟩) := Pool.ext_of_lt _ r

theorem fQ_at (r : Fin 8192) (l : Fin 512) : fQ D l r = D (ix2 r ⟨l, by omega⟩) := Pool.ext_of_lt _ r

/-- The pooled lanes. -/
theorem ref_p (r : Fin 8192) (l : Fin 512) : val_main_v1 (F := Ideal) X (ix3 0 r l) = fP X l r := by
  rw [fP_at]
  unfold val_main_v1 val_main_v0
  pointwise

/-- Their running sums. -/
theorem ref_cum (r : Fin 8192) (l : Fin 512) : val_main_v17 (F := Ideal) X (ix3 0 r l) = ∑ j ∈ Finset.range (r + 1), fP X l j := by
  have e : val_main_call0_call0_v0 (F := Ideal) (Shape.Idx.first h_S_) = 0 := by
    unfold val_main_call0_call0_v0 val_main_call0_call0_cst
    pointwise
  have h := Pool.cum_at 8192 512 8191 rfl reduceWindows_S1x8192x512_S1x8192x512_w1s1p0_0_w8192s1p8191_0_w1s1p0_0 (val_main_v1 (F := Ideal) X) r l
  simp only [ref_p] at h
  unfold val_main_v17 Host.reduceWindowAdd
  rw [Ideal.hostReduceWindowAdd_def, e, h]
  refine Finset.sum_congr rfl fun j _ => ?_
  unfold fP Pool.ext
  by_cases hj : j < 8192
  · rw [dif_pos hj, dif_pos hj]
    exact dif_pos hj
  · rw [dif_neg hj, dif_neg hj]

/-- The running sums with a zero before them. -/
theorem ref_sums (r : Fin 8193) (l : Fin 512) : val_main_v18 (F := Ideal) X (ix3 0 r l) = ∑ j ∈ Finset.range r, fP X l j := by
  have e := ref_cum X
  unfold val_main_v18 val_main_v16 val_main_cst_1
  generalize val_main_v17 (F := Ideal) X = y at e ⊢
  pointwise
  by_cases h : r.val < 1
  · rw [dif_pos h, show r.val = 0 by omega]; rfl
  · rw [dif_neg h, e]
    exact congrArg (fun n => ∑ j ∈ Finset.range n, fP X l j) (by show r.val - 1 + 1 = r.val; omega)

section Real

variable (hX : ∀ i, IsR (X i))

include hX in
/-- A window's sum as a difference of running sums, over the window's count. -/
theorem dev_of (g : Fin 4) (a : Fin 128) (r : Fin 8192) (n : ℕ) (w : BitVec 32) (hn : win g = n + 1) (hw : w = BitVec.ofNat 32 (win g))
    (y : S1x8193x512.Idx → EReal) (z : S1x8192x512.Idx → EReal) (e : ∀ (r : Fin 8193) (l : Fin 512), y (ix3 0 r l) = ∑ j ∈ Finset.range r, fP X l j)
    (e' : ∀ (r : Fin 8192) (l : Fin 512), z (ix3 0 r l) = fP X l r) (l : Fin 512) (hl : l = col g a) (h1 : 1 + r.val < 8193) (h2 : r.val - n < 8193) :
    Ideal.div (y (ix3 0 ⟨1 + r, h1⟩ l) - if h : r.val < n then 0 else y (ix3 0 ⟨r.val - n, h2⟩ l))
      (FloatOps.sitofp (F := Ideal) .f32 (IntOp.minsi (IntOp.addi (BitVec.ofNat 32 r.val) 1#32) w)) - z (ix3 0 r l) = devs (fP X) (col g a) r := by
  have hc : win g < 2 ^ 20 := by unfold win; fin_cases g <;> decide
  have hr : r.val + 1 < 2 ^ 20 := by have := r.isLt; omega
  have ht : (y (ix3 0 ⟨1 + r, h1⟩ l) - if h : r.val < n then 0 else y (ix3 0 ⟨r.val - n, h2⟩ l)) = Pool.trail (win g) (fP X l) r := by
    obtain ⟨x, hx⟩ := IsR.lift (fun j => IsR.ext (x := fun i : Fin 8192 => X (ix2 i ⟨l, by omega⟩)) (fun i => hX _) j)
    have hx' : fP X l = fun j => (x j : EReal) := hx
    simp only [e, hx']
    rw [← Pool.trail_eq, Nat.add_comm 1]
    congr 1
    by_cases h : r.val < n
    · rw [dif_pos h, show r.val + 1 - win g = 0 by omega]; rfl
    · rw [dif_neg h, show r.val - n = r.val + 1 - win g by omega]
  rw [ht, e', hl, hw, devs, grp_col, Pool.dev]
  exact congrArg (fun c => Ideal.div _ c - _) (Pool.count_word (win g) r hc hr)

include hX in
theorem ref_dev0 (r : Fin 8192) (a : Fin 128) : val_main_v37 (F := Ideal) X (ix3 0 r a) = devs (fP X) (col 0 a) r := by
  unfold val_main_v37 val_main_v36 val_main_v35 val_main_v34 val_main_v33 val_main_v32 val_main_v31 val_main_v30 val_main_v29 val_main_v28 val_main_v27 val_main_v26 val_main_v25 val_main_v23 val_main_v22 val_main_v21 val_main_v20 val_main_c val_main_c_5 val_main_cst_3
  have e := ref_sums X
  have e' := ref_p X
  generalize val_main_v18 (F := Ideal) X = y at e ⊢
  generalize val_main_v1 (F := Ideal) X = z at e' ⊢
  pointwise
  have h1 : 1 + r.val < 8193 := by omega
  have h2 : r.val - 1 < 8193 := by omega
  have hl : (⟨a.val, by omega⟩ : Fin 512) = col 0 a := Fin.ext (by show a.val = 128 * 0 + a.val; omega)
  have h := dev_of X hX 0 a r 1 2#32 (by decide) (by decide) y z e e' ⟨a.val, by omega⟩ hl h1 h2
  exact h

include hX in
theorem ref_dev1 (r : Fin 8192) (a : Fin 128) : val_main_v54 (F := Ideal) X (ix3 0 r a) = devs (fP X) (col 1 a) r := by
  unfold val_main_v54 val_main_v53 val_main_v52 val_main_v51 val_main_v50 val_main_v49 val_main_v48 val_main_v47 val_main_v46 val_main_v45 val_main_v44 val_main_v43 val_main_v42 val_main_v40 val_main_v39 val_main_v38 val_main_v20 val_main_c_8 val_main_c_9 val_main_cst_6
  have e := ref_sums X
  have e' := ref_p X
  generalize val_main_v18 (F := Ideal) X = y at e ⊢
  generalize val_main_v1 (F := Ideal) X = z at e' ⊢
  pointwise
  have h1 : 1 + r.val < 8193 := by omega
  have h2 : r.val - 3 < 8193 := by omega
  have hl : (⟨128 + a.val, by omega⟩ : Fin 512) = col 1 a := Fin.ext (by show 128 + a.val = 128 * 1 + a.val; omega)
  have h := dev_of X hX 1 a r 3 4#32 (by decide) (by decide) y z e e' ⟨128 + a.val, by omega⟩ hl h1 h2
  exact h

include hX in
theorem ref_dev2 (r : Fin 8192) (a : Fin 128) : val_main_v71 (F := Ideal) X (ix3 0 r a) = devs (fP X) (col 2 a) r := by
  unfold val_main_v71 val_main_v70 val_main_v69 val_main_v68 val_main_v67 val_main_v66 val_main_v65 val_main_v64 val_main_v63 val_main_v62 val_main_v61 val_main_v60 val_main_v59 val_main_v57 val_main_v56 val_main_v55 val_main_v20 val_main_c_12 val_main_c_13 val_main_cst_10
  have e := ref_sums X
  have e' := ref_p X
  generalize val_main_v18 (F := Ideal) X = y at e ⊢
  generalize val_main_v1 (F := Ideal) X = z at e' ⊢
  pointwise
  have h1 : 1 + r.val < 8193 := by omega
  have h2 : r.val - 7 < 8193 := by omega
  have hl : (⟨256 + a.val, by omega⟩ : Fin 512) = col 2 a := Fin.ext (by show 256 + a.val = 128 * 2 + a.val; omega)
  have h := dev_of X hX 2 a r 7 8#32 (by decide) (by decide) y z e e' ⟨256 + a.val, by omega⟩ hl h1 h2
  exact h

include hX in
theorem ref_dev3 (r : Fin 8192) (a : Fin 128) : val_main_v88 (F := Ideal) X (ix3 0 r a) = devs (fP X) (col 3 a) r := by
  unfold val_main_v88 val_main_v87 val_main_v86 val_main_v85 val_main_v84 val_main_v83 val_main_v82 val_main_v81 val_main_v80 val_main_v79 val_main_v78 val_main_v77 val_main_v76 val_main_v74 val_main_v73 val_main_v72 val_main_v20 val_main_c_16 val_main_c_17 val_main_cst_14
  have e := ref_sums X
  have e' := ref_p X
  generalize val_main_v18 (F := Ideal) X = y at e ⊢
  generalize val_main_v1 (F := Ideal) X = z at e' ⊢
  pointwise
  have h1 : 1 + r.val < 8193 := by omega
  have h2 : r.val - 15 < 8193 := by omega
  have hl : (⟨384 + a.val, by omega⟩ : Fin 512) = col 3 a := Fin.ext (by show 384 + a.val = 128 * 3 + a.val; omega)
  have h := dev_of X hX 3 a r 15 16#32 (by decide) (by decide) y z e e' ⟨384 + a.val, by omega⟩ hl h1 h2
  exact h

include hX in
/-- The deviations of the four groups side by side. -/
theorem ref_devs (r : Fin 8192) (g : Fin 4) (a : Fin 128) : val_main_v93 (F := Ideal) X (ix4 0 r g a) = devs (fP X) (col g a) r := by
  have e0 := ref_dev0 X hX r a
  have e1 := ref_dev1 X hX r a
  have e2 := ref_dev2 X hX r a
  have e3 := ref_dev3 X hX r a
  unfold val_main_v93 val_main_v92 val_main_v91 val_main_v90 val_main_v89
  generalize val_main_v37 (F := Ideal) X = y0 at e0 ⊢
  generalize val_main_v54 (F := Ideal) X = y1 at e1 ⊢
  generalize val_main_v71 (F := Ideal) X = y2 at e2 ⊢
  generalize val_main_v88 (F := Ideal) X = y3 at e3 ⊢
  fin_cases g
  all_goals
    pointwise
    assumption

include hX in
/-- Their product with the weights. -/
theorem ref_pre (r : Fin 8192) (l : Fin 512) : val_main_v96 (F := Ideal) X W (ix3 0 r l) = pre (fP X) (fW W) l r := by
  unfold pre
  simp only [← ref_devs X hX]
  unfold val_main_v96 val_main_v95 val_main_v94 fW
  generalize val_main_v93 (F := Ideal) X = y
  pointwise
  exact Finset.sum_congr rfl fun x _ => mul_comm _ _

/-- The pooled lanes of the incoming gradient. -/
theorem ref_q (r : Fin 8192) (l : Fin 512) : val_main_v140 (F := Ideal) D (ix3 0 r l) = fQ D l r := by
  rw [fQ_at]
  unfold val_main_v140 val_main_v139
  pointwise

include hX in
/-- The scale's gradient. -/
theorem ref_dps (l : Fin 512) : val_main_v283 (F := Ideal) X D W (ix2 0 l) = dps X D W l := by
  have e : val_main_v188 (F := Ideal) X D W (ix2 0 l) = dps X D W l := by
    unfold dps
    simp only [← ref_q, ← ref_pre X W hX]
    unfold val_main_v188 val_main_v187 val_main_cst_37
    generalize val_main_v96 (F := Ideal) X W = y
    generalize val_main_v140 (F := Ideal) D = z
    pointwise
    exact Finset.sum_congr rfl fun x _ => mul_comm _ _
  rw [← e]
  have e' : val_main_v192 (F := Ideal) X D W (ix1 l) = val_main_v189 (F := Ideal) X D W (ix3 0 0 l) := by
    unfold val_main_v192 val_main_cst_38
    generalize val_main_v189 (F := Ideal) X D W = y
    refine (sum_unit reducesTo_S1x1x512_S512_d0_1 _ _ _ _ (drop_lane l)).trans ?_
    pointwise
  have e2 : val_main_v189 (F := Ideal) X D W (ix3 0 0 l) = val_main_v188 (F := Ideal) X D W (ix2 0 l) := by
    unfold val_main_v189
    generalize val_main_v188 (F := Ideal) X D W = y
    pointwise
  rw [← e2, ← e']
  unfold val_main_v283
  generalize val_main_v192 (F := Ideal) X D W = y
  pointwise

/-- The cotangent times the scale, lanes first. -/
theorem ref_ys (g : Fin 4) (a : Fin 128) (r : Fin 8192) : val_main_v194 (F := Ideal) D S (ix4 g a 0 r) = ys (fQ D) (fS S) (col g a) r := by
  rw [ys, ← ref_q]
  unfold val_main_v194 val_main_v193 val_main_v191 val_main_v190 val_main_v97
  generalize val_main_v140 (F := Ideal) D = y
  pointwise
  have e : (⟨g.val * 128 + a.val, by omega⟩ : Fin 512) = col g a := Fin.ext (by show g.val * 128 + a.val = 128 * g.val + a.val; omega)
  rw [e]
  rfl

include hX in
/-- The weights' gradient. -/
theorem ref_dpw (g : Fin 4) (a b : Fin 128) : val_main_v198 (F := Ideal) X D S (ix3 g a b) = dpw X D S g a b := by
  unfold dpw
  simp only [← ref_devs X hX, ← ref_ys D S]
  unfold val_main_v198 val_main_v197
  generalize val_main_v93 (F := Ideal) X = y
  generalize val_main_v194 (F := Ideal) D S = z
  pointwise
  rw [Fin.sum_univ_one]
  exact Finset.sum_congr rfl fun x _ => mul_comm _ _

/-- The cotangent of the deviations. -/
theorem ref_dd (r : Fin 8192) (g : Fin 4) (a : Fin 128) : val_main_v196 (F := Ideal) D W S (ix4 0 r g a) = dd (fQ D) (fS S) (fW W) (col g a) r := by
  unfold dd
  rw [grp_col, sub_col]
  simp only [← ref_ys D S]
  unfold val_main_v196 val_main_v195 fW
  generalize val_main_v194 (F := Ideal) D S = z
  pointwise

/-- One group's part of it. -/
theorem ref_dd0 (r : Fin 8192) (a : Fin 128) : val_main_v200 (F := Ideal) D W S (ix3 0 r a) = dd (fQ D) (fS S) (fW W) (col 0 a) r := by
  rw [← ref_dd]
  unfold val_main_v200 val_main_v199
  generalize val_main_v196 (F := Ideal) D W S = z
  pointwise

theorem ref_dd1 (r : Fin 8192) (a : Fin 128) : val_main_v202 (F := Ideal) D W S (ix3 0 r a) = dd (fQ D) (fS S) (fW W) (col 1 a) r := by
  rw [← ref_dd]
  unfold val_main_v202 val_main_v201
  generalize val_main_v196 (F := Ideal) D W S = z
  pointwise

theorem ref_dd2 (r : Fin 8192) (a : Fin 128) : val_main_v204 (F := Ideal) D W S (ix3 0 r a) = dd (fQ D) (fS S) (fW W) (col 2 a) r := by
  rw [← ref_dd]
  unfold val_main_v204 val_main_v203
  generalize val_main_v196 (F := Ideal) D W S = z
  pointwise

theorem ref_dd3 (r : Fin 8192) (a : Fin 128) : val_main_v206 (F := Ideal) D W S (ix3 0 r a) = dd (fQ D) (fS S) (fW W) (col 3 a) r := by
  rw [← ref_dd]
  unfold val_main_v206 val_main_v205
  generalize val_main_v196 (F := Ideal) D W S = z
  pointwise

/-- A row of the cotangent over the row's count. -/
def slot (l : Fin 512) (j : ℕ) : EReal := Ideal.div (dd (fQ D) (fS S) (fW W) l j) (Pool.count (win (grp l)) j)

theorem dd_past (l : Fin 512) (j : ℕ) (h : 8192 ≤ j) : dd (fQ D) (fS S) (fW W) l j = 0 := by
  unfold dd ys
  refine Finset.sum_eq_zero fun b _ => ?_
  rw [show fQ D (col (grp l) b) j = 0 from Pool.ext_of_le _ h, zero_mul, zero_mul]

theorem slot_past (l : Fin 512) (j : ℕ) (h : 8192 ≤ j) : slot D W S l j = 0 := by
  have hc : 0 < win (grp l) := Nat.two_pow_pos _
  rw [slot, dd_past D W S l j h, Pool.count, ← EReal.coe_zero, Reals.div_coe _ (Pool.count_ne hc j), zero_div]

/-- A row over its count, less the row a window further on. -/
theorem step_of (g : Fin 4) (a : Fin 128) (r : Fin 8192) (n : ℕ) (w : BitVec 32) (hn : win g = n + 1) (hw : w = BitVec.ofNat 32 (win g))
    (y : S1x8192x128.Idx → EReal) (e : ∀ (r : Fin 8192) (a : Fin 128), y (ix3 0 r a) = dd (fQ D) (fS S) (fW W) (col g a) r) :
    (Ideal.div (y (ix3 0 r a)) (FloatOps.sitofp (F := Ideal) .f32 (IntOp.minsi (IntOp.addi (BitVec.ofNat 32 r.val) 1#32) w)) +
      if h : n + (1 + r.val) < 8192 then
        -Ideal.div (y (ix3 0 ⟨n + (1 + r.val), h⟩ a)) (FloatOps.sitofp (F := Ideal) .f32 (IntOp.minsi (IntOp.addi (BitVec.ofNat 32 (n + (1 + r.val))) 1#32) w))
      else 0)
      = slot D W S (col g a) r + -slot D W S (col g a) (r + win g) := by
  have hc : win g < 2 ^ 20 := by unfold win; fin_cases g <;> decide
  have hr := r.isLt
  have key : ∀ (j : ℕ) (h : j < 8192), Ideal.div (y (ix3 0 ⟨j, h⟩ a)) (FloatOps.sitofp (F := Ideal) .f32 (IntOp.minsi (IntOp.addi (BitVec.ofNat 32 j) 1#32) w))
      = slot D W S (col g a) j := fun j h => by
    rw [e, hw, slot, grp_col]
    exact congrArg (Ideal.div _) (Pool.count_word (win g) j hc (by omega))
  have e2 : n + (1 + r.val) = r.val + win g := by omega
  refine congrArg₂ (· + ·) ?_ ?_
  · exact key r.val r.isLt
  · by_cases h : n + (1 + r.val) < 8192
    · rw [dif_pos h, key, e2]
    · rw [dif_neg h, slot_past D W S _ _ (by omega), neg_zero]

/-- Four groups' lanes, each set among zeros and summed. -/
theorem placed (f : Fin 4 → Fin 128 → EReal) (l : Fin 512) :
    ((((if h : 384 ≤ l.val ∧ l.val - 384 < 128 then f 3 ⟨l.val - 384, h.2⟩ else 0) + if h : 256 ≤ l.val ∧ l.val - 256 < 128 then f 2 ⟨l.val - 256, h.2⟩ else 0) +
        if h : 128 ≤ l.val ∧ l.val - 128 < 128 then f 1 ⟨l.val - 128, h.2⟩ else 0) + if h : l.val < 128 then f 0 ⟨l.val, h⟩ else 0)
      = f (grp l) (sub l) := by
  have hl := l.isLt
  rcases (by omega : l.val / 128 = 0 ∨ l.val / 128 = 1 ∨ l.val / 128 = 2 ∨ l.val / 128 = 3) with h | h | h | h
  · rw [dif_neg (by omega), dif_neg (by omega), dif_neg (by omega), dif_pos (by omega)]
    simp only [zero_add, add_zero]
    exact congrArg₂ f (Fin.ext h.symm) (Fin.ext (by show l.val = l.val % 128; omega))
  · rw [dif_neg (by omega), dif_neg (by omega), dif_pos (by omega), dif_neg (by omega)]
    simp only [zero_add, add_zero]
    exact congrArg₂ f (Fin.ext h.symm) (Fin.ext (by show l.val - 128 = l.val % 128; omega))
  · rw [dif_neg (by omega), dif_pos (by omega), dif_neg (by omega), dif_neg (by omega)]
    simp only [zero_add, add_zero]
    exact congrArg₂ f (Fin.ext h.symm) (Fin.ext (by show l.val - 256 = l.val % 128; omega))
  · rw [dif_pos (by omega), dif_neg (by omega), dif_neg (by omega), dif_neg (by omega)]
    simp only [zero_add, add_zero]
    exact congrArg₂ f (Fin.ext h.symm) (Fin.ext (by show l.val - 384 = l.val % 128; omega))

theorem ref_neg (r : Fin 8192) (l : Fin 512) : val_main_v246 (F := Ideal) D W S (ix3 0 r l) = -dd (fQ D) (fS S) (fW W) l r := by
  have e0 := ref_dd0 D W S
  have e1 := ref_dd1 D W S
  have e2 := ref_dd2 D W S
  have e3 := ref_dd3 D W S
  unfold val_main_v246 val_main_v245 val_main_v244 val_main_v233 val_main_v232 val_main_v231 val_main_v220 val_main_v219 val_main_v218 val_main_v208 val_main_v207 val_main_cst_39 val_main_cst_43 val_main_cst_47 val_main_cst_51
  generalize val_main_v206 (F := Ideal) D W S = y3 at e3 ⊢
  generalize val_main_v204 (F := Ideal) D W S = y2 at e2 ⊢
  generalize val_main_v202 (F := Ideal) D W S = y1 at e1 ⊢
  generalize val_main_v200 (F := Ideal) D W S = y0 at e0 ⊢
  pointwise
  simp only [e0, e1, e2, e3]
  refine (placed (fun g a => -dd (fQ D) (fS S) (fW W) (col g a) r) l).trans ?_
  rw [col_sub]

theorem ref_step0 (r : Fin 8192) (a : Fin 128) : val_main_v254 (F := Ideal) D W S (ix3 0 ⟨1 + r, by omega⟩ a)
    = slot D W S (col 0 a) r + -slot D W S (col 0 a) (r + win 0) := by
  unfold val_main_v254 val_main_v253 val_main_v251 val_main_v250 val_main_v249 val_main_v248 val_main_v247 val_main_v31 val_main_v30 val_main_v29 val_main_v28 val_main_v27 val_main_v26 val_main_v20 val_main_c val_main_c_5 val_main_cst_52 val_main_cst_53
  have e := ref_dd0 D W S
  generalize val_main_v200 (F := Ideal) D W S = y at e ⊢
  pointwise
  exact step_of D W S 0 a r 1 2#32 (by decide) (by decide) y e

theorem ref_step1 (r : Fin 8192) (a : Fin 128) : val_main_v241 (F := Ideal) D W S (ix3 0 ⟨1 + r, by omega⟩ a)
    = slot D W S (col 1 a) r + -slot D W S (col 1 a) (r + win 1) := by
  unfold val_main_v241 val_main_v240 val_main_v238 val_main_v237 val_main_v236 val_main_v235 val_main_v234 val_main_v48 val_main_v47 val_main_v46 val_main_v45 val_main_v44 val_main_v43 val_main_v20 val_main_c_8 val_main_c_9 val_main_cst_48 val_main_cst_49
  have e := ref_dd1 D W S
  generalize val_main_v202 (F := Ideal) D W S = y at e ⊢
  pointwise
  exact step_of D W S 1 a r 3 4#32 (by decide) (by decide) y e

theorem ref_step2 (r : Fin 8192) (a : Fin 128) : val_main_v228 (F := Ideal) D W S (ix3 0 ⟨1 + r, by omega⟩ a)
    = slot D W S (col 2 a) r + -slot D W S (col 2 a) (r + win 2) := by
  unfold val_main_v228 val_main_v227 val_main_v225 val_main_v224 val_main_v223 val_main_v222 val_main_v221 val_main_v65 val_main_v64 val_main_v63 val_main_v62 val_main_v61 val_main_v60 val_main_v20 val_main_c_12 val_main_c_13 val_main_cst_44 val_main_cst_45
  have e := ref_dd2 D W S
  generalize val_main_v204 (F := Ideal) D W S = y at e ⊢
  pointwise
  exact step_of D W S 2 a r 7 8#32 (by decide) (by decide) y e

theorem ref_step3 (r : Fin 8192) (a : Fin 128) : val_main_v216 (F := Ideal) D W S (ix3 0 ⟨1 + r, by omega⟩ a)
    = slot D W S (col 3 a) r + -slot D W S (col 3 a) (r + win 3) := by
  unfold val_main_v216 val_main_v215 val_main_v213 val_main_v212 val_main_v211 val_main_v210 val_main_v209 val_main_v82 val_main_v81 val_main_v80 val_main_v79 val_main_v78 val_main_v77 val_main_v20 val_main_c_16 val_main_c_17 val_main_cst_40 val_main_cst_41
  have e := ref_dd3 D W S
  generalize val_main_v206 (F := Ideal) D W S = y at e ⊢
  pointwise
  exact step_of D W S 3 a r 15 16#32 (by decide) (by decide) y e

/-- The steps of all lanes. -/
theorem ref_steps (r : Fin 8192) (l : Fin 512) : val_main_v258 (F := Ideal) D W S (ix3 0 r l) = slot D W S l r + -slot D W S l (r + win (grp l)) := by
  have e0 := ref_step0 D W S r
  have e1 := ref_step1 D W S r
  have e2 := ref_step2 D W S r
  have e3 := ref_step3 D W S r
  unfold val_main_v258 val_main_v256 val_main_v255 val_main_v243 val_main_v242 val_main_v230 val_main_v229 val_main_v217 val_main_cst_42 val_main_cst_46 val_main_cst_50 val_main_cst_54
  generalize val_main_v216 (F := Ideal) D W S = y3 at e3 ⊢
  generalize val_main_v228 (F := Ideal) D W S = y2 at e2 ⊢
  generalize val_main_v241 (F := Ideal) D W S = y1 at e1 ⊢
  generalize val_main_v254 (F := Ideal) D W S = y0 at e0 ⊢
  pointwise
  simp only [e0, e1, e2, e3, show 1 + r.val < 8193 by omega, true_and]
  refine (placed (fun g a => slot D W S (col g a) r + -slot D W S (col g a) (r + win g)) l).trans ?_
  rw [col_sub]

variable (hD : ∀ i, IsR (D i)) (hW : ∀ i, IsR (W i)) (hS : ∀ i, IsR (S i))

include hD hW hS in
theorem slot_real (l : Fin 512) : ∃ q : ℕ → ℝ, slot D W S l = (fun j => (q j : EReal)) ∧ ∀ j, 8192 ≤ j → q j = 0 := by
  have h : ∀ j, IsR (slot D W S l j) := fun j => by
    obtain ⟨x, hx⟩ := dd_real (fun g a b => hW (ix3 g a b)) (fun l r => IsR.ext (fun i => hD _) r) (fun l => hS (ix1 l)) l j
    exact ⟨_, (congrArg (fun d => Ideal.div d _) hx).trans (Reals.div_coe _ (Pool.count_ne (Nat.two_pow_pos _) j))⟩
  obtain ⟨q, hq⟩ := IsR.lift h
  refine ⟨q, hq, fun j hj => ?_⟩
  have e := congrFun hq j
  rw [slot_past D W S l j hj] at e
  exact (EReal.coe_eq_zero.1 e.symm)

include hD hW hS in
/-- The pooled part of the projection's gradient. -/
theorem ref_dp (r : Fin 8192) (l : Fin 512) : val_main_v260 (F := Ideal) D W S (ix3 0 r l) = dp (fQ D) (fS S) (fW W) l r := by
  have e : val_main_call4_call0_v0 (F := Ideal) (Shape.Idx.first h_S_) = 0 := by
    unfold val_main_call4_call0_v0 val_main_call4_call0_cst
    pointwise
  have h : val_main_v259 (F := Ideal) D W S (ix3 0 r l) = Pool.lead (win (grp l)) (slot D W S l) r := by
    unfold val_main_v259 Host.reduceWindowAdd
    rw [Ideal.hostReduceWindowAdd_def, e,
      Pool.rev_at 8192 512 8191 rfl _ _ (fun j => slot D W S l j + -slot D W S l (j + win (grp l))) r l (fun i => ref_steps D W S i l)]
    obtain ⟨q, hq, hz⟩ := slot_real D W S hD hW hS l
    rw [hq]
    exact Pool.lead_eq q 8192 hz (win (grp l)) r
  have h' := ref_neg D W S r l
  unfold val_main_v260
  generalize val_main_v259 (F := Ideal) D W S = y at h ⊢
  generalize val_main_v246 (F := Ideal) D W S = z at h' ⊢
  pointwise
  rw [h, h', dp, Pool.spread, add_comm, sub_eq_add_neg]
  rfl

end Real

/-- The unit axis dropped. -/
theorem drop_lead (r : Fin 8192) (l : Fin 1536) (i : S1x8192x1536.Idx) : reducesTo_S1x8192x1536_S8192x1536_d0.drop i = ix2 r l ↔ i = ix3 0 r l := by
  idx_vars i
  have e : reducesTo_S1x8192x1536_S8192x1536_d0.drop (ix3 i0 i1 i2) = ix2 i1 i2 := by funext b; fin_cases b <;> rfl
  rw [e]
  constructor
  · intro h
    rw [show i1 = r from congrFun h 0, show i2 = l from congrFun h 1, Subsingleton.elim i0 0]
  · intro h
    rw [show i1 = r from congrFun h 1, show i2 = l from congrFun h 2]

/-- The projection's gradient. -/
theorem ref_dproj (hX : ∀ i, IsR (X i)) (hD : ∀ i, IsR (D i)) (hW : ∀ i, IsR (W i)) (hS : ∀ i, IsR (S i)) (hG : ∀ i, IsR (G i)) (hM : ∀ i, IsR (M i))
    (hB : ∀ i, IsR (B i)) (r : Fin 8192) (l : Fin 1536) : val_main_v282 (F := Ideal) X D W S G M B (ix2 r l) = dproj X D W S G M B r l := by
  have e : val_main_v278 (F := Ideal) X D W S G M B (ix2 r l) = val_main_v277 (F := Ideal) X D W S G M B (ix3 0 r l) := by
    unfold val_main_v278 val_main_cst_61
    generalize val_main_v277 (F := Ideal) X D W S G M B = y
    refine (sum_unit reducesTo_S1x8192x1536_S8192x1536_d0 _ _ _ _ (drop_lead r l)).trans ?_
    pointwise
  have e' : val_main_v282 (F := Ideal) X D W S G M B (ix2 r l) = val_main_v278 (F := Ideal) X D W S G M B (ix2 r l) := by
    unfold val_main_v282
    generalize val_main_v278 (F := Ideal) X D W S G M B = y
    pointwise
  rw [e', e]
  have hu := ref_du X D G M B hX hD hG hM hB r
  have hv := ref_dv X D G M B hX hD hG hM r
  have hp := ref_dp D W S hD hW hS r
  unfold val_main_v277 val_main_v276 val_main_v275 val_main_cst_59 val_main_cst_60
  generalize val_main_v274 (F := Ideal) X D G M B = y at hu hv ⊢
  generalize val_main_v260 (F := Ideal) D W S = z at hp ⊢
  pointwise
  have hl := l.isLt
  by_cases h1 : l.val < 512
  · rw [dif_neg (by omega), dif_pos h1, zero_add, hp ⟨l, h1⟩]
    exact (dproj_pool X D W S G M B r l ⟨l, h1⟩ rfl).symm
  · by_cases h2 : l.val < 1024
    · rw [dif_pos (by omega), dif_neg h1, add_zero, hu ⟨l.val - 512, by omega⟩]
      exact (dproj_u X D W S G M B r l ⟨l.val - 512, by omega⟩ (by show l.val = 512 + (l.val - 512); omega)).symm
    · rw [dif_pos (by omega), dif_neg h1, add_zero]
      have e2 : (⟨l.val - 512, by omega⟩ : Fin 1024) = ⟨512 + (l.val - 1024), by omega⟩ := Fin.ext (by show l.val - 512 = 512 + (l.val - 1024); omega)
      rw [e2, hv ⟨l.val - 1024, by omega⟩]
      exact (dproj_v X D W S G M B r l ⟨l.val - 1024, by omega⟩ (by show l.val = 1024 + (l.val - 1024); omega)).symm

end Cert.MixerValue

end
-- ==== Proof.MixValue.lean ====
/-
  The mixers' gradients: the kernel's six results are the reference's six, under finite arguments.
-/
module

public import proofs.«01_k».proof.Proof.MixSum
public import proofs.«01_k».proof.Proof.MixRefPool
public import proofs.«01_k».proof.Proof.Gen.Mixer.Frame
public import proofs.«01_k».proof.Proof.Gen.Pre_finite_mixer

@[expose] public section

set_option maxRecDepth 16384

noncomputable section

namespace Cert.MixerValue

open Idealize.ShloMosaic Idealize.ShloMosaic.TcCoe
open MixerIdeal MixerIdeal.Gen

variable (m : (ℓ : Loc nD τ sig) → Buf (Elt Ideal) ℓ) (c : Dev nD)

/-- Every entry of an array is a real number. -/
def AllR {ι : Type} (x : ι → EReal) : Prop := ∀ i, IsR (x i)

theorem AllR.of {ι : Type} {x : ι → EReal} (h : ∃ r : ι → ℝ, x = fun i => (r i : EReal)) : AllR x := fun i => by
  obtain ⟨r, rfl⟩ := h
  exact IsR.coe _

/-- Under the precondition the arguments are arrays of reals. -/
theorem reals (hpre : Pre_MixerIdeal_finite_mixer (hPre_finite_mixer := Pre_finite_mixer.Gen.facts) m) :
    AllR (aX m c) ∧ AllR (aD m c) ∧ AllR (aW m c) ∧ AllR (aS m c) ∧ AllR (aG m c) ∧ AllR (aM m c) ∧ AllR (aB m c) := by
  have e := congrFun (hpre c) (ix0 : Pre_finite_mixer.S_.Idx)
  simp only [Pre_finite_mixer.fn, Pre_finite_mixer.fn_part1, Pre_finite_mixer.fn_part2, andi, IntOp.andi_eq_one] at e
  obtain ⟨⟨⟨⟨⟨⟨⟨-, e0⟩, e1⟩, e2⟩, e3⟩, e4⟩, e5⟩, e6⟩ := e
  exact ⟨AllR.of (Reals.real_of_abs_lt _ _ (fun _ => by pointwise; exact Reals.ofBits_inf) _ _ _ _ e0),
    AllR.of (Reals.real_of_abs_lt _ _ (fun _ => by pointwise; exact Reals.ofBits_inf) _ _ _ _ e1),
    AllR.of (Reals.real_of_abs_lt _ _ (fun _ => by pointwise; exact Reals.ofBits_inf) _ _ _ _ e2),
    AllR.of (Reals.real_of_abs_lt _ _ (fun _ => by pointwise; exact Reals.ofBits_inf) _ _ _ _ e3),
    AllR.of (Reals.real_of_abs_lt _ _ (fun _ => by pointwise; exact Reals.ofBits_inf) _ _ _ _ e4),
    AllR.of (Reals.real_of_abs_lt _ _ (fun _ => by pointwise; exact Reals.ofBits_inf) _ _ _ _ e5),
    AllR.of (Reals.real_of_abs_lt _ _ (fun _ => by pointwise; exact Reals.ofBits_inf) _ _ _ _ e6)⟩

/-- The kernel's run: its six results, and the arguments as they were. -/
theorem run_results (ρ : Dev nD → PrngReg) : θ_run (defs (F := Ideal)) (onTc (τ := τ) (main (F := Ideal))) ⟨m, fun _ => 0, ρ⟩ (fun r => ∀ c : Dev nD,
    r.2.mem ((c.tc : Thread nD τ).loc main_v5_0) = (dats m 0 c).arrAt 9 cfg0.N
      ∧ r.2.mem ((c.tc : Thread nD τ).loc main_v5_1) = (dats m 0 c).arrAt 10 cfg0.N
      ∧ r.2.mem ((c.tc : Thread nD τ).loc main_v5_2) = (dats m 0 c).arrAt 11 cfg0.N
      ∧ r.2.mem ((c.tc : Thread nD τ).loc main_v5_3) = (dats m 0 c).arrAt 12 cfg0.N
      ∧ r.2.mem ((c.tc : Thread nD τ).loc main_v5_4) = (dats m 0 c).arrAt 13 cfg0.N
      ∧ r.2.mem ((c.tc : Thread nD τ).loc main_v5_5) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => by
    obtain ⟨a, b, d, e, f, g⟩ := h.1 c
    exact ⟨a, b, d, e, f, g, h.2 c⟩) (θ_run_and (run_blocks m ρ) (unchanged m ρ))

/-- Kernel and reference end with the same six results. -/
theorem algebraic : @algebraic_MixerIdeal_MixerRefIdeal_pre_finite_mixer MixerIdeal.Gen.facts MixerRefIdeal.Gen.facts
    Pre_finite_mixer.Gen.facts := by
  pair_intro
  · run_from run_results m g
  · run_from MixerRefIdeal.Value.run m' g'
    all_goals
      obtain ⟨e0, e1, e2, e3, e4, e5, e6⟩ := hagree c
      replace e0 : StableHlo.launchContents m' c (Proc.tc.devRef MixerRefIdeal.main_arg0) = aX m c := e0
      replace e1 : StableHlo.launchContents m' c (Proc.tc.devRef MixerRefIdeal.main_arg1) = aD m c := e1
      replace e2 : StableHlo.launchContents m' c (Proc.tc.devRef MixerRefIdeal.main_arg2) = aW m c := e2
      replace e3 : StableHlo.launchContents m' c (Proc.tc.devRef MixerRefIdeal.main_arg3) = aS m c := e3
      replace e4 : StableHlo.launchContents m' c (Proc.tc.devRef MixerRefIdeal.main_arg4) = aG m c := e4
      replace e5 : StableHlo.launchContents m' c (Proc.tc.devRef MixerRefIdeal.main_arg5) = aM m c := e5
      replace e6 : StableHlo.launchContents m' c (Proc.tc.devRef MixerRefIdeal.main_arg6) = aB m c := e6
      obtain ⟨hX, hD, hW, hS, hG, hM, hB⟩ := reals m c hpre
    · rw [MixerRefIdeal.Read.val_main_v282_eq, e0, e1, e2, e3, e4, e5, e6]
      exact (arr9 m c _ fun r l => ref_dproj (aX m c) (aD m c) (aW m c) (aS m c) (aG m c) (aM m c) (aB m c) hX hD hW hS hG hM hB r l).symm
    · rw [MixerRefIdeal.Read.val_main_v198_eq, e0, e1, e3]
      exact (arr10 m c _ fun g a b => ref_dpw (aX m c) (aD m c) (aS m c) hX g a b).symm
    · rw [MixerRefIdeal.Read.val_main_v283_eq, e0, e1, e2]
      exact (arr11 m c _ fun l => ref_dps (aX m c) (aD m c) (aW m c) hX l).symm
    · rw [MixerRefIdeal.Read.val_main_v284_eq, e0, e1, e5]
      exact (arr12 m c _ fun l => ref_dsg (aX m c) (aD m c) (aM m c) hX l).symm
    · rw [MixerRefIdeal.Read.val_main_v155_eq, e0, e1, e4]
      exact (arr13 m c _ fun g a b => ref_dsw (aX m c) (aD m c) (aG m c) hX g a b).symm
    · rw [MixerRefIdeal.Read.val_main_v281_eq, e0, e1]
      exact (arr14 m c _ fun t h => ref_dsb (aX m c) (aD m c) hX t h).symm

/-- The two named constants have their values. -/
theorem preserves : preserves_Mixer_MixerIdeal :=
  ⟨IdealRules.named_const.statement MixerIdeal.κ "sqrt_half" .f32 0x3F3504F3#32 (((Real.sqrt 2)⁻¹ : ℝ) : EReal) rfl,
    IdealRules.named_const.statement MixerIdeal.κ "inv_sqrt_2pi" .f32 0x3ECC422A#32 (((9465531 / 16777216) * (Real.sqrt 2)⁻¹ : ℝ) : EReal) rfl⟩

/-- The reference leaves its arguments as they were and every counter at zero. -/
theorem quiescent_ref : @quiescent_MixerRefIdeal MixerRefIdeal.Gen.facts := fun m ρ _ =>
  (θ_run MixerRefIdeal.defs _ _).mono (fun r h => ⟨fun c => (h c).2.2.2.2.2.2, sem_eq_zero_of_no_sems (by decide) r.2⟩)
    (MixerRefIdeal.Value.run (F := Ideal) m ρ)

/-- The reference's frame under the precondition. -/
theorem quiescent_ref_pre : @quiescent_MixerRefIdeal_pre_finite_mixer MixerRefIdeal.Gen.facts Pre_finite_mixer.Gen.facts :=
  fun m ρ _ => quiescent_ref m ρ trivial

end Cert.MixerValue

end
-- ==== Proof.ConvTile.lean ====
/-
  One block of the gradient of the gated convolution. A channel's gate and value are causal three-tap convolutions of the rows;
  the block is 256 rows by 1408 channels, with the eight rows above it and the eight rows below it.
-/
module

public import proofs.«01_k».proof.Defs
public import proofs.«01_k».proof.Proof.Gen.ConvIdeal.Skeleton
public import Idealize.ShloMosaic.Lib.Pipeline.ValueKit

@[expose] public section

set_option maxRecDepth 16384

noncomputable section

namespace Cert.ConvValue

open Idealize.ShloMosaic Idealize.ShloMosaic.TcCoe
open Cert.ConvIdeal Cert.ConvIdeal.Gen

section Spec

/-- The row that tap `k` reads for row `n`: two rows back, one row back, the row itself; nothing lies before the first row. -/
def tap (f : ℕ → EReal) (k : Fin 3) (n : ℕ) : EReal := if 2 ≤ n + k then f (n + k - 2) else 0

variable (f g : ℕ → EReal) (w v : Fin 3 → EReal) (b c : EReal) (d : ℕ → EReal)

/-- The causal convolution of a channel. -/
def conv (n : ℕ) : EReal := w 0 * tap f 0 n + w 1 * tap f 1 n + w 2 * tap f 2 n + b

/-- The cotangent of the gate's channel, from the gate's and the value's convolutions. -/
def dgate (y z : ℕ → EReal) (n : ℕ) : EReal := d n * z n * (Ideal.logistic (y n) * (1 + y n * (1 - Ideal.logistic (y n))))

/-- The cotangent of the value's channel. -/
def dval (y : ℕ → EReal) (n : ℕ) : EReal := d n * (y n * Ideal.logistic (y n))

/-- The transposed convolution. -/
def back (e : ℕ → EReal) (n : ℕ) : EReal := w 2 * e n + w 1 * e (n + 1) + w 0 * e (n + 2)

theorem dgate_past (y z : ℕ → EReal) (n : ℕ) (h : d n = 0) : dgate d y z n = 0 := by unfold dgate; rw [h, zero_mul, zero_mul]

theorem dval_past (y : ℕ → EReal) (n : ℕ) (h : d n = 0) : dval d y n = 0 := by unfold dval; rw [h, zero_mul]

end Spec

/-- Rows rotated downwards. -/
theorem roll_down {m n : ℕ} (w : ℕ) (b : BitVec 32) (hb : b.toNat = w) (s : FVec Ideal ⟨2, ![m, n]⟩ .f32)
    (h : Shape.Rotates ⟨2, ![m, n]⟩ 0 none) (j : Fin m) (l : Fin n) (hj : w ≤ j) :
    dynamicRotate 0 b none s h (ix2 j l) = s (ix2 ⟨j - w, by omega⟩ l) := by
  rw [Pointwise.dynamicRotate_apply, Shape.Idx.norm_def]
  refine congrArg s (funext fun a => ?_)
  fin_cases a
  · refine Fin.ext ?_
    show (j.val + m - (b.toNat + 0) % m) % m = j - w
    have := j.isLt
    rw [hb, Nat.add_zero, Nat.mod_eq_of_lt (by omega : w < m), Nat.add_comm, Nat.add_sub_assoc hj, Nat.add_mod_left, Nat.mod_eq_of_lt (by omega)]
  · rfl

/-- Rows rotated upwards. -/
theorem roll_up {m n : ℕ} (w : ℕ) (b : BitVec 32) (hb : b.toNat + w = m) (hw : 0 < w) (s : FVec Ideal ⟨2, ![m, n]⟩ .f32)
    (h : Shape.Rotates ⟨2, ![m, n]⟩ 0 none) (j : Fin m) (l : Fin n) (hj : j + w < m) :
    dynamicRotate 0 b none s h (ix2 j l) = s (ix2 ⟨j + w, hj⟩ l) := by
  rw [Pointwise.dynamicRotate_apply, Shape.Idx.norm_def]
  refine congrArg s (funext fun a => ?_)
  fin_cases a
  · refine Fin.ext ?_
    show (j.val + m - (b.toNat + 0) % m) % m = j + w
    rw [Nat.add_zero, Nat.mod_eq_of_lt (by omega : b.toNat < m), Nat.mod_eq_of_lt (by omega)]
    omega
  · rfl

section Block

variable (i : grid0.Coords)

theorem first_word : Scalar.cmpi .sgt (BitVec.ofNat 32 (i 1).val) 0#32 = if 0 < (i 1).val then 1#1 else 0#1 := by
  have hi : (i 1).val < 32 := (i 1).isLt
  revert hi
  generalize (i 1).val = a
  intro hi
  interval_cases a <;> rfl

theorem last_word : Scalar.cmpi .eq (BitVec.ofNat 32 (i 1).val) 31#32 = if (i 1).val < 31 then 0#1 else 1#1 := by
  have hi : (i 1).val < 32 := (i 1).isLt
  revert hi
  generalize (i 1).val = a
  intro hi
  interval_cases a <;> rfl

section Half

variable (f : Fin 1408 → ℕ → EReal) (h : Vec Ideal S1x8x1408 .f32) (x : Vec Ideal S1x256x1408 .f32) (n : Vec Ideal S1x8x1408 .f32)
  (hh : 0 < (i 1).val → ∀ (r : Fin 8) a, h (ix3 0 r a) = f a (256 * (i 1).val + r - 8))
  (hx : ∀ (r : Fin 256) a, x (ix3 0 r a) = f a (256 * (i 1).val + r))
  (hn : (i 1).val < 31 → ∀ (r : Fin 8) a, n (ix3 0 r a) = f a (256 * (i 1).val + 256 + r))
  (hz : ∀ a r, 8192 ≤ r → f a r = 0)

include hh hx hn hz in
/-- The block's rows between the rows above and below it. -/
theorem halo_at (e : Fin 272) (a : Fin 1408) :
    k0_pay4 i h x n (ix2 e a) = if 8 ≤ 256 * (i 1).val + e then f a (256 * (i 1).val + e - 8) else 0 := by
  pointwise [k0_pay4]
  rw [first_word, last_word]
  have hi : (i 1).val < 32 := (i 1).isLt
  by_cases h8 : e.val < 8
  · rw [dif_pos h8]
    by_cases h0 : 0 < (i 1).val
    · rw [if_pos h0, if_pos (by omega : 8 ≤ 256 * (i 1).val + e.val)]
      exact hh h0 ⟨e, h8⟩ a
    · rw [if_neg h0, if_neg (by omega : ¬8 ≤ 256 * (i 1).val + e.val)]
      rfl
  · rw [dif_neg h8, if_pos (by omega : 8 ≤ 256 * (i 1).val + e.val)]
    by_cases h9 : e.val < 264
    · rw [dif_pos (by omega : e.val - 8 < 256)]
      exact (hx ⟨e - 8, by omega⟩ a).trans (congrArg (f a) (by show 256 * (i 1).val + (e.val - 8) = _; omega))
    · rw [dif_neg (by omega : ¬e.val - 8 < 256)]
      by_cases h1 : (i 1).val < 31
      · rw [if_pos h1]
        refine (hn h1 ⟨e - 8 - 256, by omega⟩ a).trans (congrArg (f a) ?_)
        show 256 * (i 1).val + 256 + (e.val - 8 - 256) = _
        omega
      · rw [if_neg h1, hz a _ (by omega)]
        rfl

include hh hx hn hz in
theorem tap0_at (e : Fin 272) (a : Fin 1408) (he : 8 ≤ e.val) : k0_pay5 i h x n (ix2 e a) = tap (f a) 0 (256 * (i 1).val + (e - 8)) := by
  refine (roll_down 2 2#32 rfl (k0_pay4 i h x n) rotates_S272x1408_d0 e a (by omega)).trans ?_
  rw [halo_at i f h x n hh hx hn hz]
  show (if 8 ≤ 256 * (i 1).val + (e.val - 2) then f a (256 * (i 1).val + (e.val - 2) - 8) else 0)
    = if 2 ≤ 256 * (i 1).val + (e.val - 8) + 0 then f a (256 * (i 1).val + (e.val - 8) + 0 - 2) else 0
  have e1 : 256 * (i 1).val + (e.val - 2) - 8 = 256 * (i 1).val + (e.val - 8) + 0 - 2 := by omega
  rw [e1]
  exact if_congr (by omega) rfl rfl

include hh hx hn hz in
theorem tap1_at (e : Fin 272) (a : Fin 1408) (he : 8 ≤ e.val) : k0_pay6 i h x n (ix2 e a) = tap (f a) 1 (256 * (i 1).val + (e - 8)) := by
  refine (roll_down 1 1#32 rfl (k0_pay4 i h x n) rotates_S272x1408_d0 e a (by omega)).trans ?_
  rw [halo_at i f h x n hh hx hn hz]
  show (if 8 ≤ 256 * (i 1).val + (e.val - 1) then f a (256 * (i 1).val + (e.val - 1) - 8) else 0)
    = if 2 ≤ 256 * (i 1).val + (e.val - 8) + 1 then f a (256 * (i 1).val + (e.val - 8) + 1 - 2) else 0
  have e1 : 256 * (i 1).val + (e.val - 1) - 8 = 256 * (i 1).val + (e.val - 8) + 1 - 2 := by omega
  rw [e1]
  exact if_congr (by omega) rfl rfl

include hh hx hn hz in
theorem tap2_at (e : Fin 272) (a : Fin 1408) (he : 8 ≤ e.val) : k0_pay4 i h x n (ix2 e a) = tap (f a) 2 (256 * (i 1).val + (e - 8)) := by
  rw [halo_at i f h x n hh hx hn hz]
  show _ = if 2 ≤ 256 * (i 1).val + (e.val - 8) + 2 then f a (256 * (i 1).val + (e.val - 8) + 2 - 2) else 0
  have e1 : 256 * (i 1).val + e.val - 8 = 256 * (i 1).val + (e.val - 8) + 2 - 2 := by omega
  rw [e1]
  exact if_congr (by omega) rfl rfl

/-- The taps that the block's own rows read. -/
def taps : Fin 3 → FVec Ideal S256x1408 .f32
  | 0 => k0_pay10 (k0_pay5 i h x n)
  | 1 => k0_pay11 (k0_pay6 i h x n)
  | 2 => k0_pay12 (k0_pay4 i h x n)

include hh hx hn hz in
theorem taps_at (k : Fin 3) (r : Fin 256) (a : Fin 1408) : taps i h x n k (ix2 r a) = tap (f a) k (256 * (i 1).val + r) := by
  have hs : ∀ y : FVec Ideal S272x1408 .f32, extractStridedSlice S256x1408 ![8, 0] y slices_S272x1408_o8_0_S256x1408 (ix2 r a)
      = y (ix2 ⟨8 + r, by omega⟩ a) := fun y => by pointwise
  have e8 : 8 + r.val - 8 = r.val := Nat.add_sub_cancel_left _ _
  fin_cases k
  · exact (hs _).trans ((tap0_at i f h x n hh hx hn hz ⟨8 + r, by omega⟩ a (by show 8 ≤ 8 + r.val; omega)).trans (by rw [e8]; rfl))
  · exact (hs _).trans ((tap1_at i f h x n hh hx hn hz ⟨8 + r, by omega⟩ a (by show 8 ≤ 8 + r.val; omega)).trans (by rw [e8]; rfl))
  · exact (hs _).trans ((tap2_at i f h x n hh hx hn hz ⟨8 + r, by omega⟩ a (by show 8 ≤ 8 + r.val; omega)).trans (by rw [e8]; rfl))

variable (w : Fin 3 → Fin 1408 → EReal) (b : Fin 1408 → EReal) (w0 w1 w2 bb : Vec Ideal S1x1x1408 .f32)
  (h0 : ∀ a, w0 (ix3 0 0 a) = w 0 a) (h1 : ∀ a, w1 (ix3 0 0 a) = w 1 a) (h2 : ∀ a, w2 (ix3 0 0 a) = w 2 a) (hb : ∀ a, bb (ix3 0 0 a) = b a)

include hh hx hn hz h0 h1 h2 hb in
/-- The convolution's rows, eight rows beyond the block. -/
theorem conv_at (e : Fin 264) (a : Fin 1408) : k0_pay9 (k0_pay4 i h x n) (k0_pay7 bb) (k0_pay8 i h x n w0 w1) w2 (ix2 e a)
    = conv (f a) (fun k => w k a) (b a) (256 * (i 1).val + e) := by
  have t0 := tap0_at i f h x n hh hx hn hz ⟨8 + e, by omega⟩ a (by show 8 ≤ 8 + e.val; omega)
  have t1 := tap1_at i f h x n hh hx hn hz ⟨8 + e, by omega⟩ a (by show 8 ≤ 8 + e.val; omega)
  have t2 := tap2_at i f h x n hh hx hn hz ⟨8 + e, by omega⟩ a (by show 8 ≤ 8 + e.val; omega)
  have e8 : 8 + e.val - 8 = e.val := Nat.add_sub_cancel_left _ _
  simp only [e8] at t0 t1 t2
  unfold conv
  beta_reduce
  rw [← t0, ← t1, ← t2, ← h0, ← h1, ← h2, ← hb]
  clear t0 t1 t2 h0 h1 h2 hb hh hx hn hz
  unfold k0_pay9 k0_pay8 k0_pay7
  generalize k0_pay4 i h x n = y2
  generalize k0_pay5 i h x n = y0
  generalize k0_pay6 i h x n = y1
  pointwise

end Half

section Cotangent

variable (d : Fin 1408 → ℕ → EReal) (x : Vec Ideal S256x1408 .f32) (n : Vec Ideal S8x1408 .f32)
  (hx : ∀ (r : Fin 256) a, x (ix2 r a) = d a (256 * (i 1).val + r))
  (hn : (i 1).val < 31 → ∀ (r : Fin 8) a, n (ix2 r a) = d a (256 * (i 1).val + 256 + r))
  (hz : ∀ a r, 8192 ≤ r → d a r = 0)

include hx hn hz in
theorem cot_at (e : Fin 264) (a : Fin 1408) :
    k0_pay21 (Scalar.cmpi .eq (BitVec.ofNat 32 (i 1).val) 31#32) x n (ix2 e a) = d a (256 * (i 1).val + e) := by
  pointwise [k0_pay21]
  rw [last_word]
  have hi : (i 1).val < 32 := (i 1).isLt
  by_cases h9 : e.val < 256
  · rw [dif_pos h9]
    exact hx ⟨e, h9⟩ a
  · rw [dif_neg h9]
    by_cases h1 : (i 1).val < 31
    · rw [if_pos h1]
      refine (hn h1 ⟨e - 256, by omega⟩ a).trans (congrArg (d a) ?_)
      show 256 * (i 1).val + 256 + (e.val - 256) = _
      omega
    · rw [if_neg h1, hz a _ (by omega)]
      rfl

variable (y z : Fin 1408 → ℕ → EReal) (Y : FVec Ideal S264x1408 .f32) (hY : ∀ (e : Fin 264) a, Y (ix2 e a) = y a (256 * (i 1).val + e))

include hx hn hz hY in
theorem dval_at (e : Fin 264) (a : Fin 1408) :
    k0_pay23 (Scalar.cmpi .eq (BitVec.ofNat 32 (i 1).val) 31#32) Y x n (ix2 e a) = dval (d a) (y a) (256 * (i 1).val + e) := by
  unfold dval
  rw [← cot_at i d x n hx hn hz, ← hY]
  unfold k0_pay23 k0_pay22
  generalize k0_pay21 (Scalar.cmpi .eq (BitVec.ofNat 32 (i 1).val) 31#32) x n = D
  pointwise

include hx hn hz hY in
theorem dgate_at (v51 : FVec Ideal S272x1408 .f32) (v55 : FVec Ideal S1x1408 .f32) (v64 : FVec Ideal S272x1408 .f32) (v65 : Vec Ideal S1x1x1408 .f32)
    (hZ : ∀ (e : Fin 264) a, k0_pay9 v51 v55 v64 v65 (ix2 e a) = z a (256 * (i 1).val + e)) (e : Fin 264) (a : Fin 1408) :
    k0_pay24 (Scalar.cmpi .eq (BitVec.ofNat 32 (i 1).val) 31#32) Y v51 v55 v64 v65 x n (ix2 e a) = dgate (d a) (y a) (z a) (256 * (i 1).val + e) := by
  unfold dgate
  rw [← cot_at i d x n hx hn hz, ← hY, ← hZ]
  have e1 : (1 : EReal) = Ideal.ofBits .f32 0x3F800000#32 := by
    simp [Ideal.ofBits, Ideal.ieee]; rw [← EReal.coe_mul]; norm_num
  rw [e1]
  unfold k0_pay24 k0_pay22 k0_pay9
  generalize k0_pay21 (Scalar.cmpi .eq (BitVec.ofNat 32 (i 1).val) 31#32) x n = D
  pointwise
  all_goals rfl

end Cotangent

section Out

variable (c : Fin 1408 → ℕ → EReal) (C : FVec Ideal S264x1408 .f32) (hC : ∀ (e : Fin 264) a, C (ix2 e a) = c a (256 * (i 1).val + e))
  (w : Fin 3 → Fin 1408 → EReal) (w0 w1 w2 : Vec Ideal S1x1x1408 .f32)
  (h0 : ∀ a, w0 (ix3 0 0 a) = w 0 a) (h1 : ∀ a, w1 (ix3 0 0 a) = w 1 a) (h2 : ∀ a, w2 (ix3 0 0 a) = w 2 a)

include hC h0 h1 h2 in
/-- The gradient of the block's rows. -/
theorem back_at (r : Fin 256) (a : Fin 1408) : k0_pay34 C w2 w1 w0 (ix3 0 r a) = back (fun k => w k a) (c a) (256 * (i 1).val + r) := by
  have r1 := roll_up (m := 264) 1 263#32 rfl (by decide) C rotates_S264x1408_d0 ⟨r, by omega⟩ a (by show r.val + 1 < 264; omega)
  have r2 := roll_up (m := 264) 2 262#32 rfl (by decide) C rotates_S264x1408_d0 ⟨r, by omega⟩ a (by show r.val + 2 < 264; omega)
  have c0 := hC ⟨r, by omega⟩ a
  have c1 := r1.trans (hC ⟨r + 1, by omega⟩ a)
  have c2 := r2.trans (hC ⟨r + 2, by omega⟩ a)
  unfold back
  beta_reduce
  rw [Nat.add_assoc, Nat.add_assoc, ← c0, ← c1, ← c2, ← h0, ← h1, ← h2]
  clear c0 c1 c2 r1 r2 h0 h1 h2 hC
  unfold k0_pay34
  generalize dynamicRotate 0 263#32 none C rotates_S264x1408_d0 = C1
  generalize dynamicRotate 0 262#32 none C rotates_S264x1408_d0 = C2
  pointwise

include hC in
/-- What the block gives to a tap's weights. -/
theorem dw_at (g : ℕ → Fin 1408 → EReal) (T : FVec Ideal S256x1408 .f32) (hT : ∀ (r : Fin 256) a, T (ix2 r a) = g (256 * (i 1).val + r) a)
    (x : Vec Ideal S1x1x1408 .f32) (a : Fin 1408) :
    k0_pay36 T (k0_pay35 C) x (ix3 0 0 a) = x (ix3 0 0 a) + ∑ r : Fin 256, c a (256 * (i 1).val + r) * g (256 * (i 1).val + r) a := by
  have h := fun (r : Fin 256) => hC ⟨r, by omega⟩ a
  simp only [← h, ← hT]
  clear h hC hT
  unfold k0_pay36 k0_pay35
  pointwise

include hC in
/-- What the block gives to the bias. -/
theorem db_at (x : Vec Ideal S1x1x1408 .f32) (a : Fin 1408) :
    k0_pay33 (k0_pay35 C) x (ix3 0 0 a) = x (ix3 0 0 a) + ∑ r : Fin 256, c a (256 * (i 1).val + r) := by
  have h := fun (r : Fin 256) => hC ⟨r, by omega⟩ a
  simp only [← h]
  clear h hC
  unfold k0_pay33 k0_pay35
  pointwise

end Out

end Block

end Cert.ConvValue

end
-- ==== Proof.ConvBlock.lean ====
/-
  The gradient of the gated convolution: where the kernel's blocks lie in the whole arrays.
-/
module

public import proofs.«01_k».proof.Defs
public import proofs.«01_k».proof.Proof.Pool
public import proofs.«01_k».proof.Proof.ConvTile
public import proofs.«01_k».proof.Proof.Gen.ConvIdeal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.ConvValue

open Idealize.ShloMosaic Idealize.ShloMosaic.TcCoe
open Cert.ConvIdeal Cert.ConvIdeal.Gen

/-- Channel `q` of the gates (`p = 0`) or of the values (`p = 1`). -/
def half (p : Fin 2) (q : Fin 2816) : Fin 5632 := ⟨2816 * p + q, by omega⟩

section Spec

variable (h : Vec Ideal S8192x5632 .f32) (d : Vec Ideal S8192x2816 .f32) (w : Vec Ideal S3x5632 .f32) (b : Vec Ideal S5632 .f32)

/-- A channel's rows, zero after the last. -/
def fH (p : Fin 2) (q : Fin 2816) : ℕ → EReal := Pool.ext fun r : Fin 8192 => h (ix2 r (half p q))

/-- A channel's incoming gradient, zero after the last row. -/
def fD (q : Fin 2816) : ℕ → EReal := Pool.ext fun r : Fin 8192 => d (ix2 r q)

/-- A channel's weights. -/
def fW (p : Fin 2) (q : Fin 2816) (k : Fin 3) : EReal := w (ix2 k (half p q))

/-- A channel's bias. -/
def fB (p : Fin 2) (q : Fin 2816) : EReal := b (ix1 (half p q))

/-- A channel's convolution. -/
def cv (p : Fin 2) (q : Fin 2816) : ℕ → EReal := conv (fH h p q) (fW w p q) (fB b p q)

/-- The cotangent of a channel's convolution. -/
def dc (p : Fin 2) (q : Fin 2816) : ℕ → EReal :=
  if p = 0 then dgate (fD d q) (cv h w b 0 q) (cv h w b 1 q) else dval (fD d q) (cv h w b 0 q)

/-- The gradient of the rows. -/
def gH (p : Fin 2) (q : Fin 2816) (n : ℕ) : EReal := back (fW w p q) (dc h d w b p q) n

/-- A row's part of the weights' gradient. -/
def gW (p : Fin 2) (k : Fin 3) (q : Fin 2816) (n : ℕ) : EReal := dc h d w b p q n * tap (fH h p q) k n

theorem fH_past (p : Fin 2) (q : Fin 2816) (r : ℕ) (hr : 8192 ≤ r) : fH h p q r = 0 := Pool.ext_of_le _ hr

theorem fD_past (q : Fin 2816) (r : ℕ) (hr : 8192 ≤ r) : fD d q r = 0 := Pool.ext_of_le _ hr

theorem fH_row (p : Fin 2) (q : Fin 2816) (r : Fin 8192) : fH h p q r = h (ix2 r (half p q)) := Pool.ext_of_lt _ r

theorem fD_row (q : Fin 2816) (r : Fin 8192) : fD d q r = d (ix2 r q) := Pool.ext_of_lt _ r

end Spec

variable (m : (ℓ : Loc nD τ sig) → Buf (Elt Ideal) ℓ) (c : Dev nD)

/-- The convolution's input: gate channels, then value channels. -/
abbrev aH : FVec Ideal S8192x5632 .f32 := m ((c.tc : Thread nD τ).loc main_arg0)

/-- The incoming gradient. -/
abbrev aD : FVec Ideal S8192x2816 .f32 := m ((c.tc : Thread nD τ).loc main_arg1)

/-- The taps' weights. -/
abbrev aW : FVec Ideal S3x5632 .f32 := m ((c.tc : Thread nD τ).loc main_arg2)

/-- The bias. -/
abbrev aB : FVec Ideal S5632 .f32 := m ((c.tc : Thread nD τ).loc main_arg3)

/-- Where each window's block lies. -/
theorem idx : ∀ t : Fin cfg0.N, (win0_0.index t 0 = 0 ∧ win0_0.index t 1 = t.val % 32 ∧ win0_0.index t 2 = t.val / 32)
    ∧ (win0_1.index t 0 = 0 ∧ win0_1.index t 1 = 32 * (t.val % 32) - 1 ∧ win0_1.index t 2 = t.val / 32)
    ∧ (win0_2.index t 0 = 0 ∧ win0_2.index t 1 = min (32 * (t.val % 32) + 32) 1023 ∧ win0_2.index t 2 = t.val / 32)
    ∧ (win0_3.index t 0 = t.val % 32 ∧ win0_3.index t 1 = t.val / 32)
    ∧ (win0_4.index t 0 = min (32 * (t.val % 32) + 32) 1023 ∧ win0_4.index t 1 = t.val / 32)
    ∧ (win0_5.index t 0 = 0 ∧ win0_5.index t 1 = 0 ∧ win0_5.index t 2 = t.val / 32)
    ∧ (win0_6.index t 0 = 0 ∧ win0_6.index t 1 = 0 ∧ win0_6.index t 2 = t.val / 32)
    ∧ (win0_7.index t 0 = 0 ∧ win0_7.index t 1 = t.val % 32 ∧ win0_7.index t 2 = t.val / 32)
    ∧ (win0_8.index t 0 = 0 ∧ win0_8.index t 1 = 0 ∧ win0_8.index t 2 = t.val / 32)
    ∧ (win0_9.index t 0 = 0 ∧ win0_9.index t 1 = 0 ∧ win0_9.index t 2 = t.val / 32) := by decide +kernel

/-- A point's place on the grid. -/
theorem coord : ∀ t : Fin cfg0.N, ((grid0.coords t) 0).val = t.val / 32 ∧ ((grid0.coords t) 1).val = t.val % 32 := by decide +kernel

theorem lt_64 (t : Fin cfg0.N) : t.val < 64 := lt_of_lt_of_eq t.isLt N_0

/-- Channel `a` of point `t`. -/
def chan (t : Fin cfg0.N) (a : Fin 1408) : Fin 2816 := ⟨t.val / 32 * 1408 + a, by have := lt_64 t; omega⟩

theorem rows_at (p : Fin 2) (r : Fin 8192) (q : Fin 2816) : V m c main_v1 (ix3 p r q) = aH m c (ix2 r (half p q)) := by
  have e : V m c main_v1 = transpose S2x8192x2816 [1, 0, 2] (shapeCast S8192x2x2816 (aH m c) shapeCasts_S8192x5632_S8192x2x2816)
    transposes_S8192x2x2816_S2x8192x2816_1_0_2 := rfl
  rw [e]
  generalize aH m c = x
  pointwise
  refine congrArg x (congrArg (ix2 r) (Fin.ext ?_))
  show p.val * 2816 + q.val = 2816 * p.val + q.val
  omega

theorem weights_at (p : Fin 2) (k : Fin 3) (q : Fin 2816) : V m c main_v3 (ix3 p k q) = aW m c (ix2 k (half p q)) := by
  have e : V m c main_v3 = transpose S2x3x2816 [1, 0, 2] (shapeCast S3x2x2816 (aW m c) shapeCasts_S3x5632_S3x2x2816)
    transposes_S3x2x2816_S2x3x2816_1_0_2 := rfl
  rw [e]
  generalize aW m c = x
  pointwise
  refine congrArg x (congrArg (ix2 k) (Fin.ext ?_))
  show p.val * 2816 + q.val = 2816 * p.val + q.val
  omega

theorem bias_at (p : Fin 2) (q : Fin 2816) : V m c main_v4 (ix3 p 0 q) = aB m c (ix1 (half p q)) := by
  have e : V m c main_v4 = shapeCast S2x1x2816 (aB m c) shapeCasts_S5632_S2x1x2816 := rfl
  rw [e]
  generalize aB m c = x
  pointwise
  refine congrArg x (congrArg ix1 (Fin.ext ?_))
  show p.val * 2816 + q.val = 2816 * p.val + q.val
  omega

theorem iblk0 (t : Fin cfg0.N) (p : Fin 2) (r : Fin 256) (a : Fin 1408) : iblk m c 0 t (ix3 p r a)
    = aH m c (ix2 ⟨t.val % 32 * 256 + r, by omega⟩ (half p (chan t a))) := by
  rw [← rows_at]
  blk_ext [iblk, idx t, chan]

theorem iblk1 (t : Fin cfg0.N) (p : Fin 2) (r : Fin 8) (a : Fin 1408) : iblk m c 1 t (ix3 p r a)
    = aH m c (ix2 ⟨(32 * (t.val % 32) - 1) * 8 + r, by omega⟩ (half p (chan t a))) := by
  rw [← rows_at]
  blk_ext [iblk, idx t, chan]

theorem iblk2 (t : Fin cfg0.N) (p : Fin 2) (r : Fin 8) (a : Fin 1408) : iblk m c 2 t (ix3 p r a)
    = aH m c (ix2 ⟨min (32 * (t.val % 32) + 32) 1023 * 8 + r, by omega⟩ (half p (chan t a))) := by
  rw [← rows_at]
  blk_ext [iblk, idx t, chan]

theorem iblk3 (t : Fin cfg0.N) (r : Fin 256) (a : Fin 1408) : iblk m c 3 t (ix2 r a)
    = aD m c (ix2 ⟨t.val % 32 * 256 + r, by omega⟩ (chan t a)) := by
  blk_ext [iblk, V, idx t, chan]

theorem iblk4 (t : Fin cfg0.N) (r : Fin 8) (a : Fin 1408) : iblk m c 4 t (ix2 r a)
    = aD m c (ix2 ⟨min (32 * (t.val % 32) + 32) 1023 * 8 + r, by omega⟩ (chan t a)) := by
  blk_ext [iblk, V, idx t, chan]

theorem iblk5 (t : Fin cfg0.N) (p : Fin 2) (k : Fin 3) (a : Fin 1408) : iblk m c 5 t (ix3 p k a)
    = fW (aW m c) p (chan t a) k := by
  unfold fW
  rw [← weights_at]
  blk_ext [iblk, idx t, chan]

theorem iblk6 (t : Fin cfg0.N) (p : Fin 2) (a : Fin 1408) : iblk m c 6 t (ix3 p 0 a) = fB (aB m c) p (chan t a) := by
  unfold fB
  rw [← bias_at]
  blk_ext [iblk, idx t, chan]

/-- One half of a block, read at an offset of its rows. -/
theorem ldh {φ : EltTy} {k n l p : ℕ} (B : Vec Ideal ⟨3, ![k, n, l]⟩ φ) (o s : ℕ) (g : Fin k) (ho : o = g) (h) (r : Fin p) (a : Fin l) (hr : s + r < n) :
    View.ld B (Rect.unit ![o, s, 0] ![1, p, l] h) (ix3 0 r a) = B (ix3 g ⟨s + r, hr⟩ a) := by
  subst ho
  refine congrArg B (funext fun b => Fin.ext ?_)
  fin_cases b
  · rfl
  · show s + 1 * r.val = s + r.val; omega
  · show 0 + 1 * a.val = a.val; omega

end Cert.ConvValue

end
-- ==== Proof.ConvSum.lean ====
/-
  The gradient of the gated convolution: what a point writes, and the sums that the kernel keeps from point to point.
-/
module

public import proofs.«01_k».proof.Proof.ConvBlock

@[expose] public section

set_option maxRecDepth 16384

noncomputable section

namespace Cert.ConvValue

open Idealize.ShloMosaic Idealize.ShloMosaic.TcCoe
open Cert.ConvIdeal Cert.ConvIdeal.Gen

/-! ## Stores by half and by tap -/

/-- One block of rows for each half. -/
theorem canon_rows (P : Fin 2 → Vec Ideal S1x256x1408 .bf16) (G : Fin 2 → Fin 256 → Fin 1408 → EReal) (hP : ∀ p r a, P p (ix3 0 r a) = G p r a)
    (i1 i0) (y : S2x256x1408.Idx) :
    View.canon (Val := Elt Ideal) (s := S2x256x1408) (e := .bf16) [⟨Rect.unit ![1, 0, 0] ![1, 256, 1408] i1, P 1⟩,
      ⟨Rect.unit ![0, 0, 0] ![1, 256, 1408] i0, P 0⟩] y = G (y 0) (y 1) (y 2) := by
  refine View.canon_append_of_piecesOf (Val := Elt Ideal) (s := S2x256x1408) (e := .bf16) (fun y => G (y 0) (y 1) (y 2)) [] [_, _] ⟨fun x => ?_, fun x => ?_, trivial⟩ y ?_
  · idx_vars x
    obtain rfl : x0 = 0 := Fin.ext (by omega)
    exact (hP 1 x1 x2).trans (congrArg₂ (G 1) (Fin.ext (by show x1.val = 0 + 1 * x1.val; omega)) (Fin.ext (by show x2.val = 0 + 1 * x2.val; omega)))
  · idx_vars x
    obtain rfl : x0 = 0 := Fin.ext (by omega)
    exact (hP 0 x1 x2).trans (congrArg₂ (G 0) (Fin.ext (by show x1.val = 0 + 1 * x1.val; omega)) (Fin.ext (by show x2.val = 0 + 1 * x2.val; omega)))
  · simp only [List.mem_cons, List.not_mem_nil, or_false, exists_eq_or_imp, exists_eq_left, Rect.mem_set_unit, Fin.forall_fin_succ, Fin.forall_fin_zero_pi]
    have h0 := (y 0).isLt
    have h1 := (y 1).isLt
    have h2 := (y 2).isLt
    simp at h0 h1 h2 ⊢
    omega

/-- A row of lanes for each half and tap, over whatever was stored before. -/
theorem canon_taps (L : List (View.Piece (Elt Ideal) S2x3x1408 .f32)) (P : Fin 2 → Fin 3 → Vec Ideal S1x1x1408 .f32) (G : Fin 2 → Fin 3 → Fin 1408 → EReal)
    (hP : ∀ p k a, P p k (ix3 0 0 a) = G p k a) (i12 i11 i10 i02 i01 i00) (y : S2x3x1408.Idx) :
    View.canon (Val := Elt Ideal) (s := S2x3x1408) (e := .f32) (⟨Rect.unit ![1, 2, 0] ![1, 1, 1408] i12, P 1 2⟩ ::
      ⟨Rect.unit ![1, 1, 0] ![1, 1, 1408] i11, P 1 1⟩ :: ⟨Rect.unit ![1, 0, 0] ![1, 1, 1408] i10, P 1 0⟩ ::
      ⟨Rect.unit ![0, 2, 0] ![1, 1, 1408] i02, P 0 2⟩ :: ⟨Rect.unit ![0, 1, 0] ![1, 1, 1408] i01, P 0 1⟩ ::
      ⟨Rect.unit ![0, 0, 0] ![1, 1, 1408] i00, P 0 0⟩ :: L) y = G (y 0) (y 1) (y 2) := by
  have hQ : ∀ p k (x : S1x1x1408.Idx), P p k x = G p k (x 2) := fun p k x => by
    idx_vars x
    obtain rfl : x0 = 0 := Fin.ext (by omega)
    obtain rfl : x1 = 0 := Fin.ext (by omega)
    exact hP p k x2
  refine View.canon_append_of_piecesOf (Val := Elt Ideal) (s := S2x3x1408) (e := .f32) (fun y => G (y 0) (y 1) (y 2)) L [_, _, _, _, _, _]
    ⟨fun x => (hQ 1 2 x).trans ?_, fun x => (hQ 1 1 x).trans ?_, fun x => (hQ 1 0 x).trans ?_, fun x => (hQ 0 2 x).trans ?_,
      fun x => (hQ 0 1 x).trans ?_, fun x => (hQ 0 0 x).trans ?_, trivial⟩ y ?_
  pick_goal 7
  · simp only [List.mem_cons, List.not_mem_nil, or_false, exists_eq_or_imp, exists_eq_left, Rect.mem_set_unit, Fin.forall_fin_succ, Fin.forall_fin_zero_pi]
    have h0 := (y 0).isLt
    have h1 := (y 1).isLt
    have h2 := (y 2).isLt
    simp at h0 h1 h2 ⊢
    omega
  all_goals
    idx_vars x
    obtain rfl : x0 = 0 := Fin.ext (by omega)
    obtain rfl : x1 = 0 := Fin.ext (by omega)
    exact congrArg (G _ _) (Fin.ext (by show x2.val = 0 + 1 * x2.val; omega))

/-- A row of lanes for each half, over whatever was stored before. -/
theorem canon_bias (L : List (View.Piece (Elt Ideal) S2x1x1408 .f32)) (P : Fin 2 → Vec Ideal S1x1x1408 .f32) (G : Fin 2 → Fin 1408 → EReal)
    (hP : ∀ p a, P p (ix3 0 0 a) = G p a) (i1 i0) (y : S2x1x1408.Idx) :
    View.canon (Val := Elt Ideal) (s := S2x1x1408) (e := .f32) (⟨Rect.unit ![1, 0, 0] ![1, 1, 1408] i1, P 1⟩ ::
      ⟨Rect.unit ![0, 0, 0] ![1, 1, 1408] i0, P 0⟩ :: L) y = G (y 0) (y 2) := by
  have hQ : ∀ p (x : S1x1x1408.Idx), P p x = G p (x 2) := fun p x => by
    idx_vars x
    obtain rfl : x0 = 0 := Fin.ext (by omega)
    obtain rfl : x1 = 0 := Fin.ext (by omega)
    exact hP p x2
  refine View.canon_append_of_piecesOf (Val := Elt Ideal) (s := S2x1x1408) (e := .f32) (fun y => G (y 0) (y 2)) L [_, _]
    ⟨fun x => (hQ 1 x).trans ?_, fun x => (hQ 0 x).trans ?_, trivial⟩ y ?_
  pick_goal 3
  · simp only [List.mem_cons, List.not_mem_nil, or_false, exists_eq_or_imp, exists_eq_left, Rect.mem_set_unit, Fin.forall_fin_succ, Fin.forall_fin_zero_pi]
    have h0 := (y 0).isLt
    have h1 := (y 1).isLt
    have h2 := (y 2).isLt
    simp at h0 h1 h2 ⊢
    omega
  all_goals
    idx_vars x
    obtain rfl : x0 = 0 := Fin.ext (by omega)
    exact congrArg (G _) (Fin.ext (by show x2.val = 0 + 1 * x2.val; omega))

/-! ## What a point computes -/

/-- A half of the weights' rows. -/
def ld6 (x : Vec Ideal S2x3x1408 .f32) : Fin 2 → Fin 3 → Vec Ideal S1x1x1408 .f32
  | 0, 0 => View.ld x (Rect.unit (s := S2x3x1408) ![0, 0, 0] ![1, 1, 1408] inb_S2x3x1408_S1x1x1408_0_0_0)
  | 0, 1 => View.ld x (Rect.unit (s := S2x3x1408) ![0, 1, 0] ![1, 1, 1408] inb_S2x3x1408_S1x1x1408_0_1_0)
  | 0, 2 => View.ld x (Rect.unit (s := S2x3x1408) ![0, 2, 0] ![1, 1, 1408] inb_S2x3x1408_S1x1x1408_0_2_0)
  | 1, 0 => View.ld x (Rect.unit (s := S2x3x1408) ![1, 0, 0] ![1, 1, 1408] inb_S2x3x1408_S1x1x1408_1_0_0)
  | 1, 1 => View.ld x (Rect.unit (s := S2x3x1408) ![1, 1, 0] ![1, 1, 1408] inb_S2x3x1408_S1x1x1408_1_1_0)
  | 1, 2 => View.ld x (Rect.unit (s := S2x3x1408) ![1, 2, 0] ![1, 1, 1408] inb_S2x3x1408_S1x1x1408_1_2_0)

theorem ld6_at (x : Vec Ideal S2x3x1408 .f32) (p : Fin 2) (k : Fin 3) (a : Fin 1408) : ld6 x p k (ix3 0 0 a) = x (ix3 p k a) := by
  fin_cases p <;> fin_cases k
  · exact ldh (φ := .f32) x 0 0 0 rfl _ 0 a (by decide)
  · exact ldh (φ := .f32) x 0 1 0 rfl _ 0 a (by decide)
  · exact ldh (φ := .f32) x 0 2 0 rfl _ 0 a (by decide)
  · exact ldh (φ := .f32) x 1 0 1 rfl _ 0 a (by decide)
  · exact ldh (φ := .f32) x 1 1 1 rfl _ 0 a (by decide)
  · exact ldh (φ := .f32) x 1 2 1 rfl _ 0 a (by decide)

/-- A half of the biases' rows. -/
def ld2 (x : Vec Ideal S2x1x1408 .f32) : Fin 2 → Vec Ideal S1x1x1408 .f32
  | 0 => View.ld x (Rect.unit (s := S2x1x1408) ![0, 0, 0] ![1, 1, 1408] inb_S2x1x1408_S1x1x1408_0_0_0)
  | 1 => View.ld x (Rect.unit (s := S2x1x1408) ![1, 0, 0] ![1, 1, 1408] inb_S2x1x1408_S1x1x1408_1_0_0)

theorem ld2_at (x : Vec Ideal S2x1x1408 .f32) (p : Fin 2) (a : Fin 1408) : ld2 x p (ix3 0 0 a) = x (ix3 p 0 a) := by
  fin_cases p
  · exact ldh (φ := .f32) x 0 0 0 rfl _ 0 a (by decide)
  · exact ldh (φ := .f32) x 1 0 1 rfl _ 0 a (by decide)

/-- A half of eight rows. -/
def ld8 (x : Vec Ideal S2x8x1408 .f32) : Fin 2 → Vec Ideal S1x8x1408 .f32
  | 0 => View.ld x (Rect.unit (s := S2x8x1408) ![0, 0, 0] ![1, 8, 1408] inb_S2x8x1408_S1x8x1408_0_0_0)
  | 1 => View.ld x (Rect.unit (s := S2x8x1408) ![1, 0, 0] ![1, 8, 1408] inb_S2x8x1408_S1x8x1408_1_0_0)

theorem ld8_at (x : Vec Ideal S2x8x1408 .f32) (p : Fin 2) (r : Fin 8) (a : Fin 1408) : ld8 x p (ix3 0 r a) = x (ix3 p r a) := by
  have e : (⟨0 + r.val, by omega⟩ : Fin 8) = r := Fin.ext (Nat.zero_add _)
  fin_cases p
  · exact (ldh (φ := .f32) x 0 0 0 rfl _ r a (by omega)).trans (by rw [e]; rfl)
  · exact (ldh (φ := .f32) x 1 0 1 rfl _ r a (by omega)).trans (by rw [e]; rfl)

/-- A half of the block's rows. -/
def ld256 (x : Vec Ideal S2x256x1408 .f32) : Fin 2 → Vec Ideal S1x256x1408 .f32
  | 0 => View.ld x (Rect.unit (s := S2x256x1408) ![0, 0, 0] ![1, 256, 1408] inb_S2x256x1408_S1x256x1408_0_0_0)
  | 1 => View.ld x (Rect.unit (s := S2x256x1408) ![1, 0, 0] ![1, 256, 1408] inb_S2x256x1408_S1x256x1408_1_0_0)

theorem ld256_at (x : Vec Ideal S2x256x1408 .f32) (p : Fin 2) (r : Fin 256) (a : Fin 1408) : ld256 x p (ix3 0 r a) = x (ix3 p r a) := by
  have e : (⟨0 + r.val, by omega⟩ : Fin 256) = r := Fin.ext (Nat.zero_add _)
  fin_cases p
  · exact (ldh (φ := .f32) x 0 0 0 rfl _ r a (by omega)).trans (by rw [e]; rfl)
  · exact (ldh (φ := .f32) x 1 0 1 rfl _ r a (by omega)).trans (by rw [e]; rfl)

variable (m : (ℓ : Loc nD τ sig) → Buf (Elt Ideal) ℓ) (c : Dev nD) (t : Fin cfg0.N)

theorem h_above (p : Fin 2) (h0 : 0 < ((grid0.coords t) 1).val) (r : Fin 8) (a : Fin 1408) :
    ld8 (iblk m c 1 t) p (ix3 0 r a) = fH (aH m c) p (chan t a) (256 * ((grid0.coords t) 1).val + r - 8) := by
  rw [(coord t).2] at h0 ⊢
  rw [ld8_at, iblk1, ← fH_row (aH m c)]
  refine congrArg (fH (aH m c) p (chan t a)) ?_
  show (32 * (t.val % 32) - 1) * 8 + r.val = _
  omega

theorem h_rows (p : Fin 2) (r : Fin 256) (a : Fin 1408) :
    ld256 (iblk m c 0 t) p (ix3 0 r a) = fH (aH m c) p (chan t a) (256 * ((grid0.coords t) 1).val + r) := by
  rw [(coord t).2, ld256_at, iblk0, ← fH_row (aH m c)]
  refine congrArg (fH (aH m c) p (chan t a)) ?_
  show t.val % 32 * 256 + r.val = _
  omega

theorem h_below (p : Fin 2) (h0 : ((grid0.coords t) 1).val < 31) (r : Fin 8) (a : Fin 1408) :
    ld8 (iblk m c 2 t) p (ix3 0 r a) = fH (aH m c) p (chan t a) (256 * ((grid0.coords t) 1).val + 256 + r) := by
  rw [(coord t).2] at h0 ⊢
  rw [ld8_at, iblk2, ← fH_row (aH m c)]
  refine congrArg (fH (aH m c) p (chan t a)) ?_
  show min (32 * (t.val % 32) + 32) 1023 * 8 + r.val = _
  omega

theorem d_rows (r : Fin 256) (a : Fin 1408) : iblk m c 3 t (ix2 r a) = fD (aD m c) (chan t a) (256 * ((grid0.coords t) 1).val + r) := by
  rw [(coord t).2, iblk3, ← fD_row (aD m c)]
  refine congrArg (fD (aD m c) (chan t a)) ?_
  show t.val % 32 * 256 + r.val = _
  omega

theorem d_below (h0 : ((grid0.coords t) 1).val < 31) (r : Fin 8) (a : Fin 1408) :
    iblk m c 4 t (ix2 r a) = fD (aD m c) (chan t a) (256 * ((grid0.coords t) 1).val + 256 + r) := by
  rw [(coord t).2] at h0 ⊢
  rw [iblk4, ← fD_row (aD m c)]
  refine congrArg (fD (aD m c) (chan t a)) ?_
  show min (32 * (t.val % 32) + 32) 1023 * 8 + r.val = _
  omega

theorem w_rows (p : Fin 2) (k : Fin 3) (a : Fin 1408) : ld6 (iblk m c 5 t) p k (ix3 0 0 a) = fW (aW m c) p (chan t a) k :=
  (ld6_at _ p k a).trans (iblk5 m c t p k a)

theorem b_rows (p : Fin 2) (a : Fin 1408) : ld2 (iblk m c 6 t) p (ix3 0 0 a) = fB (aB m c) p (chan t a) :=
  (ld2_at _ p a).trans (iblk6 m c t p a)

/-- The block's convolution. -/
def cvT (p : Fin 2) : FVec Ideal S264x1408 .f32 :=
  k0_pay9 (k0_pay4 (grid0.coords t) (ld8 (iblk m c 1 t) p) (ld256 (iblk m c 0 t) p) (ld8 (iblk m c 2 t) p)) (k0_pay7 (ld2 (iblk m c 6 t) p))
    (k0_pay8 (grid0.coords t) (ld8 (iblk m c 1 t) p) (ld256 (iblk m c 0 t) p) (ld8 (iblk m c 2 t) p) (ld6 (iblk m c 5 t) p 0) (ld6 (iblk m c 5 t) p 1))
    (ld6 (iblk m c 5 t) p 2)

theorem cvT_at (p : Fin 2) (e : Fin 264) (a : Fin 1408) :
    cvT m c t p (ix2 e a) = cv (aH m c) (aW m c) (aB m c) p (chan t a) (256 * ((grid0.coords t) 1).val + e) :=
  conv_at (grid0.coords t) (fun a => fH (aH m c) p (chan t a)) _ _ _ (h_above m c t p) (h_rows m c t p) (h_below m c t p) (fun _ => fH_past _ _ _)
    (fun k a => fW (aW m c) p (chan t a) k) (fun a => fB (aB m c) p (chan t a)) _ _ _ _ (w_rows m c t p 0) (w_rows m c t p 1) (w_rows m c t p 2) (b_rows m c t p) e a

/-- The cotangent of the block's convolution. -/
def dcT : Fin 2 → FVec Ideal S264x1408 .f32
  | 0 => k0_pay24 (Scalar.cmpi .eq (BitVec.ofNat 32 ((grid0.coords t) 1).val) 31#32) (cvT m c t 0)
      (k0_pay4 (grid0.coords t) (ld8 (iblk m c 1 t) 1) (ld256 (iblk m c 0 t) 1) (ld8 (iblk m c 2 t) 1)) (k0_pay7 (ld2 (iblk m c 6 t) 1))
      (k0_pay8 (grid0.coords t) (ld8 (iblk m c 1 t) 1) (ld256 (iblk m c 0 t) 1) (ld8 (iblk m c 2 t) 1) (ld6 (iblk m c 5 t) 1 0) (ld6 (iblk m c 5 t) 1 1))
      (ld6 (iblk m c 5 t) 1 2) (iblk m c 3 t) (iblk m c 4 t)
  | 1 => k0_pay23 (Scalar.cmpi .eq (BitVec.ofNat 32 ((grid0.coords t) 1).val) 31#32) (cvT m c t 0) (iblk m c 3 t) (iblk m c 4 t)

theorem dcT_at (p : Fin 2) (e : Fin 264) (a : Fin 1408) :
    dcT m c t p (ix2 e a) = dc (aH m c) (aD m c) (aW m c) (aB m c) p (chan t a) (256 * ((grid0.coords t) 1).val + e) := by
  fin_cases p
  · exact dgate_at (grid0.coords t) (fun a => fD (aD m c) (chan t a)) _ _ (d_rows m c t) (d_below m c t) (fun _ => fD_past _ _)
      (fun a => cv (aH m c) (aW m c) (aB m c) 0 (chan t a)) (fun a => cv (aH m c) (aW m c) (aB m c) 1 (chan t a)) _ (cvT_at m c t 0) _ _ _ _ (cvT_at m c t 1) e a
  · exact dval_at (grid0.coords t) (fun a => fD (aD m c) (chan t a)) _ _ (d_rows m c t) (d_below m c t) (fun _ => fD_past _ _)
      (fun a => cv (aH m c) (aW m c) (aB m c) 0 (chan t a)) _ (cvT_at m c t 0) e a

/-- The gradient of the block's rows. -/
def gHT (p : Fin 2) : Vec Ideal S1x256x1408 .bf16 :=
  k0_pay34 (dcT m c t p) (ld6 (iblk m c 5 t) p 2) (ld6 (iblk m c 5 t) p 1) (ld6 (iblk m c 5 t) p 0)

theorem gHT_at (p : Fin 2) (r : Fin 256) (a : Fin 1408) :
    gHT m c t p (ix3 0 r a) = gH (aH m c) (aD m c) (aW m c) (aB m c) p (chan t a) (256 * ((grid0.coords t) 1).val + r) :=
  back_at (grid0.coords t) (fun a => dc (aH m c) (aD m c) (aW m c) (aB m c) p (chan t a)) _ (dcT_at m c t p)
    (fun k a => fW (aW m c) p (chan t a) k) _ _ _ (w_rows m c t p 0) (w_rows m c t p 1) (w_rows m c t p 2) r a

/-- What a point gives to the weights' gradient. -/
def pW (p : Fin 2) (k : Fin 3) (a : Fin 1408) : EReal :=
  ∑ r : Fin 256, gW (aH m c) (aD m c) (aW m c) (aB m c) p k (chan t a) (256 * ((grid0.coords t) 1).val + r)

/-- The weights' gradient after a point. -/
def gWT (x : Vec Ideal S2x3x1408 .f32) (p : Fin 2) (k : Fin 3) : Vec Ideal S1x1x1408 .f32 :=
  k0_pay36 (taps (grid0.coords t) (ld8 (iblk m c 1 t) p) (ld256 (iblk m c 0 t) p) (ld8 (iblk m c 2 t) p) k) (k0_pay35 (dcT m c t p)) (ld6 x p k)

theorem gWT_at (x : Vec Ideal S2x3x1408 .f32) (p : Fin 2) (k : Fin 3) (a : Fin 1408) :
    gWT m c t x p k (ix3 0 0 a) = x (ix3 p k a) + pW m c t p k a :=
  (dw_at (grid0.coords t) (fun a => dc (aH m c) (aD m c) (aW m c) (aB m c) p (chan t a)) _ (dcT_at m c t p)
    (fun n a => tap (fH (aH m c) p (chan t a)) k n) _ (taps_at (grid0.coords t) (fun a => fH (aH m c) p (chan t a)) _ _ _ (h_above m c t p) (h_rows m c t p) (h_below m c t p)
      (fun _ => fH_past _ _ _) k) _ a).trans (congrArg (· + _) (ld6_at x p k a))

/-- What a point gives to the bias's gradient. -/
def pB (p : Fin 2) (a : Fin 1408) : EReal :=
  ∑ r : Fin 256, dc (aH m c) (aD m c) (aW m c) (aB m c) p (chan t a) (256 * ((grid0.coords t) 1).val + r)

/-- The bias's gradient after a point. -/
def gBT (x : Vec Ideal S2x1x1408 .f32) (p : Fin 2) : Vec Ideal S1x1x1408 .f32 := k0_pay33 (k0_pay35 (dcT m c t p)) (ld2 x p)

theorem gBT_at (x : Vec Ideal S2x1x1408 .f32) (p : Fin 2) (a : Fin 1408) : gBT m c t x p (ix3 0 0 a) = x (ix3 p 0 a) + pB m c t p a :=
  (db_at (grid0.coords t) (fun a => dc (aH m c) (aD m c) (aW m c) (aB m c) p (chan t a)) _ (dcT_at m c t p) _ a).trans
    (congrArg (· + _) (ld2_at x p a))

/-! ## What a point writes -/

theorem out7_at (y : S2x256x1408.Idx) : (outsAt0 m c t.val t.isLt).1 y
    = gH (aH m c) (aD m c) (aW m c) (aB m c) (y 0) (chan t (y 2)) (256 * ((grid0.coords t) 1).val + (y 1).val) := by
  by_cases h0 : t.val % 32 = 0
  · rw [outsAt0_A m c t h0]
    frame_out
    exact canon_rows (gHT m c t) _ (gHT_at m c t) _ _ y
  · rw [outsAt0_B m c t h0]
    frame_out
    exact canon_rows (gHT m c t) _ (gHT_at m c t) _ _ y

theorem out8_A (h0 : t.val % 32 = 0) (y : S2x3x1408.Idx) : (outsAt0 m c t.val t.isLt).2.1 y = 0 + pW m c t (y 0) (y 1) (y 2) := by
  rw [outsAt0_A m c t h0]
  frame_open
  simp (disch := decide) only [↓ View.readCov_skip, ↓ View.readCov_cons_toLoadRect, ↓ View.readCov_fill]
  frame_out
  refine (canon_taps _ (gWT m c t (k0_pay2 (F := Ideal))) _ (gWT_at m c t _) _ _ _ _ _ _ y).trans ?_
  refine congrArg (· + _) ?_
  pointwise [k0_pay2]

theorem out8_B (h0 : ¬t.val % 32 = 0) (y : S2x3x1408.Idx) : (outsAt0 m c t.val t.isLt).2.1 y
    = (outsAt0 m c (t.val - 1) (Nat.lt_of_le_of_lt (Nat.sub_le _ _) t.isLt)).2.1 y + pW m c t (y 0) (y 1) (y 2) := by
  rw [outsAt0_B m c t h0]
  frame_out
  refine (canon_taps [] (gWT m c t (outsAt0 m c (t.val - 1) (Nat.lt_of_le_of_lt (Nat.sub_le _ _) t.isLt)).2.1) _ (gWT_at m c t _) _ _ _ _ _ _ y).trans ?_
  idx_vars y

theorem out9_A (h0 : t.val % 32 = 0) (y : S2x1x1408.Idx) : (outsAt0 m c t.val t.isLt).2.2 y = 0 + pB m c t (y 0) (y 2) := by
  rw [outsAt0_A m c t h0]
  frame_open
  simp (disch := decide) only [↓ View.readCov_skip, ↓ View.readCov_cons_toLoadRect, ↓ View.readCov_fill]
  frame_out
  refine (canon_bias _ (gBT m c t (k0_pay3 (F := Ideal))) _ (gBT_at m c t _) _ _ y).trans ?_
  refine congrArg (· + _) ?_
  pointwise [k0_pay3]

theorem out9_B (h0 : ¬t.val % 32 = 0) (y : S2x1x1408.Idx) : (outsAt0 m c t.val t.isLt).2.2 y
    = (outsAt0 m c (t.val - 1) (Nat.lt_of_le_of_lt (Nat.sub_le _ _) t.isLt)).2.2 y + pB m c t (y 0) (y 2) := by
  rw [outsAt0_B m c t h0]
  frame_out
  refine (canon_bias [] (gBT m c t (outsAt0 m c (t.val - 1) (Nat.lt_of_le_of_lt (Nat.sub_le _ _) t.isLt)).2.2) _ (gBT_at m c t _) _ _ y).trans ?_
  idx_vars y
  obtain rfl : y1 = 0 := Fin.ext (by omega)
  rfl

/-! ## The whole arrays -/

/-- A sum that starts at every thirty-second point and grows by a term at each point after it. -/
theorem sum_points {ι : Type} (F : (n : ℕ) → n < cfg0.N → ι → EReal) (g : (n : ℕ) → n < cfg0.N → ℕ → ι → EReal)
    (hA : ∀ n h y, n % 32 = 0 → F n h y = 0 + g n h (n % 32) y)
    (hB : ∀ n h y, ¬n % 32 = 0 → F n h y = F (n - 1) (by omega) y + g n h (n % 32) y)
    (hg : ∀ n h s y, ¬n % 32 = 0 → g n h s y = g (n - 1) (by omega) s y) :
    ∀ n h y, F n h y = ∑ s ∈ Finset.range (n % 32 + 1), g n h s y := by
  intro n
  induction n with
  | zero => intro h y; rw [hA 0 h y rfl]; simp
  | succ n ih =>
    intro h y
    by_cases h0 : (n + 1) % 32 = 0
    · rw [hA _ h y h0, h0]; simp
    · rw [hB _ h y h0, Finset.sum_range_succ]
      refine congrArg (· + _) ((ih (by omega) y).trans ?_)
      rw [show n % 32 + 1 = (n + 1) % 32 by omega]
      exact Finset.sum_congr rfl fun s _ => (hg (n + 1) h s y h0).symm

/-- The sum over the blocks' rows is the sum over all rows. -/
theorem sum_blocks (f : ℕ → EReal) : (∑ s ∈ Finset.range 32, ∑ j : Fin 256, f (256 * s + j)) = ∑ r : Fin 8192, f r := by
  rw [Finset.sum_range]
  exact Fin.sum_mul_add_congr fun s r hl => congrArg f (by show 256 * s.val + r.val = s.val * 256 + r.val; omega)

theorem chan_pred (n : ℕ) (h : n < cfg0.N) (h0 : ¬n % 32 = 0) (a : Fin 1408) :
    chan ⟨n, h⟩ a = chan ⟨n - 1, by omega⟩ a := by
  refine Fin.ext ?_
  show n / 32 * 1408 + a.val = (n - 1) / 32 * 1408 + a.val
  rw [show (n - 1) / 32 = n / 32 by omega]

omit t in
theorem after8 (n : ℕ) (h : n < cfg0.N) (y : S2x3x1408.Idx) : (outsAt0 m c n h).2.1 y
    = ∑ s ∈ Finset.range (n % 32 + 1), ∑ r : Fin 256, gW (aH m c) (aD m c) (aW m c) (aB m c) (y 0) (y 1) (chan ⟨n, h⟩ (y 2)) (256 * s + r) := by
  refine sum_points (fun n h (y : S2x3x1408.Idx) => (outsAt0 m c n h).2.1 y)
    (fun n h s (y : S2x3x1408.Idx) => ∑ r : Fin 256, gW (aH m c) (aD m c) (aW m c) (aB m c) (y 0) (y 1) (chan ⟨n, h⟩ (y 2)) (256 * s + r))
    (fun n h y h0 => ?_) (fun n h y h0 => ?_) (fun n h s y h0 => ?_) n h y
  · refine (out8_A m c ⟨n, h⟩ h0 y).trans ?_
    unfold pW
    rw [(coord ⟨n, h⟩).2]
  · refine (out8_B m c ⟨n, h⟩ h0 y).trans ?_
    unfold pW
    rw [(coord ⟨n, h⟩).2]
  · exact Finset.sum_congr rfl fun r _ => congrArg (fun q => gW (aH m c) (aD m c) (aW m c) (aB m c) (y 0) (y 1) q (256 * s + r)) (chan_pred n h h0 (y 2))

omit t in
theorem after9 (n : ℕ) (h : n < cfg0.N) (y : S2x1x1408.Idx) : (outsAt0 m c n h).2.2 y
    = ∑ s ∈ Finset.range (n % 32 + 1), ∑ r : Fin 256, dc (aH m c) (aD m c) (aW m c) (aB m c) (y 0) (chan ⟨n, h⟩ (y 2)) (256 * s + r) := by
  refine sum_points (fun n h (y : S2x1x1408.Idx) => (outsAt0 m c n h).2.2 y)
    (fun n h s (y : S2x1x1408.Idx) => ∑ r : Fin 256, dc (aH m c) (aD m c) (aW m c) (aB m c) (y 0) (chan ⟨n, h⟩ (y 2)) (256 * s + r))
    (fun n h y h0 => ?_) (fun n h y h0 => ?_) (fun n h s y h0 => ?_) n h y
  · refine (out9_A m c ⟨n, h⟩ h0 y).trans ?_
    unfold pB
    rw [(coord ⟨n, h⟩).2]
  · refine (out9_B m c ⟨n, h⟩ h0 y).trans ?_
    unfold pB
    rw [(coord ⟨n, h⟩).2]
  · exact Finset.sum_congr rfl fun r _ => congrArg (fun q => dc (aH m c) (aD m c) (aW m c) (aB m c) (y 0) q (256 * s + r)) (chan_pred n h h0 (y 2))

omit t in
theorem arr7 (R : FVec Ideal S2x8192x2816 .bf16) (hR : ∀ p (r : Fin 8192) q, R (ix3 p r q) = gH (aH m c) (aD m c) (aW m c) (aB m c) p q r) :
    (dats m 0 c).arrAt 7 cfg0.N = R := by
  refine (dats m 0 c).arrAt_eq_of_covers 7 _ (by decide +kernel) fun t hf y => ?_
  blk_simp
  rw [after0_7]
  have e := out7_at m c t y
  rw [(coord t).2] at e
  idx_vars y
  refine e.trans ?_
  have hr : t.val % 32 * 256 + y1.val < 8192 := by omega
  refine (congrArg (gH (aH m c) (aD m c) (aW m c) (aB m c) y0 (chan t y2)) (by show 256 * (t.val % 32) + y1.val = t.val % 32 * 256 + y1.val; omega)).trans
    ((hR y0 ⟨t.val % 32 * 256 + y1.val, hr⟩ (chan t y2)).symm.trans ?_)
  blk_ext [idx t, chan]

omit t in
theorem arr8 (R : FVec Ideal S2x3x2816 .f32) (hR : ∀ p k q, R (ix3 p k q) = ∑ r : Fin 8192, gW (aH m c) (aD m c) (aW m c) (aB m c) p k q r) :
    (dats m 0 c).arrAt 8 cfg0.N = R := by
  refine (dats m 0 c).arrAt_eq_of_covers 8 _ (by decide +kernel) fun t hf y => ?_
  blk_simp
  rw [after0_8]
  have ht : t.val % 32 = 31 := (flush0_8 t).mp hf
  have e := after8 m c t.val t.isLt y
  rw [ht, sum_blocks (fun r => gW (aH m c) (aD m c) (aW m c) (aB m c) (y 0) (y 1) (chan t (y 2)) r)] at e
  idx_vars y
  refine e.trans ((hR _ _ _).symm.trans ?_)
  blk_ext [idx t, chan]

omit t in
theorem arr9 (R : FVec Ideal S2x1x2816 .f32) (hR : ∀ p q, R (ix3 p 0 q) = ∑ r : Fin 8192, dc (aH m c) (aD m c) (aW m c) (aB m c) p q r) :
    (dats m 0 c).arrAt 9 cfg0.N = R := by
  refine (dats m 0 c).arrAt_eq_of_covers 9 _ (by decide +kernel) fun t hf y => ?_
  blk_simp
  rw [after0_9]
  have ht : t.val % 32 = 31 := (flush0_9 t).mp hf
  have e := after9 m c t.val t.isLt y
  rw [ht, sum_blocks (fun r => dc (aH m c) (aD m c) (aW m c) (aB m c) (y 0) (chan t (y 2)) r)] at e
  idx_vars y
  refine e.trans ((hR _ _).symm.trans ?_)
  blk_ext [idx t, chan]

end Cert.ConvValue

end
-- ==== Proof.ConvRef.lean ====
/-
  The reference of the gated convolution's gradient, stage by stage: the three taps, the convolution, the cotangent of the
  convolution, and the way back to the rows, the weights and the bias.
-/
module

public import proofs.«01_k».proof.Defs
public import proofs.«01_k».proof.Proof.ConvBlock
public import proofs.«01_k».proof.Proof.MixRefGate
public import proofs.«01_k».proof.Proof.Gen.ConvRefIdeal.Run
public import proofs.«01_k».proof.Proof.Gen.ConvRefIdeal.Read

@[expose] public section

set_option maxRecDepth 16384

noncomputable section

namespace Cert.ConvValue

open Idealize.ShloMosaic Idealize.ShloMosaic.TcCoe
open ConvRefIdeal ConvRefIdeal.Gen ConvRefIdeal.Read
open MixerValue (IsR sum_unit)

section Reals

theorem real_tap {f : ℕ → EReal} (hf : ∀ n, IsR (f n)) (k : Fin 3) (n : ℕ) : IsR (tap f k n) := IsR.ite (hf _) IsR.zero

theorem real_conv {f : ℕ → EReal} {w : Fin 3 → EReal} {b : EReal} (hf : ∀ n, IsR (f n)) (hw : ∀ k, IsR (w k)) (hb : IsR b) (n : ℕ) :
    IsR (conv f w b n) :=
  ((((hw 0).mul (real_tap hf 0 n)).add ((hw 1).mul (real_tap hf 1 n))).add ((hw 2).mul (real_tap hf 2 n))).add hb

/-- The product rule and the kernel's closed form agree on real numbers. -/
theorem dgate_eq {d y z : ℕ → EReal} (n : ℕ) (hd : IsR (d n)) (hy : IsR (y n)) (hz : IsR (z n)) :
    d n * z n * Ideal.logistic (y n) + y n * (d n * z n) * (Ideal.logistic (y n) * (1 - Ideal.logistic (y n))) = dgate d y z n := by
  unfold dgate
  obtain ⟨a, ha⟩ := hd
  obtain ⟨b, hb⟩ := hy
  obtain ⟨c, hc⟩ := hz
  rw [ha, hb, hc, Ideal.logistic_coe]
  simp only [← EReal.coe_mul, ← EReal.coe_add, ← EReal.coe_sub, ← EReal.coe_one]
  exact congrArg _ (by ring)

end Reals

variable (H : FVec Ideal S8192x5632 .f32) (D : FVec Ideal S8192x2816 .f32) (W : FVec Ideal S3x5632 .f32) (B : FVec Ideal S5632 .f32)

/-- The rows with two rows of zeros before them. -/
theorem ref_rows (p : Fin 2) (q : Fin 2816) (r : Fin 8194) :
    val_main_v2 (F := Ideal) H (ix3 0 r (half p q)) = if 2 ≤ r.val then fH H p q (r - 2) else 0 := by
  unfold val_main_v2 val_main_v1 val_main_v0 val_main_cst
  pointwise
  by_cases h : r.val < 2
  · rw [dif_pos h, if_neg (by omega : ¬ 2 ≤ r.val)]
  · rw [dif_neg h, if_pos (by omega : 2 ≤ r.val)]
    exact (fH_row H p q ⟨r - 2, by omega⟩).symm

theorem ref_tap0 (p : Fin 2) (q : Fin 2816) (r : Fin 8192) : val_main_v6 (F := Ideal) H (ix3 0 r (half p q)) = tap (fH H p q) 0 r := by
  have e := ref_rows H p q
  unfold val_main_v6
  generalize val_main_v2 (F := Ideal) H = y at e ⊢
  pointwise
  exact (e _).trans rfl

theorem ref_tap1 (p : Fin 2) (q : Fin 2816) (r : Fin 8192) : val_main_v14 (F := Ideal) H (ix3 0 r (half p q)) = tap (fH H p q) 1 r := by
  have e := ref_rows H p q
  unfold val_main_v14
  generalize val_main_v2 (F := Ideal) H = y at e ⊢
  pointwise
  exact (e _).trans (congrArg (fun n => if 2 ≤ n then fH H p q (n - 2) else 0) (Nat.add_comm _ _))

theorem ref_tap2 (p : Fin 2) (q : Fin 2816) (r : Fin 8192) : val_main_v21 (F := Ideal) H (ix3 0 r (half p q)) = tap (fH H p q) 2 r := by
  have e := ref_rows H p q
  unfold val_main_v21
  generalize val_main_v2 (F := Ideal) H = y at e ⊢
  pointwise
  exact (e _).trans (congrArg (fun n => if 2 ≤ n then fH H p q (n - 2) else 0) (Nat.add_comm _ _))

/-- The convolution. -/
theorem ref_conv (p : Fin 2) (q : Fin 2816) (r : Fin 8192) : val_main_v28 (F := Ideal) H W B (ix3 0 r (half p q)) = cv H W B p q r := by
  have e0 := ref_tap0 H p q r
  have e1 := ref_tap1 H p q r
  have e2 := ref_tap2 H p q r
  unfold val_main_v28 val_main_v27 val_main_v26 val_main_v25 val_main_v24 val_main_v23 val_main_v22 val_main_v20 val_main_v19 val_main_v18 val_main_v17 val_main_v16 val_main_v15 val_main_v13 val_main_v12 val_main_v11 val_main_v10 val_main_v9 val_main_v8 val_main_v7 val_main_v5 val_main_v4 val_main_cst_1
  generalize val_main_v6 (F := Ideal) H = y0 at e0 ⊢
  generalize val_main_v14 (F := Ideal) H = y1 at e1 ⊢
  generalize val_main_v21 (F := Ideal) H = y2 at e2 ⊢
  pointwise
  rw [e0, e1, e2]
  unfold cv conv fW fB
  rw [add_comm]

section Real

variable (hH : ∀ i, IsR (H i)) (hD : ∀ i, IsR (D i)) (hW : ∀ i, IsR (W i)) (hB : ∀ i, IsR (B i))

include hH hW hB in
theorem real_cv (p : Fin 2) (q : Fin 2816) (n : ℕ) : IsR (cv H W B p q n) :=
  real_conv (fun n => IsR.ext (fun r => hH _) n) (fun k => hW _) (hB _) n

/-- The logistic function of the gates. -/
theorem ref_sig (q : Fin 2816) (r : Fin 8192) : val_main_v31_2 (F := Ideal) H W B (ix3 0 r q) = Ideal.logistic (val_main_v29 (F := Ideal) H W B (ix3 0 r q)) := by
  have e1 : (1 : EReal) = Ideal.ofBits .f32 0x3F800000#32 := by
    simp [Ideal.ofBits, Ideal.ieee]; rw [← EReal.coe_mul]; norm_num
  unfold val_main_v31_2 val_main_call0_v4 val_main_call0_v3 val_main_call0_v2 val_main_call0_v1 val_main_call0_v0 val_main_call0_cst val_main_call0_cst_0 Ideal.logistic
  generalize val_main_v29 (F := Ideal) H W B = y
  pointwise

theorem ref_gate (q : Fin 2816) (r : Fin 8192) : val_main_v29 (F := Ideal) H W B (ix3 0 r q) = cv H W B 0 q r := by
  have e := ref_conv H W B 0 q r
  unfold val_main_v29
  generalize val_main_v28 (F := Ideal) H W B = y at e ⊢
  pointwise
  rw [← e]
  exact congrArg y (congrArg (ix3 0 r) (Fin.ext (by show q.val = 2816 * 0 + q.val; omega)))

theorem ref_val (q : Fin 2816) (r : Fin 8192) : val_main_v30 (F := Ideal) H W B (ix3 0 r q) = cv H W B 1 q r := by
  have e := ref_conv H W B 1 q r
  unfold val_main_v30
  generalize val_main_v28 (F := Ideal) H W B = y at e ⊢
  pointwise
  rw [← e]
  exact congrArg y (congrArg (ix3 0 r) (Fin.ext (by show 2816 + q.val = 2816 * 1 + q.val; omega)))

theorem ref_dval (q : Fin 2816) (r : Fin 8192) : val_main_v35 (F := Ideal) H D W B (ix3 0 r q) = dval (fD D q) (cv H W B 0 q) r := by
  have e := ref_gate H W B q r
  have e' := ref_sig H W B q r
  unfold val_main_v35 val_main_v34 val_main_v31_0 dval
  rw [fD_row]
  generalize val_main_v29 (F := Ideal) H W B = y at e e' ⊢
  generalize val_main_v31_2 (F := Ideal) H W B = z at e' ⊢
  pointwise
  rw [e', e, mul_comm]

include hH hD hW hB in
theorem ref_dgate (q : Fin 2816) (r : Fin 8192) :
    val_main_v37 (F := Ideal) H D W B (ix3 0 r q) = dgate (fD D q) (cv H W B 0 q) (cv H W B 1 q) r := by
  have hd : IsR (fD D q r) := IsR.ext (fun r => hD _) _
  rw [← dgate_eq r hd (real_cv H W B hH hW hB 0 q r) (real_cv H W B hH hW hB 1 q r)]
  have e := ref_gate H W B q r
  have e' := ref_sig H W B q r
  have e'' := ref_val H W B q r
  have e1 : (1 : EReal) = Ideal.ofBits .f32 0x3F800000#32 := by
    simp [Ideal.ofBits, Ideal.ieee]; rw [← EReal.coe_mul]; norm_num
  unfold val_main_v37 val_main_call1_v2 val_main_call1_v1 val_main_call1_v0 val_main_v36 val_main_v34 val_main_v31_1 val_main_call0_v7 val_main_call0_v6 val_main_call0_cst_1
  rw [fD_row]
  generalize val_main_v29 (F := Ideal) H W B = y at e e' ⊢
  generalize val_main_v30 (F := Ideal) H W B = v at e'' ⊢
  generalize val_main_v31_2 (F := Ideal) H W B = z at e' ⊢
  pointwise
  rw [e', e, e'']

include hH hD hW hB in
/-- The cotangent of the convolution. -/
theorem ref_cot (p : Fin 2) (q : Fin 2816) (r : Fin 8192) : val_main_v38 (F := Ideal) H D W B (ix3 0 r (half p q)) = dc H D W B p q r := by
  have e := ref_dgate H D W B hH hD hW hB q r
  have e' := ref_dval H D W B q r
  unfold val_main_v38 dc
  generalize val_main_v37 (F := Ideal) H D W B = y at e ⊢
  generalize val_main_v35 (F := Ideal) H D W B = z at e' ⊢
  pointwise
  fin_cases p
  · have h : (half 0 q).val < 2816 := by show 2816 * 0 + q.val < 2816; omega
    refine (dif_pos h).trans ((congrArg y (congrArg (ix3 0 r) (Fin.ext ?_))).trans (e.trans (congrFun (if_pos rfl) _).symm))
    show 2816 * 0 + q.val = q.val
    omega
  · have h : ¬ (half 1 q).val < 2816 := by show ¬ 2816 * 1 + q.val < 2816; omega
    refine (dif_neg h).trans ((congrArg z (congrArg (ix3 0 r) (Fin.ext ?_))).trans (e'.trans (congrFun (if_neg (by decide)) _).symm))
    show 2816 * 1 + q.val - 2816 = q.val
    omega

/-- Nothing lies past the last row. -/
theorem dc_past (p : Fin 2) (q : Fin 2816) (n : ℕ) (hn : 8192 ≤ n) : dc H D W B p q n = 0 := by
  unfold dc
  by_cases h : p = 0
  · rw [if_pos h]; exact dgate_past _ _ _ n (fD_past D q n hn)
  · rw [if_neg h]; exact dval_past _ _ n (fD_past D q n hn)

include hH hD hW hB in
/-- The cotangent of the padded rows, without the two rows of padding. -/
theorem ref_back (p : Fin 2) (q : Fin 2816) (r : Fin 8192) : val_main_v74 (F := Ideal) H D W B (ix3 0 r (half p q)) = gH H D W B p q r := by
  have e := ref_cot H D W B hH hD hW hB p q
  have e' := dc_past H D W B p q
  unfold val_main_v74 val_main_v69 val_main_v68 val_main_v63 val_main_v62 val_main_v58 val_main_v57 val_main_v52 val_main_v51 val_main_v48 val_main_v43 val_main_v42 val_main_v22 val_main_v20 val_main_v19 val_main_v15 val_main_v13 val_main_v12 val_main_v7 val_main_v5 val_main_v4 val_main_cst_6 val_main_cst_10 val_main_cst_14 gH back
  generalize val_main_v38 (F := Ideal) H D W B = y at e ⊢
  pointwise
  refine congrArg₂ (· + ·) (congrArg₂ (· + ·) (congrArg (W (ix2 2 (half p q)) * ·) (e r)) ?_) ?_
  · by_cases h : r.val + 1 < 8192
    · refine (dif_pos (by omega : 1 ≤ 2 + r.val ∧ 2 + r.val - 1 < 8192)).trans (congrArg (W (ix2 1 (half p q)) * ·) ((e _).trans (congrArg (dc H D W B p q) ?_)))
      show 2 + r.val - 1 = r.val + 1
      omega
    · refine (dif_neg (by omega : ¬ (1 ≤ 2 + r.val ∧ 2 + r.val - 1 < 8192))).trans ?_
      rw [e' _ (by omega), mul_zero]
  · by_cases h : r.val + 2 < 8192
    · refine (dif_pos (by omega : 2 + r.val < 8192)).trans (congrArg (W (ix2 0 (half p q)) * ·) ((e _).trans (congrArg (dc H D W B p q) ?_)))
      show 2 + r.val = r.val + 2
      omega
    · refine (dif_neg (by omega : ¬ 2 + r.val < 8192)).trans ?_
      rw [e' _ (by omega), mul_zero]

include hH hD hW hB in
/-- The first result: the gradient of the rows. -/
theorem ref_drows (p : Fin 2) (q : Fin 2816) (r : Fin 8192) : val_main_v78 (F := Ideal) H D W B (ix3 p r q) = gH H D W B p q r := by
  have e := ref_back H D W B hH hD hW hB p q r
  have e0 : ∀ l, val_main_v75 (F := Ideal) H D W B (ix2 r l) = val_main_v74 (F := Ideal) H D W B (ix3 0 r l) := by
    intro l
    rw [val_main_v75_apply, Fin.sum_univ_one]
    generalize val_main_v74 (F := Ideal) H D W B = y
    unfold val_main_cst_16
    pointwise
    refine congrArg y (funext fun a => ?_)
    fin_cases a <;> rfl
  rw [← e, ← e0]
  unfold val_main_v78 val_main_v77 val_main_v76
  generalize val_main_v75 (F := Ideal) H D W B = y
  pointwise
  refine congrArg y (congrArg (ix2 r) (Fin.ext ?_))
  show p.val * 2816 + q.val = 2816 * p.val + q.val
  omega

theorem drop_unit (l : Fin 5632) (i : S1x1x5632.Idx) : reducesTo_S1x1x5632_S5632_d0_1.drop i = ix1 l ↔ i = ix3 0 0 l := by
  idx_vars i
  have e : reducesTo_S1x1x5632_S5632_d0_1.drop (ix3 i0 i1 i2) = ix1 i2 := by funext b; fin_cases b; rfl
  rw [e]
  constructor
  · intro h
    rw [show i2 = l from congrFun h 0, Subsingleton.elim i0 0, Subsingleton.elim i1 0]
  · intro h
    rw [show i2 = l from congrFun h 2]

/-- The sum over the rows, then over the two unit axes. -/
theorem sum_rows (y : FVec Ideal S1x8192x5632 .f32) (l : Fin 5632) :
    Host.reduceAdd (F := Ideal) (φ := .f32) (shapeCast S1x1x5632 (Host.reduceAdd y (constant S_ .f32 0x00000000#32) reducesTo_S1x8192x5632_S1x5632_d1 h_S_)
      shapeCasts_S1x5632_S1x1x5632) (constant S_ .f32 0x00000000#32) reducesTo_S1x1x5632_S5632_d0_1 h_S_ (ix1 l) = ∑ r : Fin 8192, y (ix3 0 r l) := by
  have e0 : (constant (F := Ideal) S_ .f32 0x00000000#32) (Shape.Idx.first h_S_) = 0 := by pointwise
  have e : ∀ i : S1x5632.Idx, Host.reduceAdd y (constant S_ .f32 0x00000000#32) reducesTo_S1x8192x5632_S1x5632_d1 h_S_ i = ∑ r : Fin 8192, y (idx_main_v65 i r) := by
    intro i
    simp only [Host.reduceAdd, Ideal.hostReduceAdd_def]
    rw [Ideal.hostReduceAdd_single reducesTo_S1x8192x5632_S1x5632_d1 (by decide), e0, zero_add]
    refine Finset.sum_congr rfl fun k _ => congrArg y (funext fun a => ?_)
    fin_cases a <;> rfl
  generalize Host.reduceAdd y (constant S_ .f32 0x00000000#32) reducesTo_S1x8192x5632_S1x5632_d1 h_S_ = z at e ⊢
  unfold Host.reduceAdd
  rw [Ideal.hostReduceAdd_def, sum_unit reducesTo_S1x1x5632_S5632_d0_1 _ _ _ _ (drop_unit l), e0, zero_add]
  pointwise
  rw [e]
  refine Finset.sum_congr rfl fun k _ => congrArg y (funext fun a => ?_)
  fin_cases a <;> rfl

/-- A tap's gradient at a channel, as the reference sums it. -/
theorem sum_tap (y : FVec Ideal S1x8192x5632 .f32) (k : Fin 3) (p : Fin 2) (q : Fin 2816)
    (h : ∀ r : Fin 8192, y (ix3 0 r (half p q)) = tap (fH H p q) k r) (x : FVec Ideal S1x8192x5632 .f32)
    (hx : ∀ r : Fin 8192, x (ix3 0 r (half p q)) = dc H D W B p q r) :
    ∑ r : Fin 8192, mulf x y (ix3 0 r (half p q)) = ∑ r : Fin 8192, gW H D W B p k q r :=
  Finset.sum_congr rfl fun r _ => congrArg₂ (· * ·) (hx r) (h r)

include hH hD hW hB in
/-- The second result: the gradient of the weights. -/
theorem ref_dw (p : Fin 2) (k : Fin 3) (q : Fin 2816) : val_main_v80 (F := Ideal) H D W B (ix3 p k q) = ∑ r : Fin 8192, gW H D W B p k q r := by
  have e := ref_cot H D W B hH hD hW hB p q
  have s0 := (sum_rows (val_main_v64 (F := Ideal) H D W B) (half p q)).trans (sum_tap H D W B _ 0 p q (ref_tap0 H p q) _ e)
  have s1 := (sum_rows (val_main_v53 (F := Ideal) H D W B) (half p q)).trans (sum_tap H D W B _ 1 p q (ref_tap1 H p q) _ e)
  have s2 := (sum_rows (val_main_v44 (F := Ideal) H D W B) (half p q)).trans (sum_tap H D W B _ 2 p q (ref_tap2 H p q) _ e)
  have hl : (⟨p.val * 2816 + q.val, by omega⟩ : Fin 5632) = half p q := Fin.ext (by show p.val * 2816 + q.val = 2816 * p.val + q.val; omega)
  have f0 : val_main_v67 (F := Ideal) H D W B (ix1 (half p q)) = _ := s0
  have f1 : val_main_v56 (F := Ideal) H D W B (ix1 (half p q)) = _ := s1
  have f2 : val_main_v47 (F := Ideal) H D W B (ix1 (half p q)) = _ := s2
  clear s0 s1 s2
  unfold val_main_v80 val_main_v79 val_main_v72 val_main_v71 val_main_v70 val_main_v61 val_main_v60 val_main_v59 val_main_v50 val_main_v49 val_main_cst_7 val_main_cst_11 val_main_cst_15
  generalize val_main_v67 (F := Ideal) H D W B = y0 at f0 ⊢
  generalize val_main_v56 (F := Ideal) H D W B = y1 at f1 ⊢
  generalize val_main_v47 (F := Ideal) H D W B = y2 at f2 ⊢
  pointwise
  rw [← hl] at f0 f1 f2
  have hq : p.val * 2816 + q.val < 5632 := by omega
  fin_cases k
  · refine (congrArg₂ (· + ·) (congrArg₂ (· + ·) (dif_neg fun h => absurd h.1.1 (by decide)) (dif_neg fun h => absurd h.1.1 (by decide)))
      ((dif_pos ⟨by decide, hq⟩).trans f0)).trans ?_
    rw [zero_add, zero_add]
    rfl
  · refine (congrArg₂ (· + ·) (congrArg₂ (· + ·) (dif_neg fun h => absurd h.1.1 (by decide)) ((dif_pos ⟨by decide, hq⟩).trans f1))
      (dif_neg fun h => absurd h.1 (by decide))).trans ?_
    rw [zero_add, add_zero]
    rfl
  · refine (congrArg₂ (· + ·) (congrArg₂ (· + ·) ((dif_pos ⟨by decide, hq⟩).trans f2) (dif_neg fun h => absurd h.1.2 (by decide)))
      (dif_neg fun h => absurd h.1 (by decide))).trans ?_
    rw [add_zero, add_zero]
    rfl

include hH hD hW hB in
/-- The third result: the gradient of the bias. -/
theorem ref_db (p : Fin 2) (q : Fin 2816) : val_main_v81 (F := Ideal) H D W B (ix3 p 0 q) = ∑ r : Fin 8192, dc H D W B p q r := by
  have e := ref_cot H D W B hH hD hW hB p q
  have s : val_main_v41 (F := Ideal) H D W B (ix1 (half p q)) = _ := sum_rows (val_main_v38 (F := Ideal) H D W B) (half p q)
  rw [← Finset.sum_congr rfl fun r _ => e r, ← s]
  unfold val_main_v81
  generalize val_main_v41 (F := Ideal) H D W B = y
  pointwise
  refine congrArg y (congrArg ix1 (Fin.ext ?_))
  show p.val * 2816 + q.val = 2816 * p.val + q.val
  omega

end Real

end Cert.ConvValue

end
-- ==== Proof.ConvValue.lean ====
/-
  The gradient of the gated convolution: the kernel's three results are the reference's three, under finite arguments.
-/
module

public import proofs.«01_k».proof.Proof.ConvSum
public import proofs.«01_k».proof.Proof.ConvRef
public import proofs.«01_k».proof.Proof.MixValue
public import proofs.«01_k».proof.Proof.Gen.Conv.Frame
public import proofs.«01_k».proof.Proof.Gen.ConvIdeal.Value
public import proofs.«01_k».proof.Proof.Gen.Pre_finite_conv

@[expose] public section

set_option maxRecDepth 16384

noncomputable section

namespace Cert.ConvValue

open Idealize.ShloMosaic Idealize.ShloMosaic.TcCoe
open ConvIdeal ConvIdeal.Gen
open MixerValue (AllR AllR.of)

variable (m : (ℓ : Loc nD τ sig) → Buf (Elt Ideal) ℓ) (c : Dev nD)

/-- Under the precondition the arguments are arrays of reals. -/
theorem reals (hpre : Pre_ConvIdeal_finite_conv (hPre_finite_conv := Pre_finite_conv.Gen.facts) m) :
    AllR (aH m c) ∧ AllR (aD m c) ∧ AllR (aW m c) ∧ AllR (aB m c) := by
  have e := congrFun (hpre c) (ix0 : Pre_finite_conv.S_.Idx)
  simp only [Pre_finite_conv.fn, Pre_finite_conv.fn_part1, andi, IntOp.andi_eq_one] at e
  obtain ⟨⟨⟨⟨-, e0⟩, e1⟩, e2⟩, e3⟩ := e
  exact ⟨AllR.of (Reals.real_of_abs_lt _ _ (fun _ => by pointwise; exact Reals.ofBits_inf) _ _ _ _ e0),
    AllR.of (Reals.real_of_abs_lt _ _ (fun _ => by pointwise; exact Reals.ofBits_inf) _ _ _ _ e1),
    AllR.of (Reals.real_of_abs_lt _ _ (fun _ => by pointwise; exact Reals.ofBits_inf) _ _ _ _ e2),
    AllR.of (Reals.real_of_abs_lt _ _ (fun _ => by pointwise; exact Reals.ofBits_inf) _ _ _ _ e3)⟩

/-- Kernel and reference end with the same three results. -/
theorem algebraic : @algebraic_ConvIdeal_ConvRefIdeal_pre_finite_conv ConvIdeal.Gen.facts ConvRefIdeal.Gen.facts
    Pre_finite_conv.Gen.facts := by
  pair_intro
  · run_from ConvIdeal.Value.run_blocks m g
  · run_from ConvRefIdeal.Value.run m' g'
    all_goals
      obtain ⟨e0, e1, e2, e3⟩ := hagree c
      obtain ⟨hH, hD, hW, hB⟩ := reals m c hpre
    · rw [ConvRefIdeal.Read.val_main_v78_eq, e0, e1, e2, e3]
      exact (arr7 m c _ fun p r q => ref_drows (aH m c) (aD m c) (aW m c) (aB m c) hH hD hW hB p q r).symm
    · rw [ConvRefIdeal.Read.val_main_v80_eq, e0, e1, e2, e3]
      exact (arr8 m c _ fun p k q => ref_dw (aH m c) (aD m c) (aW m c) (aB m c) hH hD hW hB p k q).symm
    · rw [ConvRefIdeal.Read.val_main_v81_eq, e0, e1, e2, e3]
      exact (arr9 m c _ fun p q => ref_db (aH m c) (aD m c) (aW m c) (aB m c) hH hD hW hB p q).symm

/-- The reference leaves its arguments as they were and every counter at zero. -/
theorem quiescent_ref : @quiescent_ConvRefIdeal ConvRefIdeal.Gen.facts := fun m ρ _ =>
  (θ_run ConvRefIdeal.defs _ _).mono (fun r h => ⟨fun c => (h c).2.2.2, sem_eq_zero_of_no_sems (by decide) r.2⟩)
    (ConvRefIdeal.Value.run (F := Ideal) m ρ)

/-- The reference's frame under the precondition. -/
theorem quiescent_ref_pre : @quiescent_ConvRefIdeal_pre_finite_conv ConvRefIdeal.Gen.facts Pre_finite_conv.Gen.facts :=
  fun m ρ _ => quiescent_ref m ρ trivial

end Cert.ConvValue

end
-- ==== Proof.NormRef.lean ====
/-
  The chain rule's gradient of an RMSNorm over 8192 rows of 1024 numbers, as the references of the loss and of the three
  products with an RMSNorm in front compute it: from the cotangent of the normed rows, whatever that is.
-/
module

public import proofs.«01_k».proof.Defs
public import proofs.«01_k».proof.Proof.Norm
public import proofs.«01_k».proof.Proof.Gen.XattnRefIdeal.Read

@[expose] public section

set_option maxRecDepth 16384

noncomputable section

namespace Cert.NormRef

open Idealize.ShloMosaic Idealize.ShloMosaic.TcCoe
open XattnRefIdeal XattnRefIdeal.Gen XattnRefIdeal.Read

variable (first y h : FVec Ideal S8192x1024 .f32) (g : FVec Ideal S1024 .f32)

/-- The cotangent of the sum of squares, spread over the row: from the cotangent `y` of the normed rows. -/
def sqCot : FVec Ideal S8192x1024 .f32 :=
  broadcastInDim S8192x1024 ![0] bcast_S8192_S8192x1024_0
    (Host.reduceAdd (Host.divf (mulf (shapeCast S8192x1 (Host.reduceAdd (mulf h (mulf y (val_main_v23 (F := Ideal) g))) (constant S_ .f32 0x00000000#32)
      reducesTo_S8192x1024_S8192_d1 h_S_) shapeCasts_S8192_S8192x1) (val_main_v11 (F := Ideal) h)) (val_main_v33 (F := Ideal))) (constant S_ .f32 0x00000000#32)
      reducesTo_S8192x1_S8192_d1 h_S_)

/-- The rows' gradient, added to what comes first. -/
def rows : FVec Ideal S8192x1024 .f32 := addf (addf first (mulf h (sqCot y h g))) (mulf (sqCot y h g) h)

/-- The gain's gradient. -/
def gain : FVec Ideal S1x1024 .f32 :=
  broadcastInDim S1x1024 ![1] bcast_S1024_S1x1024_1
    (Host.reduceAdd (shapeCast S1x1024 (Host.reduceAdd (mulf (val_main_v13 (F := Ideal) h) y) (constant S_ .f32 0x00000000#32) reducesTo_S8192x1024_S1024_d0 h_S_)
      shapeCasts_S1024_S1x1024) (constant S_ .f32 0x00000000#32) reducesTo_S1x1024_S1024_d0 h_S_)

/-- The mean square plus `ε`. -/
theorem ms_at (r : Fin 8192) (u : Fin 1) : val_main_v7 (F := Ideal) h (ix2 r u) = Norm.ms (fun k => h (ix2 r k)) := by
  unfold val_main_v7 val_main_v6 val_main_v5 val_main_v4 val_main_v3 val_main_v2 val_main_v1 val_main_cst val_main_cst_0
    val_main_cst_1
  pointwise
  rfl

/-- The reciprocal root. -/
theorem rinv_at (r : Fin 8192) (u : Fin 1) : val_main_v8 (F := Ideal) h (ix2 r u) = Norm.rinv (fun k => h (ix2 r k)) := by
  unfold val_main_v8
  pointwise
  rw [ms_at]
  rfl

theorem sqCot_at (r : Fin 8192) (l : Fin 1024) :
    sqCot y h g (ix2 r l) = Norm.dsq (fun k => h (ix2 r k)) (fun k => y (ix2 r k) * g (ix1 k)) := by
  unfold sqCot val_main_v33 val_main_v23 val_main_v14 val_main_v11 val_main_v10 val_main_v9 val_main_cst_2 val_main_cst_6
  pointwise
  simp only [rinv_at, ms_at, Fin.sum_univ_one]
  rfl

/-- The rows' gradient is the chain rule's. -/
theorem rows_at (d : EReal) (r : Fin 8192) (l : Fin 1024)
    (hf : first (ix2 r l) = d + y (ix2 r l) * g (ix1 l) * Norm.rinv fun k => h (ix2 r k)) :
    rows first y h g (ix2 r l) = d + Norm.dxChain (fun k => h (ix2 r k)) (fun k => y (ix2 r k) * g (ix1 k)) l := by
  unfold rows Norm.dxChain
  pointwise
  rw [sqCot_at, hf, add_assoc, add_assoc, add_assoc]

/-- The cotangent through the gain and the reciprocal root. -/
theorem scaled_at (r : Fin 8192) (l : Fin 1024) : mulf (mulf y (val_main_v23 (F := Ideal) g)) (val_main_v29 (F := Ideal) h) (ix2 r l)
    = y (ix2 r l) * g (ix1 l) * Norm.rinv fun k => h (ix2 r k) := by
  unfold val_main_v29 val_main_v23 val_main_v14
  pointwise
  rw [rinv_at]

theorem gain_at (u : Fin 1) (l : Fin 1024) : gain y h (ix2 u l) = ∑ r : Fin 8192, h (ix2 r l) * (Norm.rinv fun k => h (ix2 r k)) * y (ix2 r l) := by
  unfold gain val_main_v13 val_main_v12
  pointwise
  simp only [rinv_at, Fin.sum_univ_one]

end Cert.NormRef

end
-- ==== Proof.NormWhole.lean ====
/-
  What the gradients of an RMSNorm over 8192 rows have in common: the kernels walk over blocks of rows and add each
  block's part of the gain's gradient to what the blocks before it left, the references take one sum over all rows; and
  over real numbers the hand-written row gradient is the reference's.
-/
module

public import proofs.«01_k».proof.Proof.NormRef
public import proofs.«01_k».proof.Proof.Pool
public import proofs.«01_k».proof.Proof.MixReal

@[expose] public section

set_option maxRecDepth 16384

noncomputable section

namespace Cert.NormWhole

open Idealize.ShloMosaic Idealize.ShloMosaic.TcCoe
open MixerValue (IsR)
open XattnRefIdeal

/-- What starts at a term and grows by a term at each point is the sum of the terms. -/
theorem acc {N : ℕ} (F : (n : ℕ) → n < N → EReal) (g : ℕ → EReal) (h0 : ∀ h, F 0 h = g 0)
    (hS : ∀ n (h : n + 1 < N), F (n + 1) h = F n (by omega) + g (n + 1)) :
    ∀ n h, F n h = ∑ s ∈ Finset.range (n + 1), g s := by
  intro n
  induction n with
  | zero => intro h; rw [h0 h]; simp
  | succ n ih => intro h; rw [hS n h, Finset.sum_range_succ, ih]

/-- The sum over the rows of all blocks is the sum over all rows. -/
theorem blocks (a b : ℕ) (hab : a * b = 8192) (f : Fin 8192 → EReal) :
    (∑ s ∈ Finset.range a, ∑ j : Fin b, Pool.ext f (b * s + j)) = ∑ r : Fin 8192, f r := by
  rw [Finset.sum_range]
  refine Fin.sum_mul_add_congr (hL := hab.symm) fun s r hl => ?_
  have e : b * s.val + r.val = s.val * b + r.val := by rw [Nat.mul_comm]
  rw [e]
  exact Pool.ext_of_lt f ⟨_, hl⟩

variable (first y h : FVec Ideal S8192x1024 .f32) (g : FVec Ideal S1024 .f32)

/-- The gradient of a row as the kernels write it: what reaches the row from elsewhere and the RMSNorm's gradient. -/
def rowG (d : FVec Ideal S8192x1024 .f32) (r : Fin 8192) (l : Fin 1024) : EReal :=
  d (ix2 r l) + Norm.dx (fun k => h (ix2 r k)) (fun k => y (ix2 r k) * g (ix1 k)) l

/-- A row's part of the gain's gradient. -/
def term (l : Fin 1024) (r : Fin 8192) : EReal := h (ix2 r l) * (Norm.rinv fun k => h (ix2 r k)) * y (ix2 r l)

/-- A row's part of the gain's gradient as the kernels multiply it. -/
theorem term_ext (l : Fin 1024) (n : ℕ) (r : Fin 8192) (hn : r.val = n) :
    y (ix2 r l) * (h (ix2 r l) * Norm.rinv fun k => h (ix2 r k)) = Pool.ext (term y h l) n := by
  subst hn
  rw [Pool.ext_of_lt]
  exact mul_comm _ _

theorem gain_eq (u : Fin 1) (l : Fin 1024) : NormRef.gain y h (ix2 u l) = ∑ r : Fin 8192, term y h l r := NormRef.gain_at y h u l

/-- Over real numbers the kernels' row gradient is the reference's. -/
theorem rows_eq (hy : ∀ r k, IsR (y (ix2 r k))) (hh : ∀ r k, IsR (h (ix2 r k))) (hg : ∀ k, IsR (g (ix1 k))) (d : EReal)
    (r : Fin 8192) (l : Fin 1024) (hf : first (ix2 r l) = d + y (ix2 r l) * g (ix1 l) * Norm.rinv fun k => h (ix2 r k)) :
    d + Norm.dx (fun k => h (ix2 r k)) (fun k => y (ix2 r k) * g (ix1 k)) l = NormRef.rows first y h g (ix2 r l) := by
  rw [NormRef.rows_at first y h g d r l hf]
  refine congrArg (d + ·) (Norm.dx_eq_chain _ _ ?_ ?_ l)
  · choose q e using hh r
    exact ⟨q, funext e⟩
  · choose q e using fun k => (hy r k).mul (hg k)
    exact ⟨q, funext e⟩

end Cert.NormWhole

end
-- ==== Proof.XattnValue.lean ====
/-
  The gradient of the product with an RMSNorm in front, weights as they lie: the kernel's three results (the rows'
  gradient, the same in the low width, the gain's gradient) are the reference's three, under finite arguments. The kernel
  runs eight points of 1024 rows and adds up the gain's gradient over them.
-/
module

public import proofs.«01_k».proof.Proof.NormWhole
public import proofs.«01_k».proof.Proof.MixValue
public import proofs.«01_k».proof.Proof.Gen.Xattn.Frame
public import proofs.«01_k».proof.Proof.Gen.XattnIdeal.Value
public import proofs.«01_k».proof.Proof.Gen.XattnRefIdeal.Run
public import proofs.«01_k».proof.Proof.Gen.Pre_finite_xattn

@[expose] public section

set_option maxRecDepth 16384

noncomputable section

namespace Cert.XattnValue

open Idealize.ShloMosaic Idealize.ShloMosaic.TcCoe
open XattnIdeal XattnIdeal.Gen
open MixerValue (AllR AllR.of IsR)
open NormWhole (term)

/-! ## One block -/

theorem pay3 (v w : Vec Ideal S1024x1024 .bf16) (r l : Fin 1024) :
    k0_pay3 v w (ix2 r l) = ∑ k : Fin 1024, v (ix2 r k) * w (ix2 l k) := by
  pointwise [k0_pay3]

theorem pay4 (x : Vec Ideal S1024x1024 .f32) (r : Fin 1024) (u : Fin 1) : k0_pay4 x (ix2 r u) = Norm.rinv fun k => x (ix2 r k) := by
  pointwise [k0_pay4]
  rfl

/-- The rows' gradient of a block. -/
theorem pay5 (v w : Vec Ideal S1024x1024 .bf16) (x d : Vec Ideal S1024x1024 .f32) (g : Vec Ideal S1x1024 .f32) (r l : Fin 1024) :
    k0_pay5 v w x g d (ix2 r l)
      = d (ix2 r l) + Norm.dx (fun k => x (ix2 r k)) (fun k => k0_pay3 v w (ix2 r k) * g (ix2 0 k)) l := by
  generalize ey : k0_pay3 v w = y
  unfold k0_pay5
  rw [ey]
  pointwise
  simp only [pay4]
  exact add_comm _ _

theorem pay6 (v w : Vec Ideal S1024x1024 .bf16) (x d : Vec Ideal S1024x1024 .f32) (g : Vec Ideal S1x1024 .f32) (r l : Fin 1024) :
    k0_pay6 v w x g d (ix2 r l) = k0_pay5 v w x g d (ix2 r l) := by
  unfold k0_pay6
  pointwise

/-- A block's part of the gain's gradient. -/
theorem pay1 (y : FVec Ideal S1024x1024 .f32) (x : Vec Ideal S1024x1024 .f32) (u : Fin 1) (l : Fin 1024) :
    k0_pay1 y x (k0_pay4 x) (ix2 u l) = ∑ r : Fin 1024, y (ix2 r l) * (x (ix2 r l) * Norm.rinv fun k => x (ix2 r k)) := by
  pointwise [k0_pay1]
  simp only [pay4]

theorem pay2 (y : FVec Ideal S1024x1024 .f32) (x : Vec Ideal S1024x1024 .f32) (v : FVec Ideal S1024x1 .f32) (a : Vec Ideal S1x1024 .f32) (u : Fin 1) (l : Fin 1024) :
    k0_pay2 y x v a (ix2 u l) = a (ix2 u l) + k0_pay1 y x v (ix2 u l) := by
  pointwise [k0_pay2]

/-! ## The blocks in the arrays -/

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = 0 ∧ win0_7.index t 1 = 0 := by decide +kernel

/-- The row `r` of a point's block. -/
def row (t : Fin cfg0.N) (r : Fin 1024) : Fin 8192 := ⟨t.val * 1024 + r.val, by have := t.isLt.trans_eq N_0; omega⟩

variable (m : (ℓ : Loc nD τ sig) → Buf (Elt Ideal) ℓ) (c : Dev nD)

/-- The cotangent of the product. -/
abbrev aQ : FVec Ideal S8192x1024 .bf16 := m ((c.tc : Thread nD τ).loc main_arg0)

/-- The weights. -/
abbrev aW : FVec Ideal S1024x1024 .bf16 := m ((c.tc : Thread nD τ).loc main_arg1)

/-- The rows. -/
abbrev aH : FVec Ideal S8192x1024 .f32 := m ((c.tc : Thread nD τ).loc main_arg2)

/-- The gain. -/
abbrev aG : FVec Ideal S1024 .f32 := m ((c.tc : Thread nD τ).loc main_arg3)

/-- The gradient that reaches the rows from elsewhere. -/
abbrev aD : FVec Ideal S8192x1024 .f32 := m ((c.tc : Thread nD τ).loc main_arg4)

/-- The cotangent of the normed rows. -/
def cot : FVec Ideal S8192x1024 .f32 := XattnRefIdeal.Read.val_main_v19 (F := Ideal) (aQ m c) (aW m c)

theorem cot_at (r : Fin 8192) (l : Fin 1024) : cot m c (ix2 r l) = ∑ k : Fin 1024, aQ m c (ix2 r k) * aW m c (ix2 l k) := by
  unfold cot XattnRefIdeal.Read.val_main_v19 XattnRefIdeal.Read.val_main_v18 XattnRefIdeal.Read.val_main_v0
  pointwise

variable (t : Fin cfg0.N)

theorem iblk0 (r l : Fin 1024) : iblk m c 0 t (ix2 r l) = aQ m c (ix2 (row t r) l) := by blk_ext [iblk, V, idx t, row]

theorem iblk1 (r l : Fin 1024) : iblk m c 1 t (ix2 r l) = aW m c (ix2 r l) := by blk_ext [iblk, V, idx t]

theorem iblk2 (r l : Fin 1024) : iblk m c 2 t (ix2 r l) = aH m c (ix2 (row t r) l) := by blk_ext [iblk, V, idx t, row]

theorem iblk3 (u : Fin 1) (l : Fin 1024) : iblk m c 3 t (ix2 u l) = aG m c (ix1 l) := by blk_ext! [iblk, V, idx t]

theorem iblk4 (r l : Fin 1024) : iblk m c 4 t (ix2 r l) = aD m c (ix2 (row t r) l) := by blk_ext [iblk, V, idx t, row]

theorem cotT (r l : Fin 1024) : k0_pay3 (F := Ideal) (iblk m c 0 t) (iblk m c 1 t) (ix2 r l) = cot m c (ix2 (row t r) l) := by
  rw [pay3, cot_at]
  simp only [iblk0, iblk1]

/-- The gradient of a row, from the whole arrays. -/
abbrev rowG (r : Fin 8192) (l : Fin 1024) : EReal := NormWhole.rowG (cot m c) (aH m c) (aG m c) (aD m c) r l

theorem rowsT (r l : Fin 1024) :
    k0_pay5 (F := Ideal) (iblk m c 0 t) (iblk m c 1 t) (iblk m c 2 t) (iblk m c 3 t) (iblk m c 4 t) (ix2 r l) = rowG m c (row t r) l := by
  rw [pay5]
  simp only [cotT, iblk2, iblk3, iblk4]
  rfl

/-- A point's part of the gain's gradient. -/
theorem partT (u : Fin 1) (l : Fin 1024) :
    k0_pay1 (F := Ideal) (k0_pay3 (iblk m c 0 t) (iblk m c 1 t)) (iblk m c 2 t) (k0_pay4 (iblk m c 2 t)) (ix2 u l)
      = ∑ r : Fin 1024, Pool.ext (term (cot m c) (aH m c) l) (1024 * t.val + r) := by
  rw [pay1]
  refine Finset.sum_congr rfl fun r _ => ?_
  rw [cotT]
  simp only [iblk2]
  exact NormWhole.term_ext (cot m c) (aH m c) l _ (row t r) (by show t.val * 1024 + r.val = _; omega)

/-! ## The points -/

theorem out5 (y : S1024x1024.Idx) : (outsAt0 m c t.val t.isLt).1 y = rowG m c (row t (y 0)) (y 1) := by
  idx_vars y
  by_cases h : t.val % 8 = 0
  · rw [outsAt0_A m c t h (by have := t.isLt.trans_eq N_0; omega)]
    frame_out
    exact rowsT m c t y0 y1
  · rw [outsAt0_B m c t h (by omega)]
    frame_out
    exact rowsT m c t y0 y1

theorem out6 (y : S1024x1024.Idx) : (outsAt0 m c t.val t.isLt).2.1 y = rowG m c (row t (y 0)) (y 1) := by
  idx_vars y
  by_cases h : t.val % 8 = 0
  · rw [outsAt0_A m c t h (by have := t.isLt.trans_eq N_0; omega)]
    frame_out
    exact (pay6 _ _ _ _ _ y0 y1).trans (rowsT m c t y0 y1)
  · rw [outsAt0_B m c t h (by omega)]
    frame_out
    exact (pay6 _ _ _ _ _ y0 y1).trans (rowsT m c t y0 y1)

theorem out7_A (h : t.val % 8 = 0) (y : S1x1024.Idx) :
    (outsAt0 m c t.val t.isLt).2.2 y = ∑ r : Fin 1024, Pool.ext (term (cot m c) (aH m c) (y 1)) (1024 * t.val + r) := by
  idx_vars y
  rw [outsAt0_A m c t h (by have := t.isLt.trans_eq N_0; omega)]
  frame_out
  exact partT m c t y0 y1

theorem out7_B (h : ¬t.val % 8 = 0) (y : S1x1024.Idx) :
    (outsAt0 m c t.val t.isLt).2.2 y = (outsAt0 m c (t.val - 1) (by omega)).2.2 y
      + ∑ r : Fin 1024, Pool.ext (term (cot m c) (aH m c) (y 1)) (1024 * t.val + r) := by
  idx_vars y
  rw [outsAt0_B m c t h (by omega)]
  frame_out
  exact (pay2 _ _ _ _ y0 y1).trans (congrArg (_ + ·) (partT m c t y0 y1))

omit t in
/-- After a point the gain's buffer holds the sum over the rows so far. -/
theorem after7 (y : S1x1024.Idx) (n : ℕ) (h : n < cfg0.N) : (outsAt0 m c n h).2.2 y
    = ∑ s ∈ Finset.range (n + 1), ∑ r : Fin 1024, Pool.ext (term (cot m c) (aH m c) (y 1)) (1024 * s + r) :=
  NormWhole.acc (fun n h => (outsAt0 m c n h).2.2 y) (fun s => ∑ r : Fin 1024, Pool.ext (term (cot m c) (aH m c) (y 1)) (1024 * s + r))
    (fun h => out7_A m c ⟨0, h⟩ rfl y)
    (fun n h => out7_B m c ⟨n + 1, h⟩ (by have := h.trans_eq N_0; show ¬(n + 1) % 8 = 0; omega) y) n h

/-! ## The whole arrays -/

omit t in
theorem arr5 (R : FVec Ideal S8192x1024 .f32) (hR : ∀ r l, R (ix2 r l) = rowG m c r l) : (dats m 0 c).arrAt 5 cfg0.N = R := by
  refine (dats m 0 c).arrAt_eq_of_covers 5 _ (by decide +kernel) fun t hf y => ?_
  blk_simp
  rw [after0_5]
  have e := out5 m c t y
  idx_vars y
  refine e.trans ((hR _ _).symm.trans ?_)
  blk_ext [idx t, row]

omit t in
theorem arr6 (R : FVec Ideal S8192x1024 .bf16) (hR : ∀ r l, R (ix2 r l) = rowG m c r l) : (dats m 0 c).arrAt 6 cfg0.N = R := by
  refine (dats m 0 c).arrAt_eq_of_covers 6 _ (by decide +kernel) fun t hf y => ?_
  blk_simp
  rw [after0_6]
  have e := out6 m c t y
  idx_vars y
  refine e.trans ((hR _ _).symm.trans ?_)
  blk_ext [idx t, row]

omit t in
theorem arr7 (R : FVec Ideal S1x1024 .f32) (hR : ∀ u l, R (ix2 u l) = ∑ r : Fin 8192, term (cot m c) (aH m c) l r) :
    (dats m 0 c).arrAt 7 cfg0.N = R := by
  refine (dats m 0 c).arrAt_eq_of_covers 7 _ (by decide +kernel) fun t hf y => ?_
  blk_simp
  rw [after0_7]
  have ht : t.val + 1 = 8 := by have := (flush0_7 t).mp hf; have := t.isLt.trans_eq N_0; omega
  have e := after7 m c y t.val t.isLt
  rw [ht, NormWhole.blocks 8 1024 rfl] at e
  idx_vars y
  refine e.trans ((hR y0 y1).symm.trans ?_)
  blk_ext [idx t]

/-! ## The claim -/

/-- Under the precondition the arguments that enter a division are arrays of reals. -/
theorem reals (hpre : Pre_XattnIdeal_finite_xattn (hPre_finite_xattn := Pre_finite_xattn.Gen.facts) m) :
    AllR (aQ m c) ∧ AllR (aW m c) ∧ AllR (aH m c) ∧ AllR (aG m c) := by
  have e := congrFun (hpre c) (ix0 : Pre_finite_xattn.S_.Idx)
  simp only [Pre_finite_xattn.fn, Pre_finite_xattn.fn_part1, andi, IntOp.andi_eq_one] at e
  obtain ⟨⟨⟨⟨-, e0⟩, e1⟩, e2⟩, e3⟩ := e
  exact ⟨AllR.of (Reals.real_of_abs_lt _ _ (fun _ => by pointwise; exact Reals.ofBits_inf_bf16) _ _ _ _ e0),
    AllR.of (Reals.real_of_abs_lt _ _ (fun _ => by pointwise; exact Reals.ofBits_inf_bf16) _ _ _ _ e1),
    AllR.of (Reals.real_of_abs_lt _ _ (fun _ => by pointwise; exact Reals.ofBits_inf) _ _ _ _ e2),
    AllR.of (Reals.real_of_abs_lt _ _ (fun _ => by pointwise; exact Reals.ofBits_inf) _ _ _ _ e3)⟩

/-- The reference's row gradient. -/
theorem ref_rows (hpre : Pre_XattnIdeal_finite_xattn (hPre_finite_xattn := Pre_finite_xattn.Gen.facts) m) (r : Fin 8192) (l : Fin 1024) :
    XattnRefIdeal.Read.val_main_v40 (F := Ideal) (aQ m c) (aW m c) (aH m c) (aG m c) (aD m c) (ix2 r l) = rowG m c r l := by
  obtain ⟨hQ, hW, hH, hG⟩ := reals m c hpre
  refine Eq.trans rfl (NormWhole.rows_eq (XattnRefIdeal.Read.val_main_v31 (F := Ideal) (aQ m c) (aW m c) (aH m c) (aG m c) (aD m c)) (cot m c) (aH m c) (aG m c)
    (fun r k => ?_) (fun r k => hH _) (fun k => hG _) (aD m c (ix2 r l)) r l ?_).symm
  · rw [cot_at]
    exact IsR.sum fun i => (hQ _).mul (hW _)
  · exact congrArg (aD m c (ix2 r l) + ·) (NormRef.scaled_at (cot m c) (aH m c) (aG m c) r l)

/-- Kernel and reference end with the same three results. -/
theorem algebraic : @algebraic_XattnIdeal_XattnRefIdeal_pre_finite_xattn XattnIdeal.Gen.facts XattnRefIdeal.Gen.facts
    Pre_finite_xattn.Gen.facts := by
  pair_intro
  · run_from XattnIdeal.Value.run_blocks m g
  · run_from XattnRefIdeal.Value.run m' g'
    all_goals
      obtain ⟨e0, e1, e2, e3, e4⟩ := hagree c
    · rw [XattnRefIdeal.Read.val_main_v40_eq, e0, e1, e2, e3, e4]
      exact (arr5 m c _ fun r l => ref_rows m c hpre r l).symm
    · rw [XattnRefIdeal.Read.val_main_v41_eq, e0, e1, e2, e3, e4]
      exact (arr6 m c _ fun r l => ref_rows m c hpre r l).symm
    · rw [XattnRefIdeal.Read.val_main_v42_eq]
      exact (arr7 m c _ fun u l => NormWhole.gain_eq (cot m c) (aH m c) u l).symm

/-- The reference leaves its arguments as they were and every counter at zero. -/
theorem quiescent_ref : @quiescent_XattnRefIdeal XattnRefIdeal.Gen.facts := fun m ρ _ =>
  (θ_run XattnRefIdeal.defs _ _).mono (fun r h => ⟨fun c => (h c).2.2.2, sem_eq_zero_of_no_sems (by decide) r.2⟩)
    (XattnRefIdeal.Value.run (F := Ideal) m ρ)

/-- The reference's frame under the precondition. -/
theorem quiescent_ref_pre : @quiescent_XattnRefIdeal_pre_finite_xattn XattnRefIdeal.Gen.facts Pre_finite_xattn.Gen.facts :=
  fun m ρ _ => quiescent_ref m ρ trivial

end Cert.XattnValue

end
-- ==== Proof.MixNormValue.lean ====
/-
  The gradient of the mixer's first product with the RMSNorm in front of it, weights transposed: the kernel's three results (the rows'
  gradient, the same in the low width, the gain's gradient) are the reference's three, under finite arguments. The kernel
  runs eight points of 1024 rows and adds up the gain's gradient over them.
-/
module

public import proofs.«01_k».proof.Proof.XattnValue
public import proofs.«01_k».proof.Proof.MixValue
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Pre_finite_mix

@[expose] public section

set_option maxRecDepth 16384

noncomputable section

namespace Cert.MixNormValue

open Idealize.ShloMosaic Idealize.ShloMosaic.TcCoe
open MixIdeal MixIdeal.Gen
open MixerValue (AllR AllR.of IsR)
open NormWhole (term)

/-! ## One block -/

theorem pay3 (v : Vec Ideal S1024x1536 .bf16) (w : Vec Ideal S1536x1024 .bf16) (r l : Fin 1024) :
    k0_pay3 v w (ix2 r l) = ∑ k : Fin 1536, v (ix2 r k) * w (ix2 k l) := by
  pointwise [k0_pay3]

theorem pay4 (x : Vec Ideal S1024x1024 .f32) (r : Fin 1024) (u : Fin 1) : k0_pay4 x (ix2 r u) = Norm.rinv fun k => x (ix2 r k) :=
  XattnValue.pay4 x r u

/-- The rows' gradient of a block. -/
theorem pay5 (v : Vec Ideal S1024x1536 .bf16) (w : Vec Ideal S1536x1024 .bf16) (x d : Vec Ideal S1024x1024 .f32) (g : Vec Ideal S1x1024 .f32) (r l : Fin 1024) :
    k0_pay5 v w x g d (ix2 r l)
      = d (ix2 r l) + Norm.dx (fun k => x (ix2 r k)) (fun k => k0_pay3 v w (ix2 r k) * g (ix2 0 k)) l := by
  generalize ey : k0_pay3 v w = y
  unfold k0_pay5
  rw [ey]
  pointwise
  simp only [pay4]
  exact add_comm _ _

theorem pay6 (v : Vec Ideal S1024x1536 .bf16) (w : Vec Ideal S1536x1024 .bf16) (x d : Vec Ideal S1024x1024 .f32) (g : Vec Ideal S1x1024 .f32) (r l : Fin 1024) :
    k0_pay6 v w x g d (ix2 r l) = k0_pay5 v w x g d (ix2 r l) := by
  unfold k0_pay6
  pointwise

/-- A block's part of the gain's gradient. -/
theorem pay1 (y : FVec Ideal S1024x1024 .f32) (x : Vec Ideal S1024x1024 .f32) (u : Fin 1) (l : Fin 1024) :
    k0_pay1 y x (k0_pay4 x) (ix2 u l) = ∑ r : Fin 1024, y (ix2 r l) * (x (ix2 r l) * Norm.rinv fun k => x (ix2 r k)) :=
  XattnValue.pay1 y x u l

theorem pay2 (y : FVec Ideal S1024x1024 .f32) (x : Vec Ideal S1024x1024 .f32) (v : FVec Ideal S1024x1 .f32) (a : Vec Ideal S1x1024 .f32) (u : Fin 1) (l : Fin 1024) :
    k0_pay2 y x v a (ix2 u l) = a (ix2 u l) + k0_pay1 y x v (ix2 u l) :=
  XattnValue.pay2 y x v a u l

/-! ## The blocks in the arrays -/

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = 0 ∧ win0_7.index t 1 = 0 := by decide +kernel

/-- The row `r` of a point's block. -/
def row (t : Fin cfg0.N) (r : Fin 1024) : Fin 8192 := ⟨t.val * 1024 + r.val, by have := t.isLt.trans_eq N_0; omega⟩

variable (m : (ℓ : Loc nD τ sig) → Buf (Elt Ideal) ℓ) (c : Dev nD)

/-- The cotangent of the product. -/
abbrev aQ : FVec Ideal S8192x1536 .bf16 := m ((c.tc : Thread nD τ).loc main_arg0)

/-- The weights. -/
abbrev aW : FVec Ideal S1536x1024 .bf16 := m ((c.tc : Thread nD τ).loc main_arg1)

/-- The rows. -/
abbrev aH : FVec Ideal S8192x1024 .f32 := m ((c.tc : Thread nD τ).loc main_arg2)

/-- The gain. -/
abbrev aG : FVec Ideal S1024 .f32 := m ((c.tc : Thread nD τ).loc main_arg3)

/-- The gradient that reaches the rows from elsewhere. -/
abbrev aD : FVec Ideal S8192x1024 .f32 := m ((c.tc : Thread nD τ).loc main_arg4)

/-- The cotangent of the normed rows. -/
def cot : FVec Ideal S8192x1024 .f32 := MixRefIdeal.Read.val_main_v20 (F := Ideal) (aQ m c) (aW m c)

theorem cot_at (r : Fin 8192) (l : Fin 1024) : cot m c (ix2 r l) = ∑ k : Fin 1536, aQ m c (ix2 r k) * aW m c (ix2 k l) := by
  unfold cot MixRefIdeal.Read.val_main_v20 MixRefIdeal.Read.val_main_v19 MixRefIdeal.Read.val_main_v1 MixRefIdeal.Read.val_main_v0
  pointwise

variable (t : Fin cfg0.N)

theorem iblk0 (r : Fin 1024) (l : Fin 1536) : iblk m c 0 t (ix2 r l) = aQ m c (ix2 (row t r) l) := by blk_ext [iblk, V, idx t, row]

theorem iblk1 (r : Fin 1536) (l : Fin 1024) : iblk m c 1 t (ix2 r l) = aW m c (ix2 r l) := by blk_ext [iblk, V, idx t]

theorem iblk2 (r l : Fin 1024) : iblk m c 2 t (ix2 r l) = aH m c (ix2 (row t r) l) := by blk_ext [iblk, V, idx t, row]

theorem iblk3 (u : Fin 1) (l : Fin 1024) : iblk m c 3 t (ix2 u l) = aG m c (ix1 l) := by blk_ext! [iblk, V, idx t]

theorem iblk4 (r l : Fin 1024) : iblk m c 4 t (ix2 r l) = aD m c (ix2 (row t r) l) := by blk_ext [iblk, V, idx t, row]

theorem cotT (r l : Fin 1024) : k0_pay3 (F := Ideal) (iblk m c 0 t) (iblk m c 1 t) (ix2 r l) = cot m c (ix2 (row t r) l) := by
  rw [pay3, cot_at]
  simp only [iblk0, iblk1]

/-- The gradient of a row, from the whole arrays. -/
abbrev rowG (r : Fin 8192) (l : Fin 1024) : EReal := NormWhole.rowG (cot m c) (aH m c) (aG m c) (aD m c) r l

theorem rowsT (r l : Fin 1024) :
    k0_pay5 (F := Ideal) (iblk m c 0 t) (iblk m c 1 t) (iblk m c 2 t) (iblk m c 3 t) (iblk m c 4 t) (ix2 r l) = rowG m c (row t r) l := by
  rw [pay5]
  simp only [cotT, iblk2, iblk3, iblk4]
  rfl

/-- A point's part of the gain's gradient. -/
theorem partT (u : Fin 1) (l : Fin 1024) :
    k0_pay1 (F := Ideal) (k0_pay3 (iblk m c 0 t) (iblk m c 1 t)) (iblk m c 2 t) (k0_pay4 (iblk m c 2 t)) (ix2 u l)
      = ∑ r : Fin 1024, Pool.ext (term (cot m c) (aH m c) l) (1024 * t.val + r) := by
  rw [pay1]
  refine Finset.sum_congr rfl fun r _ => ?_
  rw [cotT]
  simp only [iblk2]
  exact NormWhole.term_ext (cot m c) (aH m c) l _ (row t r) (by show t.val * 1024 + r.val = _; omega)

/-! ## The points -/

theorem out5 (y : S1024x1024.Idx) : (outsAt0 m c t.val t.isLt).1 y = rowG m c (row t (y 0)) (y 1) := by
  idx_vars y
  by_cases h : t.val % 8 = 0
  · rw [outsAt0_A m c t h (by have := t.isLt.trans_eq N_0; omega)]
    frame_out
    exact rowsT m c t y0 y1
  · rw [outsAt0_B m c t h (by omega)]
    frame_out
    exact rowsT m c t y0 y1

theorem out6 (y : S1024x1024.Idx) : (outsAt0 m c t.val t.isLt).2.1 y = rowG m c (row t (y 0)) (y 1) := by
  idx_vars y
  by_cases h : t.val % 8 = 0
  · rw [outsAt0_A m c t h (by have := t.isLt.trans_eq N_0; omega)]
    frame_out
    exact (pay6 _ _ _ _ _ y0 y1).trans (rowsT m c t y0 y1)
  · rw [outsAt0_B m c t h (by omega)]
    frame_out
    exact (pay6 _ _ _ _ _ y0 y1).trans (rowsT m c t y0 y1)

theorem out7_A (h : t.val % 8 = 0) (y : S1x1024.Idx) :
    (outsAt0 m c t.val t.isLt).2.2 y = ∑ r : Fin 1024, Pool.ext (term (cot m c) (aH m c) (y 1)) (1024 * t.val + r) := by
  idx_vars y
  rw [outsAt0_A m c t h (by have := t.isLt.trans_eq N_0; omega)]
  frame_out
  exact partT m c t y0 y1

theorem out7_B (h : ¬t.val % 8 = 0) (y : S1x1024.Idx) :
    (outsAt0 m c t.val t.isLt).2.2 y = (outsAt0 m c (t.val - 1) (by omega)).2.2 y
      + ∑ r : Fin 1024, Pool.ext (term (cot m c) (aH m c) (y 1)) (1024 * t.val + r) := by
  idx_vars y
  rw [outsAt0_B m c t h (by omega)]
  frame_out
  exact (pay2 _ _ _ _ y0 y1).trans (congrArg (_ + ·) (partT m c t y0 y1))

omit t in
/-- After a point the gain's buffer holds the sum over the rows so far. -/
theorem after7 (y : S1x1024.Idx) (n : ℕ) (h : n < cfg0.N) : (outsAt0 m c n h).2.2 y
    = ∑ s ∈ Finset.range (n + 1), ∑ r : Fin 1024, Pool.ext (term (cot m c) (aH m c) (y 1)) (1024 * s + r) :=
  NormWhole.acc (fun n h => (outsAt0 m c n h).2.2 y) (fun s => ∑ r : Fin 1024, Pool.ext (term (cot m c) (aH m c) (y 1)) (1024 * s + r))
    (fun h => out7_A m c ⟨0, h⟩ rfl y)
    (fun n h => out7_B m c ⟨n + 1, h⟩ (by have := h.trans_eq N_0; show ¬(n + 1) % 8 = 0; omega) y) n h

/-! ## The whole arrays -/

omit t in
theorem arr5 (R : FVec Ideal S8192x1024 .f32) (hR : ∀ r l, R (ix2 r l) = rowG m c r l) : (dats m 0 c).arrAt 5 cfg0.N = R := by
  refine (dats m 0 c).arrAt_eq_of_covers 5 _ (by decide +kernel) fun t hf y => ?_
  blk_simp
  rw [after0_5]
  have e := out5 m c t y
  idx_vars y
  refine e.trans ((hR _ _).symm.trans ?_)
  blk_ext [idx t, row]

omit t in
theorem arr6 (R : FVec Ideal S8192x1024 .bf16) (hR : ∀ r l, R (ix2 r l) = rowG m c r l) : (dats m 0 c).arrAt 6 cfg0.N = R := by
  refine (dats m 0 c).arrAt_eq_of_covers 6 _ (by decide +kernel) fun t hf y => ?_
  blk_simp
  rw [after0_6]
  have e := out6 m c t y
  idx_vars y
  refine e.trans ((hR _ _).symm.trans ?_)
  blk_ext [idx t, row]

omit t in
theorem arr7 (R : FVec Ideal S1x1024 .f32) (hR : ∀ u l, R (ix2 u l) = ∑ r : Fin 8192, term (cot m c) (aH m c) l r) :
    (dats m 0 c).arrAt 7 cfg0.N = R := by
  refine (dats m 0 c).arrAt_eq_of_covers 7 _ (by decide +kernel) fun t hf y => ?_
  blk_simp
  rw [after0_7]
  have ht : t.val + 1 = 8 := by have := (flush0_7 t).mp hf; have := t.isLt.trans_eq N_0; omega
  have e := after7 m c y t.val t.isLt
  rw [ht, NormWhole.blocks 8 1024 rfl] at e
  idx_vars y
  refine e.trans ((hR y0 y1).symm.trans ?_)
  blk_ext [idx t]

/-! ## The claim -/

/-- Under the precondition the arguments that enter a division are arrays of reals. -/
theorem reals (hpre : Pre_MixIdeal_finite_mix (hPre_finite_mix := Pre_finite_mix.Gen.facts) m) :
    AllR (aQ m c) ∧ AllR (aW m c) ∧ AllR (aH m c) ∧ AllR (aG m c) := by
  have e := congrFun (hpre c) (ix0 : Pre_finite_mix.S_.Idx)
  simp only [Pre_finite_mix.fn, Pre_finite_mix.fn_part1, andi, IntOp.andi_eq_one] at e
  obtain ⟨⟨⟨⟨-, e0⟩, e1⟩, e2⟩, e3⟩ := e
  exact ⟨AllR.of (Reals.real_of_abs_lt _ _ (fun _ => by pointwise; exact Reals.ofBits_inf_bf16) _ _ _ _ e0),
    AllR.of (Reals.real_of_abs_lt _ _ (fun _ => by pointwise; exact Reals.ofBits_inf_bf16) _ _ _ _ e1),
    AllR.of (Reals.real_of_abs_lt _ _ (fun _ => by pointwise; exact Reals.ofBits_inf) _ _ _ _ e2),
    AllR.of (Reals.real_of_abs_lt _ _ (fun _ => by pointwise; exact Reals.ofBits_inf) _ _ _ _ e3)⟩

/-- The reference's row gradient. -/
theorem ref_rows (hpre : Pre_MixIdeal_finite_mix (hPre_finite_mix := Pre_finite_mix.Gen.facts) m) (r : Fin 8192) (l : Fin 1024) :
    MixRefIdeal.Read.val_main_v41 (F := Ideal) (aQ m c) (aW m c) (aH m c) (aG m c) (aD m c) (ix2 r l) = rowG m c r l := by
  obtain ⟨hQ, hW, hH, hG⟩ := reals m c hpre
  refine Eq.trans rfl (NormWhole.rows_eq (MixRefIdeal.Read.val_main_v32 (F := Ideal) (aQ m c) (aW m c) (aH m c) (aG m c) (aD m c)) (cot m c) (aH m c) (aG m c)
    (fun r k => ?_) (fun r k => hH _) (fun k => hG _) (aD m c (ix2 r l)) r l ?_).symm
  · rw [cot_at]
    exact IsR.sum fun i => (hQ _).mul (hW _)
  · exact congrArg (aD m c (ix2 r l) + ·) (NormRef.scaled_at (cot m c) (aH m c) (aG m c) r l)

/-- Kernel and reference end with the same three results. -/
theorem algebraic : @algebraic_MixIdeal_MixRefIdeal_pre_finite_mix MixIdeal.Gen.facts MixRefIdeal.Gen.facts
    Pre_finite_mix.Gen.facts := by
  pair_intro
  · run_from MixIdeal.Value.run_blocks m g
  · run_from MixRefIdeal.Value.run m' g'
    all_goals
      obtain ⟨e0, e1, e2, e3, e4⟩ := hagree c
    · rw [MixRefIdeal.Read.val_main_v41_eq, e0, e1, e2, e3, e4]
      exact (arr5 m c _ fun r l => ref_rows m c hpre r l).symm
    · rw [MixRefIdeal.Read.val_main_v42_eq, e0, e1, e2, e3, e4]
      exact (arr6 m c _ fun r l => ref_rows m c hpre r l).symm
    · rw [MixRefIdeal.Read.val_main_v43_eq]
      exact (arr7 m c _ fun u l => NormWhole.gain_eq (cot m c) (aH m c) u l).symm

/-- The reference leaves its arguments as they were and every counter at zero. -/
theorem quiescent_ref : @quiescent_MixRefIdeal MixRefIdeal.Gen.facts := fun m ρ _ =>
  (θ_run MixRefIdeal.defs _ _).mono (fun r h => ⟨fun c => (h c).2.2.2, sem_eq_zero_of_no_sems (by decide) r.2⟩)
    (MixRefIdeal.Value.run (F := Ideal) m ρ)

/-- The reference's frame under the precondition. -/
theorem quiescent_ref_pre : @quiescent_MixRefIdeal_pre_finite_mix MixRefIdeal.Gen.facts Pre_finite_mix.Gen.facts :=
  fun m ρ _ => quiescent_ref m ρ trivial

end Cert.MixNormValue

end
-- ==== Proof.FfnValue.lean ====
/-
  The gradient of the feed-forward block's first product with the RMSNorm in front of it, weights transposed: the
  kernel's three results (the rows' gradient, the same in the low width, the gain's gradient) are the reference's three,
  under finite arguments. The kernel runs sixteen blocks of 512 rows and, for each, two halves of the product's width:
  the first half's product waits in a scratch buffer, and only the second half writes. The reference lays the halves side
  by side and takes one product.
-/
module

public import proofs.«01_k».proof.Proof.NormWhole
public import proofs.«01_k».proof.Proof.MixValue
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Pre_finite_ffn

@[expose] public section

set_option maxRecDepth 16384

noncomputable section

namespace Cert.FfnValue

open Idealize.ShloMosaic Idealize.ShloMosaic.TcCoe
open FfnIdeal FfnIdeal.Gen
open MixerValue (AllR AllR.of IsR)
open NormWhole (term)

/-! ## One block -/

/-- The product of one half of the width. -/
theorem pay1 (v : Vec Ideal S1x512x2816 .bf16) (w : Vec Ideal S2816x1024 .bf16) (r : Fin 512) (l : Fin 1024) :
    k0_pay1 v w (ix2 r l) = ∑ k : Fin 2816, v (ix3 0 r k) * w (ix2 k l) := by
  pointwise [k0_pay1]

theorem pay2 (v : Vec Ideal S1x512x2816 .bf16) (w : Vec Ideal S2816x1024 .bf16) (r : Fin 512) (l : Fin 1024) :
    k0_pay2 v w (ix2 r l) = k0_pay1 v w (ix2 r l) := by
  pointwise [k0_pay2]

theorem pay3 (v : Vec Ideal S1x512x2816 .bf16) (w : Vec Ideal S2816x1024 .bf16) (a : Vec Ideal S512x1024 .f32) (r : Fin 512) (l : Fin 1024) :
    k0_pay3 v w a (ix2 r l) = a (ix2 r l) + k0_pay1 v w (ix2 r l) := by
  pointwise [k0_pay3]

theorem pay5 (x : Vec Ideal S512x1024 .f32) (r : Fin 512) (u : Fin 1) : k0_pay5 x (ix2 r u) = Norm.rinv fun k => x (ix2 r k) := by
  pointwise [k0_pay5]
  rfl

/-- The rows' gradient of a block. -/
theorem pay6 (y x d : Vec Ideal S512x1024 .f32) (g : Vec Ideal S1x1024 .f32) (r : Fin 512) (l : Fin 1024) :
    k0_pay6 y x g d (ix2 r l) = d (ix2 r l) + Norm.dx (fun k => x (ix2 r k)) (fun k => y (ix2 r k) * g (ix2 0 k)) l := by
  unfold k0_pay6
  pointwise
  simp only [pay5]
  exact add_comm _ _

theorem pay7 (y x d : Vec Ideal S512x1024 .f32) (g : Vec Ideal S1x1024 .f32) (r : Fin 512) (l : Fin 1024) :
    k0_pay7 y x g d (ix2 r l) = k0_pay6 y x g d (ix2 r l) := by
  unfold k0_pay7
  pointwise

/-- A block's part of the gain's gradient. -/
theorem pay8 (y x : Vec Ideal S512x1024 .f32) (u : Fin 1) (l : Fin 1024) :
    k0_pay8 y x (ix2 u l) = ∑ r : Fin 512, y (ix2 r l) * (x (ix2 r l) * Norm.rinv fun k => x (ix2 r k)) := by
  pointwise [k0_pay8]
  simp only [pay5]

theorem pay4 (p : FVec Ideal S1x1024 .f32) (a : Vec Ideal S1x1024 .f32) (u : Fin 1) (l : Fin 1024) :
    k0_pay4 p a (ix2 u l) = a (ix2 u l) + p (ix2 u l) := by
  pointwise [k0_pay4]

/-! ## The blocks in the arrays -/

theorem idx : ∀ t : Fin cfg0.N, win0_0.index t 0 = t.val % 2 ∧ win0_0.index t 1 = t.val / 2 ∧ win0_0.index t 2 = 0
    ∧ win0_1.index t 0 = t.val % 2 ∧ win0_1.index t 1 = 0
    ∧ win0_2.index t 0 = t.val / 2 ∧ win0_2.index t 1 = 0 ∧ win0_3.index t 0 = 0 ∧ win0_3.index t 1 = 0
    ∧ win0_4.index t 0 = t.val / 2 ∧ win0_4.index t 1 = 0 ∧ win0_5.index t 0 = t.val / 2 ∧ win0_5.index t 1 = 0
    ∧ win0_6.index t 0 = t.val / 2 ∧ win0_6.index t 1 = 0 ∧ win0_7.index t 0 = 0 ∧ win0_7.index t 1 = 0 := by decide +kernel

/-- The row `r` of a point's block. -/
def row (t : Fin cfg0.N) (r : Fin 512) : Fin 8192 := ⟨t.val / 2 * 512 + r.val, by have := t.isLt.trans_eq N_0; omega⟩

/-- The half of the width that a point multiplies. -/
def half (t : Fin cfg0.N) : Fin 2 := ⟨t.val % 2, by omega⟩

/-- Where a half's column lies in the whole width. -/
def col (p : Fin 2) (k : Fin 2816) : Fin 5632 := ⟨p.val * 2816 + k.val, by omega⟩

variable (m : (ℓ : Loc nD τ sig) → Buf (Elt Ideal) ℓ) (c : Dev nD)

/-- The cotangent of the product, half by half. -/
abbrev aQ : FVec Ideal S2x8192x2816 .bf16 := m ((c.tc : Thread nD τ).loc main_arg0)

/-- The weights. -/
abbrev aW : FVec Ideal S5632x1024 .bf16 := m ((c.tc : Thread nD τ).loc main_arg1)

/-- The rows. -/
abbrev aH : FVec Ideal S8192x1024 .f32 := m ((c.tc : Thread nD τ).loc main_arg2)

/-- The gain. -/
abbrev aG : FVec Ideal S1024 .f32 := m ((c.tc : Thread nD τ).loc main_arg3)

/-- The gradient that reaches the rows from elsewhere. -/
abbrev aD : FVec Ideal S8192x1024 .f32 := m ((c.tc : Thread nD τ).loc main_arg4)

/-- The cotangent of the normed rows. -/
def cot : FVec Ideal S8192x1024 .f32 := FfnRefIdeal.Read.val_main_v26 (F := Ideal) (aQ m c) (aW m c)

/-- The halves side by side. -/
theorem side_at (Q : FVec Ideal S2x8192x2816 .bf16) (r : Fin 8192) (p : Fin 2) (k : Fin 2816) :
    FfnRefIdeal.Read.val_main_v8 (F := Ideal) Q (ix2 r (col p k)) = Q (ix3 p r k) := by
  unfold FfnRefIdeal.Read.val_main_v8 FfnRefIdeal.Read.val_main_v7 FfnRefIdeal.Read.val_main_v6 FfnRefIdeal.Read.val_main_v5
    FfnRefIdeal.Read.val_main_v4 FfnRefIdeal.Read.val_main_v3 FfnRefIdeal.Read.val_main_v2
  pointwise
  fin_cases p
  · have h : (col 0 k).val < 2816 := by show 0 * 2816 + k.val < 2816; omega
    refine (dif_pos h).trans ((congrArg Q (congrArg (ix3 0 r) (Fin.ext ?_))))
    show 0 * 2816 + k.val = k.val
    omega
  · have h : ¬(col 1 k).val < 2816 := by show ¬1 * 2816 + k.val < 2816; omega
    refine (dif_neg h).trans ((congrArg Q (congrArg (ix3 1 r) (Fin.ext ?_))))
    show 1 * 2816 + k.val - 2816 = k.val
    omega

/-- A half's part of a product. -/
def part (p : Fin 2) (r : Fin 8192) (l : Fin 1024) : EReal := ∑ k : Fin 2816, aQ m c (ix3 p r k) * aW m c (ix2 (col p k) l)

theorem cot_at (r : Fin 8192) (l : Fin 1024) : cot m c (ix2 r l) = part m c 0 r l + part m c 1 r l := by
  have e : cot m c (ix2 r l) = ∑ k : Fin 5632, FfnRefIdeal.Read.val_main_v8 (F := Ideal) (aQ m c) (ix2 r k) * aW m c (ix2 k l) := by
    unfold cot FfnRefIdeal.Read.val_main_v26 FfnRefIdeal.Read.val_main_v1 FfnRefIdeal.Read.val_main_v0
    generalize FfnRefIdeal.Read.val_main_v8 (F := Ideal) (aQ m c) = q
    pointwise
  rw [e, ← Fin.sum_univ_two fun p => part m c p r l]
  symm
  show (∑ p : Fin 2, ∑ k : Fin 2816, aQ m c (ix3 p r k) * aW m c (ix2 (col p k) l)) = _
  refine Fin.sum_mul_add_congr (hL := by norm_num) fun p k hl => ?_
  exact congrArg (· * aW m c (ix2 (col p k) l)) (side_at (aQ m c) r p k).symm

variable (t : Fin cfg0.N)

theorem iblk0 (r : Fin 512) (k : Fin 2816) : iblk m c 0 t (ix3 0 r k) = aQ m c (ix3 (half t) (row t r) k) := by
  blk_ext [iblk, V, idx t, row, half]

theorem iblk1 (k : Fin 2816) (l : Fin 1024) : iblk m c 1 t (ix2 k l) = aW m c (ix2 (col (half t) k) l) := by
  blk_ext [iblk, V, idx t, col, half]

theorem iblk2 (r : Fin 512) (l : Fin 1024) : iblk m c 2 t (ix2 r l) = aH m c (ix2 (row t r) l) := by blk_ext [iblk, V, idx t, row]

theorem iblk3 (u : Fin 1) (l : Fin 1024) : iblk m c 3 t (ix2 u l) = aG m c (ix1 l) := by blk_ext! [iblk, V, idx t]

theorem iblk4 (r : Fin 512) (l : Fin 1024) : iblk m c 4 t (ix2 r l) = aD m c (ix2 (row t r) l) := by blk_ext [iblk, V, idx t, row]

theorem halfT (r : Fin 512) (l : Fin 1024) : k0_pay1 (F := Ideal) (iblk m c 0 t) (iblk m c 1 t) (ix2 r l) = part m c (half t) (row t r) l := by
  rw [pay1]
  simp only [iblk0, iblk1]
  rfl

/-- The gradient of a row, from the whole arrays. -/
abbrev rowG (r : Fin 8192) (l : Fin 1024) : EReal := NormWhole.rowG (cot m c) (aH m c) (aG m c) (aD m c) r l

section

variable (y : Vec Ideal S512x1024 .f32) (hy : ∀ r l, y (ix2 r l) = cot m c (ix2 (row t r) l))

include hy

theorem rowsT (r : Fin 512) (l : Fin 1024) :
    k0_pay6 (F := Ideal) y (iblk m c 2 t) (iblk m c 3 t) (iblk m c 4 t) (ix2 r l) = rowG m c (row t r) l := by
  rw [pay6]
  simp only [hy, iblk2, iblk3, iblk4]
  rfl

/-- A point's part of the gain's gradient. -/
theorem partT (u : Fin 1) (l : Fin 1024) :
    k0_pay8 (F := Ideal) y (iblk m c 2 t) (ix2 u l) = ∑ r : Fin 512, Pool.ext (term (cot m c) (aH m c) l) (512 * (t.val / 2) + r) := by
  rw [pay8]
  refine Finset.sum_congr rfl fun r _ => ?_
  rw [hy]
  simp only [iblk2]
  exact NormWhole.term_ext (cot m c) (aH m c) l _ (row t r) (by show t.val / 2 * 512 + r.val = _; omega)

end

/-! ## The points -/

/-- The first half's product waits in the scratch buffer. -/
theorem scr (h : t.val % 2 = 0) (r : Fin 512) (l : Fin 1024) : (outsAt0 m c t.val t.isLt).2.2.2 (ix2 r l) = part m c 0 (row t r) l := by
  rw [outsAt0_A m c t h (by omega) (by omega)]
  frame_out
  refine (pay2 _ _ r l).trans ((halfT m c t r l).trans ?_)
  rw [show half t = 0 from Fin.ext h]

/-- At the second half the product is whole. -/
theorem whole (h : t.val % 2 = 1) (r : Fin 512) (l : Fin 1024) :
    k0_pay3 (F := Ideal) (iblk m c 0 t) (iblk m c 1 t) (outsAt0 m c (t.val - 1) (by omega)).2.2.2 (ix2 r l) = cot m c (ix2 (row t r) l) := by
  rw [pay3, cot_at, halfT, scr m c ⟨t.val - 1, by omega⟩ (by show (t.val - 1) % 2 = 0; omega), show half t = 1 from Fin.ext h,
    show row ⟨t.val - 1, by omega⟩ r = row t r from Fin.ext (by show (t.val - 1) / 2 * 512 + r.val = t.val / 2 * 512 + r.val; omega)]

theorem out5 (h : t.val % 2 = 1) (y : S512x1024.Idx) : (outsAt0 m c t.val t.isLt).1 y = rowG m c (row t (y 0)) (y 1) := by
  idx_vars y
  by_cases h2 : t.val < 2
  · rw [outsAt0_B m c t (by omega) h h h2 (by omega)]
    frame_out
    simp only [read_unread_whole]
    exact rowsT m c t _ (whole m c t h) y0 y1
  · rw [outsAt0_C m c t (by omega) h h h2 (by omega)]
    frame_out
    simp only [read_unread_whole]
    exact rowsT m c t _ (whole m c t h) y0 y1

theorem out6 (h : t.val % 2 = 1) (y : S512x1024.Idx) : (outsAt0 m c t.val t.isLt).2.1 y = rowG m c (row t (y 0)) (y 1) := by
  idx_vars y
  by_cases h2 : t.val < 2
  · rw [outsAt0_B m c t (by omega) h h h2 (by omega)]
    frame_out
    simp only [read_unread_whole]
    exact (pay7 _ _ _ _ y0 y1).trans (rowsT m c t _ (whole m c t h) y0 y1)
  · rw [outsAt0_C m c t (by omega) h h h2 (by omega)]
    frame_out
    simp only [read_unread_whole]
    exact (pay7 _ _ _ _ y0 y1).trans (rowsT m c t _ (whole m c t h) y0 y1)

theorem out7_A (h : t.val % 2 = 0) (y : S1x1024.Idx) :
    (outsAt0 m c t.val t.isLt).2.2.1 y = (outsAt0 m c (t.val - 1) (by omega)).2.2.1 y := by
  rw [outsAt0_A m c t h (by omega) (by omega)]
  rfl

theorem out7_B (h : t.val % 2 = 1) (h2 : t.val < 2) (y : S1x1024.Idx) :
    (outsAt0 m c t.val t.isLt).2.2.1 y = ∑ r : Fin 512, Pool.ext (term (cot m c) (aH m c) (y 1)) (512 * (t.val / 2) + r) := by
  idx_vars y
  rw [outsAt0_B m c t (by omega) h h h2 (by omega)]
  frame_out
  simp only [read_unread_whole]
  exact partT m c t _ (whole m c t h) y0 y1

theorem out7_C (h : t.val % 2 = 1) (h2 : ¬t.val < 2) (y : S1x1024.Idx) :
    (outsAt0 m c t.val t.isLt).2.2.1 y = (outsAt0 m c (t.val - 1) (by omega)).2.2.1 y
      + ∑ r : Fin 512, Pool.ext (term (cot m c) (aH m c) (y 1)) (512 * (t.val / 2) + r) := by
  idx_vars y
  rw [outsAt0_C m c t (by omega) h h h2 (by omega)]
  frame_out
  simp only [read_unread_whole]
  exact (pay4 _ _ y0 y1).trans (congrArg (_ + ·) (partT m c t _ (whole m c t h) y0 y1))

omit t in
/-- After a block's second half the gain's buffer holds the sum over the rows so far. -/
theorem after7 (y : S1x1024.Idx) (n : ℕ) (h : n < 16) :
    (outsAt0 m c (2 * n + 1) (by have := N_0; show 2 * n + 1 < grid0.N; omega)).2.2.1 y
    = ∑ s ∈ Finset.range (n + 1), ∑ r : Fin 512, Pool.ext (term (cot m c) (aH m c) (y 1)) (512 * s + r) := by
  refine NormWhole.acc (N := 16) (fun n h => (outsAt0 m c (2 * n + 1) (by have := N_0; show 2 * n + 1 < grid0.N; omega)).2.2.1 y)
    (fun s => ∑ r : Fin 512, Pool.ext (term (cot m c) (aH m c) (y 1)) (512 * s + r))
    (fun h => ?_) (fun n h => ?_) n h
  · have e := out7_B m c ⟨2 * 0 + 1, by have := N_0; show 2 * 0 + 1 < grid0.N; omega⟩ rfl (by show 2 * 0 + 1 < 2; omega) y
    refine e.trans ?_
    dsimp only
  have e := out7_C m c ⟨2 * (n + 1) + 1, by have := N_0; show 2 * (n + 1) + 1 < grid0.N; omega⟩ (by show (2 * (n + 1) + 1) % 2 = 1; omega)
    (by show ¬2 * (n + 1) + 1 < 2; omega) y
  refine e.trans ?_
  have e2 := out7_A m c ⟨2 * (n + 1), by have := N_0; show 2 * (n + 1) < grid0.N; omega⟩ (by show 2 * (n + 1) % 2 = 0; omega) y
  refine congrArg₂ (· + ·) e2 ?_
  dsimp only
  rw [show (2 * (n + 1) + 1) / 2 = n + 1 by omega]

theorem after7_at (h : t.val % 2 = 1) (y : S1x1024.Idx) : (outsAt0 m c t.val t.isLt).2.2.1 y
    = ∑ s ∈ Finset.range (t.val / 2 + 1), ∑ r : Fin 512, Pool.ext (term (cot m c) (aH m c) (y 1)) (512 * s + r) := by
  obtain ⟨n, hn⟩ := t
  obtain ⟨k, rfl⟩ : ∃ k, n = 2 * k + 1 := ⟨n / 2, by dsimp only at h; omega⟩
  refine (after7 m c y k (by have := hn.trans_eq N_0; omega)).trans ?_
  rw [show (2 * k + 1) / 2 = k by omega]

/-! ## The whole arrays -/

omit t in
theorem arr5 (R : FVec Ideal S8192x1024 .f32) (hR : ∀ r l, R (ix2 r l) = rowG m c r l) : (dats m 0 c).arrAt 5 cfg0.N = R := by
  refine (dats m 0 c).arrAt_eq_of_covers 5 _ (by decide +kernel) fun t hf y => ?_
  blk_simp
  rw [after0_5]
  have e := out5 m c t ((flush0_5 t).mp hf) y
  idx_vars y
  refine e.trans ((hR _ _).symm.trans ?_)
  blk_ext [idx t, row]

omit t in
theorem arr6 (R : FVec Ideal S8192x1024 .bf16) (hR : ∀ r l, R (ix2 r l) = rowG m c r l) : (dats m 0 c).arrAt 6 cfg0.N = R := by
  refine (dats m 0 c).arrAt_eq_of_covers 6 _ (by decide +kernel) fun t hf y => ?_
  blk_simp
  rw [after0_6]
  have e := out6 m c t ((flush0_6 t).mp hf) y
  idx_vars y
  refine e.trans ((hR _ _).symm.trans ?_)
  blk_ext [idx t, row]

omit t in
theorem arr7 (R : FVec Ideal S1x1024 .f32) (hR : ∀ u l, R (ix2 u l) = ∑ r : Fin 8192, term (cot m c) (aH m c) l r) :
    (dats m 0 c).arrAt 7 cfg0.N = R := by
  refine (dats m 0 c).arrAt_eq_of_covers 7 _ (by decide +kernel) fun t hf y => ?_
  blk_simp
  rw [after0_7]
  have hf' := (flush0_7 t).mp hf
  have ht : t.val / 2 + 1 = 16 := by have := t.isLt.trans_eq N_0; omega
  have e := after7_at m c t (by omega) y
  rw [ht, NormWhole.blocks 16 512 rfl] at e
  idx_vars y
  refine e.trans ((hR y0 y1).symm.trans ?_)
  blk_ext [idx t]

/-! ## The claim -/

/-- Under the precondition the arguments that enter a division are arrays of reals. -/
theorem reals (hpre : Pre_FfnIdeal_finite_ffn (hPre_finite_ffn := Pre_finite_ffn.Gen.facts) m) :
    AllR (aQ m c) ∧ AllR (aW m c) ∧ AllR (aH m c) ∧ AllR (aG m c) := by
  have e := congrFun (hpre c) (ix0 : Pre_finite_ffn.S_.Idx)
  simp only [Pre_finite_ffn.fn, Pre_finite_ffn.fn_part1, andi, IntOp.andi_eq_one] at e
  obtain ⟨⟨⟨⟨-, e0⟩, e1⟩, e2⟩, e3⟩ := e
  exact ⟨AllR.of (Reals.real_of_abs_lt _ _ (fun _ => by pointwise; exact Reals.ofBits_inf_bf16) _ _ _ _ e0),
    AllR.of (Reals.real_of_abs_lt _ _ (fun _ => by pointwise; exact Reals.ofBits_inf_bf16) _ _ _ _ e1),
    AllR.of (Reals.real_of_abs_lt _ _ (fun _ => by pointwise; exact Reals.ofBits_inf) _ _ _ _ e2),
    AllR.of (Reals.real_of_abs_lt _ _ (fun _ => by pointwise; exact Reals.ofBits_inf) _ _ _ _ e3)⟩

/-- The reference's row gradient. -/
theorem ref_rows (hpre : Pre_FfnIdeal_finite_ffn (hPre_finite_ffn := Pre_finite_ffn.Gen.facts) m) (r : Fin 8192) (l : Fin 1024) :
    FfnRefIdeal.Read.val_main_v47 (F := Ideal) (aQ m c) (aW m c) (aH m c) (aG m c) (aD m c) (ix2 r l) = rowG m c r l := by
  obtain ⟨hQ, hW, hH, hG⟩ := reals m c hpre
  refine Eq.trans rfl (NormWhole.rows_eq (FfnRefIdeal.Read.val_main_v38 (F := Ideal) (aQ m c) (aW m c) (aH m c) (aG m c) (aD m c)) (cot m c) (aH m c) (aG m c)
    (fun r k => ?_) (fun r k => hH _) (fun k => hG _) (aD m c (ix2 r l)) r l ?_).symm
  · rw [cot_at]
    exact (IsR.sum fun i => (hQ _).mul (hW _)).add (IsR.sum fun i => (hQ _).mul (hW _))
  · exact congrArg (aD m c (ix2 r l) + ·) (NormRef.scaled_at (cot m c) (aH m c) (aG m c) r l)

/-- Kernel and reference end with the same three results. -/
theorem algebraic : @algebraic_FfnIdeal_FfnRefIdeal_pre_finite_ffn FfnIdeal.Gen.facts FfnRefIdeal.Gen.facts
    Pre_finite_ffn.Gen.facts := by
  pair_intro
  · run_from FfnIdeal.Value.run_blocks m g
  · run_from FfnRefIdeal.Value.run m' g'
    all_goals
      obtain ⟨e0, e1, e2, e3, e4⟩ := hagree c
    · rw [FfnRefIdeal.Read.val_main_v47_eq, e0, e1, e2, e3, e4]
      exact (arr5 m c _ fun r l => ref_rows m c hpre r l).symm
    · rw [FfnRefIdeal.Read.val_main_v48_eq, e0, e1, e2, e3, e4]
      exact (arr6 m c _ fun r l => ref_rows m c hpre r l).symm
    · rw [FfnRefIdeal.Read.val_main_v49_eq]
      exact (arr7 m c _ fun u l => NormWhole.gain_eq (cot m c) (aH m c) u l).symm

/-- The reference leaves its arguments as they were and every counter at zero. -/
theorem quiescent_ref : @quiescent_FfnRefIdeal FfnRefIdeal.Gen.facts := fun m ρ _ =>
  (θ_run FfnRefIdeal.defs _ _).mono (fun r h => ⟨fun c => (h c).2.2.2, sem_eq_zero_of_no_sems (by decide) r.2⟩)
    (FfnRefIdeal.Value.run (F := Ideal) m ρ)

/-- The reference's frame under the precondition. -/
theorem quiescent_ref_pre : @quiescent_FfnRefIdeal_pre_finite_ffn FfnRefIdeal.Gen.facts Pre_finite_ffn.Gen.facts :=
  fun m ρ _ => quiescent_ref m ρ trivial

end Cert.FfnValue

end
-- ==== Proof.LossValue.lean ====
/-
  The last RMSNorm, the mean squared error and their gradient: the kernel's four results (the rows' gradient, the same in
  the low width, the gain's gradient, the loss) are the reference's four, under finite arguments. The kernel runs eight
  points of 1024 rows, adds up the gain's gradient and the squared errors of each lane over them, and takes the sum over
  the lanes at the last.
-/
module

public import proofs.«01_k».proof.Proof.NormWhole
public import proofs.«01_k».proof.Proof.MixValue
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.Pre_finite_loss

@[expose] public section

set_option maxRecDepth 16384

noncomputable section

namespace Cert.LossValue

open Idealize.ShloMosaic Idealize.ShloMosaic.TcCoe
open LossIdeal LossIdeal.Gen
open MixerValue (AllR AllR.of IsR)
open NormWhole (term)

/-! ## One block -/

theorem pay6 (g : Vec Ideal S1x1024 .f32) (u : Fin 1) (l : Fin 1024) : k0_pay6 g (ix2 u l) = g (ix2 u l) := by
  pointwise [k0_pay6]

theorem pay7 (x : Vec Ideal S1024x1024 .f32) (r : Fin 1024) (u : Fin 1) : k0_pay7 x (ix2 r u) = Norm.rinv fun k => x (ix2 r k) := by
  pointwise [k0_pay7]
  rfl

theorem pay8 (x : Vec Ideal S1024x1024 .f32) (r l : Fin 1024) : k0_pay8 x (ix2 r l) = x (ix2 r l) * Norm.rinv fun k => x (ix2 r k) := by
  unfold k0_pay8
  pointwise
  rw [pay7]

/-- The error. -/
theorem pay9 (x : Vec Ideal S1024x1024 .f32) (g : Vec Ideal S1x1024 .f32) (a : Vec Ideal S1024x1024 .f32) (r l : Fin 1024) :
    k0_pay9 x g a (ix2 r l) = x (ix2 r l) * (Norm.rinv fun k => x (ix2 r k)) * g (ix2 0 l) - a (ix2 r l) := by
  unfold k0_pay9
  pointwise
  rw [pay8, pay6]

theorem pay10 (x : Vec Ideal S1024x1024 .f32) (g : Vec Ideal S1x1024 .f32) (a : Vec Ideal S1024x1024 .f32) (r l : Fin 1024) :
    k0_pay10 x g a (ix2 r l) = k0_pay9 x g a (ix2 r l) * Ideal.ofBits .f32 0x3A800000#32 := by
  unfold k0_pay10
  pointwise

/-- The rows' gradient of a block. -/
theorem pay11 (x : Vec Ideal S1024x1024 .f32) (g : Vec Ideal S1x1024 .f32) (a : Vec Ideal S1024x1024 .f32) (r l : Fin 1024) :
    k0_pay11 x g a (ix2 r l) = Norm.dx (fun k => x (ix2 r k)) (fun k => k0_pay10 x g a (ix2 r k) * g (ix2 0 k)) l := by
  generalize ey : k0_pay10 x g a = y
  unfold k0_pay11
  rw [ey]
  pointwise
  simp only [pay7, pay6]
  rfl

theorem pay12 (x : Vec Ideal S1024x1024 .f32) (g : Vec Ideal S1x1024 .f32) (a : Vec Ideal S1024x1024 .f32) (r l : Fin 1024) :
    k0_pay12 x g a (ix2 r l) = k0_pay11 x g a (ix2 r l) := by
  unfold k0_pay12
  pointwise

/-- A block's part of the gain's gradient. -/
theorem pay13 (x : Vec Ideal S1024x1024 .f32) (g : Vec Ideal S1x1024 .f32) (a : Vec Ideal S1024x1024 .f32) (u : Fin 1) (l : Fin 1024) :
    k0_pay13 x g a (ix2 u l) = ∑ r : Fin 1024, k0_pay10 x g a (ix2 r l) * (x (ix2 r l) * Norm.rinv fun k => x (ix2 r k)) := by
  unfold k0_pay13
  pointwise
  simp only [pay8]

/-- A block's squared errors. -/
theorem pay1 (e : FVec Ideal S1024x1024 .f32) (u : Fin 1) (l : Fin 1024) :
    k0_pay1 e (ix2 u l) = ∑ r : Fin 1024, e (ix2 r l) * e (ix2 r l) := by
  pointwise [k0_pay1]

theorem pay2 (e : FVec Ideal S1024x1024 .f32) (u : Fin 1) (l : Fin 1024) : k0_pay2 e (ix2 u l) = k0_pay1 e (ix2 u l) := by
  unfold k0_pay2
  pointwise

theorem pay3 (p : FVec Ideal S1x1024 .f32) (a : Vec Ideal S1x1024 .f32) (u : Fin 1) (l : Fin 1024) :
    k0_pay3 p a (ix2 u l) = a (ix2 u l) + p (ix2 u l) := by
  pointwise [k0_pay3]

theorem pay4 (e : FVec Ideal S1024x1024 .f32) (a : Vec Ideal S1x1024 .f32) (u : Fin 1) (l : Fin 1024) :
    k0_pay4 e a (ix2 u l) = a (ix2 u l) + k0_pay1 e (ix2 u l) := by
  unfold k0_pay4
  pointwise

/-- The loss from the lanes' sums. -/
theorem pay5 (a : Vec Ideal S1x1024 .f32) (u : Fin 1) (l : Fin 128) :
    k0_pay5 a (ix2 u l) = (∑ k : Fin 1024, a (ix2 0 k)) * Ideal.ofBits .f32 0x3A000000#32 := by
  pointwise [k0_pay5]

/-! ## The blocks in the arrays -/

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 := by decide +kernel

/-- The row `r` of a point's block. -/
def row (t : Fin cfg0.N) (r : Fin 1024) : Fin 8192 := ⟨t.val * 1024 + r.val, by have := t.isLt.trans_eq N_0; omega⟩

variable (m : (ℓ : Loc nD τ sig) → Buf (Elt Ideal) ℓ) (c : Dev nD)

/-- The rows. -/
abbrev aH : FVec Ideal S8192x1024 .f32 := m ((c.tc : Thread nD τ).loc main_arg0)

/-- The gain. -/
abbrev aG : FVec Ideal S1024 .f32 := m ((c.tc : Thread nD τ).loc main_arg1)

/-- The target. -/
abbrev aT : FVec Ideal S8192x1024 .f32 := m ((c.tc : Thread nD τ).loc main_arg2)

/-- The error. -/
def err (r : Fin 8192) (l : Fin 1024) : EReal :=
  aH m c (ix2 r l) * (Norm.rinv fun k => aH m c (ix2 r k)) * aG m c (ix1 l) - aT m c (ix2 r l)

/-- The reference's error. -/
theorem err_at (r : Fin 8192) (l : Fin 1024) : LossRefIdeal.Read.val_main_v16 (F := Ideal) (aH m c) (aG m c) (aT m c) (ix2 r l) = err m c r l := by
  have e (u : Fin 1) : LossRefIdeal.Read.val_main_v7 (F := Ideal) (aH m c) (ix2 r u) = Norm.rinv fun k => aH m c (ix2 r k) := NormRef.rinv_at (aH m c) r u
  unfold LossRefIdeal.Read.val_main_v16 LossRefIdeal.Read.val_main_v15 LossRefIdeal.Read.val_main_v14 LossRefIdeal.Read.val_main_v13
    LossRefIdeal.Read.val_main_v12 LossRefIdeal.Read.val_main_v11
  pointwise
  rw [e]
  rfl

/-- The cotangent of the normed rows. -/
def cot : FVec Ideal S8192x1024 .f32 := LossRefIdeal.Read.val_main_v30 (F := Ideal) (aH m c) (aG m c) (aT m c)

theorem scale : Ideal.div (Ideal.ofBits .f32 0x3F000000#32) (Ideal.ofBits .f32 0x44800000#32)
    * Ideal.ofBits .f32 0x40000000#32 = Ideal.ofBits .f32 0x3A800000#32 := by
  have e0 : Ideal.ofBits .f32 0x3F000000#32 = ((1 / 2 : ℝ) : EReal) := by simp [Ideal.ofBits, Ideal.ieee]; rw [← EReal.coe_mul]; norm_num
  have e2 : Ideal.ofBits .f32 0x40000000#32 = ((2 : ℝ) : EReal) := by simp [Ideal.ofBits, Ideal.ieee]; rw [← EReal.coe_mul]; norm_num
  have e3 : Ideal.ofBits .f32 0x3A800000#32 = ((1 / 1024 : ℝ) : EReal) := by simp [Ideal.ofBits, Ideal.ieee]; rw [← EReal.coe_mul]; norm_num
  rw [e0, e2, e3, Reals.ofBits_1024, Reals.div_coe _ (by norm_num), ← EReal.coe_mul]
  norm_num

theorem cot_at (r : Fin 8192) (l : Fin 1024) : cot m c (ix2 r l) = err m c r l * Ideal.ofBits .f32 0x3A800000#32 := by
  unfold cot LossRefIdeal.Read.val_main_v30 LossRefIdeal.Read.val_main_v29 LossRefIdeal.Read.val_main_v28 LossRefIdeal.Read.val_main_v27
    LossRefIdeal.Read.val_main_v26 LossRefIdeal.Read.val_main_v25 LossRefIdeal.Read.val_main_v19 LossRefIdeal.Read.val_main_v18
    LossRefIdeal.Read.val_main_cst_3 LossRefIdeal.Read.val_main_cst_8 LossRefIdeal.Read.val_main_cst_9 LossRefIdeal.Read.val_main_cst_10
  pointwise
  rw [err_at, ← mul_assoc, scale, mul_comm]

variable (t : Fin cfg0.N)

theorem iblk0 (r l : Fin 1024) : iblk m c 0 t (ix2 r l) = aH m c (ix2 (row t r) l) := by blk_ext [iblk, V, idx t, row]

theorem iblk1 (u : Fin 1) (l : Fin 1024) : iblk m c 1 t (ix2 u l) = aG m c (ix1 l) := by blk_ext! [iblk, V, idx t]

theorem iblk2 (r l : Fin 1024) : iblk m c 2 t (ix2 r l) = aT m c (ix2 (row t r) l) := by blk_ext [iblk, V, idx t, row]

theorem errT (r l : Fin 1024) :
    k0_pay9 (F := Ideal) (iblk m c 0 t) (iblk m c 1 t) (iblk m c 2 t) (ix2 r l) = err m c (row t r) l := by
  rw [pay9]
  simp only [iblk0, iblk1, iblk2]
  rfl

theorem cotT (r l : Fin 1024) :
    k0_pay10 (F := Ideal) (iblk m c 0 t) (iblk m c 1 t) (iblk m c 2 t) (ix2 r l) = cot m c (ix2 (row t r) l) := by
  rw [pay10, errT, cot_at]

/-- The gradient of a row, from the whole arrays. -/
def rowG (r : Fin 8192) (l : Fin 1024) : EReal := Norm.dx (fun k => aH m c (ix2 r k)) (fun k => cot m c (ix2 r k) * aG m c (ix1 k)) l

theorem rowsT (r l : Fin 1024) :
    k0_pay11 (F := Ideal) (iblk m c 0 t) (iblk m c 1 t) (iblk m c 2 t) (ix2 r l) = rowG m c (row t r) l := by
  rw [pay11]
  simp only [cotT, iblk0, iblk1]
  rfl

/-- A point's part of the gain's gradient. -/
theorem partT (u : Fin 1) (l : Fin 1024) :
    k0_pay13 (F := Ideal) (iblk m c 0 t) (iblk m c 1 t) (iblk m c 2 t) (ix2 u l)
      = ∑ r : Fin 1024, Pool.ext (term (cot m c) (aH m c) l) (1024 * t.val + r) := by
  rw [pay13]
  refine Finset.sum_congr rfl fun r _ => ?_
  rw [cotT]
  simp only [iblk0]
  exact NormWhole.term_ext (cot m c) (aH m c) l _ (row t r) (by show t.val * 1024 + r.val = _; omega)

/-- A row's squared error in a lane. -/
def sq (l : Fin 1024) (r : Fin 8192) : EReal := err m c r l * err m c r l

/-- A point's squared errors. -/
theorem sqT (u : Fin 1) (l : Fin 1024) :
    k0_pay1 (F := Ideal) (k0_pay9 (iblk m c 0 t) (iblk m c 1 t) (iblk m c 2 t)) (ix2 u l)
      = ∑ r : Fin 1024, Pool.ext (sq m c l) (1024 * t.val + r) := by
  rw [pay1]
  refine Finset.sum_congr rfl fun r _ => ?_
  rw [errT]
  have e : 1024 * t.val + r.val = (row t r).val := by show _ = t.val * 1024 + r.val; omega
  rw [e]
  exact (Pool.ext_of_lt (sq m c l) (row t r)).symm

/-! ## The points -/

theorem out3 (y : S1024x1024.Idx) : (outsAt0 m c t.val t.isLt).1 y = rowG m c (row t (y 0)) (y 1) := by
  idx_vars y
  have hN := t.isLt.trans_eq N_0
  by_cases h : t.val % 8 = 0
  · rw [outsAt0_A m c t h (by omega) (by omega)]
    frame_out
    exact rowsT m c t y0 y1
  by_cases h' : t.val % 8 = 7
  · rw [outsAt0_C m c t h (by omega) h']
    frame_out
    exact rowsT m c t y0 y1
  · rw [outsAt0_B m c t h (by omega) h']
    frame_out
    exact rowsT m c t y0 y1

theorem out4 (y : S1024x1024.Idx) : (outsAt0 m c t.val t.isLt).2.1 y = rowG m c (row t (y 0)) (y 1) := by
  idx_vars y
  have hN := t.isLt.trans_eq N_0
  by_cases h : t.val % 8 = 0
  · rw [outsAt0_A m c t h (by omega) (by omega)]
    frame_out
    exact (pay12 _ _ _ y0 y1).trans (rowsT m c t y0 y1)
  by_cases h' : t.val % 8 = 7
  · rw [outsAt0_C m c t h (by omega) h']
    frame_out
    exact (pay12 _ _ _ y0 y1).trans (rowsT m c t y0 y1)
  · rw [outsAt0_B m c t h (by omega) h']
    frame_out
    exact (pay12 _ _ _ y0 y1).trans (rowsT m c t y0 y1)

theorem out5_A (h : t.val % 8 = 0) (y : S1x1024.Idx) :
    (outsAt0 m c t.val t.isLt).2.2.1 y = ∑ r : Fin 1024, Pool.ext (term (cot m c) (aH m c) (y 1)) (1024 * t.val + r) := by
  idx_vars y
  have hN := t.isLt.trans_eq N_0
  rw [outsAt0_A m c t h (by omega) (by omega)]
  frame_out
  exact partT m c t y0 y1

theorem out5_B (h : ¬t.val % 8 = 0) (y : S1x1024.Idx) :
    (outsAt0 m c t.val t.isLt).2.2.1 y = (outsAt0 m c (t.val - 1) (by omega)).2.2.1 y
      + ∑ r : Fin 1024, Pool.ext (term (cot m c) (aH m c) (y 1)) (1024 * t.val + r) := by
  idx_vars y
  by_cases h' : t.val % 8 = 7
  · rw [outsAt0_C m c t h (by omega) h']
    frame_out
    exact (pay3 _ _ y0 y1).trans (congrArg (_ + ·) (partT m c t y0 y1))
  · rw [outsAt0_B m c t h (by omega) h']
    frame_out
    exact (pay3 _ _ y0 y1).trans (congrArg (_ + ·) (partT m c t y0 y1))

theorem outS_A (h : t.val % 8 = 0) (y : S1x1024.Idx) :
    (outsAt0 m c t.val t.isLt).2.2.2.2 y = ∑ r : Fin 1024, Pool.ext (sq m c (y 1)) (1024 * t.val + r) := by
  idx_vars y
  have hN := t.isLt.trans_eq N_0
  rw [outsAt0_A m c t h (by omega) (by omega)]
  frame_out
  exact (pay2 _ y0 y1).trans (sqT m c t y0 y1)

theorem outS_B (h : ¬t.val % 8 = 0) (y : S1x1024.Idx) :
    (outsAt0 m c t.val t.isLt).2.2.2.2 y = (outsAt0 m c (t.val - 1) (by omega)).2.2.2.2 y
      + ∑ r : Fin 1024, Pool.ext (sq m c (y 1)) (1024 * t.val + r) := by
  idx_vars y
  by_cases h' : t.val % 8 = 7
  · rw [outsAt0_C m c t h (by omega) h']
    frame_out
    simp only [read_unread_whole]
    exact (pay4 _ _ y0 y1).trans (congrArg (_ + ·) (sqT m c t y0 y1))
  · rw [outsAt0_B m c t h (by omega) h']
    frame_out
    simp only [read_unread_whole]
    exact (pay4 _ _ y0 y1).trans (congrArg (_ + ·) (sqT m c t y0 y1))

/-- The last point's loss is taken from the lanes' sums that it leaves. -/
theorem out6 (h : t.val % 8 = 7) (y : S1x128.Idx) :
    (outsAt0 m c t.val t.isLt).2.2.2.1 y = (∑ k : Fin 1024, (outsAt0 m c t.val t.isLt).2.2.2.2 (ix2 0 k)) * Ideal.ofBits .f32 0x3A000000#32 := by
  idx_vars y
  have eS (k : Fin 1024) := outS_B m c t (by omega) (ix2 0 k)
  simp only [eS]
  rw [outsAt0_C m c t (by omega) (by omega) h]
  frame_out
  simp only [read_unread_whole]
  refine (pay5 _ y0 y1).trans (congrArg (· * _) (Finset.sum_congr rfl fun k _ => ?_))
  exact (pay4 _ _ 0 k).trans (congrArg (_ + ·) (sqT m c t 0 k))

omit t in
/-- After a point the gain's buffer holds the sum over the rows so far. -/
theorem after5 (y : S1x1024.Idx) (n : ℕ) (h : n < cfg0.N) : (outsAt0 m c n h).2.2.1 y
    = ∑ s ∈ Finset.range (n + 1), ∑ r : Fin 1024, Pool.ext (term (cot m c) (aH m c) (y 1)) (1024 * s + r) :=
  NormWhole.acc (fun n h => (outsAt0 m c n h).2.2.1 y) (fun s => ∑ r : Fin 1024, Pool.ext (term (cot m c) (aH m c) (y 1)) (1024 * s + r))
    (fun h => out5_A m c ⟨0, h⟩ rfl y)
    (fun n h => out5_B m c ⟨n + 1, h⟩ (by have := h.trans_eq N_0; show ¬(n + 1) % 8 = 0; omega) y) n h

omit t in
/-- After a point the lanes hold the squared errors of the rows so far. -/
theorem afterS (y : S1x1024.Idx) (n : ℕ) (h : n < cfg0.N) : (outsAt0 m c n h).2.2.2.2 y
    = ∑ s ∈ Finset.range (n + 1), ∑ r : Fin 1024, Pool.ext (sq m c (y 1)) (1024 * s + r) :=
  NormWhole.acc (fun n h => (outsAt0 m c n h).2.2.2.2 y) (fun s => ∑ r : Fin 1024, Pool.ext (sq m c (y 1)) (1024 * s + r))
    (fun h => outS_A m c ⟨0, h⟩ rfl y)
    (fun n h => outS_B m c ⟨n + 1, h⟩ (by have := h.trans_eq N_0; show ¬(n + 1) % 8 = 0; omega) y) n h

/-! ## The whole arrays -/

omit t in
theorem arr3 (R : FVec Ideal S8192x1024 .f32) (hR : ∀ r l, R (ix2 r l) = rowG m c r l) : (dats m 0 c).arrAt 3 cfg0.N = R := by
  refine (dats m 0 c).arrAt_eq_of_covers 3 _ (by decide +kernel) fun t hf y => ?_
  blk_simp
  rw [after0_3]
  have e := out3 m c t y
  idx_vars y
  refine e.trans ((hR _ _).symm.trans ?_)
  blk_ext [idx t, row]

omit t in
theorem arr4 (R : FVec Ideal S8192x1024 .bf16) (hR : ∀ r l, R (ix2 r l) = rowG m c r l) : (dats m 0 c).arrAt 4 cfg0.N = R := by
  refine (dats m 0 c).arrAt_eq_of_covers 4 _ (by decide +kernel) fun t hf y => ?_
  blk_simp
  rw [after0_4]
  have e := out4 m c t y
  idx_vars y
  refine e.trans ((hR _ _).symm.trans ?_)
  blk_ext [idx t, row]

omit t in
theorem arr5 (R : FVec Ideal S1x1024 .f32) (hR : ∀ u l, R (ix2 u l) = ∑ r : Fin 8192, term (cot m c) (aH m c) l r) :
    (dats m 0 c).arrAt 5 cfg0.N = R := by
  refine (dats m 0 c).arrAt_eq_of_covers 5 _ (by decide +kernel) fun t hf y => ?_
  blk_simp
  rw [after0_5]
  have ht : t.val + 1 = 8 := by have := (flush0_5 t).mp hf; have := t.isLt.trans_eq N_0; omega
  have e := after5 m c y t.val t.isLt
  rw [ht, NormWhole.blocks 8 1024 rfl] at e
  idx_vars y
  refine e.trans ((hR y0 y1).symm.trans ?_)
  blk_ext [idx t]

omit t in
theorem arr6 (R : FVec Ideal S1x128 .f32)
    (hR : ∀ u l, R (ix2 u l) = (∑ k : Fin 1024, ∑ r : Fin 8192, sq m c k r) * Ideal.ofBits .f32 0x3A000000#32) :
    (dats m 0 c).arrAt 6 cfg0.N = R := by
  refine (dats m 0 c).arrAt_eq_of_covers 6 _ (by decide +kernel) fun t hf y => ?_
  blk_simp
  rw [after0_6]
  have h7 : t.val % 8 = 7 := (flush0_6 t).mp hf
  have ht : t.val + 1 = 8 := by have := t.isLt.trans_eq N_0; omega
  have e := out6 m c t h7 y
  have eS (k : Fin 1024) := afterS m c (ix2 0 k) t.val t.isLt
  simp only [eS] at e
  rw [ht] at e
  simp only [NormWhole.blocks 8 1024 rfl] at e
  idx_vars y
  refine e.trans ((hR y0 y1).symm.trans ?_)
  blk_ext [idx t]

/-! ## The claim -/

/-- Under the precondition the arguments are arrays of reals. -/
theorem reals (hpre : Pre_LossIdeal_finite_loss (hPre_finite_loss := Pre_finite_loss.Gen.facts) m) :
    AllR (aH m c) ∧ AllR (aG m c) ∧ AllR (aT m c) := by
  have e := congrFun (hpre c) (ix0 : Pre_finite_loss.S_.Idx)
  simp only [Pre_finite_loss.fn, andi, IntOp.andi_eq_one] at e
  obtain ⟨⟨⟨-, e0⟩, e1⟩, e2⟩ := e
  exact ⟨AllR.of (Reals.real_of_abs_lt _ _ (fun _ => by pointwise; exact Reals.ofBits_inf) _ _ _ _ e0),
    AllR.of (Reals.real_of_abs_lt _ _ (fun _ => by pointwise; exact Reals.ofBits_inf) _ _ _ _ e1),
    AllR.of (Reals.real_of_abs_lt _ _ (fun _ => by pointwise; exact Reals.ofBits_inf) _ _ _ _ e2)⟩

theorem err_real (hpre : Pre_LossIdeal_finite_loss (hPre_finite_loss := Pre_finite_loss.Gen.facts) m) (r : Fin 8192) (l : Fin 1024) :
    IsR (err m c r l) := by
  obtain ⟨hH, hG, hT⟩ := reals m c hpre
  have hn : IsR (Norm.rinv fun k => aH m c (ix2 r k)) := by
    obtain ⟨q, e⟩ := IsR.lift fun k : Fin 1024 => hH (ix2 r k)
    rw [e, Norm.rinv_coe]
    exact IsR.coe _
  obtain ⟨p, ep⟩ := ((hH (ix2 r l)).mul hn).mul (hG (ix1 l))
  obtain ⟨q, eq⟩ := hT (ix2 r l)
  unfold err
  rw [ep, eq, ← EReal.coe_sub]
  exact IsR.coe _

/-- The reference's row gradient. -/
theorem ref_rows (hpre : Pre_LossIdeal_finite_loss (hPre_finite_loss := Pre_finite_loss.Gen.facts) m) (r : Fin 8192) (l : Fin 1024) :
    LossRefIdeal.Read.val_main_v50 (F := Ideal) (aH m c) (aG m c) (aT m c) (ix2 r l) = rowG m c r l := by
  obtain ⟨hH, hG, hT⟩ := reals m c hpre
  refine Eq.trans rfl ((NormWhole.rows_eq (LossRefIdeal.Read.val_main_v41 (F := Ideal) (aH m c) (aG m c) (aT m c)) (cot m c) (aH m c) (aG m c)
    (fun r k => ?_) (fun r k => hH _) (fun k => hG _) 0 r l ?_).symm.trans (zero_add _))
  · rw [cot_at]
    refine (err_real m c hpre r k).mul ?_
    rw [show Ideal.ofBits .f32 0x3A800000#32 = ((1 / 1024 : ℝ) : EReal) by simp [Ideal.ofBits, Ideal.ieee]; rw [← EReal.coe_mul]; norm_num]
    exact IsR.coe _
  · exact (NormRef.scaled_at (cot m c) (aH m c) (aG m c) r l).trans (zero_add _).symm

/-- The mean of the rows' means is the sum over the lanes, scaled once. -/
theorem mean (q : Fin 8192 → Fin 1024 → EReal) (hq : ∀ r l, IsR (q r l)) :
    Ideal.ofBits .f32 0x3F000000#32 * (∑ r, Ideal.div (∑ l, q r l) (Ideal.ofBits .f32 0x44800000#32))
      = (∑ l, ∑ r, q r l) * Ideal.ofBits .f32 0x3A000000#32 := by
  choose p e using hq
  have e0 : Ideal.ofBits .f32 0x3F000000#32 = ((1 / 2 : ℝ) : EReal) := by simp [Ideal.ofBits, Ideal.ieee]; rw [← EReal.coe_mul]; norm_num
  have e1 : Ideal.ofBits .f32 0x3A000000#32 = ((1 / 2048 : ℝ) : EReal) := by simp [Ideal.ofBits, Ideal.ieee]; rw [← EReal.coe_mul]; norm_num
  simp only [e, e0, e1, Reals.ofBits_1024, Reals.coe_sum, Reals.div_coe _ (show (1024 : ℝ) ≠ 0 by norm_num), ← EReal.coe_mul]
  rw [Finset.sum_comm, ← Finset.sum_div]
  refine congrArg _ ?_
  ring

/-- The reference's loss. -/
theorem ref_loss (hpre : Pre_LossIdeal_finite_loss (hPre_finite_loss := Pre_finite_loss.Gen.facts) m) (u : Fin 1) (l : Fin 128) :
    LossRefIdeal.Read.val_main_v53 (F := Ideal) (aH m c) (aG m c) (aT m c) (ix2 u l)
      = (∑ k : Fin 1024, ∑ r : Fin 8192, sq m c k r) * Ideal.ofBits .f32 0x3A000000#32 := by
  refine Eq.trans ?_ (mean (fun r k => sq m c k r) fun r k => (err_real m c hpre r k).mul (err_real m c hpre r k))
  have e := err_at m c
  unfold LossRefIdeal.Read.val_main_v53 LossRefIdeal.Read.val_main_v24 LossRefIdeal.Read.val_main_v23 LossRefIdeal.Read.val_main_v22
    LossRefIdeal.Read.val_main_v21 LossRefIdeal.Read.val_main_v20 LossRefIdeal.Read.val_main_v17
    LossRefIdeal.Read.val_main_cst_4 LossRefIdeal.Read.val_main_cst_5 LossRefIdeal.Read.val_main_cst_6 LossRefIdeal.Read.val_main_cst_7
  generalize LossRefIdeal.Read.val_main_v16 (F := Ideal) (aH m c) (aG m c) (aT m c) = y at e ⊢
  pointwise
  simp only [e]
  rfl

/-- Kernel and reference end with the same four results. -/
theorem algebraic : @algebraic_LossIdeal_LossRefIdeal_pre_finite_loss LossIdeal.Gen.facts LossRefIdeal.Gen.facts
    Pre_finite_loss.Gen.facts := by
  pair_intro
  · run_from LossIdeal.Value.run_blocks m g
  · run_from LossRefIdeal.Value.run m' g'
    all_goals
      obtain ⟨e0, e1, e2⟩ := hagree c
    · rw [LossRefIdeal.Read.val_main_v50_eq, e0, e1, e2]
      exact (arr3 m c _ fun r l => ref_rows m c hpre r l).symm
    · rw [LossRefIdeal.Read.val_main_v51_eq, e0, e1, e2]
      exact (arr4 m c _ fun r l => ref_rows m c hpre r l).symm
    · rw [LossRefIdeal.Read.val_main_v52_eq]
      exact (arr5 m c _ fun u l => NormWhole.gain_eq (cot m c) (aH m c) u l).symm
    · rw [LossRefIdeal.Read.val_main_v53_eq]
      exact (arr6 m c _ fun u l => ref_loss m c hpre u l).symm

/-- The reference leaves its arguments as they were and every counter at zero. -/
theorem quiescent_ref : @quiescent_LossRefIdeal LossRefIdeal.Gen.facts := fun m ρ _ =>
  (θ_run LossRefIdeal.defs _ _).mono (fun r h => ⟨fun c => (h c).2.2.2.2, sem_eq_zero_of_no_sems (by decide) r.2⟩)
    (LossRefIdeal.Value.run (F := Ideal) m ρ)

/-- The reference's frame under the precondition. -/
theorem quiescent_ref_pre : @quiescent_LossRefIdeal_pre_finite_loss LossRefIdeal.Gen.facts Pre_finite_loss.Gen.facts :=
  fun m ρ _ => quiescent_ref m ρ trivial

end Cert.LossValue

end
-- ==== Proof.AttnFwdValue.lean ====
/-
  The latent attention: the kernel's context rows are the reference's. The kernel walks four blocks of 2048 query rows and
  runs the four heads one after another, each on its 256 columns.
-/
module

public import proofs.«01_k».proof.Proof.Attn
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.Gen.AttnFwdRefIdeal.Read

@[expose] public section

set_option maxRecDepth 16384

noncomputable section

namespace Cert.AttnFwdValue

open Idealize.ShloMosaic Idealize.ShloMosaic.TcCoe
open AttnFwdIdeal AttnFwdIdeal.Gen
open AttnValue (rows keys rows_at keys_at lane head head_lane lane_head sc scale)

/-! ## One head of a block -/

section Head

variable (q : Vec Ideal S2048x256 .bf16) (k v : Vec Ideal S256x256 .bf16)

/-! The four heads run the same text, which the payloads cut in different places. -/

theorem head1 : k0_pay4 (k0_pay3 q k) v = k0_pay2 q k v := rfl
theorem head2 : k0_pay5 q k v = k0_pay2 q k v := rfl
theorem head3 : k0_pay1 (k0_pay6 q k) (k0_pay7 q k) v = k0_pay2 q k v := rfl

/-- The probabilities of one head. -/
theorem pay3 (r : Fin 2048) (j : Fin 256) :
    k0_pay3 q k (ix2 r j) = Softmax.pr (fun i => (∑ x, q (ix2 r x) * k (ix2 i x)) * scale) j := by
  pointwise [k0_pay3]
  rfl

/-- The context rows of one head. -/
theorem pay2 (r : Fin 2048) (l : Fin 256) : k0_pay2 q k v (ix2 r l)
    = ∑ j, Softmax.pr (fun i => (∑ x, q (ix2 r x) * k (ix2 i x)) * scale) j * v (ix2 j l) := by
  rw [← head1]
  pointwise [k0_pay4]
  simp only [pay3]

end Head

/-- The context of a row in a lane. -/
def ctx {n : ℕ} (Q : Vec Ideal ⟨2, ![n, 1024]⟩ .bf16) (K V : Vec Ideal ⟨2, ![256, 1024]⟩ .bf16) (r : Fin n) (l : Fin 1024) : EReal :=
  ∑ j, Softmax.pr (sc Q K (head l) r) j * V (ix2 j l)

section Piece

variable (Q : Vec Ideal S2048x1024 .bf16) (K V : Vec Ideal S256x1024 .bf16) (h : Fin 4)

theorem piece (r : Fin 2048) (l : Fin 256) : k0_pay2 (rows Q h) (keys K h) (keys V h) (ix2 r l) = ctx Q K V r (lane h l) := by
  rw [pay2]
  simp only [rows_at, keys_at, ctx, head_lane]
  rfl

/-- The same at an index of the store. -/
theorem tile (x : S2048x256.Idx) (y : S2048x1024.Idx) (e0 : (y 0 : ℕ) = x 0) (e1 : (y 1 : ℕ) = 256 * (h : ℕ) + x 1) :
    k0_pay2 (rows Q h) (keys K h) (keys V h) x = ctx Q K V (y 0) (y 1) := by
  have h0 : y 0 = x 0 := Fin.ext e0
  have h1 : y 1 = lane h (x 1) := Fin.ext e1
  rw [h0, h1]
  idx_vars x
  exact piece Q K V h x0 x1

/-- What a point leaves in its block. -/
theorem out_at (y : S2048x1024.Idx) : out0_3 Q K V y = ctx Q K V (y 0) (y 1) := by
  unfold out0_3
  simp only [head1, head2, head3]
  canon_tiles x e
  · exact tile Q K V 3 x y e0 e1
  · exact tile Q K V 2 x y e0 e1
  · exact tile Q K V 1 x y e0 e1
  · exact tile Q K V 0 x y e0 (e1.trans (Nat.zero_add _).symm)

end Piece

/-! ## The blocks in the arrays -/

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) := by decide +kernel

variable (m : (ℓ : Loc nD τ sig) → Buf (Elt Ideal) ℓ) (c : Dev nD) (t : Fin cfg0.N)

/-- The queries. -/
abbrev aQ : FVec Ideal S8192x1024 .bf16 := m ((c.tc : Thread nD τ).loc main_arg0)

/-- The keys. -/
abbrev aK : FVec Ideal S256x1024 .bf16 := m ((c.tc : Thread nD τ).loc main_arg1)

/-- The values. -/
abbrev aV : FVec Ideal S256x1024 .bf16 := m ((c.tc : Thread nD τ).loc main_arg2)

/-- Row `r` of a point, in the whole array. -/
def row (t : Fin cfg0.N) (r : Fin 2048) : Fin 8192 := ⟨t.val * 2048 + r, by have := lt_of_lt_of_eq t.isLt N_0; omega⟩

theorem iblk0 (r : Fin 2048) (l : Fin 1024) : iblk m c 0 t (ix2 r l) = aQ m c (ix2 (row t r) l) := by blk_ext [iblk, V, idx t, row]

theorem iblk1 (r : Fin 256) (l : Fin 1024) : iblk m c 1 t (ix2 r l) = aK m c (ix2 r l) := by blk_ext [iblk, V, idx t]

theorem iblk2 (r : Fin 256) (l : Fin 1024) : iblk m c 2 t (ix2 r l) = aV m c (ix2 r l) := by blk_ext [iblk, V, idx t]

omit t in
/-- The context rows, the whole array. -/
theorem arr3 (R : FVec Ideal S8192x1024 .bf16) (hR : ∀ r l, R (ix2 r l) = ctx (n := 8192) (aQ m c) (aK m c) (aV m c) r l) :
    (dats m 0 c).arrAt 3 cfg0.N = R := by
  refine (dats m 0 c).arrAt_eq_of_covers 3 _ (by decide +kernel) fun t hf y => ?_
  blk_simp
  rw [after0_3]
  have e := out_at (iblk m c 0 t) (iblk m c 1 t) (iblk m c 2 t) y
  idx_vars y
  have e' : ctx (n := 2048) (iblk m c 0 t) (iblk m c 1 t) (iblk m c 2 t) y0 y1 = ctx (n := 8192) (aQ m c) (aK m c) (aV m c) (row t y0) y1 := by
    unfold ctx sc
    simp only [iblk0, iblk1, iblk2]
  refine e.trans (e'.trans ((hR _ _).symm.trans ?_))
  blk_ext [idx t, row]

/-! ## The reference -/

section Reference

open AttnFwdRefIdeal.Read

variable (q : FVec Ideal S8192x1024 .bf16) (k v : FVec Ideal S256x1024 .bf16)

/-- The probabilities are those of the attention's gradient. -/
theorem ref_pr (h : Fin 4) (r : Fin 8192) (j : Fin 256) :
    val_main_v19 (F := Ideal) q k (ix4 0 h r j) = Softmax.pr (sc (n := 8192) q k h r) j :=
  AttnValue.ref_pr q k h r j

theorem ref_v (r : Fin 256) (h : Fin 4) (x : Fin 256) : val_main_v5 (F := Ideal) v (ix4 0 r h x) = v (ix2 r (lane h x)) :=
  AttnValue.ref_v v 0 r h x

/-- The reference's context. -/
theorem ref_ctx (r : Fin 8192) (l : Fin 1024) : val_main_v23 (F := Ideal) q k v (ix2 r l) = ctx (n := 8192) q k v r l := by
  unfold val_main_v23 val_main_v22 val_main_v21 val_main_v20
  generalize e : val_main_v19 (F := Ideal) q k = y
  generalize e' : val_main_v5 (F := Ideal) v = z
  pointwise
  simp only [← e, ← e', ref_pr, ref_v, lane_head]
  exact Finset.sum_congr rfl fun j _ => mul_comm _ _

end Reference

/-- Kernel and reference end with the same context rows. -/
theorem algebraic : @algebraic_AttnFwdIdeal_AttnFwdRefIdeal AttnFwdIdeal.Gen.facts AttnFwdRefIdeal.Gen.facts := by
  pair_intro
  · run_from AttnFwdIdeal.Value.run_blocks m g
  · run_from AttnFwdRefIdeal.Value.run m' g'
    all_goals obtain ⟨e0, e1, e2⟩ := hagree c
    · rw [AttnFwdRefIdeal.Read.val_main_v23_eq]
      exact (arr3 m c _ fun r l => ref_ctx _ _ _ r l).symm

/-- The reference leaves its arguments as they were and every counter at zero. -/
theorem quiescent_ref : @quiescent_AttnFwdRefIdeal AttnFwdRefIdeal.Gen.facts := fun m ρ _ =>
  (θ_run AttnFwdRefIdeal.defs _ _).mono (fun r h => ⟨fun c => (h c).2, sem_eq_zero_of_no_sems (by decide) r.2⟩)
    (AttnFwdRefIdeal.Value.run (F := Ideal) m ρ)

end Cert.AttnFwdValue

end
-- ==== Proof.RmsFwdValue.lean ====
/-
  The RMSNorm of the rows: the kernel's normed rows are the reference's. The kernel walks sixteen blocks of 512 rows.
-/
module

public import proofs.«01_k».proof.Defs
public import proofs.«01_k».proof.Proof.NormRef
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsFwdRefIdeal.Read
public import Idealize.ShloMosaic.Lib.Pipeline.ValueKit
public import Idealize.ShloMosaic.Lib.Pipeline.ReadBack

@[expose] public section

set_option maxRecDepth 16384

noncomputable section

namespace Cert.RmsFwdValue

open Idealize.ShloMosaic Idealize.ShloMosaic.TcCoe
open RmsFwdIdeal RmsFwdIdeal.Gen

/-- A row, normed and scaled. -/
def hat (x g : Fin 1024 → EReal) (l : Fin 1024) : EReal := x l * Norm.rinv x * g l

theorem pay1 (x : Vec Ideal S512x1024 .f32) (g : Vec Ideal S1x1024 .f32) (r : Fin 512) (l : Fin 1024) :
    k0_pay1 x g (ix2 r l) = hat (fun k => x (ix2 r k)) (fun k => g (ix2 0 k)) l := by
  pointwise [k0_pay1]
  rfl

/-- What a point leaves in its block. -/
theorem out_at (x : Vec Ideal S512x1024 .f32) (g : Vec Ideal S1x1024 .f32) (y : S512x1024.Idx) :
    out0_2 x g y = hat (fun k => x (ix2 (y 0) k)) (fun k => g (ix2 0 k)) (y 1) := by
  idx_vars y
  frame_out [out0_2]
  exact pay1 x g y0 y1

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by decide +kernel

variable (m : (ℓ : Loc nD τ sig) → Buf (Elt Ideal) ℓ) (c : Dev nD) (t : Fin cfg0.N)

/-- The rows. -/
abbrev aH : FVec Ideal S8192x1024 .f32 := m ((c.tc : Thread nD τ).loc main_arg0)

/-- The gain. -/
abbrev aG : FVec Ideal S1024 .f32 := m ((c.tc : Thread nD τ).loc main_arg1)

/-- Row `r` of a point, in the whole array. -/
def row (t : Fin cfg0.N) (r : Fin 512) : Fin 8192 := ⟨t.val * 512 + r, by have := lt_of_lt_of_eq t.isLt N_0; omega⟩

theorem iblk0 (r : Fin 512) (l : Fin 1024) : iblk m c 0 t (ix2 r l) = aH m c (ix2 (row t r) l) := by blk_ext [iblk, V, idx t, row]

theorem iblk1 (u : Fin 1) (l : Fin 1024) : iblk m c 1 t (ix2 u l) = aG m c (ix1 l) := by blk_ext! [iblk, V, idx t]

omit t in
/-- The normed rows, the whole array. -/
theorem arr2 (R : FVec Ideal S8192x1024 .bf16)
    (hR : ∀ r l, R (ix2 r l) = hat (fun k => aH m c (ix2 r k)) (fun k => aG m c (ix1 k)) l) : (dats m 0 c).arrAt 2 cfg0.N = R := by
  refine (dats m 0 c).arrAt_eq_of_covers 2 _ (by decide +kernel) fun t hf y => ?_
  blk_simp
  rw [after0_2]
  have e := out_at (iblk m c 0 t) (iblk m c 1 t) y
  idx_vars y
  have e' : hat (fun k => iblk m c 0 t (ix2 y0 k)) (fun k => iblk m c 1 t (ix2 0 k)) y1 = hat (fun k => aH m c (ix2 (row t y0) k)) (fun k => aG m c (ix1 k)) y1 := by
    simp only [iblk0, iblk1]
  refine e.trans (e'.trans ((hR _ _).symm.trans ?_))
  blk_ext [idx t, row]

/-- The reference's normed rows. -/
theorem ref_hat (h : FVec Ideal S8192x1024 .f32) (g : FVec Ideal S1024 .f32) (r : Fin 8192) (l : Fin 1024) :
    RmsFwdRefIdeal.Read.val_main_v13 (F := Ideal) h g (ix2 r l) = hat (fun k => h (ix2 r k)) (fun k => g (ix1 k)) l := by
  have e (u : Fin 1) : RmsFwdRefIdeal.Read.val_main_v7 (F := Ideal) h (ix2 r u) = Norm.rinv fun k => h (ix2 r k) := NormRef.rinv_at h r u
  unfold RmsFwdRefIdeal.Read.val_main_v13 RmsFwdRefIdeal.Read.val_main_v12 RmsFwdRefIdeal.Read.val_main_v11 RmsFwdRefIdeal.Read.val_main_v10
    RmsFwdRefIdeal.Read.val_main_v9 RmsFwdRefIdeal.Read.val_main_v8
  pointwise
  rw [e]
  rfl

/-- Kernel and reference end with the same normed rows. -/
theorem algebraic : @algebraic_RmsFwdIdeal_RmsFwdRefIdeal RmsFwdIdeal.Gen.facts RmsFwdRefIdeal.Gen.facts := by
  pair_intro
  · run_from RmsFwdIdeal.Value.run_blocks m g
  · run_from RmsFwdRefIdeal.Value.run m' g'
    all_goals obtain ⟨e0, e1⟩ := hagree c
    · rw [RmsFwdRefIdeal.Read.val_main_v13_eq]
      exact (arr2 m c _ fun r l => ref_hat _ _ r l).symm

/-- The reference leaves its arguments as they were and every counter at zero. -/
theorem quiescent_ref : @quiescent_RmsFwdRefIdeal RmsFwdRefIdeal.Gen.facts := fun m ρ _ =>
  (θ_run RmsFwdRefIdeal.defs _ _).mono (fun r h => ⟨fun c => (h c).2, sem_eq_zero_of_no_sems (by decide) r.2⟩)
    (RmsFwdRefIdeal.Value.run (F := Ideal) m ρ)

end Cert.RmsFwdValue

end
-- ==== Proof.DownValue.lean ====
/-
  The down projection, the residual and the RMSNorm after it: the kernel's two results (the rows, the normed rows) are the
  reference's. The kernel walks sixteen blocks of 512 rows.
-/
module

public import proofs.«01_k».proof.Proof.RmsFwdValue
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read

@[expose] public section

set_option maxRecDepth 16384

noncomputable section

namespace Cert.DownValue

open Idealize.ShloMosaic Idealize.ShloMosaic.TcCoe
open DownIdeal DownIdeal.Gen
open RmsFwdValue (hat)

/-- A row of the product and the residual. -/
def sumRow {n : ℕ} (x : Vec Ideal ⟨2, ![n, 2816]⟩ .bf16) (w : Vec Ideal ⟨2, ![2816, 1024]⟩ .bf16) (d : Vec Ideal ⟨2, ![n, 1024]⟩ .f32)
    (r : Fin n) (l : Fin 1024) : EReal := d (ix2 r l) + ∑ k, x (ix2 r k) * w (ix2 k l)

section Block

variable (x : Vec Ideal S512x2816 .bf16) (w : Vec Ideal S2816x1024 .bf16) (d : Vec Ideal S512x1024 .f32) (g : Vec Ideal S1x1024 .f32)

theorem pay1 (r : Fin 512) (l : Fin 1024) : k0_pay1 x w d (ix2 r l) = sumRow x w d r l := by
  pointwise [k0_pay1]
  exact add_comm _ _

theorem pay2 (r : Fin 512) (l : Fin 1024) : k0_pay2 x w d g (ix2 r l) = hat (sumRow x w d r) (fun k => g (ix2 0 k)) l := by
  have e (l : Fin 1024) := pay1 x w d r l
  unfold k0_pay2
  generalize k0_pay1 x w d = y at e ⊢
  pointwise
  simp only [e]
  rfl

/-- The rows that a point leaves. -/
theorem out4_at (y : S512x1024.Idx) : out0_4 x w d g y = sumRow x w d (y 0) (y 1) := by
  idx_vars y
  frame_out [out0_4]
  exact pay1 x w d y0 y1

/-- The normed rows that a point leaves. -/
theorem out5_at (y : S512x1024.Idx) : out0_5 x w d g y = hat (sumRow x w d (y 0)) (fun k => g (ix2 0 k)) (y 1) := by
  idx_vars y
  frame_out [out0_5]
  exact pay2 x w d g y0 y1

end Block

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) := by decide +kernel

variable (m : (ℓ : Loc nD τ sig) → Buf (Elt Ideal) ℓ) (c : Dev nD) (t : Fin cfg0.N)

/-- The activations. -/
abbrev aX : FVec Ideal S8192x2816 .bf16 := m ((c.tc : Thread nD τ).loc main_arg0)

/-- The weights. -/
abbrev aW : FVec Ideal S2816x1024 .bf16 := m ((c.tc : Thread nD τ).loc main_arg1)

/-- The residual. -/
abbrev aD : FVec Ideal S8192x1024 .f32 := m ((c.tc : Thread nD τ).loc main_arg2)

/-- The gain. -/
abbrev aG : FVec Ideal S1024 .f32 := m ((c.tc : Thread nD τ).loc main_arg3)

/-- Row `r` of a point, in the whole array. -/
def row (t : Fin cfg0.N) (r : Fin 512) : Fin 8192 := ⟨t.val * 512 + r, by have := lt_of_lt_of_eq t.isLt N_0; omega⟩

theorem iblk0 (r : Fin 512) (k : Fin 2816) : iblk m c 0 t (ix2 r k) = aX m c (ix2 (row t r) k) := by blk_ext [iblk, V, idx t, row]

theorem iblk1 (k : Fin 2816) (l : Fin 1024) : iblk m c 1 t (ix2 k l) = aW m c (ix2 k l) := by blk_ext [iblk, V, idx t]

theorem iblk2 (r : Fin 512) (l : Fin 1024) : iblk m c 2 t (ix2 r l) = aD m c (ix2 (row t r) l) := by blk_ext [iblk, V, idx t, row]

theorem iblk3 (u : Fin 1) (l : Fin 1024) : iblk m c 3 t (ix2 u l) = aG m c (ix1 l) := by blk_ext! [iblk, V, idx t]

theorem sumT (r : Fin 512) : sumRow (n := 512) (iblk m c 0 t) (iblk m c 1 t) (iblk m c 2 t) r = sumRow (n := 8192) (aX m c) (aW m c) (aD m c) (row t r) := by
  unfold sumRow
  simp only [iblk0, iblk1, iblk2]

omit t in
/-- The rows, the whole array. -/
theorem arr4 (R : FVec Ideal S8192x1024 .f32) (hR : ∀ r l, R (ix2 r l) = sumRow (n := 8192) (aX m c) (aW m c) (aD m c) r l) :
    (dats m 0 c).arrAt 4 cfg0.N = R := by
  refine (dats m 0 c).arrAt_eq_of_covers 4 _ (by decide +kernel) fun t hf y => ?_
  blk_simp
  rw [after0_4]
  have e := out4_at (iblk m c 0 t) (iblk m c 1 t) (iblk m c 2 t) (iblk m c 3 t) y
  idx_vars y
  have e' := congrFun (sumT m c t y0) y1
  refine e.trans (e'.trans ((hR _ _).symm.trans ?_))
  blk_ext [idx t, row]

omit t in
/-- The normed rows, the whole array. -/
theorem arr5 (R : FVec Ideal S8192x1024 .bf16)
    (hR : ∀ r l, R (ix2 r l) = hat (sumRow (n := 8192) (aX m c) (aW m c) (aD m c) r) (fun k => aG m c (ix1 k)) l) :
    (dats m 0 c).arrAt 5 cfg0.N = R := by
  refine (dats m 0 c).arrAt_eq_of_covers 5 _ (by decide +kernel) fun t hf y => ?_
  blk_simp
  rw [after0_5]
  have e := out5_at (iblk m c 0 t) (iblk m c 1 t) (iblk m c 2 t) (iblk m c 3 t) y
  idx_vars y
  have e' : hat (sumRow (n := 512) (iblk m c 0 t) (iblk m c 1 t) (iblk m c 2 t) y0) (fun k => iblk m c 3 t (ix2 0 k)) y1
      = hat (sumRow (n := 8192) (aX m c) (aW m c) (aD m c) (row t y0)) (fun k => aG m c (ix1 k)) y1 := by
    simp only [sumT, iblk3]
  refine e.trans (e'.trans ((hR _ _).symm.trans ?_))
  blk_ext [idx t, row]

/-! ## The reference -/

section Reference

open DownRefIdeal.Read

variable (x : FVec Ideal S8192x2816 .bf16) (w : FVec Ideal S2816x1024 .bf16) (d : FVec Ideal S8192x1024 .f32) (g : FVec Ideal S1024 .f32)

theorem ref_sum (r : Fin 8192) (l : Fin 1024) : val_main_v3 (F := Ideal) x w d (ix2 r l) = sumRow (n := 8192) x w d r l := by
  unfold val_main_v3 val_main_v2 val_main_v1 val_main_v0
  pointwise
  rfl

theorem ref_hat (r : Fin 8192) (l : Fin 1024) :
    val_main_v17 (F := Ideal) x w d g (ix2 r l) = hat (sumRow (n := 8192) x w d r) (fun k => g (ix1 k)) l := by
  refine (RmsFwdValue.ref_hat (val_main_v3 (F := Ideal) x w d) g r l).trans ?_
  simp only [ref_sum]

end Reference

/-- Kernel and reference end with the same two results. -/
theorem algebraic : @algebraic_DownIdeal_DownRefIdeal DownIdeal.Gen.facts DownRefIdeal.Gen.facts := by
  pair_intro
  · run_from DownIdeal.Value.run_blocks m g
  · run_from DownRefIdeal.Value.run m' g'
    all_goals obtain ⟨e0, e1, e2, e3⟩ := hagree c
    · rw [DownRefIdeal.Read.val_main_v3_eq]
      exact (arr4 m c _ fun r l => ref_sum _ _ _ r l).symm
    · rw [DownRefIdeal.Read.val_main_v17_eq]
      exact (arr5 m c _ fun r l => ref_hat _ _ _ _ r l).symm

/-- The reference leaves its arguments as they were and every counter at zero. -/
theorem quiescent_ref : @quiescent_DownRefIdeal DownRefIdeal.Gen.facts := fun m ρ _ =>
  (θ_run DownRefIdeal.defs _ _).mono (fun r h => ⟨fun c => (h c).2.2, sem_eq_zero_of_no_sems (by decide) r.2⟩)
    (DownRefIdeal.Value.run (F := Ideal) m ρ)

end Cert.DownValue

end
-- ==== Proof.UpGateTile.lean ====
/-
  The feed-forward's forward products with their convolution and gate: one block of rows and channels. The kernel keeps the
  block of products of the point before and the eight rows above it, and convolves those.
-/
module

public import proofs.«01_k».proof.Defs
public import proofs.«01_k».proof.Proof.ConvRef
public import proofs.«01_k».proof.Proof.Gen.UpGateIdeal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.UpGateValue

open Idealize.ShloMosaic Idealize.ShloMosaic.TcCoe
open Cert.UpGateIdeal Cert.UpGateIdeal.Gen
open ConvValue (tap conv half cv fH fW fB roll_down ldh)

/-- Two blocks, one for each half, over whatever was stored before. -/
theorem canon_halves {m n : ℕ} {φ : EltTy} (L : List (View.Piece (Elt Ideal) ⟨3, ![2, m, n]⟩ φ)) (P0 P1 : Vec Ideal ⟨3, ![1, m, n]⟩ φ)
    (G : Fin 2 → Fin m → Fin n → Elt Ideal φ) (h0 : ∀ r a, P0 (ix3 0 r a) = G 0 r a)
    (h1 : ∀ r a, P1 (ix3 0 r a) = G 1 r a) (i1 i0) (y : Shape.Idx ⟨3, ![2, m, n]⟩) :
    View.canon (Val := Elt Ideal) (s := ⟨3, ![2, m, n]⟩) (e := φ) (⟨Rect.unit ![1, 0, 0] ![1, m, n] i1, P1⟩ ::
      ⟨Rect.unit ![0, 0, 0] ![1, m, n] i0, P0⟩ :: L) y = G (y 0) (y 1) (y 2) := by
  have hQ : ∀ p (P : Vec Ideal ⟨3, ![1, m, n]⟩ φ) (_ : ∀ r a, P (ix3 0 r a) = G p r a) (x : Shape.Idx ⟨3, ![1, m, n]⟩), P x = G p (x 1) (x 2) := fun p P hP x => by
    have e : x = ix3 0 (x 1) (x 2) := funext fun a => by
      fin_cases a
      · exact Fin.ext (by have h : (x 0).val < 1 := (x 0).isLt; show (x 0).val = 0; omega)
      · rfl
      · rfl
    exact (congrArg P e).trans (hP (x 1) (x 2))
  have hG : ∀ p p' r r' a a', p = p' → r = r' → a = a' → G p r a = G p' r' a' := by
    rintro _ _ _ _ _ _ rfl rfl rfl
    rfl
  refine View.canon_append_of_piecesOf (Val := Elt Ideal) (s := ⟨3, ![2, m, n]⟩) (e := φ) (fun y => G (y 0) (y 1) (y 2)) L [_, _]
    ⟨fun x => (hQ 1 P1 h1 x).trans ?_, fun x => (hQ 0 P0 h0 x).trans ?_, trivial⟩ y ?_
  · refine hG _ _ _ _ _ _ (Fin.ext ?_) (Fin.ext ?_) (Fin.ext ?_)
    · have h : (x 0).val < 1 := (x 0).isLt
      show 1 = 1 + 1 * (x 0).val; omega
    · show (x 1).val = 0 + 1 * (x 1).val; omega
    · show (x 2).val = 0 + 1 * (x 2).val; omega
  · refine hG _ _ _ _ _ _ (Fin.ext ?_) (Fin.ext ?_) (Fin.ext ?_)
    · have h : (x 0).val < 1 := (x 0).isLt
      show 0 = 0 + 1 * (x 0).val; omega
    · show (x 1).val = 0 + 1 * (x 1).val; omega
    · show (x 2).val = 0 + 1 * (x 2).val; omega
  · simp only [List.mem_cons, List.not_mem_nil, or_false, exists_eq_or_imp, exists_eq_left, Rect.mem_set_unit, Fin.forall_fin_succ, Fin.forall_fin_zero_pi]
    have l0 := (y 0).isLt
    have l1 := (y 1).isLt
    have l2 := (y 2).isLt
    simp at l0 l1 l2 ⊢
    omega

section Block

variable (A : Vec Ideal S1x8x1408 .f32) (X : Vec Ideal S1x256x1408 .f32) (b u v w : Vec Ideal S1x1x1408 .f32)
  (f : Fin 1408 → ℕ → EReal) (N : ℕ)

/-- The eight rows above the block, then the block. -/
def rows : FVec Ideal S264x1408 .f32 :=
  concatenate S264x1408 0 [⟨S8x1408, shapeCast S8x1408 A shapeCasts_S1x8x1408_S8x1408⟩, ⟨S256x1408, shapeCast S256x1408 X shapeCasts_S1x256x1408_S256x1408⟩]
    concatenates_S8x1408_S256x1408_S264x1408_d0

variable (hA : ∀ e a, A (ix3 0 e a) = if 8 ≤ N + e.val then f a (N + e - 8) else 0) (hX : ∀ r a, X (ix3 0 r a) = f a (N + r))

include hA hX in
theorem rows_at (e : Fin 264) (a : Fin 1408) : rows A X (ix2 e a) = if 8 ≤ N + e.val then f a (N + e - 8) else 0 := by
  unfold rows
  pointwise
  by_cases h : e.val < 8
  · rw [dif_pos h]
    exact hA ⟨e, h⟩ a
  · rw [dif_neg h]
    refine (hX ⟨e - 8, by omega⟩ a).trans ((congrArg (f a) ?_).trans (if_pos (by omega)).symm)
    show N + (e.val - 8) = N + e.val - 8
    omega

include hA hX in
theorem tap_at (k : Fin 3) (r : Fin 256) (a : Fin 1408) (e : Fin 264) (he : e.val = r.val + 6 + k.val) : rows A X (ix2 e a) = tap (f a) k (N + r) := by
  rw [rows_at A X f N hA hX]
  unfold tap
  rw [he]
  have e1 : N + (r.val + 6 + k.val) - 8 = N + r.val + k.val - 2 := by omega
  rw [e1]
  exact if_congr (by omega) rfl rfl

include hA hX in
/-- The convolution of the block. -/
theorem pay13 (r : Fin 256) (a : Fin 1408) :
    k0_pay13 A X b u v w (ix2 r a) = conv (f a) (fun k => (![u, v, w] k : Vec Ideal S1x1x1408 .f32) (ix3 0 0 a)) (b (ix3 0 0 a)) (N + r) := by
  have e0 := (roll_down 2 2#32 rfl (rows A X) rotates_S264x1408_d0 ⟨8 + r, by omega⟩ a (by show 2 ≤ 8 + r.val; omega)).trans
    (tap_at A X f N hA hX 0 r a _ (by show 8 + r.val - 2 = r.val + 6 + 0; omega))
  have e1 := (roll_down 1 1#32 rfl (rows A X) rotates_S264x1408_d0 ⟨8 + r, by omega⟩ a (by show 1 ≤ 8 + r.val; omega)).trans
    (tap_at A X f N hA hX 1 r a _ (by show 8 + r.val - 1 = r.val + 6 + 1; omega))
  have e2 := tap_at A X f N hA hX 2 r a ⟨8 + r, by omega⟩ (by show 8 + r.val = r.val + 6 + 2; omega)
  unfold k0_pay13
  change extractStridedSlice S256x1408 ![8, 0] (addf (addf (addf (mulf _ (dynamicRotate 0 2#32 none (rows A X) rotates_S264x1408_d0)) (mulf _ (dynamicRotate 0 1#32 none (rows A X) rotates_S264x1408_d0))) (mulf _ (rows A X))) _) _ (ix2 r a) = _
  generalize dynamicRotate 0 2#32 none (rows A X) rotates_S264x1408_d0 = y0 at e0 ⊢
  generalize dynamicRotate 0 1#32 none (rows A X) rotates_S264x1408_d0 = y1 at e1 ⊢
  generalize rows A X = y2 at e2 ⊢
  pointwise
  rw [e0, e1, e2]
  rfl

include hA hX in
theorem pay16 (r : Fin 256) (a : Fin 1408) :
    k0_pay16 A X b u v w (ix2 r a) = conv (f a) (fun k => (![u, v, w] k : Vec Ideal S1x1x1408 .f32) (ix3 0 0 a)) (b (ix3 0 0 a)) (N + r) :=
  pay13 A X b u v w f N hA hX r a

end Block

theorem pay2 (x y : FVec Ideal S256x1408 .f32) (i : S256x1408.Idx) : k0_pay2 x y i = x i * Ideal.logistic (x i) * y i := by
  unfold k0_pay2
  pointwise

theorem pay9 (i : S2x256x1408.Idx) : (k0_pay9 (F := Ideal)) i = 0 := by
  unfold k0_pay9
  pointwise

theorem pay11 (x : Vec Ideal S1408x1024 .bf16) (k : Fin 1024) (a : Fin 1408) : k0_pay11 x (ix3 0 k a) = x (ix2 a k) := by
  unfold k0_pay11
  pointwise

theorem pay12 (x : Vec Ideal S1408x1024 .bf16) (k : Fin 1024) (a : Fin 1408) : k0_pay12 x (ix3 0 k a) = x (ix2 a k) := pay11 x k a

theorem pay4 (x : Vec Ideal S256x1024 .bf16) (w : Vec Ideal S1x1024x1408 .bf16) (r : Fin 256) (a : Fin 1408) :
    k0_pay4 x w (ix3 0 r a) = ∑ k : Fin 1024, x (ix2 r k) * w (ix3 0 k a) := by
  unfold k0_pay4 k0_pay3
  pointwise

theorem pay15 (x : Vec Ideal S1x8x1408 .f32) (e : Fin 8) (a : Fin 1408) : k0_pay15 (k0_pay14 x) (ix3 0 e a) = x (ix3 0 e a) := by
  unfold k0_pay15 k0_pay14
  pointwise

end Cert.UpGateValue

end
-- ==== Proof.UpGateValue.lean ====
/-
  The feed-forward's forward products with their convolution and gate: what the kernel's carried blocks hold after each
  point, the two results as whole arrays, and the reference.
-/
module

public import proofs.«01_k».proof.Defs
public import proofs.«01_k».proof.Proof.UpGateTile
public import proofs.«01_k».proof.Proof.Gen.UpGate.Frame
public import proofs.«01_k».proof.Proof.Gen.UpGateIdeal.Value
public import proofs.«01_k».proof.Proof.Gen.UpGateRefIdeal.Run
public import proofs.«01_k».proof.Proof.Gen.UpGateRefIdeal.Read

@[expose] public section

set_option maxRecDepth 16384

noncomputable section

namespace Cert.UpGateValue

open Idealize.ShloMosaic Idealize.ShloMosaic.TcCoe
open Cert.UpGateIdeal Cert.UpGateIdeal.Gen
open ConvValue (tap conv half cv fH fW fB ldh)

/-- The products of a row with the channels. -/
def prods (x : FVec Ideal S8192x1024 .bf16) (w : FVec Ideal S5632x1024 .bf16) : FVec Ideal ConvIdeal.S8192x5632 .f32 :=
  fun i => ∑ k : Fin 1024, x (ix2 (i 0) k) * w (ix2 (i 1) k)

theorem idx : ∀ t : Fin cfg0.N, (win0_0.index t 0 = min (t.val % 33) 31 ∧ win0_0.index t 1 = 0)
    ∧ (win0_1.index t 0 = t.val / 33 ∧ win0_1.index t 1 = 0)
    ∧ (win0_2.index t 0 = t.val / 33 + 2 ∧ win0_2.index t 1 = 0)
    ∧ (win0_3.index t 0 = 0 ∧ win0_3.index t 1 = 0 ∧ win0_3.index t 2 = t.val / 33)
    ∧ (win0_4.index t 0 = 0 ∧ win0_4.index t 1 = 0 ∧ win0_4.index t 2 = t.val / 33)
    ∧ (win0_5.index t 0 = 0 ∧ win0_5.index t 1 = min (t.val % 33) 31 ∧ win0_5.index t 2 = t.val / 33)
    ∧ (win0_6.index t 0 = t.val % 33 - 1 ∧ win0_6.index t 1 = t.val / 33) := by decide +kernel

/-- The gated block is written out at every point of a channel block but the first. -/
theorem flush : ∀ t : Fin cfg0.N, (cfg0.win 6).flush t = true → ¬ t.val % 33 = 0 := by decide +kernel

theorem lt_66 (t : Fin cfg0.N) : t.val < 66 := lt_of_lt_of_eq t.isLt N_0

/-- Channel `a` of point `t`. -/
def chan (t : Fin cfg0.N) (a : Fin 1408) : Fin 2816 := ⟨t.val / 33 * 1408 + a, by have := lt_66 t; omega⟩

/-- The point before. -/
def prev (t : Fin cfg0.N) : Fin cfg0.N := ⟨t.val - 1, Nat.lt_of_le_of_lt (Nat.sub_le _ _) t.isLt⟩

/-- Row `r` of point `t`. -/
def row (t : Fin cfg0.N) (r : Fin 256) : Fin 8192 := ⟨min (t.val % 33) 31 * 256 + r, by omega⟩

variable (m : (ℓ : Loc nD τ sig) → Buf (Elt Ideal) ℓ) (c : Dev nD)

/-- The normed rows. -/
abbrev aX : FVec Ideal S8192x1024 .bf16 := m ((c.tc : Thread nD τ).loc main_arg0)

/-- The weights, a row per channel. -/
abbrev aU : FVec Ideal S5632x1024 .bf16 := m ((c.tc : Thread nD τ).loc main_arg1)

/-- The taps' weights. -/
abbrev aW : FVec Ideal S3x5632 .f32 := m ((c.tc : Thread nD τ).loc main_arg2)

/-- The bias. -/
abbrev aB : FVec Ideal S5632 .f32 := m ((c.tc : Thread nD τ).loc main_arg3)

/-- The products. -/
abbrev aH : FVec Ideal ConvIdeal.S8192x5632 .f32 := prods (aX m c) (aU m c)

theorem weights_at (p : Fin 2) (k : Fin 3) (q : Fin 2816) : V m c main_v1 (ix3 p k q) = aW m c (ix2 k (half p q)) := by
  have e : V m c main_v1 = transpose S2x3x2816 [1, 0, 2] (shapeCast S3x2x2816 (aW m c) shapeCasts_S3x5632_S3x2x2816)
    transposes_S3x2x2816_S2x3x2816_1_0_2 := rfl
  rw [e]
  generalize aW m c = x
  pointwise
  refine congrArg x (congrArg (ix2 k) (Fin.ext ?_))
  show p.val * 2816 + q.val = 2816 * p.val + q.val
  omega

theorem bias_at (p : Fin 2) (q : Fin 2816) : V m c main_v2 (ix3 p 0 q) = aB m c (ix1 (half p q)) := by
  have e : V m c main_v2 = shapeCast S2x1x2816 (aB m c) shapeCasts_S5632_S2x1x2816 := rfl
  rw [e]
  generalize aB m c = x
  pointwise
  refine congrArg x (congrArg ix1 (Fin.ext ?_))
  show p.val * 2816 + q.val = 2816 * p.val + q.val
  omega

theorem iblk0 (t : Fin cfg0.N) (r : Fin 256) (k : Fin 1024) : iblk m c 0 t (ix2 r k) = aX m c (ix2 (row t r) k) := by blk_ext [iblk, V, idx t, row]

theorem iblk1 (t : Fin cfg0.N) (a : Fin 1408) (k : Fin 1024) : iblk m c 1 t (ix2 a k) = aU m c (ix2 (half 0 (chan t a)) k) := by
  blk_ext [iblk, V, idx t, chan, half]

theorem iblk2 (t : Fin cfg0.N) (a : Fin 1408) (k : Fin 1024) : iblk m c 2 t (ix2 a k) = aU m c (ix2 (half 1 (chan t a)) k) := by
  blk_ext [iblk, V, idx t, chan, half]

theorem iblk3 (t : Fin cfg0.N) (p : Fin 2) (k : Fin 3) (a : Fin 1408) : iblk m c 3 t (ix3 p k a) = fW (aW m c) p (chan t a) k := by
  unfold fW
  rw [← weights_at]
  blk_ext [iblk, idx t, chan]

theorem iblk4 (t : Fin cfg0.N) (p : Fin 2) (a : Fin 1408) : iblk m c 4 t (ix3 p 0 a) = fB (aB m c) p (chan t a) := by
  unfold fB
  rw [← bias_at]
  blk_ext [iblk, idx t, chan]

/-! ## What is carried -/

theorem w_first (t : Fin cfg0.N) (h : t.val % 33 = 0) (y : S2x1024x1408.Idx) :
    (outsAt0 m c t.val t.isLt).2.2.2.2 y = aU m c (ix2 (half (y 0) (chan t (y 2))) (y 1)) := by
  rw [outsAt0_A m c t h]
  frame_out
  exact canon_halves (φ := .bf16) _ _ _ (fun p k a => aU m c (ix2 (half p (chan t a)) k))
    (fun k a => (pay11 _ k a).trans (iblk1 m c _ a k)) (fun k a => (pay12 _ k a).trans (iblk2 m c _ a k)) _ _ y

theorem w_next (t : Fin cfg0.N) (h : ¬ t.val % 33 = 0) :
    (outsAt0 m c t.val t.isLt).2.2.2.2 = (outsAt0 m c (t.val - 1) (Nat.lt_of_le_of_lt (Nat.sub_le _ _) t.isLt)).2.2.2.2 := by
  rw [outsAt0_B m c t h]
  rfl

theorem chan_prev (t s : Fin cfg0.N) (h : ¬ t.val % 33 = 0) (hs : s.val = t.val - 1) (a : Fin 1408) : chan s a = chan t a := Fin.ext (by
  show s.val / 33 * 1408 + a.val = t.val / 33 * 1408 + a.val
  omega)

/-- The weights of a point, kept since the first point of its channel block. -/
theorem w_at (n : ℕ) (hn : n < cfg0.N) (p : Fin 2) (k : Fin 1024) (a : Fin 1408) :
    (outsAt0 m c n hn).2.2.2.2 (ix3 p k a) = aU m c (ix2 (half p (chan ⟨n, hn⟩ a)) k) := by
  induction n with
  | zero => exact w_first m c ⟨0, hn⟩ rfl (ix3 p k a)
  | succ n ih =>
    by_cases h : (n + 1) % 33 = 0
    · exact w_first m c ⟨n + 1, hn⟩ h (ix3 p k a)
    · refine (congrFun (w_next m c ⟨n + 1, hn⟩ h) (ix3 p k a)).trans ((ih (Nat.lt_of_succ_lt hn)).trans ?_)
      exact congrArg (fun q => aU m c (ix2 (half p q) k)) (chan_prev ⟨n + 1, hn⟩ ⟨n, Nat.lt_of_succ_lt hn⟩ h rfl a)

variable (t : Fin cfg0.N)

/-- The products of a point. -/
theorem prod_at (p : Fin 2) (w : Vec Ideal S1x1024x1408 .bf16) (hw : ∀ k a, w (ix3 0 k a) = aU m c (ix2 (half p (chan t a)) k))
    (r : Fin 256) (a : Fin 1408) : k0_pay4 (iblk m c 0 t) w (ix3 0 r a) = aH m c (ix2 (row t r) (half p (chan t a))) := by
  rw [pay4]
  unfold aH prods
  simp only [iblk0, hw]
  rfl

/-- Half of the weights kept from the point before. -/
theorem w_half (h : ¬ t.val % 33 = 0) (p : Fin 2) (o : ℕ) (ho : o = p) (i) (k : Fin 1024) (a : Fin 1408) :
    View.ld (outsAt0 m c (t.val - 1) (Nat.lt_of_le_of_lt (Nat.sub_le _ _) t.isLt)).2.2.2.2 (Rect.unit ![o, 0, 0] ![1, 1024, 1408] i) (ix3 0 k a)
      = aU m c (ix2 (half p (chan t a)) k) := by
  refine (ldh _ o 0 p ho _ k a (by omega)).trans ((w_at m c (prev t).val (prev t).isLt p _ a).trans ?_)
  show aU m c (ix2 (half p (chan (prev t) a)) _) = _
  rw [chan_prev t (prev t) h rfl]
  exact congrArg (fun k => aU m c (ix2 (half p (chan t a)) k)) (Fin.ext (Nat.zero_add _))

/-- The products of a point, as the first result takes them. -/
theorem out_at (y : S2x256x1408.Idx) : (outsAt0 m c t.val t.isLt).1 y = aH m c (ix2 (row t (y 1)) (half (y 0) (chan t (y 2)))) := by
  by_cases h : t.val % 33 = 0
  · rw [outsAt0_A m c t h]
    frame_open
    simp (disch := decide) only [↓ View.readCov_skip, ↓ View.readCov_cons_toLoadRect, ↓ View.readCov_fill]
    frame_out
    exact canon_halves (φ := .f32) _ _ _ (fun p r a => aH m c (ix2 (row t r) (half p (chan t a))))
      (prod_at m c t 0 _ (fun k a => (pay11 _ k a).trans (iblk1 m c _ a k)))
      (prod_at m c t 1 _ (fun k a => (pay12 _ k a).trans (iblk2 m c _ a k))) _ _ y
  · have h0 := prod_at m c t 0 _ (w_half m c t h 0 0 rfl inb_S2x1024x1408_S1x1024x1408_0_0_0)
    have h1 := prod_at m c t 1 _ (w_half m c t h 1 1 rfl inb_S2x1024x1408_S1x1024x1408_1_0_0)
    rw [outsAt0_B m c t h]
    frame_out
    simp only [read_unread_whole]
    exact canon_halves (φ := .f32) _ _ _ (fun p r a => aH m c (ix2 (row t r) (half p (chan t a)))) h0 h1 _ _ y

/-- The products of a point, as the next point takes them. -/
theorem held_at (y : S2x256x1408.Idx) : (outsAt0 m c t.val t.isLt).2.2.1 y = aH m c (ix2 (row t (y 1)) (half (y 0) (chan t (y 2)))) := by
  by_cases h : t.val % 33 = 0
  · rw [outsAt0_A m c t h]
    frame_open
    simp (disch := decide) only [↓ View.readCov_skip, ↓ View.readCov_cons_toLoadRect, ↓ View.readCov_fill]
    frame_out
    exact canon_halves (φ := .f32) _ _ _ (fun p r a => aH m c (ix2 (row t r) (half p (chan t a))))
      (prod_at m c t 0 _ (fun k a => (pay11 _ k a).trans (iblk1 m c _ a k)))
      (prod_at m c t 1 _ (fun k a => (pay12 _ k a).trans (iblk2 m c _ a k))) _ _ y
  · have h0 := prod_at m c t 0 _ (w_half m c t h 0 0 rfl inb_S2x1024x1408_S1x1024x1408_0_0_0)
    have h1 := prod_at m c t 1 _ (w_half m c t h 1 1 rfl inb_S2x1024x1408_S1x1024x1408_1_0_0)
    rw [outsAt0_B m c t h]
    frame_out
    simp only [read_unread_whole]
    exact canon_halves (φ := .f32) _ _ _ (fun p r a => aH m c (ix2 (row t r) (half p (chan t a)))) h0 h1 _ _ y

/-- Eight rows of the products kept from the point before. -/
theorem held_half (h : ¬ t.val % 33 = 0) (n s : ℕ) (hs : s + n ≤ 256) (p : Fin 2) (o : ℕ) (ho : o = p) (i) (r : Fin n) (a : Fin 1408) :
    View.ld (outsAt0 m c (t.val - 1) (Nat.lt_of_le_of_lt (Nat.sub_le _ _) t.isLt)).2.2.1 (Rect.unit ![o, s, 0] ![1, n, 1408] i) (ix3 0 r a)
      = fH (aH m c) p (chan t a) ((t.val % 33 - 1) * 256 + (s + r)) := by
  refine (ldh _ o s p ho _ r a (by omega)).trans ((held_at m c (prev t) _).trans ?_)
  show aH m c (ix2 (row (prev t) ⟨s + r, _⟩) (half p (chan (prev t) a))) = _
  rw [chan_prev t (prev t) h rfl]
  refine (ConvValue.fH_row (aH m c) p (chan t a) _).symm.trans (congrArg (fH (aH m c) p (chan t a)) ?_)
  show min ((t.val - 1) % 33) 31 * 256 + (s + r.val) = _
  omega

/-- The eight rows above the products kept: zero above the first block. -/
theorem above_at (y : S2x8x1408.Idx) : (outsAt0 m c t.val t.isLt).2.2.2.1 y
    = if 8 ≤ t.val % 33 * 256 + (y 1).val then fH (aH m c) (y 0) (chan t (y 2)) (t.val % 33 * 256 + (y 1).val - 8) else 0 := by
  by_cases h : t.val % 33 = 0
  · rw [outsAt0_A m c t h]
    frame_open
    simp (disch := decide) only [↓ View.readCov_skip, ↓ View.readCov_cons_toLoadRect, ↓ View.readCov_fill]
    frame_out
    refine (canon_halves (φ := .f32) _ _ _ (fun _ _ _ => 0) (fun e a => (pay15 _ e a).trans (pay9 _)) (fun e a => (pay15 _ e a).trans (pay9 _)) _ _ y).trans
      (if_neg ?_).symm
    have : (y 1).val < 8 := (y 1).isLt
    omega
  · have h0 := held_half m c t h 8 248 (by omega) 0 0 rfl inb_S2x256x1408_S1x8x1408_0_248_0
    have h1 := held_half m c t h 8 248 (by omega) 1 1 rfl inb_S2x256x1408_S1x8x1408_1_248_0
    rw [outsAt0_B m c t h]
    frame_out
    simp only [read_unread_whole]
    refine (canon_halves (φ := .f32) _ _ _ (fun p e a => fH (aH m c) p (chan t a) ((t.val % 33 - 1) * 256 + (248 + e.val)))
      (fun e a => (pay15 _ e a).trans (h0 e a)) (fun e a => (pay15 _ e a).trans (h1 e a)) _ _ y).trans ?_
    have : (y 1).val < 8 := (y 1).isLt
    refine Eq.trans (congrArg (fH (aH m c) (y 0) (chan t (y 2))) ?_) (if_pos (by omega)).symm
    show (t.val % 33 - 1) * 256 + (248 + (y 1).val) = _
    omega

/-- A half of the eight rows above the products kept from the point before. -/
theorem above_half (h : ¬ t.val % 33 = 0) (p : Fin 2) (o : ℕ) (ho : o = p) (i) (e : Fin 8) (a : Fin 1408) :
    View.ld (outsAt0 m c (t.val - 1) (Nat.lt_of_le_of_lt (Nat.sub_le _ _) t.isLt)).2.2.2.1 (Rect.unit ![o, 0, 0] ![1, 8, 1408] i) (ix3 0 e a)
      = if 8 ≤ (t.val % 33 - 1) * 256 + e.val then fH (aH m c) p (chan t a) ((t.val % 33 - 1) * 256 + e.val - 8) else 0 := by
  refine (ldh _ o 0 p ho _ e a (by omega)).trans ((above_at m c (prev t) _).trans ?_)
  show (if 8 ≤ (t.val - 1) % 33 * 256 + (0 + e.val) then fH (aH m c) p (chan (prev t) a) ((t.val - 1) % 33 * 256 + (0 + e.val) - 8) else 0) = _
  rw [chan_prev t (prev t) h rfl, Nat.zero_add, (by omega : (t.val - 1) % 33 = t.val % 33 - 1)]

/-- The gated convolution of a row. -/
def gated (x : FVec Ideal ConvIdeal.S8192x5632 .f32) (w : FVec Ideal S3x5632 .f32) (b : FVec Ideal S5632 .f32) (n : ℕ) (q : Fin 2816) : EReal :=
  cv x w b 0 q n * Ideal.logistic (cv x w b 0 q n) * cv x w b 1 q n

/-- One half's convolution, over the block kept from the point before. -/
theorem conv_at (p : Fin 2) (A : Vec Ideal S1x8x1408 .f32) (X : Vec Ideal S1x256x1408 .f32) (b u v w : Vec Ideal S1x1x1408 .f32)
    (hA : ∀ (e : Fin 8) (a : Fin 1408), A (ix3 0 e a) = if 8 ≤ (t.val % 33 - 1) * 256 + e.val then fH (aH m c) p (chan t a) ((t.val % 33 - 1) * 256 + e.val - 8) else 0)
    (hX : ∀ (r : Fin 256) (a : Fin 1408), X (ix3 0 r a) = fH (aH m c) p (chan t a) ((t.val % 33 - 1) * 256 + (0 + r.val)))
    (hb : ∀ a, b (ix3 0 0 a) = fB (aB m c) p (chan t a)) (hu : ∀ a, u (ix3 0 0 a) = fW (aW m c) p (chan t a) 0)
    (hv : ∀ a, v (ix3 0 0 a) = fW (aW m c) p (chan t a) 1) (hw : ∀ a, w (ix3 0 0 a) = fW (aW m c) p (chan t a) 2) (r : Fin 256) (a : Fin 1408) :
    k0_pay13 A X b u v w (ix2 r a) = cv (aH m c) (aW m c) (aB m c) p (chan t a) ((t.val % 33 - 1) * 256 + r.val) := by
  refine (pay13 A X b u v w (fun a => fH (aH m c) p (chan t a)) ((t.val % 33 - 1) * 256) hA
    (fun r a => (hX r a).trans (congrArg (fun n => fH (aH m c) p (chan t a) ((t.val % 33 - 1) * 256 + n)) (Nat.zero_add _))) r a).trans ?_
  rw [hb]
  unfold cv
  refine congrArg (fun z => conv (fH (aH m c) p (chan t a)) z _ _) (funext fun k => ?_)
  fin_cases k
  · exact hu a
  · exact hv a
  · exact hw a

theorem ld_tap (p : Fin 2) (k : Fin 3) (o s : ℕ) (ho : o = p) (hs : s = k) (i) (a : Fin 1408) :
    View.ld (iblk m c 3 t) (Rect.unit ![o, s, 0] ![1, 1, 1408] i) (ix3 0 0 a) = fW (aW m c) p (chan t a) k := by
  refine (ldh (iblk m c 3 t) o s p ho _ 0 a (by omega)).trans ((iblk3 m c t p _ a).trans (congrArg (fW (aW m c) p (chan t a)) (Fin.ext ?_)))
  exact hs

theorem ld_bias (p : Fin 2) (o : ℕ) (ho : o = p) (i) (a : Fin 1408) :
    View.ld (iblk m c 4 t) (Rect.unit ![o, 0, 0] ![1, 1, 1408] i) (ix3 0 0 a) = fB (aB m c) p (chan t a) :=
  (ldh (iblk m c 4 t) o 0 p ho _ 0 a (by omega)).trans (iblk4 m c t p a)

/-- The gated block that a point leaves, of the rows before its own. -/
theorem act_at (h : ¬ t.val % 33 = 0) (y : S256x1408.Idx) : (outsAt0 m c t.val t.isLt).2.1 y
    = gated (aH m c) (aW m c) (aB m c) ((t.val % 33 - 1) * 256 + (y 0).val) (chan t (y 1)) := by
  have e0 := conv_at m c t 0 _ _ _ _ _ _ (above_half m c t h 0 0 rfl inb_S2x8x1408_S1x8x1408_0_0_0) (held_half m c t h 256 0 (by omega) 0 0 rfl inb_S2x256x1408_S1x256x1408_0_0_0)
    (ld_bias m c t 0 0 rfl inb_S2x1x1408_S1x1x1408_0_0_0) (ld_tap m c t 0 0 0 0 rfl rfl inb_S2x3x1408_S1x1x1408_0_0_0)
    (ld_tap m c t 0 1 0 1 rfl rfl inb_S2x3x1408_S1x1x1408_0_1_0) (ld_tap m c t 0 2 0 2 rfl rfl inb_S2x3x1408_S1x1x1408_0_2_0)
  have e1 := conv_at m c t 1 _ _ _ _ _ _ (above_half m c t h 1 1 rfl inb_S2x8x1408_S1x8x1408_1_0_0) (held_half m c t h 256 0 (by omega) 1 1 rfl inb_S2x256x1408_S1x256x1408_1_0_0)
    (ld_bias m c t 1 1 rfl inb_S2x1x1408_S1x1x1408_1_0_0) (ld_tap m c t 1 0 1 0 rfl rfl inb_S2x3x1408_S1x1x1408_1_0_0)
    (ld_tap m c t 1 1 1 1 rfl rfl inb_S2x3x1408_S1x1x1408_1_1_0) (ld_tap m c t 1 2 1 2 rfl rfl inb_S2x3x1408_S1x1x1408_1_2_0)
  rw [outsAt0_B m c t h]
  frame_out
  simp only [read_unread_whole]
  idx_vars y
  refine (pay2 _ _ (ix2 y0 y1)).trans ?_
  exact congrArg₂ (fun u v => u * Ideal.logistic u * v) (e0 y0 y1) (e1 y0 y1)

/-! ## The whole arrays -/

omit t in
/-- The products, the whole array. -/
theorem arr5 (R : FVec Ideal S2x8192x2816 .f32) (hR : ∀ p r q, R (ix3 p r q) = aH m c (ix2 r (half p q))) : (dats m 0 c).arrAt 5 cfg0.N = R := by
  refine (dats m 0 c).arrAt_eq_of_covers 5 _ (by decide +kernel) fun t hf y => ?_
  blk_simp
  rw [after0_5]
  have e := out_at m c t y
  idx_vars y
  refine e.trans ((hR _ _ _).symm.trans ?_)
  blk_ext [idx t, row, chan]

omit t in
/-- The gated convolution, the whole array. -/
theorem arr6 (R : FVec Ideal S8192x2816 .bf16) (hR : ∀ r q, R (ix2 r q) = gated (aH m c) (aW m c) (aB m c) r.val q) :
    (dats m 0 c).arrAt 6 cfg0.N = R := by
  refine (dats m 0 c).arrAt_eq_of_covers 6 _ (by decide +kernel) fun t hf y => ?_
  have e := act_at m c t (flush t hf) y
  blk_simp
  rw [after0_6]
  idx_vars y
  have hr : (t.val % 33 - 1) * 256 + y0.val < 8192 := by have := lt_66 t; omega
  refine e.trans ((hR ⟨_, hr⟩ _).symm.trans ?_)
  blk_ext [idx t, chan]

/-! ## The reference -/

section Reference

open UpGateRefIdeal.Read

variable (x : FVec Ideal S8192x1024 .bf16) (u : FVec Ideal S5632x1024 .bf16) (w : FVec Ideal S3x5632 .f32) (b : FVec Ideal S5632 .f32)

theorem ref_prods : val_main_v3 (F := Ideal) x u = prods x u := by
  funext i
  idx_vars i
  unfold val_main_v3 val_main_v2 val_main_v1 val_main_v0 prods
  pointwise

theorem ref_out (p : Fin 2) (r : Fin 8192) (q : Fin 2816) : val_main_v5 (F := Ideal) x u (ix3 p r q) = prods x u (ix2 r (half p q)) := by
  unfold val_main_v5 val_main_v4
  rw [ref_prods]
  generalize prods x u = y
  pointwise
  refine congrArg y (congrArg (ix2 r) (Fin.ext ?_))
  show p.val * 2816 + q.val = 2816 * p.val + q.val
  omega

theorem ref_gate (q : Fin 2816) (r : Fin 8192) : val_main_v34 (F := Ideal) x u w b (ix3 0 r q) = cv (prods x u) w b 0 q r := by
  rw [← ref_prods]
  exact ConvValue.ref_gate (val_main_v3 (F := Ideal) x u) w b q r

theorem ref_val (q : Fin 2816) (r : Fin 8192) : val_main_v35 (F := Ideal) x u w b (ix3 0 r q) = cv (prods x u) w b 1 q r := by
  rw [← ref_prods]
  exact ConvValue.ref_val (val_main_v3 (F := Ideal) x u) w b q r

theorem ref_sig (q : Fin 2816) (r : Fin 8192) :
    val_main_call0_v5 (F := Ideal) x u w b (ix3 0 r q) = Ideal.logistic (val_main_v34 (F := Ideal) x u w b (ix3 0 r q)) :=
  ConvValue.ref_sig (val_main_v3 (F := Ideal) x u) w b q r

theorem ref_act (r : Fin 8192) (q : Fin 2816) : val_main_v39 (F := Ideal) x u w b (ix2 r q) = gated (prods x u) w b r.val q := by
  have e0 := ref_gate x u w b q r
  have e1 := ref_val x u w b q r
  have e2 := ref_sig x u w b q r
  rw [e0] at e2
  unfold val_main_v39 val_main_v38 val_main_v37 val_main_v36
  generalize val_main_v34 (F := Ideal) x u w b = y0 at e0 ⊢
  generalize val_main_v35 (F := Ideal) x u w b = y1 at e1 ⊢
  generalize val_main_call0_v5 (F := Ideal) x u w b = y2 at e2 ⊢
  pointwise
  rw [e0, e1, e2]
  rfl

end Reference

/-- Kernel and reference end with the same two results. -/
theorem algebraic : @algebraic_UpGateIdeal_UpGateRefIdeal UpGateIdeal.Gen.facts UpGateRefIdeal.Gen.facts := by
  pair_intro
  · run_from UpGateIdeal.Value.run_blocks m g
  · run_from UpGateRefIdeal.Value.run m' g'
    all_goals obtain ⟨e0, e1, e2, e3⟩ := hagree c
    · rw [UpGateRefIdeal.Read.val_main_v5_eq]
      exact (arr5 m c _ fun p r q => ref_out _ _ p r q).symm
    · rw [UpGateRefIdeal.Read.val_main_v39_eq, e0, e1, e2, e3]
      exact (arr6 m c _ fun r q => ref_act _ _ _ _ r q).symm

/-- The reference leaves its arguments as they were and every counter at zero. -/
theorem quiescent_ref : @quiescent_UpGateRefIdeal UpGateRefIdeal.Gen.facts := fun m ρ _ =>
  (θ_run UpGateRefIdeal.defs _ _).mono (fun r h => ⟨fun c => (h c).2.2, sem_eq_zero_of_no_sems (by decide) r.2⟩)
    (UpGateRefIdeal.Value.run (F := Ideal) m ρ)

end Cert.UpGateValue

end
-- ==== Proof.ProjTile.lean ====
/-
  The mixers' projection with the mixed rows: one block of rows. The kernel keeps the block of products of the point before
  and the sixteen rows above it, and mixes those: the pooled lanes and the gated lanes are the ones that the gradient's
  kernel computes again, so their values are read by the same lemmas.
-/
module

public import proofs.«01_k».proof.Defs
public import proofs.«01_k».proof.Proof.MixTile
public import proofs.«01_k».proof.Proof.Gen.ProjIdeal.Frame
public import Idealize.ShloMosaic.Lib.Pipeline.Value
public import Idealize.ShloMosaic.Lib.Pipeline.ValueKit
public import Idealize.ShloMosaic.Lib.Pipeline.ReadBack
public import Idealize.ShloMosaic.Lib.Routing.Words

@[expose] public section

set_option maxRecDepth 16384

noncomputable section

namespace Cert.ProjValue

open Idealize.ShloMosaic Idealize.ShloMosaic.TcCoe
open Cert.ProjIdeal Cert.ProjIdeal.Gen
open MixerValue (col sub grp devs pre act vns zs low)

/-! ## The pooled lanes -/

section Pooled

variable (P : Fin 512 → ℕ → EReal) (i : grid0.Coords) (i' : MixerIdeal.grid0.Coords) (hi : (i 0).val = (i' 0).val + 1)
  (p : Vec Ideal S512x512 .f32) (A : Vec Ideal S16x512 .f32)
  (hp : ∀ (j : Fin 512) l, p (ix2 j l) = P l (512 * (i' 0).val + j))
  (hA : ∀ (j : Fin 16) l, A (ix2 j l) = Pool.above (P l) (i' 0).val j)

include hi in
/-- The block's row numbers are those of the point before. -/
theorem rows_eq : k0_pay5 i = MixerIdeal.Gen.k0_pay13 i' := by
  funext y
  idx_vars y
  rw [MixerValue.pay13_at]
  have hn : (i' 0).val < 16 := (i' 0).isLt
  pointwise [k0_pay5]
  rw [hi]
  have e : Scalar.subi (BitVec.ofNat 32 ((i' 0).val + 1)) 1#32 = BitVec.ofNat 32 (i' 0).val := by
    show BitVec.ofNat 32 ((i' 0).val + 1) - 1#32 = _
    rw [BitVec.ofNat_add]
    exact BitVec.add_sub_cancel _ _
  rw [e, MixerValue.word_row]
  unfold IntOp.maxsi
  rw [show (0#32 : BitVec 32) = BitVec.ofNat 32 0 from rfl, Routing.slt_ofNat32 (by decide) (by omega)]
  by_cases h0 : 512 * (i' 0).val + y0.val = 0
  · rw [h0]; simp
  · rw [if_pos (by simp; omega)]

include hp hA in
/-- The rows with the sixteen above them are laid out as the gradient's kernel lays them out. -/
theorem halo_eq : k0_pay6 p A = MixerIdeal.Gen.k0_pay15 i' p A := by
  funext y
  idx_vars y
  rw [MixerValue.pay15_at i' P p A hp (fun h j l => (hA j l).trans (if_pos (Or.inr h)))]
  pointwise [k0_pay6]
  by_cases he : y0.val < 16
  · rw [dif_pos he, hA]
  · rw [dif_neg he, hp]
    unfold Pool.above
    rw [if_pos (Or.inl (by omega))]
    exact congrArg (P y1) (by show 512 * (i' 0).val + (y0.val - 16) = _; omega)

variable (W : Fin 4 → Fin 128 → Fin 128 → EReal) (S : Fin 512 → EReal) (g : Fin 4)
  (w : Vec Ideal S1x128x128 .f32) (hw : ∀ b a, w (ix3 0 b a) = W g b a) (s : Vec Ideal S1x128 .f32) (hs : ∀ a, s (ix2 0 a) = S (col g a))

include hw hs in
/-- A group's deviations through its weights, times the scale. -/
theorem tail_at (D : FVec Ideal S512x128 .bf16) (r : Fin 512 → ℕ) (hD : ∀ j a, D (ix2 j a) = devs P (col g a) (r j)) (j : Fin 512) (a : Fin 128) :
    truncf .bf16 (mulf (matmul dot_S512x128_S128x128_S512x128_1_0_0_1_n_n none D
      (truncf .bf16 (shapeCast S128x128 w shapeCasts_S1x128x128_S128x128) bitsLt_bf16_f32 : FVec Ideal S128x128 .bf16)
      (constant S512x128 .f32 0x00000000#32))
      (broadcastTo S512x128 (shapeCast S1x128 s shapeCasts_S1x128_S1x128) broadcasts_S1x128_S512x128) : FVec Ideal S512x128 .f32) bitsLt_bf16_f32 (ix2 j a)
      = pre P W (col g a) (r j) * S (col g a) := by
  unfold pre
  simp only [MixerValue.grp_col, MixerValue.sub_col, ← hs, ← hw, ← hD]
  clear hs hw hD
  pointwise

include hi hp hA hw hs

theorem pool0_at (hg : g = 0) (j : Fin 512) (a : Fin 128) : k0_pay7 i p A w s (ix2 j a)
    = pre P W (col g a) (512 * (i' 0).val + j) * S (col g a) := by
  subst hg
  have h := MixerValue.dev0_at i' P p A hp (fun h j l => (hA j l).trans (if_pos (Or.inr h)))
  unfold k0_pay7
  rw [rows_eq i i' hi, halo_eq P i' p A hp hA]
  exact tail_at P W S 0 w hw s hs (MixerIdeal.Gen.k0_pay17 i' p A) (fun j => 512 * (i' 0).val + j) h j a

theorem pool1_at (hg : g = 1) (j : Fin 512) (a : Fin 128) : k0_pay8 (k0_pay5 i) p (k0_pay6 p A) w s (ix2 j a)
    = pre P W (col g a) (512 * (i' 0).val + j) * S (col g a) := by
  subst hg
  have h := MixerValue.dev1_at i' P p A hp (fun h j l => (hA j l).trans (if_pos (Or.inr h)))
  rw [rows_eq i i' hi, halo_eq P i' p A hp hA]
  exact tail_at P W S 1 w hw s hs _ (fun j => 512 * (i' 0).val + j) h j a

theorem pool2_at (hg : g = 2) (j : Fin 512) (a : Fin 128) : k0_pay11 (k0_pay9 (k0_pay5 i) (k0_pay6 p A)) (k0_pay10 p) w s (ix2 j a)
    = pre P W (col g a) (512 * (i' 0).val + j) * S (col g a) := by
  subst hg
  have h := MixerValue.dev2_at i' P p A hp (fun h j l => (hA j l).trans (if_pos (Or.inr h)))
  rw [rows_eq i i' hi, halo_eq P i' p A hp hA]
  exact tail_at P W S 2 w hw s hs _ (fun j => 512 * (i' 0).val + j) h j a

theorem pool3_at (hg : g = 3) (j : Fin 512) (a : Fin 128) : k0_pay14 (k0_pay12 (k0_pay5 i) p (k0_pay6 p A) w) (k0_pay13 s) (ix2 j a)
    = pre P W (col g a) (512 * (i' 0).val + j) * S (col g a) := by
  subst hg
  have h := MixerValue.dev3_at i' P p A hp (fun h j l => (hA j l).trans (if_pos (Or.inr h)))
  rw [rows_eq i i' hi, halo_eq P i' p A hp hA]
  exact tail_at P W S 3 w hw s hs _ (fun j => 512 * (i' 0).val + j) h j a

end Pooled

/-! ## The gated lanes -/

section Gated

theorem named_root : Named.named (F := Ideal) (φ := .f32) Cert.ProjIdeal.κ "sqrt_half" 0x3F3504F3#32 = Gate.root := rfl

/-- Both kernels take the same gelu, the product grouped differently. -/
theorem gelu_eq (x : Vec Ideal S512x512 .f32) : k0_pay16 x = MixerIdeal.Gen.k0_pay47 x := by
  funext y
  idx_vars y
  rw [MixerValue.gelu_at]
  unfold Gate.gelu Gate.cdf
  pointwise [k0_pay16]
  rw [named_root]
  show Gate.half * x (ix2 y0 y1) * (1 + Ideal.erf (x (ix2 y0 y1) * Gate.root)) = _
  rw [mul_comm Gate.half, mul_assoc]

theorem gelu_at (x : Vec Ideal S512x512 .f32) (j l : Fin 512) : k0_pay16 x (ix2 j l) = Gate.gelu (x (ix2 j l)) :=
  (congrFun (gelu_eq x) _).trans (MixerValue.gelu_at x j l)

/-- A block less the mean of each row. -/
def centred (y : FVec Ideal S512x512 .f32) : FVec Ideal S512x512 .f32 :=
  subf y (broadcastTo S512x512 (divf (shapeCast S512x1 (multiReduction .add [1] S512 y 0x00000000#32 reduces_S512x512_S512 (.inl rfl) rfl : FVec Ideal S512 .f32)
    shapeCasts_S512_S512x1) (broadcast S512x1 (Scalar.ofBits .f32 0x44000000#32)) : FVec Ideal S512x1 .f32) broadcasts_S512x1_S512x512)

theorem cen_eq (x : Vec Ideal S512x512 .f32) : k0_pay17 x = MixerIdeal.Gen.k0_pay51 x := by
  show centred (k0_pay16 x) = _
  rw [gelu_eq]
  rfl

theorem var_eq (x : Vec Ideal S512x512 .f32) : k0_pay18 x = MixerIdeal.Gen.k0_pay52 x := by
  unfold k0_pay18
  rw [cen_eq]
  rfl

variable (x : Vec Ideal S512x512 .f32) (V : ℕ → Fin 512 → EReal) (o : ℕ) (hx : ∀ (j : Fin 512) l, x (ix2 j l) = V (o + j) l)
  (g : Vec Ideal S1x512 .f32) (G : Fin 512 → EReal) (hg : ∀ l, g (ix2 0 l) = G l)

include hx hg in
theorem vn_at (j l : Fin 512) : k0_pay20 (k0_pay17 x) (k0_pay18 x) k0_pay19 g (ix2 j l) = vns V G (o + j) l := by
  rw [cen_eq, var_eq, ← MixerValue.vn_at x V o hx g G hg j l]
  rfl

variable (W : Fin 4 → Fin 128 → Fin 128 → EReal) (h : Fin 4) (w : Vec Ideal S1x128x128 .f32) (hw : ∀ t s, w (ix3 0 t s) = W h t s)

include hw in
theorem low_at (t s : Fin 128) : k0_pay22 w (ix2 t s) = low W h t s := MixerValue.low_at W h w hw t s

variable (U : ℕ → Fin 512 → EReal) (B : Fin 128 → Fin 512 → EReal) (n : ℕ) (c : Fin 4)
  (u : FVec Ideal S512x512 .f32) (hu : ∀ (j : Fin 512) l, u (ix2 j l) = act U (512 * n + j) l)
  (v : FVec Ideal S512x512 .bf16) (hv : ∀ (j : Fin 512) l, v (ix2 j l) = vns V G (512 * n + j) l)
  (m : FVec Ideal S128x128 .bf16) (hm : ∀ t s, m (ix2 t s) = low W h t s)
  (b : Vec Ideal S128x128 .f32) (hb : ∀ t a, b (ix2 t a) = B t (col h a))

/-- A tile of the gated rows: the first lanes times the mixed second ones. -/
def gated (o₁ o₂ : ℕ) (hs : Shape.Slices S512x512 ![o₁, o₂] S128x128) : FVec Ideal S128x128 .bf16 :=
  truncf .bf16 (mulf (extractStridedSlice S128x128 ![o₁, o₂] u hs)
    (addf (matmul dot_S128x128_S128x128_S128x128_1_0_0_1_n_n none m (extractStridedSlice S128x128 ![o₁, o₂] v hs) (constant S128x128 .f32 0x00000000#32) : FVec Ideal S128x128 .f32)
      (shapeCast S128x128 b shapeCasts_S128x128_S128x128)) : FVec Ideal S128x128 .f32) bitsLt_bf16_f32

include hu hv hm hb in
theorem gated_at (o₁ o₂ : ℕ) (h₁ : o₁ = 128 * c) (h₂ : o₂ = 128 * h) (hs : Shape.Slices S512x512 ![o₁, o₂] S128x128) (t a : Fin 128) :
    gated u v m b o₁ o₂ hs (ix2 t a) = act U (512 * n + (col c t).val) (col h a) * zs V G W B (4 * n + c) t (col h a) := by
  rw [MixerValue.row_col]
  refine Eq.trans ?_ (MixerValue.du_tile G W h V (act U) B n c v hv m hm b hb (extractStridedSlice S128x128 ![o₁, o₂] u hs)
    (fun t a => ?_) o₁ o₂ h₁ h₂ hs t a)
  · unfold gated
    generalize extractStridedSlice S128x128 ![o₁, o₂] u hs = d
    pointwise
  · exact (MixerValue.tile_at (φ := .f32) c h o₁ o₂ h₁ h₂ u hs t a).trans ((hu _ _).trans (congrArg (fun r => act U r (col h a)) (MixerValue.row_col n c t)))

end Gated

/-! ## The block of the mixed rows -/

/-- A piece of pooled lanes lies where the block has it. -/
theorem pool_piece (F : Fin 512 → Fin 1024 → EReal) (P : Vec Ideal S512x128 .bf16) (g : Fin 4) (o : ℕ) (ho : o = 128 * g)
    (i : ∀ a, (![0, o] : Fin 2 → ℕ) a + (![512, 128] : Fin 2 → ℕ) a ≤ S512x1024.size a) (hP : ∀ j a, P (ix2 j a) = F j ⟨col g a, by omega⟩)
    (x : (Rect.unit (s := S512x1024) ![0, o] ![512, 128] i).shape.Idx) :
    P x = F ((Rect.unit (s := S512x1024) ![0, o] ![512, 128] i).emb x 0) ((Rect.unit (s := S512x1024) ![0, o] ![512, 128] i).emb x 1) := by
  idx_vars x
  refine (hP x0 x1).trans (congrArg₂ F (Fin.ext ?_) (Fin.ext ?_))
  · show x0.val = 0 + 1 * x0.val; omega
  · show 128 * g.val + x1.val = o + 1 * x1.val; omega

/-- A tile of gated lanes lies where the block has it. -/
theorem gate_piece (F : Fin 512 → Fin 1024 → EReal) (P : Vec Ideal S128x128 .bf16) (c h : Fin 4) (o₁ o₂ : ℕ) (h₁ : o₁ = 128 * c) (h₂ : o₂ = 512 + 128 * h)
    (i : ∀ a, (![o₁, o₂] : Fin 2 → ℕ) a + (![128, 128] : Fin 2 → ℕ) a ≤ S512x1024.size a) (hP : ∀ t a, P (ix2 t a) = F (col c t) ⟨512 + col h a, by omega⟩)
    (x : (Rect.unit (s := S512x1024) ![o₁, o₂] ![128, 128] i).shape.Idx) :
    P x = F ((Rect.unit (s := S512x1024) ![o₁, o₂] ![128, 128] i).emb x 0) ((Rect.unit (s := S512x1024) ![o₁, o₂] ![128, 128] i).emb x 1) := by
  idx_vars x
  refine (hP x0 x1).trans (congrArg₂ F (Fin.ext ?_) (Fin.ext ?_))
  · show 128 * c.val + x0.val = o₁ + 1 * x0.val; omega
  · show 512 + (128 * h.val + x1.val) = o₂ + 1 * x1.val; omega

/-- Twenty pieces that lie where a block has them make the block. -/
theorem canon20 (P : Fin 4 → Fin 4 → Vec Ideal S128x128 .bf16) (Q : Fin 4 → Vec Ideal S512x128 .bf16) (G : Fin 512 → Fin 1024 → EReal)
    (hP : ∀ h c t a, P h c (ix2 t a) = G (col c t) ⟨512 + col h a, by omega⟩) (hQ : ∀ g j a, Q g (ix2 j a) = G j ⟨col g a, by omega⟩)
    (i33 i32 i31 i30 i23 i22 i21 i20 i13 i12 i11 i10 i03 i02 i01 i00 j3 j2 j1 j0) (y : S512x1024.Idx) :
    View.canon (Val := Elt Ideal) (s := S512x1024) (e := .bf16) [⟨Rect.unit ![384, 896] ![128, 128] i33, P 3 3⟩, ⟨Rect.unit ![256, 896] ![128, 128] i32, P 3 2⟩, ⟨Rect.unit ![128, 896] ![128, 128] i31, P 3 1⟩, ⟨Rect.unit ![0, 896] ![128, 128] i30, P 3 0⟩, ⟨Rect.unit ![384, 768] ![128, 128] i23, P 2 3⟩, ⟨Rect.unit ![256, 768] ![128, 128] i22, P 2 2⟩, ⟨Rect.unit ![128, 768] ![128, 128] i21, P 2 1⟩, ⟨Rect.unit ![0, 768] ![128, 128] i20, P 2 0⟩, ⟨Rect.unit ![384, 640] ![128, 128] i13, P 1 3⟩, ⟨Rect.unit ![256, 640] ![128, 128] i12, P 1 2⟩, ⟨Rect.unit ![128, 640] ![128, 128] i11, P 1 1⟩, ⟨Rect.unit ![0, 640] ![128, 128] i10, P 1 0⟩, ⟨Rect.unit ![384, 512] ![128, 128] i03, P 0 3⟩, ⟨Rect.unit ![256, 512] ![128, 128] i02, P 0 2⟩, ⟨Rect.unit ![128, 512] ![128, 128] i01, P 0 1⟩, ⟨Rect.unit ![0, 512] ![128, 128] i00, P 0 0⟩, ⟨Rect.unit ![0, 384] ![512, 128] j3, Q 3⟩, ⟨Rect.unit ![0, 256] ![512, 128] j2, Q 2⟩, ⟨Rect.unit ![0, 128] ![512, 128] j1, Q 1⟩, ⟨Rect.unit ![0, 0] ![512, 128] j0, Q 0⟩] y = G (y 0) (y 1) := by
  refine View.canon_append_of_piecesOf (Val := Elt Ideal) (s := S512x1024) (e := .bf16) (fun y => G (y 0) (y 1)) [] [_, _, _, _, _, _, _, _, _, _, _, _, _, _, _, _, _, _, _, _]
    ⟨fun x => gate_piece G (P 3 3) 3 3 384 896 rfl rfl i33 (hP 3 3) x,
      fun x => gate_piece G (P 3 2) 2 3 256 896 rfl rfl i32 (hP 3 2) x,
      fun x => gate_piece G (P 3 1) 1 3 128 896 rfl rfl i31 (hP 3 1) x,
      fun x => gate_piece G (P 3 0) 0 3 0 896 rfl rfl i30 (hP 3 0) x,
      fun x => gate_piece G (P 2 3) 3 2 384 768 rfl rfl i23 (hP 2 3) x,
      fun x => gate_piece G (P 2 2) 2 2 256 768 rfl rfl i22 (hP 2 2) x,
      fun x => gate_piece G (P 2 1) 1 2 128 768 rfl rfl i21 (hP 2 1) x,
      fun x => gate_piece G (P 2 0) 0 2 0 768 rfl rfl i20 (hP 2 0) x,
      fun x => gate_piece G (P 1 3) 3 1 384 640 rfl rfl i13 (hP 1 3) x,
      fun x => gate_piece G (P 1 2) 2 1 256 640 rfl rfl i12 (hP 1 2) x,
      fun x => gate_piece G (P 1 1) 1 1 128 640 rfl rfl i11 (hP 1 1) x,
      fun x => gate_piece G (P 1 0) 0 1 0 640 rfl rfl i10 (hP 1 0) x,
      fun x => gate_piece G (P 0 3) 3 0 384 512 rfl rfl i03 (hP 0 3) x,
      fun x => gate_piece G (P 0 2) 2 0 256 512 rfl rfl i02 (hP 0 2) x,
      fun x => gate_piece G (P 0 1) 1 0 128 512 rfl rfl i01 (hP 0 1) x,
      fun x => gate_piece G (P 0 0) 0 0 0 512 rfl rfl i00 (hP 0 0) x,
      fun x => pool_piece G (Q 3) 3 384 rfl j3 (hQ 3) x,
      fun x => pool_piece G (Q 2) 2 256 rfl j2 (hQ 2) x,
      fun x => pool_piece G (Q 1) 1 128 rfl j1 (hQ 1) x,
      fun x => pool_piece G (Q 0) 0 0 rfl j0 (hQ 0) x, trivial⟩ y ?_
  simp only [List.mem_cons, List.not_mem_nil, or_false, exists_eq_or_imp, exists_eq_left, Rect.mem_set_unit, Fin.forall_fin_two]
  have h0 := (y 0).isLt
  have h1 := (y 1).isLt
  simp at h0 h1 ⊢
  rcases Nat.lt_or_ge (y 1).val 512 with hl | hl
  · have e1 : (y 1).val < 128 ∨ (128 ≤ (y 1).val ∧ (y 1).val < 256) ∨ (256 ≤ (y 1).val ∧ (y 1).val < 384) ∨ 384 ≤ (y 1).val := by omega
    rcases e1 with e1 | e1 | e1 | e1
    · exact Or.inr (Or.inr (Or.inr (Or.inr (Or.inr (Or.inr (Or.inr (Or.inr (Or.inr (Or.inr (Or.inr (Or.inr (Or.inr (Or.inr (Or.inr (Or.inr (Or.inr (Or.inr (Or.inr (by omega)))))))))))))))))))
    · exact Or.inr (Or.inr (Or.inr (Or.inr (Or.inr (Or.inr (Or.inr (Or.inr (Or.inr (Or.inr (Or.inr (Or.inr (Or.inr (Or.inr (Or.inr (Or.inr (Or.inr (Or.inr (Or.inl (by omega)))))))))))))))))))
    · exact Or.inr (Or.inr (Or.inr (Or.inr (Or.inr (Or.inr (Or.inr (Or.inr (Or.inr (Or.inr (Or.inr (Or.inr (Or.inr (Or.inr (Or.inr (Or.inr (Or.inr (Or.inl (by omega))))))))))))))))))
    · exact Or.inr (Or.inr (Or.inr (Or.inr (Or.inr (Or.inr (Or.inr (Or.inr (Or.inr (Or.inr (Or.inr (Or.inr (Or.inr (Or.inr (Or.inr (Or.inr (Or.inl (by omega)))))))))))))))))
  · have e0 : (y 0).val < 128 ∨ (128 ≤ (y 0).val ∧ (y 0).val < 256) ∨ (256 ≤ (y 0).val ∧ (y 0).val < 384) ∨ 384 ≤ (y 0).val := by omega
    have e1 : (y 1).val < 640 ∨ (640 ≤ (y 1).val ∧ (y 1).val < 768) ∨ (768 ≤ (y 1).val ∧ (y 1).val < 896) ∨ 896 ≤ (y 1).val := by omega
    rcases e1 with e1 | e1 | e1 | e1 <;> rcases e0 with e0 | e0 | e0 | e0
    · exact Or.inr (Or.inr (Or.inr (Or.inr (Or.inr (Or.inr (Or.inr (Or.inr (Or.inr (Or.inr (Or.inr (Or.inr (Or.inr (Or.inr (Or.inr (Or.inl (by omega))))))))))))))))
    · exact Or.inr (Or.inr (Or.inr (Or.inr (Or.inr (Or.inr (Or.inr (Or.inr (Or.inr (Or.inr (Or.inr (Or.inr (Or.inr (Or.inr (Or.inl (by omega)))))))))))))))
    · exact Or.inr (Or.inr (Or.inr (Or.inr (Or.inr (Or.inr (Or.inr (Or.inr (Or.inr (Or.inr (Or.inr (Or.inr (Or.inr (Or.inl (by omega))))))))))))))
    · exact Or.inr (Or.inr (Or.inr (Or.inr (Or.inr (Or.inr (Or.inr (Or.inr (Or.inr (Or.inr (Or.inr (Or.inr (Or.inl (by omega)))))))))))))
    · exact Or.inr (Or.inr (Or.inr (Or.inr (Or.inr (Or.inr (Or.inr (Or.inr (Or.inr (Or.inr (Or.inr (Or.inl (by omega))))))))))))
    · exact Or.inr (Or.inr (Or.inr (Or.inr (Or.inr (Or.inr (Or.inr (Or.inr (Or.inr (Or.inr (Or.inl (by omega)))))))))))
    · exact Or.inr (Or.inr (Or.inr (Or.inr (Or.inr (Or.inr (Or.inr (Or.inr (Or.inr (Or.inl (by omega))))))))))
    · exact Or.inr (Or.inr (Or.inr (Or.inr (Or.inr (Or.inr (Or.inr (Or.inr (Or.inl (by omega)))))))))
    · exact Or.inr (Or.inr (Or.inr (Or.inr (Or.inr (Or.inr (Or.inr (Or.inl (by omega))))))))
    · exact Or.inr (Or.inr (Or.inr (Or.inr (Or.inr (Or.inr (Or.inl (by omega)))))))
    · exact Or.inr (Or.inr (Or.inr (Or.inr (Or.inr (Or.inl (by omega))))))
    · exact Or.inr (Or.inr (Or.inr (Or.inr (Or.inl (by omega)))))
    · exact Or.inr (Or.inr (Or.inr (Or.inl (by omega))))
    · exact Or.inr (Or.inr (Or.inl (by omega)))
    · exact Or.inr (Or.inl (by omega))
    · exact Or.inl (by omega)

end Cert.ProjValue

end
-- ==== Proof.ProjBlock.lean ====
/-
  The mixers' projection with the mixed rows: what the kernel's carried blocks hold after each point.
-/
module

public import proofs.«01_k».proof.Defs
public import proofs.«01_k».proof.Proof.ProjTile
public import proofs.«01_k».proof.Proof.MixValue
public import proofs.«01_k».proof.Proof.Gen.ProjIdeal.Value

@[expose] public section

set_option maxRecDepth 16384

noncomputable section

namespace Cert.ProjValue

open Idealize.ShloMosaic Idealize.ShloMosaic.TcCoe
open Cert.ProjIdeal Cert.ProjIdeal.Gen
open MixerValue (col sub grp devs pre act vns zs low fP fU fV fW fS fB IsR AllR ld2 ld3 ext_at)

/-- The products of a row with the lanes' weights. -/
def prods (x : FVec Ideal S8192x1024 .bf16) (w : FVec Ideal S1536x1024 .bf16) : FVec Ideal S8192x1536 .f32 :=
  fun i => ∑ k : Fin 1024, x (ix2 (i 0) k) * w (ix2 (i 1) k)

section Spec

variable (X : FVec Ideal S8192x1536 .f32) (W : FVec Ideal S4x128x128 .f32) (S G : FVec Ideal S512 .f32) (M : FVec Ideal S4x128x128 .f32) (B : FVec Ideal S4x128 .f32)

/-- The mixed rows: the pooled lanes, scaled, then the gated ones. -/
def mixed (r : Fin 8192) (l : Fin 1024) : EReal :=
  if h : l.val < 512 then pre (fP X) (fW W) ⟨l, h⟩ r * fS S ⟨l, h⟩
  else act (fU X) r ⟨l - 512, by omega⟩ * zs (fV X) (fS G) (fW M) (fB B) (r / 128) ⟨r % 128, Nat.mod_lt _ (by decide)⟩ ⟨l - 512, by omega⟩

theorem mixed_pool (r : Fin 8192) (l : Fin 512) : mixed X W S G M B r ⟨l, by omega⟩ = pre (fP X) (fW W) l r * fS S l := dif_pos l.isLt

theorem mixed_gate (r : Fin 8192) (l : Fin 512) (q : ℕ) (t : Fin 128) (hr : r.val = 128 * q + t) : mixed X W S G M B r ⟨512 + l, by omega⟩
    = act (fU X) r l * zs (fV X) (fS G) (fW M) (fB B) q t l := by
  unfold mixed
  rw [dif_neg (by show ¬ 512 + l.val < 512; omega)]
  have e : (⟨(⟨512 + l, by omega⟩ : Fin 1024) - 512, by show 512 + l.val - 512 < 512; omega⟩ : Fin 512) = l := Fin.ext (by show 512 + l.val - 512 = _; omega)
  have e1 : r.val / 128 = q := by omega
  have e2 : (⟨r.val % 128, Nat.mod_lt _ (by decide)⟩ : Fin 128) = t := Fin.ext (by show r.val % 128 = _; omega)
  rw [e, e1, e2]

end Spec

/-! ## Where the blocks lie -/

/-- Where each window's block lies. -/
theorem idx : ∀ t : Fin cfg0.N, (win0_0.index t 0 = min t.val 15 ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = 0 ∧ win0_3.index t 1 = 0) ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0)
    ∧ (win0_7.index t 0 = min t.val 15 ∧ win0_7.index t 1 = 0)
    ∧ (win0_8.index t 0 = t.val - 1 ∧ win0_8.index t 1 = 0) := by decide +kernel

/-- The mixed rows are written out at every point but the first. -/
theorem flush : ∀ t : Fin cfg0.N, (cfg0.win 8).flush t = true → ¬ t.val % 17 = 0 := by decide +kernel

theorem lt_17 (t : Fin cfg0.N) : t.val < 17 := lt_of_lt_of_eq t.isLt N_0

/-- A point's number is its place on the grid's only axis. -/
theorem coord : ∀ t : Fin cfg0.N, ((grid0.coords t) 0).val = t.val := by decide +kernel

/-- The point before. -/
def prev (t : Fin cfg0.N) : Fin cfg0.N := ⟨t.val - 1, Nat.lt_of_le_of_lt (Nat.sub_le _ _) t.isLt⟩

/-- The gradient's point of the same rows as the point before. -/
def back (t : Fin cfg0.N) : MixerIdeal.grid0.Coords :=
  MixerIdeal.grid0.coords ⟨t.val - 1, by have h := lt_17 t; exact lt_of_lt_of_eq (by omega : t.val - 1 < 16) MixerIdeal.Gen.N_0.symm⟩

theorem back_val (t : Fin cfg0.N) : ((back t) 0).val = t.val - 1 := MixerValue.coord _

/-- Row `r` of point `t`. -/
def row (t : Fin cfg0.N) (r : Fin 512) : Fin 8192 := ⟨min t.val 15 * 512 + r, by omega⟩

theorem row_prev (t : Fin cfg0.N) (r : Fin 512) : (row (prev t) r).val = 512 * (t.val - 1) + r := by
  have h := lt_17 t
  show min (t.val - 1) 15 * 512 + r.val = _
  omega

variable (m : (ℓ : Loc nD τ sig) → Buf (Elt Ideal) ℓ) (c : Dev nD)

/-- The normed rows. -/
abbrev aN : FVec Ideal S8192x1024 .bf16 := m ((c.tc : Thread nD τ).loc main_arg0)

/-- The projection's weights, a row per lane. -/
abbrev aP : FVec Ideal S1536x1024 .bf16 := m ((c.tc : Thread nD τ).loc main_arg1)

/-- The pooled groups' weights. -/
abbrev aW : FVec Ideal S4x128x128 .f32 := m ((c.tc : Thread nD τ).loc main_arg2)

/-- The pooled lanes' scale. -/
abbrev aS : FVec Ideal S512 .f32 := m ((c.tc : Thread nD τ).loc main_arg3)

/-- The gain of the gated lanes. -/
abbrev aG : FVec Ideal S512 .f32 := m ((c.tc : Thread nD τ).loc main_arg4)

/-- The gating weights. -/
abbrev aM : FVec Ideal S4x128x128 .f32 := m ((c.tc : Thread nD τ).loc main_arg5)

/-- The gating bias. -/
abbrev aB : FVec Ideal S4x128 .f32 := m ((c.tc : Thread nD τ).loc main_arg6)

/-- The products. -/
abbrev aX : FVec Ideal S8192x1536 .f32 := prods (aN m c) (aP m c)

/-- The mixed rows. -/
abbrev aC : Fin 8192 → Fin 1024 → EReal := mixed (aX m c) (aW m c) (aS m c) (aG m c) (aM m c) (aB m c)

theorem iblk0 (t : Fin cfg0.N) (r : Fin 512) (k : Fin 1024) : iblk m c 0 t (ix2 r k) = aN m c (ix2 (row t r) k) := by blk_ext [iblk, V, idx t, row]

theorem iblk1 (t : Fin cfg0.N) (l : Fin 1536) (k : Fin 1024) : iblk m c 1 t (ix2 l k) = aP m c (ix2 l k) := by blk_ext [iblk, V, idx t]

theorem iblk2 (t : Fin cfg0.N) (g : Fin 4) (a b : Fin 128) : iblk m c 2 t (ix3 g a b) = aW m c (ix3 g a b) := by blk_ext [iblk, V, idx t]

theorem iblk3 (t : Fin cfg0.N) (l : Fin 512) : iblk m c 3 t (ix2 0 l) = aS m c (ix1 l) := by blk_ext! [iblk, V, idx t]

theorem iblk4 (t : Fin cfg0.N) (l : Fin 512) : iblk m c 4 t (ix2 0 l) = aG m c (ix1 l) := by blk_ext! [iblk, V, idx t]

theorem iblk5 (t : Fin cfg0.N) (g : Fin 4) (a b : Fin 128) : iblk m c 5 t (ix3 g a b) = aM m c (ix3 g a b) := by blk_ext [iblk, V, idx t]

theorem bias_at (r : Fin 128) (l : Fin 512) : V m c main_v4 (ix2 r l) = aB m c (ix2 (grp l) r) := by
  have e : V m c main_v4 = shapeCast S128x512 (broadcastInDim S128x4x128 ![0, 1] bcast_S128x4_S128x4x128_0_1
      (transpose S128x4 [1, 0] (aB m c) transposes_S4x128_S128x4_1_0)) shapeCasts_S128x4x128_S128x512 := rfl
  rw [e]
  generalize aB m c = b
  pointwise
  rfl

theorem iblk6 (t : Fin cfg0.N) (r : Fin 128) (l : Fin 512) : iblk m c 6 t (ix2 r l) = aB m c (ix2 (grp l) r) := by
  rw [← bias_at]
  blk_ext [iblk, idx t]

/-! ## What is carried -/

theorem w_first (t : Fin cfg0.N) (h : t.val % 17 = 0) (y : S1024x1536.Idx) :
    (outsAt0 m c t.val t.isLt).2.2.2.2 y = aP m c (ix2 (y 1) (y 0)) := by
  rw [outsAt0_A m c t h]
  frame_out
  idx_vars y
  refine Eq.trans ?_ (iblk1 m c t y1 y0)
  generalize iblk m c 1 t = z
  pointwise [k0_pay4]

theorem w_next (t : Fin cfg0.N) (h : ¬ t.val % 17 = 0) :
    (outsAt0 m c t.val t.isLt).2.2.2.2 = (outsAt0 m c (t.val - 1) (Nat.lt_of_le_of_lt (Nat.sub_le _ _) t.isLt)).2.2.2.2 := by
  rw [outsAt0_B m c t h]
  rfl

/-- The weights, kept since the first point. -/
theorem w_at (n : ℕ) (hn : n < cfg0.N) (k : Fin 1024) (l : Fin 1536) : (outsAt0 m c n hn).2.2.2.2 (ix2 k l) = aP m c (ix2 l k) := by
  induction n with
  | zero => exact w_first m c ⟨0, hn⟩ rfl (ix2 k l)
  | succ n ih =>
    by_cases h : (n + 1) % 17 = 0
    · exact w_first m c ⟨n + 1, hn⟩ h (ix2 k l)
    · exact (congrFun (w_next m c ⟨n + 1, hn⟩ h) (ix2 k l)).trans (ih (Nat.lt_of_succ_lt hn))

variable (t : Fin cfg0.N)

/-- The products of a point. -/
theorem prod_at (w : Vec Ideal S1024x1536 .bf16) (hw : ∀ k l, w (ix2 k l) = aP m c (ix2 l k)) (y : S512x1536.Idx) :
    k0_pay46 (iblk m c 0 t) w y = aX m c (ix2 (row t (y 0)) (y 1)) := by
  idx_vars y
  refine Eq.trans ?_ (Finset.sum_congr rfl fun k _ => congrArg₂ (fun a b : EReal => a * b) (iblk0 m c t y0 k) (hw k y1))
  generalize iblk m c 0 t = z
  pointwise [k0_pay46]

theorem w_lead (k : Fin 1024) (l : Fin 1536) : k0_pay4 (iblk m c 1 t) (ix2 k l) = aP m c (ix2 l k) := by
  rw [← iblk1 m c t l k]
  generalize iblk m c 1 t = z
  pointwise [k0_pay4]

/-- The products of a point, as the first result takes them. -/
theorem out_at (y : S512x1536.Idx) : (outsAt0 m c t.val t.isLt).1 y = aX m c (ix2 (row t (y 0)) (y 1)) := by
  by_cases h : t.val % 17 = 0
  · rw [outsAt0_A m c t h]
    frame_open
    simp (disch := decide) only [↓ View.readCov_skip, ↓ View.readCov_cons_toLoadRect, ↓ View.readCov_fill]
    frame_out
    exact prod_at m c t _ (w_lead m c t) y
  · have e := prod_at m c t _ (w_at m c (prev t).val (prev t).isLt) y
    rw [outsAt0_B m c t h]
    frame_out
    simp only [read_unread_whole]
    exact e

theorem pay1 (x : FVec Ideal S512x1536 .f32) (y : S512x1536.Idx) : k0_pay1 x y = x y := by
  idx_vars y
  pointwise [k0_pay1]

/-- The products of a point, as the next point takes them. -/
theorem held_at (y : S512x1536.Idx) : (outsAt0 m c t.val t.isLt).2.2.1 y = aX m c (ix2 (row t (y 0)) (y 1)) := by
  by_cases h : t.val % 17 = 0
  · rw [outsAt0_A m c t h]
    frame_open
    simp (disch := decide) only [↓ View.readCov_skip, ↓ View.readCov_cons_toLoadRect, ↓ View.readCov_fill]
    frame_out
    exact (pay1 _ y).trans (prod_at m c t _ (w_lead m c t) y)
  · have e := prod_at m c t _ (w_at m c (prev t).val (prev t).isLt) y
    rw [outsAt0_B m c t h]
    frame_out
    simp only [read_unread_whole]
    exact (pay1 _ y).trans e

/-- The block of products that the point before has left. -/
def held : Vec Ideal S512x1536 .f32 := (outsAt0 m c (t.val - 1) (Nat.lt_of_le_of_lt (Nat.sub_le _ _) t.isLt)).2.2.1

/-- The rows above it. -/
def above : Vec Ideal S16x512 .f32 := (outsAt0 m c (t.val - 1) (Nat.lt_of_le_of_lt (Nat.sub_le _ _) t.isLt)).2.2.2.1

theorem held_row (j : Fin 512) (l : Fin 1536) (k : Fin 8192) (hk : k.val = 512 * (t.val - 1) + j) : held m c t (ix2 j l) = aX m c (ix2 k l) :=
  (held_at m c (prev t) (ix2 j l)).trans (congrArg (fun r => aX m c (ix2 r l)) (Fin.ext ((row_prev t j).trans hk.symm)))

theorem pay15 (x : Vec Ideal S16x512 .f32) (e : Fin 16) (l : Fin 512) : k0_pay15 x (ix2 e l) = x (ix2 e l) := by pointwise [k0_pay15]

/-- The sixteen rows above a block, the block's last rows kept from the point before: zero above the first block. -/
theorem above_at (e : Fin 16) (l : Fin 512) : (outsAt0 m c t.val t.isLt).2.2.2.1 (ix2 e l) = Pool.above (fP (aX m c) l) t.val e := by
  have ht := lt_17 t
  unfold Pool.above
  by_cases h : t.val % 17 = 0
  · rw [outsAt0_A m c t h]
    frame_open
    simp (disch := decide) only [↓ View.readCov_skip, ↓ View.readCov_cons_toLoadRect, ↓ View.readCov_fill]
    frame_out
    rw [if_neg (by omega), pay15]
    refine (ld2 (φ := .f32) (m := 512) (n := 1536) (k0_pay2 (F := Ideal)) 496 0 _ e l (by omega) (by omega)).trans ?_
    pointwise [k0_pay2]
  · have hr : 512 * t.val + e.val - 16 < 8192 := by omega
    have e1 := held_row m c t ⟨496 + e, by omega⟩ ⟨0 + l, by omega⟩ ⟨512 * t.val + e - 16, hr⟩ (by
      show 512 * t.val + e.val - 16 = 512 * (t.val - 1) + (496 + e.val); omega)
    unfold held at e1
    rw [outsAt0_B m c t h]
    frame_out
    simp only [read_unread_whole]
    rw [if_pos (Or.inr (by omega)), pay15]
    refine (ld2 (φ := .f32) _ 496 0 _ e l (by omega) (by omega)).trans (e1.trans ?_)
    unfold fP
    rw [ext_at _ hr]
    exact congrArg (fun l => aX m c (ix2 _ l)) (Fin.ext (Nat.zero_add _))

/-! ## The mixed rows of a point -/

/-- A block's mixed rows. -/
def blockAt (j : Fin 512) (l : Fin 1024) : EReal := aC m c (row (prev t) j) l

/-- The pooled lanes of the block. -/
def lanes : Vec Ideal S512x512 .f32 := View.ld (held m c t) (Rect.unit ![0, 0] ![512, 512] inb_S512x1536_S512x512_0_0)

theorem lanes_at (j : Fin 512) (l : Fin 512) : lanes m c t (ix2 j l) = fP (aX m c) l (512 * ((back t) 0).val + j) := by
  have ht := lt_17 t
  rw [back_val]
  have hr : 512 * (t.val - 1) + j.val < 8192 := by omega
  unfold fP
  rw [ext_at _ hr]
  refine (ld2 (φ := .f32) (held m c t) 0 0 _ j l (by omega) (by omega)).trans ((held_row m c t _ _ ⟨_, hr⟩ ?_).trans ?_)
  · show 512 * (t.val - 1) + j.val = 512 * (t.val - 1) + (0 + j.val); omega
  · exact congrArg (fun l => aX m c (ix2 _ l)) (Fin.ext (Nat.zero_add _))

theorem above_prev (e : Fin 16) (l : Fin 512) : above m c t (ix2 e l) = Pool.above (fP (aX m c) l) ((back t) 0).val e := by
  rw [back_val]
  exact above_at m c (prev t) e l

/-- The two halves of the gated lanes of the block. -/
def first : Vec Ideal S512x512 .f32 := View.ld (held m c t) (Rect.unit ![0, 512] ![512, 512] inb_S512x1536_S512x512_0_512)

def second : Vec Ideal S512x512 .f32 := View.ld (held m c t) (Rect.unit ![0, 1024] ![512, 512] inb_S512x1536_S512x512_0_1024)

theorem first_at (j l : Fin 512) : first m c t (ix2 j l) = fU (aX m c) (512 * (t.val - 1) + j) l := by
  have ht := lt_17 t
  have hr : 512 * (t.val - 1) + j.val < 8192 := by omega
  unfold fU
  rw [ext_at _ hr]
  refine (ld2 (φ := .f32) (held m c t) 0 512 _ j l (by omega) (by omega)).trans (held_row m c t _ _ ⟨_, hr⟩ ?_)
  show 512 * (t.val - 1) + j.val = 512 * (t.val - 1) + (0 + j.val); omega

theorem second_at (j l : Fin 512) : second m c t (ix2 j l) = fV (aX m c) (512 * (t.val - 1) + j) l := by
  have ht := lt_17 t
  have hr : 512 * (t.val - 1) + j.val < 8192 := by omega
  unfold fV
  rw [ext_at _ hr]
  refine (ld2 (φ := .f32) (held m c t) 0 1024 _ j l (by omega) (by omega)).trans (held_row m c t _ _ ⟨_, hr⟩ ?_)
  show 512 * (t.val - 1) + j.val = 512 * (t.val - 1) + (0 + j.val); omega

theorem ld_pw (g : Fin 4) (o : ℕ) (ho : o = g) (h) (a b : Fin 128) :
    View.ld (iblk m c 2 t) (Rect.unit (s := S4x128x128) ![o, 0, 0] ![1, 128, 128] h) (ix3 0 a b) = fW (aW m c) g a b :=
  (ld3 (φ := .f32) (iblk m c 2 t) o g ho h a b).trans (iblk2 m c t g a b)

theorem ld_ps (g : Fin 4) (o : ℕ) (ho : o = 128 * g) (h) (a : Fin 128) :
    View.ld (iblk m c 3 t) (Rect.unit (s := S1x512) ![0, o] ![1, 128] h) (ix2 0 a) = fS (aS m c) (col g a) := by
  subst ho
  exact (ld2 (φ := .f32) (iblk m c 3 t) 0 _ h 0 a (by decide) (by omega)).trans (iblk3 m c t _)

/-- One group of the pooled lanes, mixed and scaled. -/
def pooled : Fin 4 → Vec Ideal S512x128 .bf16
  | 0 => k0_pay7 (grid0.coords t) (lanes m c t) (above m c t)
      (View.ld (iblk m c 2 t) (Rect.unit ![0, 0, 0] ![1, 128, 128] inb_S4x128x128_S1x128x128_0_0_0)) (View.ld (iblk m c 3 t) (Rect.unit ![0, 0] ![1, 128] inb_S1x512_S1x128_0_0))
  | 1 => k0_pay8 (k0_pay5 (grid0.coords t)) (lanes m c t) (k0_pay6 (lanes m c t) (above m c t))
      (View.ld (iblk m c 2 t) (Rect.unit ![1, 0, 0] ![1, 128, 128] inb_S4x128x128_S1x128x128_1_0_0)) (View.ld (iblk m c 3 t) (Rect.unit ![0, 128] ![1, 128] inb_S1x512_S1x128_0_128))
  | 2 => k0_pay11 (k0_pay9 (k0_pay5 (grid0.coords t)) (k0_pay6 (lanes m c t) (above m c t))) (k0_pay10 (lanes m c t))
      (View.ld (iblk m c 2 t) (Rect.unit ![2, 0, 0] ![1, 128, 128] inb_S4x128x128_S1x128x128_2_0_0)) (View.ld (iblk m c 3 t) (Rect.unit ![0, 256] ![1, 128] inb_S1x512_S1x128_0_256))
  | 3 => k0_pay14 (k0_pay12 (k0_pay5 (grid0.coords t)) (lanes m c t) (k0_pay6 (lanes m c t) (above m c t))
      (View.ld (iblk m c 2 t) (Rect.unit ![3, 0, 0] ![1, 128, 128] inb_S4x128x128_S1x128x128_3_0_0)))
      (k0_pay13 (View.ld (iblk m c 3 t) (Rect.unit ![0, 384] ![1, 128] inb_S1x512_S1x128_0_384)))

theorem pooled_at (hz : ¬ t.val % 17 = 0) (g : Fin 4) (j : Fin 512) (a : Fin 128) : pooled m c t g (ix2 j a) = blockAt m c t j ⟨col g a, by omega⟩ := by
  have hi : ((grid0.coords t) 0).val = ((back t) 0).val + 1 := by rw [coord, back_val]; omega
  have hp := lanes_at m c t
  have hA := above_prev m c t
  refine Eq.trans (b := pre (fP (aX m c)) (fW (aW m c)) (col g a) (512 * ((back t) 0).val + j) * fS (aS m c) (col g a)) ?_ ?_
  · fin_cases g
    · exact pool0_at _ _ (back t) hi _ _ hp hA _ _ 0 _ (ld_pw m c t 0 0 rfl _) _ (ld_ps m c t 0 0 rfl _) rfl j a
    · exact pool1_at _ _ (back t) hi _ _ hp hA _ _ 1 _ (ld_pw m c t 1 1 rfl _) _ (ld_ps m c t 1 128 rfl _) rfl j a
    · exact pool2_at _ _ (back t) hi _ _ hp hA _ _ 2 _ (ld_pw m c t 2 2 rfl _) _ (ld_ps m c t 2 256 rfl _) rfl j a
    · exact pool3_at _ _ (back t) hi _ _ hp hA _ _ 3 _ (ld_pw m c t 3 3 rfl _) _ (ld_ps m c t 3 384 rfl _) rfl j a
  · unfold blockAt
    rw [back_val, ← row_prev]
    exact (mixed_pool _ _ _ _ _ _ _ _).symm

/-- The gated lanes of the block, first and second half. -/
def uB : FVec Ideal S512x512 .f32 := k0_pay16 (first m c t)

def vB : FVec Ideal S512x512 .bf16 := k0_pay20 (k0_pay17 (second m c t)) (k0_pay18 (second m c t)) k0_pay19 (iblk m c 4 t)

theorem inb_head (h : Fin 4) : ∀ a, (![h.val, 0, 0] : Fin 3 → ℕ) a + (![1, 128, 128] : Fin 3 → ℕ) a ≤ S4x128x128.size a := by revert h; decide

theorem inb_lane (h : Fin 4) : ∀ a, (![0, 128 * h.val] : Fin 2 → ℕ) a + (![128, 128] : Fin 2 → ℕ) a ≤ S128x512.size a := by revert h; decide

theorem slices_tile (k h : Fin 4) : Shape.Slices S512x512 ![128 * k.val, 128 * h.val] S128x128 := by revert k h; decide

/-- One of the gate's heads: its weights and its bias. -/
def wB (h : Fin 4) : FVec Ideal S128x128 .bf16 := k0_pay22 (View.ld (iblk m c 5 t) (Rect.unit ![h.val, 0, 0] ![1, 128, 128] (inb_head h)))

def bB (h : Fin 4) : Vec Ideal S128x128 .f32 := View.ld (iblk m c 6 t) (Rect.unit ![0, 128 * h.val] ![128, 128] (inb_lane h))

/-- One tile of the gated rows. -/
def tile (h k : Fin 4) : FVec Ideal S128x128 .bf16 :=
  gated (uB m c t) (vB m c t) (wB m c t h) (bB m c t h) (128 * k.val) (128 * h.val) (slices_tile k h)

theorem bB_at (h : Fin 4) (s a : Fin 128) : bB m c t h (ix2 s a) = fB (aB m c) s (col h a) := by
  refine (ld2 (φ := .f32) (iblk m c 6 t) 0 _ (inb_lane h) s a (by omega) (by omega)).trans ((iblk6 m c t _ _).trans ?_)
  unfold fB
  refine congrArg (aB m c) (congrArg₂ ix2 rfl (Fin.ext ?_))
  show 0 + s.val = s; omega

theorem tile_at (hz : ¬ t.val % 17 = 0) (h k : Fin 4) (s a : Fin 128) : tile m c t h k (ix2 s a) = blockAt m c t (col k s) ⟨512 + col h a, by omega⟩ := by
  refine (gated_at (fV (aX m c)) (fS (aG m c)) (fW (aM m c)) h (fU (aX m c)) (fB (aB m c)) (t.val - 1) k (uB m c t)
    (fun j l => (gelu_at _ j l).trans (congrArg Gate.gelu (first_at m c t j l)))
    (vB m c t) (vn_at _ (fV (aX m c)) (512 * (t.val - 1)) (second_at m c t) _ (fS (aG m c)) (iblk4 m c t))
    (wB m c t h) (low_at (fW (aM m c)) h _ fun a b => (ld3 (φ := .f32) (iblk m c 5 t) h h rfl (inb_head h) a b).trans (iblk5 m c t h a b))
    (bB m c t h) (bB_at m c t h) _ _ rfl rfl _ s a).trans ?_
  unfold blockAt
  rw [← row_prev]
  exact (mixed_gate _ _ _ _ _ _ _ _ _ _ ((row_prev t _).trans (MixerValue.row_col _ k s))).symm

end Cert.ProjValue

end
-- ==== Proof.ProjValue.lean ====
/-
  The mixers' projection with the mixed rows: the two results as whole arrays, and the reference.
-/
module

public import proofs.«01_k».proof.Defs
public import proofs.«01_k».proof.Proof.ProjBlock
public import proofs.«01_k».proof.Proof.MixValue
public import proofs.«01_k».proof.Proof.Gen.Proj.Frame
public import proofs.«01_k».proof.Proof.Gen.ProjRefIdeal.Run
public import proofs.«01_k».proof.Proof.Gen.ProjRefIdeal.Read
public import proofs.«01_k».proof.Proof.Gen.Pre_finite_proj

@[expose] public section

set_option maxRecDepth 16384

noncomputable section

namespace Cert.ProjValue

open Idealize.ShloMosaic Idealize.ShloMosaic.TcCoe
open Cert.ProjIdeal Cert.ProjIdeal.Gen
open MixerValue (col sub grp devs pre act vns zs low fP fU fV fW fS fB IsR AllR ld2 ld3 ext_at)

variable (m : (ℓ : Loc nD τ sig) → Buf (Elt Ideal) ℓ) (c : Dev nD) (t : Fin cfg0.N)

/-- The mixed rows that a point leaves, of the block before its own. -/
theorem cat_at (hz : ¬ t.val % 17 = 0) (y : S512x1024.Idx) : (outsAt0 m c t.val t.isLt).2.1 y = blockAt m c t (y 0) (y 1) := by
  rw [outsAt0_B m c t hz]
  frame_out
  simp only [read_unread_whole]
  exact canon20 (tile m c t) (pooled m c t) (blockAt m c t) (tile_at m c t hz) (pooled_at m c t hz) _ _ _ _ _ _ _ _ _ _ _ _ _ _ _ _ _ _ _ _ y

/-! ## The whole arrays -/

omit t in
/-- The products, the whole array. -/
theorem arr7 (R : FVec Ideal S8192x1536 .f32) (hR : R = aX m c) : (dats m 0 c).arrAt 7 cfg0.N = R := by
  subst hR
  refine (dats m 0 c).arrAt_eq_of_covers 7 _ (by decide +kernel) fun t hf y => ?_
  blk_simp
  rw [after0_7]
  have e := out_at m c t y
  idx_vars y
  refine e.trans ?_
  generalize aX m c = R
  blk_ext [idx t, row]

omit t in
/-- The mixed rows, the whole array. -/
theorem arr8 (R : FVec Ideal S8192x1024 .bf16) (hR : ∀ r l, R (ix2 r l) = aC m c r l) : (dats m 0 c).arrAt 8 cfg0.N = R := by
  refine (dats m 0 c).arrAt_eq_of_covers 8 _ (by decide +kernel) fun t hf y => ?_
  have e := cat_at m c t (flush t hf) y
  have ht := lt_17 t
  blk_simp
  rw [after0_8]
  idx_vars y
  have hr : min (t.val - 1) 15 = t.val - 1 := by omega
  refine e.trans ((hR (row (prev t) y0) y1).symm.trans ?_)
  blk_ext [idx t, row, prev, hr]

/-! ## The reference -/

section Reference

open ProjRefIdeal.Read

variable (x : FVec Ideal S8192x1024 .bf16) (w : FVec Ideal S1536x1024 .bf16) (W : FVec Ideal S4x128x128 .f32) (S G : FVec Ideal S512 .f32)
  (M : FVec Ideal S4x128x128 .f32) (B : FVec Ideal S4x128 .f32) (hX : AllR (prods x w))

theorem ref_prods : val_main_v3 (F := Ideal) x w = prods x w := by
  funext i
  idx_vars i
  unfold val_main_v3 val_main_v2 val_main_v1 val_main_v0 prods
  pointwise

include hX

theorem ref_pre (r : Fin 8192) (l : Fin 512) : val_main_v104 (F := Ideal) x w W (ix3 0 r l) = pre (fP (prods x w)) (fW W) l r := by
  rw [← ref_prods] at hX ⊢
  exact MixerValue.ref_pre (val_main_v3 (F := Ideal) x w) W hX r l

theorem ref_u (r : Fin 8192) (l : Fin 512) : val_main_v15 (F := Ideal) x w (ix3 0 r l) = act (fU (prods x w)) r l := by
  rw [← ref_prods] at hX ⊢
  exact MixerValue.ref_u (val_main_v3 (F := Ideal) x w) hX r l

theorem ref_z (r : Fin 8192) (l : Fin 512) : val_main_v140 (F := Ideal) x w G M B (ix3 0 r l)
    = zs (fV (prods x w)) (fS G) (fW M) (fB B) (r / 128) ⟨r % 128, Nat.mod_lt _ (by decide)⟩ l := by
  rw [← ref_prods] at hX ⊢
  exact MixerValue.ref_z (val_main_v3 (F := Ideal) x w) G M B hX r l

theorem ref_pooled (r : Fin 8192) (l : Fin 512) : val_main_v107 (F := Ideal) x w W S (ix3 0 r l) = pre (fP (prods x w)) (fW W) l r * fS S l := by
  rw [← ref_pre x w W hX]
  unfold val_main_v107 val_main_v106 val_main_v105 fS
  generalize val_main_v104 (F := Ideal) x w W = z
  pointwise

theorem ref_gated (r : Fin 8192) (l : Fin 512) : val_main_v141 (F := Ideal) x w G M B (ix3 0 r l)
    = act (fU (prods x w)) r l * zs (fV (prods x w)) (fS G) (fW M) (fB B) (r / 128) ⟨r % 128, Nat.mod_lt _ (by decide)⟩ l := by
  rw [← ref_u x w hX, ← ref_z x w G M B hX]
  unfold val_main_v141
  generalize val_main_v140 (F := Ideal) x w G M B = z
  generalize val_main_v15 (F := Ideal) x w = u
  pointwise

theorem ref_mixed (r : Fin 8192) (l : Fin 1024) : val_main_v144 (F := Ideal) x w W S G M B (ix2 r l) = mixed (prods x w) W S G M B r l := by
  have e0 := fun h => ref_pooled x w W S hX r ⟨l, h⟩
  have e1 := fun h => ref_gated x w G M B hX r ⟨l - 512, h⟩
  unfold val_main_v144 val_main_v143 val_main_v142 mixed
  generalize val_main_v107 (F := Ideal) x w W S = y0 at e0 ⊢
  generalize val_main_v141 (F := Ideal) x w G M B = y1 at e1 ⊢
  pointwise
  split_ifs with h
  · exact e0 h
  all_goals exact e1 (by omega)

end Reference

omit t

/-- Under the precondition the products are reals. -/
theorem reals (hpre : Pre_ProjIdeal_finite_proj (hPre_finite_proj := Pre_finite_proj.Gen.facts) m) : AllR (aX m c) := by
  have e := congrFun (hpre c) (ix0 : Pre_finite_proj.S_.Idx)
  simp only [Pre_finite_proj.fn, andi, IntOp.andi_eq_one] at e
  obtain ⟨⟨-, e0⟩, e1⟩ := e
  have h0 : AllR (aN m c) := AllR.of (Reals.real_of_abs_lt _ _ (fun _ => by pointwise; exact Reals.ofBits_inf_bf16) _ _ _ _ e0)
  have h1 : AllR (aP m c) := AllR.of (Reals.real_of_abs_lt _ _ (fun _ => by pointwise; exact Reals.ofBits_inf_bf16) _ _ _ _ e1)
  exact fun i => IsR.sum fun k => IsR.mul (h0 _) (h1 _)

/-- Kernel and reference end with the same two results. -/
theorem algebraic : @algebraic_ProjIdeal_ProjRefIdeal_pre_finite_proj ProjIdeal.Gen.facts ProjRefIdeal.Gen.facts Pre_finite_proj.Gen.facts := by
  pair_intro
  · run_from ProjIdeal.Value.run_blocks m g
  · run_from ProjRefIdeal.Value.run m' g'
    all_goals
      obtain ⟨e0, e1, e2, e3, e4, e5, e6⟩ := hagree c
      replace e0 : StableHlo.launchContents m' c (Proc.tc.devRef ProjRefIdeal.main_arg0) = aN m c := e0
      replace e1 : StableHlo.launchContents m' c (Proc.tc.devRef ProjRefIdeal.main_arg1) = aP m c := e1
      replace e2 : StableHlo.launchContents m' c (Proc.tc.devRef ProjRefIdeal.main_arg2) = aW m c := e2
      replace e3 : StableHlo.launchContents m' c (Proc.tc.devRef ProjRefIdeal.main_arg3) = aS m c := e3
      replace e4 : StableHlo.launchContents m' c (Proc.tc.devRef ProjRefIdeal.main_arg4) = aG m c := e4
      replace e5 : StableHlo.launchContents m' c (Proc.tc.devRef ProjRefIdeal.main_arg5) = aM m c := e5
      replace e6 : StableHlo.launchContents m' c (Proc.tc.devRef ProjRefIdeal.main_arg6) = aB m c := e6
    · show ProjRefIdeal.Read.val_main_v3 (F := Ideal) (aN m c) (aP m c) = _
      exact (arr7 m c _ (ref_prods _ _)).symm
    · refine (ProjRefIdeal.Read.val_main_v144_eq (F := Ideal) (StableHlo.launchContents m' c)).trans ?_
      rw [e0, e1, e2, e3, e4, e5, e6]
      exact (arr8 m c _ fun r l => ref_mixed _ _ _ _ _ _ _ (reals m c hpre) r l).symm

/-- The named constant has its value. -/
theorem preserves : preserves_Proj_ProjIdeal :=
  IdealRules.named_const.statement ProjIdeal.κ "sqrt_half" .f32 0x3F3504F3#32 (((Real.sqrt 2)⁻¹ : ℝ) : EReal) rfl

/-- The reference leaves its arguments as they were and every counter at zero. -/
theorem quiescent_ref : @quiescent_ProjRefIdeal ProjRefIdeal.Gen.facts := fun m ρ _ =>
  (θ_run ProjRefIdeal.defs _ _).mono (fun r h => ⟨fun c => (h c).2.2, sem_eq_zero_of_no_sems (by decide) r.2⟩)
    (ProjRefIdeal.Value.run (F := Ideal) m ρ)

/-- The reference's frame under the precondition. -/
theorem quiescent_ref_pre : @quiescent_ProjRefIdeal_pre_finite_proj ProjRefIdeal.Gen.facts Pre_finite_proj.Gen.facts :=
  fun m ρ _ => quiescent_ref m ρ trivial

end Cert.ProjValue

end
-- ==== Proof.GDownValue.lean ====
/-
  The gradient of the down projection's weights, a product over the rows: the kernel's result is the reference's. For each
  of two blocks of columns the kernel walks four blocks of 2048 rows and adds their products up in a scratch buffer, which
  it rounds into the result after the fourth. On the reals a sum over four blocks is the sum over all rows.
-/
module

public import Idealize.ShloMosaic.Lib.Pipeline.ReadBack
public import proofs.«01_k».proof.Proof.NormWhole
public import proofs.«01_k».proof.Proof.Gen.GDown.Frame
public import proofs.«01_k».proof.Proof.Gen.GDownIdeal.Value
public import proofs.«01_k».proof.Proof.Gen.GDownRefIdeal.Run
public import proofs.«01_k».proof.Proof.Gen.GDownRefIdeal.Read

@[expose] public section

set_option maxRecDepth 16384

noncomputable section

namespace Cert.GDownValue

open Idealize.ShloMosaic Idealize.ShloMosaic.TcCoe
open GDownIdeal GDownIdeal.Gen

/-- A sum that starts anew at every fourth step holds the steps since it started. -/
theorem runs {N : ℕ} (F : (n : ℕ) → n < N → EReal) (g : ℕ → ℕ → EReal) (h0 : ∀ n h, n % 4 = 0 → F n h = g (n / 4) 0)
    (hS : ∀ n h, ¬n % 4 = 0 → F n h = F (n - 1) (by omega) + g (n / 4) (n % 4)) :
    ∀ n h, F n h = ∑ s ∈ Finset.range (n % 4 + 1), g (n / 4) s := by
  intro n
  induction n with
  | zero => intro h; rw [h0 0 h rfl]; simp
  | succ n ih =>
    intro h
    by_cases h4 : (n + 1) % 4 = 0
    · rw [h0 _ h h4, h4]; simp
    · rw [hS _ h h4, Finset.sum_range_succ]
      have e := ih (by omega)
      rw [show n / 4 = (n + 1) / 4 by omega, show n % 4 + 1 = (n + 1) % 4 by omega] at e
      exact congrArg (· + g ((n + 1) / 4) ((n + 1) % 4)) e

/-! ## One block -/

/-- A block of rows' product. -/
theorem pay1 (x : Vec Ideal S2048x1408 .bf16) (d : Vec Ideal S2048x1024 .bf16) (r : Fin 1408) (l : Fin 1024) :
    k0_pay1 x d (ix2 r l) = ∑ k : Fin 2048, x (ix2 k r) * d (ix2 k l) := by
  pointwise [k0_pay1]

theorem pay2 (x : Vec Ideal S2048x1408 .bf16) (d : Vec Ideal S2048x1024 .bf16) (r : Fin 1408) (l : Fin 1024) :
    k0_pay2 x d (ix2 r l) = k0_pay1 x d (ix2 r l) := by
  pointwise [k0_pay2]

theorem pay3 (x : Vec Ideal S2048x1408 .bf16) (d : Vec Ideal S2048x1024 .bf16) (a : Vec Ideal S1408x1024 .f32) (r : Fin 1408) (l : Fin 1024) :
    k0_pay3 x d a (ix2 r l) = a (ix2 r l) + k0_pay1 x d (ix2 r l) := by
  pointwise [k0_pay3]

theorem pay4 (a : Vec Ideal S1408x1024 .f32) (r : Fin 1408) (l : Fin 1024) : k0_pay4 a (ix2 r l) = a (ix2 r l) := by
  pointwise [k0_pay4]

/-! ## The blocks in the arrays -/

theorem idx : ∀ t : Fin cfg0.N, win0_0.index t 0 = t.val % 4 ∧ win0_0.index t 1 = t.val / 4
    ∧ win0_1.index t 0 = t.val % 4 ∧ win0_1.index t 1 = 0 ∧ win0_2.index t 0 = t.val / 4 ∧ win0_2.index t 1 = 0 := by decide +kernel

theorem flush : ∀ t : Fin cfg0.N, (cfg0.win 2).flush t = true → t.val % 4 = 3 := by decide +kernel

variable (m : (ℓ : Loc nD τ sig) → Buf (Elt Ideal) ℓ) (c : Dev nD) (t : Fin cfg0.N)

/-- The activations. -/
abbrev aX : FVec Ideal S8192x2816 .bf16 := m ((c.tc : Thread nD τ).loc main_arg0)

/-- The cotangent of the rows. -/
abbrev aD : FVec Ideal S8192x1024 .bf16 := m ((c.tc : Thread nD τ).loc main_arg1)

/-- Row `k` of a point's blocks, in the whole arrays. -/
def row (t : Fin cfg0.N) (k : Fin 2048) : Fin 8192 := ⟨t.val % 4 * 2048 + k.val, by omega⟩

/-- Column `r` of a point's block, in the whole array. -/
def col (t : Fin cfg0.N) (r : Fin 1408) : Fin 2816 := ⟨t.val / 4 * 1408 + r.val, by have := lt_of_lt_of_eq t.isLt N_0; omega⟩

theorem iblk0 (k : Fin 2048) (r : Fin 1408) : iblk m c 0 t (ix2 k r) = aX m c (ix2 (row t k) (col t r)) := by
  blk_ext [iblk, V, idx t, row, col]

theorem iblk1 (k : Fin 2048) (l : Fin 1024) : iblk m c 1 t (ix2 k l) = aD m c (ix2 (row t k) l) := by blk_ext [iblk, V, idx t, row]

/-- What a row adds to an entry of the product. -/
def term (p : Fin 2816) (l : Fin 1024) (k : Fin 8192) : EReal := aX m c (ix2 k p) * aD m c (ix2 k l)

/-- What the block of rows `s` adds. -/
def part (p : Fin 2816) (l : Fin 1024) (s : ℕ) : EReal := ∑ k : Fin 2048, Pool.ext (term m c p l) (2048 * s + k)

theorem partT (r : Fin 1408) (l : Fin 1024) :
    k0_pay1 (F := Ideal) (iblk m c 0 t) (iblk m c 1 t) (ix2 r l) = part m c (col t r) l (t.val % 4) := by
  rw [pay1]
  refine Finset.sum_congr rfl fun k _ => ?_
  refine (congrArg₂ (fun a b : EReal => a * b) (iblk0 m c t k r) (iblk1 m c t k l)).trans ?_
  refine (Pool.ext_of_lt (term m c (col t r) l) (row t k)).symm.trans (congrArg _ ?_)
  show t.val % 4 * 2048 + k.val = _
  omega

/-! ## The points -/

theorem scr_A (h : t.val % 4 = 0) (r : Fin 1408) (l : Fin 1024) :
    (outsAt0 m c t.val t.isLt).2 (ix2 r l) = part m c (col t r) l (t.val % 4) := by
  rw [outsAt0_A m c t h (by omega) (by omega)]
  frame_out
  exact (pay2 _ _ r l).trans (partT m c t r l)

theorem scr_B (h : ¬t.val % 4 = 0) (r : Fin 1408) (l : Fin 1024) :
    (outsAt0 m c t.val t.isLt).2 (ix2 r l)
      = (outsAt0 m c (t.val - 1) (Nat.lt_of_le_of_lt (Nat.sub_le _ _) t.isLt)).2 (ix2 r l) + part m c (col t r) l (t.val % 4) := by
  by_cases h2 : t.val % 4 = 3
  · rw [outsAt0_C m c t h (by omega) h2]
    frame_out
    simp only [read_unread_whole]
    exact (pay3 _ _ _ r l).trans (congrArg ((outsAt0 m c (t.val - 1) _).2 (ix2 r l) + ·) (partT m c t r l))
  · rw [outsAt0_B m c t h (by omega) h2]
    frame_out
    simp only [read_unread_whole]
    exact (pay3 _ _ _ r l).trans (congrArg ((outsAt0 m c (t.val - 1) _).2 (ix2 r l) + ·) (partT m c t r l))

/-- The last point of a block of columns writes what the scratch buffer holds. -/
theorem out_scr (h : t.val % 4 = 3) (r : Fin 1408) (l : Fin 1024) :
    (outsAt0 m c t.val t.isLt).1 (ix2 r l) = (outsAt0 m c t.val t.isLt).2 (ix2 r l) := by
  rw [outsAt0_C m c t (by omega) (by omega) h]
  frame_out
  simp only [read_unread_whole]
  exact pay4 _ r l

omit t in
/-- The scratch buffer holds the blocks of rows so far. -/
theorem scr (r : Fin 1408) (l : Fin 1024) (n : ℕ) (h : n < cfg0.N) :
    (outsAt0 m c n h).2 (ix2 r l) = ∑ s ∈ Finset.range (n % 4 + 1), part m c (col ⟨n, h⟩ r) l s := by
  have hN : cfg0.N = 8 := N_0
  let g (q s : ℕ) : EReal := if hq : q < 2 then part m c ⟨q * 1408 + r.val, by omega⟩ l s else 0
  have e (n : ℕ) (h : n < cfg0.N) (s : ℕ) : g (n / 4) s = part m c (col ⟨n, h⟩ r) l s := dif_pos (by omega)
  refine (runs (N := cfg0.N) (fun n h => (outsAt0 m c n h).2 (ix2 r l)) g (fun n h h4 => ?_) (fun n h h4 => ?_) n h).trans
    (Finset.sum_congr rfl fun s _ => e n h s)
  · refine (scr_A m c ⟨n, h⟩ h4 r l).trans ?_
    rw [e n h]
    exact congrArg _ h4
  · rw [e n h]
    exact scr_B m c ⟨n, h⟩ h4 r l

/-- What the last point of a block of columns writes. -/
theorem out_at (h : t.val % 4 = 3) (r : Fin 1408) (l : Fin 1024) :
    (outsAt0 m c t.val t.isLt).1 (ix2 r l) = ∑ k : Fin 8192, term m c (col t r) l k := by
  refine (out_scr m c t h r l).trans ((scr m c r l t.val t.isLt).trans ?_)
  rw [h]
  exact NormWhole.blocks 4 2048 rfl (term m c (col t r) l)

omit t in
/-- The result, the whole array. -/
theorem arr2 (R : FVec Ideal S2816x1024 .bf16) (hR : ∀ p l, R (ix2 p l) = ∑ k : Fin 8192, term m c p l k) :
    (dats m 0 c).arrAt 2 cfg0.N = R := by
  refine (dats m 0 c).arrAt_eq_of_covers 2 _ (by decide +kernel) fun t hf y => ?_
  have h := flush t hf
  blk_simp
  rw [after0_2]
  idx_vars y
  refine (out_at m c t h y0 y1).trans ((hR _ _).symm.trans ?_)
  blk_ext [idx t, col]

/-! ## The reference -/

theorem ref_at (x : FVec Ideal S8192x2816 .bf16) (d : FVec Ideal S8192x1024 .bf16) (p : Fin 2816) (l : Fin 1024) :
    GDownRefIdeal.Read.val_main_v6 (F := Ideal) x d (ix2 p l) = ∑ k : Fin 8192, x (ix2 k p) * d (ix2 k l) := by
  unfold GDownRefIdeal.Read.val_main_v6 GDownRefIdeal.Read.val_main_v5 GDownRefIdeal.Read.val_main_v4 GDownRefIdeal.Read.val_main_v3
    GDownRefIdeal.Read.val_main_v0
  pointwise
  exact Finset.sum_congr rfl fun k _ => mul_comm _ _

/-- Kernel and reference end with the same result. -/
theorem algebraic : @algebraic_GDownIdeal_GDownRefIdeal GDownIdeal.Gen.facts GDownRefIdeal.Gen.facts := by
  pair_intro
  · run_from GDownIdeal.Value.run_blocks m g
  · run_from GDownRefIdeal.Value.run m' g'
    obtain ⟨e0, e1⟩ := hagree c
    rw [GDownRefIdeal.Read.val_main_v6_eq]
    exact (arr2 m c _ fun p l => ref_at _ _ p l).symm

/-- The reference leaves its arguments as they were and every counter at zero. -/
theorem quiescent_ref : @quiescent_GDownRefIdeal GDownRefIdeal.Gen.facts := fun m ρ _ =>
  (θ_run GDownRefIdeal.defs _ _).mono (fun r h => ⟨fun c => (h c).2, sem_eq_zero_of_no_sems (by decide) r.2⟩)
    (GDownRefIdeal.Value.run (F := Ideal) m ρ)

end Cert.GDownValue

end
-- ==== Proof.PlainValue.lean ====
/-
  Two products of one block of rows each with whole weights: the cotangent of the down projection's rows (weights
  transposed) and the attention's queries. The kernels' results are the references'.
-/
module

public import Idealize.ShloMosaic.Lib.Pipeline.ReadBack
public import proofs.«01_k».proof.Proof.NormWhole
public import proofs.«01_k».proof.Proof.Gen.DAct.Frame
public import proofs.«01_k».proof.Proof.Gen.DActIdeal.Value
public import proofs.«01_k».proof.Proof.Gen.DActRefIdeal.Run
public import proofs.«01_k».proof.Proof.Gen.DActRefIdeal.Read
public import proofs.«01_k».proof.Proof.Gen.Query.Frame
public import proofs.«01_k».proof.Proof.Gen.QueryIdeal.Value
public import proofs.«01_k».proof.Proof.Gen.QueryRefIdeal.Run
public import proofs.«01_k».proof.Proof.Gen.QueryRefIdeal.Read

@[expose] public section

set_option maxRecDepth 16384

noncomputable section

namespace Cert.PlainValue

open Idealize.ShloMosaic Idealize.ShloMosaic.TcCoe

/-! ## The cotangent of the down projection's rows -/

section DAct

open DActIdeal DActIdeal.Gen

/-- What a point leaves. -/
theorem dact_out (x : Vec Ideal S512x1024 .bf16) (w : Vec Ideal S2816x1024 .bf16) (y : S512x2816.Idx) :
    out0_2 x w y = ∑ k : Fin 1024, x (ix2 (y 0) k) * w (ix2 (y 1) k) := by
  idx_vars y
  frame_out [out0_2]
  pointwise [k0_pay1]

/-- The product of the reference. -/
theorem dact_ref (x : FVec Ideal S8192x1024 .bf16) (w : FVec Ideal S2816x1024 .bf16) (r : Fin 8192) (l : Fin 2816) :
    DActRefIdeal.Read.val_main_v4 (F := Ideal) x w (ix2 r l) = ∑ k : Fin 1024, x (ix2 r k) * w (ix2 l k) := by
  unfold DActRefIdeal.Read.val_main_v4 DActRefIdeal.Read.val_main_v3 DActRefIdeal.Read.val_main_v0
  pointwise

theorem dact_idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by decide +kernel

variable (m : (ℓ : Loc nD τ sig) → Buf (Elt Ideal) ℓ) (c : Dev nD) (t : Fin cfg0.N)

/-- Row `r` of a point, in the whole array. -/
def dactRow (t : Fin cfg0.N) (r : Fin 512) : Fin 8192 := ⟨t.val * 512 + r, by have := lt_of_lt_of_eq t.isLt N_0; omega⟩

theorem dact_blk0 (r : Fin 512) (k : Fin 1024) :
    iblk m c 0 t (ix2 r k) = (m ((c.tc : Thread nD τ).loc main_arg0) : FVec Ideal S8192x1024 .bf16) (ix2 (dactRow t r) k) := by
  blk_ext [iblk, V, dact_idx t, dactRow]

theorem dact_blk1 (l : Fin 2816) (k : Fin 1024) :
    iblk m c 1 t (ix2 l k) = (m ((c.tc : Thread nD τ).loc main_arg1) : FVec Ideal S2816x1024 .bf16) (ix2 l k) := by
  blk_ext [iblk, V, dact_idx t]

omit t in
/-- The result, the whole array. -/
theorem dact_arr : (dats m 0 c).arrAt 2 cfg0.N
    = DActRefIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (dact_out _ _ y).trans ?_
  idx_vars y
  refine (Finset.sum_congr rfl fun k _ => congrArg₂ (fun a b : EReal => a * b) (dact_blk0 m c t y0 k) (dact_blk1 m c t y1 k)).trans ?_
  refine (dact_ref _ _ (dactRow t y0) y1).symm.trans ?_
  blk_ext [dact_idx t, dactRow]

/-- Kernel and reference end with the same result. -/
theorem dact_algebraic : @algebraic_DActIdeal_DActRefIdeal DActIdeal.Gen.facts DActRefIdeal.Gen.facts := by
  pair_intro
  · run_from DActIdeal.Value.run_blocks m g
  · run_from DActRefIdeal.Value.run m' g'
    obtain ⟨e0, e1⟩ := hagree c
    exact (dact_arr m c).symm

/-- The reference leaves its arguments as they were and every counter at zero. -/
theorem dact_quiescent_ref : @quiescent_DActRefIdeal DActRefIdeal.Gen.facts := fun m ρ _ =>
  (θ_run DActRefIdeal.defs _ _).mono (fun r h => ⟨fun c => (h c).2, sem_eq_zero_of_no_sems (by decide) r.2⟩)
    (DActRefIdeal.Value.run (F := Ideal) m ρ)

end DAct

/-! ## The attention's queries -/

section Query

open QueryIdeal QueryIdeal.Gen

/-- What a point leaves. -/
theorem query_out (x w : Vec Ideal S1024x1024 .bf16) (y : S1024x1024.Idx) : out0_2 x w y = ∑ k : Fin 1024, x (ix2 (y 0) k) * w (ix2 k (y 1)) := by
  idx_vars y
  frame_out [out0_2]
  pointwise [k0_pay1]

/-- The product of the reference. -/
theorem query_ref (x : FVec Ideal S8192x1024 .bf16) (w : FVec Ideal S1024x1024 .bf16) (r : Fin 8192) (l : Fin 1024) :
    QueryRefIdeal.Read.val_main_v3 (F := Ideal) x w (ix2 r l) = ∑ k : Fin 1024, x (ix2 r k) * w (ix2 k l) := by
  unfold QueryRefIdeal.Read.val_main_v3 QueryRefIdeal.Read.val_main_v2 QueryRefIdeal.Read.val_main_v1 QueryRefIdeal.Read.val_main_v0
  pointwise

theorem query_idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by decide +kernel

variable (m : (ℓ : Loc nD τ sig) → Buf (Elt Ideal) ℓ) (c : Dev nD) (t : Fin cfg0.N)

/-- Row `r` of a point, in the whole array. -/
def queryRow (t : Fin cfg0.N) (r : Fin 1024) : Fin 8192 := ⟨t.val * 1024 + r, by have := lt_of_lt_of_eq t.isLt N_0; omega⟩

theorem query_blk0 (r k : Fin 1024) :
    iblk m c 0 t (ix2 r k) = (m ((c.tc : Thread nD τ).loc main_arg0) : FVec Ideal S8192x1024 .bf16) (ix2 (queryRow t r) k) := by
  blk_ext [iblk, V, query_idx t, queryRow]

theorem query_blk1 (k l : Fin 1024) :
    iblk m c 1 t (ix2 k l) = (m ((c.tc : Thread nD τ).loc main_arg1) : FVec Ideal S1024x1024 .bf16) (ix2 k l) := by
  blk_ext [iblk, V, query_idx t]

omit t in
/-- The queries, the whole array. -/
theorem query_arr : (dats m 0 c).arrAt 2 cfg0.N
    = QueryRefIdeal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (query_out _ _ y).trans ?_
  idx_vars y
  refine (Finset.sum_congr rfl fun k _ => congrArg₂ (fun a b : EReal => a * b) (query_blk0 m c t y0 k) (query_blk1 m c t k y1)).trans ?_
  refine (query_ref _ _ (queryRow t y0) y1).symm.trans ?_
  blk_ext [query_idx t, queryRow]

/-- Kernel and reference end with the same result. -/
theorem query_algebraic : @algebraic_QueryIdeal_QueryRefIdeal QueryIdeal.Gen.facts QueryRefIdeal.Gen.facts := by
  pair_intro
  · run_from QueryIdeal.Value.run_blocks m g
  · run_from QueryRefIdeal.Value.run m' g'
    obtain ⟨e0, e1⟩ := hagree c
    rw [QueryRefIdeal.Read.val_main_v3_eq]
    exact (query_arr m c).symm

/-- The reference leaves its arguments as they were and every counter at zero. -/
theorem query_quiescent_ref : @quiescent_QueryRefIdeal QueryRefIdeal.Gen.facts := fun m ρ _ =>
  (θ_run QueryRefIdeal.defs _ _).mono (fun r h => ⟨fun c => (h c).2, sem_eq_zero_of_no_sems (by decide) r.2⟩)
    (QueryRefIdeal.Value.run (F := Ideal) m ρ)

end Query

end Cert.PlainValue

end
-- ==== Proof.GUpValue.lean ====
/-
  The gradient of the up projection's weights, a product over the rows whose first factor comes half by half: the kernel's
  result is the reference's. For each of four blocks of columns (two to a half) the kernel walks four blocks of 2048 rows
  and adds their products up in a scratch buffer, which it rounds into the result after the fourth. The reference lays the
  halves side by side and takes one product.
-/
module

public import proofs.«01_k».proof.Proof.GDownValue
public import proofs.«01_k».proof.Proof.Gen.GUp.Frame
public import proofs.«01_k».proof.Proof.Gen.GUpIdeal.Value
public import proofs.«01_k».proof.Proof.Gen.GUpRefIdeal.Run
public import proofs.«01_k».proof.Proof.Gen.GUpRefIdeal.Read

@[expose] public section

set_option maxRecDepth 16384

noncomputable section

namespace Cert.GUpValue

open Idealize.ShloMosaic Idealize.ShloMosaic.TcCoe
open GUpIdeal GUpIdeal.Gen

/-! ## One block -/

/-- A block of rows' product. -/
theorem pay1 (x : Vec Ideal S1x2048x1408 .bf16) (d : Vec Ideal S2048x1024 .bf16) (r : Fin 1408) (l : Fin 1024) :
    k0_pay1 x d (ix2 r l) = ∑ k : Fin 2048, x (ix3 0 k r) * d (ix2 k l) := by
  pointwise [k0_pay1]

theorem pay2 (x : Vec Ideal S1x2048x1408 .bf16) (d : Vec Ideal S2048x1024 .bf16) (r : Fin 1408) (l : Fin 1024) :
    k0_pay2 x d (ix2 r l) = k0_pay1 x d (ix2 r l) := by
  pointwise [k0_pay2]

theorem pay3 (x : Vec Ideal S1x2048x1408 .bf16) (d : Vec Ideal S2048x1024 .bf16) (a : Vec Ideal S1408x1024 .f32) (r : Fin 1408) (l : Fin 1024) :
    k0_pay3 x d a (ix2 r l) = a (ix2 r l) + k0_pay1 x d (ix2 r l) := by
  pointwise [k0_pay3]

theorem pay4 (a : Vec Ideal S1408x1024 .f32) (r : Fin 1408) (l : Fin 1024) : k0_pay4 a (ix2 r l) = a (ix2 r l) := by
  pointwise [k0_pay4]

/-! ## The blocks in the arrays -/

theorem idx : ∀ t : Fin cfg0.N, win0_0.index t 0 = t.val / 8 ∧ win0_0.index t 1 = t.val % 4 ∧ win0_0.index t 2 = t.val / 4 % 2
    ∧ win0_1.index t 0 = t.val % 4 ∧ win0_1.index t 1 = 0 ∧ win0_2.index t 0 = t.val / 4 ∧ win0_2.index t 1 = 0 := by decide +kernel

theorem flush : ∀ t : Fin cfg0.N, (cfg0.win 2).flush t = true → t.val % 4 = 3 := by decide +kernel

variable (m : (ℓ : Loc nD τ sig) → Buf (Elt Ideal) ℓ) (c : Dev nD) (t : Fin cfg0.N)

/-- The cotangent of the up projection, half by half. -/
abbrev aQ : FVec Ideal S2x8192x2816 .bf16 := m ((c.tc : Thread nD τ).loc main_arg0)

/-- The normed rows. -/
abbrev aX : FVec Ideal S8192x1024 .bf16 := m ((c.tc : Thread nD τ).loc main_arg1)

/-- Row `k` of a point's blocks, in the whole arrays. -/
def row (t : Fin cfg0.N) (k : Fin 2048) : Fin 8192 := ⟨t.val % 4 * 2048 + k.val, by omega⟩

/-- The half that a point's block lies in. -/
def half (t : Fin cfg0.N) : Fin 2 := ⟨t.val / 8, by have := lt_of_lt_of_eq t.isLt N_0; omega⟩

/-- Column `r` of a point's block, in its half. -/
def inner (t : Fin cfg0.N) (r : Fin 1408) : Fin 2816 := ⟨t.val / 4 % 2 * 1408 + r.val, by omega⟩

/-- Column `r` of a point's block, in the whole width. -/
def col (t : Fin cfg0.N) (r : Fin 1408) : Fin 5632 := ⟨t.val / 4 * 1408 + r.val, by have := lt_of_lt_of_eq t.isLt N_0; omega⟩

/-- The halves side by side. -/
def side (Q : FVec Ideal S2x8192x2816 .bf16) (k : Fin 8192) (p : Fin 5632) : EReal :=
  Q (ix3 ⟨p.val / 2816, by omega⟩ k ⟨p.val % 2816, by omega⟩)

theorem iblk0 (k : Fin 2048) (r : Fin 1408) : iblk m c 0 t (ix3 0 k r) = side (aQ m c) (row t k) (col t r) := by
  have h := lt_of_lt_of_eq t.isLt N_0
  have e : iblk m c 0 t (ix3 0 k r) = aQ m c (ix3 (half t) (row t k) (inner t r)) := by blk_ext [iblk, V, idx t, row, half, inner]
  refine e.trans ?_
  unfold side
  rw [show half t = ⟨(col t r).val / 2816, by omega⟩ from Fin.ext (by show t.val / 8 = (t.val / 4 * 1408 + r.val) / 2816; omega),
    show inner t r = ⟨(col t r).val % 2816, by omega⟩ from
      Fin.ext (by show t.val / 4 % 2 * 1408 + r.val = (t.val / 4 * 1408 + r.val) % 2816; omega)]

theorem iblk1 (k : Fin 2048) (l : Fin 1024) : iblk m c 1 t (ix2 k l) = aX m c (ix2 (row t k) l) := by blk_ext [iblk, V, idx t, row]

/-- What a row adds to an entry of the product. -/
def term (p : Fin 5632) (l : Fin 1024) (k : Fin 8192) : EReal := side (aQ m c) k p * aX m c (ix2 k l)

/-- What the block of rows `s` adds. -/
def part (p : Fin 5632) (l : Fin 1024) (s : ℕ) : EReal := ∑ k : Fin 2048, Pool.ext (term m c p l) (2048 * s + k)

theorem partT (r : Fin 1408) (l : Fin 1024) :
    k0_pay1 (F := Ideal) (iblk m c 0 t) (iblk m c 1 t) (ix2 r l) = part m c (col t r) l (t.val % 4) := by
  rw [pay1]
  refine Finset.sum_congr rfl fun k _ => ?_
  refine (congrArg₂ (fun a b : EReal => a * b) (iblk0 m c t k r) (iblk1 m c t k l)).trans ?_
  refine (Pool.ext_of_lt (term m c (col t r) l) (row t k)).symm.trans (congrArg _ ?_)
  show t.val % 4 * 2048 + k.val = _
  omega

/-! ## The points -/

theorem scr_A (h : t.val % 4 = 0) (r : Fin 1408) (l : Fin 1024) :
    (outsAt0 m c t.val t.isLt).2 (ix2 r l) = part m c (col t r) l (t.val % 4) := by
  rw [outsAt0_A m c t h (by omega) (by omega)]
  frame_out
  exact (pay2 _ _ r l).trans (partT m c t r l)

theorem scr_B (h : ¬t.val % 4 = 0) (r : Fin 1408) (l : Fin 1024) :
    (outsAt0 m c t.val t.isLt).2 (ix2 r l)
      = (outsAt0 m c (t.val - 1) (Nat.lt_of_le_of_lt (Nat.sub_le _ _) t.isLt)).2 (ix2 r l) + part m c (col t r) l (t.val % 4) := by
  by_cases h2 : t.val % 4 = 3
  · rw [outsAt0_C m c t h (by omega) h2]
    frame_out
    simp only [read_unread_whole]
    exact (pay3 _ _ _ r l).trans (congrArg ((outsAt0 m c (t.val - 1) _).2 (ix2 r l) + ·) (partT m c t r l))
  · rw [outsAt0_B m c t h (by omega) h2]
    frame_out
    simp only [read_unread_whole]
    exact (pay3 _ _ _ r l).trans (congrArg ((outsAt0 m c (t.val - 1) _).2 (ix2 r l) + ·) (partT m c t r l))

/-- The last point of a block of columns writes what the scratch buffer holds. -/
theorem out_scr (h : t.val % 4 = 3) (r : Fin 1408) (l : Fin 1024) :
    (outsAt0 m c t.val t.isLt).1 (ix2 r l) = (outsAt0 m c t.val t.isLt).2 (ix2 r l) := by
  rw [outsAt0_C m c t (by omega) (by omega) h]
  frame_out
  simp only [read_unread_whole]
  exact pay4 _ r l

omit t in
/-- The scratch buffer holds the blocks of rows so far. -/
theorem scr (r : Fin 1408) (l : Fin 1024) (n : ℕ) (h : n < cfg0.N) :
    (outsAt0 m c n h).2 (ix2 r l) = ∑ s ∈ Finset.range (n % 4 + 1), part m c (col ⟨n, h⟩ r) l s := by
  have hN : cfg0.N = 16 := N_0
  let g (q s : ℕ) : EReal := if hq : q < 4 then part m c ⟨q * 1408 + r.val, by omega⟩ l s else 0
  have e (n : ℕ) (h : n < cfg0.N) (s : ℕ) : g (n / 4) s = part m c (col ⟨n, h⟩ r) l s := dif_pos (by omega)
  refine (GDownValue.runs (N := cfg0.N) (fun n h => (outsAt0 m c n h).2 (ix2 r l)) g (fun n h h4 => ?_) (fun n h h4 => ?_) n h).trans
    (Finset.sum_congr rfl fun s _ => e n h s)
  · refine (scr_A m c ⟨n, h⟩ h4 r l).trans ?_
    rw [e n h]
    exact congrArg _ h4
  · rw [e n h]
    exact scr_B m c ⟨n, h⟩ h4 r l

/-- What the last point of a block of columns writes. -/
theorem out_at (h : t.val % 4 = 3) (r : Fin 1408) (l : Fin 1024) :
    (outsAt0 m c t.val t.isLt).1 (ix2 r l) = ∑ k : Fin 8192, term m c (col t r) l k := by
  refine (out_scr m c t h r l).trans ((scr m c r l t.val t.isLt).trans ?_)
  rw [h]
  exact NormWhole.blocks 4 2048 rfl (term m c (col t r) l)

omit t in
/-- The result, the whole array. -/
theorem arr2 (R : FVec Ideal S5632x1024 .bf16) (hR : ∀ p l, R (ix2 p l) = ∑ k : Fin 8192, term m c p l k) :
    (dats m 0 c).arrAt 2 cfg0.N = R := by
  refine (dats m 0 c).arrAt_eq_of_covers 2 _ (by decide +kernel) fun t hf y => ?_
  have h := flush t hf
  blk_simp
  rw [after0_2]
  idx_vars y
  refine (out_at m c t h y0 y1).trans ((hR _ _).symm.trans ?_)
  blk_ext [idx t, col]

/-! ## The reference -/

section Reference

open GUpRefIdeal.Read

variable (Q : FVec Ideal S2x8192x2816 .bf16) (x : FVec Ideal S8192x1024 .bf16)

theorem ref_side (k : Fin 8192) (p : Fin 5632) : val_main_v7 (F := Ideal) Q (ix2 k p) = side Q k p := by
  unfold val_main_v7 val_main_v6 val_main_v5 val_main_v4 val_main_v3 val_main_v2 val_main_v1
  pointwise
  unfold side
  by_cases h : p.val < 2816
  · refine (dif_pos h).trans (congrArg Q ?_)
    exact congrArg₂ (fun a b => ix3 a k b) (Fin.ext (by show 0 = p.val / 2816; omega)) (Fin.ext (by show p.val = p.val % 2816; omega))
  · refine (dif_neg h).trans (congrArg Q ?_)
    exact congrArg₂ (fun a b => ix3 a k b) (Fin.ext (by show 1 = p.val / 2816; omega)) (Fin.ext (by show p.val - 2816 = p.val % 2816; omega))

theorem ref_at (p : Fin 5632) (l : Fin 1024) : val_main_v13 (F := Ideal) Q x (ix2 p l) = ∑ k : Fin 8192, side Q k p * x (ix2 k l) := by
  have e (k : Fin 8192) := ref_side Q k p
  unfold val_main_v13 val_main_v12 val_main_v11 val_main_v10 val_main_v0
  generalize val_main_v7 (F := Ideal) Q = q at e ⊢
  pointwise
  simp only [e]

end Reference

/-- Kernel and reference end with the same result. -/
theorem algebraic : @algebraic_GUpIdeal_GUpRefIdeal GUpIdeal.Gen.facts GUpRefIdeal.Gen.facts := by
  pair_intro
  · run_from GUpIdeal.Value.run_blocks m g
  · run_from GUpRefIdeal.Value.run m' g'
    obtain ⟨e0, e1⟩ := hagree c
    rw [GUpRefIdeal.Read.val_main_v13_eq]
    exact (arr2 m c _ fun p l => ref_at _ _ p l).symm

/-- The reference leaves its arguments as they were and every counter at zero. -/
theorem quiescent_ref : @quiescent_GUpRefIdeal GUpRefIdeal.Gen.facts := fun m ρ _ =>
  (θ_run GUpRefIdeal.defs _ _).mono (fun r h => ⟨fun c => (h c).2, sem_eq_zero_of_no_sems (by decide) r.2⟩)
    (GUpRefIdeal.Value.run (F := Ideal) m ρ)

end Cert.GUpValue

end
-- ==== Proof.AdamValue.lean ====
/-
  The optimiser's step on two stacked layers: the kernel's four results (the summed gradient, the step, the two running
  averages) are the reference's. For each layer the kernel walks four blocks of 176 rows; at each it adds eight partial
  gradients of the block up, and the rest is entry by entry.
-/
module

public import Idealize.ShloMosaic.Lib.Pipeline.ReadBack
public import proofs.«01_k».proof.Proof.NormWhole
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read

@[expose] public section

set_option maxRecDepth 16384

noncomputable section

namespace Cert.AdamValue

open Idealize.ShloMosaic Idealize.ShloMosaic.TcCoe
open AdamIdeal AdamIdeal.Gen
open AdamRefIdeal.Read (val_main_v1 val_main_v3 val_main_v6 val_main_v11 val_main_v17 val_main_v30)

/-! ## Where a point lies -/

theorem idx : ∀ t : Fin cfg0.N, (win0_2.index t 0 = t.val / 4 ∧ win0_2.index t 1 = t.val % 4 ∧ win0_2.index t 2 = 0)
    ∧ (win0_3.index t 0 = t.val / 4 ∧ win0_3.index t 1 = t.val % 4 ∧ win0_3.index t 2 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0)
    ∧ (win0_6.index t 0 = t.val / 4 ∧ win0_6.index t 1 = t.val % 4 ∧ win0_6.index t 2 = 0)
    ∧ (win0_7.index t 0 = t.val / 4 ∧ win0_7.index t 1 = t.val % 4 ∧ win0_7.index t 2 = 0)
    ∧ (win0_8.index t 0 = t.val / 4 ∧ win0_8.index t 1 = t.val % 4 ∧ win0_8.index t 2 = 0) := by decide +kernel

theorem idxA : ∀ t : Fin cfg0.N, t.val < 4 → win0_0.index t 0 = 0 ∧ win0_0.index t 1 = t.val % 4 ∧ win0_0.index t 2 = 0 := by decide +kernel

theorem idxB : ∀ t : Fin cfg0.N, 4 ≤ t.val → win0_1.index t 0 = 0 ∧ win0_1.index t 1 = t.val % 4 ∧ win0_1.index t 2 = 0 := by decide +kernel

variable (m : (ℓ : Loc nD τ sig) → Buf (Elt Ideal) ℓ) (c : Dev nD) (t : Fin cfg0.N)

/-- The first layer's partial gradients. -/
abbrev aS : FVec Ideal S8x704x1024 .bf16 := m ((c.tc : Thread nD τ).loc main_arg0)

/-- The second layer's partial gradients. -/
abbrev aT : FVec Ideal S8x704x1024 .bf16 := m ((c.tc : Thread nD τ).loc main_arg1)

/-- The weights. -/
abbrev aW : FVec Ideal S2x704x1024 .f32 := m ((c.tc : Thread nD τ).loc main_arg2)

/-- The running average of the gradients. -/
abbrev aM : FVec Ideal S2x704x1024 .f32 := m ((c.tc : Thread nD τ).loc main_arg3)

/-- The running average of their squares. -/
abbrev aV : FVec Ideal S2x704x1024 .f32 := m ((c.tc : Thread nD τ).loc main_arg4)

/-- The layer of a point. -/
def layer (t : Fin cfg0.N) : Fin 2 := ⟨t.val / 4, by have := lt_of_lt_of_eq t.isLt N_0; omega⟩

/-- Row `r` of a point's block, in the layer. -/
def row (t : Fin cfg0.N) (r : Fin 176) : Fin 704 := ⟨t.val % 4 * 176 + r.val, by omega⟩

theorem iblk0 (h : t.val < 4) (j : Fin 8) (r : Fin 176) (l : Fin 1024) : iblk m c 0 t (ix3 j r l) = aS m c (ix3 j (row t r) l) := by
  blk_ext [iblk, V, idxA t h, row]

theorem iblk1 (h : 4 ≤ t.val) (j : Fin 8) (r : Fin 176) (l : Fin 1024) : iblk m c 1 t (ix3 j r l) = aT m c (ix3 j (row t r) l) := by
  blk_ext [iblk, V, idxB t h, row]

theorem iblk2 (r : Fin 176) (l : Fin 1024) : iblk m c 2 t (ix3 0 r l) = aW m c (ix3 (layer t) (row t r) l) := by
  blk_ext [iblk, V, idx t, row, layer]

theorem iblk3 (r : Fin 176) (l : Fin 1024) : iblk m c 3 t (ix3 0 r l) = aM m c (ix3 (layer t) (row t r) l) := by
  blk_ext [iblk, V, idx t, row, layer]

theorem iblk4 (r : Fin 176) (l : Fin 1024) : iblk m c 4 t (ix3 0 r l) = aV m c (ix3 (layer t) (row t r) l) := by
  blk_ext [iblk, V, idx t, row, layer]

/-! ## The reference's summed gradient -/

section Reference

variable (s u : FVec Ideal S8x704x1024 .bf16) (r : Fin 704) (l : Fin 1024)

theorem ref_s : val_main_v1 (F := Ideal) s (ix2 r l) = ∑ j : Fin 8, s (ix3 j r l) := by
  unfold val_main_v1 AdamRefIdeal.Read.val_main_v0 AdamRefIdeal.Read.val_main_cst
  pointwise

theorem ref_u : val_main_v3 (F := Ideal) u (ix2 r l) = ∑ j : Fin 8, u (ix3 j r l) := by
  unfold val_main_v3 AdamRefIdeal.Read.val_main_v2 AdamRefIdeal.Read.val_main_cst_0
  pointwise

theorem ref_g0 : val_main_v6 (F := Ideal) s u (ix3 0 r l) = ∑ j : Fin 8, s (ix3 j r l) := by
  have e := ref_s s r l
  unfold val_main_v6 AdamRefIdeal.Read.val_main_v5 AdamRefIdeal.Read.val_main_v4
  generalize val_main_v1 (F := Ideal) s = a at e ⊢
  pointwise
  exact e

theorem ref_g1 : val_main_v6 (F := Ideal) s u (ix3 1 r l) = ∑ j : Fin 8, u (ix3 j r l) := by
  have e := ref_u u r l
  unfold val_main_v6 AdamRefIdeal.Read.val_main_v5 AdamRefIdeal.Read.val_main_v4
  generalize val_main_v3 (F := Ideal) u = a at e ⊢
  pointwise
  exact e

end Reference

/-! ## One block -/

section Block

variable (s u : FVec Ideal S8x704x1024 .bf16) (W M V : FVec Ideal S2x704x1024 .f32) (p : Fin 2) (R : Fin 704)
  (g : FVec Ideal S176x1024 .f32) (w a b : Vec Ideal S1x176x1024 .f32) (r : Fin 176) (l : Fin 1024)
  (hg : g (ix2 r l) = val_main_v6 (F := Ideal) s u (ix3 p R l))

theorem pay6 : k0_pay6 w (ix2 r l) = w (ix3 0 r l) := by
  pointwise [k0_pay6]

theorem pay9 (z : Fin 1) : k0_pay9 g (ix3 z r l) = g (ix2 r l) := by
  pointwise [k0_pay9]

theorem pay1 (z : Fin 1) : k0_pay1 g (ix3 z r l) = g (ix2 r l) := by
  pointwise [k0_pay1]

theorem pay2 (z : Fin 1) : k0_pay2 g (ix3 z r l) = g (ix2 r l) := by
  pointwise [k0_pay2]

include hg

theorem pay7 (ha : a (ix3 0 r l) = M (ix3 p R l)) : k0_pay7 g a (ix2 r l) = val_main_v11 (F := Ideal) s u M (ix3 p R l) := by
  unfold val_main_v11 AdamRefIdeal.Read.val_main_v10 AdamRefIdeal.Read.val_main_v9 AdamRefIdeal.Read.val_main_v8 AdamRefIdeal.Read.val_main_v7
    AdamRefIdeal.Read.val_main_cst_1 AdamRefIdeal.Read.val_main_cst_2
  generalize val_main_v6 (F := Ideal) s u = G at hg ⊢
  pointwise [k0_pay7]
  simp only [hg, ha]

theorem pay8 (hb : b (ix3 0 r l) = V (ix3 p R l)) : k0_pay8 g b (ix2 r l) = val_main_v17 (F := Ideal) s u V (ix3 p R l) := by
  unfold val_main_v17 AdamRefIdeal.Read.val_main_v16 AdamRefIdeal.Read.val_main_v15 AdamRefIdeal.Read.val_main_v14 AdamRefIdeal.Read.val_main_v13
    AdamRefIdeal.Read.val_main_v12 AdamRefIdeal.Read.val_main_cst_3 AdamRefIdeal.Read.val_main_cst_4
  generalize val_main_v6 (F := Ideal) s u = G at hg ⊢
  pointwise [k0_pay8]
  simp only [hg, hb]

theorem pay10 (ha : a (ix3 0 r l) = M (ix3 p R l)) (hb : b (ix3 0 r l) = V (ix3 p R l)) (hw : w (ix3 0 r l) = W (ix3 p R l)) (z : Fin 1) :
    k0_pay10 g (k0_pay6 w) a b (ix3 z r l) = val_main_v30 (F := Ideal) s u W M V (ix3 p R l) := by
  have e7 := pay7 s u M p R g a r l hg ha
  have e8 := pay8 s u V p R g b r l hg hb
  have e6 := (pay6 w r l).trans hw
  unfold val_main_v30 AdamRefIdeal.Read.val_main_v29 AdamRefIdeal.Read.val_main_v28 AdamRefIdeal.Read.val_main_v27 AdamRefIdeal.Read.val_main_v26
    AdamRefIdeal.Read.val_main_v25 AdamRefIdeal.Read.val_main_v24 AdamRefIdeal.Read.val_main_v23 AdamRefIdeal.Read.val_main_v22
    AdamRefIdeal.Read.val_main_v21 AdamRefIdeal.Read.val_main_v20 AdamRefIdeal.Read.val_main_v19 AdamRefIdeal.Read.val_main_v18
    AdamRefIdeal.Read.val_main_cst_5 AdamRefIdeal.Read.val_main_cst_6 AdamRefIdeal.Read.val_main_cst_7 AdamRefIdeal.Read.val_main_cst_8
    AdamRefIdeal.Read.val_main_cst_9 k0_pay10
  generalize val_main_v11 (F := Ideal) s u M = A at e7 ⊢
  generalize val_main_v17 (F := Ideal) s u V = B at e8 ⊢
  generalize k0_pay7 g a = x7 at e7 ⊢
  generalize k0_pay8 g b = x8 at e8 ⊢
  generalize k0_pay6 w = x6 at e6 ⊢
  pointwise
  simp only [e7, e8, e6]

end Block

/-- One of the eight partial gradients of a block. -/
theorem slab (B : Vec Ideal S8x176x1024 .bf16) (o : ℕ) (j : Fin 8) (ho : o = j) (h) (r : Fin 176) (l : Fin 1024) :
    View.ld B (Rect.unit (s := S8x176x1024) ![o, 0, 0] ![1, 176, 1024] h) (ix3 0 r l) = B (ix3 j r l) := by
  subst ho
  refine congrArg B (funext fun b => Fin.ext ?_)
  fin_cases b
  · rfl
  · show 0 + 1 * r.val = r.val; omega
  · show 0 + 1 * l.val = l.val; omega

/-- The sum of a block's eight partial gradients. -/
def total (B : Vec Ideal S8x176x1024 .bf16) : FVec Ideal S176x1024 .f32 :=
  k0_pay5 (View.ld B (Rect.unit ![0, 0, 0] ![1, 176, 1024] inb_S8x176x1024_S1x176x1024_0_0_0))
    (View.ld B (Rect.unit ![1, 0, 0] ![1, 176, 1024] inb_S8x176x1024_S1x176x1024_1_0_0))
    (View.ld B (Rect.unit ![2, 0, 0] ![1, 176, 1024] inb_S8x176x1024_S1x176x1024_2_0_0))
    (View.ld B (Rect.unit ![3, 0, 0] ![1, 176, 1024] inb_S8x176x1024_S1x176x1024_3_0_0))
    (View.ld B (Rect.unit ![4, 0, 0] ![1, 176, 1024] inb_S8x176x1024_S1x176x1024_4_0_0))
    (View.ld B (Rect.unit ![5, 0, 0] ![1, 176, 1024] inb_S8x176x1024_S1x176x1024_5_0_0))
    (View.ld B (Rect.unit ![6, 0, 0] ![1, 176, 1024] inb_S8x176x1024_S1x176x1024_6_0_0))
    (View.ld B (Rect.unit ![7, 0, 0] ![1, 176, 1024] inb_S8x176x1024_S1x176x1024_7_0_0))

theorem pay5 (a b d e f g h i : Vec Ideal S1x176x1024 .bf16) (r : Fin 176) (l : Fin 1024) :
    k0_pay5 a b d e f g h i (ix2 r l) = a (ix3 0 r l) + b (ix3 0 r l) + d (ix3 0 r l) + e (ix3 0 r l) + f (ix3 0 r l) + g (ix3 0 r l)
      + h (ix3 0 r l) + i (ix3 0 r l) := by
  pointwise [k0_pay5]

theorem total_at (B : Vec Ideal S8x176x1024 .bf16) (r : Fin 176) (l : Fin 1024) : total B (ix2 r l) = ∑ j : Fin 8, B (ix3 j r l) := by
  refine (pay5 _ _ _ _ _ _ _ _ r l).trans ?_
  rw [Fin.sum_univ_eight, slab B 0 0 rfl, slab B 1 1 rfl, slab B 2 2 rfl, slab B 3 3 rfl, slab B 4 4 rfl, slab B 5 5 rfl, slab B 6 6 rfl,
    slab B 7 7 rfl]

/-! ## The points -/

/-- The partial gradients' block that a point adds up. -/
def blk : Vec Ideal S8x176x1024 .bf16 := if t.val < 4 then iblk m c 0 t else iblk m c 1 t

theorem blkA (h : t.val < 4) : iblk m c 0 t = blk m c t := (if_pos h).symm

theorem blkB (h : ¬t.val < 4) : iblk m c 1 t = blk m c t := (if_neg h).symm

/-- A point's summed gradient. -/
theorem totalT (r : Fin 176) (l : Fin 1024) :
    total (blk m c t) (ix2 r l) = val_main_v6 (F := Ideal) (aS m c) (aT m c) (ix3 (layer t) (row t r) l) := by
  rw [total_at]
  by_cases h : t.val < 4
  · rw [← blkA m c t h, show layer t = 0 from Fin.ext (by show t.val / 4 = 0; omega), ref_g0]
    exact Finset.sum_congr rfl fun j _ => iblk0 m c t h j r l
  · have hN := lt_of_lt_of_eq t.isLt N_0
    rw [← blkB m c t h, show layer t = 1 from Fin.ext (by show t.val / 4 = 1; omega), ref_g1]
    exact Finset.sum_congr rfl fun j _ => iblk1 m c t (by omega) j r l

/-- What a point leaves: the summed gradient. -/
theorem out5 (y : S1x176x1024.Idx) :
    (outsAt0 m c t.val t.isLt).1 y = val_main_v6 (F := Ideal) (aS m c) (aT m c) (ix3 (layer t) (row t (y 1)) (y 2)) := by
  idx_vars y
  refine Eq.trans ?_ ((pay9 (total (blk m c t)) y1 y2 y0).trans (totalT m c t y1 y2))
  by_cases h : t.val < 4
  · rw [outsAt0_A m c t h (by omega), ← blkA m c t h]
    frame_out
    rfl
  · rw [outsAt0_B m c t h (by omega), ← blkB m c t h]
    frame_out
    rfl

/-- What a point leaves: the step. -/
theorem out6 (y : S1x176x1024.Idx) : (outsAt0 m c t.val t.isLt).2.1 y
    = val_main_v30 (F := Ideal) (aS m c) (aT m c) (aW m c) (aM m c) (aV m c) (ix3 (layer t) (row t (y 1)) (y 2)) := by
  idx_vars y
  refine Eq.trans ?_ (pay10 (aS m c) (aT m c) (aW m c) (aM m c) (aV m c) (layer t) (row t y1) (total (blk m c t)) (iblk m c 2 t) (iblk m c 3 t)
    (iblk m c 4 t) y1 y2 (totalT m c t y1 y2) (iblk3 m c t y1 y2) (iblk4 m c t y1 y2) (iblk2 m c t y1 y2) y0)
  by_cases h : t.val < 4
  · rw [outsAt0_A m c t h (by omega), ← blkA m c t h]
    frame_out
    rfl
  · rw [outsAt0_B m c t h (by omega), ← blkB m c t h]
    frame_out
    rfl

/-- What a point leaves: the new average of the gradients. -/
theorem out7 (y : S1x176x1024.Idx) : (outsAt0 m c t.val t.isLt).2.2.1 y
    = val_main_v11 (F := Ideal) (aS m c) (aT m c) (aM m c) (ix3 (layer t) (row t (y 1)) (y 2)) := by
  idx_vars y
  refine Eq.trans ?_ ((pay1 (k0_pay7 (total (blk m c t)) (iblk m c 3 t)) y1 y2 y0).trans
    (pay7 (aS m c) (aT m c) (aM m c) (layer t) (row t y1) (total (blk m c t)) (iblk m c 3 t) y1 y2 (totalT m c t y1 y2) (iblk3 m c t y1 y2)))
  by_cases h : t.val < 4
  · rw [outsAt0_A m c t h (by omega), ← blkA m c t h]
    frame_out
    rfl
  · rw [outsAt0_B m c t h (by omega), ← blkB m c t h]
    frame_out
    rfl

/-- What a point leaves: the new average of their squares. -/
theorem out8 (y : S1x176x1024.Idx) : (outsAt0 m c t.val t.isLt).2.2.2 y
    = val_main_v17 (F := Ideal) (aS m c) (aT m c) (aV m c) (ix3 (layer t) (row t (y 1)) (y 2)) := by
  idx_vars y
  refine Eq.trans ?_ ((pay2 (k0_pay8 (total (blk m c t)) (iblk m c 4 t)) y1 y2 y0).trans
    (pay8 (aS m c) (aT m c) (aV m c) (layer t) (row t y1) (total (blk m c t)) (iblk m c 4 t) y1 y2 (totalT m c t y1 y2) (iblk4 m c t y1 y2)))
  by_cases h : t.val < 4
  · rw [outsAt0_A m c t h (by omega), ← blkA m c t h]
    frame_out
    rfl
  · rw [outsAt0_B m c t h (by omega), ← blkB m c t h]
    frame_out
    rfl

/-! ## The whole arrays -/

omit t in
/-- The summed gradient, the whole array. -/
theorem arr5 : (dats m 0 c).arrAt 5 cfg0.N = val_main_v6 (F := Ideal) (aS m c) (aT m c) := by
  refine (dats m 0 c).arrAt_eq_of_covers 5 _ (by decide +kernel) fun t hf y => ?_
  blk_simp
  rw [after0_5]
  refine (out5 m c t y).trans ?_
  idx_vars y
  blk_ext [idx t, row, layer]

omit t in
/-- The step, the whole array. -/
theorem arr6 : (dats m 0 c).arrAt 6 cfg0.N = val_main_v30 (F := Ideal) (aS m c) (aT m c) (aW m c) (aM m c) (aV m c) := by
  refine (dats m 0 c).arrAt_eq_of_covers 6 _ (by decide +kernel) fun t hf y => ?_
  blk_simp
  rw [after0_6]
  refine (out6 m c t y).trans ?_
  idx_vars y
  blk_ext [idx t, row, layer]

omit t in
/-- The new average of the gradients, the whole array. -/
theorem arr7 : (dats m 0 c).arrAt 7 cfg0.N = val_main_v11 (F := Ideal) (aS m c) (aT m c) (aM m c) := by
  refine (dats m 0 c).arrAt_eq_of_covers 7 _ (by decide +kernel) fun t hf y => ?_
  blk_simp
  rw [after0_7]
  refine (out7 m c t y).trans ?_
  idx_vars y
  blk_ext [idx t, row, layer]

omit t in
/-- The new average of their squares, the whole array. -/
theorem arr8 : (dats m 0 c).arrAt 8 cfg0.N = val_main_v17 (F := Ideal) (aS m c) (aT m c) (aV m c) := by
  refine (dats m 0 c).arrAt_eq_of_covers 8 _ (by decide +kernel) fun t hf y => ?_
  blk_simp
  rw [after0_8]
  refine (out8 m c t y).trans ?_
  idx_vars y
  blk_ext [idx t, row, layer]

/-- Kernel and reference end with the same four results. -/
theorem algebraic : @algebraic_AdamIdeal_AdamRefIdeal AdamIdeal.Gen.facts AdamRefIdeal.Gen.facts := by
  pair_intro
  · run_from AdamIdeal.Value.run_blocks m g
  · run_from AdamRefIdeal.Value.run m' g'
    all_goals obtain ⟨e0, e1, e2, e3, e4⟩ := hagree c
    · rw [AdamRefIdeal.Read.val_main_v6_eq]
      exact (arr5 m c).symm
    · rw [AdamRefIdeal.Read.val_main_v30_eq]
      exact (arr6 m c).symm
    · rw [AdamRefIdeal.Read.val_main_v11_eq]
      exact (arr7 m c).symm
    · rw [AdamRefIdeal.Read.val_main_v17_eq]
      exact (arr8 m c).symm

/-- The reference leaves its arguments as they were and every counter at zero. -/
theorem quiescent_ref : @quiescent_AdamRefIdeal AdamRefIdeal.Gen.facts := fun m ρ _ =>
  (θ_run AdamRefIdeal.defs _ _).mono (fun r h => ⟨fun c => (h c).2.2.2.2, sem_eq_zero_of_no_sems (by decide) r.2⟩)
    (AdamRefIdeal.Value.run (F := Ideal) m ρ)

end Cert.AdamValue

end
-- ==== Proof.PackValue.lean ====
/-
  Packing: eight column blocks of three rows become eight stacked slabs, and back. Either way the kernel copies the eight
  blocks one by one, and the reference reshapes and transposes; the results are the same.
-/
module

public import Idealize.ShloMosaic.Lib.Pipeline.ReadBack
public import proofs.«01_k».proof.Proof.NormWhole
public import proofs.«01_k».proof.Proof.Gen.Cols.Frame
public import proofs.«01_k».proof.Proof.Gen.ColsIdeal.Value
public import proofs.«01_k».proof.Proof.Gen.ColsRefIdeal.Run
public import proofs.«01_k».proof.Proof.Gen.ColsRefIdeal.Read
public import proofs.«01_k».proof.Proof.Gen.Blocks.Frame
public import proofs.«01_k».proof.Proof.Gen.BlocksIdeal.Value
public import proofs.«01_k».proof.Proof.Gen.BlocksRefIdeal.Run
public import proofs.«01_k».proof.Proof.Gen.BlocksRefIdeal.Read

@[expose] public section

set_option maxRecDepth 16384

noncomputable section

namespace Cert.PackValue

open Idealize.ShloMosaic Idealize.ShloMosaic.TcCoe

/-- Column `a` of block `k`, in the whole width. -/
def col (k : Fin 8) (a : Fin 704) : Fin 5632 := ⟨k.val * 704 + a.val, by omega⟩

/-! ## Columns to slabs -/

section Cols

open ColsIdeal ColsIdeal.Gen

theorem cols_pay (v : Vec Ideal S3x704 .f32) (z : Fin 1) (r : Fin 3) (a : Fin 704) : k0_pay3 v (ix3 z r a) = v (ix2 r a) := by
  pointwise [k0_pay3]

/-- One copied block: slab `k` from the columns that start at `o`. -/
theorem cols_piece (x : Vec Ideal S3x5632 .f32) (k o : ℕ) (hk : k < 8) (ho : o = k * 704) (i₁ i₂)
    (z : (Rect.unit (s := S8x3x704) ![k, 0, 0] S1x3x704.size i₂).shape.Idx) :
    k0_pay3 (View.ld x (Rect.unit (s := S3x5632) ![0, o] S3x704.size i₁)) z
      = x (ix2 ((Rect.unit (s := S8x3x704) ![k, 0, 0] S1x3x704.size i₂).emb z 1)
        (col ((Rect.unit (s := S8x3x704) ![k, 0, 0] S1x3x704.size i₂).emb z 0) ((Rect.unit (s := S8x3x704) ![k, 0, 0] S1x3x704.size i₂).emb z 2))) := by
  subst ho
  idx_vars z
  refine (cols_pay _ z0 z1 z2).trans (congrArg x (funext fun b => Fin.ext ?_))
  fin_cases b
  · rfl
  · show k * 704 + 1 * z2.val = (k + 1 * z0.val) * 704 + (0 + 1 * z2.val)
    rw [show z0.val = 0 by omega]
    omega

/-- Slab `k` is column block `k`. -/
theorem cols_out (x : Vec Ideal S3x5632 .f32) (y : S8x3x704.Idx) : out0_1 x y = x (ix2 (y 1) (col (y 0) (y 2))) :=
  View.canon_append_of_piecesOf (Val := Elt Ideal) (s := S8x3x704) (e := .f32) (fun y => x (ix2 (y 1) (col (y 0) (y 2)))) []
    [_, _, _, _, _, _, _, _] ⟨
      fun z => cols_piece x 7 4928 (by decide) rfl _ inb_S8x3x704_S1x3x704_7_0_0 z,
      fun z => cols_piece x 6 4224 (by decide) rfl _ inb_S8x3x704_S1x3x704_6_0_0 z,
      fun z => cols_piece x 5 3520 (by decide) rfl _ inb_S8x3x704_S1x3x704_5_0_0 z,
      fun z => cols_piece x 4 2816 (by decide) rfl _ inb_S8x3x704_S1x3x704_4_0_0 z,
      fun z => cols_piece x 3 2112 (by decide) rfl _ inb_S8x3x704_S1x3x704_3_0_0 z,
      fun z => cols_piece x 2 1408 (by decide) rfl _ inb_S8x3x704_S1x3x704_2_0_0 z,
      fun z => cols_piece x 1 704 (by decide) rfl _ inb_S8x3x704_S1x3x704_1_0_0 z,
      fun z => cols_piece x 0 0 (by decide) rfl _ inb_S8x3x704_S1x3x704_0_0_0 z, trivial⟩ y
    (cover0_1 _ _ _ _ _ _ _ _ y)

/-- The slabs of the reference. -/
theorem cols_ref (x : FVec Ideal S3x5632 .f32) (k : Fin 8) (r : Fin 3) (a : Fin 704) :
    ColsRefIdeal.Read.val_main_v1 (F := Ideal) x (ix3 k r a) = x (ix2 r (col k a)) := by
  unfold ColsRefIdeal.Read.val_main_v1 ColsRefIdeal.Read.val_main_v0
  pointwise
  rfl

theorem cols_idx : ∀ t : Fin cfg0.N, (win0_0.index t 0 = 0 ∧ win0_0.index t 1 = 0)
    ∧ (win0_1.index t 0 = 0 ∧ win0_1.index t 1 = 0 ∧ win0_1.index t 2 = 0) := by decide +kernel

theorem cols_iblk (m : (ℓ : Loc nD τ sig) → Buf (Elt Ideal) ℓ) (c : Dev nD) (t : Fin cfg0.N) (r : Fin 3) (a : Fin 5632) :
    iblk m c 0 t (ix2 r a) = (m ((c.tc : Thread nD τ).loc main_arg0) : FVec Ideal S3x5632 .f32) (ix2 r a) := by
  blk_ext [iblk, V, cols_idx t]

/-- The slabs, the whole array. -/
theorem cols_arr (m : (ℓ : Loc nD τ sig) → Buf (Elt Ideal) ℓ) (c : Dev nD) :
    (dats m 0 c).arrAt 1 cfg0.N = ColsRefIdeal.Read.val_main_v1 (F := Ideal) (m ((c.tc : Thread nD τ).loc main_arg0)) := by
  refine (dats m 0 c).arrAt_eq_of_covers 1 _ (by decide +kernel) fun t hf y => ?_
  blk_simp
  rw [after0_1]
  refine (cols_out _ y).trans ((cols_iblk m c t _ _).trans ?_)
  idx_vars y
  refine (cols_ref _ y0 y1 y2).symm.trans ?_
  blk_ext [cols_idx t]

/-- Kernel and reference end with the same result. -/
theorem cols_algebraic : @algebraic_ColsIdeal_ColsRefIdeal ColsIdeal.Gen.facts ColsRefIdeal.Gen.facts := by
  pair_intro
  · run_from ColsIdeal.Value.run_blocks m g
  · run_from ColsRefIdeal.Value.run m' g'
    have e0 := hagree c
    rw [ColsRefIdeal.Read.val_main_v1_eq]
    exact (cols_arr m c).symm

/-- The reference leaves its argument as it was and every counter at zero. -/
theorem cols_quiescent_ref : @quiescent_ColsRefIdeal ColsRefIdeal.Gen.facts := fun m ρ _ =>
  (θ_run ColsRefIdeal.defs _ _).mono (fun r h => ⟨fun c => (h c).2, sem_eq_zero_of_no_sems (by decide) r.2⟩)
    (ColsRefIdeal.Value.run (F := Ideal) m ρ)

end Cols

/-! ## Slabs to columns -/

section Blocks

open BlocksIdeal BlocksIdeal.Gen

/-- The block of a column of the whole width. -/
def blockOf (a : Fin 5632) : Fin 8 := ⟨a.val / 704, by omega⟩

/-- The place of a column in its block. -/
def inner (a : Fin 5632) : Fin 704 := ⟨a.val % 704, by omega⟩

theorem blocks_pay (v : Vec Ideal S1x3x704 .f32) (r : Fin 3) (a : Fin 704) : k0_pay2 v (ix2 r a) = v (ix3 0 r a) := by
  pointwise [k0_pay2]

/-- One copied block: the columns that start at `o` from slab `k`. -/
theorem blocks_piece (x : Vec Ideal S8x3x704 .f32) (k o : ℕ) (hk : k < 8) (ho : o = k * 704) (i₁ i₂)
    (z : (Rect.unit (s := S3x5632) ![0, o] S3x704.size i₂).shape.Idx) :
    k0_pay2 (View.ld x (Rect.unit (s := S8x3x704) ![k, 0, 0] S1x3x704.size i₁)) z
      = x (ix3 (blockOf ((Rect.unit (s := S3x5632) ![0, o] S3x704.size i₂).emb z 1)) ((Rect.unit (s := S3x5632) ![0, o] S3x704.size i₂).emb z 0)
        (inner ((Rect.unit (s := S3x5632) ![0, o] S3x704.size i₂).emb z 1))) := by
  subst ho
  idx_vars z
  refine (blocks_pay _ z0 z1).trans (congrArg x (funext fun b => Fin.ext ?_))
  fin_cases b
  · show k + 1 * 0 = (k * 704 + 1 * z1.val) / 704
    omega
  · rfl
  · show 0 + 1 * z1.val = (k * 704 + 1 * z1.val) % 704
    omega

/-- Column block `k` is slab `k`. -/
theorem blocks_out (x : Vec Ideal S8x3x704 .f32) (y : S3x5632.Idx) : out0_1 x y = x (ix3 (blockOf (y 1)) (y 0) (inner (y 1))) :=
  View.canon_append_of_piecesOf (Val := Elt Ideal) (s := S3x5632) (e := .f32) (fun y => x (ix3 (blockOf (y 1)) (y 0) (inner (y 1)))) []
    [_, _, _, _, _, _, _, _] ⟨
      fun z => blocks_piece x 7 4928 (by decide) rfl _ inb_S3x5632_S3x704_0_4928 z,
      fun z => blocks_piece x 6 4224 (by decide) rfl _ inb_S3x5632_S3x704_0_4224 z,
      fun z => blocks_piece x 5 3520 (by decide) rfl _ inb_S3x5632_S3x704_0_3520 z,
      fun z => blocks_piece x 4 2816 (by decide) rfl _ inb_S3x5632_S3x704_0_2816 z,
      fun z => blocks_piece x 3 2112 (by decide) rfl _ inb_S3x5632_S3x704_0_2112 z,
      fun z => blocks_piece x 2 1408 (by decide) rfl _ inb_S3x5632_S3x704_0_1408 z,
      fun z => blocks_piece x 1 704 (by decide) rfl _ inb_S3x5632_S3x704_0_704 z,
      fun z => blocks_piece x 0 0 (by decide) rfl _ inb_S3x5632_S3x704_0_0 z, trivial⟩ y
    (cover0_1 _ _ _ _ _ _ _ _ y)

/-- The columns of the reference. -/
theorem blocks_ref (x : FVec Ideal S8x3x704 .f32) (r : Fin 3) (a : Fin 5632) :
    BlocksRefIdeal.Read.val_main_v1 (F := Ideal) x (ix2 r a) = x (ix3 (blockOf a) r (inner a)) := by
  unfold BlocksRefIdeal.Read.val_main_v1 BlocksRefIdeal.Read.val_main_v0
  pointwise
  rfl

theorem blocks_idx : ∀ t : Fin cfg0.N, (win0_0.index t 0 = 0 ∧ win0_0.index t 1 = 0 ∧ win0_0.index t 2 = 0)
    ∧ (win0_1.index t 0 = 0 ∧ win0_1.index t 1 = 0) := by decide +kernel

theorem blocks_iblk (m : (ℓ : Loc nD τ sig) → Buf (Elt Ideal) ℓ) (c : Dev nD) (t : Fin cfg0.N) (k : Fin 8) (r : Fin 3) (a : Fin 704) :
    iblk m c 0 t (ix3 k r a) = (m ((c.tc : Thread nD τ).loc main_arg0) : FVec Ideal S8x3x704 .f32) (ix3 k r a) := by
  blk_ext [iblk, V, blocks_idx t]

/-- The columns, the whole array. -/
theorem blocks_arr (m : (ℓ : Loc nD τ sig) → Buf (Elt Ideal) ℓ) (c : Dev nD) :
    (dats m 0 c).arrAt 1 cfg0.N = BlocksRefIdeal.Read.val_main_v1 (F := Ideal) (m ((c.tc : Thread nD τ).loc main_arg0)) := by
  refine (dats m 0 c).arrAt_eq_of_covers 1 _ (by decide +kernel) fun t hf y => ?_
  blk_simp
  rw [after0_1]
  refine (blocks_out _ y).trans ((blocks_iblk m c t _ _ _).trans ?_)
  idx_vars y
  refine (blocks_ref _ y0 y1).symm.trans ?_
  blk_ext [blocks_idx t]

/-- Kernel and reference end with the same result. -/
theorem blocks_algebraic : @algebraic_BlocksIdeal_BlocksRefIdeal BlocksIdeal.Gen.facts BlocksRefIdeal.Gen.facts := by
  pair_intro
  · run_from BlocksIdeal.Value.run_blocks m g
  · run_from BlocksRefIdeal.Value.run m' g'
    have e0 := hagree c
    rw [BlocksRefIdeal.Read.val_main_v1_eq]
    exact (blocks_arr m c).symm

/-- The reference leaves its argument as it was and every counter at zero. -/
theorem blocks_quiescent_ref : @quiescent_BlocksRefIdeal BlocksRefIdeal.Gen.facts := fun m ρ _ =>
  (θ_run BlocksRefIdeal.defs _ _).mono (fun r h => ⟨fun c => (h c).2, sem_eq_zero_of_no_sems (by decide) r.2⟩)
    (BlocksRefIdeal.Value.run (F := Ideal) m ρ)

end Blocks

end Cert.PackValue

end
-- ==== Proof.lean ====
/-
  The proof of `Cert.Claim`: the side conditions of every program, the generated frames, and each call's values.
-/
module

public import proofs.«01_k».proof.Defs
public import proofs.«01_k».proof.Proof.Rms
public import proofs.«01_k».proof.Proof.Attn
public import proofs.«01_k».proof.Proof.MixValue
public import proofs.«01_k».proof.Proof.ConvValue
public import proofs.«01_k».proof.Proof.XattnValue
public import proofs.«01_k».proof.Proof.MixNormValue
public import proofs.«01_k».proof.Proof.FfnValue
public import proofs.«01_k».proof.Proof.LossValue
public import proofs.«01_k».proof.Proof.AttnFwdValue
public import proofs.«01_k».proof.Proof.RmsFwdValue
public import proofs.«01_k».proof.Proof.DownValue
public import proofs.«01_k».proof.Proof.UpGateValue
public import proofs.«01_k».proof.Proof.ProjValue
public import proofs.«01_k».proof.Proof.GDownValue
public import proofs.«01_k».proof.Proof.PlainValue
public import proofs.«01_k».proof.Proof.GUpValue
public import proofs.«01_k».proof.Proof.AdamValue
public import proofs.«01_k».proof.Proof.PackValue
public import proofs.«01_k».proof.Proof.Gen.RmsIdeal.Frame
public import proofs.«01_k».proof.Proof.Gen.AttnIdeal.Frame
public import proofs.«01_k».proof.Proof.Gen.MixerIdeal.Frame
public import proofs.«01_k».proof.Proof.Gen.ConvIdeal.Frame
public import proofs.«01_k».proof.Proof.Gen.XattnIdeal.Frame
public import proofs.«01_k».proof.Proof.Gen.MixIdeal.Frame
public import proofs.«01_k».proof.Proof.Gen.FfnIdeal.Frame
public import proofs.«01_k».proof.Proof.Gen.LossIdeal.Frame
public import proofs.«01_k».proof.Proof.Gen.AttnFwdIdeal.Frame
public import proofs.«01_k».proof.Proof.Gen.RmsFwdIdeal.Frame
public import proofs.«01_k».proof.Proof.Gen.DownIdeal.Frame
public import proofs.«01_k».proof.Proof.Gen.UpGateIdeal.Frame
public import proofs.«01_k».proof.Proof.Gen.ProjIdeal.Frame
public import proofs.«01_k».proof.Proof.Gen.GDownIdeal.Frame
public import proofs.«01_k».proof.Proof.Gen.DActIdeal.Frame
public import proofs.«01_k».proof.Proof.Gen.QueryIdeal.Frame
public import proofs.«01_k».proof.Proof.Gen.GUpIdeal.Frame
public import proofs.«01_k».proof.Proof.Gen.AdamIdeal.Frame
public import proofs.«01_k».proof.Proof.Gen.ColsIdeal.Frame
public import proofs.«01_k».proof.Proof.Gen.BlocksIdeal.Frame

@[expose] public section

noncomputable section

namespace Cert.Proof

theorem claim : Cert.Claim :=
  ⟨Cert.Rms.Gen.facts, Cert.RmsIdeal.Gen.facts, Cert.RmsRefIdeal.Gen.facts, Cert.Attn.Gen.facts,
    Cert.AttnIdeal.Gen.facts, Cert.AttnRefIdeal.Gen.facts, Cert.Mixer.Gen.facts, Cert.MixerIdeal.Gen.facts,
    Cert.MixerRefIdeal.Gen.facts, Cert.Conv.Gen.facts, Cert.ConvIdeal.Gen.facts, Cert.ConvRefIdeal.Gen.facts,
    Cert.Xattn.Gen.facts, Cert.XattnIdeal.Gen.facts, Cert.XattnRefIdeal.Gen.facts, Cert.Mix.Gen.facts,
    Cert.MixIdeal.Gen.facts, Cert.MixRefIdeal.Gen.facts, Cert.Ffn.Gen.facts, Cert.FfnIdeal.Gen.facts,
    Cert.FfnRefIdeal.Gen.facts, Cert.Loss.Gen.facts, Cert.LossIdeal.Gen.facts, Cert.LossRefIdeal.Gen.facts,
    Cert.AttnFwd.Gen.facts, Cert.AttnFwdIdeal.Gen.facts, Cert.AttnFwdRefIdeal.Gen.facts, Cert.RmsFwd.Gen.facts,
    Cert.RmsFwdIdeal.Gen.facts, Cert.RmsFwdRefIdeal.Gen.facts, Cert.Down.Gen.facts, Cert.DownIdeal.Gen.facts,
    Cert.DownRefIdeal.Gen.facts, Cert.UpGate.Gen.facts, Cert.UpGateIdeal.Gen.facts,
    Cert.UpGateRefIdeal.Gen.facts, Cert.Proj.Gen.facts, Cert.ProjIdeal.Gen.facts, Cert.ProjRefIdeal.Gen.facts,
    Cert.GDown.Gen.facts, Cert.GDownIdeal.Gen.facts, Cert.GDownRefIdeal.Gen.facts, Cert.DAct.Gen.facts,
    Cert.DActIdeal.Gen.facts, Cert.DActRefIdeal.Gen.facts, Cert.Query.Gen.facts, Cert.QueryIdeal.Gen.facts,
    Cert.QueryRefIdeal.Gen.facts, Cert.GUp.Gen.facts, Cert.GUpIdeal.Gen.facts, Cert.GUpRefIdeal.Gen.facts,
    Cert.Adam.Gen.facts, Cert.AdamIdeal.Gen.facts, Cert.AdamRefIdeal.Gen.facts, Cert.Cols.Gen.facts,
    Cert.ColsIdeal.Gen.facts, Cert.ColsRefIdeal.Gen.facts, Cert.Blocks.Gen.facts, Cert.BlocksIdeal.Gen.facts,
    Cert.BlocksRefIdeal.Gen.facts, Cert.Pre_finite_rms.Gen.facts, Cert.Pre_finite_attn.Gen.facts,
    Cert.Pre_finite_mixer.Gen.facts, Cert.Pre_finite_conv.Gen.facts, Cert.Pre_finite_xattn.Gen.facts,
    Cert.Pre_finite_mix.Gen.facts, Cert.Pre_finite_ffn.Gen.facts, Cert.Pre_finite_loss.Gen.facts,
    Cert.Pre_finite_proj.Gen.facts,
    fun m ρ _ => Cert.Rms.Gen.frame m ρ,
    fun m ρ _ => Cert.RmsIdeal.Gen.frame m ρ, fun m ρ _ => Cert.RmsIdeal.Gen.frame m ρ,
    RmsValue.quiescent_ref, RmsValue.quiescent_ref_pre,
    fun m ρ _ => Cert.Attn.Gen.frame m ρ,
    fun m ρ _ => Cert.AttnIdeal.Gen.frame m ρ, fun m ρ _ => Cert.AttnIdeal.Gen.frame m ρ,
    AttnValue.quiescent_ref, AttnValue.quiescent_ref_pre,
    fun m ρ _ => Cert.Mixer.Gen.frame m ρ,
    fun m ρ _ => Cert.MixerIdeal.Gen.frame m ρ, fun m ρ _ => Cert.MixerIdeal.Gen.frame m ρ,
    MixerValue.quiescent_ref, MixerValue.quiescent_ref_pre,
    fun m ρ _ => Cert.Conv.Gen.frame m ρ,
    fun m ρ _ => Cert.ConvIdeal.Gen.frame m ρ, fun m ρ _ => Cert.ConvIdeal.Gen.frame m ρ,
    ConvValue.quiescent_ref, ConvValue.quiescent_ref_pre,
    fun m ρ _ => Cert.Xattn.Gen.frame m ρ,
    fun m ρ _ => Cert.XattnIdeal.Gen.frame m ρ, fun m ρ _ => Cert.XattnIdeal.Gen.frame m ρ,
    XattnValue.quiescent_ref, XattnValue.quiescent_ref_pre,
    fun m ρ _ => Cert.Mix.Gen.frame m ρ,
    fun m ρ _ => Cert.MixIdeal.Gen.frame m ρ, fun m ρ _ => Cert.MixIdeal.Gen.frame m ρ,
    MixNormValue.quiescent_ref, MixNormValue.quiescent_ref_pre,
    fun m ρ _ => Cert.Ffn.Gen.frame m ρ,
    fun m ρ _ => Cert.FfnIdeal.Gen.frame m ρ, fun m ρ _ => Cert.FfnIdeal.Gen.frame m ρ,
    FfnValue.quiescent_ref, FfnValue.quiescent_ref_pre,
    fun m ρ _ => Cert.Loss.Gen.frame m ρ,
    fun m ρ _ => Cert.LossIdeal.Gen.frame m ρ, fun m ρ _ => Cert.LossIdeal.Gen.frame m ρ,
    LossValue.quiescent_ref, LossValue.quiescent_ref_pre,
    fun m ρ _ => Cert.AttnFwd.Gen.frame m ρ, fun m ρ _ => Cert.AttnFwdIdeal.Gen.frame m ρ, AttnFwdValue.quiescent_ref,
    fun m ρ _ => Cert.RmsFwd.Gen.frame m ρ, fun m ρ _ => Cert.RmsFwdIdeal.Gen.frame m ρ, RmsFwdValue.quiescent_ref,
    fun m ρ _ => Cert.Down.Gen.frame m ρ, fun m ρ _ => Cert.DownIdeal.Gen.frame m ρ, DownValue.quiescent_ref,
    fun m ρ _ => Cert.UpGate.Gen.frame m ρ, fun m ρ _ => Cert.UpGateIdeal.Gen.frame m ρ, UpGateValue.quiescent_ref,
    fun m ρ _ => Cert.Proj.Gen.frame m ρ,
    fun m ρ _ => Cert.ProjIdeal.Gen.frame m ρ, fun m ρ _ => Cert.ProjIdeal.Gen.frame m ρ,
    ProjValue.quiescent_ref, ProjValue.quiescent_ref_pre,
    fun m ρ _ => Cert.GDown.Gen.frame m ρ, fun m ρ _ => Cert.GDownIdeal.Gen.frame m ρ, GDownValue.quiescent_ref,
    fun m ρ _ => Cert.DAct.Gen.frame m ρ, fun m ρ _ => Cert.DActIdeal.Gen.frame m ρ, PlainValue.dact_quiescent_ref,
    fun m ρ _ => Cert.Query.Gen.frame m ρ, fun m ρ _ => Cert.QueryIdeal.Gen.frame m ρ, PlainValue.query_quiescent_ref,
    fun m ρ _ => Cert.GUp.Gen.frame m ρ, fun m ρ _ => Cert.GUpIdeal.Gen.frame m ρ, GUpValue.quiescent_ref,
    fun m ρ _ => Cert.Adam.Gen.frame m ρ, fun m ρ _ => Cert.AdamIdeal.Gen.frame m ρ, AdamValue.quiescent_ref,
    fun m ρ _ => Cert.Cols.Gen.frame m ρ, fun m ρ _ => Cert.ColsIdeal.Gen.frame m ρ, PackValue.cols_quiescent_ref,
    fun m ρ _ => Cert.Blocks.Gen.frame m ρ, fun m ρ _ => Cert.BlocksIdeal.Gen.frame m ρ, PackValue.blocks_quiescent_ref,
    trivial, RmsValue.algebraic,
    trivial, AttnValue.algebraic,
    MixerValue.preserves, MixerValue.algebraic,
    trivial, ConvValue.algebraic,
    trivial, XattnValue.algebraic,
    trivial, MixNormValue.algebraic,
    trivial, FfnValue.algebraic,
    trivial, LossValue.algebraic,
    trivial, AttnFwdValue.algebraic,
    trivial, RmsFwdValue.algebraic,
    trivial, DownValue.algebraic,
    trivial, UpGateValue.algebraic,
    ProjValue.preserves, ProjValue.algebraic,
    trivial, GDownValue.algebraic,
    trivial, PlainValue.dact_algebraic,
    trivial, PlainValue.query_algebraic,
    trivial, GUpValue.algebraic,
    trivial, AdamValue.algebraic,
    trivial, PackValue.cols_algebraic,
    trivial, PackValue.blocks_algebraic⟩

end Cert.Proof

end
